-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelDwUp (m : (ℓ : Loc Cert.KernelDwUp.nD Cert.KernelDwUp.τ Cert.KernelDwUp.sig) → Buf (Elt Bits) ℓ) : Prop :=
  True

def Pre_KernelDwUpIdeal (m : (ℓ : Loc Cert.KernelDwUpIdeal.nD Cert.KernelDwUpIdeal.τ Cert.KernelDwUpIdeal.sig) → Buf (Elt Ideal) ℓ) : Prop :=
  True

def Pre_ReferenceDwUpIdeal (m : (ℓ : Loc Cert.ReferenceDwUpIdeal.nD Cert.ReferenceDwUpIdeal.τ Cert.ReferenceDwUpIdeal.sig) → Buf (Elt Ideal) ℓ) : Prop :=
  True

def Pre_KernelDn2 (m : (ℓ : Loc Cert.KernelDn2.nD Cert.KernelDn2.τ Cert.KernelDn2.sig) → Buf (Elt Bits) ℓ) : Prop :=
  True

def Pre_KernelDn2Ideal (m : (ℓ : Loc Cert.KernelDn2Ideal.nD Cert.KernelDn2Ideal.τ Cert.KernelDn2Ideal.sig) → Buf (Elt Ideal) ℓ) : Prop :=
  True

def Pre_ReferenceDn2Ideal (m : (ℓ : Loc Cert.ReferenceDn2Ideal.nD Cert.ReferenceDn2Ideal.τ Cert.ReferenceDn2Ideal.sig) → Buf (Elt Ideal) ℓ) : Prop :=
  True

def Pre_KernelDwDown (m : (ℓ : Loc Cert.KernelDwDown.nD Cert.KernelDwDown.τ Cert.KernelDwDown.sig) → Buf (Elt Bits) ℓ) : Prop :=
  True

def Pre_KernelDwDownIdeal (m : (ℓ : Loc Cert.KernelDwDownIdeal.nD Cert.KernelDwDownIdeal.τ Cert.KernelDwDownIdeal.sig) → Buf (Elt Ideal) ℓ) : Prop :=
  True

def Pre_ReferenceDwDownIdeal (m : (ℓ : Loc Cert.ReferenceDwDownIdeal.nD Cert.ReferenceDwDownIdeal.τ Cert.ReferenceDwDownIdeal.sig) → Buf (Elt Ideal) ℓ) : Prop :=
  True

def Pre_KernelDact (m : (ℓ : Loc Cert.KernelDact.nD Cert.KernelDact.τ Cert.KernelDact.sig) → Buf (Elt Bits) ℓ) : Prop :=
  True

def Pre_KernelDactIdeal (m : (ℓ : Loc Cert.KernelDactIdeal.nD Cert.KernelDactIdeal.τ Cert.KernelDactIdeal.sig) → Buf (Elt Ideal) ℓ) : Prop :=
  True

def Pre_ReferenceDactIdeal (m : (ℓ : Loc Cert.ReferenceDactIdeal.nD Cert.ReferenceDactIdeal.τ Cert.ReferenceDactIdeal.sig) → Buf (Elt Ideal) ℓ) : Prop :=
  True

def Pre_KernelDwOut (m : (ℓ : Loc Cert.KernelDwOut.nD Cert.KernelDwOut.τ Cert.KernelDwOut.sig) → Buf (Elt Bits) ℓ) : Prop :=
  True

def Pre_KernelDwOutIdeal (m : (ℓ : Loc Cert.KernelDwOutIdeal.nD Cert.KernelDwOutIdeal.τ Cert.KernelDwOutIdeal.sig) → Buf (Elt Ideal) ℓ) : Prop :=
  True

def Pre_ReferenceDwOutIdeal (m : (ℓ : Loc Cert.ReferenceDwOutIdeal.nD Cert.ReferenceDwOutIdeal.τ Cert.ReferenceDwOutIdeal.sig) → Buf (Elt Ideal) ℓ) : Prop :=
  True

def Pre_KernelDy (m : (ℓ : Loc Cert.KernelDy.nD Cert.KernelDy.τ Cert.KernelDy.sig) → Buf (Elt Bits) ℓ) : Prop :=
  True

def Pre_KernelDyIdeal (m : (ℓ : Loc Cert.KernelDyIdeal.nD Cert.KernelDyIdeal.τ Cert.KernelDyIdeal.sig) → Buf (Elt Ideal) ℓ) : Prop :=
  True

def Pre_ReferenceDyIdeal (m : (ℓ : Loc Cert.ReferenceDyIdeal.nD Cert.ReferenceDyIdeal.τ Cert.ReferenceDyIdeal.sig) → Buf (Elt Ideal) ℓ) : Prop :=
  True

def Pre_KernelDwInGdn (m : (ℓ : Loc Cert.KernelDwInGdn.nD Cert.KernelDwInGdn.τ Cert.KernelDwInGdn.sig) → Buf (Elt Bits) ℓ) : Prop :=
  True

def Pre_KernelDwInGdnIdeal (m : (ℓ : Loc Cert.KernelDwInGdnIdeal.nD Cert.KernelDwInGdnIdeal.τ Cert.KernelDwInGdnIdeal.sig) → Buf (Elt Ideal) ℓ) : Prop :=
  True

def Pre_ReferenceDwInGdnIdeal (m : (ℓ : Loc Cert.ReferenceDwInGdnIdeal.nD Cert.ReferenceDwInGdnIdeal.τ Cert.ReferenceDwInGdnIdeal.sig) → Buf (Elt Ideal) ℓ) : Prop :=
  True

def Pre_KernelDwInRest (m : (ℓ : Loc Cert.KernelDwInRest.nD Cert.KernelDwInRest.τ Cert.KernelDwInRest.sig) → Buf (Elt Bits) ℓ) : Prop :=
  True

def Pre_KernelDwInRestIdeal (m : (ℓ : Loc Cert.KernelDwInRestIdeal.nD Cert.KernelDwInRestIdeal.τ Cert.KernelDwInRestIdeal.sig) → Buf (Elt Ideal) ℓ) : Prop :=
  True

def Pre_ReferenceDwInRestIdeal (m : (ℓ : Loc Cert.ReferenceDwInRestIdeal.nD Cert.ReferenceDwInRestIdeal.τ Cert.ReferenceDwInRestIdeal.sig) → Buf (Elt Ideal) ℓ) : Prop :=
  True

def Pre_KernelDu (m : (ℓ : Loc Cert.KernelDu.nD Cert.KernelDu.τ Cert.KernelDu.sig) → Buf (Elt Bits) ℓ) : Prop :=
  True

def Pre_KernelDuIdeal (m : (ℓ : Loc Cert.KernelDuIdeal.nD Cert.KernelDuIdeal.τ Cert.KernelDuIdeal.sig) → Buf (Elt Ideal) ℓ) : Prop :=
  True

def Pre_ReferenceDuIdeal (m : (ℓ : Loc Cert.ReferenceDuIdeal.nD Cert.ReferenceDuIdeal.τ Cert.ReferenceDuIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelResid (m : (ℓ : Loc Cert.KernelResid.nD Cert.KernelResid.τ Cert.KernelResid.sig) → Buf (Elt Bits) ℓ) : Prop :=
  True

def Pre_KernelResidIdeal (m : (ℓ : Loc Cert.KernelResidIdeal.nD Cert.KernelResidIdeal.τ Cert.KernelResidIdeal.sig) → Buf (Elt Ideal) ℓ) : Prop :=
  True

def Pre_ReferenceResidIdeal (m : (ℓ : Loc Cert.ReferenceResidIdeal.nD Cert.ReferenceResidIdeal.τ Cert.ReferenceResidIdeal.sig) → Buf (Elt Ideal) ℓ) : Prop :=
  True

def Pre_KernelPrenorm (m : (ℓ : Loc Cert.KernelPrenorm.nD Cert.KernelPrenorm.τ Cert.KernelPrenorm.sig) → Buf (Elt Bits) ℓ) : Prop :=
  True

def Pre_KernelPrenormIdeal (m : (ℓ : Loc Cert.KernelPrenormIdeal.nD Cert.KernelPrenormIdeal.τ Cert.KernelPrenormIdeal.sig) → Buf (Elt Ideal) ℓ) : Prop :=
  True

def Pre_ReferencePrenormIdeal (m : (ℓ : Loc Cert.ReferencePrenormIdeal.nD Cert.ReferencePrenormIdeal.τ Cert.ReferencePrenormIdeal.sig) → Buf (Elt Ideal) ℓ) : Prop :=
  True

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_KernelFwdIdeal_finite_fwd [hPre_finite_fwd : Cert.Pre_finite_fwd.Facts] (m : (ℓ : Loc Cert.KernelFwdIdeal.nD Cert.KernelFwdIdeal.τ Cert.KernelFwdIdeal.sig) → Buf (Elt Ideal) ℓ) : Prop :=
  ∀ c : Dev Cert.KernelFwdIdeal.nD,
    (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2))) = (fun _ => 1#1)

def Pre_ReferenceFwdIdeal (m : (ℓ : Loc Cert.ReferenceFwdIdeal.nD Cert.ReferenceFwdIdeal.τ Cert.ReferenceFwdIdeal.sig) → Buf (Elt Ideal) ℓ) : Prop :=
  True

def Pre_ReferenceFwdIdeal_finite_fwd [hPre_finite_fwd : Cert.Pre_finite_fwd.Facts] (m : (ℓ : Loc Cert.ReferenceFwdIdeal.nD Cert.ReferenceFwdIdeal.τ Cert.ReferenceFwdIdeal.sig) → Buf (Elt Ideal) ℓ) : Prop :=
  ∀ c : Dev Cert.ReferenceFwdIdeal.nD,
    (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelDwUp [hKernelDwUp : Cert.KernelDwUp.Facts] : Prop :=
  ∀ (m : (ℓ : Loc Cert.KernelDwUp.nD Cert.KernelDwUp.τ Cert.KernelDwUp.sig) → Buf (Elt Bits) ℓ) (g : Dev Cert.KernelDwUp.nD → PrngReg), Pre_KernelDwUp m →
    θ_run (Cert.KernelDwUp.defs (F := Bits)) (onTc (τ := Cert.KernelDwUp.τ) (Cert.KernelDwUp.main (F := Bits))) ⟨m, fun _ => 0, g⟩ (fun r => (∀ c : Dev Cert.KernelDwUp.nD,
      r.2.mem ((c.tc : Thread Cert.KernelDwUp.nD Cert.KernelDwUp.τ).loc Cert.KernelDwUp.main_arg0) = m ((c.tc : Thread Cert.KernelDwUp.nD Cert.KernelDwUp.τ).loc Cert.KernelDwUp.main_arg0)
      ∧ r.2.mem ((c.tc : Thread Cert.KernelDwUp.nD Cert.KernelDwUp.τ).loc Cert.KernelDwUp.main_arg1) = m ((c.tc : Thread Cert.KernelDwUp.nD Cert.KernelDwUp.τ).loc Cert.KernelDwUp.main_arg1)
      ∧ r.2.mem ((c.tc : Thread Cert.KernelDwUp.nD Cert.KernelDwUp.τ).loc Cert.KernelDwUp.main_arg2) = m ((c.tc : Thread Cert.KernelDwUp.nD Cert.KernelDwUp.τ).loc Cert.KernelDwUp.main_arg2))
      ∧ r.2.sem = fun _ => 0)

def quiescent_KernelDwUpIdeal [hKernelDwUpIdeal : Cert.KernelDwUpIdeal.Facts] : Prop :=
  ∀ (m : (ℓ : Loc Cert.KernelDwUpIdeal.nD Cert.KernelDwUpIdeal.τ Cert.KernelDwUpIdeal.sig) → Buf (Elt Ideal) ℓ) (g : Dev Cert.KernelDwUpIdeal.nD → PrngReg), Pre_KernelDwUpIdeal m →
    θ_run (Cert.KernelDwUpIdeal.defs (F := Ideal)) (onTc (τ := Cert.KernelDwUpIdeal.τ) (Cert.KernelDwUpIdeal.main (F := Ideal))) ⟨m, fun _ => 0, g⟩ (fun r => (∀ c : Dev Cert.KernelDwUpIdeal.nD,
      r.2.mem ((c.tc : Thread Cert.KernelDwUpIdeal.nD Cert.KernelDwUpIdeal.τ).loc Cert.KernelDwUpIdeal.main_arg0) = m ((c.tc : Thread Cert.KernelDwUpIdeal.nD Cert.KernelDwUpIdeal.τ).loc Cert.KernelDwUpIdeal.main_arg0)
      ∧ r.2.mem ((c.tc : Thread Cert.KernelDwUpIdeal.nD Cert.KernelDwUpIdeal.τ).loc Cert.KernelDwUpIdeal.main_arg1) = m ((c.tc : Thread Cert.KernelDwUpIdeal.nD Cert.KernelDwUpIdeal.τ).loc Cert.KernelDwUpIdeal.main_arg1)
      ∧ r.2.mem ((c.tc : Thread Cert.KernelDwUpIdeal.nD Cert.KernelDwUpIdeal.τ).loc Cert.KernelDwUpIdeal.main_arg2) = m ((c.tc : Thread Cert.KernelDwUpIdeal.nD Cert.KernelDwUpIdeal.τ).loc Cert.KernelDwUpIdeal.main_arg2))
      ∧ r.2.sem = fun _ => 0)

def quiescent_ReferenceDwUpIdeal [hReferenceDwUpIdeal : Cert.ReferenceDwUpIdeal.Facts] : Prop :=
  ∀ (m : (ℓ : Loc Cert.ReferenceDwUpIdeal.nD Cert.ReferenceDwUpIdeal.τ Cert.ReferenceDwUpIdeal.sig) → Buf (Elt Ideal) ℓ) (g : Dev Cert.ReferenceDwUpIdeal.nD → PrngReg), Pre_ReferenceDwUpIdeal m →
    θ_run (Cert.ReferenceDwUpIdeal.defs (F := Ideal)) (onTc (τ := Cert.ReferenceDwUpIdeal.τ) (Cert.ReferenceDwUpIdeal.main (F := Ideal))) ⟨m, fun _ => 0, g⟩ (fun r => (∀ c : Dev Cert.ReferenceDwUpIdeal.nD,
      r.2.mem ((c.tc : Thread Cert.ReferenceDwUpIdeal.nD Cert.ReferenceDwUpIdeal.τ).loc Cert.ReferenceDwUpIdeal.main_arg0) = m ((c.tc : Thread Cert.ReferenceDwUpIdeal.nD Cert.ReferenceDwUpIdeal.τ).loc Cert.ReferenceDwUpIdeal.main_arg0)
      ∧ r.2.mem ((c.tc : Thread Cert.ReferenceDwUpIdeal.nD Cert.ReferenceDwUpIdeal.τ).loc Cert.ReferenceDwUpIdeal.main_arg1) = m ((c.tc : Thread Cert.ReferenceDwUpIdeal.nD Cert.ReferenceDwUpIdeal.τ).loc Cert.ReferenceDwUpIdeal.main_arg1)
      ∧ r.2.mem ((c.tc : Thread Cert.ReferenceDwUpIdeal.nD Cert.ReferenceDwUpIdeal.τ).loc Cert.ReferenceDwUpIdeal.main_arg2) = m ((c.tc : Thread Cert.ReferenceDwUpIdeal.nD Cert.ReferenceDwUpIdeal.τ).loc Cert.ReferenceDwUpIdeal.main_arg2))
      ∧ r.2.sem = fun _ => 0)

def quiescent_KernelDn2 [hKernelDn2 : Cert.KernelDn2.Facts] : Prop :=
  ∀ (m : (ℓ : Loc Cert.KernelDn2.nD Cert.KernelDn2.τ Cert.KernelDn2.sig) → Buf (Elt Bits) ℓ) (g : Dev Cert.KernelDn2.nD → PrngReg), Pre_KernelDn2 m →
    θ_run (Cert.KernelDn2.defs (F := Bits)) (onTc (τ := Cert.KernelDn2.τ) (Cert.KernelDn2.main (F := Bits))) ⟨m, fun _ => 0, g⟩ (fun r => (∀ c : Dev Cert.KernelDn2.nD,
      r.2.mem ((c.tc : Thread Cert.KernelDn2.nD Cert.KernelDn2.τ).loc Cert.KernelDn2.main_arg0) = m ((c.tc : Thread Cert.KernelDn2.nD Cert.KernelDn2.τ).loc Cert.KernelDn2.main_arg0)
      ∧ r.2.mem ((c.tc : Thread Cert.KernelDn2.nD Cert.KernelDn2.τ).loc Cert.KernelDn2.main_arg1) = m ((c.tc : Thread Cert.KernelDn2.nD Cert.KernelDn2.τ).loc Cert.KernelDn2.main_arg1)
      ∧ r.2.mem ((c.tc : Thread Cert.KernelDn2.nD Cert.KernelDn2.τ).loc Cert.KernelDn2.main_arg2) = m ((c.tc : Thread Cert.KernelDn2.nD Cert.KernelDn2.τ).loc Cert.KernelDn2.main_arg2))
      ∧ r.2.sem = fun _ => 0)

def quiescent_KernelDn2Ideal [hKernelDn2Ideal : Cert.KernelDn2Ideal.Facts] : Prop :=
  ∀ (m : (ℓ : Loc Cert.KernelDn2Ideal.nD Cert.KernelDn2Ideal.τ Cert.KernelDn2Ideal.sig) → Buf (Elt Ideal) ℓ) (g : Dev Cert.KernelDn2Ideal.nD → PrngReg), Pre_KernelDn2Ideal m →
    θ_run (Cert.KernelDn2Ideal.defs (F := Ideal)) (onTc (τ := Cert.KernelDn2Ideal.τ) (Cert.KernelDn2Ideal.main (F := Ideal))) ⟨m, fun _ => 0, g⟩ (fun r => (∀ c : Dev Cert.KernelDn2Ideal.nD,
      r.2.mem ((c.tc : Thread Cert.KernelDn2Ideal.nD Cert.KernelDn2Ideal.τ).loc Cert.KernelDn2Ideal.main_arg0) = m ((c.tc : Thread Cert.KernelDn2Ideal.nD Cert.KernelDn2Ideal.τ).loc Cert.KernelDn2Ideal.main_arg0)
      ∧ r.2.mem ((c.tc : Thread Cert.KernelDn2Ideal.nD Cert.KernelDn2Ideal.τ).loc Cert.KernelDn2Ideal.main_arg1) = m ((c.tc : Thread Cert.KernelDn2Ideal.nD Cert.KernelDn2Ideal.τ).loc Cert.KernelDn2Ideal.main_arg1)
      ∧ r.2.mem ((c.tc : Thread Cert.KernelDn2Ideal.nD Cert.KernelDn2Ideal.τ).loc Cert.KernelDn2Ideal.main_arg2) = m ((c.tc : Thread Cert.KernelDn2Ideal.nD Cert.KernelDn2Ideal.τ).loc Cert.KernelDn2Ideal.main_arg2))
      ∧ r.2.sem = fun _ => 0)

def quiescent_ReferenceDn2Ideal [hReferenceDn2Ideal : Cert.ReferenceDn2Ideal.Facts] : Prop :=
  ∀ (m : (ℓ : Loc Cert.ReferenceDn2Ideal.nD Cert.ReferenceDn2Ideal.τ Cert.ReferenceDn2Ideal.sig) → Buf (Elt Ideal) ℓ) (g : Dev Cert.ReferenceDn2Ideal.nD → PrngReg), Pre_ReferenceDn2Ideal m →
    θ_run (Cert.ReferenceDn2Ideal.defs (F := Ideal)) (onTc (τ := Cert.ReferenceDn2Ideal.τ) (Cert.ReferenceDn2Ideal.main (F := Ideal))) ⟨m, fun _ => 0, g⟩ (fun r => (∀ c : Dev Cert.ReferenceDn2Ideal.nD,
      r.2.mem ((c.tc : Thread Cert.ReferenceDn2Ideal.nD Cert.ReferenceDn2Ideal.τ).loc Cert.ReferenceDn2Ideal.main_arg0) = m ((c.tc : Thread Cert.ReferenceDn2Ideal.nD Cert.ReferenceDn2Ideal.τ).loc Cert.ReferenceDn2Ideal.main_arg0)
      ∧ r.2.mem ((c.tc : Thread Cert.ReferenceDn2Ideal.nD Cert.ReferenceDn2Ideal.τ).loc Cert.ReferenceDn2Ideal.main_arg1) = m ((c.tc : Thread Cert.ReferenceDn2Ideal.nD Cert.ReferenceDn2Ideal.τ).loc Cert.ReferenceDn2Ideal.main_arg1)
      ∧ r.2.mem ((c.tc : Thread Cert.ReferenceDn2Ideal.nD Cert.ReferenceDn2Ideal.τ).loc Cert.ReferenceDn2Ideal.main_arg2) = m ((c.tc : Thread Cert.ReferenceDn2Ideal.nD Cert.ReferenceDn2Ideal.τ).loc Cert.ReferenceDn2Ideal.main_arg2))
      ∧ r.2.sem = fun _ => 0)

def quiescent_KernelDwDown [hKernelDwDown : Cert.KernelDwDown.Facts] : Prop :=
  ∀ (m : (ℓ : Loc Cert.KernelDwDown.nD Cert.KernelDwDown.τ Cert.KernelDwDown.sig) → Buf (Elt Bits) ℓ) (g : Dev Cert.KernelDwDown.nD → PrngReg), Pre_KernelDwDown m →
    θ_run (Cert.KernelDwDown.defs (F := Bits)) (onTc (τ := Cert.KernelDwDown.τ) (Cert.KernelDwDown.main (F := Bits))) ⟨m, fun _ => 0, g⟩ (fun r => (∀ c : Dev Cert.KernelDwDown.nD,
      r.2.mem ((c.tc : Thread Cert.KernelDwDown.nD Cert.KernelDwDown.τ).loc Cert.KernelDwDown.main_arg0) = m ((c.tc : Thread Cert.KernelDwDown.nD Cert.KernelDwDown.τ).loc Cert.KernelDwDown.main_arg0)
      ∧ r.2.mem ((c.tc : Thread Cert.KernelDwDown.nD Cert.KernelDwDown.τ).loc Cert.KernelDwDown.main_arg1) = m ((c.tc : Thread Cert.KernelDwDown.nD Cert.KernelDwDown.τ).loc Cert.KernelDwDown.main_arg1)
      ∧ r.2.mem ((c.tc : Thread Cert.KernelDwDown.nD Cert.KernelDwDown.τ).loc Cert.KernelDwDown.main_arg2) = m ((c.tc : Thread Cert.KernelDwDown.nD Cert.KernelDwDown.τ).loc Cert.KernelDwDown.main_arg2))
      ∧ r.2.sem = fun _ => 0)

def quiescent_KernelDwDownIdeal [hKernelDwDownIdeal : Cert.KernelDwDownIdeal.Facts] : Prop :=
  ∀ (m : (ℓ : Loc Cert.KernelDwDownIdeal.nD Cert.KernelDwDownIdeal.τ Cert.KernelDwDownIdeal.sig) → Buf (Elt Ideal) ℓ) (g : Dev Cert.KernelDwDownIdeal.nD → PrngReg), Pre_KernelDwDownIdeal m →
    θ_run (Cert.KernelDwDownIdeal.defs (F := Ideal)) (onTc (τ := Cert.KernelDwDownIdeal.τ) (Cert.KernelDwDownIdeal.main (F := Ideal))) ⟨m, fun _ => 0, g⟩ (fun r => (∀ c : Dev Cert.KernelDwDownIdeal.nD,
      r.2.mem ((c.tc : Thread Cert.KernelDwDownIdeal.nD Cert.KernelDwDownIdeal.τ).loc Cert.KernelDwDownIdeal.main_arg0) = m ((c.tc : Thread Cert.KernelDwDownIdeal.nD Cert.KernelDwDownIdeal.τ).loc Cert.KernelDwDownIdeal.main_arg0)
      ∧ r.2.mem ((c.tc : Thread Cert.KernelDwDownIdeal.nD Cert.KernelDwDownIdeal.τ).loc Cert.KernelDwDownIdeal.main_arg1) = m ((c.tc : Thread Cert.KernelDwDownIdeal.nD Cert.KernelDwDownIdeal.τ).loc Cert.KernelDwDownIdeal.main_arg1)
      ∧ r.2.mem ((c.tc : Thread Cert.KernelDwDownIdeal.nD Cert.KernelDwDownIdeal.τ).loc Cert.KernelDwDownIdeal.main_arg2) = m ((c.tc : Thread Cert.KernelDwDownIdeal.nD Cert.KernelDwDownIdeal.τ).loc Cert.KernelDwDownIdeal.main_arg2))
      ∧ r.2.sem = fun _ => 0)

def quiescent_ReferenceDwDownIdeal [hReferenceDwDownIdeal : Cert.ReferenceDwDownIdeal.Facts] : Prop :=
  ∀ (m : (ℓ : Loc Cert.ReferenceDwDownIdeal.nD Cert.ReferenceDwDownIdeal.τ Cert.ReferenceDwDownIdeal.sig) → Buf (Elt Ideal) ℓ) (g : Dev Cert.ReferenceDwDownIdeal.nD → PrngReg), Pre_ReferenceDwDownIdeal m →
    θ_run (Cert.ReferenceDwDownIdeal.defs (F := Ideal)) (onTc (τ := Cert.ReferenceDwDownIdeal.τ) (Cert.ReferenceDwDownIdeal.main (F := Ideal))) ⟨m, fun _ => 0, g⟩ (fun r => (∀ c : Dev Cert.ReferenceDwDownIdeal.nD,
      r.2.mem ((c.tc : Thread Cert.ReferenceDwDownIdeal.nD Cert.ReferenceDwDownIdeal.τ).loc Cert.ReferenceDwDownIdeal.main_arg0) = m ((c.tc : Thread Cert.ReferenceDwDownIdeal.nD Cert.ReferenceDwDownIdeal.τ).loc Cert.ReferenceDwDownIdeal.main_arg0)
      ∧ r.2.mem ((c.tc : Thread Cert.ReferenceDwDownIdeal.nD Cert.ReferenceDwDownIdeal.τ).loc Cert.ReferenceDwDownIdeal.main_arg1) = m ((c.tc : Thread Cert.ReferenceDwDownIdeal.nD Cert.ReferenceDwDownIdeal.τ).loc Cert.ReferenceDwDownIdeal.main_arg1)
      ∧ r.2.mem ((c.tc : Thread Cert.ReferenceDwDownIdeal.nD Cert.ReferenceDwDownIdeal.τ).loc Cert.ReferenceDwDownIdeal.main_arg2) = m ((c.tc : Thread Cert.ReferenceDwDownIdeal.nD Cert.ReferenceDwDownIdeal.τ).loc Cert.ReferenceDwDownIdeal.main_arg2))
      ∧ r.2.sem = fun _ => 0)

def quiescent_KernelDact [hKernelDact : Cert.KernelDact.Facts] : Prop :=
  ∀ (m : (ℓ : Loc Cert.KernelDact.nD Cert.KernelDact.τ Cert.KernelDact.sig) → Buf (Elt Bits) ℓ) (g : Dev Cert.KernelDact.nD → PrngReg), Pre_KernelDact m →
    θ_run (Cert.KernelDact.defs (F := Bits)) (onTc (τ := Cert.KernelDact.τ) (Cert.KernelDact.main (F := Bits))) ⟨m, fun _ => 0, g⟩ (fun r => (∀ c : Dev Cert.KernelDact.nD,
      r.2.mem ((c.tc : Thread Cert.KernelDact.nD Cert.KernelDact.τ).loc Cert.KernelDact.main_arg0) = m ((c.tc : Thread Cert.KernelDact.nD Cert.KernelDact.τ).loc Cert.KernelDact.main_arg0)
      ∧ r.2.mem ((c.tc : Thread Cert.KernelDact.nD Cert.KernelDact.τ).loc Cert.KernelDact.main_arg1) = m ((c.tc : Thread Cert.KernelDact.nD Cert.KernelDact.τ).loc Cert.KernelDact.main_arg1)
      ∧ r.2.mem ((c.tc : Thread Cert.KernelDact.nD Cert.KernelDact.τ).loc Cert.KernelDact.main_arg2) = m ((c.tc : Thread Cert.KernelDact.nD Cert.KernelDact.τ).loc Cert.KernelDact.main_arg2))
      ∧ r.2.sem = fun _ => 0)

def quiescent_KernelDactIdeal [hKernelDactIdeal : Cert.KernelDactIdeal.Facts] : Prop :=
  ∀ (m : (ℓ : Loc Cert.KernelDactIdeal.nD Cert.KernelDactIdeal.τ Cert.KernelDactIdeal.sig) → Buf (Elt Ideal) ℓ) (g : Dev Cert.KernelDactIdeal.nD → PrngReg), Pre_KernelDactIdeal m →
    θ_run (Cert.KernelDactIdeal.defs (F := Ideal)) (onTc (τ := Cert.KernelDactIdeal.τ) (Cert.KernelDactIdeal.main (F := Ideal))) ⟨m, fun _ => 0, g⟩ (fun r => (∀ c : Dev Cert.KernelDactIdeal.nD,
      r.2.mem ((c.tc : Thread Cert.KernelDactIdeal.nD Cert.KernelDactIdeal.τ).loc Cert.KernelDactIdeal.main_arg0) = m ((c.tc : Thread Cert.KernelDactIdeal.nD Cert.KernelDactIdeal.τ).loc Cert.KernelDactIdeal.main_arg0)
      ∧ r.2.mem ((c.tc : Thread Cert.KernelDactIdeal.nD Cert.KernelDactIdeal.τ).loc Cert.KernelDactIdeal.main_arg1) = m ((c.tc : Thread Cert.KernelDactIdeal.nD Cert.KernelDactIdeal.τ).loc Cert.KernelDactIdeal.main_arg1)
      ∧ r.2.mem ((c.tc : Thread Cert.KernelDactIdeal.nD Cert.KernelDactIdeal.τ).loc Cert.KernelDactIdeal.main_arg2) = m ((c.tc : Thread Cert.KernelDactIdeal.nD Cert.KernelDactIdeal.τ).loc Cert.KernelDactIdeal.main_arg2))
      ∧ r.2.sem = fun _ => 0)

def quiescent_ReferenceDactIdeal [hReferenceDactIdeal : Cert.ReferenceDactIdeal.Facts] : Prop :=
  ∀ (m : (ℓ : Loc Cert.ReferenceDactIdeal.nD Cert.ReferenceDactIdeal.τ Cert.ReferenceDactIdeal.sig) → Buf (Elt Ideal) ℓ) (g : Dev Cert.ReferenceDactIdeal.nD → PrngReg), Pre_ReferenceDactIdeal m →
    θ_run (Cert.ReferenceDactIdeal.defs (F := Ideal)) (onTc (τ := Cert.ReferenceDactIdeal.τ) (Cert.ReferenceDactIdeal.main (F := Ideal))) ⟨m, fun _ => 0, g⟩ (fun r => (∀ c : Dev Cert.ReferenceDactIdeal.nD,
      r.2.mem ((c.tc : Thread Cert.ReferenceDactIdeal.nD Cert.ReferenceDactIdeal.τ).loc Cert.ReferenceDactIdeal.main_arg0) = m ((c.tc : Thread Cert.ReferenceDactIdeal.nD Cert.ReferenceDactIdeal.τ).loc Cert.ReferenceDactIdeal.main_arg0)
      ∧ r.2.mem ((c.tc : Thread Cert.ReferenceDactIdeal.nD Cert.ReferenceDactIdeal.τ).loc Cert.ReferenceDactIdeal.main_arg1) = m ((c.tc : Thread Cert.ReferenceDactIdeal.nD Cert.ReferenceDactIdeal.τ).loc Cert.ReferenceDactIdeal.main_arg1)
      ∧ r.2.mem ((c.tc : Thread Cert.ReferenceDactIdeal.nD Cert.ReferenceDactIdeal.τ).loc Cert.ReferenceDactIdeal.main_arg2) = m ((c.tc : Thread Cert.ReferenceDactIdeal.nD Cert.ReferenceDactIdeal.τ).loc Cert.ReferenceDactIdeal.main_arg2))
      ∧ r.2.sem = fun _ => 0)

def quiescent_KernelDwOut [hKernelDwOut : Cert.KernelDwOut.Facts] : Prop :=
  ∀ (m : (ℓ : Loc Cert.KernelDwOut.nD Cert.KernelDwOut.τ Cert.KernelDwOut.sig) → Buf (Elt Bits) ℓ) (g : Dev Cert.KernelDwOut.nD → PrngReg), Pre_KernelDwOut m →
    θ_run (Cert.KernelDwOut.defs (F := Bits)) (onTc (τ := Cert.KernelDwOut.τ) (Cert.KernelDwOut.main (F := Bits))) ⟨m, fun _ => 0, g⟩ (fun r => (∀ c : Dev Cert.KernelDwOut.nD,
      r.2.mem ((c.tc : Thread Cert.KernelDwOut.nD Cert.KernelDwOut.τ).loc Cert.KernelDwOut.main_arg0) = m ((c.tc : Thread Cert.KernelDwOut.nD Cert.KernelDwOut.τ).loc Cert.KernelDwOut.main_arg0)
      ∧ r.2.mem ((c.tc : Thread Cert.KernelDwOut.nD Cert.KernelDwOut.τ).loc Cert.KernelDwOut.main_arg1) = m ((c.tc : Thread Cert.KernelDwOut.nD Cert.KernelDwOut.τ).loc Cert.KernelDwOut.main_arg1)
      ∧ r.2.mem ((c.tc : Thread Cert.KernelDwOut.nD Cert.KernelDwOut.τ).loc Cert.KernelDwOut.main_arg2) = m ((c.tc : Thread Cert.KernelDwOut.nD Cert.KernelDwOut.τ).loc Cert.KernelDwOut.main_arg2))
      ∧ r.2.sem = fun _ => 0)

def quiescent_KernelDwOutIdeal [hKernelDwOutIdeal : Cert.KernelDwOutIdeal.Facts] : Prop :=
  ∀ (m : (ℓ : Loc Cert.KernelDwOutIdeal.nD Cert.KernelDwOutIdeal.τ Cert.KernelDwOutIdeal.sig) → Buf (Elt Ideal) ℓ) (g : Dev Cert.KernelDwOutIdeal.nD → PrngReg), Pre_KernelDwOutIdeal m →
    θ_run (Cert.KernelDwOutIdeal.defs (F := Ideal)) (onTc (τ := Cert.KernelDwOutIdeal.τ) (Cert.KernelDwOutIdeal.main (F := Ideal))) ⟨m, fun _ => 0, g⟩ (fun r => (∀ c : Dev Cert.KernelDwOutIdeal.nD,
      r.2.mem ((c.tc : Thread Cert.KernelDwOutIdeal.nD Cert.KernelDwOutIdeal.τ).loc Cert.KernelDwOutIdeal.main_arg0) = m ((c.tc : Thread Cert.KernelDwOutIdeal.nD Cert.KernelDwOutIdeal.τ).loc Cert.KernelDwOutIdeal.main_arg0)
      ∧ r.2.mem ((c.tc : Thread Cert.KernelDwOutIdeal.nD Cert.KernelDwOutIdeal.τ).loc Cert.KernelDwOutIdeal.main_arg1) = m ((c.tc : Thread Cert.KernelDwOutIdeal.nD Cert.KernelDwOutIdeal.τ).loc Cert.KernelDwOutIdeal.main_arg1)
      ∧ r.2.mem ((c.tc : Thread Cert.KernelDwOutIdeal.nD Cert.KernelDwOutIdeal.τ).loc Cert.KernelDwOutIdeal.main_arg2) = m ((c.tc : Thread Cert.KernelDwOutIdeal.nD Cert.KernelDwOutIdeal.τ).loc Cert.KernelDwOutIdeal.main_arg2))
      ∧ r.2.sem = fun _ => 0)

def quiescent_ReferenceDwOutIdeal [hReferenceDwOutIdeal : Cert.ReferenceDwOutIdeal.Facts] : Prop :=
  ∀ (m : (ℓ : Loc Cert.ReferenceDwOutIdeal.nD Cert.ReferenceDwOutIdeal.τ Cert.ReferenceDwOutIdeal.sig) → Buf (Elt Ideal) ℓ) (g : Dev Cert.ReferenceDwOutIdeal.nD → PrngReg), Pre_ReferenceDwOutIdeal m →
    θ_run (Cert.ReferenceDwOutIdeal.defs (F := Ideal)) (onTc (τ := Cert.ReferenceDwOutIdeal.τ) (Cert.ReferenceDwOutIdeal.main (F := Ideal))) ⟨m, fun _ => 0, g⟩ (fun r => (∀ c : Dev Cert.ReferenceDwOutIdeal.nD,
      r.2.mem ((c.tc : Thread Cert.ReferenceDwOutIdeal.nD Cert.ReferenceDwOutIdeal.τ).loc Cert.ReferenceDwOutIdeal.main_arg0) = m ((c.tc : Thread Cert.ReferenceDwOutIdeal.nD Cert.ReferenceDwOutIdeal.τ).loc Cert.ReferenceDwOutIdeal.main_arg0)
      ∧ r.2.mem ((c.tc : Thread Cert.ReferenceDwOutIdeal.nD Cert.ReferenceDwOutIdeal.τ).loc Cert.ReferenceDwOutIdeal.main_arg1) = m ((c.tc : Thread Cert.ReferenceDwOutIdeal.nD Cert.ReferenceDwOutIdeal.τ).loc Cert.ReferenceDwOutIdeal.main_arg1)
      ∧ r.2.mem ((c.tc : Thread Cert.ReferenceDwOutIdeal.nD Cert.ReferenceDwOutIdeal.τ).loc Cert.ReferenceDwOutIdeal.main_arg2) = m ((c.tc : Thread Cert.ReferenceDwOutIdeal.nD Cert.ReferenceDwOutIdeal.τ).loc Cert.ReferenceDwOutIdeal.main_arg2))
      ∧ r.2.sem = fun _ => 0)

def quiescent_KernelDy [hKernelDy : Cert.KernelDy.Facts] : Prop :=
  ∀ (m : (ℓ : Loc Cert.KernelDy.nD Cert.KernelDy.τ Cert.KernelDy.sig) → Buf (Elt Bits) ℓ) (g : Dev Cert.KernelDy.nD → PrngReg), Pre_KernelDy m →
    θ_run (Cert.KernelDy.defs (F := Bits)) (onTc (τ := Cert.KernelDy.τ) (Cert.KernelDy.main (F := Bits))) ⟨m, fun _ => 0, g⟩ (fun r => (∀ c : Dev Cert.KernelDy.nD,
      r.2.mem ((c.tc : Thread Cert.KernelDy.nD Cert.KernelDy.τ).loc Cert.KernelDy.main_arg0) = m ((c.tc : Thread Cert.KernelDy.nD Cert.KernelDy.τ).loc Cert.KernelDy.main_arg0)
      ∧ r.2.mem ((c.tc : Thread Cert.KernelDy.nD Cert.KernelDy.τ).loc Cert.KernelDy.main_arg1) = m ((c.tc : Thread Cert.KernelDy.nD Cert.KernelDy.τ).loc Cert.KernelDy.main_arg1)
      ∧ r.2.mem ((c.tc : Thread Cert.KernelDy.nD Cert.KernelDy.τ).loc Cert.KernelDy.main_arg2) = m ((c.tc : Thread Cert.KernelDy.nD Cert.KernelDy.τ).loc Cert.KernelDy.main_arg2))
      ∧ r.2.sem = fun _ => 0)

def quiescent_KernelDyIdeal [hKernelDyIdeal : Cert.KernelDyIdeal.Facts] : Prop :=
  ∀ (m : (ℓ : Loc Cert.KernelDyIdeal.nD Cert.KernelDyIdeal.τ Cert.KernelDyIdeal.sig) → Buf (Elt Ideal) ℓ) (g : Dev Cert.KernelDyIdeal.nD → PrngReg), Pre_KernelDyIdeal m →
    θ_run (Cert.KernelDyIdeal.defs (F := Ideal)) (onTc (τ := Cert.KernelDyIdeal.τ) (Cert.KernelDyIdeal.main (F := Ideal))) ⟨m, fun _ => 0, g⟩ (fun r => (∀ c : Dev Cert.KernelDyIdeal.nD,
      r.2.mem ((c.tc : Thread Cert.KernelDyIdeal.nD Cert.KernelDyIdeal.τ).loc Cert.KernelDyIdeal.main_arg0) = m ((c.tc : Thread Cert.KernelDyIdeal.nD Cert.KernelDyIdeal.τ).loc Cert.KernelDyIdeal.main_arg0)
      ∧ r.2.mem ((c.tc : Thread Cert.KernelDyIdeal.nD Cert.KernelDyIdeal.τ).loc Cert.KernelDyIdeal.main_arg1) = m ((c.tc : Thread Cert.KernelDyIdeal.nD Cert.KernelDyIdeal.τ).loc Cert.KernelDyIdeal.main_arg1)
      ∧ r.2.mem ((c.tc : Thread Cert.KernelDyIdeal.nD Cert.KernelDyIdeal.τ).loc Cert.KernelDyIdeal.main_arg2) = m ((c.tc : Thread Cert.KernelDyIdeal.nD Cert.KernelDyIdeal.τ).loc Cert.KernelDyIdeal.main_arg2))
      ∧ r.2.sem = fun _ => 0)

def quiescent_ReferenceDyIdeal [hReferenceDyIdeal : Cert.ReferenceDyIdeal.Facts] : Prop :=
  ∀ (m : (ℓ : Loc Cert.ReferenceDyIdeal.nD Cert.ReferenceDyIdeal.τ Cert.ReferenceDyIdeal.sig) → Buf (Elt Ideal) ℓ) (g : Dev Cert.ReferenceDyIdeal.nD → PrngReg), Pre_ReferenceDyIdeal m →
    θ_run (Cert.ReferenceDyIdeal.defs (F := Ideal)) (onTc (τ := Cert.ReferenceDyIdeal.τ) (Cert.ReferenceDyIdeal.main (F := Ideal))) ⟨m, fun _ => 0, g⟩ (fun r => (∀ c : Dev Cert.ReferenceDyIdeal.nD,
      r.2.mem ((c.tc : Thread Cert.ReferenceDyIdeal.nD Cert.ReferenceDyIdeal.τ).loc Cert.ReferenceDyIdeal.main_arg0) = m ((c.tc : Thread Cert.ReferenceDyIdeal.nD Cert.ReferenceDyIdeal.τ).loc Cert.ReferenceDyIdeal.main_arg0)
      ∧ r.2.mem ((c.tc : Thread Cert.ReferenceDyIdeal.nD Cert.ReferenceDyIdeal.τ).loc Cert.ReferenceDyIdeal.main_arg1) = m ((c.tc : Thread Cert.ReferenceDyIdeal.nD Cert.ReferenceDyIdeal.τ).loc Cert.ReferenceDyIdeal.main_arg1)
      ∧ r.2.mem ((c.tc : Thread Cert.ReferenceDyIdeal.nD Cert.ReferenceDyIdeal.τ).loc Cert.ReferenceDyIdeal.main_arg2) = m ((c.tc : Thread Cert.ReferenceDyIdeal.nD Cert.ReferenceDyIdeal.τ).loc Cert.ReferenceDyIdeal.main_arg2))
      ∧ r.2.sem = fun _ => 0)

def quiescent_KernelDwInGdn [hKernelDwInGdn : Cert.KernelDwInGdn.Facts] : Prop :=
  ∀ (m : (ℓ : Loc Cert.KernelDwInGdn.nD Cert.KernelDwInGdn.τ Cert.KernelDwInGdn.sig) → Buf (Elt Bits) ℓ) (g : Dev Cert.KernelDwInGdn.nD → PrngReg), Pre_KernelDwInGdn m →
    θ_run (Cert.KernelDwInGdn.defs (F := Bits)) (onTc (τ := Cert.KernelDwInGdn.τ) (Cert.KernelDwInGdn.main (F := Bits))) ⟨m, fun _ => 0, g⟩ (fun r => (∀ c : Dev Cert.KernelDwInGdn.nD,
      r.2.mem ((c.tc : Thread Cert.KernelDwInGdn.nD Cert.KernelDwInGdn.τ).loc Cert.KernelDwInGdn.main_arg0) = m ((c.tc : Thread Cert.KernelDwInGdn.nD Cert.KernelDwInGdn.τ).loc Cert.KernelDwInGdn.main_arg0)
      ∧ r.2.mem ((c.tc : Thread Cert.KernelDwInGdn.nD Cert.KernelDwInGdn.τ).loc Cert.KernelDwInGdn.main_arg1) = m ((c.tc : Thread Cert.KernelDwInGdn.nD Cert.KernelDwInGdn.τ).loc Cert.KernelDwInGdn.main_arg1)
      ∧ r.2.mem ((c.tc : Thread Cert.KernelDwInGdn.nD Cert.KernelDwInGdn.τ).loc Cert.KernelDwInGdn.main_arg2) = m ((c.tc : Thread Cert.KernelDwInGdn.nD Cert.KernelDwInGdn.τ).loc Cert.KernelDwInGdn.main_arg2))
      ∧ r.2.sem = fun _ => 0)

def quiescent_KernelDwInGdnIdeal [hKernelDwInGdnIdeal : Cert.KernelDwInGdnIdeal.Facts] : Prop :=
  ∀ (m : (ℓ : Loc Cert.KernelDwInGdnIdeal.nD Cert.KernelDwInGdnIdeal.τ Cert.KernelDwInGdnIdeal.sig) → Buf (Elt Ideal) ℓ) (g : Dev Cert.KernelDwInGdnIdeal.nD → PrngReg), Pre_KernelDwInGdnIdeal m →
    θ_run (Cert.KernelDwInGdnIdeal.defs (F := Ideal)) (onTc (τ := Cert.KernelDwInGdnIdeal.τ) (Cert.KernelDwInGdnIdeal.main (F := Ideal))) ⟨m, fun _ => 0, g⟩ (fun r => (∀ c : Dev Cert.KernelDwInGdnIdeal.nD,
      r.2.mem ((c.tc : Thread Cert.KernelDwInGdnIdeal.nD Cert.KernelDwInGdnIdeal.τ).loc Cert.KernelDwInGdnIdeal.main_arg0) = m ((c.tc : Thread Cert.KernelDwInGdnIdeal.nD Cert.KernelDwInGdnIdeal.τ).loc Cert.KernelDwInGdnIdeal.main_arg0)
      ∧ r.2.mem ((c.tc : Thread Cert.KernelDwInGdnIdeal.nD Cert.KernelDwInGdnIdeal.τ).loc Cert.KernelDwInGdnIdeal.main_arg1) = m ((c.tc : Thread Cert.KernelDwInGdnIdeal.nD Cert.KernelDwInGdnIdeal.τ).loc Cert.KernelDwInGdnIdeal.main_arg1)
      ∧ r.2.mem ((c.tc : Thread Cert.KernelDwInGdnIdeal.nD Cert.KernelDwInGdnIdeal.τ).loc Cert.KernelDwInGdnIdeal.main_arg2) = m ((c.tc : Thread Cert.KernelDwInGdnIdeal.nD Cert.KernelDwInGdnIdeal.τ).loc Cert.KernelDwInGdnIdeal.main_arg2))
      ∧ r.2.sem = fun _ => 0)

def quiescent_ReferenceDwInGdnIdeal [hReferenceDwInGdnIdeal : Cert.ReferenceDwInGdnIdeal.Facts] : Prop :=
  ∀ (m : (ℓ : Loc Cert.ReferenceDwInGdnIdeal.nD Cert.ReferenceDwInGdnIdeal.τ Cert.ReferenceDwInGdnIdeal.sig) → Buf (Elt Ideal) ℓ) (g : Dev Cert.ReferenceDwInGdnIdeal.nD → PrngReg), Pre_ReferenceDwInGdnIdeal m →
    θ_run (Cert.ReferenceDwInGdnIdeal.defs (F := Ideal)) (onTc (τ := Cert.ReferenceDwInGdnIdeal.τ) (Cert.ReferenceDwInGdnIdeal.main (F := Ideal))) ⟨m, fun _ => 0, g⟩ (fun r => (∀ c : Dev Cert.ReferenceDwInGdnIdeal.nD,
      r.2.mem ((c.tc : Thread Cert.ReferenceDwInGdnIdeal.nD Cert.ReferenceDwInGdnIdeal.τ).loc Cert.ReferenceDwInGdnIdeal.main_arg0) = m ((c.tc : Thread Cert.ReferenceDwInGdnIdeal.nD Cert.ReferenceDwInGdnIdeal.τ).loc Cert.ReferenceDwInGdnIdeal.main_arg0)
      ∧ r.2.mem ((c.tc : Thread Cert.ReferenceDwInGdnIdeal.nD Cert.ReferenceDwInGdnIdeal.τ).loc Cert.ReferenceDwInGdnIdeal.main_arg1) = m ((c.tc : Thread Cert.ReferenceDwInGdnIdeal.nD Cert.ReferenceDwInGdnIdeal.τ).loc Cert.ReferenceDwInGdnIdeal.main_arg1)
      ∧ r.2.mem ((c.tc : Thread Cert.ReferenceDwInGdnIdeal.nD Cert.ReferenceDwInGdnIdeal.τ).loc Cert.ReferenceDwInGdnIdeal.main_arg2) = m ((c.tc : Thread Cert.ReferenceDwInGdnIdeal.nD Cert.ReferenceDwInGdnIdeal.τ).loc Cert.ReferenceDwInGdnIdeal.main_arg2))
      ∧ r.2.sem = fun _ => 0)

def quiescent_KernelDwInRest [hKernelDwInRest : Cert.KernelDwInRest.Facts] : Prop :=
  ∀ (m : (ℓ : Loc Cert.KernelDwInRest.nD Cert.KernelDwInRest.τ Cert.KernelDwInRest.sig) → Buf (Elt Bits) ℓ) (g : Dev Cert.KernelDwInRest.nD → PrngReg), Pre_KernelDwInRest m →
    θ_run (Cert.KernelDwInRest.defs (F := Bits)) (onTc (τ := Cert.KernelDwInRest.τ) (Cert.KernelDwInRest.main (F := Bits))) ⟨m, fun _ => 0, g⟩ (fun r => (∀ c : Dev Cert.KernelDwInRest.nD,
      r.2.mem ((c.tc : Thread Cert.KernelDwInRest.nD Cert.KernelDwInRest.τ).loc Cert.KernelDwInRest.main_arg0) = m ((c.tc : Thread Cert.KernelDwInRest.nD Cert.KernelDwInRest.τ).loc Cert.KernelDwInRest.main_arg0)
      ∧ r.2.mem ((c.tc : Thread Cert.KernelDwInRest.nD Cert.KernelDwInRest.τ).loc Cert.KernelDwInRest.main_arg1) = m ((c.tc : Thread Cert.KernelDwInRest.nD Cert.KernelDwInRest.τ).loc Cert.KernelDwInRest.main_arg1)
      ∧ r.2.mem ((c.tc : Thread Cert.KernelDwInRest.nD Cert.KernelDwInRest.τ).loc Cert.KernelDwInRest.main_arg2) = m ((c.tc : Thread Cert.KernelDwInRest.nD Cert.KernelDwInRest.τ).loc Cert.KernelDwInRest.main_arg2)
      ∧ r.2.mem ((c.tc : Thread Cert.KernelDwInRest.nD Cert.KernelDwInRest.τ).loc Cert.KernelDwInRest.main_arg3) = m ((c.tc : Thread Cert.KernelDwInRest.nD Cert.KernelDwInRest.τ).loc Cert.KernelDwInRest.main_arg3)
      ∧ r.2.mem ((c.tc : Thread Cert.KernelDwInRest.nD Cert.KernelDwInRest.τ).loc Cert.KernelDwInRest.main_arg4) = m ((c.tc : Thread Cert.KernelDwInRest.nD Cert.KernelDwInRest.τ).loc Cert.KernelDwInRest.main_arg4))
      ∧ r.2.sem = fun _ => 0)

def quiescent_KernelDwInRestIdeal [hKernelDwInRestIdeal : Cert.KernelDwInRestIdeal.Facts] : Prop :=
  ∀ (m : (ℓ : Loc Cert.KernelDwInRestIdeal.nD Cert.KernelDwInRestIdeal.τ Cert.KernelDwInRestIdeal.sig) → Buf (Elt Ideal) ℓ) (g : Dev Cert.KernelDwInRestIdeal.nD → PrngReg), Pre_KernelDwInRestIdeal m →
    θ_run (Cert.KernelDwInRestIdeal.defs (F := Ideal)) (onTc (τ := Cert.KernelDwInRestIdeal.τ) (Cert.KernelDwInRestIdeal.main (F := Ideal))) ⟨m, fun _ => 0, g⟩ (fun r => (∀ c : Dev Cert.KernelDwInRestIdeal.nD,
      r.2.mem ((c.tc : Thread Cert.KernelDwInRestIdeal.nD Cert.KernelDwInRestIdeal.τ).loc Cert.KernelDwInRestIdeal.main_arg0) = m ((c.tc : Thread Cert.KernelDwInRestIdeal.nD Cert.KernelDwInRestIdeal.τ).loc Cert.KernelDwInRestIdeal.main_arg0)
      ∧ r.2.mem ((c.tc : Thread Cert.KernelDwInRestIdeal.nD Cert.KernelDwInRestIdeal.τ).loc Cert.KernelDwInRestIdeal.main_arg1) = m ((c.tc : Thread Cert.KernelDwInRestIdeal.nD Cert.KernelDwInRestIdeal.τ).loc Cert.KernelDwInRestIdeal.main_arg1)
      ∧ r.2.mem ((c.tc : Thread Cert.KernelDwInRestIdeal.nD Cert.KernelDwInRestIdeal.τ).loc Cert.KernelDwInRestIdeal.main_arg2) = m ((c.tc : Thread Cert.KernelDwInRestIdeal.nD Cert.KernelDwInRestIdeal.τ).loc Cert.KernelDwInRestIdeal.main_arg2)
      ∧ r.2.mem ((c.tc : Thread Cert.KernelDwInRestIdeal.nD Cert.KernelDwInRestIdeal.τ).loc Cert.KernelDwInRestIdeal.main_arg3) = m ((c.tc : Thread Cert.KernelDwInRestIdeal.nD Cert.KernelDwInRestIdeal.τ).loc Cert.KernelDwInRestIdeal.main_arg3)
      ∧ r.2.mem ((c.tc : Thread Cert.KernelDwInRestIdeal.nD Cert.KernelDwInRestIdeal.τ).loc Cert.KernelDwInRestIdeal.main_arg4) = m ((c.tc : Thread Cert.KernelDwInRestIdeal.nD Cert.KernelDwInRestIdeal.τ).loc Cert.KernelDwInRestIdeal.main_arg4))
      ∧ r.2.sem = fun _ => 0)

def quiescent_ReferenceDwInRestIdeal [hReferenceDwInRestIdeal : Cert.ReferenceDwInRestIdeal.Facts] : Prop :=
  ∀ (m : (ℓ : Loc Cert.ReferenceDwInRestIdeal.nD Cert.ReferenceDwInRestIdeal.τ Cert.ReferenceDwInRestIdeal.sig) → Buf (Elt Ideal) ℓ) (g : Dev Cert.ReferenceDwInRestIdeal.nD → PrngReg), Pre_ReferenceDwInRestIdeal m →
    θ_run (Cert.ReferenceDwInRestIdeal.defs (F := Ideal)) (onTc (τ := Cert.ReferenceDwInRestIdeal.τ) (Cert.ReferenceDwInRestIdeal.main (F := Ideal))) ⟨m, fun _ => 0, g⟩ (fun r => (∀ c : Dev Cert.ReferenceDwInRestIdeal.nD,
      r.2.mem ((c.tc : Thread Cert.ReferenceDwInRestIdeal.nD Cert.ReferenceDwInRestIdeal.τ).loc Cert.ReferenceDwInRestIdeal.main_arg0) = m ((c.tc : Thread Cert.ReferenceDwInRestIdeal.nD Cert.ReferenceDwInRestIdeal.τ).loc Cert.ReferenceDwInRestIdeal.main_arg0)
      ∧ r.2.mem ((c.tc : Thread Cert.ReferenceDwInRestIdeal.nD Cert.ReferenceDwInRestIdeal.τ).loc Cert.ReferenceDwInRestIdeal.main_arg1) = m ((c.tc : Thread Cert.ReferenceDwInRestIdeal.nD Cert.ReferenceDwInRestIdeal.τ).loc Cert.ReferenceDwInRestIdeal.main_arg1)
      ∧ r.2.mem ((c.tc : Thread Cert.ReferenceDwInRestIdeal.nD Cert.ReferenceDwInRestIdeal.τ).loc Cert.ReferenceDwInRestIdeal.main_arg2) = m ((c.tc : Thread Cert.ReferenceDwInRestIdeal.nD Cert.ReferenceDwInRestIdeal.τ).loc Cert.ReferenceDwInRestIdeal.main_arg2)
      ∧ r.2.mem ((c.tc : Thread Cert.ReferenceDwInRestIdeal.nD Cert.ReferenceDwInRestIdeal.τ).loc Cert.ReferenceDwInRestIdeal.main_arg3) = m ((c.tc : Thread Cert.ReferenceDwInRestIdeal.nD Cert.ReferenceDwInRestIdeal.τ).loc Cert.ReferenceDwInRestIdeal.main_arg3)
      ∧ r.2.mem ((c.tc : Thread Cert.ReferenceDwInRestIdeal.nD Cert.ReferenceDwInRestIdeal.τ).loc Cert.ReferenceDwInRestIdeal.main_arg4) = m ((c.tc : Thread Cert.ReferenceDwInRestIdeal.nD Cert.ReferenceDwInRestIdeal.τ).loc Cert.ReferenceDwInRestIdeal.main_arg4))
      ∧ r.2.sem = fun _ => 0)

def quiescent_KernelDu [hKernelDu : Cert.KernelDu.Facts] : Prop :=
  ∀ (m : (ℓ : Loc Cert.KernelDu.nD Cert.KernelDu.τ Cert.KernelDu.sig) → Buf (Elt Bits) ℓ) (g : Dev Cert.KernelDu.nD → PrngReg), Pre_KernelDu m →
    θ_run (Cert.KernelDu.defs (F := Bits)) (onTc (τ := Cert.KernelDu.τ) (Cert.KernelDu.main (F := Bits))) ⟨m, fun _ => 0, g⟩ (fun r => (∀ c : Dev Cert.KernelDu.nD,
      r.2.mem ((c.tc : Thread Cert.KernelDu.nD Cert.KernelDu.τ).loc Cert.KernelDu.main_arg0) = m ((c.tc : Thread Cert.KernelDu.nD Cert.KernelDu.τ).loc Cert.KernelDu.main_arg0)
      ∧ r.2.mem ((c.tc : Thread Cert.KernelDu.nD Cert.KernelDu.τ).loc Cert.KernelDu.main_arg1) = m ((c.tc : Thread Cert.KernelDu.nD Cert.KernelDu.τ).loc Cert.KernelDu.main_arg1)
      ∧ r.2.mem ((c.tc : Thread Cert.KernelDu.nD Cert.KernelDu.τ).loc Cert.KernelDu.main_arg2) = m ((c.tc : Thread Cert.KernelDu.nD Cert.KernelDu.τ).loc Cert.KernelDu.main_arg2)
      ∧ r.2.mem ((c.tc : Thread Cert.KernelDu.nD Cert.KernelDu.τ).loc Cert.KernelDu.main_arg3) = m ((c.tc : Thread Cert.KernelDu.nD Cert.KernelDu.τ).loc Cert.KernelDu.main_arg3)
      ∧ r.2.mem ((c.tc : Thread Cert.KernelDu.nD Cert.KernelDu.τ).loc Cert.KernelDu.main_arg4) = m ((c.tc : Thread Cert.KernelDu.nD Cert.KernelDu.τ).loc Cert.KernelDu.main_arg4)
      ∧ r.2.mem ((c.tc : Thread Cert.KernelDu.nD Cert.KernelDu.τ).loc Cert.KernelDu.main_arg5) = m ((c.tc : Thread Cert.KernelDu.nD Cert.KernelDu.τ).loc Cert.KernelDu.main_arg5)
      ∧ r.2.mem ((c.tc : Thread Cert.KernelDu.nD Cert.KernelDu.τ).loc Cert.KernelDu.main_arg6) = m ((c.tc : Thread Cert.KernelDu.nD Cert.KernelDu.τ).loc Cert.KernelDu.main_arg6))
      ∧ r.2.sem = fun _ => 0)

def quiescent_KernelDuIdeal [hKernelDuIdeal : Cert.KernelDuIdeal.Facts] : Prop :=
  ∀ (m : (ℓ : Loc Cert.KernelDuIdeal.nD Cert.KernelDuIdeal.τ Cert.KernelDuIdeal.sig) → Buf (Elt Ideal) ℓ) (g : Dev Cert.KernelDuIdeal.nD → PrngReg), Pre_KernelDuIdeal m →
    θ_run (Cert.KernelDuIdeal.defs (F := Ideal)) (onTc (τ := Cert.KernelDuIdeal.τ) (Cert.KernelDuIdeal.main (F := Ideal))) ⟨m, fun _ => 0, g⟩ (fun r => (∀ c : Dev Cert.KernelDuIdeal.nD,
      r.2.mem ((c.tc : Thread Cert.KernelDuIdeal.nD Cert.KernelDuIdeal.τ).loc Cert.KernelDuIdeal.main_arg0) = m ((c.tc : Thread Cert.KernelDuIdeal.nD Cert.KernelDuIdeal.τ).loc Cert.KernelDuIdeal.main_arg0)
      ∧ r.2.mem ((c.tc : Thread Cert.KernelDuIdeal.nD Cert.KernelDuIdeal.τ).loc Cert.KernelDuIdeal.main_arg1) = m ((c.tc : Thread Cert.KernelDuIdeal.nD Cert.KernelDuIdeal.τ).loc Cert.KernelDuIdeal.main_arg1)
      ∧ r.2.mem ((c.tc : Thread Cert.KernelDuIdeal.nD Cert.KernelDuIdeal.τ).loc Cert.KernelDuIdeal.main_arg2) = m ((c.tc : Thread Cert.KernelDuIdeal.nD Cert.KernelDuIdeal.τ).loc Cert.KernelDuIdeal.main_arg2)
      ∧ r.2.mem ((c.tc : Thread Cert.KernelDuIdeal.nD Cert.KernelDuIdeal.τ).loc Cert.KernelDuIdeal.main_arg3) = m ((c.tc : Thread Cert.KernelDuIdeal.nD Cert.KernelDuIdeal.τ).loc Cert.KernelDuIdeal.main_arg3)
      ∧ r.2.mem ((c.tc : Thread Cert.KernelDuIdeal.nD Cert.KernelDuIdeal.τ).loc Cert.KernelDuIdeal.main_arg4) = m ((c.tc : Thread Cert.KernelDuIdeal.nD Cert.KernelDuIdeal.τ).loc Cert.KernelDuIdeal.main_arg4)
      ∧ r.2.mem ((c.tc : Thread Cert.KernelDuIdeal.nD Cert.KernelDuIdeal.τ).loc Cert.KernelDuIdeal.main_arg5) = m ((c.tc : Thread Cert.KernelDuIdeal.nD Cert.KernelDuIdeal.τ).loc Cert.KernelDuIdeal.main_arg5)
      ∧ r.2.mem ((c.tc : Thread Cert.KernelDuIdeal.nD Cert.KernelDuIdeal.τ).loc Cert.KernelDuIdeal.main_arg6) = m ((c.tc : Thread Cert.KernelDuIdeal.nD Cert.KernelDuIdeal.τ).loc Cert.KernelDuIdeal.main_arg6))
      ∧ r.2.sem = fun _ => 0)

def quiescent_ReferenceDuIdeal [hReferenceDuIdeal : Cert.ReferenceDuIdeal.Facts] : Prop :=
  ∀ (m : (ℓ : Loc Cert.ReferenceDuIdeal.nD Cert.ReferenceDuIdeal.τ Cert.ReferenceDuIdeal.sig) → Buf (Elt Ideal) ℓ) (g : Dev Cert.ReferenceDuIdeal.nD → PrngReg), Pre_ReferenceDuIdeal m →
    θ_run (Cert.ReferenceDuIdeal.defs (F := Ideal)) (onTc (τ := Cert.ReferenceDuIdeal.τ) (Cert.ReferenceDuIdeal.main (F := Ideal))) ⟨m, fun _ => 0, g⟩ (fun r => (∀ c : Dev Cert.ReferenceDuIdeal.nD,
      r.2.mem ((c.tc : Thread Cert.ReferenceDuIdeal.nD Cert.ReferenceDuIdeal.τ).loc Cert.ReferenceDuIdeal.main_arg0) = m ((c.tc : Thread Cert.ReferenceDuIdeal.nD Cert.ReferenceDuIdeal.τ).loc Cert.ReferenceDuIdeal.main_arg0)
      ∧ r.2.mem ((c.tc : Thread Cert.ReferenceDuIdeal.nD Cert.ReferenceDuIdeal.τ).loc Cert.ReferenceDuIdeal.main_arg1) = m ((c.tc : Thread Cert.ReferenceDuIdeal.nD Cert.ReferenceDuIdeal.τ).loc Cert.ReferenceDuIdeal.main_arg1)
      ∧ r.2.mem ((c.tc : Thread Cert.ReferenceDuIdeal.nD Cert.ReferenceDuIdeal.τ).loc Cert.ReferenceDuIdeal.main_arg2) = m ((c.tc : Thread Cert.ReferenceDuIdeal.nD Cert.ReferenceDuIdeal.τ).loc Cert.ReferenceDuIdeal.main_arg2)
      ∧ r.2.mem ((c.tc : Thread Cert.ReferenceDuIdeal.nD Cert.ReferenceDuIdeal.τ).loc Cert.ReferenceDuIdeal.main_arg3) = m ((c.tc : Thread Cert.ReferenceDuIdeal.nD Cert.ReferenceDuIdeal.τ).loc Cert.ReferenceDuIdeal.main_arg3)
      ∧ r.2.mem ((c.tc : Thread Cert.ReferenceDuIdeal.nD Cert.ReferenceDuIdeal.τ).loc Cert.ReferenceDuIdeal.main_arg4) = m ((c.tc : Thread Cert.ReferenceDuIdeal.nD Cert.ReferenceDuIdeal.τ).loc Cert.ReferenceDuIdeal.main_arg4)
      ∧ r.2.mem ((c.tc : Thread Cert.ReferenceDuIdeal.nD Cert.ReferenceDuIdeal.τ).loc Cert.ReferenceDuIdeal.main_arg5) = m ((c.tc : Thread Cert.ReferenceDuIdeal.nD Cert.ReferenceDuIdeal.τ).loc Cert.ReferenceDuIdeal.main_arg5)
      ∧ r.2.mem ((c.tc : Thread Cert.ReferenceDuIdeal.nD Cert.ReferenceDuIdeal.τ).loc Cert.ReferenceDuIdeal.main_arg6) = m ((c.tc : Thread Cert.ReferenceDuIdeal.nD Cert.ReferenceDuIdeal.τ).loc Cert.ReferenceDuIdeal.main_arg6))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelResid [hKernelResid : Cert.KernelResid.Facts] : Prop :=
  ∀ (m : (ℓ : Loc Cert.KernelResid.nD Cert.KernelResid.τ Cert.KernelResid.sig) → Buf (Elt Bits) ℓ) (g : Dev Cert.KernelResid.nD → PrngReg), Pre_KernelResid m →
    θ_run (Cert.KernelResid.defs (F := Bits)) (onTc (τ := Cert.KernelResid.τ) (Cert.KernelResid.main (F := Bits))) ⟨m, fun _ => 0, g⟩ (fun r => (∀ c : Dev Cert.KernelResid.nD,
      r.2.mem ((c.tc : Thread Cert.KernelResid.nD Cert.KernelResid.τ).loc Cert.KernelResid.main_arg0) = m ((c.tc : Thread Cert.KernelResid.nD Cert.KernelResid.τ).loc Cert.KernelResid.main_arg0)
      ∧ r.2.mem ((c.tc : Thread Cert.KernelResid.nD Cert.KernelResid.τ).loc Cert.KernelResid.main_arg1) = m ((c.tc : Thread Cert.KernelResid.nD Cert.KernelResid.τ).loc Cert.KernelResid.main_arg1)
      ∧ r.2.mem ((c.tc : Thread Cert.KernelResid.nD Cert.KernelResid.τ).loc Cert.KernelResid.main_arg2) = m ((c.tc : Thread Cert.KernelResid.nD Cert.KernelResid.τ).loc Cert.KernelResid.main_arg2)
      ∧ r.2.mem ((c.tc : Thread Cert.KernelResid.nD Cert.KernelResid.τ).loc Cert.KernelResid.main_arg3) = m ((c.tc : Thread Cert.KernelResid.nD Cert.KernelResid.τ).loc Cert.KernelResid.main_arg3)
      ∧ r.2.mem ((c.tc : Thread Cert.KernelResid.nD Cert.KernelResid.τ).loc Cert.KernelResid.main_arg4) = m ((c.tc : Thread Cert.KernelResid.nD Cert.KernelResid.τ).loc Cert.KernelResid.main_arg4)
      ∧ r.2.mem ((c.tc : Thread Cert.KernelResid.nD Cert.KernelResid.τ).loc Cert.KernelResid.main_arg5) = m ((c.tc : Thread Cert.KernelResid.nD Cert.KernelResid.τ).loc Cert.KernelResid.main_arg5))
      ∧ r.2.sem = fun _ => 0)

def quiescent_KernelResidIdeal [hKernelResidIdeal : Cert.KernelResidIdeal.Facts] : Prop :=
  ∀ (m : (ℓ : Loc Cert.KernelResidIdeal.nD Cert.KernelResidIdeal.τ Cert.KernelResidIdeal.sig) → Buf (Elt Ideal) ℓ) (g : Dev Cert.KernelResidIdeal.nD → PrngReg), Pre_KernelResidIdeal m →
    θ_run (Cert.KernelResidIdeal.defs (F := Ideal)) (onTc (τ := Cert.KernelResidIdeal.τ) (Cert.KernelResidIdeal.main (F := Ideal))) ⟨m, fun _ => 0, g⟩ (fun r => (∀ c : Dev Cert.KernelResidIdeal.nD,
      r.2.mem ((c.tc : Thread Cert.KernelResidIdeal.nD Cert.KernelResidIdeal.τ).loc Cert.KernelResidIdeal.main_arg0) = m ((c.tc : Thread Cert.KernelResidIdeal.nD Cert.KernelResidIdeal.τ).loc Cert.KernelResidIdeal.main_arg0)
      ∧ r.2.mem ((c.tc : Thread Cert.KernelResidIdeal.nD Cert.KernelResidIdeal.τ).loc Cert.KernelResidIdeal.main_arg1) = m ((c.tc : Thread Cert.KernelResidIdeal.nD Cert.KernelResidIdeal.τ).loc Cert.KernelResidIdeal.main_arg1)
      ∧ r.2.mem ((c.tc : Thread Cert.KernelResidIdeal.nD Cert.KernelResidIdeal.τ).loc Cert.KernelResidIdeal.main_arg2) = m ((c.tc : Thread Cert.KernelResidIdeal.nD Cert.KernelResidIdeal.τ).loc Cert.KernelResidIdeal.main_arg2)
      ∧ r.2.mem ((c.tc : Thread Cert.KernelResidIdeal.nD Cert.KernelResidIdeal.τ).loc Cert.KernelResidIdeal.main_arg3) = m ((c.tc : Thread Cert.KernelResidIdeal.nD Cert.KernelResidIdeal.τ).loc Cert.KernelResidIdeal.main_arg3)
      ∧ r.2.mem ((c.tc : Thread Cert.KernelResidIdeal.nD Cert.KernelResidIdeal.τ).loc Cert.KernelResidIdeal.main_arg4) = m ((c.tc : Thread Cert.KernelResidIdeal.nD Cert.KernelResidIdeal.τ).loc Cert.KernelResidIdeal.main_arg4)
      ∧ r.2.mem ((c.tc : Thread Cert.KernelResidIdeal.nD Cert.KernelResidIdeal.τ).loc Cert.KernelResidIdeal.main_arg5) = m ((c.tc : Thread Cert.KernelResidIdeal.nD Cert.KernelResidIdeal.τ).loc Cert.KernelResidIdeal.main_arg5))
      ∧ r.2.sem = fun _ => 0)

def quiescent_ReferenceResidIdeal [hReferenceResidIdeal : Cert.ReferenceResidIdeal.Facts] : Prop :=
  ∀ (m : (ℓ : Loc Cert.ReferenceResidIdeal.nD Cert.ReferenceResidIdeal.τ Cert.ReferenceResidIdeal.sig) → Buf (Elt Ideal) ℓ) (g : Dev Cert.ReferenceResidIdeal.nD → PrngReg), Pre_ReferenceResidIdeal m →
    θ_run (Cert.ReferenceResidIdeal.defs (F := Ideal)) (onTc (τ := Cert.ReferenceResidIdeal.τ) (Cert.ReferenceResidIdeal.main (F := Ideal))) ⟨m, fun _ => 0, g⟩ (fun r => (∀ c : Dev Cert.ReferenceResidIdeal.nD,
      r.2.mem ((c.tc : Thread Cert.ReferenceResidIdeal.nD Cert.ReferenceResidIdeal.τ).loc Cert.ReferenceResidIdeal.main_arg0) = m ((c.tc : Thread Cert.ReferenceResidIdeal.nD Cert.ReferenceResidIdeal.τ).loc Cert.ReferenceResidIdeal.main_arg0)
      ∧ r.2.mem ((c.tc : Thread Cert.ReferenceResidIdeal.nD Cert.ReferenceResidIdeal.τ).loc Cert.ReferenceResidIdeal.main_arg1) = m ((c.tc : Thread Cert.ReferenceResidIdeal.nD Cert.ReferenceResidIdeal.τ).loc Cert.ReferenceResidIdeal.main_arg1)
      ∧ r.2.mem ((c.tc : Thread Cert.ReferenceResidIdeal.nD Cert.ReferenceResidIdeal.τ).loc Cert.ReferenceResidIdeal.main_arg2) = m ((c.tc : Thread Cert.ReferenceResidIdeal.nD Cert.ReferenceResidIdeal.τ).loc Cert.ReferenceResidIdeal.main_arg2)
      ∧ r.2.mem ((c.tc : Thread Cert.ReferenceResidIdeal.nD Cert.ReferenceResidIdeal.τ).loc Cert.ReferenceResidIdeal.main_arg3) = m ((c.tc : Thread Cert.ReferenceResidIdeal.nD Cert.ReferenceResidIdeal.τ).loc Cert.ReferenceResidIdeal.main_arg3)
      ∧ r.2.mem ((c.tc : Thread Cert.ReferenceResidIdeal.nD Cert.ReferenceResidIdeal.τ).loc Cert.ReferenceResidIdeal.main_arg4) = m ((c.tc : Thread Cert.ReferenceResidIdeal.nD Cert.ReferenceResidIdeal.τ).loc Cert.ReferenceResidIdeal.main_arg4)
      ∧ r.2.mem ((c.tc : Thread Cert.ReferenceResidIdeal.nD Cert.ReferenceResidIdeal.τ).loc Cert.ReferenceResidIdeal.main_arg5) = m ((c.tc : Thread Cert.ReferenceResidIdeal.nD Cert.ReferenceResidIdeal.τ).loc Cert.ReferenceResidIdeal.main_arg5))
      ∧ r.2.sem = fun _ => 0)

def quiescent_KernelPrenorm [hKernelPrenorm : Cert.KernelPrenorm.Facts] : Prop :=
  ∀ (m : (ℓ : Loc Cert.KernelPrenorm.nD Cert.KernelPrenorm.τ Cert.KernelPrenorm.sig) → Buf (Elt Bits) ℓ) (g : Dev Cert.KernelPrenorm.nD → PrngReg), Pre_KernelPrenorm m →
    θ_run (Cert.KernelPrenorm.defs (F := Bits)) (onTc (τ := Cert.KernelPrenorm.τ) (Cert.KernelPrenorm.main (F := Bits))) ⟨m, fun _ => 0, g⟩ (fun r => (∀ c : Dev Cert.KernelPrenorm.nD,
      r.2.mem ((c.tc : Thread Cert.KernelPrenorm.nD Cert.KernelPrenorm.τ).loc Cert.KernelPrenorm.main_arg0) = m ((c.tc : Thread Cert.KernelPrenorm.nD Cert.KernelPrenorm.τ).loc Cert.KernelPrenorm.main_arg0)
      ∧ r.2.mem ((c.tc : Thread Cert.KernelPrenorm.nD Cert.KernelPrenorm.τ).loc Cert.KernelPrenorm.main_arg1) = m ((c.tc : Thread Cert.KernelPrenorm.nD Cert.KernelPrenorm.τ).loc Cert.KernelPrenorm.main_arg1)
      ∧ r.2.mem ((c.tc : Thread Cert.KernelPrenorm.nD Cert.KernelPrenorm.τ).loc Cert.KernelPrenorm.main_arg2) = m ((c.tc : Thread Cert.KernelPrenorm.nD Cert.KernelPrenorm.τ).loc Cert.KernelPrenorm.main_arg2)
      ∧ r.2.mem ((c.tc : Thread Cert.KernelPrenorm.nD Cert.KernelPrenorm.τ).loc Cert.KernelPrenorm.main_arg3) = m ((c.tc : Thread Cert.KernelPrenorm.nD Cert.KernelPrenorm.τ).loc Cert.KernelPrenorm.main_arg3))
      ∧ r.2.sem = fun _ => 0)

def quiescent_KernelPrenormIdeal [hKernelPrenormIdeal : Cert.KernelPrenormIdeal.Facts] : Prop :=
  ∀ (m : (ℓ : Loc Cert.KernelPrenormIdeal.nD Cert.KernelPrenormIdeal.τ Cert.KernelPrenormIdeal.sig) → Buf (Elt Ideal) ℓ) (g : Dev Cert.KernelPrenormIdeal.nD → PrngReg), Pre_KernelPrenormIdeal m →
    θ_run (Cert.KernelPrenormIdeal.defs (F := Ideal)) (onTc (τ := Cert.KernelPrenormIdeal.τ) (Cert.KernelPrenormIdeal.main (F := Ideal))) ⟨m, fun _ => 0, g⟩ (fun r => (∀ c : Dev Cert.KernelPrenormIdeal.nD,
      r.2.mem ((c.tc : Thread Cert.KernelPrenormIdeal.nD Cert.KernelPrenormIdeal.τ).loc Cert.KernelPrenormIdeal.main_arg0) = m ((c.tc : Thread Cert.KernelPrenormIdeal.nD Cert.KernelPrenormIdeal.τ).loc Cert.KernelPrenormIdeal.main_arg0)
      ∧ r.2.mem ((c.tc : Thread Cert.KernelPrenormIdeal.nD Cert.KernelPrenormIdeal.τ).loc Cert.KernelPrenormIdeal.main_arg1) = m ((c.tc : Thread Cert.KernelPrenormIdeal.nD Cert.KernelPrenormIdeal.τ).loc Cert.KernelPrenormIdeal.main_arg1)
      ∧ r.2.mem ((c.tc : Thread Cert.KernelPrenormIdeal.nD Cert.KernelPrenormIdeal.τ).loc Cert.KernelPrenormIdeal.main_arg2) = m ((c.tc : Thread Cert.KernelPrenormIdeal.nD Cert.KernelPrenormIdeal.τ).loc Cert.KernelPrenormIdeal.main_arg2)
      ∧ r.2.mem ((c.tc : Thread Cert.KernelPrenormIdeal.nD Cert.KernelPrenormIdeal.τ).loc Cert.KernelPrenormIdeal.main_arg3) = m ((c.tc : Thread Cert.KernelPrenormIdeal.nD Cert.KernelPrenormIdeal.τ).loc Cert.KernelPrenormIdeal.main_arg3))
      ∧ r.2.sem = fun _ => 0)

def quiescent_ReferencePrenormIdeal [hReferencePrenormIdeal : Cert.ReferencePrenormIdeal.Facts] : Prop :=
  ∀ (m : (ℓ : Loc Cert.ReferencePrenormIdeal.nD Cert.ReferencePrenormIdeal.τ Cert.ReferencePrenormIdeal.sig) → Buf (Elt Ideal) ℓ) (g : Dev Cert.ReferencePrenormIdeal.nD → PrngReg), Pre_ReferencePrenormIdeal m →
    θ_run (Cert.ReferencePrenormIdeal.defs (F := Ideal)) (onTc (τ := Cert.ReferencePrenormIdeal.τ) (Cert.ReferencePrenormIdeal.main (F := Ideal))) ⟨m, fun _ => 0, g⟩ (fun r => (∀ c : Dev Cert.ReferencePrenormIdeal.nD,
      r.2.mem ((c.tc : Thread Cert.ReferencePrenormIdeal.nD Cert.ReferencePrenormIdeal.τ).loc Cert.ReferencePrenormIdeal.main_arg0) = m ((c.tc : Thread Cert.ReferencePrenormIdeal.nD Cert.ReferencePrenormIdeal.τ).loc Cert.ReferencePrenormIdeal.main_arg0)
      ∧ r.2.mem ((c.tc : Thread Cert.ReferencePrenormIdeal.nD Cert.ReferencePrenormIdeal.τ).loc Cert.ReferencePrenormIdeal.main_arg1) = m ((c.tc : Thread Cert.ReferencePrenormIdeal.nD Cert.ReferencePrenormIdeal.τ).loc Cert.ReferencePrenormIdeal.main_arg1)
      ∧ r.2.mem ((c.tc : Thread Cert.ReferencePrenormIdeal.nD Cert.ReferencePrenormIdeal.τ).loc Cert.ReferencePrenormIdeal.main_arg2) = m ((c.tc : Thread Cert.ReferencePrenormIdeal.nD Cert.ReferencePrenormIdeal.τ).loc Cert.ReferencePrenormIdeal.main_arg2)
      ∧ r.2.mem ((c.tc : Thread Cert.ReferencePrenormIdeal.nD Cert.ReferencePrenormIdeal.τ).loc Cert.ReferencePrenormIdeal.main_arg3) = m ((c.tc : Thread Cert.ReferencePrenormIdeal.nD Cert.ReferencePrenormIdeal.τ).loc Cert.ReferencePrenormIdeal.main_arg3))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2))
      ∧ r.2.sem = fun _ => 0)

def quiescent_KernelFwdIdeal_pre_finite_fwd [hKernelFwdIdeal : Cert.KernelFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal_finite_fwd m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2))
      ∧ r.2.sem = fun _ => 0)

def quiescent_ReferenceFwdIdeal_pre_finite_fwd [hReferenceFwdIdeal : Cert.ReferenceFwdIdeal.Facts] [hPre_finite_fwd : Cert.Pre_finite_fwd.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal_finite_fwd m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelDwUp_KernelDwUpIdeal : Prop :=
  True

def algebraic_KernelDwUpIdeal_ReferenceDwUpIdeal [hKernelDwUpIdeal : Cert.KernelDwUpIdeal.Facts] [hReferenceDwUpIdeal : Cert.ReferenceDwUpIdeal.Facts] : Prop :=
  ∀ (m : (ℓ : Loc Cert.KernelDwUpIdeal.nD Cert.KernelDwUpIdeal.τ Cert.KernelDwUpIdeal.sig) → Buf (Elt Ideal) ℓ) (g : Dev Cert.KernelDwUpIdeal.nD → PrngReg)
    (m' : (ℓ : Loc Cert.ReferenceDwUpIdeal.nD Cert.ReferenceDwUpIdeal.τ Cert.ReferenceDwUpIdeal.sig) → Buf (Elt Ideal) ℓ) (g' : Dev Cert.ReferenceDwUpIdeal.nD → PrngReg), Pre_KernelDwUpIdeal m →
    (∀ c : Dev Cert.KernelDwUpIdeal.nD,
      m' ((c.tc : Thread Cert.ReferenceDwUpIdeal.nD Cert.ReferenceDwUpIdeal.τ).loc Cert.ReferenceDwUpIdeal.main_arg0) = m ((c.tc : Thread Cert.KernelDwUpIdeal.nD Cert.KernelDwUpIdeal.τ).loc Cert.KernelDwUpIdeal.main_arg0)
      ∧ m' ((c.tc : Thread Cert.ReferenceDwUpIdeal.nD Cert.ReferenceDwUpIdeal.τ).loc Cert.ReferenceDwUpIdeal.main_arg1) = m ((c.tc : Thread Cert.KernelDwUpIdeal.nD Cert.KernelDwUpIdeal.τ).loc Cert.KernelDwUpIdeal.main_arg1)
      ∧ m' ((c.tc : Thread Cert.ReferenceDwUpIdeal.nD Cert.ReferenceDwUpIdeal.τ).loc Cert.ReferenceDwUpIdeal.main_arg2) = m ((c.tc : Thread Cert.KernelDwUpIdeal.nD Cert.KernelDwUpIdeal.τ).loc Cert.KernelDwUpIdeal.main_arg2)) →
    ∃ (v0 : (c : Dev Cert.KernelDwUpIdeal.nD) → Buf (Elt Ideal) ((c.tc : Thread Cert.KernelDwUpIdeal.nD Cert.KernelDwUpIdeal.τ).loc Cert.KernelDwUpIdeal.main_v2)),
      θ_run (Cert.KernelDwUpIdeal.defs (F := Ideal)) (onTc (τ := Cert.KernelDwUpIdeal.τ) (Cert.KernelDwUpIdeal.main (F := Ideal))) ⟨m, fun _ => 0, g⟩ (fun r => ∀ c : Dev Cert.KernelDwUpIdeal.nD,
          r.2.mem ((c.tc : Thread Cert.KernelDwUpIdeal.nD Cert.KernelDwUpIdeal.τ).loc Cert.KernelDwUpIdeal.main_v2) = v0 c
          ∧ r.2.mem ((c.tc : Thread Cert.KernelDwUpIdeal.nD Cert.KernelDwUpIdeal.τ).loc Cert.KernelDwUpIdeal.main_arg0) = m ((c.tc : Thread Cert.KernelDwUpIdeal.nD Cert.KernelDwUpIdeal.τ).loc Cert.KernelDwUpIdeal.main_arg0)
          ∧ r.2.mem ((c.tc : Thread Cert.KernelDwUpIdeal.nD Cert.KernelDwUpIdeal.τ).loc Cert.KernelDwUpIdeal.main_arg1) = m ((c.tc : Thread Cert.KernelDwUpIdeal.nD Cert.KernelDwUpIdeal.τ).loc Cert.KernelDwUpIdeal.main_arg1)
          ∧ r.2.mem ((c.tc : Thread Cert.KernelDwUpIdeal.nD Cert.KernelDwUpIdeal.τ).loc Cert.KernelDwUpIdeal.main_arg2) = m ((c.tc : Thread Cert.KernelDwUpIdeal.nD Cert.KernelDwUpIdeal.τ).loc Cert.KernelDwUpIdeal.main_arg2))
      ∧ θ_run (Cert.ReferenceDwUpIdeal.defs (F := Ideal)) (onTc (τ := Cert.ReferenceDwUpIdeal.τ) (Cert.ReferenceDwUpIdeal.main (F := Ideal))) ⟨m', fun _ => 0, g'⟩ (fun r => ∀ c : Dev Cert.ReferenceDwUpIdeal.nD,
          r.2.mem ((c.tc : Thread Cert.ReferenceDwUpIdeal.nD Cert.ReferenceDwUpIdeal.τ).loc Cert.ReferenceDwUpIdeal.main_v2) = v0 c
          ∧ r.2.mem ((c.tc : Thread Cert.ReferenceDwUpIdeal.nD Cert.ReferenceDwUpIdeal.τ).loc Cert.ReferenceDwUpIdeal.main_arg0) = m' ((c.tc : Thread Cert.ReferenceDwUpIdeal.nD Cert.ReferenceDwUpIdeal.τ).loc Cert.ReferenceDwUpIdeal.main_arg0)
          ∧ r.2.mem ((c.tc : Thread Cert.ReferenceDwUpIdeal.nD Cert.ReferenceDwUpIdeal.τ).loc Cert.ReferenceDwUpIdeal.main_arg1) = m' ((c.tc : Thread Cert.ReferenceDwUpIdeal.nD Cert.ReferenceDwUpIdeal.τ).loc Cert.ReferenceDwUpIdeal.main_arg1)
          ∧ r.2.mem ((c.tc : Thread Cert.ReferenceDwUpIdeal.nD Cert.ReferenceDwUpIdeal.τ).loc Cert.ReferenceDwUpIdeal.main_arg2) = m' ((c.tc : Thread Cert.ReferenceDwUpIdeal.nD Cert.ReferenceDwUpIdeal.τ).loc Cert.ReferenceDwUpIdeal.main_arg2))

def preserves_KernelDn2_KernelDn2Ideal : Prop :=
  True

def algebraic_KernelDn2Ideal_ReferenceDn2Ideal [hKernelDn2Ideal : Cert.KernelDn2Ideal.Facts] [hReferenceDn2Ideal : Cert.ReferenceDn2Ideal.Facts] : Prop :=
  ∀ (m : (ℓ : Loc Cert.KernelDn2Ideal.nD Cert.KernelDn2Ideal.τ Cert.KernelDn2Ideal.sig) → Buf (Elt Ideal) ℓ) (g : Dev Cert.KernelDn2Ideal.nD → PrngReg)
    (m' : (ℓ : Loc Cert.ReferenceDn2Ideal.nD Cert.ReferenceDn2Ideal.τ Cert.ReferenceDn2Ideal.sig) → Buf (Elt Ideal) ℓ) (g' : Dev Cert.ReferenceDn2Ideal.nD → PrngReg), Pre_KernelDn2Ideal m →
    (∀ c : Dev Cert.KernelDn2Ideal.nD,
      m' ((c.tc : Thread Cert.ReferenceDn2Ideal.nD Cert.ReferenceDn2Ideal.τ).loc Cert.ReferenceDn2Ideal.main_arg0) = m ((c.tc : Thread Cert.KernelDn2Ideal.nD Cert.KernelDn2Ideal.τ).loc Cert.KernelDn2Ideal.main_arg0)
      ∧ m' ((c.tc : Thread Cert.ReferenceDn2Ideal.nD Cert.ReferenceDn2Ideal.τ).loc Cert.ReferenceDn2Ideal.main_arg1) = m ((c.tc : Thread Cert.KernelDn2Ideal.nD Cert.KernelDn2Ideal.τ).loc Cert.KernelDn2Ideal.main_arg1)
      ∧ m' ((c.tc : Thread Cert.ReferenceDn2Ideal.nD Cert.ReferenceDn2Ideal.τ).loc Cert.ReferenceDn2Ideal.main_arg2) = m ((c.tc : Thread Cert.KernelDn2Ideal.nD Cert.KernelDn2Ideal.τ).loc Cert.KernelDn2Ideal.main_arg2)) →
    ∃ (v0 : (c : Dev Cert.KernelDn2Ideal.nD) → Buf (Elt Ideal) ((c.tc : Thread Cert.KernelDn2Ideal.nD Cert.KernelDn2Ideal.τ).loc Cert.KernelDn2Ideal.main_v2)),
      θ_run (Cert.KernelDn2Ideal.defs (F := Ideal)) (onTc (τ := Cert.KernelDn2Ideal.τ) (Cert.KernelDn2Ideal.main (F := Ideal))) ⟨m, fun _ => 0, g⟩ (fun r => ∀ c : Dev Cert.KernelDn2Ideal.nD,
          r.2.mem ((c.tc : Thread Cert.KernelDn2Ideal.nD Cert.KernelDn2Ideal.τ).loc Cert.KernelDn2Ideal.main_v2) = v0 c
          ∧ r.2.mem ((c.tc : Thread Cert.KernelDn2Ideal.nD Cert.KernelDn2Ideal.τ).loc Cert.KernelDn2Ideal.main_arg0) = m ((c.tc : Thread Cert.KernelDn2Ideal.nD Cert.KernelDn2Ideal.τ).loc Cert.KernelDn2Ideal.main_arg0)
          ∧ r.2.mem ((c.tc : Thread Cert.KernelDn2Ideal.nD Cert.KernelDn2Ideal.τ).loc Cert.KernelDn2Ideal.main_arg1) = m ((c.tc : Thread Cert.KernelDn2Ideal.nD Cert.KernelDn2Ideal.τ).loc Cert.KernelDn2Ideal.main_arg1)
          ∧ r.2.mem ((c.tc : Thread Cert.KernelDn2Ideal.nD Cert.KernelDn2Ideal.τ).loc Cert.KernelDn2Ideal.main_arg2) = m ((c.tc : Thread Cert.KernelDn2Ideal.nD Cert.KernelDn2Ideal.τ).loc Cert.KernelDn2Ideal.main_arg2))
      ∧ θ_run (Cert.ReferenceDn2Ideal.defs (F := Ideal)) (onTc (τ := Cert.ReferenceDn2Ideal.τ) (Cert.ReferenceDn2Ideal.main (F := Ideal))) ⟨m', fun _ => 0, g'⟩ (fun r => ∀ c : Dev Cert.ReferenceDn2Ideal.nD,
          r.2.mem ((c.tc : Thread Cert.ReferenceDn2Ideal.nD Cert.ReferenceDn2Ideal.τ).loc Cert.ReferenceDn2Ideal.main_v3) = v0 c
          ∧ r.2.mem ((c.tc : Thread Cert.ReferenceDn2Ideal.nD Cert.ReferenceDn2Ideal.τ).loc Cert.ReferenceDn2Ideal.main_arg0) = m' ((c.tc : Thread Cert.ReferenceDn2Ideal.nD Cert.ReferenceDn2Ideal.τ).loc Cert.ReferenceDn2Ideal.main_arg0)
          ∧ r.2.mem ((c.tc : Thread Cert.ReferenceDn2Ideal.nD Cert.ReferenceDn2Ideal.τ).loc Cert.ReferenceDn2Ideal.main_arg1) = m' ((c.tc : Thread Cert.ReferenceDn2Ideal.nD Cert.ReferenceDn2Ideal.τ).loc Cert.ReferenceDn2Ideal.main_arg1)
          ∧ r.2.mem ((c.tc : Thread Cert.ReferenceDn2Ideal.nD Cert.ReferenceDn2Ideal.τ).loc Cert.ReferenceDn2Ideal.main_arg2) = m' ((c.tc : Thread Cert.ReferenceDn2Ideal.nD Cert.ReferenceDn2Ideal.τ).loc Cert.ReferenceDn2Ideal.main_arg2))

def preserves_KernelDwDown_KernelDwDownIdeal : Prop :=
  True

def algebraic_KernelDwDownIdeal_ReferenceDwDownIdeal [hKernelDwDownIdeal : Cert.KernelDwDownIdeal.Facts] [hReferenceDwDownIdeal : Cert.ReferenceDwDownIdeal.Facts] : Prop :=
  ∀ (m : (ℓ : Loc Cert.KernelDwDownIdeal.nD Cert.KernelDwDownIdeal.τ Cert.KernelDwDownIdeal.sig) → Buf (Elt Ideal) ℓ) (g : Dev Cert.KernelDwDownIdeal.nD → PrngReg)
    (m' : (ℓ : Loc Cert.ReferenceDwDownIdeal.nD Cert.ReferenceDwDownIdeal.τ Cert.ReferenceDwDownIdeal.sig) → Buf (Elt Ideal) ℓ) (g' : Dev Cert.ReferenceDwDownIdeal.nD → PrngReg), Pre_KernelDwDownIdeal m →
    (∀ c : Dev Cert.KernelDwDownIdeal.nD,
      m' ((c.tc : Thread Cert.ReferenceDwDownIdeal.nD Cert.ReferenceDwDownIdeal.τ).loc Cert.ReferenceDwDownIdeal.main_arg0) = m ((c.tc : Thread Cert.KernelDwDownIdeal.nD Cert.KernelDwDownIdeal.τ).loc Cert.KernelDwDownIdeal.main_arg0)
      ∧ m' ((c.tc : Thread Cert.ReferenceDwDownIdeal.nD Cert.ReferenceDwDownIdeal.τ).loc Cert.ReferenceDwDownIdeal.main_arg1) = m ((c.tc : Thread Cert.KernelDwDownIdeal.nD Cert.KernelDwDownIdeal.τ).loc Cert.KernelDwDownIdeal.main_arg1)
      ∧ m' ((c.tc : Thread Cert.ReferenceDwDownIdeal.nD Cert.ReferenceDwDownIdeal.τ).loc Cert.ReferenceDwDownIdeal.main_arg2) = m ((c.tc : Thread Cert.KernelDwDownIdeal.nD Cert.KernelDwDownIdeal.τ).loc Cert.KernelDwDownIdeal.main_arg2)) →
    ∃ (v0 : (c : Dev Cert.KernelDwDownIdeal.nD) → Buf (Elt Ideal) ((c.tc : Thread Cert.KernelDwDownIdeal.nD Cert.KernelDwDownIdeal.τ).loc Cert.KernelDwDownIdeal.main_v2)),
      θ_run (Cert.KernelDwDownIdeal.defs (F := Ideal)) (onTc (τ := Cert.KernelDwDownIdeal.τ) (Cert.KernelDwDownIdeal.main (F := Ideal))) ⟨m, fun _ => 0, g⟩ (fun r => ∀ c : Dev Cert.KernelDwDownIdeal.nD,
          r.2.mem ((c.tc : Thread Cert.KernelDwDownIdeal.nD Cert.KernelDwDownIdeal.τ).loc Cert.KernelDwDownIdeal.main_v2) = v0 c
          ∧ r.2.mem ((c.tc : Thread Cert.KernelDwDownIdeal.nD Cert.KernelDwDownIdeal.τ).loc Cert.KernelDwDownIdeal.main_arg0) = m ((c.tc : Thread Cert.KernelDwDownIdeal.nD Cert.KernelDwDownIdeal.τ).loc Cert.KernelDwDownIdeal.main_arg0)
          ∧ r.2.mem ((c.tc : Thread Cert.KernelDwDownIdeal.nD Cert.KernelDwDownIdeal.τ).loc Cert.KernelDwDownIdeal.main_arg1) = m ((c.tc : Thread Cert.KernelDwDownIdeal.nD Cert.KernelDwDownIdeal.τ).loc Cert.KernelDwDownIdeal.main_arg1)
          ∧ r.2.mem ((c.tc : Thread Cert.KernelDwDownIdeal.nD Cert.KernelDwDownIdeal.τ).loc Cert.KernelDwDownIdeal.main_arg2) = m ((c.tc : Thread Cert.KernelDwDownIdeal.nD Cert.KernelDwDownIdeal.τ).loc Cert.KernelDwDownIdeal.main_arg2))
      ∧ θ_run (Cert.ReferenceDwDownIdeal.defs (F := Ideal)) (onTc (τ := Cert.ReferenceDwDownIdeal.τ) (Cert.ReferenceDwDownIdeal.main (F := Ideal))) ⟨m', fun _ => 0, g'⟩ (fun r => ∀ c : Dev Cert.ReferenceDwDownIdeal.nD,
          r.2.mem ((c.tc : Thread Cert.ReferenceDwDownIdeal.nD Cert.ReferenceDwDownIdeal.τ).loc Cert.ReferenceDwDownIdeal.main_v2) = v0 c
          ∧ r.2.mem ((c.tc : Thread Cert.ReferenceDwDownIdeal.nD Cert.ReferenceDwDownIdeal.τ).loc Cert.ReferenceDwDownIdeal.main_arg0) = m' ((c.tc : Thread Cert.ReferenceDwDownIdeal.nD Cert.ReferenceDwDownIdeal.τ).loc Cert.ReferenceDwDownIdeal.main_arg0)
          ∧ r.2.mem ((c.tc : Thread Cert.ReferenceDwDownIdeal.nD Cert.ReferenceDwDownIdeal.τ).loc Cert.ReferenceDwDownIdeal.main_arg1) = m' ((c.tc : Thread Cert.ReferenceDwDownIdeal.nD Cert.ReferenceDwDownIdeal.τ).loc Cert.ReferenceDwDownIdeal.main_arg1)
          ∧ r.2.mem ((c.tc : Thread Cert.ReferenceDwDownIdeal.nD Cert.ReferenceDwDownIdeal.τ).loc Cert.ReferenceDwDownIdeal.main_arg2) = m' ((c.tc : Thread Cert.ReferenceDwDownIdeal.nD Cert.ReferenceDwDownIdeal.τ).loc Cert.ReferenceDwDownIdeal.main_arg2))

def preserves_KernelDact_KernelDactIdeal : Prop :=
  True

def algebraic_KernelDactIdeal_ReferenceDactIdeal [hKernelDactIdeal : Cert.KernelDactIdeal.Facts] [hReferenceDactIdeal : Cert.ReferenceDactIdeal.Facts] : Prop :=
  ∀ (m : (ℓ : Loc Cert.KernelDactIdeal.nD Cert.KernelDactIdeal.τ Cert.KernelDactIdeal.sig) → Buf (Elt Ideal) ℓ) (g : Dev Cert.KernelDactIdeal.nD → PrngReg)
    (m' : (ℓ : Loc Cert.ReferenceDactIdeal.nD Cert.ReferenceDactIdeal.τ Cert.ReferenceDactIdeal.sig) → Buf (Elt Ideal) ℓ) (g' : Dev Cert.ReferenceDactIdeal.nD → PrngReg), Pre_KernelDactIdeal m →
    (∀ c : Dev Cert.KernelDactIdeal.nD,
      m' ((c.tc : Thread Cert.ReferenceDactIdeal.nD Cert.ReferenceDactIdeal.τ).loc Cert.ReferenceDactIdeal.main_arg0) = m ((c.tc : Thread Cert.KernelDactIdeal.nD Cert.KernelDactIdeal.τ).loc Cert.KernelDactIdeal.main_arg0)
      ∧ m' ((c.tc : Thread Cert.ReferenceDactIdeal.nD Cert.ReferenceDactIdeal.τ).loc Cert.ReferenceDactIdeal.main_arg1) = m ((c.tc : Thread Cert.KernelDactIdeal.nD Cert.KernelDactIdeal.τ).loc Cert.KernelDactIdeal.main_arg1)
      ∧ m' ((c.tc : Thread Cert.ReferenceDactIdeal.nD Cert.ReferenceDactIdeal.τ).loc Cert.ReferenceDactIdeal.main_arg2) = m ((c.tc : Thread Cert.KernelDactIdeal.nD Cert.KernelDactIdeal.τ).loc Cert.KernelDactIdeal.main_arg2)) →
    ∃ (v0 : (c : Dev Cert.KernelDactIdeal.nD) → Buf (Elt Ideal) ((c.tc : Thread Cert.KernelDactIdeal.nD Cert.KernelDactIdeal.τ).loc Cert.KernelDactIdeal.main_v2)),
      θ_run (Cert.KernelDactIdeal.defs (F := Ideal)) (onTc (τ := Cert.KernelDactIdeal.τ) (Cert.KernelDactIdeal.main (F := Ideal))) ⟨m, fun _ => 0, g⟩ (fun r => ∀ c : Dev Cert.KernelDactIdeal.nD,
          r.2.mem ((c.tc : Thread Cert.KernelDactIdeal.nD Cert.KernelDactIdeal.τ).loc Cert.KernelDactIdeal.main_v2) = v0 c
          ∧ r.2.mem ((c.tc : Thread Cert.KernelDactIdeal.nD Cert.KernelDactIdeal.τ).loc Cert.KernelDactIdeal.main_arg0) = m ((c.tc : Thread Cert.KernelDactIdeal.nD Cert.KernelDactIdeal.τ).loc Cert.KernelDactIdeal.main_arg0)
          ∧ r.2.mem ((c.tc : Thread Cert.KernelDactIdeal.nD Cert.KernelDactIdeal.τ).loc Cert.KernelDactIdeal.main_arg1) = m ((c.tc : Thread Cert.KernelDactIdeal.nD Cert.KernelDactIdeal.τ).loc Cert.KernelDactIdeal.main_arg1)
          ∧ r.2.mem ((c.tc : Thread Cert.KernelDactIdeal.nD Cert.KernelDactIdeal.τ).loc Cert.KernelDactIdeal.main_arg2) = m ((c.tc : Thread Cert.KernelDactIdeal.nD Cert.KernelDactIdeal.τ).loc Cert.KernelDactIdeal.main_arg2))
      ∧ θ_run (Cert.ReferenceDactIdeal.defs (F := Ideal)) (onTc (τ := Cert.ReferenceDactIdeal.τ) (Cert.ReferenceDactIdeal.main (F := Ideal))) ⟨m', fun _ => 0, g'⟩ (fun r => ∀ c : Dev Cert.ReferenceDactIdeal.nD,
          r.2.mem ((c.tc : Thread Cert.ReferenceDactIdeal.nD Cert.ReferenceDactIdeal.τ).loc Cert.ReferenceDactIdeal.main_v3) = v0 c
          ∧ r.2.mem ((c.tc : Thread Cert.ReferenceDactIdeal.nD Cert.ReferenceDactIdeal.τ).loc Cert.ReferenceDactIdeal.main_arg0) = m' ((c.tc : Thread Cert.ReferenceDactIdeal.nD Cert.ReferenceDactIdeal.τ).loc Cert.ReferenceDactIdeal.main_arg0)
          ∧ r.2.mem ((c.tc : Thread Cert.ReferenceDactIdeal.nD Cert.ReferenceDactIdeal.τ).loc Cert.ReferenceDactIdeal.main_arg1) = m' ((c.tc : Thread Cert.ReferenceDactIdeal.nD Cert.ReferenceDactIdeal.τ).loc Cert.ReferenceDactIdeal.main_arg1)
          ∧ r.2.mem ((c.tc : Thread Cert.ReferenceDactIdeal.nD Cert.ReferenceDactIdeal.τ).loc Cert.ReferenceDactIdeal.main_arg2) = m' ((c.tc : Thread Cert.ReferenceDactIdeal.nD Cert.ReferenceDactIdeal.τ).loc Cert.ReferenceDactIdeal.main_arg2))

def preserves_KernelDwOut_KernelDwOutIdeal : Prop :=
  True

def algebraic_KernelDwOutIdeal_ReferenceDwOutIdeal [hKernelDwOutIdeal : Cert.KernelDwOutIdeal.Facts] [hReferenceDwOutIdeal : Cert.ReferenceDwOutIdeal.Facts] : Prop :=
  ∀ (m : (ℓ : Loc Cert.KernelDwOutIdeal.nD Cert.KernelDwOutIdeal.τ Cert.KernelDwOutIdeal.sig) → Buf (Elt Ideal) ℓ) (g : Dev Cert.KernelDwOutIdeal.nD → PrngReg)
    (m' : (ℓ : Loc Cert.ReferenceDwOutIdeal.nD Cert.ReferenceDwOutIdeal.τ Cert.ReferenceDwOutIdeal.sig) → Buf (Elt Ideal) ℓ) (g' : Dev Cert.ReferenceDwOutIdeal.nD → PrngReg), Pre_KernelDwOutIdeal m →
    (∀ c : Dev Cert.KernelDwOutIdeal.nD,
      m' ((c.tc : Thread Cert.ReferenceDwOutIdeal.nD Cert.ReferenceDwOutIdeal.τ).loc Cert.ReferenceDwOutIdeal.main_arg0) = m ((c.tc : Thread Cert.KernelDwOutIdeal.nD Cert.KernelDwOutIdeal.τ).loc Cert.KernelDwOutIdeal.main_arg0)
      ∧ m' ((c.tc : Thread Cert.ReferenceDwOutIdeal.nD Cert.ReferenceDwOutIdeal.τ).loc Cert.ReferenceDwOutIdeal.main_arg1) = m ((c.tc : Thread Cert.KernelDwOutIdeal.nD Cert.KernelDwOutIdeal.τ).loc Cert.KernelDwOutIdeal.main_arg1)
      ∧ m' ((c.tc : Thread Cert.ReferenceDwOutIdeal.nD Cert.ReferenceDwOutIdeal.τ).loc Cert.ReferenceDwOutIdeal.main_arg2) = m ((c.tc : Thread Cert.KernelDwOutIdeal.nD Cert.KernelDwOutIdeal.τ).loc Cert.KernelDwOutIdeal.main_arg2)) →
    ∃ (v0 : (c : Dev Cert.KernelDwOutIdeal.nD) → Buf (Elt Ideal) ((c.tc : Thread Cert.KernelDwOutIdeal.nD Cert.KernelDwOutIdeal.τ).loc Cert.KernelDwOutIdeal.main_v2)),
      θ_run (Cert.KernelDwOutIdeal.defs (F := Ideal)) (onTc (τ := Cert.KernelDwOutIdeal.τ) (Cert.KernelDwOutIdeal.main (F := Ideal))) ⟨m, fun _ => 0, g⟩ (fun r => ∀ c : Dev Cert.KernelDwOutIdeal.nD,
          r.2.mem ((c.tc : Thread Cert.KernelDwOutIdeal.nD Cert.KernelDwOutIdeal.τ).loc Cert.KernelDwOutIdeal.main_v2) = v0 c
          ∧ r.2.mem ((c.tc : Thread Cert.KernelDwOutIdeal.nD Cert.KernelDwOutIdeal.τ).loc Cert.KernelDwOutIdeal.main_arg0) = m ((c.tc : Thread Cert.KernelDwOutIdeal.nD Cert.KernelDwOutIdeal.τ).loc Cert.KernelDwOutIdeal.main_arg0)
          ∧ r.2.mem ((c.tc : Thread Cert.KernelDwOutIdeal.nD Cert.KernelDwOutIdeal.τ).loc Cert.KernelDwOutIdeal.main_arg1) = m ((c.tc : Thread Cert.KernelDwOutIdeal.nD Cert.KernelDwOutIdeal.τ).loc Cert.KernelDwOutIdeal.main_arg1)
          ∧ r.2.mem ((c.tc : Thread Cert.KernelDwOutIdeal.nD Cert.KernelDwOutIdeal.τ).loc Cert.KernelDwOutIdeal.main_arg2) = m ((c.tc : Thread Cert.KernelDwOutIdeal.nD Cert.KernelDwOutIdeal.τ).loc Cert.KernelDwOutIdeal.main_arg2))
      ∧ θ_run (Cert.ReferenceDwOutIdeal.defs (F := Ideal)) (onTc (τ := Cert.ReferenceDwOutIdeal.τ) (Cert.ReferenceDwOutIdeal.main (F := Ideal))) ⟨m', fun _ => 0, g'⟩ (fun r => ∀ c : Dev Cert.ReferenceDwOutIdeal.nD,
          r.2.mem ((c.tc : Thread Cert.ReferenceDwOutIdeal.nD Cert.ReferenceDwOutIdeal.τ).loc Cert.ReferenceDwOutIdeal.main_v2) = v0 c
          ∧ r.2.mem ((c.tc : Thread Cert.ReferenceDwOutIdeal.nD Cert.ReferenceDwOutIdeal.τ).loc Cert.ReferenceDwOutIdeal.main_arg0) = m' ((c.tc : Thread Cert.ReferenceDwOutIdeal.nD Cert.ReferenceDwOutIdeal.τ).loc Cert.ReferenceDwOutIdeal.main_arg0)
          ∧ r.2.mem ((c.tc : Thread Cert.ReferenceDwOutIdeal.nD Cert.ReferenceDwOutIdeal.τ).loc Cert.ReferenceDwOutIdeal.main_arg1) = m' ((c.tc : Thread Cert.ReferenceDwOutIdeal.nD Cert.ReferenceDwOutIdeal.τ).loc Cert.ReferenceDwOutIdeal.main_arg1)
          ∧ r.2.mem ((c.tc : Thread Cert.ReferenceDwOutIdeal.nD Cert.ReferenceDwOutIdeal.τ).loc Cert.ReferenceDwOutIdeal.main_arg2) = m' ((c.tc : Thread Cert.ReferenceDwOutIdeal.nD Cert.ReferenceDwOutIdeal.τ).loc Cert.ReferenceDwOutIdeal.main_arg2))

def preserves_KernelDy_KernelDyIdeal : Prop :=
  True

def algebraic_KernelDyIdeal_ReferenceDyIdeal [hKernelDyIdeal : Cert.KernelDyIdeal.Facts] [hReferenceDyIdeal : Cert.ReferenceDyIdeal.Facts] : Prop :=
  ∀ (m : (ℓ : Loc Cert.KernelDyIdeal.nD Cert.KernelDyIdeal.τ Cert.KernelDyIdeal.sig) → Buf (Elt Ideal) ℓ) (g : Dev Cert.KernelDyIdeal.nD → PrngReg)
    (m' : (ℓ : Loc Cert.ReferenceDyIdeal.nD Cert.ReferenceDyIdeal.τ Cert.ReferenceDyIdeal.sig) → Buf (Elt Ideal) ℓ) (g' : Dev Cert.ReferenceDyIdeal.nD → PrngReg), Pre_KernelDyIdeal m →
    (∀ c : Dev Cert.KernelDyIdeal.nD,
      m' ((c.tc : Thread Cert.ReferenceDyIdeal.nD Cert.ReferenceDyIdeal.τ).loc Cert.ReferenceDyIdeal.main_arg0) = m ((c.tc : Thread Cert.KernelDyIdeal.nD Cert.KernelDyIdeal.τ).loc Cert.KernelDyIdeal.main_arg0)
      ∧ m' ((c.tc : Thread Cert.ReferenceDyIdeal.nD Cert.ReferenceDyIdeal.τ).loc Cert.ReferenceDyIdeal.main_arg1) = m ((c.tc : Thread Cert.KernelDyIdeal.nD Cert.KernelDyIdeal.τ).loc Cert.KernelDyIdeal.main_arg1)
      ∧ m' ((c.tc : Thread Cert.ReferenceDyIdeal.nD Cert.ReferenceDyIdeal.τ).loc Cert.ReferenceDyIdeal.main_arg2) = m ((c.tc : Thread Cert.KernelDyIdeal.nD Cert.KernelDyIdeal.τ).loc Cert.KernelDyIdeal.main_arg2)) →
    ∃ (v0 : (c : Dev Cert.KernelDyIdeal.nD) → Buf (Elt Ideal) ((c.tc : Thread Cert.KernelDyIdeal.nD Cert.KernelDyIdeal.τ).loc Cert.KernelDyIdeal.main_v2)),
      θ_run (Cert.KernelDyIdeal.defs (F := Ideal)) (onTc (τ := Cert.KernelDyIdeal.τ) (Cert.KernelDyIdeal.main (F := Ideal))) ⟨m, fun _ => 0, g⟩ (fun r => ∀ c : Dev Cert.KernelDyIdeal.nD,
          r.2.mem ((c.tc : Thread Cert.KernelDyIdeal.nD Cert.KernelDyIdeal.τ).loc Cert.KernelDyIdeal.main_v2) = v0 c
          ∧ r.2.mem ((c.tc : Thread Cert.KernelDyIdeal.nD Cert.KernelDyIdeal.τ).loc Cert.KernelDyIdeal.main_arg0) = m ((c.tc : Thread Cert.KernelDyIdeal.nD Cert.KernelDyIdeal.τ).loc Cert.KernelDyIdeal.main_arg0)
          ∧ r.2.mem ((c.tc : Thread Cert.KernelDyIdeal.nD Cert.KernelDyIdeal.τ).loc Cert.KernelDyIdeal.main_arg1) = m ((c.tc : Thread Cert.KernelDyIdeal.nD Cert.KernelDyIdeal.τ).loc Cert.KernelDyIdeal.main_arg1)
          ∧ r.2.mem ((c.tc : Thread Cert.KernelDyIdeal.nD Cert.KernelDyIdeal.τ).loc Cert.KernelDyIdeal.main_arg2) = m ((c.tc : Thread Cert.KernelDyIdeal.nD Cert.KernelDyIdeal.τ).loc Cert.KernelDyIdeal.main_arg2))
      ∧ θ_run (Cert.ReferenceDyIdeal.defs (F := Ideal)) (onTc (τ := Cert.ReferenceDyIdeal.τ) (Cert.ReferenceDyIdeal.main (F := Ideal))) ⟨m', fun _ => 0, g'⟩ (fun r => ∀ c : Dev Cert.ReferenceDyIdeal.nD,
          r.2.mem ((c.tc : Thread Cert.ReferenceDyIdeal.nD Cert.ReferenceDyIdeal.τ).loc Cert.ReferenceDyIdeal.main_v3) = v0 c
          ∧ r.2.mem ((c.tc : Thread Cert.ReferenceDyIdeal.nD Cert.ReferenceDyIdeal.τ).loc Cert.ReferenceDyIdeal.main_arg0) = m' ((c.tc : Thread Cert.ReferenceDyIdeal.nD Cert.ReferenceDyIdeal.τ).loc Cert.ReferenceDyIdeal.main_arg0)
          ∧ r.2.mem ((c.tc : Thread Cert.ReferenceDyIdeal.nD Cert.ReferenceDyIdeal.τ).loc Cert.ReferenceDyIdeal.main_arg1) = m' ((c.tc : Thread Cert.ReferenceDyIdeal.nD Cert.ReferenceDyIdeal.τ).loc Cert.ReferenceDyIdeal.main_arg1)
          ∧ r.2.mem ((c.tc : Thread Cert.ReferenceDyIdeal.nD Cert.ReferenceDyIdeal.τ).loc Cert.ReferenceDyIdeal.main_arg2) = m' ((c.tc : Thread Cert.ReferenceDyIdeal.nD Cert.ReferenceDyIdeal.τ).loc Cert.ReferenceDyIdeal.main_arg2))

def preserves_KernelDwInGdn_KernelDwInGdnIdeal : Prop :=
  True

def algebraic_KernelDwInGdnIdeal_ReferenceDwInGdnIdeal [hKernelDwInGdnIdeal : Cert.KernelDwInGdnIdeal.Facts] [hReferenceDwInGdnIdeal : Cert.ReferenceDwInGdnIdeal.Facts] : Prop :=
  ∀ (m : (ℓ : Loc Cert.KernelDwInGdnIdeal.nD Cert.KernelDwInGdnIdeal.τ Cert.KernelDwInGdnIdeal.sig) → Buf (Elt Ideal) ℓ) (g : Dev Cert.KernelDwInGdnIdeal.nD → PrngReg)
    (m' : (ℓ : Loc Cert.ReferenceDwInGdnIdeal.nD Cert.ReferenceDwInGdnIdeal.τ Cert.ReferenceDwInGdnIdeal.sig) → Buf (Elt Ideal) ℓ) (g' : Dev Cert.ReferenceDwInGdnIdeal.nD → PrngReg), Pre_KernelDwInGdnIdeal m →
    (∀ c : Dev Cert.KernelDwInGdnIdeal.nD,
      m' ((c.tc : Thread Cert.ReferenceDwInGdnIdeal.nD Cert.ReferenceDwInGdnIdeal.τ).loc Cert.ReferenceDwInGdnIdeal.main_arg0) = m ((c.tc : Thread Cert.KernelDwInGdnIdeal.nD Cert.KernelDwInGdnIdeal.τ).loc Cert.KernelDwInGdnIdeal.main_arg0)
      ∧ m' ((c.tc : Thread Cert.ReferenceDwInGdnIdeal.nD Cert.ReferenceDwInGdnIdeal.τ).loc Cert.ReferenceDwInGdnIdeal.main_arg1) = m ((c.tc : Thread Cert.KernelDwInGdnIdeal.nD Cert.KernelDwInGdnIdeal.τ).loc Cert.KernelDwInGdnIdeal.main_arg1)
      ∧ m' ((c.tc : Thread Cert.ReferenceDwInGdnIdeal.nD Cert.ReferenceDwInGdnIdeal.τ).loc Cert.ReferenceDwInGdnIdeal.main_arg2) = m ((c.tc : Thread Cert.KernelDwInGdnIdeal.nD Cert.KernelDwInGdnIdeal.τ).loc Cert.KernelDwInGdnIdeal.main_arg2)) →
    ∃ (v0 : (c : Dev Cert.KernelDwInGdnIdeal.nD) → Buf (Elt Ideal) ((c.tc : Thread Cert.KernelDwInGdnIdeal.nD Cert.KernelDwInGdnIdeal.τ).loc Cert.KernelDwInGdnIdeal.main_v3_0)) (v1 : (c : Dev Cert.KernelDwInGdnIdeal.nD) → Buf (Elt Ideal) ((c.tc : Thread Cert.KernelDwInGdnIdeal.nD Cert.KernelDwInGdnIdeal.τ).loc Cert.KernelDwInGdnIdeal.main_v3_1)),
      θ_run (Cert.KernelDwInGdnIdeal.defs (F := Ideal)) (onTc (τ := Cert.KernelDwInGdnIdeal.τ) (Cert.KernelDwInGdnIdeal.main (F := Ideal))) ⟨m, fun _ => 0, g⟩ (fun r => ∀ c : Dev Cert.KernelDwInGdnIdeal.nD,
          r.2.mem ((c.tc : Thread Cert.KernelDwInGdnIdeal.nD Cert.KernelDwInGdnIdeal.τ).loc Cert.KernelDwInGdnIdeal.main_v3_0) = v0 c
          ∧ r.2.mem ((c.tc : Thread Cert.KernelDwInGdnIdeal.nD Cert.KernelDwInGdnIdeal.τ).loc Cert.KernelDwInGdnIdeal.main_v3_1) = v1 c
          ∧ r.2.mem ((c.tc : Thread Cert.KernelDwInGdnIdeal.nD Cert.KernelDwInGdnIdeal.τ).loc Cert.KernelDwInGdnIdeal.main_arg0) = m ((c.tc : Thread Cert.KernelDwInGdnIdeal.nD Cert.KernelDwInGdnIdeal.τ).loc Cert.KernelDwInGdnIdeal.main_arg0)
          ∧ r.2.mem ((c.tc : Thread Cert.KernelDwInGdnIdeal.nD Cert.KernelDwInGdnIdeal.τ).loc Cert.KernelDwInGdnIdeal.main_arg1) = m ((c.tc : Thread Cert.KernelDwInGdnIdeal.nD Cert.KernelDwInGdnIdeal.τ).loc Cert.KernelDwInGdnIdeal.main_arg1)
          ∧ r.2.mem ((c.tc : Thread Cert.KernelDwInGdnIdeal.nD Cert.KernelDwInGdnIdeal.τ).loc Cert.KernelDwInGdnIdeal.main_arg2) = m ((c.tc : Thread Cert.KernelDwInGdnIdeal.nD Cert.KernelDwInGdnIdeal.τ).loc Cert.KernelDwInGdnIdeal.main_arg2))
      ∧ θ_run (Cert.ReferenceDwInGdnIdeal.defs (F := Ideal)) (onTc (τ := Cert.ReferenceDwInGdnIdeal.τ) (Cert.ReferenceDwInGdnIdeal.main (F := Ideal))) ⟨m', fun _ => 0, g'⟩ (fun r => ∀ c : Dev Cert.ReferenceDwInGdnIdeal.nD,
          r.2.mem ((c.tc : Thread Cert.ReferenceDwInGdnIdeal.nD Cert.ReferenceDwInGdnIdeal.τ).loc Cert.ReferenceDwInGdnIdeal.main_v3) = v0 c
          ∧ r.2.mem ((c.tc : Thread Cert.ReferenceDwInGdnIdeal.nD Cert.ReferenceDwInGdnIdeal.τ).loc Cert.ReferenceDwInGdnIdeal.main_v7) = v1 c
          ∧ r.2.mem ((c.tc : Thread Cert.ReferenceDwInGdnIdeal.nD Cert.ReferenceDwInGdnIdeal.τ).loc Cert.ReferenceDwInGdnIdeal.main_arg0) = m' ((c.tc : Thread Cert.ReferenceDwInGdnIdeal.nD Cert.ReferenceDwInGdnIdeal.τ).loc Cert.ReferenceDwInGdnIdeal.main_arg0)
          ∧ r.2.mem ((c.tc : Thread Cert.ReferenceDwInGdnIdeal.nD Cert.ReferenceDwInGdnIdeal.τ).loc Cert.ReferenceDwInGdnIdeal.main_arg1) = m' ((c.tc : Thread Cert.ReferenceDwInGdnIdeal.nD Cert.ReferenceDwInGdnIdeal.τ).loc Cert.ReferenceDwInGdnIdeal.main_arg1)
          ∧ r.2.mem ((c.tc : Thread Cert.ReferenceDwInGdnIdeal.nD Cert.ReferenceDwInGdnIdeal.τ).loc Cert.ReferenceDwInGdnIdeal.main_arg2) = m' ((c.tc : Thread Cert.ReferenceDwInGdnIdeal.nD Cert.ReferenceDwInGdnIdeal.τ).loc Cert.ReferenceDwInGdnIdeal.main_arg2))

def preserves_KernelDwInRest_KernelDwInRestIdeal : Prop :=
  True

def algebraic_KernelDwInRestIdeal_ReferenceDwInRestIdeal [hKernelDwInRestIdeal : Cert.KernelDwInRestIdeal.Facts] [hReferenceDwInRestIdeal : Cert.ReferenceDwInRestIdeal.Facts] : Prop :=
  ∀ (m : (ℓ : Loc Cert.KernelDwInRestIdeal.nD Cert.KernelDwInRestIdeal.τ Cert.KernelDwInRestIdeal.sig) → Buf (Elt Ideal) ℓ) (g : Dev Cert.KernelDwInRestIdeal.nD → PrngReg)
    (m' : (ℓ : Loc Cert.ReferenceDwInRestIdeal.nD Cert.ReferenceDwInRestIdeal.τ Cert.ReferenceDwInRestIdeal.sig) → Buf (Elt Ideal) ℓ) (g' : Dev Cert.ReferenceDwInRestIdeal.nD → PrngReg), Pre_KernelDwInRestIdeal m →
    (∀ c : Dev Cert.KernelDwInRestIdeal.nD,
      m' ((c.tc : Thread Cert.ReferenceDwInRestIdeal.nD Cert.ReferenceDwInRestIdeal.τ).loc Cert.ReferenceDwInRestIdeal.main_arg0) = m ((c.tc : Thread Cert.KernelDwInRestIdeal.nD Cert.KernelDwInRestIdeal.τ).loc Cert.KernelDwInRestIdeal.main_arg0)
      ∧ m' ((c.tc : Thread Cert.ReferenceDwInRestIdeal.nD Cert.ReferenceDwInRestIdeal.τ).loc Cert.ReferenceDwInRestIdeal.main_arg1) = m ((c.tc : Thread Cert.KernelDwInRestIdeal.nD Cert.KernelDwInRestIdeal.τ).loc Cert.KernelDwInRestIdeal.main_arg1)
      ∧ m' ((c.tc : Thread Cert.ReferenceDwInRestIdeal.nD Cert.ReferenceDwInRestIdeal.τ).loc Cert.ReferenceDwInRestIdeal.main_arg2) = m ((c.tc : Thread Cert.KernelDwInRestIdeal.nD Cert.KernelDwInRestIdeal.τ).loc Cert.KernelDwInRestIdeal.main_arg2)
      ∧ m' ((c.tc : Thread Cert.ReferenceDwInRestIdeal.nD Cert.ReferenceDwInRestIdeal.τ).loc Cert.ReferenceDwInRestIdeal.main_arg3) = m ((c.tc : Thread Cert.KernelDwInRestIdeal.nD Cert.KernelDwInRestIdeal.τ).loc Cert.KernelDwInRestIdeal.main_arg3)
      ∧ m' ((c.tc : Thread Cert.ReferenceDwInRestIdeal.nD Cert.ReferenceDwInRestIdeal.τ).loc Cert.ReferenceDwInRestIdeal.main_arg4) = m ((c.tc : Thread Cert.KernelDwInRestIdeal.nD Cert.KernelDwInRestIdeal.τ).loc Cert.KernelDwInRestIdeal.main_arg4)) →
    ∃ (v0 : (c : Dev Cert.KernelDwInRestIdeal.nD) → Buf (Elt Ideal) ((c.tc : Thread Cert.KernelDwInRestIdeal.nD Cert.KernelDwInRestIdeal.τ).loc Cert.KernelDwInRestIdeal.main_v3_0)) (v1 : (c : Dev Cert.KernelDwInRestIdeal.nD) → Buf (Elt Ideal) ((c.tc : Thread Cert.KernelDwInRestIdeal.nD Cert.KernelDwInRestIdeal.τ).loc Cert.KernelDwInRestIdeal.main_v3_1)) (v2 : (c : Dev Cert.KernelDwInRestIdeal.nD) → Buf (Elt Ideal) ((c.tc : Thread Cert.KernelDwInRestIdeal.nD Cert.KernelDwInRestIdeal.τ).loc Cert.KernelDwInRestIdeal.main_v3_2)) (v3 : (c : Dev Cert.KernelDwInRestIdeal.nD) → Buf (Elt Ideal) ((c.tc : Thread Cert.KernelDwInRestIdeal.nD Cert.KernelDwInRestIdeal.τ).loc Cert.KernelDwInRestIdeal.main_v3_3)),
      θ_run (Cert.KernelDwInRestIdeal.defs (F := Ideal)) (onTc (τ := Cert.KernelDwInRestIdeal.τ) (Cert.KernelDwInRestIdeal.main (F := Ideal))) ⟨m, fun _ => 0, g⟩ (fun r => ∀ c : Dev Cert.KernelDwInRestIdeal.nD,
          r.2.mem ((c.tc : Thread Cert.KernelDwInRestIdeal.nD Cert.KernelDwInRestIdeal.τ).loc Cert.KernelDwInRestIdeal.main_v3_0) = v0 c
          ∧ r.2.mem ((c.tc : Thread Cert.KernelDwInRestIdeal.nD Cert.KernelDwInRestIdeal.τ).loc Cert.KernelDwInRestIdeal.main_v3_1) = v1 c
          ∧ r.2.mem ((c.tc : Thread Cert.KernelDwInRestIdeal.nD Cert.KernelDwInRestIdeal.τ).loc Cert.KernelDwInRestIdeal.main_v3_2) = v2 c
          ∧ r.2.mem ((c.tc : Thread Cert.KernelDwInRestIdeal.nD Cert.KernelDwInRestIdeal.τ).loc Cert.KernelDwInRestIdeal.main_v3_3) = v3 c
          ∧ r.2.mem ((c.tc : Thread Cert.KernelDwInRestIdeal.nD Cert.KernelDwInRestIdeal.τ).loc Cert.KernelDwInRestIdeal.main_arg0) = m ((c.tc : Thread Cert.KernelDwInRestIdeal.nD Cert.KernelDwInRestIdeal.τ).loc Cert.KernelDwInRestIdeal.main_arg0)
          ∧ r.2.mem ((c.tc : Thread Cert.KernelDwInRestIdeal.nD Cert.KernelDwInRestIdeal.τ).loc Cert.KernelDwInRestIdeal.main_arg1) = m ((c.tc : Thread Cert.KernelDwInRestIdeal.nD Cert.KernelDwInRestIdeal.τ).loc Cert.KernelDwInRestIdeal.main_arg1)
          ∧ r.2.mem ((c.tc : Thread Cert.KernelDwInRestIdeal.nD Cert.KernelDwInRestIdeal.τ).loc Cert.KernelDwInRestIdeal.main_arg2) = m ((c.tc : Thread Cert.KernelDwInRestIdeal.nD Cert.KernelDwInRestIdeal.τ).loc Cert.KernelDwInRestIdeal.main_arg2)
          ∧ r.2.mem ((c.tc : Thread Cert.KernelDwInRestIdeal.nD Cert.KernelDwInRestIdeal.τ).loc Cert.KernelDwInRestIdeal.main_arg3) = m ((c.tc : Thread Cert.KernelDwInRestIdeal.nD Cert.KernelDwInRestIdeal.τ).loc Cert.KernelDwInRestIdeal.main_arg3)
          ∧ r.2.mem ((c.tc : Thread Cert.KernelDwInRestIdeal.nD Cert.KernelDwInRestIdeal.τ).loc Cert.KernelDwInRestIdeal.main_arg4) = m ((c.tc : Thread Cert.KernelDwInRestIdeal.nD Cert.KernelDwInRestIdeal.τ).loc Cert.KernelDwInRestIdeal.main_arg4))
      ∧ θ_run (Cert.ReferenceDwInRestIdeal.defs (F := Ideal)) (onTc (τ := Cert.ReferenceDwInRestIdeal.τ) (Cert.ReferenceDwInRestIdeal.main (F := Ideal))) ⟨m', fun _ => 0, g'⟩ (fun r => ∀ c : Dev Cert.ReferenceDwInRestIdeal.nD,
          r.2.mem ((c.tc : Thread Cert.ReferenceDwInRestIdeal.nD Cert.ReferenceDwInRestIdeal.τ).loc Cert.ReferenceDwInRestIdeal.main_v3) = v0 c
          ∧ r.2.mem ((c.tc : Thread Cert.ReferenceDwInRestIdeal.nD Cert.ReferenceDwInRestIdeal.τ).loc Cert.ReferenceDwInRestIdeal.main_v7) = v1 c
          ∧ r.2.mem ((c.tc : Thread Cert.ReferenceDwInRestIdeal.nD Cert.ReferenceDwInRestIdeal.τ).loc Cert.ReferenceDwInRestIdeal.main_v11) = v2 c
          ∧ r.2.mem ((c.tc : Thread Cert.ReferenceDwInRestIdeal.nD Cert.ReferenceDwInRestIdeal.τ).loc Cert.ReferenceDwInRestIdeal.main_v15) = v3 c
          ∧ r.2.mem ((c.tc : Thread Cert.ReferenceDwInRestIdeal.nD Cert.ReferenceDwInRestIdeal.τ).loc Cert.ReferenceDwInRestIdeal.main_arg0) = m' ((c.tc : Thread Cert.ReferenceDwInRestIdeal.nD Cert.ReferenceDwInRestIdeal.τ).loc Cert.ReferenceDwInRestIdeal.main_arg0)
          ∧ r.2.mem ((c.tc : Thread Cert.ReferenceDwInRestIdeal.nD Cert.ReferenceDwInRestIdeal.τ).loc Cert.ReferenceDwInRestIdeal.main_arg1) = m' ((c.tc : Thread Cert.ReferenceDwInRestIdeal.nD Cert.ReferenceDwInRestIdeal.τ).loc Cert.ReferenceDwInRestIdeal.main_arg1)
          ∧ r.2.mem ((c.tc : Thread Cert.ReferenceDwInRestIdeal.nD Cert.ReferenceDwInRestIdeal.τ).loc Cert.ReferenceDwInRestIdeal.main_arg2) = m' ((c.tc : Thread Cert.ReferenceDwInRestIdeal.nD Cert.ReferenceDwInRestIdeal.τ).loc Cert.ReferenceDwInRestIdeal.main_arg2)
          ∧ r.2.mem ((c.tc : Thread Cert.ReferenceDwInRestIdeal.nD Cert.ReferenceDwInRestIdeal.τ).loc Cert.ReferenceDwInRestIdeal.main_arg3) = m' ((c.tc : Thread Cert.ReferenceDwInRestIdeal.nD Cert.ReferenceDwInRestIdeal.τ).loc Cert.ReferenceDwInRestIdeal.main_arg3)
          ∧ r.2.mem ((c.tc : Thread Cert.ReferenceDwInRestIdeal.nD Cert.ReferenceDwInRestIdeal.τ).loc Cert.ReferenceDwInRestIdeal.main_arg4) = m' ((c.tc : Thread Cert.ReferenceDwInRestIdeal.nD Cert.ReferenceDwInRestIdeal.τ).loc Cert.ReferenceDwInRestIdeal.main_arg4))

def preserves_KernelDu_KernelDuIdeal : Prop :=
  True

def algebraic_KernelDuIdeal_ReferenceDuIdeal [hKernelDuIdeal : Cert.KernelDuIdeal.Facts] [hReferenceDuIdeal : Cert.ReferenceDuIdeal.Facts] : Prop :=
  ∀ (m : (ℓ : Loc Cert.KernelDuIdeal.nD Cert.KernelDuIdeal.τ Cert.KernelDuIdeal.sig) → Buf (Elt Ideal) ℓ) (g : Dev Cert.KernelDuIdeal.nD → PrngReg)
    (m' : (ℓ : Loc Cert.ReferenceDuIdeal.nD Cert.ReferenceDuIdeal.τ Cert.ReferenceDuIdeal.sig) → Buf (Elt Ideal) ℓ) (g' : Dev Cert.ReferenceDuIdeal.nD → PrngReg), Pre_KernelDuIdeal m →
    (∀ c : Dev Cert.KernelDuIdeal.nD,
      m' ((c.tc : Thread Cert.ReferenceDuIdeal.nD Cert.ReferenceDuIdeal.τ).loc Cert.ReferenceDuIdeal.main_arg0) = m ((c.tc : Thread Cert.KernelDuIdeal.nD Cert.KernelDuIdeal.τ).loc Cert.KernelDuIdeal.main_arg0)
      ∧ m' ((c.tc : Thread Cert.ReferenceDuIdeal.nD Cert.ReferenceDuIdeal.τ).loc Cert.ReferenceDuIdeal.main_arg1) = m ((c.tc : Thread Cert.KernelDuIdeal.nD Cert.KernelDuIdeal.τ).loc Cert.KernelDuIdeal.main_arg1)
      ∧ m' ((c.tc : Thread Cert.ReferenceDuIdeal.nD Cert.ReferenceDuIdeal.τ).loc Cert.ReferenceDuIdeal.main_arg2) = m ((c.tc : Thread Cert.KernelDuIdeal.nD Cert.KernelDuIdeal.τ).loc Cert.KernelDuIdeal.main_arg2)
      ∧ m' ((c.tc : Thread Cert.ReferenceDuIdeal.nD Cert.ReferenceDuIdeal.τ).loc Cert.ReferenceDuIdeal.main_arg3) = m ((c.tc : Thread Cert.KernelDuIdeal.nD Cert.KernelDuIdeal.τ).loc Cert.KernelDuIdeal.main_arg3)
      ∧ m' ((c.tc : Thread Cert.ReferenceDuIdeal.nD Cert.ReferenceDuIdeal.τ).loc Cert.ReferenceDuIdeal.main_arg4) = m ((c.tc : Thread Cert.KernelDuIdeal.nD Cert.KernelDuIdeal.τ).loc Cert.KernelDuIdeal.main_arg4)
      ∧ m' ((c.tc : Thread Cert.ReferenceDuIdeal.nD Cert.ReferenceDuIdeal.τ).loc Cert.ReferenceDuIdeal.main_arg5) = m ((c.tc : Thread Cert.KernelDuIdeal.nD Cert.KernelDuIdeal.τ).loc Cert.KernelDuIdeal.main_arg5)
      ∧ m' ((c.tc : Thread Cert.ReferenceDuIdeal.nD Cert.ReferenceDuIdeal.τ).loc Cert.ReferenceDuIdeal.main_arg6) = m ((c.tc : Thread Cert.KernelDuIdeal.nD Cert.KernelDuIdeal.τ).loc Cert.KernelDuIdeal.main_arg6)) →
    ∃ (v0 : (c : Dev Cert.KernelDuIdeal.nD) → Buf (Elt Ideal) ((c.tc : Thread Cert.KernelDuIdeal.nD Cert.KernelDuIdeal.τ).loc Cert.KernelDuIdeal.main_v11)),
      θ_run (Cert.KernelDuIdeal.defs (F := Ideal)) (onTc (τ := Cert.KernelDuIdeal.τ) (Cert.KernelDuIdeal.main (F := Ideal))) ⟨m, fun _ => 0, g⟩ (fun r => ∀ c : Dev Cert.KernelDuIdeal.nD,
          r.2.mem ((c.tc : Thread Cert.KernelDuIdeal.nD Cert.KernelDuIdeal.τ).loc Cert.KernelDuIdeal.main_v11) = v0 c
          ∧ r.2.mem ((c.tc : Thread Cert.KernelDuIdeal.nD Cert.KernelDuIdeal.τ).loc Cert.KernelDuIdeal.main_arg0) = m ((c.tc : Thread Cert.KernelDuIdeal.nD Cert.KernelDuIdeal.τ).loc Cert.KernelDuIdeal.main_arg0)
          ∧ r.2.mem ((c.tc : Thread Cert.KernelDuIdeal.nD Cert.KernelDuIdeal.τ).loc Cert.KernelDuIdeal.main_arg1) = m ((c.tc : Thread Cert.KernelDuIdeal.nD Cert.KernelDuIdeal.τ).loc Cert.KernelDuIdeal.main_arg1)
          ∧ r.2.mem ((c.tc : Thread Cert.KernelDuIdeal.nD Cert.KernelDuIdeal.τ).loc Cert.KernelDuIdeal.main_arg2) = m ((c.tc : Thread Cert.KernelDuIdeal.nD Cert.KernelDuIdeal.τ).loc Cert.KernelDuIdeal.main_arg2)
          ∧ r.2.mem ((c.tc : Thread Cert.KernelDuIdeal.nD Cert.KernelDuIdeal.τ).loc Cert.KernelDuIdeal.main_arg3) = m ((c.tc : Thread Cert.KernelDuIdeal.nD Cert.KernelDuIdeal.τ).loc Cert.KernelDuIdeal.main_arg3)
          ∧ r.2.mem ((c.tc : Thread Cert.KernelDuIdeal.nD Cert.KernelDuIdeal.τ).loc Cert.KernelDuIdeal.main_arg4) = m ((c.tc : Thread Cert.KernelDuIdeal.nD Cert.KernelDuIdeal.τ).loc Cert.KernelDuIdeal.main_arg4)
          ∧ r.2.mem ((c.tc : Thread Cert.KernelDuIdeal.nD Cert.KernelDuIdeal.τ).loc Cert.KernelDuIdeal.main_arg5) = m ((c.tc : Thread Cert.KernelDuIdeal.nD Cert.KernelDuIdeal.τ).loc Cert.KernelDuIdeal.main_arg5)
          ∧ r.2.mem ((c.tc : Thread Cert.KernelDuIdeal.nD Cert.KernelDuIdeal.τ).loc Cert.KernelDuIdeal.main_arg6) = m ((c.tc : Thread Cert.KernelDuIdeal.nD Cert.KernelDuIdeal.τ).loc Cert.KernelDuIdeal.main_arg6))
      ∧ θ_run (Cert.ReferenceDuIdeal.defs (F := Ideal)) (onTc (τ := Cert.ReferenceDuIdeal.τ) (Cert.ReferenceDuIdeal.main (F := Ideal))) ⟨m', fun _ => 0, g'⟩ (fun r => ∀ c : Dev Cert.ReferenceDuIdeal.nD,
          r.2.mem ((c.tc : Thread Cert.ReferenceDuIdeal.nD Cert.ReferenceDuIdeal.τ).loc Cert.ReferenceDuIdeal.main_v4) = v0 c
          ∧ r.2.mem ((c.tc : Thread Cert.ReferenceDuIdeal.nD Cert.ReferenceDuIdeal.τ).loc Cert.ReferenceDuIdeal.main_arg0) = m' ((c.tc : Thread Cert.ReferenceDuIdeal.nD Cert.ReferenceDuIdeal.τ).loc Cert.ReferenceDuIdeal.main_arg0)
          ∧ r.2.mem ((c.tc : Thread Cert.ReferenceDuIdeal.nD Cert.ReferenceDuIdeal.τ).loc Cert.ReferenceDuIdeal.main_arg1) = m' ((c.tc : Thread Cert.ReferenceDuIdeal.nD Cert.ReferenceDuIdeal.τ).loc Cert.ReferenceDuIdeal.main_arg1)
          ∧ r.2.mem ((c.tc : Thread Cert.ReferenceDuIdeal.nD Cert.ReferenceDuIdeal.τ).loc Cert.ReferenceDuIdeal.main_arg2) = m' ((c.tc : Thread Cert.ReferenceDuIdeal.nD Cert.ReferenceDuIdeal.τ).loc Cert.ReferenceDuIdeal.main_arg2)
          ∧ r.2.mem ((c.tc : Thread Cert.ReferenceDuIdeal.nD Cert.ReferenceDuIdeal.τ).loc Cert.ReferenceDuIdeal.main_arg3) = m' ((c.tc : Thread Cert.ReferenceDuIdeal.nD Cert.ReferenceDuIdeal.τ).loc Cert.ReferenceDuIdeal.main_arg3)
          ∧ r.2.mem ((c.tc : Thread Cert.ReferenceDuIdeal.nD Cert.ReferenceDuIdeal.τ).loc Cert.ReferenceDuIdeal.main_arg4) = m' ((c.tc : Thread Cert.ReferenceDuIdeal.nD Cert.ReferenceDuIdeal.τ).loc Cert.ReferenceDuIdeal.main_arg4)
          ∧ r.2.mem ((c.tc : Thread Cert.ReferenceDuIdeal.nD Cert.ReferenceDuIdeal.τ).loc Cert.ReferenceDuIdeal.main_arg5) = m' ((c.tc : Thread Cert.ReferenceDuIdeal.nD Cert.ReferenceDuIdeal.τ).loc Cert.ReferenceDuIdeal.main_arg5)
          ∧ r.2.mem ((c.tc : Thread Cert.ReferenceDuIdeal.nD Cert.ReferenceDuIdeal.τ).loc Cert.ReferenceDuIdeal.main_arg6) = m' ((c.tc : Thread Cert.ReferenceDuIdeal.nD Cert.ReferenceDuIdeal.τ).loc Cert.ReferenceDuIdeal.main_arg6))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v2)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v2) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v0) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v2)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v2) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v0) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v0) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v8)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v8) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v5) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelResid_KernelResidIdeal : Prop :=
  True

def algebraic_KernelResidIdeal_ReferenceResidIdeal [hKernelResidIdeal : Cert.KernelResidIdeal.Facts] [hReferenceResidIdeal : Cert.ReferenceResidIdeal.Facts] : Prop :=
  ∀ (m : (ℓ : Loc Cert.KernelResidIdeal.nD Cert.KernelResidIdeal.τ Cert.KernelResidIdeal.sig) → Buf (Elt Ideal) ℓ) (g : Dev Cert.KernelResidIdeal.nD → PrngReg)
    (m' : (ℓ : Loc Cert.ReferenceResidIdeal.nD Cert.ReferenceResidIdeal.τ Cert.ReferenceResidIdeal.sig) → Buf (Elt Ideal) ℓ) (g' : Dev Cert.ReferenceResidIdeal.nD → PrngReg), Pre_KernelResidIdeal m →
    (∀ c : Dev Cert.KernelResidIdeal.nD,
      m' ((c.tc : Thread Cert.ReferenceResidIdeal.nD Cert.ReferenceResidIdeal.τ).loc Cert.ReferenceResidIdeal.main_arg0) = m ((c.tc : Thread Cert.KernelResidIdeal.nD Cert.KernelResidIdeal.τ).loc Cert.KernelResidIdeal.main_arg0)
      ∧ m' ((c.tc : Thread Cert.ReferenceResidIdeal.nD Cert.ReferenceResidIdeal.τ).loc Cert.ReferenceResidIdeal.main_arg1) = m ((c.tc : Thread Cert.KernelResidIdeal.nD Cert.KernelResidIdeal.τ).loc Cert.KernelResidIdeal.main_arg1)
      ∧ m' ((c.tc : Thread Cert.ReferenceResidIdeal.nD Cert.ReferenceResidIdeal.τ).loc Cert.ReferenceResidIdeal.main_arg2) = m ((c.tc : Thread Cert.KernelResidIdeal.nD Cert.KernelResidIdeal.τ).loc Cert.KernelResidIdeal.main_arg2)
      ∧ m' ((c.tc : Thread Cert.ReferenceResidIdeal.nD Cert.ReferenceResidIdeal.τ).loc Cert.ReferenceResidIdeal.main_arg3) = m ((c.tc : Thread Cert.KernelResidIdeal.nD Cert.KernelResidIdeal.τ).loc Cert.KernelResidIdeal.main_arg3)
      ∧ m' ((c.tc : Thread Cert.ReferenceResidIdeal.nD Cert.ReferenceResidIdeal.τ).loc Cert.ReferenceResidIdeal.main_arg4) = m ((c.tc : Thread Cert.KernelResidIdeal.nD Cert.KernelResidIdeal.τ).loc Cert.KernelResidIdeal.main_arg4)
      ∧ m' ((c.tc : Thread Cert.ReferenceResidIdeal.nD Cert.ReferenceResidIdeal.τ).loc Cert.ReferenceResidIdeal.main_arg5) = m ((c.tc : Thread Cert.KernelResidIdeal.nD Cert.KernelResidIdeal.τ).loc Cert.KernelResidIdeal.main_arg5)) →
    ∃ (v0 : (c : Dev Cert.KernelResidIdeal.nD) → Buf (Elt Ideal) ((c.tc : Thread Cert.KernelResidIdeal.nD Cert.KernelResidIdeal.τ).loc Cert.KernelResidIdeal.main_v25_0)) (v1 : (c : Dev Cert.KernelResidIdeal.nD) → Buf (Elt Ideal) ((c.tc : Thread Cert.KernelResidIdeal.nD Cert.KernelResidIdeal.τ).loc Cert.KernelResidIdeal.main_v25_1)) (v2 : (c : Dev Cert.KernelResidIdeal.nD) → Buf (Elt Ideal) ((c.tc : Thread Cert.KernelResidIdeal.nD Cert.KernelResidIdeal.τ).loc Cert.KernelResidIdeal.main_v25_3)) (v3 : (c : Dev Cert.KernelResidIdeal.nD) → Buf (Elt Ideal) ((c.tc : Thread Cert.KernelResidIdeal.nD Cert.KernelResidIdeal.τ).loc Cert.KernelResidIdeal.main_v25_2)),
      θ_run (Cert.KernelResidIdeal.defs (F := Ideal)) (onTc (τ := Cert.KernelResidIdeal.τ) (Cert.KernelResidIdeal.main (F := Ideal))) ⟨m, fun _ => 0, g⟩ (fun r => ∀ c : Dev Cert.KernelResidIdeal.nD,
          r.2.mem ((c.tc : Thread Cert.KernelResidIdeal.nD Cert.KernelResidIdeal.τ).loc Cert.KernelResidIdeal.main_v25_0) = v0 c
          ∧ r.2.mem ((c.tc : Thread Cert.KernelResidIdeal.nD Cert.KernelResidIdeal.τ).loc Cert.KernelResidIdeal.main_v25_1) = v1 c
          ∧ r.2.mem ((c.tc : Thread Cert.KernelResidIdeal.nD Cert.KernelResidIdeal.τ).loc Cert.KernelResidIdeal.main_v25_3) = v2 c
          ∧ r.2.mem ((c.tc : Thread Cert.KernelResidIdeal.nD Cert.KernelResidIdeal.τ).loc Cert.KernelResidIdeal.main_v25_2) = v3 c
          ∧ r.2.mem ((c.tc : Thread Cert.KernelResidIdeal.nD Cert.KernelResidIdeal.τ).loc Cert.KernelResidIdeal.main_arg0) = m ((c.tc : Thread Cert.KernelResidIdeal.nD Cert.KernelResidIdeal.τ).loc Cert.KernelResidIdeal.main_arg0)
          ∧ r.2.mem ((c.tc : Thread Cert.KernelResidIdeal.nD Cert.KernelResidIdeal.τ).loc Cert.KernelResidIdeal.main_arg1) = m ((c.tc : Thread Cert.KernelResidIdeal.nD Cert.KernelResidIdeal.τ).loc Cert.KernelResidIdeal.main_arg1)
          ∧ r.2.mem ((c.tc : Thread Cert.KernelResidIdeal.nD Cert.KernelResidIdeal.τ).loc Cert.KernelResidIdeal.main_arg2) = m ((c.tc : Thread Cert.KernelResidIdeal.nD Cert.KernelResidIdeal.τ).loc Cert.KernelResidIdeal.main_arg2)
          ∧ r.2.mem ((c.tc : Thread Cert.KernelResidIdeal.nD Cert.KernelResidIdeal.τ).loc Cert.KernelResidIdeal.main_arg3) = m ((c.tc : Thread Cert.KernelResidIdeal.nD Cert.KernelResidIdeal.τ).loc Cert.KernelResidIdeal.main_arg3)
          ∧ r.2.mem ((c.tc : Thread Cert.KernelResidIdeal.nD Cert.KernelResidIdeal.τ).loc Cert.KernelResidIdeal.main_arg4) = m ((c.tc : Thread Cert.KernelResidIdeal.nD Cert.KernelResidIdeal.τ).loc Cert.KernelResidIdeal.main_arg4)
          ∧ r.2.mem ((c.tc : Thread Cert.KernelResidIdeal.nD Cert.KernelResidIdeal.τ).loc Cert.KernelResidIdeal.main_arg5) = m ((c.tc : Thread Cert.KernelResidIdeal.nD Cert.KernelResidIdeal.τ).loc Cert.KernelResidIdeal.main_arg5))
      ∧ θ_run (Cert.ReferenceResidIdeal.defs (F := Ideal)) (onTc (τ := Cert.ReferenceResidIdeal.τ) (Cert.ReferenceResidIdeal.main (F := Ideal))) ⟨m', fun _ => 0, g'⟩ (fun r => ∀ c : Dev Cert.ReferenceResidIdeal.nD,
          r.2.mem ((c.tc : Thread Cert.ReferenceResidIdeal.nD Cert.ReferenceResidIdeal.τ).loc Cert.ReferenceResidIdeal.main_v50) = v0 c
          ∧ r.2.mem ((c.tc : Thread Cert.ReferenceResidIdeal.nD Cert.ReferenceResidIdeal.τ).loc Cert.ReferenceResidIdeal.main_v71) = v1 c
          ∧ r.2.mem ((c.tc : Thread Cert.ReferenceResidIdeal.nD Cert.ReferenceResidIdeal.τ).loc Cert.ReferenceResidIdeal.main_v54) = v2 c
          ∧ r.2.mem ((c.tc : Thread Cert.ReferenceResidIdeal.nD Cert.ReferenceResidIdeal.τ).loc Cert.ReferenceResidIdeal.main_v33) = v3 c
          ∧ r.2.mem ((c.tc : Thread Cert.ReferenceResidIdeal.nD Cert.ReferenceResidIdeal.τ).loc Cert.ReferenceResidIdeal.main_arg0) = m' ((c.tc : Thread Cert.ReferenceResidIdeal.nD Cert.ReferenceResidIdeal.τ).loc Cert.ReferenceResidIdeal.main_arg0)
          ∧ r.2.mem ((c.tc : Thread Cert.ReferenceResidIdeal.nD Cert.ReferenceResidIdeal.τ).loc Cert.ReferenceResidIdeal.main_arg1) = m' ((c.tc : Thread Cert.ReferenceResidIdeal.nD Cert.ReferenceResidIdeal.τ).loc Cert.ReferenceResidIdeal.main_arg1)
          ∧ r.2.mem ((c.tc : Thread Cert.ReferenceResidIdeal.nD Cert.ReferenceResidIdeal.τ).loc Cert.ReferenceResidIdeal.main_arg2) = m' ((c.tc : Thread Cert.ReferenceResidIdeal.nD Cert.ReferenceResidIdeal.τ).loc Cert.ReferenceResidIdeal.main_arg2)
          ∧ r.2.mem ((c.tc : Thread Cert.ReferenceResidIdeal.nD Cert.ReferenceResidIdeal.τ).loc Cert.ReferenceResidIdeal.main_arg3) = m' ((c.tc : Thread Cert.ReferenceResidIdeal.nD Cert.ReferenceResidIdeal.τ).loc Cert.ReferenceResidIdeal.main_arg3)
          ∧ r.2.mem ((c.tc : Thread Cert.ReferenceResidIdeal.nD Cert.ReferenceResidIdeal.τ).loc Cert.ReferenceResidIdeal.main_arg4) = m' ((c.tc : Thread Cert.ReferenceResidIdeal.nD Cert.ReferenceResidIdeal.τ).loc Cert.ReferenceResidIdeal.main_arg4)
          ∧ r.2.mem ((c.tc : Thread Cert.ReferenceResidIdeal.nD Cert.ReferenceResidIdeal.τ).loc Cert.ReferenceResidIdeal.main_arg5) = m' ((c.tc : Thread Cert.ReferenceResidIdeal.nD Cert.ReferenceResidIdeal.τ).loc Cert.ReferenceResidIdeal.main_arg5))

def preserves_KernelPrenorm_KernelPrenormIdeal : Prop :=
  True

def algebraic_KernelPrenormIdeal_ReferencePrenormIdeal [hKernelPrenormIdeal : Cert.KernelPrenormIdeal.Facts] [hReferencePrenormIdeal : Cert.ReferencePrenormIdeal.Facts] : Prop :=
  ∀ (m : (ℓ : Loc Cert.KernelPrenormIdeal.nD Cert.KernelPrenormIdeal.τ Cert.KernelPrenormIdeal.sig) → Buf (Elt Ideal) ℓ) (g : Dev Cert.KernelPrenormIdeal.nD → PrngReg)
    (m' : (ℓ : Loc Cert.ReferencePrenormIdeal.nD Cert.ReferencePrenormIdeal.τ Cert.ReferencePrenormIdeal.sig) → Buf (Elt Ideal) ℓ) (g' : Dev Cert.ReferencePrenormIdeal.nD → PrngReg), Pre_KernelPrenormIdeal m →
    (∀ c : Dev Cert.KernelPrenormIdeal.nD,
      m' ((c.tc : Thread Cert.ReferencePrenormIdeal.nD Cert.ReferencePrenormIdeal.τ).loc Cert.ReferencePrenormIdeal.main_arg0) = m ((c.tc : Thread Cert.KernelPrenormIdeal.nD Cert.KernelPrenormIdeal.τ).loc Cert.KernelPrenormIdeal.main_arg0)
      ∧ m' ((c.tc : Thread Cert.ReferencePrenormIdeal.nD Cert.ReferencePrenormIdeal.τ).loc Cert.ReferencePrenormIdeal.main_arg1) = m ((c.tc : Thread Cert.KernelPrenormIdeal.nD Cert.KernelPrenormIdeal.τ).loc Cert.KernelPrenormIdeal.main_arg1)
      ∧ m' ((c.tc : Thread Cert.ReferencePrenormIdeal.nD Cert.ReferencePrenormIdeal.τ).loc Cert.ReferencePrenormIdeal.main_arg2) = m ((c.tc : Thread Cert.KernelPrenormIdeal.nD Cert.KernelPrenormIdeal.τ).loc Cert.KernelPrenormIdeal.main_arg2)
      ∧ m' ((c.tc : Thread Cert.ReferencePrenormIdeal.nD Cert.ReferencePrenormIdeal.τ).loc Cert.ReferencePrenormIdeal.main_arg3) = m ((c.tc : Thread Cert.KernelPrenormIdeal.nD Cert.KernelPrenormIdeal.τ).loc Cert.KernelPrenormIdeal.main_arg3)) →
    ∃ (v0 : (c : Dev Cert.KernelPrenormIdeal.nD) → Buf (Elt Ideal) ((c.tc : Thread Cert.KernelPrenormIdeal.nD Cert.KernelPrenormIdeal.τ).loc Cert.KernelPrenormIdeal.main_v0_0)) (v1 : (c : Dev Cert.KernelPrenormIdeal.nD) → Buf (Elt Ideal) ((c.tc : Thread Cert.KernelPrenormIdeal.nD Cert.KernelPrenormIdeal.τ).loc Cert.KernelPrenormIdeal.main_v0_1)),
      θ_run (Cert.KernelPrenormIdeal.defs (F := Ideal)) (onTc (τ := Cert.KernelPrenormIdeal.τ) (Cert.KernelPrenormIdeal.main (F := Ideal))) ⟨m, fun _ => 0, g⟩ (fun r => ∀ c : Dev Cert.KernelPrenormIdeal.nD,
          r.2.mem ((c.tc : Thread Cert.KernelPrenormIdeal.nD Cert.KernelPrenormIdeal.τ).loc Cert.KernelPrenormIdeal.main_v0_0) = v0 c
          ∧ r.2.mem ((c.tc : Thread Cert.KernelPrenormIdeal.nD Cert.KernelPrenormIdeal.τ).loc Cert.KernelPrenormIdeal.main_v0_1) = v1 c
          ∧ r.2.mem ((c.tc : Thread Cert.KernelPrenormIdeal.nD Cert.KernelPrenormIdeal.τ).loc Cert.KernelPrenormIdeal.main_arg0) = m ((c.tc : Thread Cert.KernelPrenormIdeal.nD Cert.KernelPrenormIdeal.τ).loc Cert.KernelPrenormIdeal.main_arg0)
          ∧ r.2.mem ((c.tc : Thread Cert.KernelPrenormIdeal.nD Cert.KernelPrenormIdeal.τ).loc Cert.KernelPrenormIdeal.main_arg1) = m ((c.tc : Thread Cert.KernelPrenormIdeal.nD Cert.KernelPrenormIdeal.τ).loc Cert.KernelPrenormIdeal.main_arg1)
          ∧ r.2.mem ((c.tc : Thread Cert.KernelPrenormIdeal.nD Cert.KernelPrenormIdeal.τ).loc Cert.KernelPrenormIdeal.main_arg2) = m ((c.tc : Thread Cert.KernelPrenormIdeal.nD Cert.KernelPrenormIdeal.τ).loc Cert.KernelPrenormIdeal.main_arg2)
          ∧ r.2.mem ((c.tc : Thread Cert.KernelPrenormIdeal.nD Cert.KernelPrenormIdeal.τ).loc Cert.KernelPrenormIdeal.main_arg3) = m ((c.tc : Thread Cert.KernelPrenormIdeal.nD Cert.KernelPrenormIdeal.τ).loc Cert.KernelPrenormIdeal.main_arg3))
      ∧ θ_run (Cert.ReferencePrenormIdeal.defs (F := Ideal)) (onTc (τ := Cert.ReferencePrenormIdeal.τ) (Cert.ReferencePrenormIdeal.main (F := Ideal))) ⟨m', fun _ => 0, g'⟩ (fun r => ∀ c : Dev Cert.ReferencePrenormIdeal.nD,
          r.2.mem ((c.tc : Thread Cert.ReferencePrenormIdeal.nD Cert.ReferencePrenormIdeal.τ).loc Cert.ReferencePrenormIdeal.main_v34) = v0 c
          ∧ r.2.mem ((c.tc : Thread Cert.ReferencePrenormIdeal.nD Cert.ReferencePrenormIdeal.τ).loc Cert.ReferencePrenormIdeal.main_v17) = v1 c
          ∧ r.2.mem ((c.tc : Thread Cert.ReferencePrenormIdeal.nD Cert.ReferencePrenormIdeal.τ).loc Cert.ReferencePrenormIdeal.main_arg0) = m' ((c.tc : Thread Cert.ReferencePrenormIdeal.nD Cert.ReferencePrenormIdeal.τ).loc Cert.ReferencePrenormIdeal.main_arg0)
          ∧ r.2.mem ((c.tc : Thread Cert.ReferencePrenormIdeal.nD Cert.ReferencePrenormIdeal.τ).loc Cert.ReferencePrenormIdeal.main_arg1) = m' ((c.tc : Thread Cert.ReferencePrenormIdeal.nD Cert.ReferencePrenormIdeal.τ).loc Cert.ReferencePrenormIdeal.main_arg1)
          ∧ r.2.mem ((c.tc : Thread Cert.ReferencePrenormIdeal.nD Cert.ReferencePrenormIdeal.τ).loc Cert.ReferencePrenormIdeal.main_arg2) = m' ((c.tc : Thread Cert.ReferencePrenormIdeal.nD Cert.ReferencePrenormIdeal.τ).loc Cert.ReferencePrenormIdeal.main_arg2)
          ∧ r.2.mem ((c.tc : Thread Cert.ReferencePrenormIdeal.nD Cert.ReferencePrenormIdeal.τ).loc Cert.ReferencePrenormIdeal.main_arg3) = m' ((c.tc : Thread Cert.ReferencePrenormIdeal.nD Cert.ReferencePrenormIdeal.τ).loc Cert.ReferencePrenormIdeal.main_arg3))

def preserves_KernelFwd_KernelFwdIdeal : Prop :=
  IdealRules.named_const.Statement Cert.KernelFwdIdeal.κ "dead" .f32 0xC2D00000#32 ⊥

def algebraic_KernelFwdIdeal_ReferenceFwdIdeal_pre_finite_fwd [hKernelFwdIdeal : Cert.KernelFwdIdeal.Facts] [hReferenceFwdIdeal : Cert.ReferenceFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal_finite_fwd m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)) →
    ∃ (v0 : (c : Dev Cert.KernelFwdIdeal.nD) → Buf (Elt Ideal) ((c.tc : Thread Cert.KernelFwdIdeal.nD Cert.KernelFwdIdeal.τ).loc Cert.KernelFwdIdeal.main_v8_0)) (v1 : (c : Dev Cert.KernelFwdIdeal.nD) → Buf (Elt Ideal) ((c.tc : Thread Cert.KernelFwdIdeal.nD Cert.KernelFwdIdeal.τ).loc Cert.KernelFwdIdeal.main_v8_1)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v8_0) = v0 c
          ∧ r.2.mem ((c.tc : Thread Cert.KernelFwdIdeal.nD Cert.KernelFwdIdeal.τ).loc Cert.KernelFwdIdeal.main_v8_1) = v1 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v46) = v0 c
          ∧ r.2.mem ((c.tc : Thread Cert.ReferenceFwdIdeal.nD Cert.ReferenceFwdIdeal.τ).loc Cert.ReferenceFwdIdeal.main_v47) = v1 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2))

def Claim : Prop :=
  ∃ (hKernel : Cert.Kernel.Facts) (hKernelIdeal : Cert.KernelIdeal.Facts) (hReferenceIdeal : Cert.ReferenceIdeal.Facts) (hKernelDwUp : Cert.KernelDwUp.Facts) (hKernelDwUpIdeal : Cert.KernelDwUpIdeal.Facts) (hReferenceDwUpIdeal : Cert.ReferenceDwUpIdeal.Facts) (hKernelDn2 : Cert.KernelDn2.Facts) (hKernelDn2Ideal : Cert.KernelDn2Ideal.Facts) (hReferenceDn2Ideal : Cert.ReferenceDn2Ideal.Facts) (hKernelDwDown : Cert.KernelDwDown.Facts) (hKernelDwDownIdeal : Cert.KernelDwDownIdeal.Facts) (hReferenceDwDownIdeal : Cert.ReferenceDwDownIdeal.Facts) (hKernelDact : Cert.KernelDact.Facts) (hKernelDactIdeal : Cert.KernelDactIdeal.Facts) (hReferenceDactIdeal : Cert.ReferenceDactIdeal.Facts) (hKernelDwOut : Cert.KernelDwOut.Facts) (hKernelDwOutIdeal : Cert.KernelDwOutIdeal.Facts) (hReferenceDwOutIdeal : Cert.ReferenceDwOutIdeal.Facts) (hKernelDy : Cert.KernelDy.Facts) (hKernelDyIdeal : Cert.KernelDyIdeal.Facts) (hReferenceDyIdeal : Cert.ReferenceDyIdeal.Facts) (hKernelDwInGdn : Cert.KernelDwInGdn.Facts) (hKernelDwInGdnIdeal : Cert.KernelDwInGdnIdeal.Facts) (hReferenceDwInGdnIdeal : Cert.ReferenceDwInGdnIdeal.Facts) (hKernelDwInRest : Cert.KernelDwInRest.Facts) (hKernelDwInRestIdeal : Cert.KernelDwInRestIdeal.Facts) (hReferenceDwInRestIdeal : Cert.ReferenceDwInRestIdeal.Facts) (hKernelDu : Cert.KernelDu.Facts) (hKernelDuIdeal : Cert.KernelDuIdeal.Facts) (hReferenceDuIdeal : Cert.ReferenceDuIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelOut : Cert.KernelOut.Facts) (hKernelOutIdeal : Cert.KernelOutIdeal.Facts) (hReferenceOutIdeal : Cert.ReferenceOutIdeal.Facts) (hKernelIn : Cert.KernelIn.Facts) (hKernelInIdeal : Cert.KernelInIdeal.Facts) (hReferenceInIdeal : Cert.ReferenceInIdeal.Facts) (hKernelResid : Cert.KernelResid.Facts) (hKernelResidIdeal : Cert.KernelResidIdeal.Facts) (hReferenceResidIdeal : Cert.ReferenceResidIdeal.Facts) (hKernelPrenorm : Cert.KernelPrenorm.Facts) (hKernelPrenormIdeal : Cert.KernelPrenormIdeal.Facts) (hReferencePrenormIdeal : Cert.ReferencePrenormIdeal.Facts) (hKernelFwd : Cert.KernelFwd.Facts) (hKernelFwdIdeal : Cert.KernelFwdIdeal.Facts) (hReferenceFwdIdeal : Cert.ReferenceFwdIdeal.Facts) (hPre_finite : Cert.Pre_finite.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDwUp (hKernelDwUp := hKernelDwUp)
    ∧ quiescent_KernelDwUpIdeal (hKernelDwUpIdeal := hKernelDwUpIdeal)
    ∧ quiescent_ReferenceDwUpIdeal (hReferenceDwUpIdeal := hReferenceDwUpIdeal)
    ∧ quiescent_KernelDn2 (hKernelDn2 := hKernelDn2)
    ∧ quiescent_KernelDn2Ideal (hKernelDn2Ideal := hKernelDn2Ideal)
    ∧ quiescent_ReferenceDn2Ideal (hReferenceDn2Ideal := hReferenceDn2Ideal)
    ∧ quiescent_KernelDwDown (hKernelDwDown := hKernelDwDown)
    ∧ quiescent_KernelDwDownIdeal (hKernelDwDownIdeal := hKernelDwDownIdeal)
    ∧ quiescent_ReferenceDwDownIdeal (hReferenceDwDownIdeal := hReferenceDwDownIdeal)
    ∧ quiescent_KernelDact (hKernelDact := hKernelDact)
    ∧ quiescent_KernelDactIdeal (hKernelDactIdeal := hKernelDactIdeal)
    ∧ quiescent_ReferenceDactIdeal (hReferenceDactIdeal := hReferenceDactIdeal)
    ∧ quiescent_KernelDwOut (hKernelDwOut := hKernelDwOut)
    ∧ quiescent_KernelDwOutIdeal (hKernelDwOutIdeal := hKernelDwOutIdeal)
    ∧ quiescent_ReferenceDwOutIdeal (hReferenceDwOutIdeal := hReferenceDwOutIdeal)
    ∧ quiescent_KernelDy (hKernelDy := hKernelDy)
    ∧ quiescent_KernelDyIdeal (hKernelDyIdeal := hKernelDyIdeal)
    ∧ quiescent_ReferenceDyIdeal (hReferenceDyIdeal := hReferenceDyIdeal)
    ∧ quiescent_KernelDwInGdn (hKernelDwInGdn := hKernelDwInGdn)
    ∧ quiescent_KernelDwInGdnIdeal (hKernelDwInGdnIdeal := hKernelDwInGdnIdeal)
    ∧ quiescent_ReferenceDwInGdnIdeal (hReferenceDwInGdnIdeal := hReferenceDwInGdnIdeal)
    ∧ quiescent_KernelDwInRest (hKernelDwInRest := hKernelDwInRest)
    ∧ quiescent_KernelDwInRestIdeal (hKernelDwInRestIdeal := hKernelDwInRestIdeal)
    ∧ quiescent_ReferenceDwInRestIdeal (hReferenceDwInRestIdeal := hReferenceDwInRestIdeal)
    ∧ quiescent_KernelDu (hKernelDu := hKernelDu)
    ∧ quiescent_KernelDuIdeal (hKernelDuIdeal := hKernelDuIdeal)
    ∧ quiescent_ReferenceDuIdeal (hReferenceDuIdeal := hReferenceDuIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelResid (hKernelResid := hKernelResid)
    ∧ quiescent_KernelResidIdeal (hKernelResidIdeal := hKernelResidIdeal)
    ∧ quiescent_ReferenceResidIdeal (hReferenceResidIdeal := hReferenceResidIdeal)
    ∧ quiescent_KernelPrenorm (hKernelPrenorm := hKernelPrenorm)
    ∧ quiescent_KernelPrenormIdeal (hKernelPrenormIdeal := hKernelPrenormIdeal)
    ∧ quiescent_ReferencePrenormIdeal (hReferencePrenormIdeal := hReferencePrenormIdeal)
    ∧ quiescent_KernelFwd (hKernelFwd := hKernelFwd)
    ∧ quiescent_KernelFwdIdeal (hKernelFwdIdeal := hKernelFwdIdeal)
    ∧ quiescent_KernelFwdIdeal_pre_finite_fwd (hKernelFwdIdeal := hKernelFwdIdeal) (hPre_finite_fwd := hPre_finite_fwd)
    ∧ quiescent_ReferenceFwdIdeal (hReferenceFwdIdeal := hReferenceFwdIdeal)
    ∧ quiescent_ReferenceFwdIdeal_pre_finite_fwd (hReferenceFwdIdeal := hReferenceFwdIdeal) (hPre_finite_fwd := hPre_finite_fwd)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDwUp_KernelDwUpIdeal
    ∧ algebraic_KernelDwUpIdeal_ReferenceDwUpIdeal (hKernelDwUpIdeal := hKernelDwUpIdeal) (hReferenceDwUpIdeal := hReferenceDwUpIdeal)
    ∧ preserves_KernelDn2_KernelDn2Ideal
    ∧ algebraic_KernelDn2Ideal_ReferenceDn2Ideal (hKernelDn2Ideal := hKernelDn2Ideal) (hReferenceDn2Ideal := hReferenceDn2Ideal)
    ∧ preserves_KernelDwDown_KernelDwDownIdeal
    ∧ algebraic_KernelDwDownIdeal_ReferenceDwDownIdeal (hKernelDwDownIdeal := hKernelDwDownIdeal) (hReferenceDwDownIdeal := hReferenceDwDownIdeal)
    ∧ preserves_KernelDact_KernelDactIdeal
    ∧ algebraic_KernelDactIdeal_ReferenceDactIdeal (hKernelDactIdeal := hKernelDactIdeal) (hReferenceDactIdeal := hReferenceDactIdeal)
    ∧ preserves_KernelDwOut_KernelDwOutIdeal
    ∧ algebraic_KernelDwOutIdeal_ReferenceDwOutIdeal (hKernelDwOutIdeal := hKernelDwOutIdeal) (hReferenceDwOutIdeal := hReferenceDwOutIdeal)
    ∧ preserves_KernelDy_KernelDyIdeal
    ∧ algebraic_KernelDyIdeal_ReferenceDyIdeal (hKernelDyIdeal := hKernelDyIdeal) (hReferenceDyIdeal := hReferenceDyIdeal)
    ∧ preserves_KernelDwInGdn_KernelDwInGdnIdeal
    ∧ algebraic_KernelDwInGdnIdeal_ReferenceDwInGdnIdeal (hKernelDwInGdnIdeal := hKernelDwInGdnIdeal) (hReferenceDwInGdnIdeal := hReferenceDwInGdnIdeal)
    ∧ preserves_KernelDwInRest_KernelDwInRestIdeal
    ∧ algebraic_KernelDwInRestIdeal_ReferenceDwInRestIdeal (hKernelDwInRestIdeal := hKernelDwInRestIdeal) (hReferenceDwInRestIdeal := hReferenceDwInRestIdeal)
    ∧ preserves_KernelDu_KernelDuIdeal
    ∧ algebraic_KernelDuIdeal_ReferenceDuIdeal (hKernelDuIdeal := hKernelDuIdeal) (hReferenceDuIdeal := hReferenceDuIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelOut_KernelOutIdeal
    ∧ algebraic_KernelOutIdeal_ReferenceOutIdeal (hKernelOutIdeal := hKernelOutIdeal) (hReferenceOutIdeal := hReferenceOutIdeal)
    ∧ preserves_KernelIn_KernelInIdeal
    ∧ algebraic_KernelInIdeal_ReferenceInIdeal (hKernelInIdeal := hKernelInIdeal) (hReferenceInIdeal := hReferenceInIdeal)
    ∧ preserves_KernelResid_KernelResidIdeal
    ∧ algebraic_KernelResidIdeal_ReferenceResidIdeal (hKernelResidIdeal := hKernelResidIdeal) (hReferenceResidIdeal := hReferenceResidIdeal)
    ∧ preserves_KernelPrenorm_KernelPrenormIdeal
    ∧ algebraic_KernelPrenormIdeal_ReferencePrenormIdeal (hKernelPrenormIdeal := hKernelPrenormIdeal) (hReferencePrenormIdeal := hReferencePrenormIdeal)
    ∧ preserves_KernelFwd_KernelFwdIdeal
    ∧ algebraic_KernelFwdIdeal_ReferenceFwdIdeal_pre_finite_fwd (hKernelFwdIdeal := hKernelFwdIdeal) (hReferenceFwdIdeal := hReferenceFwdIdeal) (hPre_finite_fwd := hPre_finite_fwd)
-- ==== Pre_finite.lean ====
abbrev S8208x512 : Shape := ⟨2, ![8208, 512]⟩
abbrev S_ : Shape := ⟨0, ![]⟩

class Facts : Prop where
  bcast_S_S8208x512 : S_.BroadcastsInDim S8208x512 (![] : Fin 0 → Fin S8208x512.rank)

variable [Facts]

def fn {F : FTy → Type} [FloatOps F] (main_arg0 : FVec F S8208x512 .f32) (main_arg1 : FVec F S8208x512 .f32) (main_arg2 : FVec F S8208x512 .f32) (main_arg3 : FVec F S8208x512 .f32) : IVec S8208x512 1 :=
  let main_v0 : FVec F S8208x512 .f32 := Host.absf main_arg0
  let main_cst : FVec F S_ .f32 := constant S_ .f32 0x7F800000#32
  let main_v1 : FVec F S8208x512 .f32 := broadcastInDim S8208x512 ![] bcast_S_S8208x512 main_cst
  let main_v2 : IVec S8208x512 1 := cmpf .olt main_v0 main_v1
  let main_v3 : FVec F S8208x512 .f32 := Host.absf main_arg1
  let main_cst_0 : FVec F S_ .f32 := constant S_ .f32 0x7F800000#32
  let main_v4 : FVec F S8208x512 .f32 := broadcastInDim S8208x512 ![] bcast_S_S8208x512 main_cst_0
  let main_v5 : IVec S8208x512 1 := cmpf .olt main_v3 main_v4
  let main_v6 : IVec S8208x512 1 := andi main_v2 main_v5
  let main_v7 : FVec F S8208x512 .f32 := Host.absf main_arg2
  let main_cst_1 : FVec F S_ .f32 := constant S_ .f32 0x7F800000#32
  let main_v8 : FVec F S8208x512 .f32 := broadcastInDim S8208x512 ![] bcast_S_S8208x512 main_cst_1
  let main_v9 : IVec S8208x512 1 := cmpf .olt main_v7 main_v8
  let main_v10 : IVec S8208x512 1 := andi main_v6 main_v9
  let main_v11 : FVec F S8208x512 .f32 := Host.absf main_arg3
  let main_cst_2 : FVec F S_ .f32 := constant S_ .f32 0x7F800000#32
  let main_v12 : FVec F S8208x512 .f32 := broadcastInDim S8208x512 ![] bcast_S_S8208x512 main_cst_2
  let main_v13 : IVec S8208x512 1 := cmpf .olt main_v11 main_v12
  let main_v14 : IVec S8208x512 1 := andi main_v10 main_v13
  main_v14
-- ==== Pre_finite_fwd.lean ====
abbrev S8208x512 : Shape := ⟨2, ![8208, 512]⟩
abbrev S_ : Shape := ⟨0, ![]⟩

class Facts : Prop where
  bcast_S_S8208x512 : S_.BroadcastsInDim S8208x512 (![] : Fin 0 → Fin S8208x512.rank)

variable [Facts]

def fn {F : FTy → Type} [FloatOps F] (main_arg0 : FVec F S8208x512 .f32) (main_arg1 : FVec F S8208x512 .f32) (main_arg2 : FVec F S8208x512 .f32) : IVec S8208x512 1 :=
  let main_v0 : FVec F S8208x512 .f32 := Host.absf main_arg0
  let main_cst : FVec F S_ .f32 := constant S_ .f32 0x7F800000#32
  let main_v1 : FVec F S8208x512 .f32 := broadcastInDim S8208x512 ![] bcast_S_S8208x512 main_cst
  let main_v2 : IVec S8208x512 1 := cmpf .olt main_v0 main_v1
  let main_v3 : FVec F S8208x512 .f32 := Host.absf main_arg1
  let main_cst_0 : FVec F S_ .f32 := constant S_ .f32 0x7F800000#32
  let main_v4 : FVec F S8208x512 .f32 := broadcastInDim S8208x512 ![] bcast_S_S8208x512 main_cst_0
  let main_v5 : IVec S8208x512 1 := cmpf .olt main_v3 main_v4
  let main_v6 : IVec S8208x512 1 := andi main_v2 main_v5
  main_v6
-- ==== Kernel.lean ====
abbrev S8208x512 : Shape := ⟨2, ![8208, 512]⟩
abbrev S8208x8x64 : Shape := ⟨3, ![8208, 8, 64]⟩
abbrev S8x8208x64 : Shape := ⟨3, ![8, 8208, 64]⟩
abbrev S8208x8208 : Shape := ⟨2, ![8208, 8208]⟩
abbrev S8x8208x8208 : Shape := ⟨3, ![8, 8208, 8208]⟩
abbrev S_ : Shape := ⟨0, ![]⟩
abbrev S1x8208x8208 : Shape := ⟨3, ![1, 8208, 8208]⟩
abbrev S8x8208 : Shape := ⟨2, ![8, 8208]⟩
abbrev S8208x8 : Shape := ⟨2, ![8208, 8]⟩
abbrev S8448x512 : Shape := ⟨2, ![8448, 512]⟩
abbrev S4x33 : Shape := ⟨2, ![4, 33]⟩
abbrev S8448x2048 : Shape := ⟨2, ![8448, 2048]⟩
abbrev S8448x256 : Shape := ⟨2, ![8448, 256]⟩
abbrev S8448x3840 : Shape := ⟨2, ![8448, 3840]⟩
abbrev S256x256 : Shape := ⟨2, ![256, 256]⟩
abbrev S256x128 : Shape := ⟨2, ![256, 128]⟩
abbrev S8448x128 : Shape := ⟨2, ![8448, 128]⟩
abbrev S256x1 : Shape := ⟨2, ![256, 1]⟩
abbrev S256x512 : Shape := ⟨2, ![256, 512]⟩
abbrev S1x1 : Shape := ⟨2, ![1, 1]⟩
abbrev S512x128 : Shape := ⟨2, ![512, 128]⟩
abbrev S256 : Shape := ⟨1, ![256]⟩

abbrev nBuf : Space → Nat
  | .hbm => 119
  | .vmem => 18
  | .smem => 1
  | _ => 0

abbrev bufTy : (tb : Table) → Fin (tcTables nBuf tb) → BufTy
  | .hbm, ⟨0, _⟩ => ⟨S8208x512, .f32⟩
  | .hbm, ⟨1, _⟩ => ⟨S8208x512, .f32⟩
  | .hbm, ⟨2, _⟩ => ⟨S8208x512, .f32⟩
  | .hbm, ⟨3, _⟩ => ⟨S8208x512, .f32⟩
  | .hbm, ⟨4, _⟩ => ⟨S8208x8x64, .f32⟩
  | .hbm, ⟨5, _⟩ => ⟨S8x8208x64, .f32⟩
  | .hbm, ⟨6, _⟩ => ⟨S8208x8x64, .f32⟩
  | .hbm, ⟨7, _⟩ => ⟨S8x8208x64, .f32⟩
  | .hbm, ⟨8, _⟩ => ⟨S8208x8208, .i32⟩
  | .hbm, ⟨9, _⟩ => ⟨S8208x8208, .i32⟩
  | .hbm, ⟨10, _⟩ => ⟨S8208x8208, .i1⟩
  | .hbm, ⟨11, _⟩ => ⟨S8x8208x8208, .f32⟩
  | .hbm, ⟨12, _⟩ => ⟨S_, .f32⟩
  | .hbm, ⟨13, _⟩ => ⟨S8x8208x8208, .f32⟩
  | .hbm, ⟨14, _⟩ => ⟨S8x8208x8208, .f32⟩
  | .hbm, ⟨15, _⟩ => ⟨S1x8208x8208, .i1⟩
  | .hbm, ⟨16, _⟩ => ⟨S8x8208x8208, .f32⟩
  | .hbm, ⟨17, _⟩ => ⟨S8x8208x8208, .f32⟩
  | .hbm, ⟨18, _⟩ => ⟨S_, .f32⟩
  | .hbm, ⟨19, _⟩ => ⟨S8x8208x8208, .f32⟩
  | .hbm, ⟨20, _⟩ => ⟨S8x8208x8208, .f32⟩
  | .hbm, ⟨21, _⟩ => ⟨S8x8208x8208, .f32⟩
  | .hbm, ⟨22, _⟩ => ⟨S8x8208x8208, .f32⟩
  | .hbm, ⟨23, _⟩ => ⟨S8x8208x8208, .i1⟩
  | .hbm, ⟨24, _⟩ => ⟨S8x8208x8208, .f32⟩
  | .hbm, ⟨25, _⟩ => ⟨S8x8208x8208, .f32⟩
  | .hbm, ⟨26, _⟩ => ⟨S8x8208x8208, .f32⟩
  | .hbm, ⟨27, _⟩ => ⟨S8x8208x8208, .f32⟩
  | .hbm, ⟨28, _⟩ => ⟨S8x8208x8208, .f32⟩
  | .hbm, ⟨29, _⟩ => ⟨S8x8208x8208, .f32⟩
  | .hbm, ⟨30, _⟩ => ⟨S8x8208x8208, .f32⟩
  | .hbm, ⟨31, _⟩ => ⟨S8x8208x8208, .f32⟩
  | .hbm, ⟨32, _⟩ => ⟨S8x8208x8208, .f32⟩
  | .hbm, ⟨33, _⟩ => ⟨S_, .f32⟩
  | .hbm, ⟨34, _⟩ => ⟨S_, .f32⟩
  | .hbm, ⟨35, _⟩ => ⟨S8x8208x8208, .i1⟩
  | .hbm, ⟨36, _⟩ => ⟨S8x8208x8208, .f32⟩
  | .hbm, ⟨37, _⟩ => ⟨S8x8208x8208, .f32⟩
  | .hbm, ⟨38, _⟩ => ⟨S_, .f32⟩
  | .hbm, ⟨39, _⟩ => ⟨S8x8208, .f32⟩
  | .hbm, ⟨40, _⟩ => ⟨S8208x8, .f32⟩
  | .hbm, ⟨41, _⟩ => ⟨S8208x8x64, .f32⟩
  | .hbm, ⟨42, _⟩ => ⟨S8208x512, .f32⟩
  | .hbm, ⟨43, _⟩ => ⟨S_, .i32⟩
  | .hbm, ⟨44, _⟩ => ⟨S_, .f32⟩
  | .hbm, ⟨45, _⟩ => ⟨S8448x512, .f32⟩
  | .hbm, ⟨46, _⟩ => ⟨S4x33, .i32⟩
  | .hbm, ⟨47, _⟩ => ⟨S_, .i32⟩
  | .hbm, ⟨48, _⟩ => ⟨S4x33, .i32⟩
  | .hbm, ⟨49, _⟩ => ⟨S4x33, .i32⟩
  | .hbm, ⟨50, _⟩ => ⟨S_, .i32⟩
  | .hbm, ⟨51, _⟩ => ⟨S4x33, .i32⟩
  | .hbm, ⟨52, _⟩ => ⟨S4x33, .i32⟩
  | .hbm, ⟨53, _⟩ => ⟨S_, .i32⟩
  | .hbm, ⟨54, _⟩ => ⟨S4x33, .i32⟩
  | .hbm, ⟨55, _⟩ => ⟨S4x33, .i32⟩
  | .hbm, ⟨56, _⟩ => ⟨S_, .i32⟩
  | .hbm, ⟨57, _⟩ => ⟨S4x33, .i32⟩
  | .hbm, ⟨58, _⟩ => ⟨S4x33, .i32⟩
  | .hbm, ⟨59, _⟩ => ⟨S_, .i32⟩
  | .hbm, ⟨60, _⟩ => ⟨S_, .i32⟩
  | .hbm, ⟨61, _⟩ => ⟨S4x33, .i32⟩
  | .hbm, ⟨62, _⟩ => ⟨S4x33, .i32⟩
  | .hbm, ⟨63, _⟩ => ⟨S4x33, .i32⟩
  | .hbm, ⟨64, _⟩ => ⟨S_, .i32⟩
  | .hbm, ⟨65, _⟩ => ⟨S4x33, .i32⟩
  | .hbm, ⟨66, _⟩ => ⟨S4x33, .i1⟩
  | .hbm, ⟨67, _⟩ => ⟨S4x33, .i32⟩
  | .hbm, ⟨68, _⟩ => ⟨S4x33, .i32⟩
  | .hbm, ⟨69, _⟩ => ⟨S_, .i32⟩
  | .hbm, ⟨70, _⟩ => ⟨S4x33, .i32⟩
  | .hbm, ⟨71, _⟩ => ⟨S4x33, .i1⟩
  | .hbm, ⟨72, _⟩ => ⟨S4x33, .i1⟩
  | .hbm, ⟨73, _⟩ => ⟨S_, .i32⟩
  | .hbm, ⟨74, _⟩ => ⟨S4x33, .i32⟩
  | .hbm, ⟨75, _⟩ => ⟨S4x33, .i32⟩
  | .hbm, ⟨76, _⟩ => ⟨S4x33, .i32⟩
  | .hbm, ⟨77, _⟩ => ⟨S_, .f32⟩
  | .hbm, ⟨78, _⟩ => ⟨S8448x2048, .f32⟩
  | .hbm, ⟨79, _⟩ => ⟨S_, .i32⟩
  | .hbm, ⟨80, _⟩ => ⟨S_, .f32⟩
  | .hbm, ⟨81, _⟩ => ⟨S8448x512, .f32⟩
  | .hbm, ⟨82, _⟩ => ⟨S_, .i32⟩
  | .hbm, ⟨83, _⟩ => ⟨S_, .f32⟩
  | .hbm, ⟨84, _⟩ => ⟨S8448x512, .f32⟩
  | .hbm, ⟨85, _⟩ => ⟨S_, .i32⟩
  | .hbm, ⟨86, _⟩ => ⟨S_, .f32⟩
  | .hbm, ⟨87, _⟩ => ⟨S8448x512, .f32⟩
  | .hbm, ⟨88, _⟩ => ⟨S_, .f32⟩
  | .hbm, ⟨89, _⟩ => ⟨S8448x256, .f32⟩
  | .hbm, ⟨90, _⟩ => ⟨S8448x3840, .f32⟩
  | .hbm, ⟨91, _⟩ => ⟨S_, .i32⟩
  | .hbm, ⟨92, _⟩ => ⟨S_, .f32⟩
  | .hbm, ⟨93, _⟩ => ⟨S8448x512, .f32⟩
  | .hbm, ⟨94, _⟩ => ⟨S_, .bf16⟩
  | .hbm, ⟨95, _⟩ => ⟨S256x256, .bf16⟩
  | .hbm, ⟨96, _⟩ => ⟨S256x256, .i32⟩
  | .hbm, ⟨97, _⟩ => ⟨S_, .i32⟩
  | .hbm, ⟨98, _⟩ => ⟨S256x256, .i32⟩
  | .hbm, ⟨99, _⟩ => ⟨S256x256, .i32⟩
  | .hbm, ⟨100, _⟩ => ⟨S256x256, .i32⟩
  | .hbm, ⟨101, _⟩ => ⟨S256x256, .i1⟩
  | .hbm, ⟨102, _⟩ => ⟨S_, .bf16⟩
  | .hbm, ⟨103, _⟩ => ⟨S256x256, .bf16⟩
  | .hbm, ⟨104, _⟩ => ⟨S256x256, .bf16⟩
  | .hbm, ⟨105, _⟩ => ⟨S_, .bf16⟩
  | .hbm, ⟨106, _⟩ => ⟨S256x256, .bf16⟩
  | .hbm, ⟨107, _⟩ => ⟨S256x256, .i32⟩
  | .hbm, ⟨108, _⟩ => ⟨S_, .i32⟩
  | .hbm, ⟨109, _⟩ => ⟨S256x256, .i32⟩
  | .hbm, ⟨110, _⟩ => ⟨S256x256, .i32⟩
  | .hbm, ⟨111, _⟩ => ⟨S256x256, .i32⟩
  | .hbm, ⟨112, _⟩ => ⟨S256x256, .i1⟩
  | .hbm, ⟨113, _⟩ => ⟨S_, .bf16⟩
  | .hbm, ⟨114, _⟩ => ⟨S256x256, .bf16⟩
  | .hbm, ⟨115, _⟩ => ⟨S256x256, .bf16⟩
  | .hbm, ⟨116, _⟩ => ⟨S8448x512, .bf16⟩
  | .hbm, ⟨117, _⟩ => ⟨S8448x512, .f32⟩
  | .hbm, ⟨118, _⟩ => ⟨S8448x512, .f32⟩
  | .local _ .vmem, ⟨0, _⟩ => ⟨S256x128, .f32⟩
  | .local _ .vmem, ⟨1, _⟩ => ⟨S256x128, .f32⟩
  | .local _ .vmem, ⟨2, _⟩ => ⟨S8448x128, .f32⟩
  | .local _ .vmem, ⟨3, _⟩ => ⟨S8448x128, .f32⟩
  | .local _ .vmem, ⟨4, _⟩ => ⟨S8448x128, .f32⟩
  | .local _ .vmem, ⟨5, _⟩ => ⟨S8448x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x256, .bf16⟩
  | .local _ .vmem, ⟨11, _⟩ => ⟨S256x256, .bf16⟩
  | .local _ .vmem, ⟨12, _⟩ => ⟨S256x128, .bf16⟩
  | .local _ .vmem, ⟨13, _⟩ => ⟨S256x128, .bf16⟩
  | .local _ .vmem, ⟨14, _⟩ => ⟨S8448x128, .f32⟩
  | .local _ .vmem, ⟨15, _⟩ => ⟨S8448x128, .f32⟩
  | .local _ .vmem, ⟨16, _⟩ => ⟨S8448x128, .f32⟩
  | .local _ .vmem, ⟨17, _⟩ => ⟨S8448x128, .f32⟩
  | .local _ .smem, ⟨0, _⟩ => ⟨S4x33, .i32⟩
  | _, _ => ⟨S8208x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v12 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c : Ref sig .tc := ⟨.hbm, 43, rfl⟩
abbrev main_call2_v0 : Ref sig .tc := ⟨.hbm, 44, rfl⟩
abbrev main_v18 : Ref sig .tc := ⟨.hbm, 45, rfl⟩
abbrev main_v19 : Ref sig .tc := ⟨.hbm, 46, rfl⟩
abbrev main_c_2 : Ref sig .tc := ⟨.hbm, 47, rfl⟩
abbrev main_v20 : Ref sig .tc := ⟨.hbm, 48, rfl⟩
abbrev main_v21 : Ref sig .tc := ⟨.hbm, 49, rfl⟩
abbrev main_c_3 : Ref sig .tc := ⟨.hbm, 50, rfl⟩
abbrev main_v22 : Ref sig .tc := ⟨.hbm, 51, rfl⟩
abbrev main_v23 : Ref sig .tc := ⟨.hbm, 52, rfl⟩
abbrev main_c_4 : Ref sig .tc := ⟨.hbm, 53, rfl⟩
abbrev main_v24 : Ref sig .tc := ⟨.hbm, 54, rfl⟩
abbrev main_v25 : Ref sig .tc := ⟨.hbm, 55, rfl⟩
abbrev main_c_5 : Ref sig .tc := ⟨.hbm, 56, rfl⟩
abbrev main_v26 : Ref sig .tc := ⟨.hbm, 57, rfl⟩
abbrev main_v27 : Ref sig .tc := ⟨.hbm, 58, rfl⟩
abbrev main_c_6 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_v6 : Ref sig .tc := ⟨.hbm, 66, rfl⟩
abbrev main_call3_v7 : Ref sig .tc := ⟨.hbm, 67, rfl⟩
abbrev main_call3_v8 : Ref sig .tc := ⟨.hbm, 68, rfl⟩
abbrev main_call3_c : Ref sig .tc := ⟨.hbm, 69, rfl⟩
abbrev main_call3_v9 : Ref sig .tc := ⟨.hbm, 70, rfl⟩
abbrev main_call3_v10 : Ref sig .tc := ⟨.hbm, 71, rfl⟩
abbrev main_call3_v11 : Ref sig .tc := ⟨.hbm, 72, rfl⟩
abbrev main_call3_c_0 : Ref sig .tc := ⟨.hbm, 73, rfl⟩
abbrev main_call3_v12 : Ref sig .tc := ⟨.hbm, 74, rfl⟩
abbrev main_call3_v13 : Ref sig .tc := ⟨.hbm, 75, rfl⟩
abbrev main_v28 : Ref sig .tc := ⟨.hbm, 76, rfl⟩
abbrev main_cst_7 : Ref sig .tc := ⟨.hbm, 77, rfl⟩
abbrev main_v29 : Ref sig .tc := ⟨.hbm, 78, rfl⟩
abbrev main_c_8 : Ref sig .tc := ⟨.hbm, 79, rfl⟩
abbrev main_call4_v0 : Ref sig .tc := ⟨.hbm, 80, rfl⟩
abbrev main_v30 : Ref sig .tc := ⟨.hbm, 81, rfl⟩
abbrev main_c_9 : Ref sig .tc := ⟨.hbm, 82, rfl⟩
abbrev main_call5_v0 : Ref sig .tc := ⟨.hbm, 83, rfl⟩
abbrev main_v31 : Ref sig .tc := ⟨.hbm, 84, rfl⟩
abbrev main_c_10 : Ref sig .tc := ⟨.hbm, 85, rfl⟩
abbrev main_call6_v0 : Ref sig .tc := ⟨.hbm, 86, rfl⟩
abbrev main_v32 : Ref sig .tc := ⟨.hbm, 87, rfl⟩
abbrev main_cst_11 : Ref sig .tc := ⟨.hbm, 88, rfl⟩
abbrev main_v33 : Ref sig .tc := ⟨.hbm, 89, rfl⟩
abbrev main_v34 : Ref sig .tc := ⟨.hbm, 90, rfl⟩
abbrev main_c_12 : Ref sig .tc := ⟨.hbm, 91, rfl⟩
abbrev main_call7_v0 : Ref sig .tc := ⟨.hbm, 92, rfl⟩
abbrev main_v35 : Ref sig .tc := ⟨.hbm, 93, rfl⟩
abbrev main_cst_13 : Ref sig .tc := ⟨.hbm, 94, rfl⟩
abbrev main_v36 : Ref sig .tc := ⟨.hbm, 95, rfl⟩
abbrev main_call8_v0 : Ref sig .tc := ⟨.hbm, 96, rfl⟩
abbrev main_call8_c : Ref sig .tc := ⟨.hbm, 97, rfl⟩
abbrev main_call8_v1 : Ref sig .tc := ⟨.hbm, 98, rfl⟩
abbrev main_call8_v2 : Ref sig .tc := ⟨.hbm, 99, rfl⟩
abbrev main_call8_v3 : Ref sig .tc := ⟨.hbm, 100, rfl⟩
abbrev main_call8_v4 : Ref sig .tc := ⟨.hbm, 101, rfl⟩
abbrev main_call8_cst : Ref sig .tc := ⟨.hbm, 102, rfl⟩
abbrev main_call8_v5 : Ref sig .tc := ⟨.hbm, 103, rfl⟩
abbrev main_v37 : Ref sig .tc := ⟨.hbm, 104, rfl⟩
abbrev main_cst_14 : Ref sig .tc := ⟨.hbm, 105, rfl⟩
abbrev main_v38 : Ref sig .tc := ⟨.hbm, 106, rfl⟩
abbrev main_call9_v0 : Ref sig .tc := ⟨.hbm, 107, rfl⟩
abbrev main_call9_c : Ref sig .tc := ⟨.hbm, 108, rfl⟩
abbrev main_call9_v1 : Ref sig .tc := ⟨.hbm, 109, rfl⟩
abbrev main_call9_v2 : Ref sig .tc := ⟨.hbm, 110, rfl⟩
abbrev main_call9_v3 : Ref sig .tc := ⟨.hbm, 111, rfl⟩
abbrev main_call9_v4 : Ref sig .tc := ⟨.hbm, 112, rfl⟩
abbrev main_call9_cst : Ref sig .tc := ⟨.hbm, 113, rfl⟩
abbrev main_call9_v5 : Ref sig .tc := ⟨.hbm, 114, rfl⟩
abbrev main_v39 : Ref sig .tc := ⟨.hbm, 115, rfl⟩
abbrev main_v40_0 : Ref sig .tc := ⟨.hbm, 116, rfl⟩
abbrev main_v40_1 : Ref sig .tc := ⟨.hbm, 117, rfl⟩
abbrev main_v40_2 : Ref sig .tc := ⟨.hbm, 118, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 33], ![false, false]⟩

def k0_off1 (i : grid0.Coords) : Fin 2 → Nat :=
  let arg0 : BitVec 32 := BitVec.ofNat 32 (i 0).val
  let v38 : Index := Scalar.indexCast arg0
  let arg1 : BitVec 32 := BitVec.ofNat 32 (i 1).val
  let v39 : Index := Scalar.indexCast arg1
  ![v38.toNat, v39.toNat]
@[reducible] def k0_t1_loop (v40 : BitVec 32) : Scf.Loop 32 :=
  let c0_i32_17 : BitVec 32 := 0#32
  let v43 : BitVec 32 := Scalar.subi v40 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_19 : BitVec 32 := 1#32
  ⟨c0_i32_17, v47, c1_i32_19⟩

def k0_mult1 (i : grid0.Coords) (v40 : BitVec 32) (k0_t1 : Fin (k0_t1_loop v40).trips) : BitVec 32 :=
  let arg1 : BitVec 32 := BitVec.ofNat 32 (i 1).val
  let c1_i32 : BitVec 32 := 1#32
  let v36 : BitVec 32 := Scalar.addi arg1 c1_i32
  let c256_i32_14 : BitVec 32 := 256#32
  let v37 : BitVec 32 := Scalar.muli v36 c256_i32_14
  let c1_i32_24 : BitVec 32 := 1#32
  let v55 : BitVec 32 := Scalar.subi v40 c1_i32_24
  let c0_i32_17 : BitVec 32 := 0#32
  let c1_i32_19 : BitVec 32 := 1#32
  let arg13 : BitVec 32 := Scf.iv c0_i32_17 c1_i32_19 k0_t1
  let v56 : BitVec 32 := Scalar.subi v55 arg13
  let c512_i32 : BitVec 32 := 512#32
  let v57 : BitVec 32 := Scalar.muli v56 c512_i32
  let v58 : BitVec 32 := Scalar.subi v37 v57
  let c512_i32_25 : BitVec 32 := 512#32
  let v59 : BitVec 32 := Scalar.subi v58 c512_i32_25
  let c0_i32_26 : BitVec 32 := 0#32
  let v60 : BitVec 32 := Scalar.maxsi v59 c0_i32_26
  v60
def k0_off2 (i : grid0.Coords) (v40 : BitVec 32) (k0_t1 : Fin (k0_t1_loop v40).trips) : Fin 2 → Nat :=
  let arg1 : BitVec 32 := BitVec.ofNat 32 (i 1).val
  let c1_i32 : BitVec 32 := 1#32
  let v36 : BitVec 32 := Scalar.addi arg1 c1_i32
  let c256_i32_14 : BitVec 32 := 256#32
  let v37 : BitVec 32 := Scalar.muli v36 c256_i32_14
  let c1_i32_24 : BitVec 32 := 1#32
  let v55 : BitVec 32 := Scalar.subi v40 c1_i32_24
  let c0_i32_17 : BitVec 32 := 0#32
  let c1_i32_19 : BitVec 32 := 1#32
  let arg13 : BitVec 32 := Scf.iv c0_i32_17 c1_i32_19 k0_t1
  let v56 : BitVec 32 := Scalar.subi v55 arg13
  let c512_i32 : BitVec 32 := 512#32
  let v57 : BitVec 32 := Scalar.muli v56 c512_i32
  let v58 : BitVec 32 := Scalar.subi v37 v57
  let c512_i32_25 : BitVec 32 := 512#32
  let v59 : BitVec 32 := Scalar.subi v58 c512_i32_25
  let c0_i32_26 : BitVec 32 := 0#32
  let v60 : BitVec 32 := Scalar.maxsi v59 c0_i32_26
  let v61 : BitVec 32 := v60
  let v62 : Index := Scalar.indexCast v61
  let c0_27 : Index := 0#32
  ![v62.toNat, 0]
@[reducible] def k0_t2_loop (v40 : BitVec 32) : Scf.Loop 32 :=
  let c0_i32_17 : BitVec 32 := 0#32
  let v43 : BitVec 32 := Scalar.subi v40 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let v44 : BitVec 32 := Scalar.addi c0_i32_17 v43
  let c1_i32_20 : BitVec 32 := 1#32
  ⟨v47, v44, c1_i32_20⟩
def k0_mult2 (i : grid0.Coords) (v40 : BitVec 32) (k0_t2 : Fin (k0_t2_loop v40).trips) : BitVec 32 :=
  let arg1 : BitVec 32 := BitVec.ofNat 32 (i 1).val
  let c1_i32 : BitVec 32 := 1#32
  let v36 : BitVec 32 := Scalar.addi arg1 c1_i32
  let c256_i32_14 : BitVec 32 := 256#32
  let v37 : BitVec 32 := Scalar.muli v36 c256_i32_14
  let c1_i32_24 : BitVec 32 := 1#32
  let v55 : BitVec 32 := Scalar.subi v40 c1_i32_24
  let c0_i32_17 : BitVec 32 := 0#32
  let v43 : BitVec 32 := Scalar.subi v40 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg13 : BitVec 32 := Scf.iv v47 c1_i32_20 k0_t2
  let v56 : BitVec 32 := Scalar.subi v55 arg13
  let c512_i32 : BitVec 32 := 512#32
  let v57 : BitVec 32 := Scalar.muli v56 c512_i32
  let v58 : BitVec 32 := Scalar.subi v37 v57
  let c512_i32_25 : BitVec 32 := 512#32
  let v59 : BitVec 32 := Scalar.subi v58 c512_i32_25
  let c0_i32_26 : BitVec 32 := 0#32
  let v60 : BitVec 32 := Scalar.maxsi v59 c0_i32_26
  v60
def k0_off3 (i : grid0.Coords) (v40 : BitVec 32) (k0_t2 : Fin (k0_t2_loop v40).trips) : Fin 2 → Nat :=
  let arg1 : BitVec 32 := BitVec.ofNat 32 (i 1).val
  let c1_i32 : BitVec 32 := 1#32
  let v36 : BitVec 32 := Scalar.addi arg1 c1_i32
  let c256_i32_14 : BitVec 32 := 256#32
  let v37 : BitVec 32 := Scalar.muli v36 c256_i32_14
  let c1_i32_24 : BitVec 32 := 1#32
  let v55 : BitVec 32 := Scalar.subi v40 c1_i32_24
  let c0_i32_17 : BitVec 32 := 0#32
  let v43 : BitVec 32 := Scalar.subi v40 c0_i32_17
  let c1_i32_18 : BitVec 32 := 1#32
  let v45 : BitVec 32 := Scalar.divsi v43 c1_i32_18
  let v46 : BitVec 32 := Scalar.muli v45 c1_i32_18
  let v47 : BitVec 32 := Scalar.addi c0_i32_17 v46
  let c1_i32_20 : BitVec 32 := 1#32
  let arg13 : BitVec 32 := Scf.iv v47 c1_i32_20 k0_t2
  let v56 : BitVec 32 := Scalar.subi v55 arg13
  let c512_i32 : BitVec 32 := 512#32
  let v57 : BitVec 32 := Scalar.muli v56 c512_i32
  let v58 : BitVec 32 := Scalar.subi v37 v57
  let c512_i32_25 : BitVec 32 := 512#32
  let v59 : BitVec 32 := Scalar.subi v58 c512_i32_25
  let c0_i32_26 : BitVec 32 := 0#32
  let v60 : BitVec 32 := Scalar.maxsi v59 c0_i32_26
  let v61 : BitVec 32 := v60
  let v62 : Index := Scalar.indexCast v61
  let c0_27 : Index := 0#32
  ![v62.toNat, 0]

def k0_chk1 (i : grid0.Coords) (v40 : BitVec 32) : Prop :=
  ((k0_t1_loop v40).OK) ∧
  (∀ k0_t1 : Fin (k0_t1_loop v40).trips, 128 ∣ (k0_mult1 i v40 k0_t1).toNat) ∧
  (∀ k0_t1 : Fin (k0_t1_loop v40).trips, ∀ a, (k0_off2 i v40 k0_t1) a + S512x128.size a ≤ S8448x128.size a) ∧
  ((k0_t2_loop v40).OK) ∧
  (∀ k0_t2 : Fin (k0_t2_loop v40).trips, 128 ∣ (k0_mult2 i v40 k0_t2).toNat) ∧
  (∀ k0_t2 : Fin (k0_t2_loop v40).trips, ∀ a, (k0_off3 i v40 k0_t2) a + S512x128.size a ≤ S8448x128.size a)
theorem k0_t1_ok : ∀ (i : grid0.Coords) (v40 : BitVec 32) (k0_hw1 : k0_chk1 i v40), (k0_t1_loop v40).OK := fun i v40 k0_hw1 => k0_hw1.1
theorem k0_mult1_dvd : ∀ (i : grid0.Coords) (v40 : BitVec 32) (k0_hw1 : k0_chk1 i v40) (k0_t1 : Fin (k0_t1_loop v40).trips), 128 ∣ (k0_mult1 i v40 k0_t1).toNat := fun i v40 k0_hw1 k0_t1 => k0_hw1.2.1 k0_t1
theorem k0_off2_inb : ∀ (i : grid0.Coords) (v40 : BitVec 32) (k0_hw1 : k0_chk1 i v40) (k0_t1 : Fin (k0_t1_loop v40).trips), ∀ a, (k0_off2 i v40 k0_t1) a + S512x128.size a ≤ S8448x128.size a := fun i v40 k0_hw1 k0_t1 => k0_hw1.2.2.1 k0_t1
theorem k0_t2_ok : ∀ (i : grid0.Coords) (v40 : BitVec 32) (k0_hw1 : k0_chk1 i v40), (k0_t2_loop v40).OK := fun i v40 k0_hw1 => k0_hw1.2.2.2.1
theorem k0_mult2_dvd : ∀ (i : grid0.Coords) (v40 : BitVec 32) (k0_hw1 : k0_chk1 i v40) (k0_t2 : Fin (k0_t2_loop v40).trips), 128 ∣ (k0_mult2 i v40 k0_t2).toNat := fun i v40 k0_hw1 k0_t2 => k0_hw1.2.2.2.2.1 k0_t2
theorem k0_off3_inb : ∀ (i : grid0.Coords) (v40 : BitVec 32) (k0_hw1 : k0_chk1 i v40) (k0_t2 : Fin (k0_t2_loop v40).trips), ∀ a, (k0_off3 i v40 k0_t2) a + S512x128.size a ≤ S8448x128.size a := fun i v40 k0_hw1 k0_t2 => k0_hw1.2.2.2.2.2 k0_t2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S4x33 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8448x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8448x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8448x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8448x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S8208x512 : Shape := ⟨2, ![8208, 512]⟩
abbrev S8208x8x64 : Shape := ⟨3, ![8208, 8, 64]⟩
abbrev S8x8208x64 : Shape := ⟨3, ![8, 8208, 64]⟩
abbrev S8x8208x8208 : Shape := ⟨3, ![8, 8208, 8208]⟩
abbrev S_ : Shape := ⟨0, ![]⟩
abbrev S8208x8208 : Shape := ⟨2, ![8208, 8208]⟩
abbrev S1x8208x8208 : Shape := ⟨3, ![1, 8208, 8208]⟩
abbrev S8x64x8208 : Shape := ⟨3, ![8, 64, 8208]⟩
abbrev S8448x512 : Shape := ⟨2, ![8448, 512]⟩

abbrev nBuf : Space → Nat
  | .hbm => 184
  | .vmem => 0
  | .smem => 0
  | _ => 0

abbrev hbmTy0_0 (i : Nat) : BufTy := match i % 128 with
  | 0 => ⟨S8208x512, .f32⟩
  | 1 => ⟨S8208x512, .f32⟩
  | 2 => ⟨S8208x512, .f32⟩
  | 3 => ⟨S8208x512, .f32⟩
  | 4 => ⟨S8208x8x64, .f32⟩
  | 5 => ⟨S8x8208x64, .f32⟩
  | 6 => ⟨S8208x8x64, .f32⟩
  | 7 => ⟨S8x8208x64, .f32⟩
  | 8 => ⟨S8208x8x64, .f32⟩
  | 9 => ⟨S8x8208x64, .f32⟩
  | 10 => ⟨S8x8208x8208, .f32⟩
  | 11 => ⟨S_, .f32⟩
  | 12 => ⟨S8x8208x8208, .f32⟩
  | 13 => ⟨S8x8208x8208, .f32⟩
  | 14 => ⟨S8208x8208, .i32⟩
  | 15 => ⟨S8208x8208, .i32⟩
  | 16 => ⟨S8208x8208, .i1⟩
  | 17 => ⟨S1x8208x8208, .i1⟩
  | 18 => ⟨S8x8208x8208, .f32⟩
  | 19 => ⟨S8x8208x8208, .f32⟩
  | 20 => ⟨S_, .f32⟩
  | 21 => ⟨S8x8208x8208, .f32⟩
  | 22 => ⟨S8x8208x8208, .f32⟩
  | 23 => ⟨S8x8208x8208, .f32⟩
  | 24 => ⟨S8x8208x8208, .f32⟩
  | 25 => ⟨S8x8208x8208, .i1⟩
  | 26 => ⟨S8x8208x8208, .f32⟩
  | 27 => ⟨S8x8208x8208, .f32⟩
  | 28 => ⟨S8x8208x8208, .f32⟩
  | 29 => ⟨S8x8208x8208, .f32⟩
  | 30 => ⟨S8x8208x8208, .f32⟩
  | 31 => ⟨S8x8208x8208, .f32⟩
  | 32 => ⟨S8x8208x8208, .f32⟩
  | 33 => ⟨S8x8208x8208, .f32⟩
  | 34 => ⟨S_, .f32⟩
  | 35 => ⟨S8x8208x8208, .f32⟩
  | 36 => ⟨S8x8208x8208, .i1⟩
  | 37 => ⟨S_, .f32⟩
  | 38 => ⟨S8x8208x8208, .f32⟩
  | 39 => ⟨S8x8208x8208, .f32⟩
  | 40 => ⟨S_, .f32⟩
  | 41 => ⟨S8x8208x8208, .f32⟩
  | 42 => ⟨S8x8208x8208, .i1⟩
  | 43 => ⟨S_, .f32⟩
  | 44 => ⟨S8x8208x8208, .f32⟩
  | 45 => ⟨S8x8208x8208, .f32⟩
  | 46 => ⟨S8x8208x8208, .f32⟩
  | 47 => ⟨S8x8208x8208, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S8x8208x8208, .f32⟩
  | 56 => ⟨S8x8208x8208, .i1⟩
  | 57 => ⟨S_, .f32⟩
  | 58 => ⟨S8x8208x8208, .f32⟩
  | 59 => ⟨S8x8208x8208, .f32⟩
  | 60 => ⟨S8x8208x8208, .f32⟩
  | 61 => ⟨S8x8208x8208, .f32⟩
  | 62 => ⟨S8x8208x8208, .f32⟩
  | 63 => ⟨S_, .f32⟩
  | 64 => ⟨S8x8208x8208, .f32⟩
  | 65 => ⟨S8x8208x8208, .f32⟩
  | 66 => ⟨S8x8208x8208, .f32⟩
  | 67 => ⟨S_, .f32⟩
  | 68 => ⟨S_, .f32⟩
  | 69 => ⟨S8x8208x8208, .i1⟩
  | 70 => ⟨S8x8208x8208, .f32⟩
  | 71 => ⟨S8x8208x8208, .f32⟩
  | 72 => ⟨S_, .f32⟩
  | 73 => ⟨S8x8208x8208, .f32⟩
  | 74 => ⟨S_, .f32⟩
  | 75 => ⟨S_, .f32⟩
  | 76 => ⟨S8x8208x8208, .f32⟩
  | 77 => ⟨S8x8208x8208, .f32⟩
  | 78 => ⟨S8x8208x8208, .f32⟩
  | 79 => ⟨S_, .f32⟩
  | 80 => ⟨S8x8208x8208, .f32⟩
  | 81 => ⟨S8x8208x8208, .f32⟩
  | 82 => ⟨S8x8208x8208, .f32⟩
  | 83 => ⟨S8x8208x8208, .f32⟩
  | 84 => ⟨S8x8208x8208, .i1⟩
  | 85 => ⟨S8x8208x8208, .f32⟩
  | 86 => ⟨S8x8208x8208, .f32⟩
  | 87 => ⟨S8x8208x8208, .f32⟩
  | 88 => ⟨S8x8208x8208, .f32⟩
  | 89 => ⟨S8x8208x8208, .f32⟩
  | 90 => ⟨S8x8208x8208, .f32⟩
  | 91 => ⟨S8x8208x8208, .f32⟩
  | 92 => ⟨S8x8208x8208, .f32⟩
  | 93 => ⟨S_, .f32⟩
  | 94 => ⟨S8x8208x8208, .f32⟩
  | 95 => ⟨S8x8208x8208, .i1⟩
  | 96 => ⟨S_, .f32⟩
  | 97 => ⟨S8x8208x8208, .f32⟩
  | 98 => ⟨S8x8208x8208, .f32⟩
  | 99 => ⟨S_, .f32⟩
  | 100 => ⟨S8x8208x8208, .f32⟩
  | 101 => ⟨S8x8208x8208, .i1⟩
  | 102 => ⟨S_, .f32⟩
  | 103 => ⟨S8x8208x8208, .f32⟩
  | 104 => ⟨S8x8208x8208, .f32⟩
  | 105 => ⟨S8x8208x8208, .f32⟩
  | 106 => ⟨S8x8208x8208, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S8x8208x8208, .f32⟩
  | 115 => ⟨S8x8208x8208, .i1⟩
  | 116 => ⟨S_, .f32⟩
  | 117 => ⟨S8x8208x8208, .f32⟩
  | 118 => ⟨S8x8208x8208, .f32⟩
  | 119 => ⟨S8x8208x8208, .f32⟩
  | 120 => ⟨S8x8208x8208, .f32⟩
  | 121 => ⟨S8x8208x8208, .f32⟩
  | 122 => ⟨S_, .f32⟩
  | 123 => ⟨S8x8208x8208, .f32⟩
  | 124 => ⟨S8x8208x8208, .f32⟩
  | 125 => ⟨S8x8208x8208, .f32⟩
  | 126 => ⟨S8x8208x8208, .f32⟩
  | 127 => ⟨S_, .f32⟩
  | _ => ⟨S8208x512, .f32⟩

abbrev hbmTy0_1 (i : Nat) : BufTy := match i % 128 with
  | 0 => ⟨S_, .f32⟩
  | 1 => ⟨S8x8208x8208, .i1⟩
  | 2 => ⟨S8x8208x8208, .f32⟩
  | 3 => ⟨S8x8208x8208, .f32⟩
  | 4 => ⟨S_, .f32⟩
  | 5 => ⟨S8x8208x8208, .f32⟩
  | 6 => ⟨S8x8208x8208, .f32⟩
  | 7 => ⟨S8x8208x64, .f32⟩
  | 8 => ⟨S8208x8x64, .f32⟩
  | 9 => ⟨S8208x512, .f32⟩
  | 10 => ⟨S8208x8x64, .f32⟩
  | 11 => ⟨S8x8208x64, .f32⟩
  | 12 => ⟨S8x64x8208, .f32⟩
  | 13 => ⟨S8x8208x64, .f32⟩
  | 14 => ⟨S8x8208x8208, .f32⟩
  | 15 => ⟨S8x8208x8208, .f32⟩
  | 16 => ⟨S_, .f32⟩
  | 17 => ⟨S8x8208x8208, .f32⟩
  | 18 => ⟨S8x8208x8208, .f32⟩
  | 19 => ⟨S8x8208x8208, .f32⟩
  | 20 => ⟨S8x8208x8208, .f32⟩
  | 21 => ⟨S8x8208x8208, .f32⟩
  | 22 => ⟨S8x8208x8208, .f32⟩
  | 23 => ⟨S_, .f32⟩
  | 24 => ⟨S_, .f32⟩
  | 25 => ⟨S8x8208x8208, .f32⟩
  | 26 => ⟨S8x8208x8208, .f32⟩
  | 27 => ⟨S_, .f32⟩
  | 28 => ⟨S8x8208x8208, .f32⟩
  | 29 => ⟨S8x8208x8208, .f32⟩
  | 30 => ⟨S8x8208x8208, .f32⟩
  | 31 => ⟨S8x8208x8208, .f32⟩
  | 32 => ⟨S8x8208x8208, .f32⟩
  | 33 => ⟨S8x8208x8208, .f32⟩
  | 34 => ⟨S8x8208x8208, .f32⟩
  | 35 => ⟨S_, .f32⟩
  | 36 => ⟨S8x8208x8208, .f32⟩
  | 37 => ⟨S8x8208x8208, .f32⟩
  | 38 => ⟨S8x8208x64, .f32⟩
  | 39 => ⟨S8x8208x64, .f32⟩
  | 40 => ⟨S8208x8x64, .f32⟩
  | 41 => ⟨S8208x512, .f32⟩
  | 42 => ⟨S8208x8x64, .f32⟩
  | 43 => ⟨S8208x512, .f32⟩
  | 44 => ⟨S8208x8x64, .f32⟩
  | 45 => ⟨S8208x512, .f32⟩
  | 46 => ⟨S_, .i32⟩
  | 47 => ⟨S_, .f32⟩
  | 48 => ⟨S8448x512, .f32⟩
  | 49 => ⟨S8448x512, .bf16⟩
  | 50 => ⟨S_, .i32⟩
  | 51 => ⟨S_, .f32⟩
  | 52 => ⟨S8448x512, .f32⟩
  | 53 => ⟨S_, .i32⟩
  | 54 => ⟨S_, .f32⟩
  | 55 => ⟨S8448x512, .f32⟩
  | _ => ⟨S8208x512, .f32⟩

abbrev hbmTy (i : Nat) : BufTy := match i / 128 with
  | 0 => hbmTy0_0 i
  | 1 => hbmTy0_1 i
  | _ => ⟨S8208x512, .f32⟩

abbrev bufTy : (tb : Table) → Fin (tcTables nBuf tb) → BufTy
  | .hbm, ⟨i, _⟩ => hbmTy i
  | _, _ => ⟨S8208x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v14_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v14_2 : Ref sig .tc := ⟨.hbm, 65, rfl⟩
abbrev main_v14_0 : Ref sig .tc := ⟨.hbm, 66, rfl⟩
abbrev main_cst_0 : Ref sig .tc := ⟨.hbm, 67, rfl⟩
abbrev main_call1_v0 : Ref sig .tc := ⟨.hbm, 68, rfl⟩
abbrev main_v15_1 : Ref sig .tc := ⟨.hbm, 69, rfl⟩
abbrev main_call1_v2 : Ref sig .tc := ⟨.hbm, 70, rfl⟩
abbrev main_v15_0 : Ref sig .tc := ⟨.hbm, 71, rfl⟩
abbrev main_call1_cst : Ref sig .tc := ⟨.hbm, 72, rfl⟩
abbrev main_v15_2 : Ref sig .tc := ⟨.hbm, 73, rfl⟩
abbrev main_call2_cst : Ref sig .tc := ⟨.hbm, 74, rfl⟩
abbrev main_call2_v0 : Ref sig .tc := ⟨.hbm, 75, rfl⟩
abbrev main_v16 : Ref sig .tc := ⟨.hbm, 76, rfl⟩
abbrev main_v17 : Ref sig .tc := ⟨.hbm, 77, rfl⟩
abbrev main_call3_v0 : Ref sig .tc := ⟨.hbm, 78, rfl⟩
abbrev main_call3_call0_cst : Ref sig .tc := ⟨.hbm, 79, rfl⟩
abbrev main_call3_call0_v0 : Ref sig .tc := ⟨.hbm, 80, rfl⟩
abbrev main_call3_call0_v1 : Ref sig .tc := ⟨.hbm, 81, rfl⟩
abbrev main_call3_call0_v2 : Ref sig .tc := ⟨.hbm, 82, rfl⟩
abbrev main_call3_call0_v3 : Ref sig .tc := ⟨.hbm, 83, rfl⟩
abbrev main_call3_call0_v4 : Ref sig .tc := ⟨.hbm, 84, rfl⟩
abbrev main_call3_call0_v5 : Ref sig .tc := ⟨.hbm, 85, rfl⟩
abbrev main_call3_call0_v6 : Ref sig .tc := ⟨.hbm, 86, rfl⟩
abbrev main_call3_call0_v7 : Ref sig .tc := ⟨.hbm, 87, rfl⟩
abbrev main_call3_call0_v8 : Ref sig .tc := ⟨.hbm, 88, rfl⟩
abbrev main_call3_call0_v9 : Ref sig .tc := ⟨.hbm, 89, rfl⟩
abbrev main_call3_call0_v10 : Ref sig .tc := ⟨.hbm, 90, rfl⟩
abbrev main_call3_call0_v11 : Ref sig .tc := ⟨.hbm, 91, rfl⟩
abbrev main_call3_v1_0 : Ref sig .tc := ⟨.hbm, 92, rfl⟩
abbrev main_call3_call0_cst_0 : Ref sig .tc := ⟨.hbm, 93, rfl⟩
abbrev main_call3_call0_v13 : Ref sig .tc := ⟨.hbm, 94, rfl⟩
abbrev main_call3_call0_v14 : Ref sig .tc := ⟨.hbm, 95, rfl⟩
abbrev main_call3_call0_cst_1 : Ref sig .tc := ⟨.hbm, 96, rfl⟩
abbrev main_call3_call0_v15 : Ref sig .tc := ⟨.hbm, 97, rfl⟩
abbrev main_call3_call0_v16 : Ref sig .tc := ⟨.hbm, 98, rfl⟩
abbrev main_call3_call0_cst_2 : Ref sig .tc := ⟨.hbm, 99, rfl⟩
abbrev main_call3_call0_v17 : Ref sig .tc := ⟨.hbm, 100, rfl⟩
abbrev main_call3_call0_v18 : Ref sig .tc := ⟨.hbm, 101, rfl⟩
abbrev main_call3_call0_cst_3 : Ref sig .tc := ⟨.hbm, 102, rfl⟩
abbrev main_call3_call0_v19 : Ref sig .tc := ⟨.hbm, 103, rfl⟩
abbrev main_call3_call0_v20 : Ref sig .tc := ⟨.hbm, 104, rfl⟩
abbrev main_call3_call0_v21 : Ref sig .tc := ⟨.hbm, 105, rfl⟩
abbrev main_v18_1 : Ref sig .tc := ⟨.hbm, 106, rfl⟩
abbrev main_call3_call0_cst_4 : Ref sig .tc := ⟨.hbm, 107, rfl⟩
abbrev main_call3_call0_cst_5 : Ref sig .tc := ⟨.hbm, 108, rfl⟩
abbrev main_call3_call0_v23 : Ref sig .tc := ⟨.hbm, 109, rfl⟩
abbrev main_call3_call0_cst_6 : Ref sig .tc := ⟨.hbm, 110, rfl⟩
abbrev main_call3_call0_cst_7 : Ref sig .tc := ⟨.hbm, 111, rfl⟩
abbrev main_call3_call0_v24 : Ref sig .tc := ⟨.hbm, 112, rfl⟩
abbrev main_call3_call0_cst_8 : Ref sig .tc := ⟨.hbm, 113, rfl⟩
abbrev main_call3_call0_v25 : Ref sig .tc := ⟨.hbm, 114, rfl⟩
abbrev main_call3_call0_v26 : Ref sig .tc := ⟨.hbm, 115, rfl⟩
abbrev main_call3_call0_cst_9 : Ref sig .tc := ⟨.hbm, 116, rfl⟩
abbrev main_call3_call0_v27 : Ref sig .tc := ⟨.hbm, 117, rfl⟩
abbrev main_call3_call0_v28 : Ref sig .tc := ⟨.hbm, 118, rfl⟩
abbrev main_call3_call0_v29 : Ref sig .tc := ⟨.hbm, 119, rfl⟩
abbrev main_call3_call0_v30 : Ref sig .tc := ⟨.hbm, 120, rfl⟩
abbrev main_call3_call0_v31 : Ref sig .tc := ⟨.hbm, 121, rfl⟩
abbrev main_call3_call0_cst_10 : Ref sig .tc := ⟨.hbm, 122, rfl⟩
abbrev main_call3_call0_v32 : Ref sig .tc := ⟨.hbm, 123, rfl⟩
abbrev main_v18_2 : Ref sig .tc := ⟨.hbm, 124, rfl⟩
abbrev main_v18_0 : Ref sig .tc := ⟨.hbm, 125, rfl⟩
abbrev main_v19 : Ref sig .tc := ⟨.hbm, 126, rfl⟩
abbrev main_cst_1 : Ref sig .tc := ⟨.hbm, 127, rfl⟩
abbrev main_call4_v0 : Ref sig .tc := ⟨.hbm, 128, rfl⟩
abbrev main_v20_1 : Ref sig .tc := ⟨.hbm, 129, rfl⟩
abbrev main_call4_v2 : Ref sig .tc := ⟨.hbm, 130, rfl⟩
abbrev main_v20_0 : Ref sig .tc := ⟨.hbm, 131, rfl⟩
abbrev main_call4_cst : Ref sig .tc := ⟨.hbm, 132, rfl⟩
abbrev main_v20_2 : Ref sig .tc := ⟨.hbm, 133, rfl⟩
abbrev main_v21 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_call5_cst : Ref sig .tc := ⟨.hbm, 144, rfl⟩
abbrev main_call5_v0 : Ref sig .tc := ⟨.hbm, 145, rfl⟩
abbrev main_v31 : Ref sig .tc := ⟨.hbm, 146, rfl⟩
abbrev main_call6_v0 : Ref sig .tc := ⟨.hbm, 147, rfl⟩
abbrev main_call6_v1 : Ref sig .tc := ⟨.hbm, 148, rfl⟩
abbrev main_v32 : Ref sig .tc := ⟨.hbm, 149, rfl⟩
abbrev main_v33 : Ref sig .tc := ⟨.hbm, 150, rfl⟩
abbrev main_call7_cst : Ref sig .tc := ⟨.hbm, 151, rfl⟩
abbrev main_call7_v0 : Ref sig .tc := ⟨.hbm, 152, rfl⟩
abbrev main_v34 : Ref sig .tc := ⟨.hbm, 153, rfl⟩
abbrev main_v35 : Ref sig .tc := ⟨.hbm, 154, rfl⟩
abbrev main_call8_cst : Ref sig .tc := ⟨.hbm, 155, rfl⟩
abbrev main_call8_v0 : Ref sig .tc := ⟨.hbm, 156, rfl⟩
abbrev main_v36 : Ref sig .tc := ⟨.hbm, 157, rfl⟩
abbrev main_call9_v0 : Ref sig .tc := ⟨.hbm, 158, rfl⟩
abbrev main_call9_v1 : Ref sig .tc := ⟨.hbm, 159, rfl⟩
abbrev main_v37 : Ref sig .tc := ⟨.hbm, 160, rfl⟩
abbrev main_v38 : Ref sig .tc := ⟨.hbm, 161, rfl⟩
abbrev main_v39 : Ref sig .tc := ⟨.hbm, 162, rfl⟩
abbrev main_cst_2 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_c : Ref sig .tc := ⟨.hbm, 174, rfl⟩
abbrev main_call10_v0 : Ref sig .tc := ⟨.hbm, 175, rfl⟩
abbrev main_v50 : Ref sig .tc := ⟨.hbm, 176, rfl⟩
abbrev main_v51 : Ref sig .tc := ⟨.hbm, 177, rfl⟩
abbrev main_c_3 : Ref sig .tc := ⟨.hbm, 178, rfl⟩
abbrev main_call11_v0 : Ref sig .tc := ⟨.hbm, 179, rfl⟩
abbrev main_v52 : Ref sig .tc := ⟨.hbm, 180, rfl⟩
abbrev main_c_4 : Ref sig .tc := ⟨.hbm, 181, rfl⟩
abbrev main_call12_v0 : Ref sig .tc := ⟨.hbm, 182, rfl⟩
abbrev main_v53 : Ref sig .tc := ⟨.hbm, 183, rfl⟩

abbrev nD : Nat := 1
abbrev τ : Topo := Topo.v7x

variable {F : FTy → Type} [FloatOps F]
-- ==== KernelDwUp.lean ====
abbrev S8448x1024 : Shape := ⟨2, ![8448, 1024]⟩
abbrev S1024x5632 : Shape := ⟨2, ![1024, 5632]⟩
abbrev S8448x5632 : Shape := ⟨2, ![8448, 5632]⟩
abbrev S768x1024 : Shape := ⟨2, ![768, 1024]⟩
abbrev S768x2816 : Shape := ⟨2, ![768, 2816]⟩
abbrev S1024x2816 : Shape := ⟨2, ![1024, 2816]⟩

abbrev nBuf : Space → Nat
  | .hbm => 6
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x5632, .f32⟩
  | .hbm, ⟨3, _⟩ => ⟨S8448x1024, .bf16⟩
  | .hbm, ⟨4, _⟩ => ⟨S8448x5632, .bf16⟩
  | .hbm, ⟨5, _⟩ => ⟨S1024x5632, .f32⟩
  | .local _ .vmem, ⟨0, _⟩ => ⟨S768x1024, .bf16⟩
  | .local _ .vmem, ⟨1, _⟩ => ⟨S768x1024, .bf16⟩
  | .local _ .vmem, ⟨2, _⟩ => ⟨S768x2816, .bf16⟩
  | .local _ .vmem, ⟨3, _⟩ => ⟨S768x2816, .bf16⟩
  | .local _ .vmem, ⟨4, _⟩ => ⟨S1024x2816, .f32⟩
  | .local _ .vmem, ⟨5, _⟩ => ⟨S1024x2816, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwUpIdeal.lean ====
abbrev S8448x1024 : Shape := ⟨2, ![8448, 1024]⟩
abbrev S1024x5632 : Shape := ⟨2, ![1024, 5632]⟩
abbrev S8448x5632 : Shape := ⟨2, ![8448, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x5632, .f32⟩
  | .hbm, ⟨3, _⟩ => ⟨S8448x5632, .f32⟩
  | .hbm, ⟨4, _⟩ => ⟨S5632x1024, .f32⟩
  | .hbm, ⟨5, _⟩ => ⟨S1024x5632, .f32⟩
  | .hbm, ⟨6, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDn2.lean ====
abbrev S8448x1024 : Shape := ⟨2, ![8448, 1024]⟩
abbrev S1024x5632 : Shape := ⟨2, ![1024, 5632]⟩
abbrev S8448x5632 : Shape := ⟨2, ![8448, 5632]⟩
abbrev S768x5632 : Shape := ⟨2, ![768, 5632]⟩
abbrev S512x5632 : Shape := ⟨2, ![512, 5632]⟩
abbrev S768x512 : Shape := ⟨2, ![768, 512]⟩

abbrev nBuf : Space → Nat
  | .hbm => 6
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x5632, .f32⟩
  | .hbm, ⟨3, _⟩ => ⟨S8448x5632, .bf16⟩
  | .hbm, ⟨4, _⟩ => ⟨S1024x5632, .bf16⟩
  | .hbm, ⟨5, _⟩ => ⟨S8448x1024, .f32⟩
  | .local _ .vmem, ⟨0, _⟩ => ⟨S768x5632, .bf16⟩
  | .local _ .vmem, ⟨1, _⟩ => ⟨S768x5632, .bf16⟩
  | .local _ .vmem, ⟨2, _⟩ => ⟨S512x5632, .bf16⟩
  | .local _ .vmem, ⟨3, _⟩ => ⟨S512x5632, .bf16⟩
  | .local _ .vmem, ⟨4, _⟩ => ⟨S768x512, .f32⟩
  | .local _ .vmem, ⟨5, _⟩ => ⟨S768x512, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDn2Ideal.lean ====
abbrev S8448x1024 : Shape := ⟨2, ![8448, 1024]⟩
abbrev S1024x5632 : Shape := ⟨2, ![1024, 5632]⟩
abbrev S8448x5632 : Shape := ⟨2, ![8448, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x5632, .f32⟩
  | .hbm, ⟨3, _⟩ => ⟨S8448x5632, .f32⟩
  | .hbm, ⟨4, _⟩ => ⟨S5632x1024, .f32⟩
  | .hbm, ⟨5, _⟩ => ⟨S1024x5632, .f32⟩
  | .hbm, ⟨6, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDwDown.lean ====
abbrev S8448x2816 : Shape := ⟨2, ![8448, 2816]⟩
abbrev S2816x1024 : Shape := ⟨2, ![2816, 1024]⟩
abbrev S8448x1024 : Shape := ⟨2, ![8448, 1024]⟩
abbrev S768x2816 : Shape := ⟨2, ![768, 2816]⟩
abbrev S768x1024 : Shape := ⟨2, ![768, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | .hbm, ⟨3, _⟩ => ⟨S8448x2816, .bf16⟩
  | .hbm, ⟨4, _⟩ => ⟨S8448x1024, .bf16⟩
  | .hbm, ⟨5, _⟩ => ⟨S2816x1024, .f32⟩
  | .local _ .vmem, ⟨0, _⟩ => ⟨S768x2816, .bf16⟩
  | .local _ .vmem, ⟨1, _⟩ => ⟨S768x2816, .bf16⟩
  | .local _ .vmem, ⟨2, _⟩ => ⟨S768x1024, .bf16⟩
  | .local _ .vmem, ⟨3, _⟩ => ⟨S768x1024, .bf16⟩
  | .local _ .vmem, ⟨4, _⟩ => ⟨S2816x1024, .f32⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceDwDownIdeal.lean ====
abbrev S8448x2816 : Shape := ⟨2, ![8448, 2816]⟩
abbrev S2816x1024 : Shape := ⟨2, ![2816, 1024]⟩
abbrev S8448x1024 : Shape := ⟨2, ![8448, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | .hbm, ⟨3, _⟩ => ⟨S8448x1024, .f32⟩
  | .hbm, ⟨4, _⟩ => ⟨S1024x2816, .f32⟩
  | .hbm, ⟨5, _⟩ => ⟨S2816x1024, .f32⟩
  | .hbm, ⟨6, _⟩ => ⟨S8448x2816, .f32⟩
  | _, _ => ⟨S8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDact.lean ====
abbrev S8448x2816 : Shape := ⟨2, ![8448, 2816]⟩
abbrev S2816x1024 : Shape := ⟨2, ![2816, 1024]⟩
abbrev S8448x1024 : Shape := ⟨2, ![8448, 1024]⟩
abbrev S768x1024 : Shape := ⟨2, ![768, 1024]⟩
abbrev S768x2816 : Shape := ⟨2, ![768, 2816]⟩

abbrev nBuf : Space → Nat
  | .hbm => 6
  | .vmem => 5
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | .hbm, ⟨3, _⟩ => ⟨S8448x1024, .bf16⟩
  | .hbm, ⟨4, _⟩ => ⟨S2816x1024, .bf16⟩
  | .hbm, ⟨5, _⟩ => ⟨S8448x2816, .f32⟩
  | .local _ .vmem, ⟨0, _⟩ => ⟨S768x1024, .bf16⟩
  | .local _ .vmem, ⟨1, _⟩ => ⟨S768x1024, .bf16⟩
  | .local _ .vmem, ⟨2, _⟩ => ⟨S2816x1024, .bf16⟩
  | .local _ .vmem, ⟨3, _⟩ => ⟨S768x2816, .f32⟩
  | .local _ .vmem, ⟨4, _⟩ => ⟨S768x2816, .f32⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDactIdeal.lean ====
abbrev S8448x2816 : Shape := ⟨2, ![8448, 2816]⟩
abbrev S2816x1024 : Shape := ⟨2, ![2816, 1024]⟩
abbrev S8448x1024 : Shape := ⟨2, ![8448, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | .hbm, ⟨3, _⟩ => ⟨S8448x1024, .f32⟩
  | .hbm, ⟨4, _⟩ => ⟨S1024x2816, .f32⟩
  | .hbm, ⟨5, _⟩ => ⟨S2816x1024, .f32⟩
  | .hbm, ⟨6, _⟩ => ⟨S8448x2816, .f32⟩
  | _, _ => ⟨S8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDwOut.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | .hbm, ⟨3, _⟩ => ⟨S8448x1024, .bf16⟩
  | .hbm, ⟨4, _⟩ => ⟨S8448x1024, .bf16⟩
  | .hbm, ⟨5, _⟩ => ⟨S1024x1024, .f32⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceDwOutIdeal.lean ====
abbrev S8448x1024 : Shape := ⟨2, ![8448, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | .hbm, ⟨3, _⟩ => ⟨S8448x1024, .f32⟩
  | .hbm, ⟨4, _⟩ => ⟨S1024x1024, .f32⟩
  | .hbm, ⟨5, _⟩ => ⟨S1024x1024, .f32⟩
  | .hbm, ⟨6, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDy.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | .hbm, ⟨3, _⟩ => ⟨S8448x1024, .bf16⟩
  | .hbm, ⟨4, _⟩ => ⟨S1024x1024, .bf16⟩
  | .hbm, ⟨5, _⟩ => ⟨S8448x1024, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDyIdeal.lean ====
abbrev S8448x1024 : Shape := ⟨2, ![8448, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | .hbm, ⟨3, _⟩ => ⟨S8448x1024, .f32⟩
  | .hbm, ⟨4, _⟩ => ⟨S1024x1024, .f32⟩
  | .hbm, ⟨5, _⟩ => ⟨S1024x1024, .f32⟩
  | .hbm, ⟨6, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDwInGdn.lean ====
abbrev S8448x1024 : Shape := ⟨2, ![8448, 1024]⟩
abbrev S8448x1536 : Shape := ⟨2, ![8448, 1536]⟩
abbrev S8448x256 : Shape := ⟨2, ![8448, 256]⟩
abbrev S1024x1536 : Shape := ⟨2, ![1024, 1536]⟩
abbrev S1024x256 : Shape := ⟨2, ![1024, 256]⟩
abbrev S768x1024 : Shape := ⟨2, ![768, 1024]⟩
abbrev S768x1536 : Shape := ⟨2, ![768, 1536]⟩
abbrev S768x256 : Shape := ⟨2, ![768, 256]⟩

abbrev nBuf : Space → Nat
  | .hbm => 8
  | .vmem => 8
  | .smem => 0
  | _ => 0

abbrev bufTy : (tb : Table) → Fin (tcTables nBuf tb) → BufTy
  | .hbm, ⟨0, _⟩ => ⟨S8448x1024, .f32⟩
  | .hbm, ⟨1, _⟩ => ⟨S8448x1536, .f32⟩
  | .hbm, ⟨2, _⟩ => ⟨S8448x256, .f32⟩
  | .hbm, ⟨3, _⟩ => ⟨S8448x1024, .bf16⟩
  | .hbm, ⟨4, _⟩ => ⟨S8448x1536, .bf16⟩
  | .hbm, ⟨5, _⟩ => ⟨S8448x256, .bf16⟩
  | .hbm, ⟨6, _⟩ => ⟨S1024x1536, .f32⟩
  | .hbm, ⟨7, _⟩ => ⟨S1024x256, .f32⟩
  | .local _ .vmem, ⟨0, _⟩ => ⟨S768x1024, .bf16⟩
  | .local _ .vmem, ⟨1, _⟩ => ⟨S768x1024, .bf16⟩
  | .local _ .vmem, ⟨2, _⟩ => ⟨S768x1536, .bf16⟩
  | .local _ .vmem, ⟨3, _⟩ => ⟨S768x1536, .bf16⟩
  | .local _ .vmem, ⟨4, _⟩ => ⟨S768x256, .bf16⟩
  | .local _ .vmem, ⟨5, _⟩ => ⟨S768x256, .bf16⟩
  | .local _ .vmem, ⟨6, _⟩ => ⟨S1024x1536, .f32⟩
  | .local _ .vmem, ⟨7, _⟩ => ⟨S1024x256, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceDwInGdnIdeal.lean ====
abbrev S8448x1024 : Shape := ⟨2, ![8448, 1024]⟩
abbrev S8448x1536 : Shape := ⟨2, ![8448, 1536]⟩
abbrev S8448x256 : Shape := ⟨2, ![8448, 256]⟩
abbrev S_ : Shape := ⟨0, ![]⟩
abbrev S1024x1536 : Shape := ⟨2, ![1024, 1536]⟩
abbrev S1536x1024 : Shape := ⟨2, ![1536, 1024]⟩
abbrev S1024x256 : Shape := ⟨2, ![1024, 256]⟩
abbrev S256x1024 : Shape := ⟨2, ![256, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1536, .f32⟩
  | .hbm, ⟨2, _⟩ => ⟨S8448x256, .f32⟩
  | .hbm, ⟨3, _⟩ => ⟨S_, .f32⟩
  | .hbm, ⟨4, _⟩ => ⟨S1024x1536, .f32⟩
  | .hbm, ⟨5, _⟩ => ⟨S8448x1536, .f32⟩
  | .hbm, ⟨6, _⟩ => ⟨S1536x1024, .f32⟩
  | .hbm, ⟨7, _⟩ => ⟨S1024x1536, .f32⟩
  | .hbm, ⟨8, _⟩ => ⟨S_, .f32⟩
  | .hbm, ⟨9, _⟩ => ⟨S1024x256, .f32⟩
  | .hbm, ⟨10, _⟩ => ⟨S8448x256, .f32⟩
  | .hbm, ⟨11, _⟩ => ⟨S256x1024, .f32⟩
  | .hbm, ⟨12, _⟩ => ⟨S1024x256, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== KernelDwInRest.lean ====
abbrev S8448x1024 : Shape := ⟨2, ![8448, 1024]⟩
abbrev S8448x512 : Shape := ⟨2, ![8448, 512]⟩
abbrev S1024x512 : Shape := ⟨2, ![1024, 512]⟩
abbrev S768x1024 : Shape := ⟨2, ![768, 1024]⟩
abbrev S768x512 : Shape := ⟨2, ![768, 512]⟩

abbrev nBuf : Space → Nat
  | .hbm => 12
  | .vmem => 14
  | .smem => 0
  | _ => 0

abbrev bufTy : (tb : Table) → Fin (tcTables nBuf tb) → BufTy
  | .hbm, ⟨0, _⟩ => ⟨S8448x1024, .f32⟩
  | .hbm, ⟨1, _⟩ => ⟨S8448x512, .f32⟩
  | .hbm, ⟨2, _⟩ => ⟨S8448x512, .f32⟩
  | .hbm, ⟨3, _⟩ => ⟨S8448x512, .f32⟩
  | .hbm, ⟨4, _⟩ => ⟨S8448x512, .f32⟩
  | .hbm, ⟨5, _⟩ => ⟨S8448x1024, .bf16⟩
  | .hbm, ⟨6, _⟩ => ⟨S8448x512, .bf16⟩
  | .hbm, ⟨7, _⟩ => ⟨S8448x512, .bf16⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .local _ .vmem, ⟨0, _⟩ => ⟨S768x1024, .bf16⟩
  | .local _ .vmem, ⟨1, _⟩ => ⟨S768x1024, .bf16⟩
  | .local _ .vmem, ⟨2, _⟩ => ⟨S768x512, .bf16⟩
  | .local _ .vmem, ⟨3, _⟩ => ⟨S768x512, .bf16⟩
  | .local _ .vmem, ⟨4, _⟩ => ⟨S768x512, .bf16⟩
  | .local _ .vmem, ⟨5, _⟩ => ⟨S768x512, .bf16⟩
  | .local _ .vmem, ⟨6, _⟩ => ⟨S768x512, .f32⟩
  | .local _ .vmem, ⟨7, _⟩ => ⟨S768x512, .f32⟩
  | .local _ .vmem, ⟨8, _⟩ => ⟨S768x512, .f32⟩
  | .local _ .vmem, ⟨9, _⟩ => ⟨S768x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceDwInRestIdeal.lean ====
abbrev S8448x1024 : Shape := ⟨2, ![8448, 1024]⟩
abbrev S8448x512 : Shape := ⟨2, ![8448, 512]⟩
abbrev S_ : Shape := ⟨0, ![]⟩
abbrev S1024x512 : Shape := ⟨2, ![1024, 512]⟩
abbrev S512x1024 : Shape := ⟨2, ![512, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x512, .f32⟩
  | .hbm, ⟨2, _⟩ => ⟨S8448x512, .f32⟩
  | .hbm, ⟨3, _⟩ => ⟨S8448x512, .f32⟩
  | .hbm, ⟨4, _⟩ => ⟨S8448x512, .f32⟩
  | .hbm, ⟨5, _⟩ => ⟨S_, .f32⟩
  | .hbm, ⟨6, _⟩ => ⟨S1024x512, .f32⟩
  | .hbm, ⟨7, _⟩ => ⟨S8448x512, .f32⟩
  | .hbm, ⟨8, _⟩ => ⟨S512x1024, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S8448x512, .f32⟩
  | .hbm, ⟨13, _⟩ => ⟨S512x1024, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S8448x512, .f32⟩
  | .hbm, ⟨18, _⟩ => ⟨S512x1024, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S8448x512, .f32⟩
  | .hbm, ⟨23, _⟩ => ⟨S512x1024, .f32⟩
  | .hbm, ⟨24, _⟩ => ⟨S1024x512, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== KernelDu.lean ====
abbrev S1024x3592 : Shape := ⟨2, ![1024, 3592]⟩
abbrev S8448x1536 : Shape := ⟨2, ![8448, 1536]⟩
abbrev S8448x512 : Shape := ⟨2, ![8448, 512]⟩
abbrev S8448x256 : Shape := ⟨2, ![8448, 256]⟩
abbrev S1024x1536 : Shape := ⟨2, ![1024, 1536]⟩
abbrev S1024x512 : Shape := ⟨2, ![1024, 512]⟩
abbrev S1024x8 : Shape := ⟨2, ![1024, 8]⟩
abbrev S_ : Shape := ⟨0, ![]⟩
abbrev S1024x248 : Shape := ⟨2, ![1024, 248]⟩
abbrev S1024x3840 : Shape := ⟨2, ![1024, 3840]⟩
abbrev S8448x1024 : Shape := ⟨2, ![8448, 1024]⟩
abbrev S768x1536 : Shape := ⟨2, ![768, 1536]⟩
abbrev S768x512 : Shape := ⟨2, ![768, 512]⟩
abbrev S768x256 : Shape := ⟨2, ![768, 256]⟩
abbrev S1024x256 : Shape := ⟨2, ![1024, 256]⟩
abbrev S768x1024 : Shape := ⟨2, ![768, 1024]⟩

abbrev nBuf : Space → Nat
  | .hbm => 20
  | .vmem => 20
  | .smem => 0
  | _ => 0

abbrev bufTy : (tb : Table) → Fin (tcTables nBuf tb) → BufTy
  | .hbm, ⟨0, _⟩ => ⟨S1024x3592, .f32⟩
  | .hbm, ⟨1, _⟩ => ⟨S8448x1536, .f32⟩
  | .hbm, ⟨2, _⟩ => ⟨S8448x512, .f32⟩
  | .hbm, ⟨3, _⟩ => ⟨S8448x512, .f32⟩
  | .hbm, ⟨4, _⟩ => ⟨S8448x512, .f32⟩
  | .hbm, ⟨5, _⟩ => ⟨S8448x512, .f32⟩
  | .hbm, ⟨6, _⟩ => ⟨S8448x256, .f32⟩
  | .hbm, ⟨7, _⟩ => ⟨S8448x1536, .bf16⟩
  | .hbm, ⟨8, _⟩ => ⟨S8448x512, .bf16⟩
  | .hbm, ⟨9, _⟩ => ⟨S8448x512, .bf16⟩
  | .hbm, ⟨10, _⟩ => ⟨S8448x256, .bf16⟩
  | .hbm, ⟨11, _⟩ => ⟨S1024x3592, .bf16⟩
  | .hbm, ⟨12, _⟩ => ⟨S1024x1536, .bf16⟩
  | .hbm, ⟨13, _⟩ => ⟨S1024x512, .bf16⟩
  | .hbm, ⟨14, _⟩ => ⟨S1024x1536, .bf16⟩
  | .hbm, ⟨15, _⟩ => ⟨S1024x8, .bf16⟩
  | .hbm, ⟨16, _⟩ => ⟨S_, .bf16⟩
  | .hbm, ⟨17, _⟩ => ⟨S1024x248, .bf16⟩
  | .hbm, ⟨18, _⟩ => ⟨S1024x3840, .bf16⟩
  | .hbm, ⟨19, _⟩ => ⟨S8448x1024, .f32⟩
  | .local _ .vmem, ⟨0, _⟩ => ⟨S768x1536, .bf16⟩
  | .local _ .vmem, ⟨1, _⟩ => ⟨S768x1536, .bf16⟩
  | .local _ .vmem, ⟨2, _⟩ => ⟨S768x512, .bf16⟩
  | .local _ .vmem, ⟨3, _⟩ => ⟨S768x512, .bf16⟩
  | .local _ .vmem, ⟨4, _⟩ => ⟨S768x512, .bf16⟩
  | .local _ .vmem, ⟨5, _⟩ => ⟨S768x512, .bf16⟩
  | .local _ .vmem, ⟨6, _⟩ => ⟨S768x512, .f32⟩
  | .local _ .vmem, ⟨7, _⟩ => ⟨S768x512, .f32⟩
  | .local _ .vmem, ⟨8, _⟩ => ⟨S768x512, .f32⟩
  | .local _ .vmem, ⟨9, _⟩ => ⟨S768x512, .f32⟩
  | .local _ .vmem, ⟨10, _⟩ => ⟨S768x256, .bf16⟩
  | .local _ .vmem, ⟨11, _⟩ => ⟨S768x256, .bf16⟩
  | .local _ .vmem, ⟨12, _⟩ => ⟨S1024x1536, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x256, .bf16⟩
  | .local _ .vmem, ⟨18, _⟩ => ⟨S768x1024, .f32⟩
  | .local _ .vmem, ⟨19, _⟩ => ⟨S768x1024, .f32⟩
  | _, _ => ⟨S1024x3592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_9 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_10 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_11 (i : grid0.Coords) : Fin 2 → Nat :=
  let arg0 : BitVec 32 := BitVec.ofNat 32 (i 0).val
  let arg1 : BitVec 32 := BitVec.ofNat 32 (i 1).val
  let c14_i32 : BitVec 32 := 14#32
  let c0_i32 : BitVec 32 := 0#32
  ![arg0.toNat, c14_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S768x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 2 → Memref sig .tc .vmem S768x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceDuIdeal.lean ====
abbrev S1024x3592 : Shape := ⟨2, ![1024, 3592]⟩
abbrev S8448x1536 : Shape := ⟨2, ![8448, 1536]⟩
abbrev S8448x512 : Shape := ⟨2, ![8448, 512]⟩
abbrev S8448x256 : Shape := ⟨2, ![8448, 256]⟩
abbrev S8448x8 : Shape := ⟨2, ![8448, 8]⟩
abbrev S8448x3592 : Shape := ⟨2, ![8448, 3592]⟩
abbrev S_ : Shape := ⟨0, ![]⟩
abbrev S8448x1024 : Shape := ⟨2, ![8448, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1024x3592, .f32⟩
  | .hbm, ⟨1, _⟩ => ⟨S8448x1536, .f32⟩
  | .hbm, ⟨2, _⟩ => ⟨S8448x512, .f32⟩
  | .hbm, ⟨3, _⟩ => ⟨S8448x512, .f32⟩
  | .hbm, ⟨4, _⟩ => ⟨S8448x512, .f32⟩
  | .hbm, ⟨5, _⟩ => ⟨S8448x512, .f32⟩
  | .hbm, ⟨6, _⟩ => ⟨S8448x256, .f32⟩
  | .hbm, ⟨7, _⟩ => ⟨S8448x8, .f32⟩
  | .hbm, ⟨8, _⟩ => ⟨S8448x3592, .f32⟩
  | .hbm, ⟨9, _⟩ => ⟨S_, .f32⟩
  | .hbm, ⟨10, _⟩ => ⟨S8448x1024, .f32⟩
  | .hbm, ⟨11, _⟩ => ⟨S8448x3592, .f32⟩
  | .hbm, ⟨12, _⟩ => ⟨S8448x1024, .f32⟩
  | _, _ => ⟨S1024x3592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩

abbrev nD : Nat := 1
abbrev τ : Topo := Topo.v7x

variable {F : FTy → Type} [FloatOps F]
-- ==== KernelUp.lean ====
abbrev S8448x1024 : Shape := ⟨2, ![8448, 1024]⟩
abbrev S1024x5632 : Shape := ⟨2, ![1024, 5632]⟩
abbrev S8448x5632 : Shape := ⟨2, ![8448, 5632]⟩
abbrev S768x1024 : Shape := ⟨2, ![768, 1024]⟩
abbrev S1024x2816 : Shape := ⟨2, ![1024, 2816]⟩
abbrev S768x2816 : Shape := ⟨2, ![768, 2816]⟩

abbrev nBuf : Space → Nat
  | .hbm => 5
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x1024, .bf16⟩
  | .hbm, ⟨3, _⟩ => ⟨S1024x5632, .bf16⟩
  | .hbm, ⟨4, _⟩ => ⟨S8448x5632, .f32⟩
  | .local _ .vmem, ⟨0, _⟩ => ⟨S768x1024, .bf16⟩
  | .local _ .vmem, ⟨1, _⟩ => ⟨S768x1024, .bf16⟩
  | .local _ .vmem, ⟨2, _⟩ => ⟨S1024x2816, .bf16⟩
  | .local _ .vmem, ⟨3, _⟩ => ⟨S1024x2816, .bf16⟩
  | .local _ .vmem, ⟨4, _⟩ => ⟨S768x2816, .f32⟩
  | .local _ .vmem, ⟨5, _⟩ => ⟨S768x2816, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceUpIdeal.lean ====
abbrev S8448x1024 : Shape := ⟨2, ![8448, 1024]⟩
abbrev S1024x5632 : Shape := ⟨2, ![1024, 5632]⟩
abbrev S8448x5632 : Shape := ⟨2, ![8448, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x5632, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelDown.lean ====
abbrev S8448x2816 : Shape := ⟨2, ![8448, 2816]⟩
abbrev S2816x1024 : Shape := ⟨2, ![2816, 1024]⟩
abbrev S8448x1024 : Shape := ⟨2, ![8448, 1024]⟩
abbrev S768x2816 : Shape := ⟨2, ![768, 2816]⟩
abbrev S768x1024 : Shape := ⟨2, ![768, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x2816, .bf16⟩
  | .hbm, ⟨3, _⟩ => ⟨S2816x1024, .bf16⟩
  | .hbm, ⟨4, _⟩ => ⟨S8448x1024, .f32⟩
  | .local _ .vmem, ⟨0, _⟩ => ⟨S768x2816, .bf16⟩
  | .local _ .vmem, ⟨1, _⟩ => ⟨S768x2816, .bf16⟩
  | .local _ .vmem, ⟨2, _⟩ => ⟨S2816x1024, .bf16⟩
  | .local _ .vmem, ⟨3, _⟩ => ⟨S768x1024, .f32⟩
  | .local _ .vmem, ⟨4, _⟩ => ⟨S768x1024, .f32⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDownIdeal.lean ====
abbrev S8448x2816 : Shape := ⟨2, ![8448, 2816]⟩
abbrev S2816x1024 : Shape := ⟨2, ![2816, 1024]⟩
abbrev S8448x1024 : Shape := ⟨2, ![8448, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | _, _ => ⟨S8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelOut.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .bf16⟩
  | .hbm, ⟨3, _⟩ => ⟨S1024x1024, .bf16⟩
  | .hbm, ⟨4, _⟩ => ⟨S8448x1024, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceOutIdeal.lean ====
abbrev S8448x1024 : Shape := ⟨2, ![8448, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelIn.lean ====
abbrev S8448x1024 : Shape := ⟨2, ![8448, 1024]⟩
abbrev S1024x3592 : Shape := ⟨2, ![1024, 3592]⟩
abbrev S1024x1536 : Shape := ⟨2, ![1024, 1536]⟩
abbrev S1024x512 : Shape := ⟨2, ![1024, 512]⟩
abbrev S1024x8 : Shape := ⟨2, ![1024, 8]⟩
abbrev S_ : Shape := ⟨0, ![]⟩
abbrev S1024x248 : Shape := ⟨2, ![1024, 248]⟩
abbrev S1024x3840 : Shape := ⟨2, ![1024, 3840]⟩
abbrev S8448x3840 : Shape := ⟨2, ![8448, 3840]⟩
abbrev S768x1024 : Shape := ⟨2, ![768, 1024]⟩
abbrev S1024x1920 : Shape := ⟨2, ![1024, 1920]⟩
abbrev S768x1920 : Shape := ⟨2, ![768, 1920]⟩

abbrev nBuf : Space → Nat
  | .hbm => 12
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x3592, .f32⟩
  | .hbm, ⟨2, _⟩ => ⟨S8448x1024, .bf16⟩
  | .hbm, ⟨3, _⟩ => ⟨S1024x3592, .bf16⟩
  | .hbm, ⟨4, _⟩ => ⟨S1024x1536, .bf16⟩
  | .hbm, ⟨5, _⟩ => ⟨S1024x512, .bf16⟩
  | .hbm, ⟨6, _⟩ => ⟨S1024x1536, .bf16⟩
  | .hbm, ⟨7, _⟩ => ⟨S1024x8, .bf16⟩
  | .hbm, ⟨8, _⟩ => ⟨S_, .bf16⟩
  | .hbm, ⟨9, _⟩ => ⟨S1024x248, .bf16⟩
  | .hbm, ⟨10, _⟩ => ⟨S1024x3840, .bf16⟩
  | .hbm, ⟨11, _⟩ => ⟨S8448x3840, .f32⟩
  | .local _ .vmem, ⟨0, _⟩ => ⟨S768x1024, .bf16⟩
  | .local _ .vmem, ⟨1, _⟩ => ⟨S768x1024, .bf16⟩
  | .local _ .vmem, ⟨2, _⟩ => ⟨S1024x1920, .bf16⟩
  | .local _ .vmem, ⟨3, _⟩ => ⟨S1024x1920, .bf16⟩
  | .local _ .vmem, ⟨4, _⟩ => ⟨S768x1920, .f32⟩
  | .local _ .vmem, ⟨5, _⟩ => ⟨S768x1920, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInIdeal.lean ====
abbrev S8448x1024 : Shape := ⟨2, ![8448, 1024]⟩
abbrev S1024x3592 : Shape := ⟨2, ![1024, 3592]⟩
abbrev S8448x3592 : Shape := ⟨2, ![8448, 3592]⟩
abbrev S8448x1536 : Shape := ⟨2, ![8448, 1536]⟩
abbrev S8448x2048 : Shape := ⟨2, ![8448, 2048]⟩
abbrev S8448x8 : Shape := ⟨2, ![8448, 8]⟩
abbrev S_ : Shape := ⟨0, ![]⟩
abbrev S8448x248 : Shape := ⟨2, ![8448, 248]⟩
abbrev S8448x3840 : Shape := ⟨2, ![8448, 3840]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x3592, .f32⟩
  | .hbm, ⟨2, _⟩ => ⟨S8448x3592, .f32⟩
  | .hbm, ⟨3, _⟩ => ⟨S8448x1536, .f32⟩
  | .hbm, ⟨4, _⟩ => ⟨S8448x2048, .f32⟩
  | .hbm, ⟨5, _⟩ => ⟨S8448x8, .f32⟩
  | .hbm, ⟨6, _⟩ => ⟨S_, .f32⟩
  | .hbm, ⟨7, _⟩ => ⟨S8448x248, .f32⟩
  | .hbm, ⟨8, _⟩ => ⟨S8448x3840, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelResid.lean ====
abbrev S8448x1024 : Shape := ⟨2, ![8448, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩
abbrev S384x1024 : Shape := ⟨2, ![384, 1024]⟩
abbrev S384 : Shape := ⟨1, ![384]⟩
abbrev S384x1 : Shape := ⟨2, ![384, 1]⟩
abbrev S1024 : Shape := ⟨1, ![1024]⟩

abbrev nBuf : Space → Nat
  | .hbm => 41
  | .vmem => 16
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1x1024, .f32⟩
  | .hbm, ⟨3, _⟩ => ⟨S1x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S_, .f32⟩
  | .hbm, ⟨8, _⟩ => ⟨S8448, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S8448x1, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S_, .f32⟩
  | .hbm, ⟨24, _⟩ => ⟨S8448, .f32⟩
  | .hbm, ⟨25, _⟩ => ⟨S8448x1, .f32⟩
  | .hbm, ⟨26, _⟩ => ⟨S_, .f32⟩
  | .hbm, ⟨27, _⟩ => ⟨S8448x1, .f32⟩
  | .hbm, ⟨28, _⟩ => ⟨S8448x1, .f32⟩
  | .hbm, ⟨29, _⟩ => ⟨S_, .f32⟩
  | .hbm, ⟨30, _⟩ => ⟨S8448x1, .f32⟩
  | .hbm, ⟨31, _⟩ => ⟨S8448x1, .f32⟩
  | .hbm, ⟨32, _⟩ => ⟨S8448x1, .f32⟩
  | .hbm, ⟨33, _⟩ => ⟨S8448x1024, .f32⟩
  | .hbm, ⟨34, _⟩ => ⟨S8448x1024, .f32⟩
  | .hbm, ⟨35, _⟩ => ⟨S8448x1024, .f32⟩
  | .hbm, ⟨36, _⟩ => ⟨S8448x1024, .f32⟩
  | .hbm, ⟨37, _⟩ => ⟨S8448x1024, .f32⟩
  | .hbm, ⟨38, _⟩ => ⟨S8448x1024, .bf16⟩
  | .hbm, ⟨39, _⟩ => ⟨S1x1024, .f32⟩
  | .hbm, ⟨40, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S384x1024, .bf16⟩
  | .local _ .vmem, ⟨13, _⟩ => ⟨S384x1024, .bf16⟩
  | .local _ .vmem, ⟨14, _⟩ => ⟨S1x1024, .f32⟩
  | .local _ .vmem, ⟨15, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev main_v25_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceResidIdeal.lean ====
abbrev S8448x1024 : Shape := ⟨2, ![8448, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1x1024, .f32⟩
  | .hbm, ⟨3, _⟩ => ⟨S1x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S_, .f32⟩
  | .hbm, ⟨8, _⟩ => ⟨S8448, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S8448x1, .f32⟩
  | .hbm, ⟨17, _⟩ => ⟨S8448x1, .f32⟩
  | .hbm, ⟨18, _⟩ => ⟨S_, .f32⟩
  | .hbm, ⟨19, _⟩ => ⟨S8448x1, .f32⟩
  | .hbm, ⟨20, _⟩ => ⟨S8448x1, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S8448x1024, .f32⟩
  | .hbm, ⟨27, _⟩ => ⟨S_, .f32⟩
  | .hbm, ⟨28, _⟩ => ⟨S8448, .f32⟩
  | .hbm, ⟨29, _⟩ => ⟨S8448x1, .f32⟩
  | .hbm, ⟨30, _⟩ => ⟨S_, .f32⟩
  | .hbm, ⟨31, _⟩ => ⟨S8448x1, .f32⟩
  | .hbm, ⟨32, _⟩ => ⟨S8448x1, .f32⟩
  | .hbm, ⟨33, _⟩ => ⟨S_, .f32⟩
  | .hbm, ⟨34, _⟩ => ⟨S8448x1, .f32⟩
  | .hbm, ⟨35, _⟩ => ⟨S8448x1, .f32⟩
  | .hbm, ⟨36, _⟩ => ⟨S8448x1, .f32⟩
  | .hbm, ⟨37, _⟩ => ⟨S8448x1, .f32⟩
  | .hbm, ⟨38, _⟩ => ⟨S_, .f32⟩
  | .hbm, ⟨39, _⟩ => ⟨S8448x1, .f32⟩
  | .hbm, ⟨40, _⟩ => ⟨S8448x1, .f32⟩
  | .hbm, ⟨41, _⟩ => ⟨S8448x1024, .f32⟩
  | .hbm, ⟨42, _⟩ => ⟨S8448x1024, .f32⟩
  | .hbm, ⟨43, _⟩ => ⟨S8448x1024, .f32⟩
  | .hbm, ⟨44, _⟩ => ⟨S8448x1024, .f32⟩
  | .hbm, ⟨45, _⟩ => ⟨S8448x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8448x1024, .f32⟩
  | .hbm, ⟨50, _⟩ => ⟨S8448x1024, .f32⟩
  | .hbm, ⟨51, _⟩ => ⟨S8448x1024, .f32⟩
  | .hbm, ⟨52, _⟩ => ⟨S_, .f32⟩
  | .hbm, ⟨53, _⟩ => ⟨S8448, .f32⟩
  | .hbm, ⟨54, _⟩ => ⟨S8448x1, .f32⟩
  | .hbm, ⟨55, _⟩ => ⟨S8448x1024, .f32⟩
  | .hbm, ⟨56, _⟩ => ⟨S8448x1024, .f32⟩
  | .hbm, ⟨57, _⟩ => ⟨S8448x1024, .f32⟩
  | .hbm, ⟨58, _⟩ => ⟨S8448x1, .f32⟩
  | .hbm, ⟨59, _⟩ => ⟨S_, .f32⟩
  | .hbm, ⟨60, _⟩ => ⟨S8448x1, .f32⟩
  | .hbm, ⟨61, _⟩ => ⟨S8448x1, .f32⟩
  | .hbm, ⟨62, _⟩ => ⟨S_, .f32⟩
  | .hbm, ⟨63, _⟩ => ⟨S8448, .f32⟩
  | .hbm, ⟨64, _⟩ => ⟨S8448x1024, .f32⟩
  | .hbm, ⟨65, _⟩ => ⟨S8448x1024, .f32⟩
  | .hbm, ⟨66, _⟩ => ⟨S8448x1024, .f32⟩
  | .hbm, ⟨67, _⟩ => ⟨S8448x1024, .f32⟩
  | .hbm, ⟨68, _⟩ => ⟨S8448x1024, .f32⟩
  | .hbm, ⟨69, _⟩ => ⟨S8448x1024, .f32⟩
  | .hbm, ⟨70, _⟩ => ⟨S8448x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S8448x1024, .f32⟩
  | .hbm, ⟨75, _⟩ => ⟨S8448x1024, .f32⟩
  | .hbm, ⟨76, _⟩ => ⟨S8448x1024, .f32⟩
  | .hbm, ⟨77, _⟩ => ⟨S_, .f32⟩
  | .hbm, ⟨78, _⟩ => ⟨S8448, .f32⟩
  | .hbm, ⟨79, _⟩ => ⟨S8448x1, .f32⟩
  | .hbm, ⟨80, _⟩ => ⟨S8448x1024, .f32⟩
  | .hbm, ⟨81, _⟩ => ⟨S8448x1024, .f32⟩
  | .hbm, ⟨82, _⟩ => ⟨S8448x1, .f32⟩
  | .hbm, ⟨83, _⟩ => ⟨S_, .f32⟩
  | .hbm, ⟨84, _⟩ => ⟨S8448x1, .f32⟩
  | .hbm, ⟨85, _⟩ => ⟨S8448x1, .f32⟩
  | .hbm, ⟨86, _⟩ => ⟨S_, .f32⟩
  | .hbm, ⟨87, _⟩ => ⟨S8448, .f32⟩
  | .hbm, ⟨88, _⟩ => ⟨S8448x1024, .f32⟩
  | .hbm, ⟨89, _⟩ => ⟨S8448x1024, .f32⟩
  | .hbm, ⟨90, _⟩ => ⟨S8448x1024, .f32⟩
  | .hbm, ⟨91, _⟩ => ⟨S8448x1024, .f32⟩
  | .hbm, ⟨92, _⟩ => ⟨S8448x1024, .f32⟩
  | .hbm, ⟨93, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== KernelPrenorm.lean ====
abbrev S8448x1024 : Shape := ⟨2, ![8448, 1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8448x1024, .f32⟩
  | .hbm, ⟨3, _⟩ => ⟨S8448x1024, .f32⟩
  | .hbm, ⟨4, _⟩ => ⟨S8448x1024, .f32⟩
  | .hbm, ⟨5, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferencePrenormIdeal.lean ====
abbrev S8448x1024 : Shape := ⟨2, ![8448, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8448x1024, .f32⟩
  | .hbm, ⟨3, _⟩ => ⟨S8448x1024, .f32⟩
  | .hbm, ⟨4, _⟩ => ⟨S8448x1024, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S_, .f32⟩
  | .hbm, ⟨17, _⟩ => ⟨S8448x1, .f32⟩
  | .hbm, ⟨18, _⟩ => ⟨S8448x1, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8448x1024, .f32⟩
  | .hbm, ⟨28, _⟩ => ⟨S8448x1024, .f32⟩
  | .hbm, ⟨29, _⟩ => ⟨S8448x1024, .f32⟩
  | .hbm, ⟨30, _⟩ => ⟨S_, .f32⟩
  | .hbm, ⟨31, _⟩ => ⟨S8448, .f32⟩
  | .hbm, ⟨32, _⟩ => ⟨S8448x1, .f32⟩
  | .hbm, ⟨33, _⟩ => ⟨S8448x1024, .f32⟩
  | .hbm, ⟨34, _⟩ => ⟨S8448x1024, .f32⟩
  | .hbm, ⟨35, _⟩ => ⟨S8448x1, .f32⟩
  | .hbm, ⟨36, _⟩ => ⟨S_, .f32⟩
  | .hbm, ⟨37, _⟩ => ⟨S8448x1, .f32⟩
  | .hbm, ⟨38, _⟩ => ⟨S8448x1, .f32⟩
  | .hbm, ⟨39, _⟩ => ⟨S_, .f32⟩
  | .hbm, ⟨40, _⟩ => ⟨S8448, .f32⟩
  | .hbm, ⟨41, _⟩ => ⟨S8448x1024, .f32⟩
  | .hbm, ⟨42, _⟩ => ⟨S8448x1024, .f32⟩
  | .hbm, ⟨43, _⟩ => ⟨S8448x1024, .f32⟩
  | .hbm, ⟨44, _⟩ => ⟨S8448x1024, .f32⟩
  | .hbm, ⟨45, _⟩ => ⟨S8448x1024, .f32⟩
  | .hbm, ⟨46, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== KernelFwd.lean ====
abbrev S8208x512 : Shape := ⟨2, ![8208, 512]⟩
abbrev S_ : Shape := ⟨0, ![]⟩
abbrev S8448x2048 : Shape := ⟨2, ![8448, 2048]⟩
abbrev S8448x512 : Shape := ⟨2, ![8448, 512]⟩
abbrev S8448x256 : Shape := ⟨2, ![8448, 256]⟩
abbrev S8448x3840 : Shape := ⟨2, ![8448, 3840]⟩
abbrev S256x256 : Shape := ⟨2, ![256, 256]⟩
abbrev S4x33 : Shape := ⟨2, ![4, 33]⟩
abbrev S256x128 : Shape := ⟨2, ![256, 128]⟩
abbrev S8448x128 : Shape := ⟨2, ![8448, 128]⟩
abbrev S256x512 : Shape := ⟨2, ![256, 512]⟩
abbrev S256x1 : Shape := ⟨2, ![256, 1]⟩
abbrev S512x128 : Shape := ⟨2, ![512, 128]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 31
  | .vmem => 11
  | .smem => 1
  | _ => 0

abbrev bufTy : (tb : Table) → Fin (tcTables nBuf tb) → BufTy
  | .hbm, ⟨0, _⟩ => ⟨S8208x512, .f32⟩
  | .hbm, ⟨1, _⟩ => ⟨S8208x512, .f32⟩
  | .hbm, ⟨2, _⟩ => ⟨S8208x512, .f32⟩
  | .hbm, ⟨3, _⟩ => ⟨S_, .f32⟩
  | .hbm, ⟨4, _⟩ => ⟨S8448x2048, .f32⟩
  | .hbm, ⟨5, _⟩ => ⟨S_, .i32⟩
  | .hbm, ⟨6, _⟩ => ⟨S_, .f32⟩
  | .hbm, ⟨7, _⟩ => ⟨S8448x512, .f32⟩
  | .hbm, ⟨8, _⟩ => ⟨S_, .i32⟩
  | .hbm, ⟨9, _⟩ => ⟨S_, .f32⟩
  | .hbm, ⟨10, _⟩ => ⟨S8448x512, .f32⟩
  | .hbm, ⟨11, _⟩ => ⟨S_, .i32⟩
  | .hbm, ⟨12, _⟩ => ⟨S_, .f32⟩
  | .hbm, ⟨13, _⟩ => ⟨S8448x512, .f32⟩
  | .hbm, ⟨14, _⟩ => ⟨S_, .f32⟩
  | .hbm, ⟨15, _⟩ => ⟨S8448x256, .f32⟩
  | .hbm, ⟨16, _⟩ => ⟨S8448x3840, .f32⟩
  | .hbm, ⟨17, _⟩ => ⟨S_, .bf16⟩
  | .hbm, ⟨18, _⟩ => ⟨S256x256, .bf16⟩
  | .hbm, ⟨19, _⟩ => ⟨S256x256, .i32⟩
  | .hbm, ⟨20, _⟩ => ⟨S_, .i32⟩
  | .hbm, ⟨21, _⟩ => ⟨S256x256, .i32⟩
  | .hbm, ⟨22, _⟩ => ⟨S256x256, .i32⟩
  | .hbm, ⟨23, _⟩ => ⟨S256x256, .i32⟩
  | .hbm, ⟨24, _⟩ => ⟨S256x256, .i1⟩
  | .hbm, ⟨25, _⟩ => ⟨S_, .bf16⟩
  | .hbm, ⟨26, _⟩ => ⟨S256x256, .bf16⟩
  | .hbm, ⟨27, _⟩ => ⟨S256x256, .bf16⟩
  | .hbm, ⟨28, _⟩ => ⟨S8448x512, .f32⟩
  | .hbm, ⟨29, _⟩ => ⟨S8448x512, .f32⟩
  | .hbm, ⟨30, _⟩ => ⟨S4x33, .i32⟩
  | .local _ .vmem, ⟨0, _⟩ => ⟨S256x128, .f32⟩
  | .local _ .vmem, ⟨1, _⟩ => ⟨S256x128, .f32⟩
  | .local _ .vmem, ⟨2, _⟩ => ⟨S8448x128, .f32⟩
  | .local _ .vmem, ⟨3, _⟩ => ⟨S8448x128, .f32⟩
  | .local _ .vmem, ⟨4, _⟩ => ⟨S8448x128, .f32⟩
  | .local _ .vmem, ⟨5, _⟩ => ⟨S8448x128, .f32⟩
  | .local _ .vmem, ⟨6, _⟩ => ⟨S256x256, .bf16⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .smem, ⟨0, _⟩ => ⟨S4x33, .i32⟩
  | _, _ => ⟨S8208x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_c_1 : Ref sig .tc := ⟨.hbm, 11, rfl⟩
abbrev main_call2_v0 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_cst_3 : Ref sig .tc := ⟨.hbm, 17, rfl⟩
abbrev main_v6 : Ref sig .tc := ⟨.hbm, 18, rfl⟩
abbrev main_call3_v0 : Ref sig .tc := ⟨.hbm, 19, rfl⟩
abbrev main_call3_c : Ref sig .tc := ⟨.hbm, 20, rfl⟩
abbrev main_call3_v1 : Ref sig .tc := ⟨.hbm, 21, rfl⟩
abbrev main_call3_v2 : Ref sig .tc := ⟨.hbm, 22, rfl⟩
abbrev main_call3_v3 : Ref sig .tc := ⟨.hbm, 23, rfl⟩
abbrev main_call3_v4 : Ref sig .tc := ⟨.hbm, 24, rfl⟩
abbrev main_call3_cst : Ref sig .tc := ⟨.hbm, 25, rfl⟩
abbrev main_call3_v5 : Ref sig .tc := ⟨.hbm, 26, rfl⟩
abbrev main_v7 : Ref sig .tc := ⟨.hbm, 27, rfl⟩
abbrev main_v8_0 : Ref sig .tc := ⟨.hbm, 28, rfl⟩
abbrev main_v8_1 : Ref sig .tc := ⟨.hbm, 29, rfl⟩
abbrev main_v8_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 33], ![false, false]⟩

def k0_mult1 (i : grid0.Coords) (arg9 : BitVec 32) : BitVec 32 :=
  let arg1 : BitVec 32 := BitVec.ofNat 32 (i 1).val
  let c1_i32 : BitVec 32 := 1#32
  let v19 : BitVec 32 := Scalar.addi arg1 c1_i32
  let c256_i32_5 : BitVec 32 := 256#32
  let v20 : BitVec 32 := Scalar.muli v19 c256_i32_5
  let c512_i32_21 : BitVec 32 := 512#32
  let v54 : BitVec 32 := Scalar.muli arg9 c512_i32_21
  let v55 : BitVec 32 := Scalar.subi v20 v54
  let c512_i32_22 : BitVec 32 := 512#32
  let v56 : BitVec 32 := Scalar.subi v55 c512_i32_22
  let c0_i32_23 : BitVec 32 := 0#32
  let v57 : BitVec 32 := Scalar.maxsi v56 c0_i32_23
  v57

def k0_off1 (i : grid0.Coords) (arg9 : BitVec 32) : Fin 2 → Nat :=
  let arg1 : BitVec 32 := BitVec.ofNat 32 (i 1).val
  let c1_i32 : BitVec 32 := 1#32
  let v19 : BitVec 32 := Scalar.addi arg1 c1_i32
  let c256_i32_5 : BitVec 32 := 256#32
  let v20 : BitVec 32 := Scalar.muli v19 c256_i32_5
  let c512_i32_21 : BitVec 32 := 512#32
  let v54 : BitVec 32 := Scalar.muli arg9 c512_i32_21
  let v55 : BitVec 32 := Scalar.subi v20 v54
  let c512_i32_22 : BitVec 32 := 512#32
  let v56 : BitVec 32 := Scalar.subi v55 c512_i32_22
  let c0_i32_23 : BitVec 32 := 0#32
  let v57 : BitVec 32 := Scalar.maxsi v56 c0_i32_23
  let v58 : BitVec 32 := v57
  let v59 : Index := Scalar.indexCast v58
  let c0_24 : Index := 0#32
  ![v59.toNat, 0]

def k0_chk1 (i : grid0.Coords) (arg9 : BitVec 32) : Prop :=
  (128 ∣ (k0_mult1 i arg9).toNat) ∧
  (∀ a, (k0_off1 i arg9) a + S512x128.size a ≤ S8448x128.size a)
theorem k0_mult1_dvd : ∀ (i : grid0.Coords) (arg9 : BitVec 32) (k0_hw1 : k0_chk1 i arg9), 128 ∣ (k0_mult1 i arg9).toNat := fun i arg9 k0_hw1 => k0_hw1.1
theorem k0_off1_inb : ∀ (i : grid0.Coords) (arg9 : BitVec 32) (k0_hw1 : k0_chk1 i arg9), ∀ a, (k0_off1 i arg9) a + S512x128.size a ≤ S8448x128.size a := fun i arg9 k0_hw1 => k0_hw1.2

def k0_off2 (i : grid0.Coords) : Fin 2 → Nat :=
  let arg0 : BitVec 32 := BitVec.ofNat 32 (i 0).val
  let v51 : Index := Scalar.indexCast arg0
  let arg1 : BitVec 32 := BitVec.ofNat 32 (i 1).val
  let v52 : Index := Scalar.indexCast arg1
  ![v51.toNat, v52.toNat]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .smem S4x33 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== KernelFwdIdeal.lean ====
variable {F : FTy → Type} [FloatOps F] [Named F]
def κ : String → Option EReal := fun
  | "dead" => some ⊥
  | _ => none
-- ==== ReferenceFwdIdeal.lean ====
abbrev S8208x512 : Shape := ⟨2, ![8208, 512]⟩
abbrev S_ : Shape := ⟨0, ![]⟩
abbrev S8336x512 : Shape := ⟨2, ![8336, 512]⟩
abbrev S8336x8x64 : Shape := ⟨3, ![8336, 8, 64]⟩
abbrev S8x8336x64 : Shape := ⟨3, ![8, 8336, 64]⟩
abbrev S8x8336x8336 : Shape := ⟨3, ![8, 8336, 8336]⟩
abbrev S8336x8336 : Shape := ⟨2, ![8336, 8336]⟩
abbrev S1x8336x8336 : Shape := ⟨3, ![1, 8336, 8336]⟩
abbrev S8x8336 : Shape := ⟨2, ![8, 8336]⟩
abbrev S8336x8 : Shape := ⟨2, ![8336, 8]⟩
abbrev S8448x512 : Shape := ⟨2, ![8448, 512]⟩

abbrev nBuf : Space → Nat
  | .hbm => 123
  | .vmem => 0
  | .smem => 0
  | _ => 0

abbrev bufTy : (tb : Table) → Fin (tcTables nBuf tb) → BufTy
  | .hbm, ⟨0, _⟩ => ⟨S8208x512, .f32⟩
  | .hbm, ⟨1, _⟩ => ⟨S8208x512, .f32⟩
  | .hbm, ⟨2, _⟩ => ⟨S8208x512, .f32⟩
  | .hbm, ⟨3, _⟩ => ⟨S_, .i32⟩
  | .hbm, ⟨4, _⟩ => ⟨S_, .f32⟩
  | .hbm, ⟨5, _⟩ => ⟨S8336x512, .f32⟩
  | .hbm, ⟨6, _⟩ => ⟨S_, .i32⟩
  | .hbm, ⟨7, _⟩ => ⟨S_, .f32⟩
  | .hbm, ⟨8, _⟩ => ⟨S8336x512, .f32⟩
  | .hbm, ⟨9, _⟩ => ⟨S_, .i32⟩
  | .hbm, ⟨10, _⟩ => ⟨S_, .f32⟩
  | .hbm, ⟨11, _⟩ => ⟨S8336x512, .f32⟩
  | .hbm, ⟨12, _⟩ => ⟨S8336x8x64, .f32⟩
  | .hbm, ⟨13, _⟩ => ⟨S8x8336x64, .f32⟩
  | .hbm, ⟨14, _⟩ => ⟨S8336x8x64, .f32⟩
  | .hbm, ⟨15, _⟩ => ⟨S8x8336x64, .f32⟩
  | .hbm, ⟨16, _⟩ => ⟨S8336x8x64, .f32⟩
  | .hbm, ⟨17, _⟩ => ⟨S8x8336x64, .f32⟩
  | .hbm, ⟨18, _⟩ => ⟨S8x8336x8336, .f32⟩
  | .hbm, ⟨19, _⟩ => ⟨S_, .f32⟩
  | .hbm, ⟨20, _⟩ => ⟨S8x8336x8336, .f32⟩
  | .hbm, ⟨21, _⟩ => ⟨S8x8336x8336, .f32⟩
  | .hbm, ⟨22, _⟩ => ⟨S8336x8336, .i32⟩
  | .hbm, ⟨23, _⟩ => ⟨S8336x8336, .i32⟩
  | .hbm, ⟨24, _⟩ => ⟨S8336x8336, .i1⟩
  | .hbm, ⟨25, _⟩ => ⟨S1x8336x8336, .i1⟩
  | .hbm, ⟨26, _⟩ => ⟨S8x8336x8336, .f32⟩
  | .hbm, ⟨27, _⟩ => ⟨S8x8336x8336, .f32⟩
  | .hbm, ⟨28, _⟩ => ⟨S_, .f32⟩
  | .hbm, ⟨29, _⟩ => ⟨S8x8336x8336, .f32⟩
  | .hbm, ⟨30, _⟩ => ⟨S8x8336x8336, .f32⟩
  | .hbm, ⟨31, _⟩ => ⟨S8x8336x8336, .f32⟩
  | .hbm, ⟨32, _⟩ => ⟨S8x8336x8336, .f32⟩
  | .hbm, ⟨33, _⟩ => ⟨S8x8336x8336, .i1⟩
  | .hbm, ⟨34, _⟩ => ⟨S8x8336x8336, .f32⟩
  | .hbm, ⟨35, _⟩ => ⟨S8x8336x8336, .f32⟩
  | .hbm, ⟨36, _⟩ => ⟨S8x8336x8336, .f32⟩
  | .hbm, ⟨37, _⟩ => ⟨S8x8336x8336, .f32⟩
  | .hbm, ⟨38, _⟩ => ⟨S8x8336x8336, .f32⟩
  | .hbm, ⟨39, _⟩ => ⟨S8x8336x8336, .f32⟩
  | .hbm, ⟨40, _⟩ => ⟨S8x8336x8336, .f32⟩
  | .hbm, ⟨41, _⟩ => ⟨S8x8336x8336, .f32⟩
  | .hbm, ⟨42, _⟩ => ⟨S8x8336x8336, .f32⟩
  | .hbm, ⟨43, _⟩ => ⟨S_, .f32⟩
  | .hbm, ⟨44, _⟩ => ⟨S_, .f32⟩
  | .hbm, ⟨45, _⟩ => ⟨S8x8336x8336, .i1⟩
  | .hbm, ⟨46, _⟩ => ⟨S8x8336x8336, .f32⟩
  | .hbm, ⟨47, _⟩ => ⟨S8x8336x8336, .f32⟩
  | .hbm, ⟨48, _⟩ => ⟨S_, .f32⟩
  | .hbm, ⟨49, _⟩ => ⟨S_, .f32⟩
  | .hbm, ⟨50, _⟩ => ⟨S8x8336x8336, .f32⟩
  | .hbm, ⟨51, _⟩ => ⟨S8x8336x8336, .f32⟩
  | .hbm, ⟨52, _⟩ => ⟨S8x8336x8336, .f32⟩
  | .hbm, ⟨53, _⟩ => ⟨S_, .f32⟩
  | .hbm, ⟨54, _⟩ => ⟨S8x8336x8336, .f32⟩
  | .hbm, ⟨55, _⟩ => ⟨S8x8336x8336, .f32⟩
  | .hbm, ⟨56, _⟩ => ⟨S8x8336x8336, .f32⟩
  | .hbm, ⟨57, _⟩ => ⟨S8x8336x8336, .f32⟩
  | .hbm, ⟨58, _⟩ => ⟨S8x8336x8336, .i1⟩
  | .hbm, ⟨59, _⟩ => ⟨S8x8336x8336, .f32⟩
  | .hbm, ⟨60, _⟩ => ⟨S8x8336x8336, .f32⟩
  | .hbm, ⟨61, _⟩ => ⟨S8x8336x8336, .f32⟩
  | .hbm, ⟨62, _⟩ => ⟨S8x8336x8336, .f32⟩
  | .hbm, ⟨63, _⟩ => ⟨S8x8336x8336, .f32⟩
  | .hbm, ⟨64, _⟩ => ⟨S8x8336x8336, .f32⟩
  | .hbm, ⟨65, _⟩ => ⟨S8x8336x8336, .f32⟩
  | .hbm, ⟨66, _⟩ => ⟨S8x8336x8336, .f32⟩
  | .hbm, ⟨67, _⟩ => ⟨S8x8336x8336, .f32⟩
  | .hbm, ⟨68, _⟩ => ⟨S8x8336x8336, .f32⟩
  | .hbm, ⟨69, _⟩ => ⟨S_, .f32⟩
  | .hbm, ⟨70, _⟩ => ⟨S_, .f32⟩
  | .hbm, ⟨71, _⟩ => ⟨S8x8336x8336, .i1⟩
  | .hbm, ⟨72, _⟩ => ⟨S8x8336x8336, .f32⟩
  | .hbm, ⟨73, _⟩ => ⟨S8x8336x8336, .f32⟩
  | .hbm, ⟨74, _⟩ => ⟨S8x8336x8336, .f32⟩
  | .hbm, ⟨75, _⟩ => ⟨S8x8336x64, .f32⟩
  | .hbm, ⟨76, _⟩ => ⟨S8336x8x64, .f32⟩
  | .hbm, ⟨77, _⟩ => ⟨S8336x512, .f32⟩
  | .hbm, ⟨78, _⟩ => ⟨S8336x8x64, .f32⟩
  | .hbm, ⟨79, _⟩ => ⟨S8x8336x64, .f32⟩
  | .hbm, ⟨80, _⟩ => ⟨S8336x8x64, .f32⟩
  | .hbm, ⟨81, _⟩ => ⟨S8x8336x64, .f32⟩
  | .hbm, ⟨82, _⟩ => ⟨S8x8336x8336, .f32⟩
  | .hbm, ⟨83, _⟩ => ⟨S_, .f32⟩
  | .hbm, ⟨84, _⟩ => ⟨S8x8336x8336, .f32⟩
  | .hbm, ⟨85, _⟩ => ⟨S8x8336x8336, .f32⟩
  | .hbm, ⟨86, _⟩ => ⟨S8336x8336, .i32⟩
  | .hbm, ⟨87, _⟩ => ⟨S8336x8336, .i32⟩
  | .hbm, ⟨88, _⟩ => ⟨S8336x8336, .i1⟩
  | .hbm, ⟨89, _⟩ => ⟨S1x8336x8336, .i1⟩
  | .hbm, ⟨90, _⟩ => ⟨S8x8336x8336, .f32⟩
  | .hbm, ⟨91, _⟩ => ⟨S8x8336x8336, .f32⟩
  | .hbm, ⟨92, _⟩ => ⟨S_, .f32⟩
  | .hbm, ⟨93, _⟩ => ⟨S8x8336x8336, .f32⟩
  | .hbm, ⟨94, _⟩ => ⟨S8x8336x8336, .f32⟩
  | .hbm, ⟨95, _⟩ => ⟨S8x8336x8336, .f32⟩
  | .hbm, ⟨96, _⟩ => ⟨S8x8336x8336, .f32⟩
  | .hbm, ⟨97, _⟩ => ⟨S8x8336x8336, .i1⟩
  | .hbm, ⟨98, _⟩ => ⟨S8x8336x8336, .f32⟩
  | .hbm, ⟨99, _⟩ => ⟨S8x8336x8336, .f32⟩
  | .hbm, ⟨100, _⟩ => ⟨S8x8336x8336, .f32⟩
  | .hbm, ⟨101, _⟩ => ⟨S8x8336x8336, .f32⟩
  | .hbm, ⟨102, _⟩ => ⟨S8x8336x8336, .f32⟩
  | .hbm, ⟨103, _⟩ => ⟨S8x8336x8336, .f32⟩
  | .hbm, ⟨104, _⟩ => ⟨S8x8336x8336, .f32⟩
  | .hbm, ⟨105, _⟩ => ⟨S8x8336x8336, .f32⟩
  | .hbm, ⟨106, _⟩ => ⟨S8x8336x8336, .f32⟩
  | .hbm, ⟨107, _⟩ => ⟨S_, .f32⟩
  | .hbm, ⟨108, _⟩ => ⟨S_, .f32⟩
  | .hbm, ⟨109, _⟩ => ⟨S8x8336x8336, .i1⟩
  | .hbm, ⟨110, _⟩ => ⟨S8x8336x8336, .f32⟩
  | .hbm, ⟨111, _⟩ => ⟨S8x8336x8336, .f32⟩
  | .hbm, ⟨112, _⟩ => ⟨S_, .f32⟩
  | .hbm, ⟨113, _⟩ => ⟨S8x8336, .f32⟩
  | .hbm, ⟨114, _⟩ => ⟨S8336x8, .f32⟩
  | .hbm, ⟨115, _⟩ => ⟨S8336x8x64, .f32⟩
  | .hbm, ⟨116, _⟩ => ⟨S8336x512, .f32⟩
  | .hbm, ⟨117, _⟩ => ⟨S_, .i32⟩
  | .hbm, ⟨118, _⟩ => ⟨S_, .f32⟩
  | .hbm, ⟨119, _⟩ => ⟨S8448x512, .f32⟩
  | .hbm, ⟨120, _⟩ => ⟨S_, .i32⟩
  | .hbm, ⟨121, _⟩ => ⟨S_, .f32⟩
  | .hbm, ⟨122, _⟩ => ⟨S8448x512, .f32⟩
  | _, _ => ⟨S8208x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_c_1 : Ref sig .tc := ⟨.hbm, 9, rfl⟩
abbrev main_call2_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call3_v0 : Ref sig .tc := ⟨.hbm, 27, rfl⟩
abbrev main_call3_call0_cst : Ref sig .tc := ⟨.hbm, 28, rfl⟩
abbrev main_call3_call0_v0 : Ref sig .tc := ⟨.hbm, 29, rfl⟩
abbrev main_call3_call0_v1 : Ref sig .tc := ⟨.hbm, 30, rfl⟩
abbrev main_call3_call0_v2 : Ref sig .tc := ⟨.hbm, 31, rfl⟩
abbrev main_call3_call0_v3 : Ref sig .tc := ⟨.hbm, 32, rfl⟩
abbrev main_call3_call0_v4 : Ref sig .tc := ⟨.hbm, 33, rfl⟩
abbrev main_call3_call0_v5 : Ref sig .tc := ⟨.hbm, 34, rfl⟩
abbrev main_call3_call0_v6 : Ref sig .tc := ⟨.hbm, 35, rfl⟩
abbrev main_call3_call0_v7 : Ref sig .tc := ⟨.hbm, 36, rfl⟩
abbrev main_call3_call0_v8 : Ref sig .tc := ⟨.hbm, 37, rfl⟩
abbrev main_call3_call0_v9 : Ref sig .tc := ⟨.hbm, 38, rfl⟩
abbrev main_call3_call0_v10 : Ref sig .tc := ⟨.hbm, 39, rfl⟩
abbrev main_call3_call0_v11 : Ref sig .tc := ⟨.hbm, 40, rfl⟩
abbrev main_call3_v1 : Ref sig .tc := ⟨.hbm, 41, rfl⟩
abbrev main_v17 : Ref sig .tc := ⟨.hbm, 42, rfl⟩
abbrev main_cst_2 : Ref sig .tc := ⟨.hbm, 43, rfl⟩
abbrev main_call4_v0 : Ref sig .tc := ⟨.hbm, 44, rfl⟩
abbrev main_call4_v1 : Ref sig .tc := ⟨.hbm, 45, rfl⟩
abbrev main_call4_v2 : Ref sig .tc := ⟨.hbm, 46, rfl⟩
abbrev main_v18 : Ref sig .tc := ⟨.hbm, 47, rfl⟩
abbrev main_call5_cst : Ref sig .tc := ⟨.hbm, 48, rfl⟩
abbrev main_call5_v0 : Ref sig .tc := ⟨.hbm, 49, rfl⟩
abbrev main_v19 : Ref sig .tc := ⟨.hbm, 50, rfl⟩
abbrev main_v20 : Ref sig .tc := ⟨.hbm, 51, rfl⟩
abbrev main_call6_v0 : Ref sig .tc := ⟨.hbm, 52, rfl⟩
abbrev main_call6_call0_cst : Ref sig .tc := ⟨.hbm, 53, rfl⟩
abbrev main_call6_call0_v0 : Ref sig .tc := ⟨.hbm, 54, rfl⟩
abbrev main_call6_call0_v1 : Ref sig .tc := ⟨.hbm, 55, rfl⟩
abbrev main_call6_call0_v2 : Ref sig .tc := ⟨.hbm, 56, rfl⟩
abbrev main_call6_call0_v3 : Ref sig .tc := ⟨.hbm, 57, rfl⟩
abbrev main_call6_call0_v4 : Ref sig .tc := ⟨.hbm, 58, rfl⟩
abbrev main_call6_call0_v5 : Ref sig .tc := ⟨.hbm, 59, rfl⟩
abbrev main_call6_call0_v6 : Ref sig .tc := ⟨.hbm, 60, rfl⟩
abbrev main_call6_call0_v7 : Ref sig .tc := ⟨.hbm, 61, rfl⟩
abbrev main_call6_call0_v8 : Ref sig .tc := ⟨.hbm, 62, rfl⟩
abbrev main_call6_call0_v9 : Ref sig .tc := ⟨.hbm, 63, rfl⟩
abbrev main_call6_call0_v10 : Ref sig .tc := ⟨.hbm, 64, rfl⟩
abbrev main_call6_call0_v11 : Ref sig .tc := ⟨.hbm, 65, rfl⟩
abbrev main_call6_v1 : Ref sig .tc := ⟨.hbm, 66, rfl⟩
abbrev main_v21 : Ref sig .tc := ⟨.hbm, 67, rfl⟩
abbrev main_v22 : Ref sig .tc := ⟨.hbm, 68, rfl⟩
abbrev main_cst_3 : Ref sig .tc := ⟨.hbm, 69, rfl⟩
abbrev main_call7_v0 : Ref sig .tc := ⟨.hbm, 70, rfl⟩
abbrev main_call7_v1 : Ref sig .tc := ⟨.hbm, 71, rfl⟩
abbrev main_call7_v2 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_cst_4 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_call8_v0 : Ref sig .tc := ⟨.hbm, 91, rfl⟩
abbrev main_call8_call0_cst : Ref sig .tc := ⟨.hbm, 92, rfl⟩
abbrev main_call8_call0_v0 : Ref sig .tc := ⟨.hbm, 93, rfl⟩
abbrev main_call8_call0_v1 : Ref sig .tc := ⟨.hbm, 94, rfl⟩
abbrev main_call8_call0_v2 : Ref sig .tc := ⟨.hbm, 95, rfl⟩
abbrev main_call8_call0_v3 : Ref sig .tc := ⟨.hbm, 96, rfl⟩
abbrev main_call8_call0_v4 : Ref sig .tc := ⟨.hbm, 97, rfl⟩
abbrev main_call8_call0_v5 : Ref sig .tc := ⟨.hbm, 98, rfl⟩
abbrev main_call8_call0_v6 : Ref sig .tc := ⟨.hbm, 99, rfl⟩
abbrev main_call8_call0_v7 : Ref sig .tc := ⟨.hbm, 100, rfl⟩
abbrev main_call8_call0_v8 : Ref sig .tc := ⟨.hbm, 101, rfl⟩
abbrev main_call8_call0_v9 : Ref sig .tc := ⟨.hbm, 102, rfl⟩
abbrev main_call8_call0_v10 : Ref sig .tc := ⟨.hbm, 103, rfl⟩
abbrev main_call8_call0_v11 : Ref sig .tc := ⟨.hbm, 104, rfl⟩
abbrev main_call8_v1 : Ref sig .tc := ⟨.hbm, 105, rfl⟩
abbrev main_v40 : Ref sig .tc := ⟨.hbm, 106, rfl⟩
abbrev main_cst_5 : Ref sig .tc := ⟨.hbm, 107, rfl⟩
abbrev main_call9_v0 : Ref sig .tc := ⟨.hbm, 108, rfl⟩
abbrev main_call9_v1 : Ref sig .tc := ⟨.hbm, 109, rfl⟩
abbrev main_call9_v2 : Ref sig .tc := ⟨.hbm, 110, rfl⟩
abbrev main_v41 : Ref sig .tc := ⟨.hbm, 111, rfl⟩
abbrev main_cst_6 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_c_7 : Ref sig .tc := ⟨.hbm, 117, rfl⟩
abbrev main_call10_v0 : Ref sig .tc := ⟨.hbm, 118, rfl⟩
abbrev main_v46 : Ref sig .tc := ⟨.hbm, 119, rfl⟩
abbrev main_c_8 : Ref sig .tc := ⟨.hbm, 120, rfl⟩
abbrev main_call11_v0 : Ref sig .tc := ⟨.hbm, 121, rfl⟩
abbrev main_v47 : Ref sig .tc := ⟨.hbm, 122, rfl⟩

abbrev nD : Nat := 1
abbrev τ : Topo := Topo.v7x

variable {F : FTy → Type} [FloatOps F]
-- ==== Proof.Reference.lean ====
/- The reference's results as a chain of named arrays. -/
module

public import proofs.«01_k».proof.Proof.Gen.ReferenceIdeal.Run

@[expose] public section

set_option maxRecDepth 16384
set_option maxHeartbeats 4000000

noncomputable section

namespace Cert.Proof.SB.Ref

open Cert.ReferenceIdeal Cert.ReferenceIdeal.Gen
open Idealize.ShloMosaic Idealize.ShloMosaic.StableHlo
open Idealize.ShloMosaic.TcCoe
open Idealize.SL.Sem

variable {F : FTy → Type} [FloatOps F]

/-- A number for every head, query and key. -/
abbrev Scores (F : FTy → Type) [FloatOps F] : Type := FVec F S8x8208x8208 .f32

/-- One number everywhere. -/
def all (n : BitVec 32) : Scores F := broadcastInDim S8x8208x8208 ![] bcast_S_S8x8208x8208 (constant S_ .f32 n)

/-- An argument head by head. -/
def heads (x : FVec F S8208x512 .f32) : FVec F S8x8208x64 .f32 :=
  transpose S8x8208x64 [1, 0, 2] (shapeCast S8208x8x64 x shapeCasts_S8208x512_S8208x8x64) transposes_S8208x8x64_S8x8208x64_1_0_2

/-- The products of rows of two arrays. -/
def dots (x y : FVec F S8x8208x64 .f32) : Scores F :=
  Host.dotGeneral dot_S8x8208x64_S8x8208x64_S8x8208x8208_2_2_1_1_0_0 none x y

def scores (q k : FVec F S8208x512 .f32) : Scores F := mulf (dots (heads q) (heads k)) (all 0x3E000000#32)

/-- The keys before each query. -/
def earlier : IVec S8x8208x8208 1 :=
  broadcastInDim S8x8208x8208 ![0, 1, 2] bcast_S1x8208x8208_S8x8208x8208_0_1_2
    (broadcastInDim S1x8208x8208 ![1, 2] bcast_S8208x8208_S1x8208x8208_1_2
      (cmpi .slt (iotaInDim S8208x8208 32 1) (iotaInDim S8208x8208 32 0)))

def softplus (x : Scores F) : Scores F :=
  select (cmpf .une (subf x (all 0x00000000#32)) (subf x (all 0x00000000#32))) (addf x (all 0x00000000#32))
    (addf (maximumf x (all 0x00000000#32)) (Host.log1p (Host.exp (Host.negf (Host.absf (subf x (all 0x00000000#32)))))))

def logSigmoid (x : Scores F) : Scores F := Host.negf (softplus (Host.negf x))

/-- The derivative of the softplus. -/
def slope (x : Scores F) : Scores F :=
  Host.exp (subf (select (cmpf .oeq x (all 0x7F800000#32)) (all 0x00000000#32) x)
    (select (cmpf .oeq (softplus x) (all 0x7F800000#32)) (all 0x00000000#32) (softplus x)))

/-- A running sum from the last key down. -/
def fromLast (x : Scores F) : Scores F :=
  Host.reduceWindowAdd ![1, 1, 8208] ![1, 1, 1] ![0, 0, 0] ![0, 0, 8207] x
    (broadcastInDim S_ ![] bcast_S_S_ (constant S_ .f32 0x00000000#32))
    reduceWindows_S8x8208x8208_S8x8208x8208_w1s1p0_0_w1s1p0_0_w8208s1p0_8207 h_S_

/-- A running sum from the first key up. -/
def fromFirst (x : Scores F) : Scores F :=
  Host.reduceWindowAdd ![1, 1, 8208] ![1, 1, 1] ![0, 0, 8207] ![0, 0, 0] x
    (broadcastInDim S_ ![] bcast_S_S_ (constant S_ .f32 0x00000000#32))
    reduceWindows_S8x8208x8208_S8x8208x8208_w1s1p0_0_w1s1p0_0_w8208s1p8207_0 h_S_

/-- What each key leaves of the stick. -/
def leaves (z : Scores F) : Scores F := select earlier (logSigmoid (Host.negf z)) (all 0x00000000#32)

def weights (z : Scores F) : Scores F :=
  Host.exp (select earlier (addf (logSigmoid z) (subf (fromLast (leaves z)) (leaves z))) (all 0xFF800000#32))

/-- The weights times their gradients. -/
def products (z d : Scores F) : Scores F := select earlier (mulf d (weights z)) (all 0x00000000#32)

/-- The gradient through the logarithm of the share taken. -/
def taken (z d : Scores F) : Scores F := Host.negf (mulf (Host.negf (products z d)) (slope (Host.negf z)))

/-- The gradient through the logarithms of the shares left. -/
def kept (z d : Scores F) : Scores F :=
  Host.negf (Host.negf (mulf (Host.negf (select earlier (addf (Host.negf (products z d)) (fromFirst (products z d))) (all 0x00000000#32)))
    (slope (Host.negf (Host.negf z)))))

def scoresGrad (z d : Scores F) : Scores F := mulf (addf (taken z d) (kept z d)) (all 0x3E000000#32)

/-- The heads side by side again. -/
def joined (x : FVec F S8x8208x64 .f32) : FVec F S8208x512 .f32 :=
  shapeCast S8208x512 (transpose S8208x8x64 [1, 0, 2] x transposes_S8x8208x64_S8208x8x64_1_0_2) shapeCasts_S8208x8x64_S8208x512

/-- Zero rows in front and behind. -/
def framed (x : FVec F S8208x512 .f32) : FVec F S8448x512 .f32 :=
  pad S8448x512 ![112, 0] ![128, 0] ![0, 0] x (sitofp .f32 (constantI S_ 32 0#32))
    pads_S8208x512_S8448x512_1121280_000 h_S_

def gradOf (q k v g : FVec F S8208x512 .f32) : Scores F := scoresGrad (scores q k) (dots (heads g) (heads v))

def outQ (q k v g : FVec F S8208x512 .f32) : FVec F S8448x512 .bf16 :=
  truncf .bf16 (framed (joined (Host.dotGeneral dot_S8x8208x8208_S8x8208x64_S8x8208x64_2_1_1_2_0_0 none (gradOf q k v g) (heads k)))) bitsLt_bf16_f32

def outK (q k v g : FVec F S8208x512 .f32) : FVec F S8448x512 .f32 :=
  framed (joined (Host.dotGeneral dot_S8x8208x8208_S8x8208x64_S8x8208x64_1_1_2_2_0_0 none (gradOf q k v g) (heads q)))

def outV (q k g : FVec F S8208x512 .f32) : FVec F S8448x512 .f32 :=
  framed (joined (transpose S8x8208x64 [0, 2, 1]
    (Host.dotGeneral dot_S8x8208x64_S8x8208x8208_S8x64x8208_1_1_2_2_0_0 none (heads g) (weights (scores q k))) transposes_S8x64x8208_S8x8208x64_0_2_1))

variable (m : (ℓ : Loc nD τ sig) → Buf (Elt F) ℓ) (c : Dev nD)

theorem out0_eq : Value.res_main_v51 m c = outQ (m ((c : Thread nD τ).loc main_arg0)) (m ((c : Thread nD τ).loc main_arg1))
    (m ((c : Thread nD τ).loc main_arg2)) (m ((c : Thread nD τ).loc main_arg3)) := by
  unfold Value.res_main_v51
  rfl

theorem out1_eq : Value.res_main_v52 m c = outK (m ((c : Thread nD τ).loc main_arg0)) (m ((c : Thread nD τ).loc main_arg1))
    (m ((c : Thread nD τ).loc main_arg2)) (m ((c : Thread nD τ).loc main_arg3)) := by
  unfold Value.res_main_v52
  rfl

theorem out2_eq : Value.res_main_v53 m c = outV (m ((c : Thread nD τ).loc main_arg0)) (m ((c : Thread nD τ).loc main_arg1))
    (m ((c : Thread nD τ).loc main_arg3)) := by
  unfold Value.res_main_v53
  rfl

end Cert.Proof.SB.Ref

end
-- ==== Proof.RealRow.lean ====
/- One query of stick-breaking attention in real numbers, by the column of the key: what the keys before it leave of the
   stick, the attention weights, and the scores' gradient. -/
module

public import Mathlib.Analysis.SpecialFunctions.Log.Basic
public import Mathlib.Algebra.BigOperators.Intervals

@[expose] public section

noncomputable section

namespace Cert.Proof.SB

open Finset

/-- The softplus of a score. -/
def sp (z : ℝ) : ℝ := Real.log (1 + Real.exp z)

variable (M : ℕ → Bool) (Z D : ℕ → ℝ) (C e : ℝ)

/-- The logarithm of the share of the stick a key leaves. -/
def rowLeft (c : ℕ) : ℝ := if M c then -sp (Z c) else 0

/-- The attention weight of a key; `C` is the logarithm of what all keys leave, less what the keys before the row's
    start leave. -/
def rowAtt (c : ℕ) : ℝ :=
  if M c then Real.exp (Z c - sp (Z c) + (C - ∑ b ∈ range (c + 1), rowLeft M Z b)) else 0

/-- The weight times its gradient. -/
def rowP (c : ℕ) : ℝ := rowAtt M Z C c * D c

/-- The gradient of a score; `e` is what the products before the row's start sum to. -/
def rowDz (c : ℕ) : ℝ :=
  if M c then rowP M Z D C c * (1 - Real.exp (Z c - sp (Z c)))
    - Real.exp (Z c - sp (Z c)) * (e + ∑ b ∈ range c, rowP M Z D C b)
  else 0

variable {M Z D C e}
variable {M' : ℕ → Bool} {Z' D' : ℕ → ℝ} {C' : ℝ} {k0 hi : ℕ}

/-- A stretch of a row: the entries from `k0` up to `hi`. -/
structure Stretch (M : ℕ → Bool) (Z D : ℕ → ℝ) (M' : ℕ → Bool) (Z' D' : ℕ → ℝ) (k0 hi : ℕ) : Prop where
  mask : ∀ b, M' b = (M (k0 + b) && decide (k0 + b < hi))
  score : ∀ b, k0 + b < hi → Z' b = Z (k0 + b)
  grad : ∀ b, k0 + b < hi → D' b = D (k0 + b)

/-- A sum over a stretch, of terms that vanish past its end. -/
theorem sum_stretch (f : ℕ → ℝ) {n : ℕ} (h1 : k0 ≤ hi) (h2 : hi ≤ k0 + n) :
    ∑ c ∈ range k0, f c + ∑ b ∈ range n, (if k0 + b < hi then f (k0 + b) else 0) = ∑ c ∈ range hi, f c := by
  obtain ⟨m, rfl⟩ := Nat.exists_eq_add_of_le h1
  obtain ⟨l, rfl⟩ : ∃ l, n = m + l := ⟨n - m, by omega⟩
  rw [sum_range_add, sum_range_add]
  congr 1
  rw [sum_congr rfl (g := fun b => f (k0 + b)), sum_eq_zero (s := range l), add_zero]
  · intro x _; rw [if_neg (by omega)]
  · intro x hx; rw [if_pos (by have := mem_range.1 hx; omega)]

theorem Stretch.left (s : Stretch M Z D M' Z' D' k0 hi) (b : ℕ) :
    rowLeft M' Z' b = if k0 + b < hi then rowLeft M Z (k0 + b) else 0 := by
  unfold rowLeft
  rw [s.mask]
  by_cases h : k0 + b < hi
  · simp [h, s.score b h]
  · simp [h]

theorem Stretch.sum_left (s : Stretch M Z D M' Z' D' k0 hi) (h1 : k0 ≤ hi) (b : ℕ) (h : k0 + b ≤ hi) :
    ∑ c ∈ range k0, rowLeft M Z c + ∑ c ∈ range b, rowLeft M' Z' c = ∑ c ∈ range (k0 + b), rowLeft M Z c := by
  rw [sum_range_add]
  congr 1
  refine sum_congr rfl fun x hx => ?_
  rw [s.left, if_pos (by have := mem_range.1 hx; omega)]

theorem Stretch.sum_left_all (s : Stretch M Z D M' Z' D' k0 hi) (h1 : k0 ≤ hi) {n : ℕ} (h2 : hi ≤ k0 + n) :
    ∑ c ∈ range k0, rowLeft M Z c + ∑ c ∈ range n, rowLeft M' Z' c = ∑ c ∈ range hi, rowLeft M Z c := by
  rw [← sum_stretch (rowLeft M Z) h1 h2]
  simp only [s.left]

theorem Stretch.att (s : Stretch M Z D M' Z' D' k0 hi) (h1 : k0 ≤ hi) (b : ℕ) :
    rowAtt M' Z' (C - ∑ c ∈ range k0, rowLeft M Z c) b = if k0 + b < hi then rowAtt M Z C (k0 + b) else 0 := by
  unfold rowAtt
  rw [s.mask]
  by_cases h : k0 + b < hi
  · simp only [h, decide_true, Bool.and_true, if_true, s.score b h]
    rw [sub_sub, s.sum_left h1 (b + 1) (by omega), ← add_assoc]
  · simp [h]

theorem Stretch.p (s : Stretch M Z D M' Z' D' k0 hi) (h1 : k0 ≤ hi) (b : ℕ) :
    rowP M' Z' D' (C - ∑ c ∈ range k0, rowLeft M Z c) b = if k0 + b < hi then rowP M Z D C (k0 + b) else 0 := by
  unfold rowP
  rw [s.att h1]
  by_cases h : k0 + b < hi
  · simp only [h, if_true, s.grad b h]
  · simp [h]

theorem Stretch.sum_p_all (s : Stretch M Z D M' Z' D' k0 hi) (h1 : k0 ≤ hi) {n : ℕ} (h2 : hi ≤ k0 + n) :
    ∑ c ∈ range k0, rowP M Z D C c + ∑ c ∈ range n, rowP M' Z' D' (C - ∑ c ∈ range k0, rowLeft M Z c) c
      = ∑ c ∈ range hi, rowP M Z D C c := by
  rw [← sum_stretch (rowP M Z D C) h1 h2]
  simp only [s.p h1]

theorem Stretch.dz (s : Stretch M Z D M' Z' D' k0 hi) (h1 : k0 ≤ hi) (b : ℕ) :
    rowDz M' Z' D' (C - ∑ c ∈ range k0, rowLeft M Z c) (∑ c ∈ range k0, rowP M Z D C c) b
      = if k0 + b < hi then rowDz M Z D C 0 (k0 + b) else 0 := by
  unfold rowDz
  rw [s.mask]
  by_cases h : k0 + b < hi
  · have e : ∑ c ∈ range k0, rowP M Z D C c + ∑ c ∈ range b, rowP M' Z' D' (C - ∑ c ∈ range k0, rowLeft M Z c) c
        = ∑ c ∈ range (k0 + b), rowP M Z D C c := by
      rw [sum_range_add]
      congr 1
      refine sum_congr rfl fun x hx => ?_
      rw [s.p h1, if_pos (by have := mem_range.1 hx; omega)]
    simp only [h, decide_true, Bool.and_true, if_true, s.score b h]
    rw [e, s.p h1, if_pos h, zero_add]
  · simp [h]

end Cert.Proof.SB

end
-- ==== Proof.RealArray.lean ====
/- Arrays of extended reals whose entries are real numbers, and the operations on such entries. -/
module

public import proofs.«01_k».proof.Proof.RealRow
public import Idealize.ShloMosaic.Lib.Pointwise

@[expose] public section

noncomputable section

namespace Cert.Proof.SB

open Finset
open Idealize.ShloMosaic

/-- The entries of a two-dimensional array are the given real numbers. -/
def Is {n0 n1 : ℕ} (x : (⟨2, ![n0, n1]⟩ : Shape).Idx → EReal) (f : ℕ → ℕ → ℝ) : Prop :=
  ∀ (a : Fin n0) (b : Fin n1), x (ix2 a b) = ((f a.val b.val : ℝ) : EReal)

/-- The entries of a mask are the given truth values. -/
def IsMask {n0 n1 : ℕ} (x : (⟨2, ![n0, n1]⟩ : Shape).Idx → BitVec 1) (f : ℕ → ℕ → Bool) : Prop :=
  ∀ (a : Fin n0) (b : Fin n1), x (ix2 a b) = BitVec.ofBool (f a.val b.val)

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [sum_insert h, sum_insert h, EReal.coe_add, ih]

/-- A sum of real numbers over a bounded index. -/
theorem sum_fin (n : ℕ) (f : ℕ → ℝ) : ∑ i : Fin n, ((f i.val : ℝ) : EReal) = ((∑ i ∈ range n, f i : ℝ) : EReal) := by
  rw [← coe_sum, Finset.sum_range]

theorem exp_coe (x : ℝ) : Ideal.exp (x : EReal) = ((Real.exp x : ℝ) : EReal) := rfl

theorem log_coe {x : ℝ} (h : 0 < x) : Ideal.log (x : EReal) = ((Real.log x : ℝ) : EReal) := by
  show (if x ≤ 0 then _ else _) = _
  rw [if_neg (by linarith)]

theorem max_coe (x y : ℝ) : max (x : EReal) (y : EReal) = ((max x y : ℝ) : EReal) :=
  (EReal.coe_strictMono.monotone.map_max).symm

theorem abs_coe (x : ℝ) : max (x : EReal) (-(x : EReal)) = ((|x| : ℝ) : EReal) := by
  rw [← EReal.coe_neg, max_coe]
  rfl

theorem one_coe : (1 : EReal) = ((1 : ℝ) : EReal) := rfl

theorem zero_coe : (0 : EReal) = ((0 : ℝ) : EReal) := rfl

/-- The softplus as it is computed without overflow. -/
theorem sp_eq (z : ℝ) : max z 0 + Real.log (1 + Real.exp (0 - |z|)) = sp z := by
  have h0 : (0 : ℝ) < 1 + Real.exp (0 - |z|) := by positivity
  unfold sp
  rcases le_total 0 z with h | h
  · rw [max_eq_left h, abs_of_nonneg h]
    nth_rewrite 1 [← Real.log_exp z]
    rw [abs_of_nonneg h] at h0
    rw [← Real.log_mul (Real.exp_pos z).ne' h0.ne', mul_add, ← Real.exp_add]
    congr 1
    simp [add_comm]
  · rw [max_eq_right h, abs_of_nonpos h, zero_add]
    simp

theorem sp_coe (z : ℝ) :
    max (z : EReal) 0 + Ideal.log (1 + Ideal.exp (0 - max (z : EReal) (-(z : EReal)))) = ((sp z : ℝ) : EReal) := by
  rw [abs_coe, zero_coe, ← EReal.coe_sub, exp_coe, max_coe, one_coe, ← EReal.coe_add, log_coe (by positivity),
    ← EReal.coe_add, sp_eq]

theorem select_bool (b : Bool) (x y : EReal) : Scalar.select (BitVec.ofBool b) x y = if b then x else y := by
  cases b <;> rfl

theorem ite_coe (b : Prop) [Decidable b] (x y : ℝ) : (if b then (x : EReal) else (y : EReal)) = ((if b then x else y : ℝ) : EReal) := by
  split <;> rfl

end Cert.Proof.SB

end
-- ==== Proof.Span.lean ====
/- One span of keys of the stick-breaking gradient, as a function of arrays: for one head the attention weights and the
   scores' gradient over the span, and what the span adds to the three results. -/
module

public import proofs.«01_k».proof.Proof.Gen.KernelIdeal.Skeleton
public import Idealize.ShloMosaic.Lib.VecWindow

@[expose] public section

noncomputable section

namespace Cert.Proof.SB

open Cert.KernelIdeal Cert.KernelIdeal.Gen
open Idealize.ShloMosaic Idealize.ShloMosaic.TcCoe

variable {F : FTy → Type} [FloatOps F]

/-- A query tile by a span of keys. -/
abbrev TileSpan (F : FTy → Type) := FVec F S256x512 .f32

/-- A query tile by half a span of keys. -/
abbrev TileHalf (F : FTy → Type) := FVec F S256x256 .f32

/-- One number for each query of a tile. -/
abbrev TileCol (F : FTy → Type) := FVec F S256x1 .f32

/-- The scores of a tile's queries against a span's keys. -/
def scores (q : FVec F S256x128 .bf16) (k : FVec F S512x128 .bf16) : TileSpan F :=
  matmul dot_S256x128_S512x128_S256x512_1_1_0_0_n_n none q k (constant S256x512 .f32 0x00000000#32)

/-- The softplus of the scores, in the form that does not overflow. -/
def softplus (z : TileSpan F) : TileSpan F :=
  addf (maximumf z (broadcast S256x512 (Scalar.ofBits .f32 0x00000000#32)))
    (log (addf (broadcast S256x512 (Scalar.ofBits .f32 0x3F800000#32))
      (exp (subf (broadcast S256x512 (Scalar.ofBits .f32 0x00000000#32)) (absf z)))))

/-- The logarithm of the share of the stick each key leaves, zero off the mask. -/
def logLeft (mask : IVec S256x512 1) (z : TileSpan F) : TileSpan F :=
  select mask (subf (broadcast S256x512 (Scalar.ofBits .f32 0x00000000#32)) (softplus z))
    (broadcast S256x512 (Scalar.ofBits .f32 0x00000000#32))

/-- The logarithm of the sigmoid of the scores. -/
def logSig (z : TileSpan F) : TileSpan F := subf z (softplus z)

/-- The first half of a span. -/
def half0 {α : Type} (x : S256x512.Idx → α) : S256x256.Idx → α :=
  extractStridedSlice S256x256 ![0, 0] x slices_S256x512_o0_0_S256x256

/-- The second half of a span. -/
def half1 {α : Type} (x : S256x512.Idx → α) : S256x256.Idx → α :=
  extractStridedSlice S256x256 ![0, 256] x slices_S256x512_o0_256_S256x256

/-- Sums over half a span weighted by a triangle of ones. -/
def triSum (x : TileHalf F) (w : FVec F S256x256 .bf16) : TileHalf F :=
  matmul dot_S256x256_S256x256_S256x256_1_0_0_1_n_n none (truncf .bf16 x bitsLt_bf16_f32) w
    (constant S256x256 .f32 0x00000000#32)

/-- The sum of each query's entries over half a span. -/
def rowSum (x : TileHalf F) : TileCol F :=
  shapeCast S256x1 (multiReduction .add [1] S256 x 0x00000000#32 reduces_S256x256_S256 (.inl rfl) rfl)
    shapeCasts_S256_S256x1

/-- The attention weights over half a span. -/
def attHalf (mask : IVec S256x256 1) (lsg suf : TileHalf F) (ct pre : TileCol F) : TileHalf F :=
  select mask (exp (addf (addf lsg suf) (broadcastTo S256x256 (subf ct pre) broadcasts_S256x1_S256x256)))
    (broadcast S256x256 (Scalar.ofBits .f32 0x00000000#32))

/-- The gradient of the scores over half a span. -/
def dzHalf (mask : IVec S256x256 1) (p sg : TileHalf F) (ecar : TileCol F) (pcum : TileHalf F) : TileHalf F :=
  select mask (subf (mulf p (subf (broadcast S256x256 (Scalar.ofBits .f32 0x3F800000#32)) sg))
      (mulf sg (addf (broadcastTo S256x256 ecar broadcasts_S256x1_S256x256) pcum)))
    (broadcast S256x256 (Scalar.ofBits .f32 0x00000000#32))

/-- Two halves of a span side by side, in the narrow format. -/
def joinHalves (a b : TileHalf F) : FVec F S256x512 .bf16 :=
  truncf .bf16 (concatenate S256x512 1 [⟨S256x256, a⟩, ⟨S256x256, b⟩] concatenates_S256x256_S256x256_S256x512_d1)
    bitsLt_bf16_f32

/-- What one head of one span is computed from: the mask, the query tile, the tile of the attention's gradient, the
    logarithm of what each query's stick has left at the end, the two triangles of ones, and the span's keys and
    values. -/
structure HeadIn (F : FTy → Type) where
  mask : IVec S256x512 1
  q : FVec F S256x128 .bf16
  dout : FVec F S256x128 .bf16
  ctot : TileCol F
  tril : FVec F S256x256 .bf16
  triu : FVec F S256x256 .bf16
  k : FVec F S512x128 .bf16
  v : FVec F S512x128 .bf16

namespace HeadIn

variable (h : HeadIn F) (pre ecar : TileCol F)

/-- The logarithms of what each key leaves. -/
def left : TileSpan F := logLeft h.mask (scores h.q h.k)

/-- The logarithms of the sigmoids. -/
def lsg : TileSpan F := logSig (scores h.q h.k)

/-- The gradient of the attention weights. -/
def datt : TileSpan F :=
  matmul dot_S256x128_S512x128_S256x512_1_1_0_0_n_n none h.dout h.v (constant S256x512 .f32 0x00000000#32)

/-- The running sum of the logarithms after the first half. -/
def pre1 : TileCol F := addf pre (rowSum (half0 h.left))

/-- The running sum of the logarithms after the span. -/
def pre2 : TileCol F := addf (h.pre1 pre) (rowSum (half1 h.left))

/-- The attention weights over the first half. -/
def att0 : TileHalf F := attHalf (half0 h.mask) (half0 h.lsg) (triSum (half0 h.left) h.tril) h.ctot (h.pre1 pre)

/-- The attention weights over the second half. -/
def att1 : TileHalf F := attHalf (half1 h.mask) (half1 h.lsg) (triSum (half1 h.left) h.tril) h.ctot (h.pre2 pre)

/-- Weights times their gradients over the first half. -/
def p0 : TileHalf F := mulf (h.att0 pre) (half0 h.datt)

/-- Weights times their gradients over the second half. -/
def p1 : TileHalf F := mulf (h.att1 pre) (half1 h.datt)

/-- The running sum of the products after the first half. -/
def ecar1 : TileCol F := addf ecar (rowSum (h.p0 pre))

/-- The running sum of the products after the span. -/
def ecar2 : TileCol F := addf (h.ecar1 pre ecar) (rowSum (h.p1 pre))

/-- The gradient of the scores over the first half. -/
def dz0 : TileHalf F :=
  dzHalf (half0 h.mask) (h.p0 pre) (half0 (exp h.lsg)) ecar (triSum (h.p0 pre) h.triu)

/-- The gradient of the scores over the second half. -/
def dz1 : TileHalf F :=
  dzHalf (half1 h.mask) (h.p1 pre) (half1 (exp h.lsg)) (h.ecar1 pre ecar) (triSum (h.p1 pre) h.triu)

/-- The attention weights over the span. -/
def att : FVec F S256x512 .bf16 := joinHalves (h.att0 pre) (h.att1 pre)

/-- The gradient of the scores over the span. -/
def dz : FVec F S256x512 .bf16 := joinHalves (h.dz0 pre ecar) (h.dz1 pre ecar)

/-- What the span adds to the gradient of the queries. -/
def dqAdd : FVec F S256x128 .f32 :=
  matmul dot_S256x512_S512x128_S256x128_1_0_0_1_n_n none (h.dz pre ecar) h.k (constant S256x128 .f32 0x00000000#32)

/-- What the tile adds to the gradient of the span's keys. -/
def dkAdd : FVec F S512x128 .f32 :=
  matmul dot_S256x512_S256x128_S512x128_0_0_1_1_n_n none (h.dz pre ecar) h.q (constant S512x128 .f32 0x00000000#32)

/-- What the tile adds to the gradient of the span's values. -/
def dvAdd : FVec F S512x128 .f32 :=
  matmul dot_S256x512_S256x128_S512x128_0_0_1_1_n_n none (h.att pre) h.dout (constant S512x128 .f32 0x00000000#32)

end HeadIn

/-- What is carried from span to span: for each of the two heads the gradient of the queries so far, the running sum of
    the logarithms and the running sum of the products. -/
abbrev Carry (F : FTy → Type) := FVec F S256x128 .f32 × TileCol F × TileCol F × FVec F S256x128 .f32 × TileCol F × TileCol F

/-- What is carried after a span. -/
def carryStep (a b : HeadIn F) (c : Carry F) : Carry F :=
  (addf c.1 (a.dqAdd c.2.1 c.2.2.1), a.pre2 c.2.1, a.ecar2 c.2.1 c.2.2.1,
    addf c.2.2.2.1 (b.dqAdd c.2.2.2.2.1 c.2.2.2.2.2), b.pre2 c.2.2.2.2.1, b.ecar2 c.2.2.2.2.1 c.2.2.2.2.2)

/-- The gradient of a span's keys after the tile, from what it was before. -/
def dkStep (a b : HeadIn F) (c : Carry F) (w : Vec F S512x128 .f32) : FVec F S512x128 .f32 :=
  addf (shapeCast S512x128 w shapeCasts_S512x128_S512x128)
    (addf (a.dkAdd c.2.1 c.2.2.1) (b.dkAdd c.2.2.2.2.1 c.2.2.2.2.2))

/-- The gradient of a span's values after the tile, from what it was before. -/
def dvStep (a b : HeadIn F) (c : Carry F) (w : Vec F S512x128 .f32) : FVec F S512x128 .f32 :=
  addf (shapeCast S512x128 w shapeCasts_S512x128_S512x128) (addf (a.dvAdd c.2.1) (b.dvAdd c.2.2.2.2.1))

/-- What a grid point works from: both heads' query tiles, tiles of the attention's gradient and ends of the sticks,
    the triangles, the positions of the queries, the end of the tile, the number of spans, and all keys and values. -/
structure PointIn (F : FTy → Type) where
  q0 : FVec F S256x128 .bf16
  q1 : FVec F S256x128 .bf16
  d0 : FVec F S256x128 .bf16
  d1 : FVec F S256x128 .bf16
  c0 : TileCol F
  c1 : TileCol F
  tril : FVec F S256x256 .bf16
  triu : FVec F S256x256 .bf16
  k : Vec F S8448x128 .f32
  v : Vec F S8448x128 .f32

section Span

variable (P : PointIn F) (i : grid0.Coords) (n : BitVec 32) (hn : k0_chk1 i n) (t : Fin (k0_t1_loop n).trips)

/-- The position just past the query tile. -/
def tileEnd : BitVec 32 := Scalar.muli (Scalar.addi (BitVec.ofNat 32 (i 1).val) 1#32) 256#32

/-- The mask of a span. -/
def spanMask : IVec S256x512 1 := k0_pay18 (F := F) (k0_pay120 i) (tileEnd i) n 0#32 1#32 t

/-- A span's part of the keys or the values, as the body loads it. -/
def spanRows (x : Vec F S8448x128 .f32) : Vec F S512x128 .f32 :=
  VecWindow.window x (k0_off2 i n t) S512x128.size (k0_off2_inb i n hn t)

/-- The first head of a span. -/
def headA : HeadIn F where
  mask := spanMask (F := F) i n t
  q := P.q0
  dout := P.d0
  ctot := P.c0
  tril := P.tril
  triu := P.triu
  k := k0_pay16 (spanRows i n hn t P.k)
  v := k0_pay17 (spanRows i n hn t P.v)

/-- The second head of a span. -/
def headB : HeadIn F where
  mask := spanMask (F := F) i n t
  q := P.q1
  dout := P.d1
  ctot := P.c1
  tril := P.tril
  triu := P.triu
  k := k0_pay16 (spanRows i n hn t P.k)
  v := k0_pay17 (spanRows i n hn t P.v)

/-- The state of the loop over spans: what is carried, and the two accumulated results. -/
structure State (F : FTy → Type) where
  carry : Carry F
  dk : Vec F S8448x128 .f32
  dv : Vec F S8448x128 .f32

/-- One span's effect on the state. -/
def stateStep (s : State F) : State F where
  carry := carryStep (headA P i n hn t) (headB P i n hn t) s.carry
  dk := VecWindow.put s.dk (k0_off2 i n t) S512x128.size
    (dkStep (headA P i n hn t) (headB P i n hn t) s.carry (spanRows i n hn t s.dk))
  dv := VecWindow.put s.dv (k0_off2 i n t) S512x128.size
    (dvStep (headA P i n hn t) (headB P i n hn t) s.carry (spanRows i n hn t s.dv))

/-- The state before the first span. -/
def stateInit (dk dv : Vec F S8448x128 .f32) : State F where
  carry := (k0_pay1, k0_pay2, k0_pay2, k0_pay1, k0_pay2, k0_pay2)
  dk := dk
  dv := dv

/-- The state after a number of spans. -/
def stateAt (dk dv : Vec F S8448x128 .f32) : ℕ → State F
  | 0 => stateInit dk dv
  | k + 1 => if h : k < (k0_t1_loop n).trips then stateStep P i n hn ⟨k, h⟩ (stateAt dk dv k) else stateAt dk dv k

theorem stateAt_succ (dk dv : Vec F S8448x128 .f32) :
    stateAt P i n hn dk dv (t.val + 1) = stateStep P i n hn t (stateAt P i n hn dk dv t.val) := by
  simp only [stateAt, dif_pos t.isLt]

end Span

/-- What a grid point works from, of the blocks of its operands. -/
def pointIn (x1 : Vec F S256x128 .f32) (x2 x3 : Vec F S8448x128 .f32) (x4 x5 : Vec F S256x128 .f32)
    (x6 x7 : Vec F S256x256 .bf16) : PointIn F where
  q0 := k0_pay110 x1
  q1 := k0_pay111 x1
  d0 := k0_pay113 x5
  d1 := k0_pay114 x5
  c0 := k0_pay116 x4
  c1 := k0_pay117 x4
  tril := k0_pay118 x6
  triu := k0_pay119 x7
  k := x2
  v := x3

/-- The gradient of the queries a point stores, of what is carried at the end. -/
def dqOut (c : Carry F) : FVec F S256x128 .bf16 := k0_pay15 k0_pay108 c.1 c.2.2.2.1

end Cert.Proof.SB

end
-- ==== Proof.HeadValue.lean ====
/- What one head of one span computes, in real numbers: the attention weights and the scores' gradient are those of
   each query's row, and the span's three contributions are their products with the keys, queries and gradients. -/
module

public import proofs.«01_k».proof.Proof.RealArray
public import proofs.«01_k».proof.Proof.Span

@[expose] public section

noncomputable section

namespace Cert.Proof.SB

open Finset
open Cert.KernelIdeal Cert.KernelIdeal.Gen
open Idealize.ShloMosaic Idealize.ShloMosaic.TcCoe

/-- A sum over the places past one place. -/
theorem sum_mul_gt (f : ℕ → ℝ) (n b : ℕ) (h : b < n) :
    ∑ x ∈ range n, f x * (if b < x then 1 else 0) = ∑ x ∈ range n, f x - ∑ x ∈ range (b + 1), f x := by
  obtain ⟨m, rfl⟩ : ∃ m, n = b + 1 + m := ⟨n - (b + 1), by omega⟩
  rw [sum_range_add, sum_range_add (fun x => f x), add_sub_cancel_left,
    sum_eq_zero (s := range (b + 1)), zero_add]
  · refine sum_congr rfl fun x _ => ?_
    rw [if_pos (by omega), mul_one]
  · intro x hx
    rw [if_neg (by have := mem_range.1 hx; omega), mul_zero]

/-- A sum over the places before one place. -/
theorem sum_mul_lt (f : ℕ → ℝ) (n b : ℕ) (h : b ≤ n) :
    ∑ x ∈ range n, f x * (if x < b then 1 else 0) = ∑ x ∈ range b, f x := by
  obtain ⟨m, rfl⟩ : ∃ m, n = b + m := ⟨n - b, by omega⟩
  rw [sum_range_add, sum_eq_zero (s := range m), add_zero]
  · refine sum_congr rfl fun x hx => ?_
    rw [if_pos (mem_range.1 hx), mul_one]
  · intro x _
    rw [if_neg (by omega), mul_zero]

/-- A product of two arrays over the second coordinate of both. -/
theorem sum_mul_fin {n n0 n1 : ℕ} {x : (⟨2, ![n0, n]⟩ : Shape).Idx → EReal} {y : (⟨2, ![n1, n]⟩ : Shape).Idx → EReal}
    {f g : ℕ → ℕ → ℝ} (hx : Is x f) (hy : Is y g) (a : Fin n0) (b : Fin n1) :
    ∑ d : Fin n, x (ix2 a d) * y (ix2 b d) = ((∑ d ∈ range n, f a.val d * g b.val d : ℝ) : EReal) := by
  simp only [hx a, hy b, ← EReal.coe_mul]
  exact sum_fin n fun d => f a.val d * g b.val d

theorem sum_mul_fin_left {n n0 n1 : ℕ} {x : (⟨2, ![n, n0]⟩ : Shape).Idx → EReal}
    {y : (⟨2, ![n, n1]⟩ : Shape).Idx → EReal} {f g : ℕ → ℕ → ℝ} (hx : Is x f) (hy : Is y g) (a : Fin n0) (b : Fin n1) :
    ∑ d : Fin n, x (ix2 d a) * y (ix2 d b) = ((∑ d ∈ range n, f d a.val * g d b.val : ℝ) : EReal) := by
  have e : ∀ d : Fin n, x (ix2 d a) * y (ix2 d b) = ((f d.val a.val * g d.val b.val : ℝ) : EReal) := fun d => by
    rw [hx d a, hy d b, EReal.coe_mul]
  rw [sum_congr rfl fun d _ => e d]
  exact sum_fin n fun d => f d a.val * g d b.val

theorem sum_mul_fin_mid {n n0 n1 : ℕ} {x : (⟨2, ![n0, n]⟩ : Shape).Idx → EReal}
    {y : (⟨2, ![n, n1]⟩ : Shape).Idx → EReal} {f g : ℕ → ℕ → ℝ} (hx : Is x f) (hy : Is y g) (a : Fin n0) (b : Fin n1) :
    ∑ d : Fin n, x (ix2 a d) * y (ix2 d b) = ((∑ d ∈ range n, f a.val d * g d b.val : ℝ) : EReal) := by
  have e : ∀ d : Fin n, x (ix2 a d) * y (ix2 d b) = ((f a.val d.val * g d.val b.val : ℝ) : EReal) := fun d => by
    rw [hx a d, hy d b, EReal.coe_mul]
  rw [sum_congr rfl fun d _ => e d]
  exact sum_fin n fun d => f a.val d * g d b.val

/-- One number for each row. -/
def IsCol {n0 : ℕ} (x : (⟨2, ![n0, 1]⟩ : Shape).Idx → EReal) (f : ℕ → ℝ) : Prop :=
  ∀ (a : Fin n0), x (ix2 a 0) = ((f a.val : ℝ) : EReal)

section Ops

variable {z x y : TileHalf Ideal} {f g : ℕ → ℕ → ℝ} {m : ℕ → ℕ → Bool}

theorem half0_is {x : TileSpan Ideal} (h : Is x f) : Is (half0 x : TileHalf Ideal) f := fun a b => by
  pointwise [half0]
  exact h a ⟨b, by omega⟩

theorem half1_is {x : TileSpan Ideal} (h : Is x f) : Is (half1 x : TileHalf Ideal) (fun a b => f a (256 + b)) := fun a b => by
  pointwise [half1]
  exact h a ⟨256 + b, by omega⟩

theorem half0_mask {x : IVec S256x512 1} (h : IsMask x m) : IsMask (half0 x : IVec S256x256 1) m := fun a b => by
  pointwise [half0]
  exact h a ⟨b, by omega⟩

theorem half1_mask {x : IVec S256x512 1} (h : IsMask x m) : IsMask (half1 x : IVec S256x256 1) (fun a b => m a (256 + b)) :=
  fun a b => by
    pointwise [half1]
    exact h a ⟨256 + b, by omega⟩

theorem rowSum_is (h : Is x f) : IsCol (rowSum x) (fun a => ∑ b ∈ range 256, f a b) := fun a => by
  pointwise [rowSum]
  simp only [h a]
  exact sum_fin 256 (f a)

theorem triSum_tril {w : FVec Ideal S256x256 .bf16} (h : Is x f) (hw : Is w fun a b => if b < a then 1 else 0) :
    Is (triSum x w) (fun a b => ∑ c ∈ range 256, f a c - ∑ c ∈ range (b + 1), f a c) := fun a b => by
  pointwise [triSum]
  rw [sum_mul_fin_mid h hw, sum_mul_gt _ _ _ b.isLt]

theorem triSum_triu {w : FVec Ideal S256x256 .bf16} (h : Is x f) (hw : Is w fun a b => if a < b then 1 else 0) :
    Is (triSum x w) (fun a b => ∑ c ∈ range b, f a c) := fun a b => by
  pointwise [triSum]
  rw [sum_mul_fin_mid h hw, sum_mul_lt _ _ _ b.isLt.le]

theorem joinHalves_is (f : ℕ → ℕ → ℝ) (h0 : Is x f) (h1 : Is y fun a b => f a (256 + b)) : Is (joinHalves x y) f := fun a b => by
  pointwise [joinHalves]
  split
  · exact h0 a ⟨b, _⟩
  · rw [h1]
    simp only
    rw [show 256 + (b.val - 256) = b.val by omega]

theorem attHalf_is {mask : IVec S256x256 1} {lsg suf : TileHalf Ideal} {ct pre : TileCol Ideal} {u v : ℕ → ℝ}
    (hm : IsMask mask m) (hl : Is lsg f) (hs : Is suf g) (hc : IsCol ct u) (hp : IsCol pre v) :
    Is (attHalf mask lsg suf ct pre) (fun a b => if m a b then Real.exp (f a b + g a b + (u a - v a)) else 0) := fun a b => by
  pointwise [attHalf]
  rw [hm, hl, hs, hc, hp, select_bool, ← EReal.coe_sub, ← EReal.coe_add, ← EReal.coe_add, exp_coe, zero_coe, ite_coe]

theorem dzHalf_is {mask : IVec S256x256 1} {p sg pc : TileHalf Ideal} {ec : TileCol Ideal} {h : ℕ → ℕ → ℝ} {v : ℕ → ℝ}
    (hm : IsMask mask m) (hp : Is p f) (hs : Is sg g) (he : IsCol ec v) (hc : Is pc h) :
    Is (dzHalf mask p sg ec pc)
      (fun a b => if m a b then f a b * (1 - g a b) - g a b * (v a + h a b) else 0) := fun a b => by
  pointwise [dzHalf]
  have o : Scalar.ofBits (F := Ideal) .f32 0x3F800000#32 = ((1 : ℝ) : EReal) := Ideal.ofBits_one_f32
  simp only [hm a b, hp a b, hs a b, he a, hc a b, select_bool, zero_coe, one_coe, ← EReal.coe_sub, ← EReal.coe_add, ← EReal.coe_mul, ite_coe]

end Ops

/-- The head's arrays are the given real numbers. -/
structure HeadIs (h : HeadIn Ideal) (M : ℕ → ℕ → Bool) (Q G K V : ℕ → ℕ → ℝ) (C : ℕ → ℝ) : Prop where
  mask : IsMask h.mask M
  q : Is h.q Q
  dout : Is h.dout G
  k : Is h.k K
  v : Is h.v V
  ctot : IsCol h.ctot C
  tril : Is h.tril fun a b => if b < a then 1 else 0
  triu : Is h.triu fun a b => if a < b then 1 else 0

/-- Products of the rows of two arrays. -/
def dots (x y : ℕ → ℕ → ℝ) (a b : ℕ) : ℝ := ∑ d ∈ range 128, x a d * y b d

namespace HeadIs

variable {h : HeadIn Ideal} {M : ℕ → ℕ → Bool} {Q G K V : ℕ → ℕ → ℝ} {C : ℕ → ℝ}
variable (H : HeadIs h M Q G K V C) {pre ecar : TileCol Ideal} {u e : ℕ → ℝ}
include H

theorem scores_is : Is (scores h.q h.k) (dots Q K) := fun a b => by
  pointwise [scores]
  exact sum_mul_fin H.q H.k a b

theorem datt_is : Is h.datt (dots G V) := fun a b => by
  pointwise [HeadIn.datt]
  exact sum_mul_fin H.dout H.v a b

theorem left_is : Is h.left (fun a => rowLeft (M a) (dots Q K a)) := fun a b => by
  pointwise [HeadIn.left, logLeft, softplus]
  rw [H.mask, select_bool, H.scores_is]
  erw [sp_coe]
  rw [zero_coe, ← EReal.coe_sub, ite_coe, zero_sub]
  rfl

theorem lsg_is : Is h.lsg (fun a b => dots Q K a b - sp (dots Q K a b)) := fun a b => by
  pointwise [HeadIn.lsg, logSig, softplus]
  rw [H.scores_is]
  erw [sp_coe]
  rw [← EReal.coe_sub]

theorem sig_is : Is (exp h.lsg : TileSpan Ideal) (fun a b => Real.exp (dots Q K a b - sp (dots Q K a b))) := fun a b => by
  have e := H.lsg_is a b
  show Ideal.exp (h.lsg (ix2 a b)) = _
  rw [e, exp_coe]

variable (hp : IsCol pre u)
include hp

theorem pre1_is : IsCol (h.pre1 pre) (fun a => u a + ∑ b ∈ range 256, rowLeft (M a) (dots Q K a) b) := fun a => by
  pointwise [HeadIn.pre1]
  rw [hp, rowSum_is (half0_is H.left_is) a, ← EReal.coe_add]

theorem pre2_is : IsCol (h.pre2 pre) (fun a => u a + ∑ b ∈ range 512, rowLeft (M a) (dots Q K a) b) := fun a => by
  pointwise [HeadIn.pre2]
  rw [H.pre1_is hp, rowSum_is (half1_is H.left_is) a, ← EReal.coe_add, sum_range_add _ 256 256, add_assoc]

theorem att0_is : Is (h.att0 pre) (fun a => rowAtt (M a) (dots Q K a) (C a - u a)) := fun a b => by
  unfold HeadIn.att0
  rw [attHalf_is (half0_mask H.mask) (half0_is H.lsg_is) (triSum_tril (half0_is H.left_is) H.tril) H.ctot (H.pre1_is hp)]
  simp only [rowAtt]
  congr 3
  ring

theorem att1_is : Is (h.att1 pre) (fun a b => rowAtt (M a) (dots Q K a) (C a - u a) (256 + b)) := fun a b => by
  unfold HeadIn.att1
  rw [attHalf_is (half1_mask H.mask) (half1_is H.lsg_is) (triSum_tril (half1_is H.left_is) H.tril) H.ctot (H.pre2_is hp)]
  simp only [rowAtt]
  rw [sum_range_add _ 256 256, add_assoc 256, sum_range_add _ 256 (b.val + 1)]
  congr 3
  ring

theorem p0_is : Is (h.p0 pre) (fun a => rowP (M a) (dots Q K a) (dots G V a) (C a - u a)) := fun a b => by
  show h.att0 pre (ix2 a b) * half0 h.datt (ix2 a b) = _
  rw [H.att0_is hp, half0_is H.datt_is, ← EReal.coe_mul]
  rfl

theorem p1_is : Is (h.p1 pre) (fun a b => rowP (M a) (dots Q K a) (dots G V a) (C a - u a) (256 + b)) := fun a b => by
  show h.att1 pre (ix2 a b) * half1 h.datt (ix2 a b) = _
  rw [H.att1_is hp, half1_is H.datt_is, ← EReal.coe_mul]
  rfl

theorem att_is : Is (h.att pre) (fun a => rowAtt (M a) (dots Q K a) (C a - u a)) :=
  joinHalves_is _ (H.att0_is hp) (H.att1_is hp)

theorem dvAdd_is : Is (h.dvAdd pre)
    (fun b l => ∑ a ∈ range 256, rowAtt (M a) (dots Q K a) (C a - u a) b * G a l) := fun b l => by
  pointwise [HeadIn.dvAdd]
  exact sum_mul_fin_left (H.att_is hp) H.dout b l

variable (he : IsCol ecar e)
include he

theorem ecar1_is : IsCol (h.ecar1 pre ecar)
    (fun a => e a + ∑ b ∈ range 256, rowP (M a) (dots Q K a) (dots G V a) (C a - u a) b) := fun a => by
  pointwise [HeadIn.ecar1]
  rw [he, rowSum_is (H.p0_is hp) a, ← EReal.coe_add]

theorem ecar2_is : IsCol (h.ecar2 pre ecar)
    (fun a => e a + ∑ b ∈ range 512, rowP (M a) (dots Q K a) (dots G V a) (C a - u a) b) := fun a => by
  pointwise [HeadIn.ecar2]
  rw [H.ecar1_is hp he, rowSum_is (H.p1_is hp) a, ← EReal.coe_add, sum_range_add _ 256 256, add_assoc]

theorem dz0_is : Is (h.dz0 pre ecar)
    (fun a => rowDz (M a) (dots Q K a) (dots G V a) (C a - u a) (e a)) := fun a b => by
  unfold HeadIn.dz0
  rw [dzHalf_is (half0_mask H.mask) (H.p0_is hp) (half0_is H.sig_is) he (triSum_triu (H.p0_is hp) H.triu)]
  rfl

theorem dz1_is : Is (h.dz1 pre ecar)
    (fun a b => rowDz (M a) (dots Q K a) (dots G V a) (C a - u a) (e a) (256 + b)) := fun a b => by
  unfold HeadIn.dz1
  rw [dzHalf_is (half1_mask H.mask) (H.p1_is hp) (half1_is H.sig_is) (H.ecar1_is hp he) (triSum_triu (H.p1_is hp) H.triu)]
  simp only [rowDz]
  rw [sum_range_add _ 256 b.val, add_assoc (e a.val)]

theorem dz_is : Is (h.dz pre ecar) (fun a => rowDz (M a) (dots Q K a) (dots G V a) (C a - u a) (e a)) :=
  joinHalves_is _ (H.dz0_is hp he) (H.dz1_is hp he)

theorem dqAdd_is : Is (h.dqAdd pre ecar)
    (fun a l => ∑ b ∈ range 512, rowDz (M a) (dots Q K a) (dots G V a) (C a - u a) (e a) b * K b l) := fun a l => by
  pointwise [HeadIn.dqAdd]
  exact sum_mul_fin_mid (H.dz_is hp he) H.k a l

theorem dkAdd_is : Is (h.dkAdd pre ecar)
    (fun b l => ∑ a ∈ range 256, rowDz (M a) (dots Q K a) (dots G V a) (C a - u a) (e a) b * Q a l) := fun b l => by
  pointwise [HeadIn.dkAdd]
  exact sum_mul_fin_left (H.dz_is hp he) H.q b l

end HeadIs

end Cert.Proof.SB

end
-- ==== Proof.WindowSum.lean ====
/- Running sums along the last axis, in real numbers. -/
module

public import proofs.«01_k».proof.Proof.HeadValue

@[expose] public section

noncomputable section

namespace Cert.Proof.SB

open Finset
open Idealize.ShloMosaic

/-- A window of one place along two axes and of all along the third sums over the third. -/
theorem window_sum {A B N : ℕ} (lo hi : Fin 3 → ℕ) (x : (⟨3, ![A, B, N]⟩ : Shape).Idx → EReal)
    (h : (⟨3, ![A, B, N]⟩ : Shape).ReduceWindows (![1, 1, N] : Fin 3 → ℕ) ![1, 1, 1] lo hi (⟨3, ![A, B, N]⟩ : Shape))
    (f : ℕ → ℝ) (a : Fin A) (b : Fin B) (hx : ∀ j : Fin N, x (ix3 a b j) = ((f j.val : ℝ) : EReal)) (l : ℕ) (hl : lo = ![0, 0, l])
    (j : Fin N) :
    Ideal.hostReduceWindowAdd ![1, 1, N] ![1, 1, 1] lo hi h x 0 (ix3 a b j)
      = ((∑ w ∈ range N, if l ≤ j.val + w ∧ j.val + w - l < N then f (j.val + w - l) else 0 : ℝ) : EReal) := by
  subst hl
  unfold Ideal.hostReduceWindowAdd Host.reduceWindow
  dsimp only
  letI : ∀ (P : Fin 3 → Prop) [DecidablePred P], Decidable (∀ i, P i) := fun P _ => Nat.decidableForallFin P
  refine (sum_idx_eq_foldl (⟨3, ![1, 1, N]⟩ : Shape) (fun w => if hin : ∀ e : Fin 3, (![0, 0, l] : Fin 3 → ℕ) e
      ≤ ((ix3 a b j : (⟨3, ![A, B, N]⟩ : Shape).Idx) (e.cast h.1.symm)).val * (![1, 1, 1] : Fin 3 → ℕ) e + (w e).val
      ∧ ((ix3 a b j : (⟨3, ![A, B, N]⟩ : Shape).Idx) (e.cast h.1.symm)).val * (![1, 1, 1] : Fin 3 → ℕ) e + (w e).val
        - (![0, 0, l] : Fin 3 → ℕ) e < (⟨3, ![A, B, N]⟩ : Shape).size e then
      x (fun e => ⟨((ix3 a b j : (⟨3, ![A, B, N]⟩ : Shape).Idx) (e.cast h.1.symm)).val * (![1, 1, 1] : Fin 3 → ℕ) e + (w e).val
        - (![0, 0, l] : Fin 3 → ℕ) e, (hin e).2⟩) else 0)).symm.trans ?_
  rw [sum_idx3, Fin.sum_univ_one, Fin.sum_univ_one, ← sum_fin]
  refine sum_congr rfl fun w _ => ?_
  by_cases hw : l ≤ j.val + w.val ∧ j.val + w.val - l < N
  · rw [if_pos hw, dif_pos (by
      intro e
      fin_cases e
      · exact ⟨Nat.zero_le _, by show a.val * 1 + 0 - 0 < A; omega⟩
      · exact ⟨Nat.zero_le _, by show b.val * 1 + 0 - 0 < B; omega⟩
      · exact ⟨by show l ≤ j.val * 1 + w.val; omega, by show j.val * 1 + w.val - l < N; omega⟩)]
    refine (congrArg x ?_).trans (hx ⟨j.val + w.val - l, hw.2⟩)
    funext e
    fin_cases e
    · exact Fin.ext (by show a.val * 1 + 0 - 0 = a.val; omega)
    · exact Fin.ext (by show b.val * 1 + 0 - 0 = b.val; omega)
    · exact Fin.ext (by show j.val * 1 + w.val - l = j.val + w.val - l; omega)
  · rw [if_neg hw, dif_neg, zero_coe]
    intro hin
    refine hw ?_
    have := hin 2
    change l ≤ j.val * 1 + w.val ∧ j.val * 1 + w.val - l < N at this
    omega

/-- From an entry to the end. -/
theorem sum_from (f : ℕ → ℝ) (N j : ℕ) (hj : j < N) :
    ∑ w ∈ range N, (if 0 ≤ j + w ∧ j + w - 0 < N then f (j + w - 0) else 0) = ∑ c ∈ range N, f c - ∑ c ∈ range j, f c := by
  obtain ⟨n, rfl⟩ := Nat.exists_eq_add_of_lt hj
  rw [show j + n + 1 = j + (n + 1) by ring, sum_range_add f j (n + 1), add_sub_cancel_left, Nat.add_comm j (n + 1),
    sum_range_add _ (n + 1) j, sum_eq_zero (s := range j), add_zero]
  · refine sum_congr rfl fun w hw => ?_
    have := mem_range.1 hw
    rw [if_pos (by omega), Nat.sub_zero]
  · intro w _
    rw [if_neg (by omega)]

/-- From the start up to and including an entry. -/
theorem sum_upto (f : ℕ → ℝ) (n j : ℕ) (hj : j < n + 1) :
    ∑ w ∈ range (n + 1), (if n ≤ j + w ∧ j + w - n < n + 1 then f (j + w - n) else 0) = ∑ c ∈ range (j + 1), f c := by
  obtain ⟨m, rfl⟩ := Nat.exists_eq_add_of_le (Nat.le_of_lt_succ hj)
  rw [show j + m + 1 = m + (j + 1) by ring, sum_range_add _ m (j + 1), sum_eq_zero (s := range m), zero_add]
  · refine sum_congr rfl fun w hw => ?_
    have := mem_range.1 hw
    rw [if_pos (by omega), show j + (m + w) - (j + m) = w by omega]
  · intro w hw
    have := mem_range.1 hw
    rw [if_neg (by omega)]

end Cert.Proof.SB

end
-- ==== Proof.Run.lean ====
/- The body of the stick-breaking gradient at one grid point. At the first query tile of a pair of heads the
   two accumulated results are cleared, at every later tile they are added to; one run covers both. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import Idealize.ShloMosaic.Lib.Pipeline.Value

@[expose] public section

set_option maxRecDepth 16384
set_option maxHeartbeats 4000000

noncomputable section

namespace Cert.Proof.SB

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The resource algebra of the proof. -/
local notation "𝕄" => MT nD τ sig Unit (Elt F) ℕ (UR sig nD τ) ℕ

/-- No termination variants are needed. -/
abbrev 𝒱₀ : Variants := Variants.none

/-- The word the body reads: the number of spans of the point's query tile. -/
abbrev word (i : grid0.Coords) (M0 : Memref sig .tc .smem S4x33 .i32) (h0 : M0.IsWhole) (x0 : Vec F S4x33 .i32) : BitVec 32 :=
  M0.view.readAt (Elt F) (Rect.unit (s := S4x33) (k0_off1 i) S1x1.size (k0_off1_inb i)).toLoadRect (h0.unread x0)
    (Shape.Idx.first (numel1_S1x1 ▸ Nat.one_pos))

/-- The corner of a block of rank two. -/
theorem off_zero : (![0, 0] : Fin 2 → ℕ) = fun _ => 0 := by
  funext a; fin_cases a <;> rfl

/-- A store of a whole query tile leaves what was stored. -/
theorem read_store {sp : Space} {e : EltTy} (v : View sig .tc sp S256x128 e) (f : v.ty.Contents (Elt F))
    (w : Vec F S256x128 e) :
    v.read (Elt F) (v.writes (Elt F) f [⟨Rect.unit ![0, 0] S256x128.size inb_S256x128_S256x128_0_0, w⟩]) = w :=
  (View.read_writes_eq_canon _ _ _ fun y => ⟨_, List.mem_singleton_self _, View.mem_set_unit_zero off_zero inb_S256x128_S256x128_0_0 y⟩).trans
    (View.canon_unit_zero off_zero inb_S256x128_S256x128_0_0 w)

/-- What the body leaves in the blocks of its three results, with the proof that it does: on whole staging buffers
    holding the eight operands' blocks and any contents of the results' blocks, when the number of spans read satisfies
    the condition the body checks, the body ends with the operands' blocks as they were and the results' blocks at the
    three values. -/
noncomputable def bodyRun (c : Dev nD) (i : grid0.Coords)
    (M0 : Memref sig .tc .smem S4x33 .i32) (h0 : M0.IsWhole)
    (M1 : Memref sig .tc .vmem S256x128 .f32) (h1 : M1.IsWhole)
    (M2 : Memref sig .tc .vmem S8448x128 .f32) (h2 : M2.IsWhole)
    (M3 : Memref sig .tc .vmem S8448x128 .f32) (h3 : M3.IsWhole)
    (M4 : Memref sig .tc .vmem S256x128 .f32) (h4 : M4.IsWhole)
    (M5 : Memref sig .tc .vmem S256x128 .f32) (h5 : M5.IsWhole)
    (M6 : Memref sig .tc .vmem S256x256 .bf16) (h6 : M6.IsWhole)
    (M7 : Memref sig .tc .vmem S256x256 .bf16) (h7 : M7.IsWhole)
    (M8 : Memref sig .tc .vmem S256x128 .bf16) (h8 : M8.IsWhole)
    (M9 : Memref sig .tc .vmem S8448x128 .f32) (h9 : M9.IsWhole)
    (M10 : Memref sig .tc .vmem S8448x128 .f32) (h10 : M10.IsWhole)
    (x0 : Vec F S4x33 .i32) (x1 : Vec F S256x128 .f32) (x2 x3 : Vec F S8448x128 .f32) (x4 x5 : Vec F S256x128 .f32)
    (x6 x7 : Vec F S256x256 .bf16) (x9 x10 : Vec F S8448x128 .f32) (hchk : k0_chk1 i (word i M0 h0 x0)) :
    Σ' (Y8 : Vec F S256x128 .bf16) (Y9 : Vec F S8448x128 .f32), { Y10 : Vec F S8448x128 .f32 //
      ∀ (E : Set ℕ) (K : PUnit → sProp 𝕄),
        iprop(owns (c : Thread nD τ) M0 fullShare x0 ∗ owns (c : Thread nD τ) M1 fullShare x1
            ∗ owns (c : Thread nD τ) M2 fullShare x2 ∗ owns (c : Thread nD τ) M3 fullShare x3
            ∗ owns (c : Thread nD τ) M4 fullShare x4 ∗ owns (c : Thread nD τ) M5 fullShare x5
            ∗ owns (c : Thread nD τ) M6 fullShare x6 ∗ owns (c : Thread nD τ) M7 fullShare x7
            ∗ (∃ d, owns (c : Thread nD τ) M8 fullShare d) ∗ owns (c : Thread nD τ) M9 fullShare x9
            ∗ owns (c : Thread nD τ) M10 fullShare x10
            ∗ (iprop(owns (c : Thread nD τ) M0 fullShare x0 ∗ owns (c : Thread nD τ) M1 fullShare x1
                ∗ owns (c : Thread nD τ) M2 fullShare x2 ∗ owns (c : Thread nD τ) M3 fullShare x3
                ∗ owns (c : Thread nD τ) M4 fullShare x4 ∗ owns (c : Thread nD τ) M5 fullShare x5
                ∗ owns (c : Thread nD τ) M6 fullShare x6 ∗ owns (c : Thread nD τ) M7 fullShare x7
                ∗ owns (c : Thread nD τ) M8 fullShare Y8 ∗ owns (c : Thread nD τ) M9 fullShare Y9
                ∗ owns (c : Thread nD τ) M10 fullShare Y10) -∗ K ⟨⟩))
          ⊢ wp frame (wpE (defs₀ (F := F)) 𝒱₀ c none) E
              (cc0_sb_bwd i M0 h0 M1 h1 M2 h2 M3 h3 M4 h4 M5 h5 M6 h6 M7 h7 M8 h8 M9 h9 M10 h10) K } := by
  refine ⟨?_, ?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
    obtain rfl := h0.eq_unread hf0; obtain rfl := h1.eq_unread hf1
    obtain rfl := h2.eq_unread hf2; obtain rfl := h3.eq_unread hf3
    obtain rfl := h4.eq_unread hf4; obtain rfl := h5.eq_unread hf5
    obtain rfl := h6.eq_unread hf6; obtain rfl := h7.eq_unread hf7
    obtain rfl := h9.eq_unread hf9; obtain rfl := h10.eq_unread hf10
    sl_unfold [cc0_sb_bwd]
    sl_exec (disch := (sl_unfold_words; exact hchk))
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; swap; · iexact H8
      ipureintro
      exact read_store (F := F) _ _ _
    isplitl [H9]
    · iexists _; isplitr; swap; · iexact H9
      ipureintro; rfl
    iexists _; isplitr; swap; · iexact H10
    ipureintro; rfl

end Cert.Proof.SB

end
-- ==== Proof.Trip.lean ====
/- The loop over spans as the run found it is the loop of the span's function: trip by trip what is carried, and the
   two accumulated results read back. -/
module

public import proofs.«01_k».proof.Proof.Run
public import proofs.«01_k».proof.Proof.Span

@[expose] public section

set_option maxRecDepth 16384
set_option maxHeartbeats 4000000

noncomputable section

namespace Cert.Proof.SB

open Cert.KernelIdeal Cert.KernelIdeal.Gen
open Idealize.ShloMosaic Idealize.ShloMosaic.TcCoe

variable {F : FTy → Type} [FloatOps F]

section Trip

variable (c : Dev nD) (i : grid0.Coords)
    (M0 : Memref sig .tc .smem S4x33 .i32) (h0 : M0.IsWhole)
    (M1 : Memref sig .tc .vmem S256x128 .f32) (h1 : M1.IsWhole)
    (M2 : Memref sig .tc .vmem S8448x128 .f32) (h2 : M2.IsWhole)
    (M3 : Memref sig .tc .vmem S8448x128 .f32) (h3 : M3.IsWhole)
    (M4 : Memref sig .tc .vmem S256x128 .f32) (h4 : M4.IsWhole)
    (M5 : Memref sig .tc .vmem S256x128 .f32) (h5 : M5.IsWhole)
    (M6 : Memref sig .tc .vmem S256x256 .bf16) (h6 : M6.IsWhole)
    (M7 : Memref sig .tc .vmem S256x256 .bf16) (h7 : M7.IsWhole)
    (M8 : Memref sig .tc .vmem S256x128 .bf16) (h8 : M8.IsWhole)
    (M9 : Memref sig .tc .vmem S8448x128 .f32) (h9 : M9.IsWhole)
    (M10 : Memref sig .tc .vmem S8448x128 .f32) (h10 : M10.IsWhole)
    (P : PointIn F) (n : BitVec 32) (hn : k0_chk1 i n)
    (X2 : M2.view.ty.Contents (Elt F)) (X3 : M3.view.ty.Contents (Elt F)) (t : Fin (k0_t1_loop n).trips) (acc : Carry F)
    (f9 : M9.view.ty.Contents (Elt F)) (f10 : M10.view.ty.Contents (Elt F))
    (hk : M2.view.read (Elt F) X2 = P.k) (hv : M3.view.read (Elt F) X3 = P.v)

include hk hv

/-- One trip's yield is the span's step of what is carried. -/
theorem tripR_eq :
    tripR_k0_t1 (F := F) 𝒱₀ c none i M0 h0 M1 h1 M2 h2 M3 h3 M4 h4 M5 h5 M6 h6 M7 h7 M8 h8 M9 h9 M10 h10
        P.q0 P.q1 P.d0 P.d1 P.c0 P.c1 P.tril P.triu (k0_pay120 i) (tileEnd i) n hn X2 X3 t acc f9 f10
      = carryStep (headA P i n hn t) (headB P i n hn t) acc := by
  obtain ⟨q0, q1, d0, d1, c0, c1, tril, triu, k, v⟩ := P
  dsimp only at hk hv
  subst hk hv
  unfold tripR_k0_t1 trip_k0_t1
  rfl

/-- One trip's store into the keys' gradient is the span's step of it. -/
theorem tripL9_eq :
    (trip_k0_t1 (F := F) 𝒱₀ c none i M0 h0 M1 h1 M2 h2 M3 h3 M4 h4 M5 h5 M6 h6 M7 h7 M8 h8 M9 h9 M10 h10
        P.q0 P.q1 P.d0 P.d1 P.c0 P.c1 P.tril P.triu (k0_pay120 i) (tileEnd i) n hn X2 X3 t).2.1 acc f9 f10
      = [⟨Rect.unit (k0_off2 i n t) S512x128.size (k0_off2_inb i n hn t),
            dkStep (headA P i n hn t) (headB P i n hn t) acc (spanRows i n hn t (M9.view.read (Elt F) f9))⟩] := by
  obtain ⟨q0, q1, d0, d1, c0, c1, tril, triu, k, v⟩ := P
  dsimp only at hk hv
  subst hk hv
  unfold trip_k0_t1
  rfl

/-- One trip's store into the values' gradient is the span's step of it. -/
theorem tripL10_eq :
    (trip_k0_t1 (F := F) 𝒱₀ c none i M0 h0 M1 h1 M2 h2 M3 h3 M4 h4 M5 h5 M6 h6 M7 h7 M8 h8 M9 h9 M10 h10
        P.q0 P.q1 P.d0 P.d1 P.c0 P.c1 P.tril P.triu (k0_pay120 i) (tileEnd i) n hn X2 X3 t).2.2.1 acc f9 f10
      = [⟨Rect.unit (k0_off2 i n t) S512x128.size (k0_off2_inb i n hn t),
            dvStep (headA P i n hn t) (headB P i n hn t) acc (spanRows i n hn t (M10.view.read (Elt F) f10))⟩] := by
  obtain ⟨q0, q1, d0, d1, c0, c1, tril, triu, k, v⟩ := P
  dsimp only at hk hv
  subst hk hv
  unfold trip_k0_t1
  rfl

omit hk hv in
/-- Before any trip, what the loop carries and what the two accumulated results read. -/
theorem loop_eq (hk : M2.view.read (Elt F) X2 = P.k) (hv : M3.view.read (Elt F) X3 = P.v) (k : ℕ)
    (hle : k ≤ (k0_t1_loop n).trips) :
    (st_k0_t1 (F := F) 𝒱₀ c none i M0 h0 M1 h1 M2 h2 M3 h3 M4 h4 M5 h5 M6 h6 M7 h7 M8 h8 M9 h9 M10 h10
        P.q0 P.q1 P.d0 P.d1 P.c0 P.c1 P.tril P.triu (k0_pay120 i) (tileEnd i) n hn X2 X3 f9 f10
        (k0_pay1, k0_pay2, k0_pay2, k0_pay1, k0_pay2, k0_pay2) k).1
      = (stateAt P i n hn (M9.view.read (Elt F) f9) (M10.view.read (Elt F) f10) k).carry
    ∧ M9.view.read (Elt F) (M9.view.writes (Elt F) f9
        (st_k0_t1 (F := F) 𝒱₀ c none i M0 h0 M1 h1 M2 h2 M3 h3 M4 h4 M5 h5 M6 h6 M7 h7 M8 h8 M9 h9 M10 h10
        P.q0 P.q1 P.d0 P.d1 P.c0 P.c1 P.tril P.triu (k0_pay120 i) (tileEnd i) n hn X2 X3 f9 f10
        (k0_pay1, k0_pay2, k0_pay2, k0_pay1, k0_pay2, k0_pay2) k).2.1)
      = (stateAt P i n hn (M9.view.read (Elt F) f9) (M10.view.read (Elt F) f10) k).dk
    ∧ M10.view.read (Elt F) (M10.view.writes (Elt F) f10
        (st_k0_t1 (F := F) 𝒱₀ c none i M0 h0 M1 h1 M2 h2 M3 h3 M4 h4 M5 h5 M6 h6 M7 h7 M8 h8 M9 h9 M10 h10
        P.q0 P.q1 P.d0 P.d1 P.c0 P.c1 P.tril P.triu (k0_pay120 i) (tileEnd i) n hn X2 X3 f9 f10
        (k0_pay1, k0_pay2, k0_pay2, k0_pay1, k0_pay2, k0_pay2) k).2.2)
      = (stateAt P i n hn (M9.view.read (Elt F) f9) (M10.view.read (Elt F) f10) k).dv := by
  induction k with
  | zero => exact ⟨rfl, rfl, rfl⟩
  | succ k ih =>
    obtain ⟨e1, e2, e3⟩ := ih (Nat.le_of_succ_le hle)
    have hs := stateAt_succ P i n hn ⟨k, hle⟩ (M9.view.read (Elt F) f9) (M10.view.read (Elt F) f10)
    have hst := st_k0_t1_succ (F := F) 𝒱₀ c none i M0 h0 M1 h1 M2 h2 M3 h3 M4 h4 M5 h5 M6 h6 M7 h7 M8 h8 M9 h9 M10 h10
        P.q0 P.q1 P.d0 P.d1 P.c0 P.c1 P.tril P.triu (k0_pay120 i) (tileEnd i) n hn X2 X3 f9 f10
        (k0_pay1, k0_pay2, k0_pay2, k0_pay1, k0_pay2, k0_pay2) ⟨k, hle⟩
    dsimp only at hs hst
    rw [hs, hst]
    rw [tripR_eq (P := P) (hk := hk) (hv := hv), tripL9_eq (P := P) (hk := hk) (hv := hv), tripL10_eq (P := P) (hk := hk) (hv := hv)]
    refine ⟨by rw [e1]; rfl, ?_, ?_⟩
    · rw [List.singleton_append, View.read_writes_cons_put _ _ _ _ _ rfl, e1, e2]
      rfl
    · rw [List.singleton_append, List.singleton_append, View.read_writes_cons_put _ _ _ _ _ rfl, e1, e3]
      rfl

omit hk hv in
/-- What the body leaves, of what the loop leaves. -/
theorem loops_eq (hk : M2.view.read (Elt F) X2 = P.k) (hv : M3.view.read (Elt F) X3 = P.v)
    (e9 e10 : Vec F S8448x128 .f32) (he9 : M9.view.read (Elt F) f9 = e9)
    (he10 : M10.view.read (Elt F) f10 = e10) :
    k0_pay15 k0_pay108
        (st_k0_t1 (F := F) 𝒱₀ c none i M0 h0 M1 h1 M2 h2 M3 h3 M4 h4 M5 h5 M6 h6 M7 h7 M8 h8 M9 h9 M10 h10
        P.q0 P.q1 P.d0 P.d1 P.c0 P.c1 P.tril P.triu (k0_pay120 i) (tileEnd i) n hn X2 X3 f9 f10
        (k0_pay1, k0_pay2, k0_pay2, k0_pay1, k0_pay2, k0_pay2) (k0_t1_loop n).trips).1.1
        (st_k0_t1 (F := F) 𝒱₀ c none i M0 h0 M1 h1 M2 h2 M3 h3 M4 h4 M5 h5 M6 h6 M7 h7 M8 h8 M9 h9 M10 h10
        P.q0 P.q1 P.d0 P.d1 P.c0 P.c1 P.tril P.triu (k0_pay120 i) (tileEnd i) n hn X2 X3 f9 f10
        (k0_pay1, k0_pay2, k0_pay2, k0_pay1, k0_pay2, k0_pay2) (k0_t1_loop n).trips).1.2.2.2.1
      = dqOut (stateAt P i n hn e9 e10 (k0_t1_loop n).trips).carry
    ∧ M9.view.read (Elt F) (M9.view.writes (Elt F) f9 (st_k0_t1 (F := F) 𝒱₀ c none i M0 h0 M1 h1 M2 h2 M3 h3 M4 h4 M5 h5 M6 h6 M7 h7 M8 h8 M9 h9 M10 h10
        P.q0 P.q1 P.d0 P.d1 P.c0 P.c1 P.tril P.triu (k0_pay120 i) (tileEnd i) n hn X2 X3 f9 f10
        (k0_pay1, k0_pay2, k0_pay2, k0_pay1, k0_pay2, k0_pay2) (k0_t1_loop n).trips).2.1)
      = (stateAt P i n hn e9 e10 (k0_t1_loop n).trips).dk
    ∧ M10.view.read (Elt F) (M10.view.writes (Elt F) f10 (st_k0_t1 (F := F) 𝒱₀ c none i M0 h0 M1 h1 M2 h2 M3 h3 M4 h4 M5 h5 M6 h6 M7 h7 M8 h8 M9 h9 M10 h10
        P.q0 P.q1 P.d0 P.d1 P.c0 P.c1 P.tril P.triu (k0_pay120 i) (tileEnd i) n hn X2 X3 f9 f10
        (k0_pay1, k0_pay2, k0_pay2, k0_pay1, k0_pay2, k0_pay2) (k0_t1_loop n).trips).2.2)
      = (stateAt P i n hn e9 e10 (k0_t1_loop n).trips).dv := by
  subst he9 he10
  obtain ⟨e1, e2, e3⟩ := loop_eq (h0 := h0) (h1 := h1) (h2 := h2) (h3 := h3) (h4 := h4) (h5 := h5) (h6 := h6) (h7 := h7)
    (h8 := h8) (h9 := h9) (h10 := h10) (c := c) (i := i) (P := P) (n := n) (hn := hn) (f9 := f9) (f10 := f10)
    (M0 := M0) (M1 := M1) (M2 := M2) (M3 := M3) (M4 := M4) (M5 := M5) (M6 := M6) (M7 := M7) (M8 := M8) (M9 := M9) (M10 := M10)
    (hk := hk) (hv := hv) (hle := le_rfl)
  refine ⟨?_, ?_, ?_⟩
  · rw [dqOut, ← e1]
  · exact e2
  · exact e3

end Trip

section Body

variable (c : Dev nD) (i : grid0.Coords)
    (M0 : Memref sig .tc .smem S4x33 .i32) (h0 : M0.IsWhole)
    (M1 : Memref sig .tc .vmem S256x128 .f32) (h1 : M1.IsWhole)
    (M2 : Memref sig .tc .vmem S8448x128 .f32) (h2 : M2.IsWhole)
    (M3 : Memref sig .tc .vmem S8448x128 .f32) (h3 : M3.IsWhole)
    (M4 : Memref sig .tc .vmem S256x128 .f32) (h4 : M4.IsWhole)
    (M5 : Memref sig .tc .vmem S256x128 .f32) (h5 : M5.IsWhole)
    (M6 : Memref sig .tc .vmem S256x256 .bf16) (h6 : M6.IsWhole)
    (M7 : Memref sig .tc .vmem S256x256 .bf16) (h7 : M7.IsWhole)
    (M8 : Memref sig .tc .vmem S256x128 .bf16) (h8 : M8.IsWhole)
    (M9 : Memref sig .tc .vmem S8448x128 .f32) (h9 : M9.IsWhole)
    (M10 : Memref sig .tc .vmem S8448x128 .f32) (h10 : M10.IsWhole)
    (x0 : Vec F S4x33 .i32) (x1 : Vec F S256x128 .f32) (x2 x3 : Vec F S8448x128 .f32) (x4 x5 : Vec F S256x128 .f32)
    (x6 x7 : Vec F S256x256 .bf16) (x9 x10 : Vec F S8448x128 .f32)

/-- What an accumulated result holds on entry to the loop: zeros at the first query tile of a pair of heads. -/
def entry (i : grid0.Coords) (x z : Vec F S8448x128 .f32) : Vec F S8448x128 .f32 := if (i 1).val = 0 then z else x

/-- The state a grid point ends with, from what the two accumulated results hold at its start. -/
def pointState (i : grid0.Coords) (n : BitVec 32) (hn : k0_chk1 i n) (P : PointIn F) (x9 x10 : Vec F S8448x128 .f32) : State F :=
  stateAt P i n hn (entry i x9 k0_pay106) (entry i x10 k0_pay107) (k0_t1_loop n).trips

/-- Whether the body takes the point as the first of its pair of heads. -/
theorem first_iff (i : grid0.Coords) :
    Scalar.cmpi CmpIPredicate.ne (Scalar.extui (Scalar.cmpi CmpIPredicate.eq (BitVec.ofNat 32 (i 1).val) 0#32) : BitVec 32) 0#32 = 1#1
      ↔ (i 1).val = 0 := by
  generalize i 1 = j
  revert j
  decide +kernel

/-- What an accumulated result reads on entry to the loop. -/
theorem entry_read (i : grid0.Coords) (M : Memref sig .tc .vmem S8448x128 .f32) (h : M.IsWhole) (x z : Vec F S8448x128 .f32) :
    M.view.read (Elt F) (if hc : Scalar.cmpi CmpIPredicate.ne (Scalar.extui (Scalar.cmpi CmpIPredicate.eq (BitVec.ofNat 32 (i 1).val) 0#32) : BitVec 32) 0#32 = 1#1
        then M.view.writes (Elt F) (h.unread x) [⟨Rect.unit ![0, 0] S8448x128.size inb_S8448x128_S8448x128_0_0, z⟩]
        else h.unread x) = entry i x z := by
  unfold entry
  by_cases hc : (i 1).val = 0
  · rw [dif_pos ((first_iff i).mpr hc), if_pos hc]
    exact View.read_writes_full _ _ _ _ _
  · rw [dif_neg (fun h => hc ((first_iff i).mp h)), if_neg hc]
    exact h.read_unread _

/-- The body's three results are the point's. -/
theorem bodyRun_eq (hchk : k0_chk1 i (word i M0 h0 x0)) (n : BitVec 32) (hw : word i M0 h0 x0 = n) (hn : k0_chk1 i n)
    (ht : (k0_t2_loop n).trips = 0) :
    (bodyRun c i M0 h0 M1 h1 M2 h2 M3 h3 M4 h4 M5 h5 M6 h6 M7 h7 M8 h8 M9 h9 M10 h10
        x0 x1 x2 x3 x4 x5 x6 x7 x9 x10 hchk).1 = dqOut (pointState i n hn (pointIn x1 x2 x3 x4 x5 x6 x7) x9 x10).carry
    ∧ (bodyRun c i M0 h0 M1 h1 M2 h2 M3 h3 M4 h4 M5 h5 M6 h6 M7 h7 M8 h8 M9 h9 M10 h10
        x0 x1 x2 x3 x4 x5 x6 x7 x9 x10 hchk).2.1 = (pointState i n hn (pointIn x1 x2 x3 x4 x5 x6 x7) x9 x10).dk
    ∧ (bodyRun c i M0 h0 M1 h1 M2 h2 M3 h3 M4 h4 M5 h5 M6 h6 M7 h7 M8 h8 M9 h9 M10 h10
        x0 x1 x2 x3 x4 x5 x6 x7 x9 x10 hchk).2.2.1 = (pointState i n hn (pointIn x1 x2 x3 x4 x5 x6 x7) x9 x10).dv := by
  unfold word k0_off1 at hw
  dsimp only at hw
  unfold bodyRun
  sl_unfold_words
  dsimp only
  have r1 : M1.view.readAt (Elt F) (Rect.unit ![0, 0] ![256, 128] inb_S256x128_S256x128_0_0).toLoadRect (h1.unread x1) = x1 :=
    (View.readAt_full _ _ _).trans (h1.read_unread _)
  have r4 : M4.view.readAt (Elt F) (Rect.unit ![0, 0] ![256, 128] inb_S256x128_S256x128_0_0).toLoadRect (h4.unread x4) = x4 :=
    (View.readAt_full _ _ _).trans (h4.read_unread _)
  have r5 : M5.view.readAt (Elt F) (Rect.unit ![0, 0] ![256, 128] inb_S256x128_S256x128_0_0).toLoadRect (h5.unread x5) = x5 :=
    (View.readAt_full _ _ _).trans (h5.read_unread _)
  have r6 : M6.view.readAt (Elt F) (Rect.unit ![0, 0] ![256, 256] inb_S256x256_S256x256_0_0).toLoadRect (h6.unread x6) = x6 :=
    (View.readAt_full _ _ _).trans (h6.read_unread _)
  have r7 : M7.view.readAt (Elt F) (Rect.unit ![0, 0] ![256, 256] inb_S256x256_S256x256_0_0).toLoadRect (h7.unread x7) = x7 :=
    (View.readAt_full _ _ _).trans (h7.read_unread _)
  rw [r1, r4, r5, r6, r7]
  simp only [hw]
  have ht' : Scf.trips (Scalar.addi (0#32) (Scalar.muli (Scalar.divsi (Scalar.subi n 0#32) 1#32) 1#32))
      (Scalar.addi (0#32) (Scalar.subi n 0#32)) 1#32 = 0 := ht
  rw [ht']
  simp only [st_k0_t2.eq_1, List.nil_append]
  refine loops_eq (h0 := h0) (h1 := h1) (h2 := h2) (h3 := h3) (h4 := h4) (h5 := h5) (h6 := h6) (h7 := h7)
    (h8 := h8) (h9 := h9) (h10 := h10) (c := c) (i := i) (P := pointIn x1 x2 x3 x4 x5 x6 x7) (n := n)
    (hn := hn) (X2 := h2.unread x2) (X3 := h3.unread x3)
    (M0 := M0) (M1 := M1) (M2 := M2) (M3 := M3) (M4 := M4) (M5 := M5) (M6 := M6) (M7 := M7) (M8 := M8) (M9 := M9) (M10 := M10)
    (hk := h2.read_unread _) (hv := h3.read_unread _) (he9 := ?_) (he10 := ?_)
  · exact entry_read i M9 h9 x9 _
  · exact entry_read i M10 h10 x10 _

end Body

end Cert.Proof.SB

end
-- ==== Proof.Words.lean ====
/- The numbers of spans the host code passes to the call, and that at every grid point the number read meets the
   conditions the body checks. -/
module

public import proofs.«01_k».proof.Proof.Trip
public import Idealize.ShloMosaic.Lib.StableHlo.RunRead
public import Idealize.ShloMosaic.Lib.Claim

@[expose] public section

set_option maxRecDepth 16384
set_option maxHeartbeats 4000000

noncomputable section

namespace Cert.Proof.SB

open Cert.KernelIdeal Cert.KernelIdeal.Gen
open Idealize.ShloMosaic Idealize.ShloMosaic.StableHlo
open Idealize.ShloMosaic.TcCoe Idealize.ShloMosaic.Tactic
open Idealize.SL.Sem

variable {F : FTy → Type} [FloatOps F]
variable (m : (ℓ : Loc nD τ sig) → Buf (Elt F) ℓ) (c : Dev nD)

/-- The number of spans of a grid point's query tile: half the number of tiles up to it, rounded up. -/
abbrev spans (i : grid0.Coords) : BitVec 32 := BitVec.ofNat 32 (((i 1).val + 2) / 2)

/-- The conditions the body checks hold at every grid point. -/
theorem chk_all : ∀ t : Fin grid0.N, k0_chk1 (grid0.coords t) (spans (grid0.coords t)) := by
  decide +kernel

/-- The loop of leftover spans has no trip at any grid point. -/
theorem rest_all : ∀ t : Fin grid0.N, (k0_t2_loop (spans (grid0.coords t))).trips = 0 := by
  decide +kernel

/-- Rows up to the end of each query tile, plus a span less one. -/
def nrunRows : IVec S4x33 32 :=
  subi (addi (muli (addi (iotaInDim S4x33 32 1) (broadcastInDim S4x33 ![] bcast_S_S4x33 (constantI S_ 32 1#32)))
      (broadcastInDim S4x33 ![] bcast_S_S4x33 (constantI S_ 32 256#32)))
    (broadcastInDim S4x33 ![] bcast_S_S4x33 (constantI S_ 32 512#32)))
    (broadcastInDim S4x33 ![] bcast_S_S4x33 (constantI S_ 32 1#32))

/-- The array of span counts the host code passes to the call. -/
def nrunVec : IVec S4x33 32 :=
  select (andi (cmpi .ne (signi nrunRows) (broadcastInDim S4x33 ![] bcast_S_S4x33 (signi (constantI S_ 32 512#32))))
      (cmpi .ne (Host.remsi nrunRows (broadcastInDim S4x33 ![] bcast_S_S4x33 (constantI S_ 32 512#32)))
        (broadcastInDim S4x33 ![] bcast_S_S4x33 (constantI S_ 32 0#32))))
    (subi (Host.divsi nrunRows (broadcastInDim S4x33 ![] bcast_S_S4x33 (constantI S_ 32 512#32)))
      (broadcastInDim S4x33 ![] bcast_S_S4x33 (constantI S_ 32 1#32)))
    (Host.divsi nrunRows (broadcastInDim S4x33 ![] bcast_S_S4x33 (constantI S_ 32 512#32)))

/-- The call's first operand is that array. -/
theorem V_nrun : V m c main_v28 = nrunVec := by
  simp only [V]
  after_reads_simp
  rfl

/-- The array's entry for a grid point is the point's number of spans. -/
theorem nrunVec_at : ∀ t : Fin grid0.N,
    nrunVec (Rect.emb (Rect.unit (s := S4x33) (k0_off1 (grid0.coords t)) S1x1.size (k0_off1_inb _))
      (Shape.Idx.first (numel1_S1x1 ▸ Nat.one_pos))) = spans (grid0.coords t) := by
  decide +kernel

/-- The first operand's block is the whole array. -/
theorem iblk_nrun (t : Fin cfg0.N) : iblk m c 0 t = nrunVec := by
  have h : iblk m c 0 t = V m c main_v28 := by
    funext y
    exact congrArg (V m c main_v28) (funext fun a => Fin.ext
      ((cfg0.win 0).rect_emb_val_of_index_zero t a (by fin_cases a <;> rfl) y))
  rw [h, V_nrun]

/-- The word the body reads at a grid point is the point's number of spans. -/
theorem word_eq (t : Fin cfg0.N) (M0 : Memref sig .tc .smem S4x33 .i32) (h0 : M0.IsWhole) :
    word (F := F) (grid0.coords t) M0 h0 (iblk m c 0 t) = spans (grid0.coords t) := by
  rw [iblk_nrun]
  unfold word
  rw [View.readAt_unit _ _ _ rfl (k0_off1_inb _), h0.read_unread]
  exact nrunVec_at t

end Cert.Proof.SB

end
-- ==== Proof.Operands.lean ====
/- The call's operands as the host code builds them from the arguments. -/
module

public import proofs.«01_k».proof.Proof.Words

@[expose] public section

set_option maxRecDepth 16384
set_option maxHeartbeats 4000000

noncomputable section

namespace Cert.Proof.SB

open Cert.KernelIdeal Cert.KernelIdeal.Gen
open Idealize.ShloMosaic Idealize.ShloMosaic.StableHlo
open Idealize.ShloMosaic.TcCoe Idealize.ShloMosaic.Tactic
open Idealize.SL.Sem

variable {F : FTy → Type} [FloatOps F]

/-- An argument with zero rows in front and behind. -/
def padRows (x : FVec F S8208x512 .f32) : FVec F S8448x512 .f32 :=
  pad S8448x512 ![112, 0] ![128, 0] ![0, 0] x (sitofp .f32 (constantI S_ 32 0#32))
    pads_S8208x512_S8448x512_1121280_000 h_S_

/-- Zero columns beside the arguments. -/
def zeroCols (n : Shape) (h : S_.BroadcastsInDim n ![]) : FVec F n .f32 :=
  broadcastInDim n ![] h (constant S_ .f32 0x00000000#32)

/-- The queries, keys and values side by side. -/
def projVec (q k v : FVec F S8208x512 .f32) : FVec F S8448x3840 .f32 :=
  concatenate S8448x3840 1 [⟨S8448x2048, zeroCols S8448x2048 bcast_S_S8448x2048⟩, ⟨S8448x512, padRows q⟩,
    ⟨S8448x512, padRows k⟩, ⟨S8448x512, padRows v⟩, ⟨S8448x256, zeroCols S8448x256 bcast_S_S8448x256⟩]
    concatenates_S8448x2048_S8448x512_S8448x512_S8448x512_S8448x256_S8448x3840_d1

/-- An argument head by head. -/
def headsOf (x : FVec F S8208x512 .f32) : FVec F S8x8208x64 .f32 :=
  transpose S8x8208x64 [1, 0, 2] (shapeCast S8208x8x64 x shapeCasts_S8208x512_S8208x8x64)
    transposes_S8208x8x64_S8x8208x64_1_0_2

/-- Every head's scores. -/
def allScores (q k : FVec F S8208x512 .f32) : FVec F S8x8208x8208 .f32 :=
  mulf (Host.dotGeneral dot_S8x8208x64_S8x8208x64_S8x8208x8208_2_2_1_1_0_0 none (headsOf q) (headsOf k))
    (broadcastInDim S8x8208x8208 ![] bcast_S_S8x8208x8208 (constant S_ .f32 0x3E000000#32))

/-- Zeros of the scores' shape. -/
def zeroScores : FVec F S8x8208x8208 .f32 :=
  broadcastInDim S8x8208x8208 ![] bcast_S_S8x8208x8208 (constant S_ .f32 0x00000000#32)

/-- The logarithm of the sigmoid of minus an array. -/
def logSigNeg (x : FVec F S8x8208x8208 .f32) : FVec F S8x8208x8208 .f32 :=
  Host.negf (select (cmpf .une (subf (Host.negf (Host.negf x)) zeroScores) (subf (Host.negf (Host.negf x)) zeroScores))
    (addf (Host.negf (Host.negf x)) zeroScores)
    (addf (maximumf (Host.negf (Host.negf x)) zeroScores)
      (Host.log1p (Host.exp (Host.negf (Host.absf (subf (Host.negf (Host.negf x)) zeroScores)))))))

/-- The keys before each query. -/
def maskVec : IVec S8x8208x8208 1 :=
  broadcastInDim S8x8208x8208 ![0, 1, 2] bcast_S1x8208x8208_S8x8208x8208_0_1_2
    (broadcastInDim S1x8208x8208 ![1, 2] bcast_S8208x8208_S1x8208x8208_1_2
      (cmpi .slt (iotaInDim S8208x8208 32 1) (iotaInDim S8208x8208 32 0)))

/-- The logarithm of what each query's stick has left at the end, by head. -/
def totals (q k : FVec F S8208x512 .f32) : FVec F S8x8208 .f32 :=
  Host.reduceAdd (select maskVec (logSigNeg (allScores q k)) zeroScores) (constant S_ .f32 0x00000000#32)
    reducesTo_S8x8208x8208_S8x8208_d2 h_S_

/-- The same over every lane of each head. -/
def totalsVec (q k : FVec F S8208x512 .f32) : FVec F S8448x512 .f32 :=
  padRows (shapeCast S8208x512 (broadcastInDim S8208x8x64 ![0, 1] bcast_S8208x8_S8208x8x64_0_1
    (transpose S8208x8 [1, 0] (totals q k) transposes_S8x8208_S8208x8_1_0)) shapeCasts_S8208x8x64_S8208x512)

/-- The triangle of ones below the diagonal. -/
def trilVec : FVec F S256x256 .bf16 :=
  select (cmpi .sge (addi (iotaInDim S256x256 32 0) (broadcastInDim S256x256 ![] bcast_S_S256x256 (constantI S_ 32 4294967295#32)))
      (iotaInDim S256x256 32 1))
    (broadcastInDim S256x256 ![] bcast_S_S256x256 (constant S_ .bf16 0x3F80#16))
    (broadcastInDim S256x256 ![] bcast_S_S256x256 (constant S_ .bf16 0x0000#16))

/-- The triangle of ones above the diagonal. -/
def triuVec : FVec F S256x256 .bf16 :=
  select (cmpi .sge (addi (iotaInDim S256x256 32 0) (broadcastInDim S256x256 ![] bcast_S_S256x256 (constantI S_ 32 0#32)))
      (iotaInDim S256x256 32 1))
    (broadcastInDim S256x256 ![] bcast_S_S256x256 (constant S_ .bf16 0x0000#16))
    (broadcastInDim S256x256 ![] bcast_S_S256x256 (constant S_ .bf16 0x3F80#16))

variable (m : (ℓ : Loc nD τ sig) → Buf (Elt F) ℓ) (c : Dev nD)

theorem V_tril : V m c main_v37 = trilVec := by
  simp only [V]
  after_reads_simp
  simp only [TRef.ofBuf_toBuf]
  unfold trilVec
  generalize cmpi CmpIPredicate.sge (addi (iotaInDim S256x256 32 0)
    (broadcastInDim S256x256 ![] bcast_S_S256x256 (constantI S_ 32 4294967295#32))) (iotaInDim S256x256 32 1) = w
  rfl

theorem V_triu : V m c main_v39 = triuVec := by
  simp only [V]
  after_reads_simp
  simp only [TRef.ofBuf_toBuf]
  rfl

theorem V_grad : V m c main_v35 = padRows (m ((c : Thread nD τ).loc main_arg3)) := by
  simp only [V]
  after_reads_simp
  simp only [TRef.ofBuf_toBuf]
  rfl

theorem V_totals : V m c main_v18 = totalsVec (m ((c : Thread nD τ).loc main_arg0)) (m ((c : Thread nD τ).loc main_arg1)) := by
  simp only [V]
  after_reads_simp
  simp only [TRef.ofBuf_toBuf]
  rfl

/-- What is computed before the arguments are set side by side. -/
abbrev before34 : Valuation τ sig (Elt F) :=
  upto [hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16, hostOps0_17,
    hostOps0_18, hostOps0_19].flatten (fun b => m (c, b)) 86

theorem before_v29 : before34 m c (Proc.tc.devRef main_v29) = zeroCols S8448x2048 bcast_S_S8448x2048 := by
  simp only [before34]
  after_reads_simp
  rfl

theorem before_v30 : before34 m c (Proc.tc.devRef main_v30) = padRows (m ((c : Thread nD τ).loc main_arg0)) := by
  simp only [before34]
  after_reads_simp
  simp only [TRef.ofBuf_toBuf]
  rfl

theorem before_v31 : before34 m c (Proc.tc.devRef main_v31) = padRows (m ((c : Thread nD τ).loc main_arg1)) := by
  simp only [before34]
  after_reads_simp
  simp only [TRef.ofBuf_toBuf]
  rfl

theorem before_v32 : before34 m c (Proc.tc.devRef main_v32) = padRows (m ((c : Thread nD τ).loc main_arg2)) := by
  simp only [before34]
  after_reads_simp
  simp only [TRef.ofBuf_toBuf]
  rfl

theorem before_v33 : before34 m c (Proc.tc.devRef main_v33) = zeroCols S8448x256 bcast_S_S8448x256 := by
  simp only [before34]
  after_reads_simp
  rfl

theorem V_proj : V m c main_v34 = projVec (m ((c : Thread nD τ).loc main_arg0)) (m ((c : Thread nD τ).loc main_arg1))
    (m ((c : Thread nD τ).loc main_arg2)) := by
  simp only [V]
  after_reads_simp
  change concatenate S8448x3840 1 [⟨S8448x2048, before34 m c (Proc.tc.devRef main_v29)⟩,
    ⟨S8448x512, before34 m c (Proc.tc.devRef main_v30)⟩, ⟨S8448x512, before34 m c (Proc.tc.devRef main_v31)⟩,
    ⟨S8448x512, before34 m c (Proc.tc.devRef main_v32)⟩, ⟨S8448x256, before34 m c (Proc.tc.devRef main_v33)⟩] _ = _
  rw [before_v29, before_v30, before_v31, before_v32, before_v33]
  rfl

end Cert.Proof.SB

end
-- ==== Proof.Point.lean ====
/- The call point by point: what each grid point leaves in the blocks of the three results, and the run of the whole
   program. -/
module

public import proofs.«01_k».proof.Proof.Words

@[expose] public section

set_option maxRecDepth 16384
set_option maxHeartbeats 4000000

noncomputable section

namespace Cert.Proof.SB

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
variable (m : (ℓ : Loc nD τ sig) → Buf (Elt F) ℓ) (ρ : Dev nD → PrngReg)

/-- What a grid point works from: its operands' blocks. -/
def pointOf (c : Dev nD) (t : Fin cfg0.N) : PointIn F :=
  pointIn (iblk m c 1 t) (iblk m c 2 t) (iblk m c 3 t) (iblk m c 4 t) (iblk m c 5 t) (iblk m c 6 t) (iblk m c 7 t)

/-- The state after a grid point, from what the two accumulated results hold at its start. -/
def stepAt (c : Dev nD) (t : Fin cfg0.N) (x9 x10 : Vec F S8448x128 .f32) : State F :=
  pointState (grid0.coords t) (spans (grid0.coords t)) (chk_all t) (pointOf m c t) x9 x10

/-- The state after the grid points up to and including a given one. -/
def stateOf (c : Dev nD) : (k : ℕ) → k < cfg0.N → State F
  | 0, h => stepAt m c ⟨0, h⟩ k0_pay106 k0_pay107
  | k + 1, h => stepAt m c ⟨k + 1, h⟩ (stateOf c k (Nat.lt_of_succ_lt h)).dk (stateOf c k (Nat.lt_of_succ_lt h)).dv

/-- At the first query tile of a pair of heads, what the accumulated results held does not matter. -/
theorem stepAt_first (c : Dev nD) (t : Fin cfg0.N) (h : (grid0.coords t 1).val = 0) (x9 x10 y9 y10 : Vec F S8448x128 .f32) :
    stepAt m c t x9 x10 = stepAt m c t y9 y10 := by
  unfold stepAt pointState entry
  simp only [h, if_true]

/-- The second coordinate of a grid point is its place among its pair's query tiles. -/
theorem coords1 : ∀ t : Fin cfg0.N, (grid0.coords t 1).val = t.val % 33 := by
  decide +kernel

/-- What the pipeline's windows hold after each point, and what nothing else touches. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqOut (stateOf m c t.val t.isLt).carry
    | ⟨9, _⟩ => (stateOf m c t.val t.isLt).dk
    | ⟨10, _⟩ => (stateOf m c t.val t.isLt).dv
  Φ _ := Pipeline.ΦA spec0 c
  q := Pipeline.shareOf spec0
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dqOut (stateOf m c t.val t.isLt).carry := by dsimp only [dats]
theorem after0_9 (c : Dev nD) (t : Fin cfg0.N) : (dats m 0 c).after 9 t = (stateOf m c t.val t.isLt).dk := by dsimp only [dats]
theorem after0_10 (c : Dev nD) (t : Fin cfg0.N) : (dats m 0 c).after 10 t = (stateOf m c t.val t.isLt).dv := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The keys' gradient a point starts from, past the first query tile of a pair of heads. -/
theorem before0_9 (c : Dev nD) (t : Fin cfg0.N) (h : t.val % 33 ≠ 0) (h' : t.val - 1 < cfg0.N) (d) :
    (dats m 0 c).before 9 t d = (stateOf m c (t.val - 1) h').dk := by
  rw [(dats m 0 c).before_out_kept 9 rfl t (by omega)
    (Bool.eq_false_iff.mpr fun hf => by have := (flush0_9 _).mp hf; dsimp only at this; omega) (fun _ => rfl) (fun _ _ => rfl) d]
  dsimp only [dats]

/-- The values' gradient a point starts from, past the first query tile of a pair of heads. -/
theorem before0_10 (c : Dev nD) (t : Fin cfg0.N) (h : t.val % 33 ≠ 0) (h' : t.val - 1 < cfg0.N) (d) :
    (dats m 0 c).before 10 t d = (stateOf m c (t.val - 1) h').dv := by
  rw [(dats m 0 c).before_out_kept 10 rfl t (by omega)
    (Bool.eq_false_iff.mpr fun hf => by have := (flush0_10 _).mp hf; dsimp only at this; omega) (fun _ => rfl) (fun _ _ => rfl) d]
  dsimp only [dats]

/-- A point's step from what the accumulated results' staging buffers hold is the state after the point. -/
theorem stepAt_before (c : Dev nD) (t : Fin cfg0.N) (d9 d10) :
    stepAt m c t ((dats m 0 c).before 9 t d9) ((dats m 0 c).before 10 t d10) = stateOf m c t.val t.isLt := by
  by_cases h : t.val % 33 = 0
  · obtain ⟨k, hk⟩ := t
    cases k with
    | zero => exact stepAt_first m c _ ((coords1 _).trans h) _ _ _ _
    | succ k => exact stepAt_first m c _ ((coords1 _).trans h) _ _ _ _
  · obtain ⟨k, hk⟩ := t
    cases k with
    | zero => exact absurd rfl h
    | succ k => rw [before0_9 m c _ h (Nat.lt_of_succ_lt hk), before0_10 m c _ h (Nat.lt_of_succ_lt hk)]; rfl

/-- The resource algebra of the proof. -/
local notation "𝕄" => MT nD τ sig Unit (Elt F) ℕ (UR sig nD τ) ℕ

/-- The body at a grid point, on any whole staging buffers holding the operands' blocks, leaves the point's state. -/
theorem body_point (c : Dev nD) (t : Fin cfg0.N)
    (M0 : Memref sig .tc .smem S4x33 .i32) (h0 : M0.IsWhole)
    (M1 : Memref sig .tc .vmem S256x128 .f32) (h1 : M1.IsWhole)
    (M2 : Memref sig .tc .vmem S8448x128 .f32) (h2 : M2.IsWhole)
    (M3 : Memref sig .tc .vmem S8448x128 .f32) (h3 : M3.IsWhole)
    (M4 : Memref sig .tc .vmem S256x128 .f32) (h4 : M4.IsWhole)
    (M5 : Memref sig .tc .vmem S256x128 .f32) (h5 : M5.IsWhole)
    (M6 : Memref sig .tc .vmem S256x256 .bf16) (h6 : M6.IsWhole)
    (M7 : Memref sig .tc .vmem S256x256 .bf16) (h7 : M7.IsWhole)
    (M8 : Memref sig .tc .vmem S256x128 .bf16) (h8 : M8.IsWhole)
    (M9 : Memref sig .tc .vmem S8448x128 .f32) (h9 : M9.IsWhole)
    (M10 : Memref sig .tc .vmem S8448x128 .f32) (h10 : M10.IsWhole)
    (x9 x10 : Vec F S8448x128 .f32) (S : State F) (hS : stepAt m c t x9 x10 = S) (K : PUnit → sProp 𝕄) :
    iprop(owns (c : Thread nD τ) M0 fullShare (iblk m c 0 t) ∗ owns (c : Thread nD τ) M1 fullShare (iblk m c 1 t) ∗ owns (c : Thread nD τ) M2 fullShare (iblk m c 2 t) ∗ owns (c : Thread nD τ) M3 fullShare (iblk m c 3 t) ∗ owns (c : Thread nD τ) M4 fullShare (iblk m c 4 t) ∗ owns (c : Thread nD τ) M5 fullShare (iblk m c 5 t) ∗ owns (c : Thread nD τ) M6 fullShare (iblk m c 6 t) ∗ owns (c : Thread nD τ) M7 fullShare (iblk m c 7 t)
        ∗ (∃ d, owns (c : Thread nD τ) M8 fullShare d) ∗ owns (c : Thread nD τ) M9 fullShare x9 ∗ owns (c : Thread nD τ) M10 fullShare x10
        ∗ (iprop(owns (c : Thread nD τ) M0 fullShare (iblk m c 0 t) ∗ owns (c : Thread nD τ) M1 fullShare (iblk m c 1 t) ∗ owns (c : Thread nD τ) M2 fullShare (iblk m c 2 t) ∗ owns (c : Thread nD τ) M3 fullShare (iblk m c 3 t) ∗ owns (c : Thread nD τ) M4 fullShare (iblk m c 4 t) ∗ owns (c : Thread nD τ) M5 fullShare (iblk m c 5 t) ∗ owns (c : Thread nD τ) M6 fullShare (iblk m c 6 t) ∗ owns (c : Thread nD τ) M7 fullShare (iblk m c 7 t)
            ∗ owns (c : Thread nD τ) M8 fullShare (dqOut S.carry) ∗ owns (c : Thread nD τ) M9 fullShare S.dk ∗ owns (c : Thread nD τ) M10 fullShare S.dv) -∗ K ⟨⟩))
      ⊢ wp frame (wpE (defs₀ (F := F)) 𝒱₀ c none) Set.univ (cc0_sb_bwd (grid0.coords t) M0 h0 M1 h1 M2 h2 M3 h3 M4 h4 M5 h5 M6 h6 M7 h7 M8 h8 M9 h9 M10 h10) K := by
  have e := bodyRun_eq c (grid0.coords t) M0 h0 M1 h1 M2 h2 M3 h3 M4 h4 M5 h5 M6 h6 M7 h7 M8 h8 M9 h9 M10 h10
    (iblk m c 0 t) (iblk m c 1 t) (iblk m c 2 t) (iblk m c 3 t) (iblk m c 4 t) (iblk m c 5 t) (iblk m c 6 t) (iblk m c 7 t) x9 x10
    (by rw [word_eq]; exact chk_all t) (spans (grid0.coords t)) (word_eq m c t _ _) (chk_all t) (rest_all t)
  generalize bodyRun c (grid0.coords t) M0 h0 M1 h1 M2 h2 M3 h3 M4 h4 M5 h5 M6 h6 M7 h7 M8 h8 M9 h9 M10 h10
    (iblk m c 0 t) (iblk m c 1 t) (iblk m c 2 t) (iblk m c 3 t) (iblk m c 4 t) (iblk m c 5 t) (iblk m c 6 t) (iblk m c 7 t) x9 x10 (by rw [word_eq]; exact chk_all t) = R at e
  obtain ⟨Y8, Y9, Y10, hY⟩ := R
  obtain ⟨e8, e9, e10⟩ := e
  dsimp only at e8 e9 e10
  subst hS e8 e9 e10
  exact hY Set.univ K

/-- The body at a grid point takes the staging buffers from before the point to after it. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hst := stepAt_before m c t d9 d10
  revert hst
  generalize stateOf m c t.val t.isLt = S
  generalize (dats m 0 c).before 9 t d9 = x9
  generalize (dats m 0 c).before 10 t d10 = x10
  intro hst
  iapply (body_point m c t _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10))
    x9 x10 S hst _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option backward.isDefEq.respectTransparency.types false in
/-- From any memory with zero counters every weakly fair execution of the program terminates, with every array of the
    call at what the points leave in it and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := fun _ _ => rfl) (hΦ := fun _ _ => rfl)

end Cert.Proof.SB

end
-- ==== Proof.Rows.lean ====
/- The gradient of stick-breaking attention in real numbers, over padded rows: the scores, the attention weights, and the
   gradients of the queries, keys and values. -/
module

public import proofs.«01_k».proof.Proof.HeadValue

@[expose] public section

noncomputable section

namespace Cert.Proof.SB

open Finset
open Idealize.ShloMosaic

/-- The scale of the scores. -/
def sc : ℝ := 1 / 8

theorem sc_coe : Ideal.ofBits .f32 0x3E000000#32 = ((sc : ℝ) : EReal) := by
  unfold sc
  simp [Ideal.ofBits, Ideal.ieee, -EReal.coe_mul]; norm_num

/-- Whether a query attends to a key: keys of the padding in front are left out, and so are the query and what follows
    it. -/
def on (r c : ℕ) : Bool := decide (112 ≤ c) && decide (c < r)

/-- The queries, keys, values and the gradient of the attention by padded row and column, and the logarithm of what each
    head's stick has left at the end of each row. -/
structure Rows where
  q : ℕ → ℕ → ℝ
  k : ℕ → ℕ → ℝ
  v : ℕ → ℕ → ℝ
  g : ℕ → ℕ → ℝ
  T : ℕ → ℕ → ℝ

namespace Rows

variable (X : Rows) (h r c : ℕ)

/-- A head's scores. -/
def zz : ℝ := ∑ d ∈ range 64, (X.q r (64 * h + d) * sc) * X.k c (64 * h + d)

/-- The gradient of a head's attention weights. -/
def dd : ℝ := ∑ d ∈ range 64, X.g r (64 * h + d) * X.v c (64 * h + d)

/-- The logarithm of the share of the stick a key leaves. -/
def left : ℝ := rowLeft (on r) (X.zz h r) c

/-- The attention weights. -/
def att : ℝ := rowAtt (on r) (X.zz h r) (X.T h r) c

/-- The weights times their gradients. -/
def p : ℝ := rowP (on r) (X.zz h r) (X.dd h r) (X.T h r) c

/-- The gradient of the scores. -/
def dz : ℝ := rowDz (on r) (X.zz h r) (X.dd h r) (X.T h r) 0 c

end Rows

/-- Whether a lane belongs to the first or to the second of a pair of heads. -/
def lane (s : Bool) (l : ℕ) : Bool := if s then decide (64 ≤ l) else decide (l < 64)

/-- The number of a head in a pair. -/
def headNo (s : Bool) : ℕ := if s then 1 else 0

/-- A product over the lanes of one head of a pair. -/
theorem dots_lane (s : Bool) (x y : ℕ → ℕ → ℝ) (a b : ℕ) :
    dots (fun a l => if lane s l then x a l else 0) y a b = ∑ d ∈ range 64, x a (64 * headNo s + d) * y b (64 * headNo s + d) := by
  unfold dots
  rw [sum_range_add _ 64 64]
  cases s
  · rw [sum_eq_zero (s := range 64) (f := fun d => _ * y b (64 + d)), add_zero]
    · refine sum_congr rfl fun d hd => ?_
      have := mem_range.1 hd
      simp [lane, headNo, this]
    · intro d _
      simp [lane]
  · rw [sum_eq_zero (s := range 64) (f := fun d => _ * y b d), zero_add]
    · refine sum_congr rfl fun d hd => ?_
      simp [lane, headNo]
    · intro d hd
      have := mem_range.1 hd
      simp [lane, this]

end Cert.Proof.SB

end
-- ==== Proof.SpanWords.lean ====
/- Where each span of keys begins, and the mask of a span as truth values of positions. -/
module

public import proofs.«01_k».proof.Proof.Rows
public import proofs.«01_k».proof.Proof.Words
public import Idealize.ShloMosaic.Lib.WordCmp

@[expose] public section

set_option maxRecDepth 16384
set_option maxHeartbeats 4000000

noncomputable section

namespace Cert.Proof.SB

open Cert.KernelIdeal Cert.KernelIdeal.Gen
open Idealize.ShloMosaic Idealize.ShloMosaic.TcCoe Idealize.ShloMosaic.WordCmp

/-- The first key of a span: the spans end where the query tile ends, and the first is cut short where an odd number of
    half spans leaves half a span. -/
def spanStart (r t : ℕ) : ℕ := 512 * t - 256 * ((r + 1) % 2)

theorem spanStart_zero (r : ℕ) : spanStart r 0 = 0 := by
  simp [spanStart]

theorem spanStart_le (r t : ℕ) : spanStart r t ≤ spanStart r (t + 1) := by
  unfold spanStart; omega

theorem spanStart_succ_le (r t : ℕ) : spanStart r (t + 1) ≤ spanStart r t + 512 := by
  unfold spanStart; omega

theorem spanStart_last (r : ℕ) : spanStart r ((r + 2) / 2) = 256 * (r + 1) := by
  unfold spanStart; omega

theorem trips_all : ∀ t : Fin grid0.N, (k0_t1_loop (spans (grid0.coords t))).trips = ((grid0.coords t 1).val + 2) / 2 := by
  decide +kernel

/-- The word of a span's end. -/
def endWord (i : grid0.Coords) (n : BitVec 32) (t : ℕ) : BitVec 32 :=
  Scalar.subi (tileEnd i) (Scalar.muli (Scalar.subi (Scalar.subi n 1#32) (Scf.iv 0#32 1#32 t)) 512#32)

/-- The word of a span's first key. -/
def startWord (i : grid0.Coords) (n : BitVec 32) (t : ℕ) : BitVec 32 :=
  Scalar.maxsi (Scalar.subi (endWord i n t) 512#32) 0#32

theorem endWord_all : ∀ t : Fin grid0.N, ∀ u : Fin (k0_t1_loop (spans (grid0.coords t))).trips,
    endWord (grid0.coords t) (spans (grid0.coords t)) u.val
      = BitVec.ofNat 32 (spanStart (grid0.coords t 1).val (u.val + 1)) := by
  decide +kernel

theorem startWord_all : ∀ t : Fin grid0.N, ∀ u : Fin (k0_t1_loop (spans (grid0.coords t))).trips,
    startWord (grid0.coords t) (spans (grid0.coords t)) u.val
      = BitVec.ofNat 32 (spanStart (grid0.coords t 1).val u.val) := by
  decide +kernel

theorem off_all : ∀ t : Fin grid0.N, ∀ u : Fin (k0_t1_loop (spans (grid0.coords t))).trips,
    k0_off2 (grid0.coords t) (spans (grid0.coords t)) u = ![spanStart (grid0.coords t 1).val u.val, 0] := by
  decide +kernel

theorem bound_all : ∀ t : Fin grid0.N, ∀ u : Fin (k0_t1_loop (spans (grid0.coords t))).trips,
    spanStart (grid0.coords t 1).val (u.val + 1) ≤ 8448 ∧ spanStart (grid0.coords t 1).val u.val + 512 ≤ 8448 := by
  decide +kernel

theorem slt_nat {a b : ℕ} (ha : a < 2 ^ 31) (hb : b < 2 ^ 31) :
    IntOp.cmpi .slt (BitVec.ofNat 32 a) (BitVec.ofNat 32 b) = BitVec.ofBool (decide (a < b)) := by
  have h := cmpi_slt_ofNat_eq_one_iff (w := 32) ha hb
  by_cases l : a < b
  · rw [h.2 l]; simp [l]
  · rw [(cmpi_slt_ofNat_eq_zero_iff (w := 32) ha hb).2 (by omega)]; simp [l]

theorem sge_nat {a b : ℕ} (ha : a < 2 ^ 31) (hb : b < 2 ^ 31) :
    IntOp.cmpi .sge (BitVec.ofNat 32 a) (BitVec.ofNat 32 b) = BitVec.ofBool (decide (b ≤ a)) := by
  have h := cmpi_sge_ofNat_eq_one_iff (w := 32) ha hb
  by_cases l : b ≤ a
  · rw [h.2 l]; simp [l]
  · rw [(cmpi_sge_ofNat_eq_zero_iff (w := 32) ha hb).2 (by omega)]; simp [l]

theorem and_bool (a b : Bool) : IntOp.andi (BitVec.ofBool a) (BitVec.ofBool b) = BitVec.ofBool (a && b) := by
  cases a <;> cases b <;> rfl

/-- A span's mask by position. -/
theorem spanMask_is (t : Fin grid0.N) (u : Fin (k0_t1_loop (spans (grid0.coords t))).trips) :
    IsMask (spanMask (F := Ideal) (grid0.coords t) (spans (grid0.coords t)) u) fun a b =>
      on (256 * (grid0.coords t 1).val + a) (spanStart (grid0.coords t 1).val u.val + b)
        && decide (spanStart (grid0.coords t 1).val u.val + b < spanStart (grid0.coords t 1).val (u.val + 1)) := fun a b => by
  have e := endWord_all t u
  have s := startWord_all t u
  have hb := bound_all t u
  have hi : (grid0.coords t 1).val < 33 := (grid0.coords t 1).isLt
  pointwise [spanMask, k0_pay18, k0_pay120]
  change IntOp.andi (IntOp.andi
      (IntOp.cmpi .slt (IntOp.addi (startWord (grid0.coords t) (spans (grid0.coords t)) u.val) (BitVec.ofNat 32 b.val))
        (IntOp.addi (IntOp.muli (BitVec.ofNat 32 (grid0.coords t 1).val) (BitVec.ofNat 32 256)) (BitVec.ofNat 32 a.val)))
      (IntOp.cmpi .sge (IntOp.addi (startWord (grid0.coords t) (spans (grid0.coords t)) u.val) (BitVec.ofNat 32 b.val))
        (BitVec.ofNat 32 112)))
    (IntOp.cmpi .slt (IntOp.addi (startWord (grid0.coords t) (spans (grid0.coords t)) u.val) (BitVec.ofNat 32 b.val))
      (endWord (grid0.coords t) (spans (grid0.coords t)) u.val)) = _
  generalize spanStart (grid0.coords t 1).val u.val = k0 at *
  generalize spanStart (grid0.coords t 1).val (u.val + 1) = k1 at *
  rw [e, s, addi_ofNat, muli_ofNat, addi_ofNat, slt_nat (by omega) (by omega), sge_nat (by omega) (by omega),
    slt_nat (by omega) (by omega), and_bool, and_bool]
  unfold on
  rw [Nat.mul_comm 256, Bool.and_comm (decide (k0 + b.val < _)) (decide (112 ≤ _))]

end Cert.Proof.SB

end
-- ==== Proof.SpanValue.lean ====
/- The loop over spans in real numbers: what is carried after some spans is the row sums over the keys so far, and the
   keys so far have received the tile's part of their gradients. -/
module

public import proofs.«01_k».proof.Proof.SpanWords

@[expose] public section

set_option maxRecDepth 16384

noncomputable section

namespace Cert.Proof.SB

open Finset
open Cert.KernelIdeal Cert.KernelIdeal.Gen
open Idealize.ShloMosaic Idealize.ShloMosaic.TcCoe

/-- A span's rows of an array, at an index. -/
theorem window_at {α : Type} (x : S8448x128.Idx → α) {off : Fin 2 → ℕ} {k0 : ℕ} (h : off = ![k0, 0]) (hk : k0 + 512 ≤ 8448)
    (inb : ∀ a, off a + S512x128.size a ≤ S8448x128.size a) (b : Fin 512) (l : Fin 128) :
    VecWindow.window x off S512x128.size inb (ix2 b l) = x (ix2 ⟨k0 + b.val, by omega⟩ l) := by
  subst h
  unfold VecWindow.window
  congr 1
  funext a
  fin_cases a
  · exact Fin.ext (show k0 + 1 * b.val = k0 + b.val by omega)
  · exact Fin.ext (show 0 + 1 * l.val = l.val by omega)

/-- An array with a span's rows replaced, at an index. -/
theorem put_at {α : Type} (x : S8448x128.Idx → α) {off : Fin 2 → ℕ} {k0 : ℕ} (h : off = ![k0, 0])
    (w : S512x128.Idx → α) (c : Fin 8448) (l : Fin 128) :
    VecWindow.put x off S512x128.size w (ix2 c l)
      = if h : k0 ≤ c.val ∧ c.val < k0 + 512 then w (ix2 ⟨c.val - k0, by omega⟩ l) else x (ix2 c l) := by
  subst h
  unfold VecWindow.put
  by_cases hc : k0 ≤ c.val ∧ c.val < k0 + 512
  · have hall : ∀ a, (![k0, 0] : Fin 2 → ℕ) a ≤ ((ix2 c l : S8448x128.Idx) a).val
        ∧ ((ix2 c l : S8448x128.Idx) a).val < (![k0, 0] : Fin 2 → ℕ) a + S512x128.size a := by
      intro a
      fin_cases a
      · exact hc
      · exact ⟨Nat.zero_le _, show l.val < 0 + 128 by omega⟩
    rw [dif_pos hall, dif_pos hc]
    congr 1
    funext a
    fin_cases a
    · exact Fin.ext rfl
    · exact Fin.ext rfl
  · rw [dif_neg (fun hall => hc (hall 0)), dif_neg hc]

/-- A grid point's arrays hold a pair of heads' tile. -/
structure PointIs (P : PointIn Ideal) (X : Rows) (p i : ℕ) : Prop where
  q0 : Is P.q0 fun a l => if lane false l then X.q (256 * i + a) (128 * p + l) * sc else 0
  q1 : Is P.q1 fun a l => if lane true l then X.q (256 * i + a) (128 * p + l) * sc else 0
  d0 : Is P.d0 fun a l => if lane false l then X.g (256 * i + a) (128 * p + l) else 0
  d1 : Is P.d1 fun a l => if lane true l then X.g (256 * i + a) (128 * p + l) else 0
  c0 : IsCol P.c0 fun a => X.T (2 * p + headNo false) (256 * i + a)
  c1 : IsCol P.c1 fun a => X.T (2 * p + headNo true) (256 * i + a)
  tril : Is P.tril fun a b => if b < a then 1 else 0
  triu : Is P.triu fun a b => if a < b then 1 else 0
  k : Is P.k fun c l => X.k c (128 * p + l)
  v : Is P.v fun c l => X.v c (128 * p + l)

/-- One head of one span of a tile. -/
abbrev HeadOf (h : HeadIn Ideal) (X : Rows) (s : Bool) (p i k0 hi : ℕ) : Prop :=
  HeadIs h (fun a b => on (256 * i + a) (k0 + b) && decide (k0 + b < hi))
    (fun a l => if lane s l then X.q (256 * i + a) (128 * p + l) * sc else 0)
    (fun a l => if lane s l then X.g (256 * i + a) (128 * p + l) else 0)
    (fun b l => X.k (k0 + b) (128 * p + l)) (fun b l => X.v (k0 + b) (128 * p + l))
    (fun a => X.T (2 * p + headNo s) (256 * i + a))

namespace Rows

variable (X : Rows) (s : Bool) (p i c l : ℕ)

/-- What one head of a tile adds to a key's gradient. -/
def dkHead : ℝ := ∑ a ∈ range 256, X.dz (2 * p + headNo s) (256 * i + a) c
  * (if lane s l then X.q (256 * i + a) (128 * p + l) * sc else 0)

/-- What one head of a tile adds to a value's gradient. -/
def dvHead : ℝ := ∑ a ∈ range 256, X.att (2 * p + headNo s) (256 * i + a) c
  * (if lane s l then X.g (256 * i + a) (128 * p + l) else 0)

/-- What a tile adds to a key's gradient. -/
def dkTile : ℝ := X.dkHead false p i c l + X.dkHead true p i c l

/-- What a tile adds to a value's gradient. -/
def dvTile : ℝ := X.dvHead false p i c l + X.dvHead true p i c l

end Rows

section Head

variable {h : HeadIn Ideal} {X : Rows} {s : Bool} {p i k0 hi : ℕ} (H : HeadOf h X s p i k0 hi)

/-- The span's part of each row is a stretch of it. -/
theorem stretch_row (X : Rows) (s : Bool) (p i k0 hi a : ℕ) :
    Stretch (on (256 * i + a)) (X.zz (2 * p + headNo s) (256 * i + a)) (X.dd (2 * p + headNo s) (256 * i + a))
      (fun b => on (256 * i + a) (k0 + b) && decide (k0 + b < hi))
      (dots (fun a l => if lane s l then X.q (256 * i + a) (128 * p + l) * sc else 0)
        (fun b l => X.k (k0 + b) (128 * p + l)) a)
      (dots (fun a l => if lane s l then X.g (256 * i + a) (128 * p + l) else 0)
        (fun b l => X.v (k0 + b) (128 * p + l)) a) k0 hi where
  mask _ := rfl
  score b _ := by
    rw [dots_lane s (fun a l => X.q (256 * i + a) (128 * p + l) * sc)]
    unfold Rows.zz
    refine sum_congr rfl fun d _ => ?_
    rw [show 64 * (2 * p + headNo s) + d = 128 * p + (64 * headNo s + d) by ring]
  grad b _ := by
    rw [dots_lane s (fun a l => X.g (256 * i + a) (128 * p + l))]
    unfold Rows.dd
    refine sum_congr rfl fun d _ => ?_
    rw [show 64 * (2 * p + headNo s) + d = 128 * p + (64 * headNo s + d) by ring]

variable {pre ecar : TileCol Ideal}
  (hp : IsCol pre fun a => ∑ c ∈ range k0, X.left (2 * p + headNo s) (256 * i + a) c)
  (he : IsCol ecar fun a => ∑ c ∈ range k0, X.p (2 * p + headNo s) (256 * i + a) c)
  (h1 : k0 ≤ hi) (h2 : hi ≤ k0 + 512)

include H hp h1

theorem span_pre (h2 : hi ≤ k0 + 512) :
    IsCol (h.pre2 pre) fun a => ∑ c ∈ range hi, X.left (2 * p + headNo s) (256 * i + a) c := fun a => by
  rw [H.pre2_is hp a]
  exact congrArg _ ((stretch_row X s p i k0 hi a).sum_left_all h1 h2)

theorem span_dv : Is (h.dvAdd pre) fun b l => if k0 + b < hi then X.dvHead s p i (k0 + b) l else 0 := fun b l => by
  rw [H.dvAdd_is hp b l]
  refine congrArg _ ?_
  beta_reduce
  by_cases hb : k0 + b.val < hi
  · rw [if_pos hb]
    refine sum_congr rfl fun a _ => ?_
    exact congrArg (· * _) (((stretch_row X s p i k0 hi a).att h1 b.val).trans (if_pos hb))
  · rw [if_neg hb]
    refine sum_eq_zero fun a _ => ?_
    exact mul_eq_zero_of_left (((stretch_row X s p i k0 hi a).att h1 b.val).trans (if_neg hb)) _

include he

theorem span_ecar (h2 : hi ≤ k0 + 512) :
    IsCol (h.ecar2 pre ecar) fun a => ∑ c ∈ range hi, X.p (2 * p + headNo s) (256 * i + a) c := fun a => by
  rw [H.ecar2_is hp he a]
  exact congrArg _ ((stretch_row X s p i k0 hi a).sum_p_all h1 h2)

theorem span_dq : Is (h.dqAdd pre ecar) fun a l => ∑ b ∈ range 512,
    if k0 + b < hi then X.dz (2 * p + headNo s) (256 * i + a) (k0 + b) * X.k (k0 + b) (128 * p + l) else 0 := fun a l => by
  rw [H.dqAdd_is hp he a l]
  refine congrArg _ (sum_congr rfl fun b _ => ?_)
  beta_reduce
  by_cases hb : k0 + b < hi
  · rw [if_pos hb]
    exact congrArg (· * _) (((stretch_row X s p i k0 hi a).dz h1 b).trans (if_pos hb))
  · rw [if_neg hb]
    exact mul_eq_zero_of_left (((stretch_row X s p i k0 hi a).dz h1 b).trans (if_neg hb)) _

theorem span_dk : Is (h.dkAdd pre ecar) fun b l => if k0 + b < hi then X.dkHead s p i (k0 + b) l else 0 := fun b l => by
  rw [H.dkAdd_is hp he b l]
  refine congrArg _ ?_
  beta_reduce
  by_cases hb : k0 + b.val < hi
  · rw [if_pos hb]
    refine sum_congr rfl fun a _ => ?_
    exact congrArg (· * _) (((stretch_row X s p i k0 hi a).dz h1 b.val).trans (if_pos hb))
  · rw [if_neg hb]
    refine sum_eq_zero fun a _ => ?_
    exact mul_eq_zero_of_left (((stretch_row X s p i k0 hi a).dz h1 b.val).trans (if_neg hb)) _

end Head

/-- The state after the keys before `k0`, from what the two accumulated results held. -/
structure StateIs (st : State Ideal) (X : Rows) (p i k0 : ℕ) (dk dv : ℕ → ℕ → ℝ) : Prop where
  dq0 : Is st.carry.1 fun a l =>
    ∑ c ∈ range k0, X.dz (2 * p + headNo false) (256 * i + a) c * X.k c (128 * p + l)
  pre0 : IsCol st.carry.2.1 fun a => ∑ c ∈ range k0, X.left (2 * p + headNo false) (256 * i + a) c
  ecar0 : IsCol st.carry.2.2.1 fun a => ∑ c ∈ range k0, X.p (2 * p + headNo false) (256 * i + a) c
  dq1 : Is st.carry.2.2.2.1 fun a l =>
    ∑ c ∈ range k0, X.dz (2 * p + headNo true) (256 * i + a) c * X.k c (128 * p + l)
  pre1 : IsCol st.carry.2.2.2.2.1 fun a => ∑ c ∈ range k0, X.left (2 * p + headNo true) (256 * i + a) c
  ecar1 : IsCol st.carry.2.2.2.2.2 fun a => ∑ c ∈ range k0, X.p (2 * p + headNo true) (256 * i + a) c
  dk : Is st.dk fun c l => dk c l + if c < k0 then X.dkTile p i c l else 0
  dv : Is st.dv fun c l => dv c l + if c < k0 then X.dvTile p i c l else 0

/-- A span's rows of an accumulated result, with the span's part added. -/
theorem put_is {x : Vec Ideal S8448x128 .f32} {off : Fin 2 → ℕ} {k0 hi : ℕ} (h : off = ![k0, 0]) (hk : k0 + 512 ≤ 8448)
    (h1 : k0 ≤ hi) (h2 : hi ≤ k0 + 512) {w : S512x128.Idx → EReal} {f t : ℕ → ℕ → ℝ}
    (hx : Is x fun c l => f c l + if c < k0 then t c l else 0)
    (hw : Is w fun b l => f (k0 + b) l + if k0 + b < hi then t (k0 + b) l else 0) :
    Is (VecWindow.put x off S512x128.size w : Vec Ideal S8448x128 .f32) fun c l => f c l + if c < hi then t c l else 0 := fun c l => by
  rw [put_at x h]
  by_cases hc : k0 ≤ c.val ∧ c.val < k0 + 512
  · rw [dif_pos hc, hw]
    simp only
    rw [show k0 + (c.val - k0) = c.val by omega]
  · rw [dif_neg hc, hx c l]
    beta_reduce
    by_cases hlo : c.val < k0
    · rw [if_pos hlo, if_pos (by omega)]
    · rw [if_neg hlo, if_neg (by omega)]

section Trip

variable {P : PointIn Ideal} {X : Rows} {p : ℕ} (T : Fin grid0.N)
  (u : Fin (k0_t1_loop (spans (grid0.coords T))).trips) (hP : PointIs P X p (grid0.coords T 1).val)

theorem spanRows_is {x : Vec Ideal S8448x128 .f32} {f : ℕ → ℕ → ℝ} (hx : Is x f) :
    Is (spanRows (F := Ideal) (grid0.coords T) (spans (grid0.coords T)) (chk_all T) u x : Vec Ideal S512x128 .f32)
      fun b l => f (spanStart (grid0.coords T 1).val u.val + b) l := fun b l => by
  unfold spanRows
  rw [window_at x (off_all T u) (bound_all T u).2]
  exact hx _ _

include hP

theorem headA_is : HeadOf (headA P (grid0.coords T) (spans (grid0.coords T)) (chk_all T) u) X false p (grid0.coords T 1).val
    (spanStart (grid0.coords T 1).val u.val) (spanStart (grid0.coords T 1).val (u.val + 1)) where
  mask := spanMask_is T u
  q := hP.q0
  dout := hP.d0
  k := fun b l => by
    show k0_pay16 (F := Ideal) _ (ix2 b l) = _
    pointwise [k0_pay16]
    exact spanRows_is T u hP.k b l
  v := fun b l => by
    show k0_pay17 (F := Ideal) _ (ix2 b l) = _
    pointwise [k0_pay17]
    exact spanRows_is T u hP.v b l
  ctot := hP.c0
  tril := hP.tril
  triu := hP.triu

theorem headB_is : HeadOf (headB P (grid0.coords T) (spans (grid0.coords T)) (chk_all T) u) X true p (grid0.coords T 1).val
    (spanStart (grid0.coords T 1).val u.val) (spanStart (grid0.coords T 1).val (u.val + 1)) where
  mask := spanMask_is T u
  q := hP.q1
  dout := hP.d1
  k := fun b l => by
    show k0_pay16 (F := Ideal) _ (ix2 b l) = _
    pointwise [k0_pay16]
    exact spanRows_is T u hP.k b l
  v := fun b l => by
    show k0_pay17 (F := Ideal) _ (ix2 b l) = _
    pointwise [k0_pay17]
    exact spanRows_is T u hP.v b l
  ctot := hP.c1
  tril := hP.tril
  triu := hP.triu

/-- One span takes the state to the next. -/
theorem stateStep_is {st : State Ideal} {dk dv : ℕ → ℕ → ℝ}
    (hs : StateIs st X p (grid0.coords T 1).val (spanStart (grid0.coords T 1).val u.val) dk dv) :
    StateIs (stateStep P (grid0.coords T) (spans (grid0.coords T)) (chk_all T) u st) X p (grid0.coords T 1).val
      (spanStart (grid0.coords T 1).val (u.val + 1)) dk dv := by
  have HA := headA_is T u hP
  have HB := headB_is T u hP
  have h1 := spanStart_le (grid0.coords T 1).val u.val
  have h2 := spanStart_succ_le (grid0.coords T 1).val u.val
  have hk := (bound_all T u).2
  refine ⟨fun a l => ?_, span_pre HA hs.pre0 h1 h2, span_ecar HA hs.pre0 hs.ecar0 h1 h2, fun a l => ?_,
    span_pre HB hs.pre1 h1 h2, span_ecar HB hs.pre1 hs.ecar1 h1 h2, ?_, ?_⟩
  · show st.carry.1 (ix2 a l) + HeadIn.dqAdd _ _ _ (ix2 a l) = _
    rw [hs.dq0 a l, span_dq HA hs.pre0 hs.ecar0 h1 a l, ← EReal.coe_add]
    exact congrArg _ (sum_stretch (fun c => X.dz (2 * p + headNo false) (256 * (grid0.coords T 1).val + a.val) c
      * X.k c (128 * p + l.val)) h1 h2)
  · show st.carry.2.2.2.1 (ix2 a l) + HeadIn.dqAdd _ _ _ (ix2 a l) = _
    rw [hs.dq1 a l, span_dq HB hs.pre1 hs.ecar1 h1 a l, ← EReal.coe_add]
    exact congrArg _ (sum_stretch (fun c => X.dz (2 * p + headNo true) (256 * (grid0.coords T 1).val + a.val) c
      * X.k c (128 * p + l.val)) h1 h2)
  · refine put_is (off_all T u) hk h1 h2 hs.dk fun b l => ?_
    pointwise [dkStep]
    rw [spanRows_is T u hs.dk b l, span_dk HA hs.pre0 hs.ecar0 h1 b l, span_dk HB hs.pre1 hs.ecar1 h1 b l,
      ← EReal.coe_add, ← EReal.coe_add]
    refine congrArg _ ?_
    simp only
    rw [if_neg (by omega), add_zero]
    congr 1
    unfold Rows.dkTile
    split <;> simp
  · refine put_is (off_all T u) hk h1 h2 hs.dv fun b l => ?_
    pointwise [dvStep]
    rw [spanRows_is T u hs.dv b l, span_dv HA hs.pre0 h1 b l, span_dv HB hs.pre1 h1 b l,
      ← EReal.coe_add, ← EReal.coe_add]
    refine congrArg _ ?_
    simp only
    rw [if_neg (by omega), add_zero]
    congr 1
    unfold Rows.dvTile
    split <;> simp

theorem stateAt_is {dk dv : ℕ → ℕ → ℝ} {x y : Vec Ideal S8448x128 .f32} (hx : Is x dk) (hy : Is y dv) :
    ∀ n, n ≤ (k0_t1_loop (spans (grid0.coords T))).trips →
      StateIs (stateAt P (grid0.coords T) (spans (grid0.coords T)) (chk_all T) x y n) X p (grid0.coords T 1).val
        (spanStart (grid0.coords T 1).val n) dk dv
  | 0, _ => by
    rw [spanStart_zero]
    have z : Ideal.ofBits .f32 0x00000000#32 = ((0 : ℝ) : EReal) := by simp [Ideal.ofBits, Ideal.ieee]
    refine ⟨fun a l => ?_, fun a => ?_, fun a => ?_, fun a l => ?_, fun a => ?_, fun a => ?_, fun c l => ?_, fun c l => ?_⟩
    · exact z
    · exact z
    · exact z
    · exact z
    · exact z
    · exact z
    · show x (ix2 c l) = _
      rw [hx c l]
      simp
    · show y (ix2 c l) = _
      rw [hy c l]
      simp
  | n + 1, h => by
    have e := stateAt_succ P (grid0.coords T) (spans (grid0.coords T)) (chk_all T) ⟨n, h⟩ x y
    simp only at e
    rw [e]
    exact stateStep_is T ⟨n, h⟩ hP (stateAt_is hx hy n (Nat.le_of_succ_le h))

end Trip

end Cert.Proof.SB

end
-- ==== Proof.Blocks.lean ====
/- The call's operands block by block, in real numbers. -/
module

public import proofs.«01_k».proof.Proof.Operands
public import proofs.«01_k».proof.Proof.Point
public import proofs.«01_k».proof.Proof.SpanValue
public import Idealize.ShloMosaic.Lib.Pipeline.Value
public import Idealize.ShloMosaic.Lib.Pipeline.ValueKit.Geometry

@[expose] public section

set_option maxRecDepth 16384
set_option maxHeartbeats 1000000

noncomputable section

namespace Cert.Proof.SB

open Finset
open Cert.KernelIdeal Cert.KernelIdeal.Gen
open Idealize.ShloMosaic Idealize.ShloMosaic.TcCoe

/-- Rows with zero rows in front and behind. -/
def padded (f : ℕ → ℕ → ℝ) (r j : ℕ) : ℝ := if 112 ≤ r ∧ r - 112 < 8208 then f (r - 112) j else 0

/-- A head's scores by unpadded row. -/
def score (q k : ℕ → ℕ → ℝ) (h i j : ℕ) : ℝ := (∑ d ∈ range 64, q i (64 * h + d) * k j (64 * h + d)) * sc

/-- The logarithm of what a head's stick has left at the end of a row. -/
def total (q k : ℕ → ℕ → ℝ) (h i : ℕ) : ℝ := ∑ j ∈ range 8208, if j < i then -sp (score q k h i j) else 0

/-- The padded rows of the arguments. -/
def rowsOf (q k v g : ℕ → ℕ → ℝ) : Rows where
  q := padded q
  k := padded k
  v := padded v
  g := padded g
  T h r := padded (fun i h => total q k h i) r h

theorem sitofp_zero : FloatOps.sitofp (F := Ideal) FTy.f32 0#32 = ((0 : ℝ) : EReal) := by
  show (((0#32 : BitVec 32).toInt : ℝ) : EReal) = _
  simp

theorem padRows_is {x : FVec Ideal S8208x512 .f32} {f : ℕ → ℕ → ℝ} (hx : Is x f) : Is (padRows x) (padded f) := fun a b => by
  pointwise [padRows]
  unfold padded
  by_cases h : 112 ≤ a.val ∧ a.val - 112 < 8208
  · rw [dif_pos h, if_pos h]
    exact hx _ _
  · rw [dif_neg h, if_neg h]
    exact sitofp_zero

section Args

variable {x y z w : FVec Ideal S8208x512 .f32} {q k v g : ℕ → ℕ → ℝ} (hq : Is x q) (hk : Is y k) (hv : Is z v) (hg : Is w g)

include hq in
theorem proj_q (a : Fin 8448) (b : Fin 3840) (j : ℕ) (h : b.val = 2048 + j) (hj : j < 512) :
    projVec x y z (ix2 a b) = ((padded q a.val j : ℝ) : EReal) := by
  pointwise [projVec, zeroCols]
  rw [dif_neg (by omega), dif_pos (by omega), padRows_is hq]
  simp only [h, Nat.add_sub_cancel_left]

include hk in
theorem proj_k (a : Fin 8448) (b : Fin 3840) (j : ℕ) (h : b.val = 2560 + j) (hj : j < 512) :
    projVec x y z (ix2 a b) = ((padded k a.val j : ℝ) : EReal) := by
  pointwise [projVec, zeroCols]
  rw [dif_neg (by omega), dif_neg (by omega), dif_pos (by omega), padRows_is hk]
  simp only [h]
  congr 2
  omega

include hv in
theorem proj_v (a : Fin 8448) (b : Fin 3840) (j : ℕ) (h : b.val = 3072 + j) (hj : j < 512) :
    projVec x y z (ix2 a b) = ((padded v a.val j : ℝ) : EReal) := by
  pointwise [projVec, zeroCols]
  rw [dif_neg (by omega), dif_neg (by omega), dif_neg (by omega), dif_pos (by omega), padRows_is hv]
  simp only [h]
  congr 2
  omega

include hq hk in
theorem allScores_is (h : Fin 8) (i j : Fin 8208) :
    allScores x y (ix3 h i j) = ((score q k h.val i.val j.val : ℝ) : EReal) := by
  pointwise [allScores, headsOf]
  rw [sc_coe]
  unfold score
  rw [EReal.coe_mul, ← sum_fin]
  congr 1
  refine Finset.sum_congr rfl fun d _ => ?_
  rw [hq, hk, ← EReal.coe_mul]
  simp only [Nat.mul_comm 64]

include hq hk in
theorem logSigNeg_is (h : Fin 8) (i j : Fin 8208) :
    logSigNeg (allScores x y) (ix3 h i j) = ((-sp (score q k h.val i.val j.val) : ℝ) : EReal) := by
  pointwise [logSigNeg, zeroScores]
  rw [allScores_is hq hk]
  generalize score q k h.val i.val j.val = s
  rw [neg_neg, if_neg (by simp), EReal.coe_neg]
  congr 1
  have := sp_coe s
  rw [zero_sub] at this
  exact this

include hq hk in
theorem totals_is (h : Fin 8) (i : Fin 8208) : totals x y (ix2 h i) = ((total q k h.val i.val : ℝ) : EReal) := by
  pointwise [totals, zeroScores]
  unfold total
  rw [← sum_fin]
  refine Finset.sum_congr rfl fun j _ => ?_
  rw [logSigNeg_is hq hk]
  pointwise [maskVec]
  rw [slt_nat (by omega) (by omega), select_bool, zero_coe, ite_coe]
  simp

include hq hk in
theorem totalsVec_is : Is (totalsVec x y) fun r l => padded (fun i h => total q k h i) r (l / 64) := fun a b => by
  pointwise [totalsVec, padRows]
  beta_reduce
  unfold padded
  by_cases h : 112 ≤ a.val ∧ a.val - 112 < 8208
  · rw [dif_pos h, if_pos h, totals_is hq hk]
  · rw [dif_neg h, if_neg h]
    exact sitofp_zero

end Args

theorem trilVec_is : Is (trilVec (F := Ideal)) fun a b => if b < a then 1 else 0 := fun a b => by
  have e : ∀ a b : Fin 256, IntOp.cmpi CmpIPredicate.sge (IntOp.addi (BitVec.ofNat 32 a.val) 4294967295#32) (BitVec.ofNat 32 b.val)
      = BitVec.ofBool (decide (b.val < a.val)) := by decide +kernel
  pointwise [trilVec]
  rw [e, select_bool, one_coe, zero_coe, ite_coe]
  simp

theorem triuVec_is : Is (triuVec (F := Ideal)) fun a b => if a < b then 1 else 0 := fun a b => by
  have e : ∀ a b : Fin 256, IntOp.cmpi CmpIPredicate.sge (IntOp.addi (BitVec.ofNat 32 a.val) 0#32) (BitVec.ofNat 32 b.val)
      = BitVec.ofBool (decide (b.val ≤ a.val)) := by decide +kernel
  pointwise [triuVec]
  rw [e, select_bool, one_coe, zero_coe, ite_coe]
  simp only [decide_eq_true_eq]
  split <;> rename_i h
  · rw [if_neg (by omega)]
  · rw [if_pos (by omega)]

end Cert.Proof.SB

end
-- ==== Proof.ReferenceValue.lean ====
/- The reference's results in real numbers, by unpadded row. -/
module

public import proofs.«01_k».proof.Proof.Reference
public import proofs.«01_k».proof.Proof.WindowSum
public import proofs.«01_k».proof.Proof.Blocks

@[expose] public section

set_option maxRecDepth 16384
set_option maxHeartbeats 1000000

noncomputable section

namespace Cert.Proof.SB.Ref

open Finset
open Cert.ReferenceIdeal Cert.ReferenceIdeal.Gen
open Idealize.ShloMosaic Idealize.ShloMosaic.TcCoe

/-- The entries of a three-dimensional array are the given reals. -/
def Is3 (z : Scores Ideal) (f : ℕ → ℕ → ℕ → ℝ) : Prop :=
  ∀ (h : Fin 8) (i j : Fin 8208), z (ix3 h i j) = ((f h.val i.val j.val : ℝ) : EReal)

/-- The keys before a query. -/
def before (i j : ℕ) : Bool := decide (j < i)

theorem earlier_is (h : Fin 8) (i j : Fin 8208) : earlier (ix3 h i j) = BitVec.ofBool (before i.val j.val) := by
  pointwise [earlier]
  exact slt_nat (by omega) (by omega)

theorem inf_bits : Ideal.ofBits .f32 0x7F800000#32 = ⊤ := by
  simp [Ideal.ofBits, Ideal.ieee]

theorem neg_inf_bits : Ideal.ofBits .f32 0xFF800000#32 = ⊥ := by
  simp [Ideal.ofBits, Ideal.ieee]

variable {x y u w : FVec Ideal S8208x512 .f32} {q k v g : ℕ → ℕ → ℝ} (hq : Is x q) (hk : Is y k) (hv : Is u v) (hg : Is w g)

/-- The product of a row of one array and a row of another, head by head. -/
def rowDot (f g : ℕ → ℕ → ℝ) (h i j : ℕ) : ℝ := ∑ d ∈ range 64, f i (64 * h + d) * g j (64 * h + d)

include hq hk in
theorem dots_is : Is3 (dots (heads x) (heads y)) (rowDot q k) := fun h i j => by
  pointwise [dots, heads]
  unfold rowDot
  rw [← sum_fin]
  refine sum_congr rfl fun d _ => ?_
  rw [hq, hk, ← EReal.coe_mul]
  simp only [Nat.mul_comm 64]

include hq hk in
theorem scores_is : Is3 (scores x y) (score q k) := fun h i j => by
  pointwise [scores, all]
  rw [dots_is hq hk, sc_coe, ← EReal.coe_mul]
  rfl

variable {z d : Scores Ideal} {Z D : ℕ → ℕ → ℕ → ℝ} (hz : Is3 z Z) (hd : Is3 d D)

include hz in
theorem neg_is : Is3 (Host.negf z) (fun h i j => -Z h i j) := fun h i j => by
  pointwise
  rw [hz, ← EReal.coe_neg]

include hz in
theorem softplus_is : Is3 (softplus z) (fun h i j => sp (Z h i j)) := fun h i j => by
  pointwise [softplus, all]
  rw [hz, if_neg (by simp)]
  have := sp_coe (Z h.val i.val j.val)
  rw [zero_sub] at this
  exact this

include hz in
theorem logSigmoid_is : Is3 (logSigmoid z) (fun h i j => -sp (-Z h i j)) := neg_is (softplus_is (neg_is hz))

include hz in
theorem slope_is : Is3 (slope z) (fun h i j => Real.exp (Z h i j - sp (Z h i j))) := fun h i j => by
  pointwise [slope, all]
  rw [inf_bits, softplus_is hz, hz, if_neg (EReal.coe_ne_top _), if_neg (EReal.coe_ne_top _), ← EReal.coe_sub]
  rfl

/-- The softplus of minus a number. -/
theorem sp_neg (s : ℝ) : -sp (-s) = s - sp s := by
  unfold sp
  have h1 : 0 < 1 + Real.exp s := by positivity
  have : 1 + Real.exp (-s) = Real.exp (-s) * (1 + Real.exp s) := by
    rw [mul_add, mul_one, ← Real.exp_add, neg_add_cancel, Real.exp_zero, add_comm]
  rw [this, Real.log_mul (Real.exp_pos _).ne' h1.ne', Real.log_exp]
  ring

/-- The share not taken. -/
theorem slope_neg (s : ℝ) : Real.exp (-s - sp (-s)) = 1 - Real.exp (s - sp s) := by
  have h1 : (1 + Real.exp s) ≠ 0 := by positivity
  have h2 : Real.exp (sp s) = 1 + Real.exp s := Real.exp_log (by positivity)
  rw [show -s - sp (-s) = -sp s by have := sp_neg s; linarith, Real.exp_neg, Real.exp_sub, h2]
  field_simp
  ring

theorem zero_first : (broadcastInDim S_ ![] bcast_S_S_ (constant (F := Ideal) S_ FTy.f32 0#32) (Shape.Idx.first h_S_)) = 0 := by
  show Ideal.ofBits .f32 0x00000000#32 = 0
  simp [Ideal.ofBits, Ideal.ieee]

include hz in
theorem fromLast_is : Is3 (fromLast z) (fun h i j => ∑ c ∈ range 8208, Z h i c - ∑ c ∈ range j, Z h i c) := fun h i j => by
  unfold fromLast Host.reduceWindowAdd
  rw [zero_first]
  refine (window_sum _ _ z _ (Z h.val i.val) h i (fun j => hz h i j) 0 rfl j).trans ?_
  rw [sum_from _ _ _ j.isLt]

include hz in
theorem fromFirst_is : Is3 (fromFirst z) (fun h i j => ∑ c ∈ range (j + 1), Z h i c) := fun h i j => by
  unfold fromFirst Host.reduceWindowAdd
  rw [zero_first]
  refine (window_sum _ _ z _ (Z h.val i.val) h i (fun j => hz h i j) 8207 rfl j).trans ?_
  rw [sum_upto _ 8207 _ j.isLt]

include hz in
theorem leaves_is : Is3 (leaves z) (fun h i => rowLeft (before i) (Z h i)) := fun h i j => by
  pointwise [leaves, all]
  rw [earlier_is, select_bool, logSigmoid_is (neg_is hz), zero_coe, ite_coe]
  refine congrArg _ ?_
  beta_reduce
  rw [neg_neg]
  rfl

/-- The logarithm of what is left at the end of a row. -/
def rowTotal (Z : ℕ → ℕ → ℕ → ℝ) (h i : ℕ) : ℝ := ∑ c ∈ range 8208, rowLeft (before i) (Z h i) c

include hz in
theorem weights_is : Is3 (weights z) (fun h i => rowAtt (before i) (Z h i) (rowTotal Z h i)) := fun h i j => by
  have e : (select earlier (addf (logSigmoid z) (subf (fromLast (leaves z)) (leaves z))) (all 0xFF800000#32)) (ix3 h i j)
      = if before i.val j.val then ((Z h.val i.val j.val - sp (Z h.val i.val j.val)
        + (rowTotal Z h.val i.val - ∑ b ∈ range (j.val + 1), rowLeft (before i.val) (Z h.val i.val) b) : ℝ) : EReal) else ⊥ := by
    pointwise [all]
    rw [earlier_is, select_bool, logSigmoid_is hz, fromLast_is (leaves_is hz), leaves_is hz, neg_inf_bits, ← EReal.coe_sub,
      ← EReal.coe_add]
    beta_reduce
    rw [sp_neg, sum_range_succ _ j.val, sub_add_eq_sub_sub]
    rfl
  unfold weights
  show Ideal.exp _ = _
  rw [e]
  beta_reduce
  unfold rowAtt
  by_cases hb : before i.val j.val
  · rw [if_pos hb, if_pos hb]
    rfl
  · rw [if_neg hb, if_neg hb]
    rfl

include hz hd in
theorem products_is : Is3 (products z d) (fun h i => rowP (before i) (Z h i) (D h i) (rowTotal Z h i)) := fun h i j => by
  pointwise [products, all]
  rw [earlier_is, select_bool, weights_is hz, hd, ← EReal.coe_mul, zero_coe, ite_coe]
  refine congrArg _ ?_
  beta_reduce
  unfold rowP
  by_cases hb : before i.val j.val
  · rw [if_pos hb, mul_comm]
  · rw [if_neg hb]
    unfold rowAtt
    rw [if_neg hb, zero_mul]

include hz hd in
theorem taken_is : Is3 (taken z d) (fun h i j => rowP (before i) (Z h i) (D h i) (rowTotal Z h i) j
    * (1 - Real.exp (Z h i j - sp (Z h i j)))) := fun h i j => by
  pointwise [taken]
  rw [products_is hz hd, slope_is (neg_is hz), ← EReal.coe_neg, ← EReal.coe_mul, ← EReal.coe_neg]
  refine congrArg _ ?_
  beta_reduce
  rw [slope_neg]
  ring

include hz hd in
theorem kept_is : Is3 (kept z d) (fun h i j => if before i j then
    -(Real.exp (Z h i j - sp (Z h i j)) * ∑ b ∈ range j, rowP (before i) (Z h i) (D h i) (rowTotal Z h i) b) else 0) := fun h i j => by
  pointwise [kept, all]
  rw [earlier_is, select_bool, products_is hz hd, fromFirst_is (products_is hz hd), slope_is (neg_is (neg_is hz)),
    ← EReal.coe_neg, ← EReal.coe_add, zero_coe, ite_coe, ← EReal.coe_neg, ← EReal.coe_mul, ← EReal.coe_neg, ← EReal.coe_neg]
  refine congrArg _ ?_
  beta_reduce
  rw [sum_range_succ, neg_neg (Z _ _ _)]
  split <;> ring

include hz hd in
theorem scoresGrad_is : Is3 (scoresGrad z d) (fun h i j => rowDz (before i) (Z h i) (D h i) (rowTotal Z h i) 0 j * sc) := fun h i j => by
  pointwise [scoresGrad, all]
  rw [taken_is hz hd, kept_is hz hd, sc_coe, ← EReal.coe_add, ← EReal.coe_mul]
  refine congrArg _ ?_
  beta_reduce
  congr 1
  unfold rowDz
  by_cases hb : before i.val j.val
  · rw [if_pos hb, if_pos hb, zero_add]
    ring
  · rw [if_neg hb, if_neg hb]
    unfold rowP rowAtt
    rw [if_neg hb]
    ring

/-- The attention weights by unpadded row. -/
def attAt (q k : ℕ → ℕ → ℝ) (h i j : ℕ) : ℝ := rowAtt (before i) (score q k h i) (rowTotal (score q k) h i) j

/-- The scores' gradient by unpadded row. -/
def dzAt (q k v g : ℕ → ℕ → ℝ) (h i j : ℕ) : ℝ :=
  rowDz (before i) (score q k h i) (rowDot g v h i) (rowTotal (score q k) h i) 0 j

include hq hk hv hg in
theorem outQ_is : Is (outQ x y u w) (padded fun i l => ∑ j ∈ range 8208, (dzAt q k v g (l / 64) i j * sc) * k j l) := fun r l => by
  pointwise [outQ, framed, joined, heads]
  unfold padded
  by_cases h : 112 ≤ r.val ∧ r.val - 112 < 8208
  · rw [dif_pos h, if_pos h, ← sum_fin]
    refine sum_congr rfl fun j _ => ?_
    unfold gradOf
    rw [scoresGrad_is (scores_is hq hk) (dots_is hg hv), hk, ← EReal.coe_mul]
    rfl
  · rw [dif_neg h, if_neg h]
    exact sitofp_zero

include hq hk hv hg in
theorem outK_is : Is (outK x y u w) (padded fun j l => ∑ i ∈ range 8208, (dzAt q k v g (l / 64) i j * sc) * q i l) := fun r l => by
  pointwise [outK, framed, joined, heads]
  unfold padded
  by_cases h : 112 ≤ r.val ∧ r.val - 112 < 8208
  · rw [dif_pos h, if_pos h, ← sum_fin]
    refine sum_congr rfl fun j _ => ?_
    unfold gradOf
    rw [scoresGrad_is (scores_is hq hk) (dots_is hg hv), hq, ← EReal.coe_mul]
    rfl
  · rw [dif_neg h, if_neg h]
    exact sitofp_zero

include hq hk hg in
theorem outV_is : Is (outV x y w) (padded fun j l => ∑ i ∈ range 8208, g i l * attAt q k (l / 64) i j) := fun r l => by
  pointwise [outV, framed, joined, heads]
  unfold padded
  by_cases h : 112 ≤ r.val ∧ r.val - 112 < 8208
  · rw [dif_pos h, if_pos h, ← sum_fin]
    refine sum_congr rfl fun j _ => ?_
    rw [weights_is (scores_is hq hk), hg, ← EReal.coe_mul]
    rfl
  · rw [dif_neg h, if_neg h]
    exact sitofp_zero

end Cert.Proof.SB.Ref

end
-- ==== Proof.PointValue.lean ====
/- A grid point's operands in real numbers, and what the points leave. -/
module

public import proofs.«01_k».proof.Proof.Blocks

@[expose] public section

set_option maxRecDepth 16384
set_option maxHeartbeats 1000000

noncomputable section

namespace Cert.Proof.SB

open Finset
open Cert.KernelIdeal Cert.KernelIdeal.Gen
open Idealize.ShloMosaic Idealize.ShloMosaic.TcCoe

theorem lane_word : ∀ l : Fin 128, IntOp.cmpi CmpIPredicate.slt (BitVec.ofNat 32 l.val) 64#32 = BitVec.ofBool (decide (l.val < 64)) := by
  decide +kernel

section PointIn

variable {x1 x4 x5 : Vec Ideal S256x128 .f32} {x2 x3 : Vec Ideal S8448x128 .f32} {x6 x7 : Vec Ideal S256x256 .bf16}
variable {X : Rows} {p i : ℕ}

/-- The operands' blocks hold a pair of heads' tile. -/
theorem pointIn_is (h1 : Is x1 fun a l => X.q (256 * i + a) (128 * p + l)) (h2 : Is x2 fun c l => X.k c (128 * p + l))
    (h3 : Is x3 fun c l => X.v c (128 * p + l)) (h4 : Is x4 fun a l => X.T (2 * p + l / 64) (256 * i + a))
    (h5 : Is x5 fun a l => X.g (256 * i + a) (128 * p + l)) (h6 : Is x6 fun a b => if b < a then 1 else 0)
    (h7 : Is x7 fun a b => if a < b then 1 else 0) : PointIs (pointIn x1 x2 x3 x4 x5 x6 x7) X p i where
  q0 a l := by
    show k0_pay110 x1 (ix2 a l) = _
    pointwise [k0_pay110, k0_pay108, k0_pay109]
    rw [lane_word, select_bool, h1, sc_coe, ← EReal.coe_mul, zero_coe, ite_coe]
    rfl
  q1 a l := by
    show k0_pay111 x1 (ix2 a l) = _
    pointwise [k0_pay111, k0_pay108, k0_pay109]
    rw [lane_word, select_bool, h1, sc_coe, ← EReal.coe_mul, zero_coe, ite_coe]
    refine congrArg _ ?_
    by_cases h : l.val < 64
    · simp [lane, h]
    · simp [lane, h, Nat.le_of_not_lt h]
  d0 a l := by
    show k0_pay113 x5 (ix2 a l) = _
    pointwise [k0_pay113, k0_pay108, k0_pay112]
    rw [lane_word, select_bool, h5, zero_coe, ite_coe]
    rfl
  d1 a l := by
    show k0_pay114 x5 (ix2 a l) = _
    pointwise [k0_pay114, k0_pay108, k0_pay112]
    rw [lane_word, select_bool, h5, zero_coe, ite_coe]
    refine congrArg _ ?_
    by_cases h : l.val < 64
    · simp [lane, h]
    · simp [lane, h, Nat.le_of_not_lt h]
  c0 a := by
    show k0_pay116 x4 (ix2 a 0) = _
    pointwise [k0_pay116, k0_pay115]
    exact h4 a _
  c1 a := by
    show k0_pay117 x4 (ix2 a 0) = _
    pointwise [k0_pay117, k0_pay115]
    exact h4 a _
  tril a b := by
    show k0_pay118 x6 (ix2 a b) = _
    pointwise [k0_pay118]
    exact h6 a b
  triu a b := by
    show k0_pay119 x7 (ix2 a b) = _
    pointwise [k0_pay119]
    exact h7 a b
  k := h2
  v := h3

end PointIn

theorem index1 : ∀ t : Fin grid0.N, win0_1.index t = ![(grid0.coords t 1).val, 16 + (grid0.coords t 0).val] := by decide +kernel
theorem index2 : ∀ t : Fin grid0.N, win0_2.index t = ![0, 20 + (grid0.coords t 0).val] := by decide +kernel
theorem index3 : ∀ t : Fin grid0.N, win0_3.index t = ![0, 24 + (grid0.coords t 0).val] := by decide +kernel
theorem index4 : ∀ t : Fin grid0.N, win0_4.index t = ![(grid0.coords t 1).val, (grid0.coords t 0).val] := by decide +kernel
theorem index5 : ∀ t : Fin grid0.N, win0_5.index t = ![(grid0.coords t 1).val, (grid0.coords t 0).val] := by decide +kernel
theorem index6 : ∀ t : Fin grid0.N, win0_6.index t = ![0, 0] := by decide +kernel
theorem index7 : ∀ t : Fin grid0.N, win0_7.index t = ![0, 0] := by decide +kernel

/-- The first coordinate of a grid point is its pair of heads. -/
theorem coords0 : ∀ t : Fin cfg0.N, (grid0.coords t 0).val = t.val / 33 := by decide +kernel

theorem bounds (t : Fin cfg0.N) : (grid0.coords t 0).val < 4 ∧ (grid0.coords t 1).val < 33 :=
  ⟨(grid0.coords t 0).isLt, (grid0.coords t 1).isLt⟩

variable (m : (ℓ : Loc nD τ sig) → Buf (Elt Ideal) ℓ) (c : Dev nD) (t : Fin cfg0.N)
variable {q k v g : ℕ → ℕ → ℝ}
  (hq : Is (m ((c : Thread nD τ).loc main_arg0)) q) (hk : Is (m ((c : Thread nD τ).loc main_arg1)) k)
  (hv : Is (m ((c : Thread nD τ).loc main_arg2)) v) (hg : Is (m ((c : Thread nD τ).loc main_arg3)) g)

include hq in
theorem blk_q (a : Fin 256) (l : Fin 128) : iblk m c 1 t (ix2 a l)
    = ((padded q (256 * (grid0.coords t 1).val + a.val) (128 * (grid0.coords t 0).val + l.val) : ℝ) : EReal) := by
  have hb := bounds t
  have e : iblk m c 1 t (ix2 a l) = V m c main_v34 (ix2 ⟨256 * (grid0.coords t 1).val + a.val, by omega⟩
      ⟨2048 + (128 * (grid0.coords t 0).val + l.val), by omega⟩) := by
    blk_ext [iblk, index1 t]
  rw [e, V_proj, proj_q hq _ _ _ rfl (by omega)]

include hk in
theorem blk_k (a : Fin 8448) (l : Fin 128) : iblk m c 2 t (ix2 a l)
    = ((padded k a.val (128 * (grid0.coords t 0).val + l.val) : ℝ) : EReal) := by
  have hb := bounds t
  have e : iblk m c 2 t (ix2 a l) = V m c main_v34 (ix2 a
      ⟨2560 + (128 * (grid0.coords t 0).val + l.val), by omega⟩) := by
    blk_ext [iblk, index2 t]
  rw [e, V_proj, proj_k hk _ _ _ rfl (by omega)]

include hv in
theorem blk_v (a : Fin 8448) (l : Fin 128) : iblk m c 3 t (ix2 a l)
    = ((padded v a.val (128 * (grid0.coords t 0).val + l.val) : ℝ) : EReal) := by
  have hb := bounds t
  have e : iblk m c 3 t (ix2 a l) = V m c main_v34 (ix2 a
      ⟨3072 + (128 * (grid0.coords t 0).val + l.val), by omega⟩) := by
    blk_ext [iblk, index3 t]
  rw [e, V_proj, proj_v hv _ _ _ rfl (by omega)]

include hq hk in
theorem blk_c (a : Fin 256) (l : Fin 128) : iblk m c 4 t (ix2 a l)
    = ((padded (fun i h => total q k h i) (256 * (grid0.coords t 1).val + a.val) (2 * (grid0.coords t 0).val + l.val / 64) : ℝ) : EReal) := by
  have hb := bounds t
  have e : iblk m c 4 t (ix2 a l) = V m c main_v18 (ix2 ⟨256 * (grid0.coords t 1).val + a.val, by omega⟩
      ⟨128 * (grid0.coords t 0).val + l.val, by omega⟩) := by
    blk_ext [iblk, index4 t]
  rw [e, V_totals, totalsVec_is hq hk]
  beta_reduce
  rw [show (128 * (grid0.coords t 0).val + l.val) / 64 = 2 * (grid0.coords t 0).val + l.val / 64 by omega]

include hg in
theorem blk_g (a : Fin 256) (l : Fin 128) : iblk m c 5 t (ix2 a l)
    = ((padded g (256 * (grid0.coords t 1).val + a.val) (128 * (grid0.coords t 0).val + l.val) : ℝ) : EReal) := by
  have hb := bounds t
  have e : iblk m c 5 t (ix2 a l) = V m c main_v35 (ix2 ⟨256 * (grid0.coords t 1).val + a.val, by omega⟩
      ⟨128 * (grid0.coords t 0).val + l.val, by omega⟩) := by
    blk_ext [iblk, index5 t]
  rw [e, V_grad, padRows_is hg]

theorem blk_tril (a b : Fin 256) : iblk m c 6 t (ix2 a b) = (((if b.val < a.val then 1 else 0 : ℝ)) : EReal) := by
  have read : ∀ G : Vec Ideal S256x256 .bf16, ((cfg0.win 6).blk t).view.read (Elt Ideal) G (ix2 a b) = G (ix2 a b) := by
    intro G
    blk_ext [index6 t]
  have e : iblk m c 6 t (ix2 a b) = V m c main_v37 (ix2 a b) := read (V m c main_v37)
  exact e.trans ((congrFun (V_tril m c) (ix2 a b)).trans (trilVec_is a b))

theorem blk_triu (a b : Fin 256) : iblk m c 7 t (ix2 a b) = (((if a.val < b.val then 1 else 0 : ℝ)) : EReal) := by
  have read : ∀ G : Vec Ideal S256x256 .bf16, ((cfg0.win 7).blk t).view.read (Elt Ideal) G (ix2 a b) = G (ix2 a b) := by
    intro G
    blk_ext [index7 t]
  have e : iblk m c 7 t (ix2 a b) = V m c main_v39 (ix2 a b) := read (V m c main_v39)
  exact e.trans ((congrFun (V_triu m c) (ix2 a b)).trans (triuVec_is a b))

include hq hk hv hg in
theorem pointOf_is : PointIs (pointOf m c t) (rowsOf q k v g) (grid0.coords t 0).val (grid0.coords t 1).val :=
  pointIn_is (X := rowsOf q k v g) (blk_q m c t hq) (blk_k m c t hk) (blk_v m c t hv) (blk_c m c t hq hk) (blk_g m c t hg)
    (blk_tril m c t) (blk_triu m c t)

/-- What the query tiles before a given one add to a key's gradient. -/
def dkUpTo (X : Rows) (p i c l : ℕ) : ℝ := ∑ j ∈ range i, if c < 256 * (j + 1) then X.dkTile p j c l else 0

/-- What the query tiles before a given one add to a value's gradient. -/
def dvUpTo (X : Rows) (p i c l : ℕ) : ℝ := ∑ j ∈ range i, if c < 256 * (j + 1) then X.dvTile p j c l else 0

/-- The state after a point, of the sums before it. -/
theorem StateIs.sums {st : State Ideal} {X : Rows} {p i : ℕ}
    (h : StateIs st X p i (256 * (i + 1)) (dkUpTo X p i) (dvUpTo X p i)) :
    Is st.dk (dkUpTo X p (i + 1)) ∧ Is st.dv (dvUpTo X p (i + 1)) :=
  ⟨fun a b => (h.dk a b).trans (congrArg _ (sum_range_succ _ _).symm),
    fun a b => (h.dv a b).trans (congrArg _ (sum_range_succ _ _).symm)⟩

include hq hk hv hg in
/-- One point takes the sums of the query tiles before it to its state. -/
theorem stepAt_is {x9 x10 : Vec Ideal S8448x128 .f32}
    (h9 : (grid0.coords t 1).val ≠ 0 → Is x9 (dkUpTo (rowsOf q k v g) (grid0.coords t 0).val (grid0.coords t 1).val))
    (h10 : (grid0.coords t 1).val ≠ 0 → Is x10 (dvUpTo (rowsOf q k v g) (grid0.coords t 0).val (grid0.coords t 1).val)) :
    StateIs (stepAt m c t x9 x10) (rowsOf q k v g) (grid0.coords t 0).val (grid0.coords t 1).val
      (256 * ((grid0.coords t 1).val + 1))
      (dkUpTo (rowsOf q k v g) (grid0.coords t 0).val (grid0.coords t 1).val)
      (dvUpTo (rowsOf q k v g) (grid0.coords t 0).val (grid0.coords t 1).val) := by
  have z : Ideal.ofBits .f32 0x00000000#32 = ((0 : ℝ) : EReal) := by simp [Ideal.ofBits, Ideal.ieee]
  have e9 : Is (entry (grid0.coords t) x9 (k0_pay106 (F := Ideal))) (dkUpTo (rowsOf q k v g) (grid0.coords t 0).val (grid0.coords t 1).val) := by
    unfold entry
    split
    · rename_i h
      rw [h]
      exact fun a b => z
    · rename_i h
      exact h9 h
  have e10 : Is (entry (grid0.coords t) x10 (k0_pay107 (F := Ideal))) (dvUpTo (rowsOf q k v g) (grid0.coords t 0).val (grid0.coords t 1).val) := by
    unfold entry
    split
    · rename_i h
      rw [h]
      exact fun a b => z
    · rename_i h
      exact h10 h
  have := stateAt_is t (pointOf_is m c t hq hk hv hg) e9 e10 _ (le_refl _)
  rw [trips_all, spanStart_last] at this
  unfold stepAt pointState
  rw [trips_all]
  exact this

include hq hk hv hg in
theorem stateOf_is : ∀ (n : ℕ) (h : n < cfg0.N),
    StateIs (stateOf m c n h) (rowsOf q k v g) (n / 33) (n % 33) (256 * (n % 33 + 1))
      (dkUpTo (rowsOf q k v g) (n / 33) (n % 33)) (dvUpTo (rowsOf q k v g) (n / 33) (n % 33))
  | 0, h => by
    have := stepAt_is m c ⟨0, h⟩ hq hk hv hg (x9 := k0_pay106 (F := Ideal)) (x10 := k0_pay107 (F := Ideal))
    rw [coords0, coords1] at this
    exact this (fun h => absurd rfl h) (fun h => absurd rfl h)
  | n + 1, h => by
    have ih := (stateOf_is n (Nat.lt_of_succ_lt h)).sums
    have := stepAt_is m c ⟨n + 1, h⟩ hq hk hv hg (x9 := (stateOf m c n (Nat.lt_of_succ_lt h)).dk)
      (x10 := (stateOf m c n (Nat.lt_of_succ_lt h)).dv)
    rw [coords0, coords1] at this
    have hn : (n + 1) % 33 ≠ 0 → (n + 1) / 33 = n / 33 ∧ (n + 1) % 33 = n % 33 + 1 := by omega
    refine this (fun hr => ?_) (fun hr => ?_)
    · dsimp only at hr ⊢
      rw [(hn hr).1, (hn hr).2]
      exact ih.1
    · dsimp only at hr ⊢
      rw [(hn hr).1, (hn hr).2]
      exact ih.2

end Cert.Proof.SB
end
-- ==== Proof.Totals.lean ====
/- The tiles' gradients added up. -/
module

public import proofs.«01_k».proof.Proof.PointValue

@[expose] public section

set_option maxRecDepth 16384
set_option maxHeartbeats 1000000

noncomputable section

namespace Cert.Proof.SB

open Finset
open Cert.KernelIdeal Cert.KernelIdeal.Gen
open Idealize.ShloMosaic Idealize.ShloMosaic.TcCoe

namespace Rows

variable (X : Rows) (p i r c j l : ℕ)

/-- The gradient of the queries. -/
def gradQ : ℝ := (∑ c ∈ range r, X.dz (j / 64) r c * X.k c j) * sc

/-- The gradient of the keys. -/
def gradK : ℝ := ∑ r ∈ range 8448, X.dz (j / 64) r c * (X.q r j * sc)

/-- The gradient of the values. -/
def gradV : ℝ := ∑ r ∈ range 8448, X.att (j / 64) r c * X.g r j

variable {X p i r c j l}

theorem dz_off (h : Nat) (hc : r ≤ c) : X.dz h r c = 0 := by
  unfold dz rowDz on
  rw [if_neg (by simp; omega)]

theorem att_off (h : Nat) (hc : r ≤ c) : X.att h r c = 0 := by
  unfold att rowAtt on
  rw [if_neg (by simp; omega)]

theorem sum_dz_off (h n : ℕ) (f : ℕ → ℝ) (hn : r ≤ n) : ∑ c ∈ range n, X.dz h r c * f c = ∑ c ∈ range r, X.dz h r c * f c := by
  obtain ⟨m, rfl⟩ := Nat.exists_eq_add_of_le hn
  rw [sum_range_add, sum_eq_zero (s := range m), add_zero]
  intro c _
  rw [dz_off h (by omega), zero_mul]

theorem heads (f : Bool → ℝ → ℝ) (u : ℕ → ℝ) (x : ℝ) (hl : l < 128) :
    u (2 * p + headNo false) * (if lane false l then x else 0) + u (2 * p + headNo true) * (if lane true l then x else 0)
      = u ((128 * p + l) / 64) * x := by
  by_cases h : l < 64
  · rw [show (128 * p + l) / 64 = 2 * p by omega]
    simp [lane, h, headNo]
  · rw [show (128 * p + l) / 64 = 2 * p + 1 by omega]
    simp [lane, h, headNo, Nat.le_of_not_lt h]

theorem dkTile_eq (hl : l < 128) : X.dkTile p i c l
    = ∑ a ∈ range 256, X.dz ((128 * p + l) / 64) (256 * i + a) c * (X.q (256 * i + a) (128 * p + l) * sc) := by
  unfold dkTile dkHead
  rw [← sum_add_distrib]
  exact sum_congr rfl fun a _ => heads (fun _ x => x) (fun h => X.dz h (256 * i + a) c) _ hl

theorem dvTile_eq (hl : l < 128) : X.dvTile p i c l
    = ∑ a ∈ range 256, X.att ((128 * p + l) / 64) (256 * i + a) c * X.g (256 * i + a) (128 * p + l) := by
  unfold dvTile dvHead
  rw [← sum_add_distrib]
  exact sum_congr rfl fun a _ => heads (fun _ x => x) (fun h => X.att h (256 * i + a) c) _ hl

end Rows

variable {X : Rows} {p c l : ℕ}

theorem dkUpTo_eq (hl : l < 128) : ∀ n, dkUpTo X p n c l
    = ∑ r ∈ range (256 * n), X.dz ((128 * p + l) / 64) r c * (X.q r (128 * p + l) * sc)
  | 0 => rfl
  | n + 1 => by
    rw [Nat.mul_succ, sum_range_add, ← dkUpTo_eq hl n]
    unfold dkUpTo
    rw [sum_range_succ]
    congr 1
    split
    · exact Rows.dkTile_eq hl
    · refine (sum_eq_zero fun a ha => ?_).symm
      have := mem_range.1 ha
      rw [Rows.dz_off _ (by omega), zero_mul]

theorem dvUpTo_eq (hl : l < 128) : ∀ n, dvUpTo X p n c l
    = ∑ r ∈ range (256 * n), X.att ((128 * p + l) / 64) r c * X.g r (128 * p + l)
  | 0 => rfl
  | n + 1 => by
    rw [Nat.mul_succ, sum_range_add, ← dvUpTo_eq hl n]
    unfold dvUpTo
    rw [sum_range_succ]
    congr 1
    split
    · exact Rows.dvTile_eq hl
    · refine (sum_eq_zero fun a ha => ?_).symm
      have := mem_range.1 ha
      rw [Rows.att_off _ (by omega), zero_mul]

/-- What a point stores of the queries' gradient. -/
theorem dqOut_is {st : State Ideal} {p i : ℕ} {dk dv : ℕ → ℕ → ℝ} (h : StateIs st X p i (256 * (i + 1)) dk dv) :
    Is (dqOut st.carry) fun a l => X.gradQ (256 * i + a) (128 * p + l) := fun a l => by
  unfold dqOut
  pointwise [k0_pay15, k0_pay108]
  rw [lane_word, select_bool, h.dq0, h.dq1, sc_coe, ite_coe, ← EReal.coe_mul]
  refine congrArg _ ?_
  beta_reduce
  unfold Rows.gradQ
  congr 1
  by_cases hl : l.val < 64
  · rw [if_pos (by simpa using hl), Rows.sum_dz_off _ _ _ (by omega), show (128 * p + l.val) / 64 = 2 * p by omega]
    rfl
  · rw [if_neg (by simpa using hl), Rows.sum_dz_off _ _ _ (by omega), show (128 * p + l.val) / 64 = 2 * p + 1 by omega]
    rfl

/-- An array of the given reals. -/
def arrayOf (n0 n1 : ℕ) (f : ℕ → ℕ → ℝ) : (⟨2, ![n0, n1]⟩ : Shape).Idx → EReal := fun i => ((f (i 0).val (i 1).val : ℝ) : EReal)

/-- An array of the given reals at any of its places. -/
theorem Is.at {n0 n1 : ℕ} {x : (⟨2, ![n0, n1]⟩ : Shape).Idx → EReal} {f : ℕ → ℕ → ℝ} (h : Is x f)
    (y : (⟨2, ![n0, n1]⟩ : Shape).Idx) : x y = ((f (y 0).val (y 1).val : ℝ) : EReal) := by
  have e : y = ix2 (y 0) (y 1) := by
    funext a
    fin_cases a <;> rfl
  rw [e]
  exact h _ _

theorem index8 : ∀ t : Fin grid0.N, win0_8.index t = ![(grid0.coords t 1).val, (grid0.coords t 0).val] := by decide +kernel
theorem index9 : ∀ t : Fin grid0.N, win0_9.index t = ![0, (grid0.coords t 0).val] := by decide +kernel
theorem index10 : ∀ t : Fin grid0.N, win0_10.index t = ![0, (grid0.coords t 0).val] := by decide +kernel

variable (m : (ℓ : Loc nD τ sig) → Buf (Elt Ideal) ℓ) (c : Dev nD)
variable {q k v g : ℕ → ℕ → ℝ}
  (hq : Is (m ((c : Thread nD τ).loc main_arg0)) q) (hk : Is (m ((c : Thread nD τ).loc main_arg1)) k)
  (hv : Is (m ((c : Thread nD τ).loc main_arg2)) v) (hg : Is (m ((c : Thread nD τ).loc main_arg3)) g)

include hq hk hv hg

theorem final_dq : (dats m 0 c).arrAt 8 cfg0.N = arrayOf 8448 512 (rowsOf q k v g).gradQ := by
  refine (dats m 0 c).arrAt_eq_of_covers 8 _ (by decide +kernel) fun t hf y => ?_
  blk_simp
  rw [after0_8]
  refine ((dqOut_is (stateOf_is m c hq hk hv hg t.val t.isLt)).at y).trans ?_
  unfold arrayOf
  blk_simp [index8 t]
  rw [coords0, coords1]
  simp only [Nat.mul_comm]

theorem final_dk : (dats m 0 c).arrAt 9 cfg0.N = arrayOf 8448 512 (rowsOf q k v g).gradK := by
  refine (dats m 0 c).arrAt_eq_of_covers 9 _ (by decide +kernel) fun t hf y => ?_
  blk_simp
  rw [after0_9]
  have ht : t.val % 33 = 32 := (flush0_9 t).mp hf
  have hy : (y 1).val < 128 := (y 1).isLt
  refine ((stateOf_is m c hq hk hv hg t.val t.isLt).sums.1.at y).trans ?_
  rw [ht, dkUpTo_eq hy]
  unfold arrayOf
  blk_simp [index9 t]
  rw [coords0]
  simp only [Nat.mul_comm _ 128]
  rfl

theorem final_dv : (dats m 0 c).arrAt 10 cfg0.N = arrayOf 8448 512 (rowsOf q k v g).gradV := by
  refine (dats m 0 c).arrAt_eq_of_covers 10 _ (by decide +kernel) fun t hf y => ?_
  blk_simp
  rw [after0_10]
  have ht : t.val % 33 = 32 := (flush0_10 t).mp hf
  have hy : (y 1).val < 128 := (y 1).isLt
  refine ((stateOf_is m c hq hk hv hg t.val t.isLt).sums.2.at y).trans ?_
  rw [ht, dvUpTo_eq hy]
  unfold arrayOf
  blk_simp [index10 t]
  rw [coords0]
  simp only [Nat.mul_comm _ 128]
  rfl

end Cert.Proof.SB

end
-- ==== Proof.Match.lean ====
/- The padded rows of the kernel against the unpadded rows of the reference. -/
module

public import proofs.«01_k».proof.Proof.ReferenceValue
public import proofs.«01_k».proof.Proof.Totals

@[expose] public section

set_option maxRecDepth 16384

noncomputable section

namespace Cert.Proof.SB

open Finset
open Ref (before rowDot rowTotal attAt dzAt)

variable {q k v g : ℕ → ℕ → ℝ} {h i b r c j : ℕ}

theorem padded_in (f : ℕ → ℕ → ℝ) (hi : i < 8208) : padded f (112 + i) j = f i j := by
  unfold padded
  rw [if_pos (by omega), Nat.add_sub_cancel_left]

theorem padded_out (f : ℕ → ℕ → ℝ) (hr : r < 112 ∨ 8320 ≤ r) : padded f r j = 0 := by
  unfold padded
  rw [if_neg (by omega)]

theorem zz_eq (hi : i < 8208) (hb : b < 8208) : (rowsOf q k v g).zz h (112 + i) (112 + b) = score q k h i b := by
  unfold Rows.zz score rowsOf
  rw [sum_mul]
  refine sum_congr rfl fun d _ => ?_
  dsimp only
  rw [padded_in q hi, padded_in k hb]
  ring

theorem dd_eq (hi : i < 8208) (hb : b < 8208) : (rowsOf q k v g).dd h (112 + i) (112 + b) = rowDot g v h i b := by
  unfold Rows.dd rowDot rowsOf
  dsimp only
  simp only [padded_in g hi, padded_in v hb]

theorem T_eq (hi : i < 8208) : (rowsOf q k v g).T h (112 + i) = rowTotal (score q k) h i := by
  unfold rowsOf
  dsimp only
  rw [padded_in _ hi]
  unfold total rowTotal rowLeft before
  simp only [decide_eq_true_eq]

/-- The unpadded row is a stretch of the padded one. -/
theorem unpadded (hi : i < 8208) : Stretch (on (112 + i)) ((rowsOf q k v g).zz h (112 + i)) ((rowsOf q k v g).dd h (112 + i))
    (before i) (score q k h i) (rowDot g v h i) 112 8320 where
  mask b := by
    unfold before on
    by_cases hb : b < i
    · simp [hb]; omega
    · simp [hb]
  score b hb := (zz_eq hi (by omega)).symm
  grad b hb := (dd_eq hi (by omega)).symm

theorem on_front (hc : c < 112) : on r c = false := by
  unfold on
  simp [hc]

theorem left_front (Z : ℕ → ℝ) : ∑ c ∈ range 112, rowLeft (on r) Z c = 0 :=
  sum_eq_zero fun c hc => by
    unfold rowLeft
    rw [on_front (mem_range.1 hc), if_neg (by simp)]

theorem p_front (Z D : ℕ → ℝ) (C : ℝ) : ∑ c ∈ range 112, rowP (on r) Z D C c = 0 :=
  sum_eq_zero fun c hc => by
    unfold rowP rowAtt
    rw [on_front (mem_range.1 hc), if_neg (by simp), zero_mul]

theorem att_in (hi : i < 8208) (hb : b < 8208) : (rowsOf q k v g).att h (112 + i) (112 + b) = attAt q k h i b := by
  have s := (unpadded (q := q) (k := k) (v := v) (g := g) (h := h) hi).att (C := (rowsOf q k v g).T h (112 + i)) (by omega) b
  rw [left_front, sub_zero, if_pos (by omega)] at s
  unfold Rows.att attAt
  rw [← s, T_eq hi]

theorem dz_in (hi : i < 8208) (hb : b < 8208) : (rowsOf q k v g).dz h (112 + i) (112 + b) = dzAt q k v g h i b := by
  have s := (unpadded (q := q) (k := k) (v := v) (g := g) (h := h) hi).dz (C := (rowsOf q k v g).T h (112 + i)) (by omega) b
  rw [left_front, p_front, sub_zero, if_pos (by omega)] at s
  unfold Rows.dz dzAt
  rw [← s, T_eq hi]

theorem att_front (hc : c < 112) : (rowsOf q k v g).att h r c = 0 := by
  unfold Rows.att rowAtt
  rw [on_front hc, if_neg (by simp)]

theorem dz_out (hrc : (r < 112 ∨ 8320 ≤ r) ∨ (c < 112 ∨ 8320 ≤ c)) : (rowsOf q k v g).dz h r c = 0 := by
  by_cases h1 : c < 112
  · unfold Rows.dz rowDz
    rw [on_front h1, if_neg (by simp)]
  by_cases h2 : r ≤ c
  · exact Rows.dz_off h h2
  have h3 : ∀ b, rowP (on r) ((rowsOf q k v g).zz h r) ((rowsOf q k v g).dd h r) ((rowsOf q k v g).T h r) b = 0 := fun b => by
    unfold rowP
    refine mul_eq_zero_of_right _ ?_
    unfold Rows.dd rowsOf
    refine sum_eq_zero fun d _ => ?_
    dsimp only
    rw [padded_out g (by omega), zero_mul]
  unfold Rows.dz rowDz
  simp only [h3, sum_const_zero]
  simp

/-- A sum over the padded rows of terms that vanish in the padding. -/
theorem sum_mid (f : ℕ → ℝ) (h0 : ∀ c, c < 112 ∨ 8320 ≤ c → f c = 0) :
    ∑ c ∈ range 8448, f c = ∑ b ∈ range 8208, f (112 + b) := by
  rw [sum_range_add f 112 8336, sum_eq_zero (s := range 112) fun c hc => h0 c (Or.inl (mem_range.1 hc)), zero_add,
    sum_range_add _ 8208 128, sum_eq_zero (s := range 128) fun c _ => h0 _ (Or.inr (by omega)), add_zero]

theorem gradQ_eq (hr : r < 8448) : (rowsOf q k v g).gradQ r j
    = padded (fun i l => ∑ b ∈ range 8208, (dzAt q k v g (l / 64) i b * sc) * k b l) r j := by
  unfold Rows.gradQ
  rw [← Rows.sum_dz_off _ 8448 _ hr.le]
  by_cases h : 112 ≤ r ∧ r - 112 < 8208
  · obtain ⟨i, rfl⟩ := Nat.exists_eq_add_of_le h.1
    rw [padded_in _ (by omega), sum_mid _ fun c hc => by rw [dz_out (Or.inr hc), zero_mul], sum_mul]
    refine sum_congr rfl fun b hb => ?_
    have hb := mem_range.1 hb
    rw [dz_in (by omega) hb]
    unfold rowsOf
    dsimp only
    rw [padded_in k hb]
    ring
  · rw [padded_out _ (by omega), sum_eq_zero, zero_mul]
    intro c _
    rw [dz_out (Or.inl (by omega)), zero_mul]

theorem gradK_eq : (rowsOf q k v g).gradK c j
    = padded (fun b l => ∑ i ∈ range 8208, (dzAt q k v g (l / 64) i b * sc) * q i l) c j := by
  unfold Rows.gradK
  by_cases h : 112 ≤ c ∧ c - 112 < 8208
  · obtain ⟨b, rfl⟩ := Nat.exists_eq_add_of_le h.1
    rw [padded_in _ (by omega), sum_mid _ fun r hr => by rw [dz_out (Or.inl hr), zero_mul]]
    refine sum_congr rfl fun i hi => ?_
    have hi := mem_range.1 hi
    rw [dz_in hi (by omega)]
    unfold rowsOf
    dsimp only
    rw [padded_in q hi]
    ring
  · rw [padded_out _ (by omega), sum_eq_zero]
    intro r _
    rw [dz_out (Or.inr (by omega)), zero_mul]

theorem g_out (hr : r < 112 ∨ 8320 ≤ r) : (rowsOf q k v g).g r j = 0 := padded_out g hr

theorem gradV_eq : (rowsOf q k v g).gradV c j
    = padded (fun b l => ∑ i ∈ range 8208, g i l * attAt q k (l / 64) i b) c j := by
  unfold Rows.gradV
  by_cases h : 112 ≤ c ∧ c - 112 < 8208
  · obtain ⟨b, rfl⟩ := Nat.exists_eq_add_of_le h.1
    rw [padded_in _ (by omega), sum_mid _ fun r hr => by rw [g_out hr, mul_zero]]
    refine sum_congr rfl fun i hi => ?_
    have hi := mem_range.1 hi
    rw [att_in hi (by omega), mul_comm]
    unfold rowsOf
    dsimp only
    rw [padded_in g hi]
  · rw [padded_out _ (by omega), sum_eq_zero]
    intro r _
    by_cases hc : c < 112
    · rw [att_front hc, zero_mul]
    by_cases hr : r < 8320
    · rw [Rows.att_off _ (by omega), zero_mul]
    · rw [g_out (by omega), mul_zero]

end Cert.Proof.SB

end
-- ==== Proof.Finite.lean ====
/- What the precondition says: every entry of the arguments is a real number. -/
module

public import proofs.«01_k».proof.Pre_finite
public import proofs.«01_k».proof.Proof.RealArray
public import Idealize.ShloMosaic.Lib.Pointwise

@[expose] public section

set_option maxRecDepth 16384

noncomputable section

namespace Cert.Proof.SB

open Idealize.ShloMosaic
open Cert.Pre_finite

theorem pre_facts : Cert.Pre_finite.Facts := ⟨by decide⟩

attribute [local instance] pre_facts

theorem and_bits (a b : Bool) : IntOp.andi (BitVec.ofBool a) (BitVec.ofBool b) = BitVec.ofBool (a && b) := by
  cases a <;> cases b <;> rfl

theorem ofBool_eq_one (a : Bool) : (BitVec.ofBool a = 1#1) = (a = true) := by
  cases a <;> decide

theorem top_bits : Ideal.ofBits .f32 0x7F800000#32 = ⊤ := by
  simp [Ideal.ofBits, Ideal.ieee]

/-- The entries of an array of reals by row and column. -/
def entries (x : FVec Ideal S8208x512 .f32) (i j : ℕ) : ℝ :=
  if h : i < 8208 ∧ j < 512 then (x (ix2 ⟨i, h.1⟩ ⟨j, h.2⟩)).toReal else 0

/-- A number below infinity in absolute value is real. -/
theorem real_of_abs {a : EReal} (h : max a (-a) < ⊤) : a = ((a.toReal : ℝ) : EReal) := by
  refine (EReal.coe_toReal ?_ ?_).symm
  · rintro rfl
    simp at h
  · rintro rfl
    simp at h

theorem entries_is {x : FVec Ideal S8208x512 .f32} (h : ∀ i j, max (x (ix2 i j)) (-x (ix2 i j)) < ⊤) : Is x (entries x) := fun i j => by
  unfold entries
  rw [dif_pos ⟨i.isLt, j.isLt⟩]
  exact real_of_abs (h i j)

variable {x y u w : FVec Ideal S8208x512 .f32}

theorem pre_real (h : fn (F := Ideal) x y u w = fun _ => 1#1) :
    Is x (entries x) ∧ Is y (entries y) ∧ Is u (entries u) ∧ Is w (entries w) := by
  have e : ∀ i j, (max (x (ix2 i j)) (-x (ix2 i j)) < ⊤ ∧ max (y (ix2 i j)) (-y (ix2 i j)) < ⊤)
      ∧ (max (u (ix2 i j)) (-u (ix2 i j)) < ⊤ ∧ max (w (ix2 i j)) (-w (ix2 i j)) < ⊤) := fun i j => by
    have := congrFun h (ix2 i j)
    revert this
    pointwise [fn]
    rw [and_bits, and_bits, and_bits, top_bits, ofBool_eq_one]
    simp only [Bool.and_eq_true, decide_eq_true_eq]
    exact fun h => ⟨⟨h.1.1.1, h.1.1.2⟩, h.1.2, h.2⟩
  exact ⟨entries_is fun i j => (e i j).1.1, entries_is fun i j => (e i j).1.2, entries_is fun i j => (e i j).2.1,
    entries_is fun i j => (e i j).2.2⟩

end Cert.Proof.SB

end
-- ==== Proof.Same.lean ====
/- The kernel's program and its idealization are the same text: the same call's body, the same host operations. -/
module

public import proofs.«01_k».proof.Proof.Gen.Kernel.Launch
public import proofs.«01_k».proof.Proof.Gen.KernelIdeal.Launch

@[expose] public section

set_option maxRecDepth 65536
set_option maxHeartbeats 4000000

noncomputable section

namespace Cert.Proof.SB

open Idealize.ShloMosaic Idealize.SL.Sem

variable {F : FTy → Type} [FloatOps F]

/-- The two programs have one signature of buffers. -/
theorem same_sig : Cert.Kernel.sig = Cert.KernelIdeal.sig := rfl

/-- The two calls have one body. -/
theorem same_body : @Cert.Kernel.cc0_sb_bwd F _ _ = @Cert.KernelIdeal.cc0_sb_bwd F _ _ := rfl

/-- The two programs have the same definition of the call's label. -/
theorem same_defs₀ : @Cert.Kernel.defs₀ F _ _ = @Cert.KernelIdeal.defs₀ F _ _ := by
  refine congrArg Defs.onTc ?_
  funext l a
  match l, a with
  | 0, (t, s) => rfl
  | ⟨_ + 1, h⟩, _ => exact absurd h (Nat.not_lt.2 (Nat.le_add_left _ _))

/-- The two programs have the same definitions. -/
theorem same_defs : @Cert.Kernel.defs F _ _ = @Cert.KernelIdeal.defs F _ _ :=
  congrArg (Pipeline.defs (Cert.KernelIdeal.pcfgs (F := F))) same_defs₀

theorem same0 : (Cert.Kernel.Gen.hostOps0 (F := F)) = Cert.KernelIdeal.Gen.hostOps0 := rfl
theorem same1 : (Cert.Kernel.Gen.hostOps0_1 (F := F)) = Cert.KernelIdeal.Gen.hostOps0_1 := rfl
theorem same2 : (Cert.Kernel.Gen.hostOps0_2 (F := F)) = Cert.KernelIdeal.Gen.hostOps0_2 := rfl
theorem same3 : (Cert.Kernel.Gen.hostOps0_3 (F := F)) = Cert.KernelIdeal.Gen.hostOps0_3 := rfl
theorem same4 : (Cert.Kernel.Gen.hostOps0_4 (F := F)) = Cert.KernelIdeal.Gen.hostOps0_4 := rfl
theorem same5 : (Cert.Kernel.Gen.hostOps0_5 (F := F)) = Cert.KernelIdeal.Gen.hostOps0_5 := rfl
theorem same6 : (Cert.Kernel.Gen.hostOps0_6 (F := F)) = Cert.KernelIdeal.Gen.hostOps0_6 := rfl
theorem same7 : (Cert.Kernel.Gen.hostOps0_7 (F := F)) = Cert.KernelIdeal.Gen.hostOps0_7 := rfl
theorem same8 : (Cert.Kernel.Gen.hostOps0_8 (F := F)) = Cert.KernelIdeal.Gen.hostOps0_8 := rfl
theorem same9 : (Cert.Kernel.Gen.hostOps0_9 (F := F)) = Cert.KernelIdeal.Gen.hostOps0_9 := rfl
theorem same10 : (Cert.Kernel.Gen.hostOps0_10 (F := F)) = Cert.KernelIdeal.Gen.hostOps0_10 := rfl
theorem same11 : (Cert.Kernel.Gen.hostOps0_11 (F := F)) = Cert.KernelIdeal.Gen.hostOps0_11 := rfl
theorem same12 : (Cert.Kernel.Gen.hostOps0_12 (F := F)) = Cert.KernelIdeal.Gen.hostOps0_12 := rfl
theorem same13 : (Cert.Kernel.Gen.hostOps0_13 (F := F)) = Cert.KernelIdeal.Gen.hostOps0_13 := rfl
theorem same14 : (Cert.Kernel.Gen.hostOps0_14 (F := F)) = Cert.KernelIdeal.Gen.hostOps0_14 := rfl
theorem same15 : (Cert.Kernel.Gen.hostOps0_15 (F := F)) = Cert.KernelIdeal.Gen.hostOps0_15 := rfl
theorem same16 : (Cert.Kernel.Gen.hostOps0_16 (F := F)) = Cert.KernelIdeal.Gen.hostOps0_16 := rfl
theorem same17 : (Cert.Kernel.Gen.hostOps0_17 (F := F)) = Cert.KernelIdeal.Gen.hostOps0_17 := rfl
theorem same18 : (Cert.Kernel.Gen.hostOps0_18 (F := F)) = Cert.KernelIdeal.Gen.hostOps0_18 := rfl
theorem same19 : (Cert.Kernel.Gen.hostOps0_19 (F := F)) = Cert.KernelIdeal.Gen.hostOps0_19 := rfl
/-- The two programs have the same main function. -/
theorem same_main : @Cert.Kernel.main F _ _ = @Cert.KernelIdeal.main F _ _ := by
  funext c
  refine (Cert.Kernel.Gen.main_chain c).trans (Eq.trans ?_ (Cert.KernelIdeal.Gen.main_chain c).symm)
  rw [same0, same1, same2, same3, same4, same5, same6, same7, same8, same9, same10, same11, same12, same13, same14, same15, same16, same17, same18, same19]
  rfl

end Cert.Proof.SB

end
-- ==== Proof.Frames.lean ====
/- The frames: the program and its idealization by one run at two instances, and the reference by its own run. -/
module

public import proofs.«01_k».proof.Proof.Point
public import proofs.«01_k».proof.Proof.Gen.ReferenceIdeal.Run
public import proofs.«01_k».proof.Defs
public import proofs.«01_k».proof.Proof.Same

@[expose] public section

set_option maxRecDepth 65536
set_option maxHeartbeats 4000000

noncomputable section

namespace Cert.Proof.SB

open Idealize.ShloMosaic Idealize.SL.Sem

section Over
open Cert.KernelIdeal Cert.KernelIdeal.Gen Idealize.ShloMosaic.TcCoe
variable {F : FTy → Type} [FloatOps F]
variable (m : (ℓ : Loc nD τ sig) → Buf (Elt F) ℓ) (ρ : Dev nD → PrngReg)

/-- Over any float values the program runs, keeps its arguments and ends with every counter at zero. -/
theorem quiet : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main m ρ)

end Over

attribute [local instance] Cert.Kernel.Gen.facts Cert.KernelIdeal.Gen.facts Cert.ReferenceIdeal.Gen.facts

/-- The kernel on machine floats runs, keeps its arguments and ends with every counter at zero. -/
theorem frame_kernel : Cert.quiescent_Kernel := fun m ρ _ => by
  rw [same_defs, same_main]
  exact quiet (F := Bits) m ρ

/-- The idealized kernel runs, keeps its arguments and ends with every counter at zero. -/
theorem frame_kernelIdeal : Cert.quiescent_KernelIdeal := fun m ρ _ => quiet (F := Ideal) m ρ

/-- The idealized reference runs, keeps its arguments and ends with every counter at zero. -/
theorem frame_referenceIdeal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

end Cert.Proof.SB

end
-- ==== Proof.Values.lean ====
/- The kernel and the reference end with the same gradients. -/
module

public import proofs.«01_k».proof.Proof.Match
public import proofs.«01_k».proof.Proof.Finite
public import proofs.«01_k».proof.Proof.Frames

@[expose] public section

set_option maxRecDepth 65536
set_option maxHeartbeats 4000000

noncomputable section

namespace Cert.Proof.SB

open Idealize.ShloMosaic Idealize.SL.Sem

/-- An array of given reals is the array of them. -/
theorem Is.eq_arrayOf {n0 n1 : ℕ} {x : (⟨2, ![n0, n1]⟩ : Shape).Idx → EReal} {f f' : ℕ → ℕ → ℝ} (h : Is x f)
    (e : ∀ i j, i < n0 → j < n1 → f' i j = f i j) : arrayOf n0 n1 f' = x := by
  funext y
  rw [h.at y]
  unfold arrayOf
  rw [e _ _ (y 0).isLt (y 1).isLt]

section Kernel
open Cert.KernelIdeal Cert.KernelIdeal.Gen Idealize.ShloMosaic.TcCoe
variable (m : (ℓ : Loc nD τ sig) → Buf (Elt Ideal) ℓ) (ρ : Dev nD → PrngReg)

/-- Run on extended reals, the kernel ends with the gradients its windows wrote and keeps its arguments. -/
theorem kernel_run : θ_run (defs (F := Ideal)) (onTc (τ := τ) (main (F := Ideal))) ⟨m, fun _ => 0, ρ⟩ (fun r => ∀ c : Dev nD,
      r.2.mem ((c.tc : Thread nD τ).loc main_v40_0) = (dats m 0 c).arrAt 8 cfg0.N
      ∧ r.2.mem ((c.tc : Thread nD τ).loc main_v40_1) = (dats m 0 c).arrAt 9 cfg0.N
      ∧ r.2.mem ((c.tc : Thread nD τ).loc main_v40_2) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 8, (h.1 c).1 9, (h.1 c).1 10,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (run_main m ρ)

end Kernel

attribute [local instance] Cert.Kernel.Gen.facts Cert.KernelIdeal.Gen.facts Cert.ReferenceIdeal.Gen.facts pre_facts

theorem frame_kernelIdeal_finite : Cert.quiescent_KernelIdeal_pre_finite := fun m ρ _ => frame_kernelIdeal m ρ trivial

theorem frame_referenceIdeal_finite : Cert.quiescent_ReferenceIdeal_pre_finite := fun m ρ _ => frame_referenceIdeal m ρ trivial

/-- On finite arguments the kernel's gradients of the queries, keys and values are the reference's. -/
theorem values : Cert.algebraic_KernelIdeal_ReferenceIdeal_pre_finite := fun m g m' g' hp ha => by
  refine ⟨_, _, _, kernel_run m g, (θ_run Cert.ReferenceIdeal.defs _ _).mono (fun r h c => ?_) (Cert.ReferenceIdeal.Value.run (F := Ideal) m' g')⟩
  obtain ⟨h0, h1, h2, hr⟩ := h c
  obtain ⟨e0, e1, e2, e3⟩ := ha c
  obtain ⟨hq, hk, hv, hg⟩ := pre_real (hp c)
  refine ⟨h0.trans ?_, h1.trans ?_, h2.trans ?_, hr⟩
  · rw [Ref.out0_eq, e0, e1, e2, e3, final_dq m c hq hk hv hg]
    exact ((Ref.outQ_is hq hk hv hg).eq_arrayOf fun i j hi _ => gradQ_eq hi).symm
  · rw [Ref.out1_eq, e0, e1, e2, e3, final_dk m c hq hk hv hg]
    exact ((Ref.outK_is hq hk hv hg).eq_arrayOf fun i j _ _ => gradK_eq).symm
  · rw [Ref.out2_eq, e0, e1, e3, final_dv m c hq hk hv hg]
    exact ((Ref.outV_is hq hk hg).eq_arrayOf fun i j _ _ => gradV_eq).symm

end Cert.Proof.SB

end
-- ==== Proof.Entries.lean ====
/- Arrays of extended reals entry by entry, and sums of products taken block by block. -/
module

public import Idealize.ShloMosaic.Lib.Pipeline.Value
public import Idealize.ShloMosaic.Lib.Pipeline.ValueKit.Geometry
public import Idealize.ShloMosaic.Lib.Pointwise

@[expose] public section

noncomputable section

namespace Cert.Proof.Products

open Finset Idealize.ShloMosaic

/-- An array with two axes of extended reals. -/
abbrev Array2 (n0 n1 : ℕ) : Type := (⟨2, ![n0, n1]⟩ : Shape).Idx → EReal

variable {n0 n1 : ℕ}

/-- An entry of an array, zero outside it. -/
def ent (x : Array2 n0 n1) (i j : ℕ) : EReal := if h : i < n0 ∧ j < n1 then x (ix2 (⟨i, h.1⟩ : Fin n0) (⟨j, h.2⟩ : Fin n1)) else 0

theorem ent_ix2 (x : Array2 n0 n1) (a : Fin n0) (b : Fin n1) : x (ix2 a b) = ent x a.val b.val := by
  unfold ent
  rw [dif_pos ⟨a.isLt, b.isLt⟩]

/-- The array of the given entries. -/
def arr (n0 n1 : ℕ) (f : ℕ → ℕ → EReal) : Array2 n0 n1 := fun y => f (y 0).val (y 1).val

theorem at_index {x : Array2 n0 n1} {f : ℕ → ℕ → EReal} (h : ∀ (a : Fin n0) (b : Fin n1), x (ix2 a b) = f a.val b.val)
    (y : (⟨2, ![n0, n1]⟩ : Shape).Idx) : x y = f (y 0).val (y 1).val := by
  rw [← ix2_eta y]
  exact h _ _

/-- A block known entry by entry, at its place in the array. -/
theorem at_block {x : Array2 n0 n1} {f : ℕ → ℕ → EReal} {i j : ℕ}
    (h : ∀ (a : Fin n0) (b : Fin n1), x (ix2 a b) = f (i + a.val) (j + b.val)) (y : (⟨2, ![n0, n1]⟩ : Shape).Idx) :
    x y = f (i + (y 0).val) (j + (y 1).val) :=
  at_index (f := fun a b => f (i + a) (j + b)) h y

theorem no_offsets : (![0, 0] : Fin 2 → ℕ) = fun _ => 0 := funext fun a => by fin_cases a <;> rfl

/-- An array known entry by entry. -/
theorem eq_arr {x : Array2 n0 n1} {f : ℕ → ℕ → EReal} (h : ∀ (a : Fin n0) (b : Fin n1), x (ix2 a b) = f a.val b.val) :
    x = arr n0 n1 f := funext (at_index h)

/-- The entry of a product of matrices, the first one's rows by the second one's columns. -/
def rowCol (K : ℕ) (f g : ℕ → ℕ → EReal) (i j : ℕ) : EReal := ∑ k ∈ range K, f i k * g k j

/-- Rows by rows. -/
def rowRow (K : ℕ) (f g : ℕ → ℕ → EReal) (i j : ℕ) : EReal := ∑ k ∈ range K, f i k * g j k

/-- Columns by columns. -/
def colCol (K : ℕ) (f g : ℕ → ℕ → EReal) (i j : ℕ) : EReal := ∑ k ∈ range K, f k i * g k j

/-- A sum over a block after the sums over the blocks before it. -/
theorem colCol_add (f g : ℕ → ℕ → EReal) (K n i j : ℕ) :
    colCol (K * (n + 1)) f g i j = colCol (K * n) f g i j + ∑ a ∈ range K, f (K * n + a) i * g (K * n + a) j := by
  unfold colCol
  rw [Nat.mul_succ, sum_range_add]

/-- The entry of the product of one block's columns by another's. -/
def blockSum {K : ℕ} (x : Array2 K n0) (y : Array2 K n1) (p : Fin n0) (q : Fin n1) : EReal := ∑ r : Fin K, x (ix2 r p) * y (ix2 r q)

theorem blockSum_eq {K : ℕ} {x : Array2 K n0} {y : Array2 K n1} {p : Fin n0} {q : Fin n1} {f g : Fin K → EReal}
    (hx : ∀ r, x (ix2 r p) = f r) (hy : ∀ r, y (ix2 r q) = g r) : blockSum x y p q = ∑ r : Fin K, f r * g r :=
  sum_congr rfl fun r _ => by rw [hx, hy]

/-- Products of blocks added up one after another are the product of what the blocks make up. -/
theorem fold_blocks {N : ℕ} (K b e j0 : ℕ) (f g : ℕ → ℕ → EReal) (reset : (n : ℕ) → n < N → Array2 n0 n1)
    (step : (n : ℕ) → n < N → Array2 n0 n1 → Array2 n0 n1)
    (hr : ∀ (h : b + 0 < N) (p : Fin n0) (q : Fin n1),
      reset b h (ix2 p q) = ∑ r : Fin K, f (K * 0 + r.val) p.val * g (K * 0 + r.val) (j0 + q.val))
    (hs : ∀ (j : ℕ) (h : b + j < N), j < e → ∀ (x : Array2 n0 n1) (p : Fin n0) (q : Fin n1),
      step (b + j) h x (ix2 p q) = x (ix2 p q) + ∑ r : Fin K, f (K * j + r.val) p.val * g (K * j + r.val) (j0 + q.val)) :
    ∀ (j : ℕ) (h : b + j < N), j < e → ∀ (p : Fin n0) (q : Fin n1),
      Pipeline.accAt reset step b j h (ix2 p q) = colCol (K * (j + 1)) f g p.val (j0 + q.val)
  | 0, h, _, p, q => by
    rw [Pipeline.accAt_zero, hr, colCol_add, sum_range]
    unfold colCol
    rw [Nat.mul_zero, sum_range_zero, zero_add]
  | j + 1, h, hj, p, q => by
    rw [Pipeline.accAt_succ, hs (j + 1) h hj,
      fold_blocks K b e j0 f g reset step hr hs j (Nat.lt_of_succ_lt h) (Nat.lt_of_succ_lt hj), colCol_add _ _ _ (j + 1), sum_range]

end Cert.Proof.Products

end
-- ==== Proof.DwUp.lean ====
/- The gradient of the weights of the layer that widens. -/
module

public import proofs.«01_k».proof.Defs
public import proofs.«01_k».proof.Proof.Entries
public import Idealize.ShloMosaic.Lib.StableHlo.RunRead
public import proofs.«01_k».proof.Proof.Gen.KernelDwUp.Frame
public import proofs.«01_k».proof.Proof.Gen.KernelDwUpIdeal.Frame
public import proofs.«01_k».proof.Proof.Gen.KernelDwUpIdeal.Value
public import proofs.«01_k».proof.Proof.Gen.ReferenceDwUpIdeal.Run

@[expose] public section

set_option maxRecDepth 16384
set_option maxHeartbeats 1000000

noncomputable section

namespace Cert.Proof.Products.DwUp

open Finset Idealize.ShloMosaic Idealize.SL.Sem

section Kernel
open Cert.KernelDwUpIdeal Cert.KernelDwUpIdeal.Gen Idealize.ShloMosaic.TcCoe Idealize.ShloMosaic.Tactic

theorem index0 : ∀ t : Fin grid0.N, win0_0.index t = ![t.val % 11, 0] := by decide +kernel
theorem index1 : ∀ t : Fin grid0.N, win0_1.index t = ![t.val % 11, t.val / 11] := by decide +kernel

variable (m : (ℓ : Loc nD τ sig) → Buf (Elt Ideal) ℓ) (c : Dev nD)

/-! The operands and their blocks. -/

theorem operand0 : V m c main_v0 = (m ((c : Thread nD τ).loc main_arg0) : Array2 8448 1024) := by
  simp only [V]
  after_reads_simp
  rfl

theorem rows0 (q j : ℕ) (h : 11 * q + j < cfg0.N) (hj : j < 11) (r : Fin 768) (a : Fin 1024) : iblk m c 0 ⟨11 * q + j, h⟩ (ix2 r a)
    = ent (m ((c : Thread nD τ).loc main_arg0) : Array2 8448 1024) (768 * j + r.val) a.val := by
  rw [← operand0 m c]
  refine Eq.trans ?_ (ent_ix2 _ ⟨768 * j + r.val, by omega⟩ a)
  blk_ext [iblk, index0 ⟨11 * q + j, h⟩]

theorem operand1 : V m c main_v1 = (m ((c : Thread nD τ).loc main_arg2) : Array2 8448 5632) := by
  simp only [V]
  after_reads_simp
  rfl

theorem rows1 (q j : ℕ) (h : 11 * q + j < cfg0.N) (hj : j < 11) (r : Fin 768) (a : Fin 2816) : iblk m c 1 ⟨11 * q + j, h⟩ (ix2 r a)
    = ent (m ((c : Thread nD τ).loc main_arg2) : Array2 8448 5632) (768 * j + r.val) (2816 * q + a.val) := by
  have hq : q < 2 := by
    have hN : cfg0.N = 22 := N_0
    omega
  rw [← operand1 m c]
  refine Eq.trans ?_ (ent_ix2 _ ⟨768 * j + r.val, by omega⟩ ⟨2816 * q + a.val, by omega⟩)
  blk_ext [iblk, index1 ⟨11 * q + j, h⟩]

theorem step2 (n : ℕ) (h : n < cfg0.N) (x : Array2 1024 2816) (p : Fin 1024) (s : Fin 2816) : Value.step2 m c n h x (ix2 p s)
    = x (ix2 p s) + blockSum (iblk m c 0 ⟨n, h⟩ : Array2 768 1024) (iblk m c 1 ⟨n, h⟩ : Array2 768 2816) p s := by
  unfold Value.step2
  generalize iblk m c 0 ⟨n, h⟩ = u
  generalize iblk m c 1 ⟨n, h⟩ = w
  unfold blockSum
  pointwise [k0_pay1, k0_pay2]

theorem reset2 (n : ℕ) (h : n < cfg0.N) (p : Fin 1024) (s : Fin 2816) : Value.reset2 m c n h (ix2 p s)
    = blockSum (iblk m c 0 ⟨n, h⟩ : Array2 768 1024) (iblk m c 1 ⟨n, h⟩ : Array2 768 2816) p s := by
  unfold Value.reset2
  generalize iblk m c 0 ⟨n, h⟩ = u
  generalize iblk m c 1 ⟨n, h⟩ = w
  unfold blockSum
  pointwise [k0_pay1, k0_pay2]

/-- What a run of grid points accumulates. -/
theorem fold2 (q j : ℕ) (h : 11 * q + j < cfg0.N) (hj : j < 11) (p : Fin 1024) (s : Fin 2816) :
    Pipeline.accAt (Value.reset2 m c) (Value.step2 m c) (11 * q) j h (ix2 p s)
      = colCol (768 * (j + 1)) (ent (m ((c : Thread nD τ).loc main_arg0) : Array2 8448 1024))
        (ent (m ((c : Thread nD τ).loc main_arg2) : Array2 8448 5632)) p.val (2816 * q + s.val) := by
  refine fold_blocks 768 (11 * q) 11 (2816 * q) _ _ _ _ (fun h p s => ?_) (fun j h hj x p s => ?_) j h hj p s
  · exact (reset2 m c (11 * q) h p s).trans (blockSum_eq (fun r => rows0 m c q 0 h (by omega) r p)
      fun r => (rows1 m c q 0 h (by omega) r s))
  · exact (step2 m c (11 * q + j) h x p s).trans (congrArg _ (blockSum_eq (fun r => rows0 m c q j h hj r p)
      fun r => (rows1 m c q j h hj r s)))

/-- What the kernel leaves. -/
theorem final2 : Value.G2 m c = arr 1024 5632 (colCol 8448 (ent (m ((c : Thread nD τ).loc main_arg0) : Array2 8448 1024))
    (ent (m ((c : Thread nD τ).loc main_arg2) : Array2 8448 5632))) := eq_arr fun a b => by
  have hN : cfg0.N = 22 := N_0
  have ha : a.val / 1024 = 0 := Nat.div_eq_of_lt a.isLt
  have e : Value.run2Of (ix2 a b) = b.val / 2816 := by
    show 2 * (a.val / 1024 - 0) + 1 * (b.val / 2816 - 0) = _
    omega
  have l : Value.loc2Of (ix2 a b) = ix2 ⟨a.val, a.isLt⟩ ⟨b.val % 2816, Nat.mod_lt _ (by decide)⟩ := by
    funext x
    fin_cases x
    · exact Fin.ext (Nat.mod_eq_of_lt a.isLt)
    · rfl
  unfold Value.G2
  rw [dif_pos (by rw [e]; omega), l]
  refine (fold2 m c _ 10 _ (by omega) _ _).trans ?_
  show colCol 8448 _ _ a.val (2816 * Value.run2Of (ix2 a b) + b.val % 2816) = _
  rw [e, Nat.div_add_mod]

end Kernel

/-- What the reference computes. -/
theorem result (y : FVec Ideal Cert.ReferenceDwUpIdeal.S8448x5632 .f32) (x : FVec Ideal Cert.ReferenceDwUpIdeal.S8448x1024 .f32)
    (h : Cert.ReferenceDwUpIdeal.S5632x1024.Transposes [1, 0] Cert.ReferenceDwUpIdeal.S1024x5632) :
    transpose Cert.ReferenceDwUpIdeal.S1024x5632 [1, 0] (Host.dotGeneral Cert.ReferenceDwUpIdeal.dot_S8448x5632_S8448x1024_S5632x1024_0_0_1_1_n_n none y x : FVec Ideal Cert.ReferenceDwUpIdeal.S5632x1024 .f32) h
      = arr 1024 5632 (colCol 8448 (ent x) (ent y)) := eq_arr fun a b => by
  pointwise
  unfold colCol
  rw [sum_range]
  simp only [ent_ix2, mul_comm]

attribute [local instance] Cert.KernelDwUp.Gen.facts Cert.KernelDwUpIdeal.Gen.facts Cert.ReferenceDwUpIdeal.Gen.facts

theorem frame : Cert.quiescent_KernelDwUp := fun m ρ _ => Cert.KernelDwUp.Gen.frame m ρ

theorem frame_ideal : Cert.quiescent_KernelDwUpIdeal := fun m ρ _ => Cert.KernelDwUpIdeal.Gen.frame m ρ

theorem frame_reference : Cert.quiescent_ReferenceDwUpIdeal := fun m ρ _ =>
  (θ_run Cert.ReferenceDwUpIdeal.defs _ _).mono (fun r h => ⟨fun c => (h c).2, sem_eq_zero_of_no_sems (by decide) r.2⟩)
    (Cert.ReferenceDwUpIdeal.Value.run (F := Ideal) m ρ)

/-- The kernel's array is the reference's. -/
theorem values : Cert.algebraic_KernelDwUpIdeal_ReferenceDwUpIdeal := fun m g m' g' _ ha => by
  refine ⟨_, Cert.KernelDwUpIdeal.Value.run m g, (θ_run Cert.ReferenceDwUpIdeal.defs _ _).mono (fun r h c => ?_) (Cert.ReferenceDwUpIdeal.Value.run (F := Ideal) m' g')⟩
  obtain ⟨h0, hr⟩ := h c
  obtain ⟨e0, e1, e2⟩ := ha c
  refine ⟨h0.trans ?_, hr⟩
  rw [e0, e2, final2 m c]
  exact result _ _ _

end Cert.Proof.Products.DwUp

end
-- ==== Proof.Dn2.lean ====
/- The gradient of the input of the layer that widens. -/
module

public import proofs.«01_k».proof.Defs
public import proofs.«01_k».proof.Proof.Entries
public import Idealize.ShloMosaic.Lib.StableHlo.RunRead
public import proofs.«01_k».proof.Proof.Gen.KernelDn2.Frame
public import proofs.«01_k».proof.Proof.Gen.KernelDn2Ideal.Frame
public import proofs.«01_k».proof.Proof.Gen.KernelDn2Ideal.Value
public import proofs.«01_k».proof.Proof.Gen.ReferenceDn2Ideal.Run

@[expose] public section

set_option maxRecDepth 16384
set_option maxHeartbeats 1000000

noncomputable section

namespace Cert.Proof.Products.Dn2

open Finset Idealize.ShloMosaic Idealize.SL.Sem

section Kernel
open Cert.KernelDn2Ideal Cert.KernelDn2Ideal.Gen Idealize.ShloMosaic.TcCoe Idealize.ShloMosaic.Tactic

theorem index0 : ∀ t : Fin grid0.N, win0_0.index t = ![(grid0.coords t 1).val, 0] := by decide +kernel
theorem index1 : ∀ t : Fin grid0.N, win0_1.index t = ![(grid0.coords t 0).val, 0] := by decide +kernel
theorem index2 : ∀ t : Fin grid0.N, win0_2.index t = ![(grid0.coords t 1).val, (grid0.coords t 0).val] := by decide +kernel

/-- The product of two blocks. -/
theorem block (x : Vec Ideal S768x5632 .bf16) (y : Vec Ideal S512x5632 .bf16) (a : Fin 768) (b : Fin 512) :
    k0_pay1 (F := Ideal) x y (ix2 a b) = ∑ k : Fin 5632, x (ix2 a k) * y (ix2 b k) := by
  pointwise [k0_pay1]

theorem stored (x : Vec Ideal S768x5632 .bf16) (y : Vec Ideal S512x5632 .bf16) : out0_2 x y = k0_pay1 x y := by
  unfold out0_2
  rw [View.canon_cons_unit_zero (S := S768x512) no_offsets, View.ld_unit_zero (S := S768x5632) no_offsets,
    View.ld_unit_zero (S := S512x5632) no_offsets]

variable (m : (ℓ : Loc nD τ sig) → Buf (Elt Ideal) ℓ) (c : Dev nD) (t : Fin cfg0.N)

theorem left : V m c main_v0 = (m ((c : Thread nD τ).loc main_arg2) : Array2 8448 5632) := by
  simp only [V]
  after_reads_simp
  rfl

theorem right : V m c main_v1 = (m ((c : Thread nD τ).loc main_arg1) : Array2 1024 5632) := by
  simp only [V]
  after_reads_simp
  rfl

theorem rows (a : Fin 768) (k : Fin 5632) : iblk m c 0 t (ix2 a k)
    = ent (m ((c : Thread nD τ).loc main_arg2) : Array2 8448 5632) (768 * (grid0.coords t 1).val + a.val) k.val := by
  have hb : (grid0.coords t 1).val < 11 := (grid0.coords t 1).isLt
  rw [← left m c]
  refine Eq.trans ?_ (ent_ix2 _ ⟨768 * (grid0.coords t 1).val + a.val, by omega⟩ k)
  blk_ext [iblk, index0 t]

theorem cols (b : Fin 512) (k : Fin 5632) : iblk m c 1 t (ix2 b k)
    = ent (m ((c : Thread nD τ).loc main_arg1) : Array2 1024 5632) (512 * (grid0.coords t 0).val + b.val) k.val := by
  have hb : (grid0.coords t 0).val < 2 := (grid0.coords t 0).isLt
  rw [← right m c]
  refine Eq.trans ?_ (ent_ix2 _ ⟨512 * (grid0.coords t 0).val + b.val, by omega⟩ k)
  blk_ext [iblk, index1 t]

/-- What a grid point stores. -/
theorem point (a : Fin 768) (b : Fin 512) : out0_2 (iblk m c 0 t) (iblk m c 1 t) (ix2 a b) = rowRow 5632
    (ent (m ((c : Thread nD τ).loc main_arg2) : Array2 8448 5632))
    (ent (m ((c : Thread nD τ).loc main_arg1) : Array2 1024 5632))
    (768 * (grid0.coords t 1).val + a.val) (512 * (grid0.coords t 0).val + b.val) := by
  rw [stored, block]
  unfold rowRow
  rw [sum_range]
  exact sum_congr rfl fun k _ => congrArg₂ (· * ·) (rows m c t a k) (cols m c t b k)

/-- What the kernel leaves. -/
theorem final : (dats m 0 c).arrAt 2 cfg0.N = arr 8448 1024 (rowRow 5632
    (ent (m ((c : Thread nD τ).loc main_arg2) : Array2 8448 5632))
    (ent (m ((c : Thread nD τ).loc main_arg1) : Array2 1024 5632))) := by
  refine (dats m 0 c).arrAt_eq_of_covers 2 _ (by decide +kernel) fun t hf y => ?_
  blk_simp
  rw [after0_2]
  refine (at_block (point m c t) y).trans ?_
  unfold arr
  blk_simp [index2 t]
  simp only [Nat.mul_comm]

end Kernel

/-- What the reference computes. -/
theorem result (x : FVec Ideal Cert.ReferenceDn2Ideal.S8448x5632 .f32) (y : FVec Ideal Cert.ReferenceDn2Ideal.S1024x5632 .f32) :
    (Host.dotGeneral Cert.ReferenceDn2Ideal.dot_S8448x5632_S1024x5632_S8448x1024_1_1_0_0_n_n none x y : FVec Ideal Cert.ReferenceDn2Ideal.S8448x1024 .f32)
      = arr 8448 1024 (rowRow 5632 (ent x) (ent y)) := eq_arr fun a b => by
  pointwise
  unfold rowRow
  rw [sum_range]
  simp only [ent_ix2]

attribute [local instance] Cert.KernelDn2.Gen.facts Cert.KernelDn2Ideal.Gen.facts Cert.ReferenceDn2Ideal.Gen.facts

theorem frame : Cert.quiescent_KernelDn2 := fun m ρ _ => Cert.KernelDn2.Gen.frame m ρ

theorem frame_ideal : Cert.quiescent_KernelDn2Ideal := fun m ρ _ => Cert.KernelDn2Ideal.Gen.frame m ρ

theorem frame_reference : Cert.quiescent_ReferenceDn2Ideal := fun m ρ _ =>
  (θ_run Cert.ReferenceDn2Ideal.defs _ _).mono (fun r h => ⟨fun c => (h c).2, sem_eq_zero_of_no_sems (by decide) r.2⟩)
    (Cert.ReferenceDn2Ideal.Value.run (F := Ideal) m ρ)

/-- The kernel's array is the reference's. -/
theorem values : Cert.algebraic_KernelDn2Ideal_ReferenceDn2Ideal := fun m g m' g' _ ha => by
  refine ⟨_, Cert.KernelDn2Ideal.Value.run_blocks m g, (θ_run Cert.ReferenceDn2Ideal.defs _ _).mono (fun r h c => ?_) (Cert.ReferenceDn2Ideal.Value.run (F := Ideal) m' g')⟩
  obtain ⟨h0, hr⟩ := h c
  refine ⟨h0.trans ?_, hr⟩
  obtain ⟨e0, e1, e2⟩ := ha c
  rw [e2, e1, final m c]
  exact result _ _

end Cert.Proof.Products.Dn2

end
-- ==== Proof.DwDown.lean ====
/- The gradient of the weights of the layer that narrows. -/
module

public import proofs.«01_k».proof.Defs
public import proofs.«01_k».proof.Proof.Entries
public import Idealize.ShloMosaic.Lib.StableHlo.RunRead
public import proofs.«01_k».proof.Proof.Gen.KernelDwDown.Frame
public import proofs.«01_k».proof.Proof.Gen.KernelDwDownIdeal.Frame
public import proofs.«01_k».proof.Proof.Gen.KernelDwDownIdeal.Value
public import proofs.«01_k».proof.Proof.Gen.ReferenceDwDownIdeal.Run

@[expose] public section

set_option maxRecDepth 16384
set_option maxHeartbeats 1000000

noncomputable section

namespace Cert.Proof.Products.DwDown

open Finset Idealize.ShloMosaic Idealize.SL.Sem

section Kernel
open Cert.KernelDwDownIdeal Cert.KernelDwDownIdeal.Gen Idealize.ShloMosaic.TcCoe Idealize.ShloMosaic.Tactic

theorem index0 : ∀ t : Fin grid0.N, win0_0.index t = ![t.val % 11, 0] := by decide +kernel
theorem index1 : ∀ t : Fin grid0.N, win0_1.index t = ![t.val % 11, 0] := by decide +kernel

variable (m : (ℓ : Loc nD τ sig) → Buf (Elt Ideal) ℓ) (c : Dev nD)

/-! The operands and their blocks. -/

theorem operand0 : V m c main_v0 = (m ((c : Thread nD τ).loc main_arg0) : Array2 8448 2816) := by
  simp only [V]
  after_reads_simp
  rfl

theorem rows0 (q j : ℕ) (h : 11 * q + j < cfg0.N) (hj : j < 11) (r : Fin 768) (a : Fin 2816) : iblk m c 0 ⟨11 * q + j, h⟩ (ix2 r a)
    = ent (m ((c : Thread nD τ).loc main_arg0) : Array2 8448 2816) (768 * j + r.val) a.val := by
  rw [← operand0 m c]
  refine Eq.trans ?_ (ent_ix2 _ ⟨768 * j + r.val, by omega⟩ a)
  blk_ext [iblk, index0 ⟨11 * q + j, h⟩]

theorem operand1 : V m c main_v1 = (m ((c : Thread nD τ).loc main_arg2) : Array2 8448 1024) := by
  simp only [V]
  after_reads_simp
  rfl

theorem rows1 (q j : ℕ) (h : 11 * q + j < cfg0.N) (hj : j < 11) (r : Fin 768) (a : Fin 1024) : iblk m c 1 ⟨11 * q + j, h⟩ (ix2 r a)
    = ent (m ((c : Thread nD τ).loc main_arg2) : Array2 8448 1024) (768 * j + r.val) a.val := by
  rw [← operand1 m c]
  refine Eq.trans ?_ (ent_ix2 _ ⟨768 * j + r.val, by omega⟩ a)
  blk_ext [iblk, index1 ⟨11 * q + j, h⟩]

theorem step2 (n : ℕ) (h : n < cfg0.N) (x : Array2 2816 1024) (p : Fin 2816) (s : Fin 1024) : Value.step2 m c n h x (ix2 p s)
    = x (ix2 p s) + blockSum (iblk m c 0 ⟨n, h⟩ : Array2 768 2816) (iblk m c 1 ⟨n, h⟩ : Array2 768 1024) p s := by
  unfold Value.step2
  generalize iblk m c 0 ⟨n, h⟩ = u
  generalize iblk m c 1 ⟨n, h⟩ = w
  unfold blockSum
  pointwise [k0_pay1, k0_pay2]

theorem reset2 (n : ℕ) (h : n < cfg0.N) (p : Fin 2816) (s : Fin 1024) : Value.reset2 m c n h (ix2 p s)
    = blockSum (iblk m c 0 ⟨n, h⟩ : Array2 768 2816) (iblk m c 1 ⟨n, h⟩ : Array2 768 1024) p s := by
  unfold Value.reset2
  generalize iblk m c 0 ⟨n, h⟩ = u
  generalize iblk m c 1 ⟨n, h⟩ = w
  unfold blockSum
  pointwise [k0_pay1, k0_pay2]

/-- What a run of grid points accumulates. -/
theorem fold2 (q j : ℕ) (h : 11 * q + j < cfg0.N) (hj : j < 11) (p : Fin 2816) (s : Fin 1024) :
    Pipeline.accAt (Value.reset2 m c) (Value.step2 m c) (11 * q) j h (ix2 p s)
      = colCol (768 * (j + 1)) (ent (m ((c : Thread nD τ).loc main_arg0) : Array2 8448 2816))
        (ent (m ((c : Thread nD τ).loc main_arg2) : Array2 8448 1024)) p.val (0 + s.val) := by
  refine fold_blocks 768 (11 * q) 11 (0) _ _ _ _ (fun h p s => ?_) (fun j h hj x p s => ?_) j h hj p s
  · exact (reset2 m c (11 * q) h p s).trans (blockSum_eq (fun r => rows0 m c q 0 h (by omega) r p)
      fun r => (rows1 m c q 0 h (by omega) r s).trans (congrArg _ (Nat.zero_add s.val).symm))
  · exact (step2 m c (11 * q + j) h x p s).trans (congrArg _ (blockSum_eq (fun r => rows0 m c q j h hj r p)
      fun r => (rows1 m c q j h hj r s).trans (congrArg _ (Nat.zero_add s.val).symm)))

/-- What the kernel leaves. -/
theorem final2 : Value.G2 m c = arr 2816 1024 (colCol 8448 (ent (m ((c : Thread nD τ).loc main_arg0) : Array2 8448 2816))
    (ent (m ((c : Thread nD τ).loc main_arg2) : Array2 8448 1024))) := eq_arr fun a b => by
  have hN : cfg0.N = 11 := N_0
  have ha : a.val / 2816 = 0 := Nat.div_eq_of_lt a.isLt
  have e : Value.run2Of (ix2 a b) = b.val / 1024 := by
    show 1 * (a.val / 2816 - 0) + 1 * (b.val / 1024 - 0) = _
    omega
  have l : Value.loc2Of (ix2 a b) = ix2 ⟨a.val, a.isLt⟩ ⟨b.val % 1024, Nat.mod_lt _ (by decide)⟩ := by
    funext x
    fin_cases x
    · exact Fin.ext (Nat.mod_eq_of_lt a.isLt)
    · rfl
  unfold Value.G2
  rw [dif_pos (by rw [e]; omega), l]
  refine (fold2 m c _ 10 _ (by omega) _ _).trans ?_
  show colCol 8448 _ _ a.val (0 + b.val % 1024) = _
  rw [Nat.zero_add, Nat.mod_eq_of_lt b.isLt]

end Kernel

/-- What the reference computes. -/
theorem result (y : FVec Ideal Cert.ReferenceDwDownIdeal.S8448x1024 .f32) (x : FVec Ideal Cert.ReferenceDwDownIdeal.S8448x2816 .f32)
    (h : Cert.ReferenceDwDownIdeal.S1024x2816.Transposes [1, 0] Cert.ReferenceDwDownIdeal.S2816x1024) :
    transpose Cert.ReferenceDwDownIdeal.S2816x1024 [1, 0] (Host.dotGeneral Cert.ReferenceDwDownIdeal.dot_S8448x1024_S8448x2816_S1024x2816_0_0_1_1_n_n none y x : FVec Ideal Cert.ReferenceDwDownIdeal.S1024x2816 .f32) h
      = arr 2816 1024 (colCol 8448 (ent x) (ent y)) := eq_arr fun a b => by
  pointwise
  unfold colCol
  rw [sum_range]
  simp only [ent_ix2, mul_comm]

attribute [local instance] Cert.KernelDwDown.Gen.facts Cert.KernelDwDownIdeal.Gen.facts Cert.ReferenceDwDownIdeal.Gen.facts

theorem frame : Cert.quiescent_KernelDwDown := fun m ρ _ => Cert.KernelDwDown.Gen.frame m ρ

theorem frame_ideal : Cert.quiescent_KernelDwDownIdeal := fun m ρ _ => Cert.KernelDwDownIdeal.Gen.frame m ρ

theorem frame_reference : Cert.quiescent_ReferenceDwDownIdeal := fun m ρ _ =>
  (θ_run Cert.ReferenceDwDownIdeal.defs _ _).mono (fun r h => ⟨fun c => (h c).2, sem_eq_zero_of_no_sems (by decide) r.2⟩)
    (Cert.ReferenceDwDownIdeal.Value.run (F := Ideal) m ρ)

/-- The kernel's array is the reference's. -/
theorem values : Cert.algebraic_KernelDwDownIdeal_ReferenceDwDownIdeal := fun m g m' g' _ ha => by
  refine ⟨_, Cert.KernelDwDownIdeal.Value.run m g, (θ_run Cert.ReferenceDwDownIdeal.defs _ _).mono (fun r h c => ?_) (Cert.ReferenceDwDownIdeal.Value.run (F := Ideal) m' g')⟩
  obtain ⟨h0, hr⟩ := h c
  obtain ⟨e0, e1, e2⟩ := ha c
  refine ⟨h0.trans ?_, hr⟩
  rw [e0, e2, final2 m c]
  exact result _ _ _

end Cert.Proof.Products.DwDown

end
-- ==== Proof.Dact.lean ====
/- The gradient of the input of the layer that narrows. -/
module

public import proofs.«01_k».proof.Defs
public import proofs.«01_k».proof.Proof.Entries
public import Idealize.ShloMosaic.Lib.StableHlo.RunRead
public import proofs.«01_k».proof.Proof.Gen.KernelDact.Frame
public import proofs.«01_k».proof.Proof.Gen.KernelDactIdeal.Frame
public import proofs.«01_k».proof.Proof.Gen.KernelDactIdeal.Value
public import proofs.«01_k».proof.Proof.Gen.ReferenceDactIdeal.Run

@[expose] public section

set_option maxRecDepth 16384
set_option maxHeartbeats 1000000

noncomputable section

namespace Cert.Proof.Products.Dact

open Finset Idealize.ShloMosaic Idealize.SL.Sem

section Kernel
open Cert.KernelDactIdeal Cert.KernelDactIdeal.Gen Idealize.ShloMosaic.TcCoe Idealize.ShloMosaic.Tactic

theorem index0 : ∀ t : Fin grid0.N, win0_0.index t = ![(grid0.coords t 1).val, 0] := by decide +kernel
theorem index1 : ∀ t : Fin grid0.N, win0_1.index t = ![(grid0.coords t 0).val, 0] := by decide +kernel
theorem index2 : ∀ t : Fin grid0.N, win0_2.index t = ![(grid0.coords t 1).val, (grid0.coords t 0).val] := by decide +kernel

/-- The product of two blocks. -/
theorem block (x : Vec Ideal S768x1024 .bf16) (y : Vec Ideal S2816x1024 .bf16) (a : Fin 768) (b : Fin 2816) :
    k0_pay1 (F := Ideal) x y (ix2 a b) = ∑ k : Fin 1024, x (ix2 a k) * y (ix2 b k) := by
  pointwise [k0_pay1]

theorem stored (x : Vec Ideal S768x1024 .bf16) (y : Vec Ideal S2816x1024 .bf16) : out0_2 x y = k0_pay1 x y := by
  unfold out0_2
  rw [View.canon_cons_unit_zero (S := S768x2816) no_offsets, View.ld_unit_zero (S := S768x1024) no_offsets,
    View.ld_unit_zero (S := S2816x1024) no_offsets]

variable (m : (ℓ : Loc nD τ sig) → Buf (Elt Ideal) ℓ) (c : Dev nD) (t : Fin cfg0.N)

theorem left : V m c main_v0 = (m ((c : Thread nD τ).loc main_arg2) : Array2 8448 1024) := by
  simp only [V]
  after_reads_simp
  rfl

theorem right : V m c main_v1 = (m ((c : Thread nD τ).loc main_arg1) : Array2 2816 1024) := by
  simp only [V]
  after_reads_simp
  rfl

theorem rows (a : Fin 768) (k : Fin 1024) : iblk m c 0 t (ix2 a k)
    = ent (m ((c : Thread nD τ).loc main_arg2) : Array2 8448 1024) (768 * (grid0.coords t 1).val + a.val) k.val := by
  have hb : (grid0.coords t 1).val < 11 := (grid0.coords t 1).isLt
  rw [← left m c]
  refine Eq.trans ?_ (ent_ix2 _ ⟨768 * (grid0.coords t 1).val + a.val, by omega⟩ k)
  blk_ext [iblk, index0 t]

theorem cols (b : Fin 2816) (k : Fin 1024) : iblk m c 1 t (ix2 b k)
    = ent (m ((c : Thread nD τ).loc main_arg1) : Array2 2816 1024) (2816 * (grid0.coords t 0).val + b.val) k.val := by
  have hb : (grid0.coords t 0).val < 1 := (grid0.coords t 0).isLt
  rw [← right m c]
  refine Eq.trans ?_ (ent_ix2 _ ⟨2816 * (grid0.coords t 0).val + b.val, by omega⟩ k)
  blk_ext [iblk, index1 t]

/-- What a grid point stores. -/
theorem point (a : Fin 768) (b : Fin 2816) : out0_2 (iblk m c 0 t) (iblk m c 1 t) (ix2 a b) = rowRow 1024
    (ent (m ((c : Thread nD τ).loc main_arg2) : Array2 8448 1024))
    (ent (m ((c : Thread nD τ).loc main_arg1) : Array2 2816 1024))
    (768 * (grid0.coords t 1).val + a.val) (2816 * (grid0.coords t 0).val + b.val) := by
  rw [stored, block]
  unfold rowRow
  rw [sum_range]
  exact sum_congr rfl fun k _ => congrArg₂ (· * ·) (rows m c t a k) (cols m c t b k)

/-- What the kernel leaves. -/
theorem final : (dats m 0 c).arrAt 2 cfg0.N = arr 8448 2816 (rowRow 1024
    (ent (m ((c : Thread nD τ).loc main_arg2) : Array2 8448 1024))
    (ent (m ((c : Thread nD τ).loc main_arg1) : Array2 2816 1024))) := by
  refine (dats m 0 c).arrAt_eq_of_covers 2 _ (by decide +kernel) fun t hf y => ?_
  blk_simp
  rw [after0_2]
  refine (at_block (point m c t) y).trans ?_
  unfold arr
  blk_simp [index2 t]
  simp only [Nat.mul_comm, Nat.zero_mul, Nat.zero_add]

end Kernel

/-- What the reference computes. -/
theorem result (x : FVec Ideal Cert.ReferenceDactIdeal.S8448x1024 .f32) (y : FVec Ideal Cert.ReferenceDactIdeal.S2816x1024 .f32) :
    (Host.dotGeneral Cert.ReferenceDactIdeal.dot_S8448x1024_S2816x1024_S8448x2816_1_1_0_0_n_n none x y : FVec Ideal Cert.ReferenceDactIdeal.S8448x2816 .f32)
      = arr 8448 2816 (rowRow 1024 (ent x) (ent y)) := eq_arr fun a b => by
  pointwise
  unfold rowRow
  rw [sum_range]
  simp only [ent_ix2]

attribute [local instance] Cert.KernelDact.Gen.facts Cert.KernelDactIdeal.Gen.facts Cert.ReferenceDactIdeal.Gen.facts

theorem frame : Cert.quiescent_KernelDact := fun m ρ _ => Cert.KernelDact.Gen.frame m ρ

theorem frame_ideal : Cert.quiescent_KernelDactIdeal := fun m ρ _ => Cert.KernelDactIdeal.Gen.frame m ρ

theorem frame_reference : Cert.quiescent_ReferenceDactIdeal := fun m ρ _ =>
  (θ_run Cert.ReferenceDactIdeal.defs _ _).mono (fun r h => ⟨fun c => (h c).2, sem_eq_zero_of_no_sems (by decide) r.2⟩)
    (Cert.ReferenceDactIdeal.Value.run (F := Ideal) m ρ)

/-- The kernel's array is the reference's. -/
theorem values : Cert.algebraic_KernelDactIdeal_ReferenceDactIdeal := fun m g m' g' _ ha => by
  refine ⟨_, Cert.KernelDactIdeal.Value.run_blocks m g, (θ_run Cert.ReferenceDactIdeal.defs _ _).mono (fun r h c => ?_) (Cert.ReferenceDactIdeal.Value.run (F := Ideal) m' g')⟩
  obtain ⟨h0, hr⟩ := h c
  refine ⟨h0.trans ?_, hr⟩
  obtain ⟨e0, e1, e2⟩ := ha c
  rw [e2, e1, final m c]
  exact result _ _

end Cert.Proof.Products.Dact

end
-- ==== Proof.DwOut.lean ====
/- The gradient of the weights behind the mixers. -/
module

public import proofs.«01_k».proof.Defs
public import proofs.«01_k».proof.Proof.Entries
public import Idealize.ShloMosaic.Lib.StableHlo.RunRead
public import proofs.«01_k».proof.Proof.Gen.KernelDwOut.Frame
public import proofs.«01_k».proof.Proof.Gen.KernelDwOutIdeal.Frame
public import proofs.«01_k».proof.Proof.Gen.KernelDwOutIdeal.Value
public import proofs.«01_k».proof.Proof.Gen.ReferenceDwOutIdeal.Run

@[expose] public section

set_option maxRecDepth 16384
set_option maxHeartbeats 1000000

noncomputable section

namespace Cert.Proof.Products.DwOut

open Finset Idealize.ShloMosaic Idealize.SL.Sem

section Kernel
open Cert.KernelDwOutIdeal Cert.KernelDwOutIdeal.Gen Idealize.ShloMosaic.TcCoe Idealize.ShloMosaic.Tactic

theorem index0 : ∀ t : Fin grid0.N, win0_0.index t = ![t.val % 11, 0] := by decide +kernel
theorem index1 : ∀ t : Fin grid0.N, win0_1.index t = ![t.val % 11, 0] := by decide +kernel

variable (m : (ℓ : Loc nD τ sig) → Buf (Elt Ideal) ℓ) (c : Dev nD)

/-! The operands and their blocks. -/

theorem operand0 : V m c main_v0 = (m ((c : Thread nD τ).loc main_arg0) : Array2 8448 1024) := by
  simp only [V]
  after_reads_simp
  rfl

theorem rows0 (q j : ℕ) (h : 11 * q + j < cfg0.N) (hj : j < 11) (r : Fin 768) (a : Fin 1024) : iblk m c 0 ⟨11 * q + j, h⟩ (ix2 r a)
    = ent (m ((c : Thread nD τ).loc main_arg0) : Array2 8448 1024) (768 * j + r.val) a.val := by
  rw [← operand0 m c]
  refine Eq.trans ?_ (ent_ix2 _ ⟨768 * j + r.val, by omega⟩ a)
  blk_ext [iblk, index0 ⟨11 * q + j, h⟩]

theorem operand1 : V m c main_v1 = (m ((c : Thread nD τ).loc main_arg2) : Array2 8448 1024) := by
  simp only [V]
  after_reads_simp
  rfl

theorem rows1 (q j : ℕ) (h : 11 * q + j < cfg0.N) (hj : j < 11) (r : Fin 768) (a : Fin 1024) : iblk m c 1 ⟨11 * q + j, h⟩ (ix2 r a)
    = ent (m ((c : Thread nD τ).loc main_arg2) : Array2 8448 1024) (768 * j + r.val) a.val := by
  rw [← operand1 m c]
  refine Eq.trans ?_ (ent_ix2 _ ⟨768 * j + r.val, by omega⟩ a)
  blk_ext [iblk, index1 ⟨11 * q + j, h⟩]

theorem step2 (n : ℕ) (h : n < cfg0.N) (x : Array2 1024 1024) (p : Fin 1024) (s : Fin 1024) : Value.step2 m c n h x (ix2 p s)
    = x (ix2 p s) + blockSum (iblk m c 0 ⟨n, h⟩ : Array2 768 1024) (iblk m c 1 ⟨n, h⟩ : Array2 768 1024) p s := by
  unfold Value.step2
  generalize iblk m c 0 ⟨n, h⟩ = u
  generalize iblk m c 1 ⟨n, h⟩ = w
  unfold blockSum
  pointwise [k0_pay1, k0_pay2]

theorem reset2 (n : ℕ) (h : n < cfg0.N) (p : Fin 1024) (s : Fin 1024) : Value.reset2 m c n h (ix2 p s)
    = blockSum (iblk m c 0 ⟨n, h⟩ : Array2 768 1024) (iblk m c 1 ⟨n, h⟩ : Array2 768 1024) p s := by
  unfold Value.reset2
  generalize iblk m c 0 ⟨n, h⟩ = u
  generalize iblk m c 1 ⟨n, h⟩ = w
  unfold blockSum
  pointwise [k0_pay1, k0_pay2]

/-- What a run of grid points accumulates. -/
theorem fold2 (q j : ℕ) (h : 11 * q + j < cfg0.N) (hj : j < 11) (p : Fin 1024) (s : Fin 1024) :
    Pipeline.accAt (Value.reset2 m c) (Value.step2 m c) (11 * q) j h (ix2 p s)
      = colCol (768 * (j + 1)) (ent (m ((c : Thread nD τ).loc main_arg0) : Array2 8448 1024))
        (ent (m ((c : Thread nD τ).loc main_arg2) : Array2 8448 1024)) p.val (0 + s.val) := by
  refine fold_blocks 768 (11 * q) 11 (0) _ _ _ _ (fun h p s => ?_) (fun j h hj x p s => ?_) j h hj p s
  · exact (reset2 m c (11 * q) h p s).trans (blockSum_eq (fun r => rows0 m c q 0 h (by omega) r p)
      fun r => (rows1 m c q 0 h (by omega) r s).trans (congrArg _ (Nat.zero_add s.val).symm))
  · exact (step2 m c (11 * q + j) h x p s).trans (congrArg _ (blockSum_eq (fun r => rows0 m c q j h hj r p)
      fun r => (rows1 m c q j h hj r s).trans (congrArg _ (Nat.zero_add s.val).symm)))

/-- What the kernel leaves. -/
theorem final2 : Value.G2 m c = arr 1024 1024 (colCol 8448 (ent (m ((c : Thread nD τ).loc main_arg0) : Array2 8448 1024))
    (ent (m ((c : Thread nD τ).loc main_arg2) : Array2 8448 1024))) := eq_arr fun a b => by
  have hN : cfg0.N = 11 := N_0
  have ha : a.val / 1024 = 0 := Nat.div_eq_of_lt a.isLt
  have e : Value.run2Of (ix2 a b) = b.val / 1024 := by
    show 1 * (a.val / 1024 - 0) + 1 * (b.val / 1024 - 0) = _
    omega
  have l : Value.loc2Of (ix2 a b) = ix2 ⟨a.val, a.isLt⟩ ⟨b.val % 1024, Nat.mod_lt _ (by decide)⟩ := by
    funext x
    fin_cases x
    · exact Fin.ext (Nat.mod_eq_of_lt a.isLt)
    · rfl
  unfold Value.G2
  rw [dif_pos (by rw [e]; omega), l]
  refine (fold2 m c _ 10 _ (by omega) _ _).trans ?_
  show colCol 8448 _ _ a.val (0 + b.val % 1024) = _
  rw [Nat.zero_add, Nat.mod_eq_of_lt b.isLt]

end Kernel

/-- What the reference computes. -/
theorem result (y : FVec Ideal Cert.ReferenceDwOutIdeal.S8448x1024 .f32) (x : FVec Ideal Cert.ReferenceDwOutIdeal.S8448x1024 .f32)
    (h : Cert.ReferenceDwOutIdeal.S1024x1024.Transposes [1, 0] Cert.ReferenceDwOutIdeal.S1024x1024) :
    transpose Cert.ReferenceDwOutIdeal.S1024x1024 [1, 0] (Host.dotGeneral Cert.ReferenceDwOutIdeal.dot_S8448x1024_S8448x1024_S1024x1024_0_0_1_1_n_n none y x : FVec Ideal Cert.ReferenceDwOutIdeal.S1024x1024 .f32) h
      = arr 1024 1024 (colCol 8448 (ent x) (ent y)) := eq_arr fun a b => by
  pointwise
  unfold colCol
  rw [sum_range]
  simp only [ent_ix2, mul_comm]

attribute [local instance] Cert.KernelDwOut.Gen.facts Cert.KernelDwOutIdeal.Gen.facts Cert.ReferenceDwOutIdeal.Gen.facts

theorem frame : Cert.quiescent_KernelDwOut := fun m ρ _ => Cert.KernelDwOut.Gen.frame m ρ

theorem frame_ideal : Cert.quiescent_KernelDwOutIdeal := fun m ρ _ => Cert.KernelDwOutIdeal.Gen.frame m ρ

theorem frame_reference : Cert.quiescent_ReferenceDwOutIdeal := fun m ρ _ =>
  (θ_run Cert.ReferenceDwOutIdeal.defs _ _).mono (fun r h => ⟨fun c => (h c).2, sem_eq_zero_of_no_sems (by decide) r.2⟩)
    (Cert.ReferenceDwOutIdeal.Value.run (F := Ideal) m ρ)

/-- The kernel's array is the reference's. -/
theorem values : Cert.algebraic_KernelDwOutIdeal_ReferenceDwOutIdeal := fun m g m' g' _ ha => by
  refine ⟨_, Cert.KernelDwOutIdeal.Value.run m g, (θ_run Cert.ReferenceDwOutIdeal.defs _ _).mono (fun r h c => ?_) (Cert.ReferenceDwOutIdeal.Value.run (F := Ideal) m' g')⟩
  obtain ⟨h0, hr⟩ := h c
  obtain ⟨e0, e1, e2⟩ := ha c
  refine ⟨h0.trans ?_, hr⟩
  rw [e0, e2, final2 m c]
  exact result _ _ _

end Cert.Proof.Products.DwOut

end
-- ==== Proof.Dy.lean ====
/- The gradient of the mixers' output. -/
module

public import proofs.«01_k».proof.Defs
public import proofs.«01_k».proof.Proof.Entries
public import Idealize.ShloMosaic.Lib.StableHlo.RunRead
public import proofs.«01_k».proof.Proof.Gen.KernelDy.Frame
public import proofs.«01_k».proof.Proof.Gen.KernelDyIdeal.Frame
public import proofs.«01_k».proof.Proof.Gen.KernelDyIdeal.Value
public import proofs.«01_k».proof.Proof.Gen.ReferenceDyIdeal.Run

@[expose] public section

set_option maxRecDepth 16384
set_option maxHeartbeats 1000000

noncomputable section

namespace Cert.Proof.Products.Dy

open Finset Idealize.ShloMosaic Idealize.SL.Sem

section Kernel
open Cert.KernelDyIdeal Cert.KernelDyIdeal.Gen Idealize.ShloMosaic.TcCoe Idealize.ShloMosaic.Tactic

theorem index0 : ∀ t : Fin grid0.N, win0_0.index t = ![(grid0.coords t 1).val, 0] := by decide +kernel
theorem index1 : ∀ t : Fin grid0.N, win0_1.index t = ![(grid0.coords t 0).val, 0] := by decide +kernel
theorem index2 : ∀ t : Fin grid0.N, win0_2.index t = ![(grid0.coords t 1).val, (grid0.coords t 0).val] := by decide +kernel

/-- The product of two blocks. -/
theorem block (x : Vec Ideal S768x1024 .bf16) (y : Vec Ideal S1024x1024 .bf16) (a : Fin 768) (b : Fin 1024) :
    k0_pay1 (F := Ideal) x y (ix2 a b) = ∑ k : Fin 1024, x (ix2 a k) * y (ix2 b k) := by
  pointwise [k0_pay1]

theorem stored (x : Vec Ideal S768x1024 .bf16) (y : Vec Ideal S1024x1024 .bf16) : out0_2 x y = k0_pay1 x y := by
  unfold out0_2
  rw [View.canon_cons_unit_zero (S := S768x1024) no_offsets, View.ld_unit_zero (S := S768x1024) no_offsets,
    View.ld_unit_zero (S := S1024x1024) no_offsets]

variable (m : (ℓ : Loc nD τ sig) → Buf (Elt Ideal) ℓ) (c : Dev nD) (t : Fin cfg0.N)

theorem left : V m c main_v0 = (m ((c : Thread nD τ).loc main_arg2) : Array2 8448 1024) := by
  simp only [V]
  after_reads_simp
  rfl

theorem right : V m c main_v1 = (m ((c : Thread nD τ).loc main_arg1) : Array2 1024 1024) := by
  simp only [V]
  after_reads_simp
  rfl

theorem rows (a : Fin 768) (k : Fin 1024) : iblk m c 0 t (ix2 a k)
    = ent (m ((c : Thread nD τ).loc main_arg2) : Array2 8448 1024) (768 * (grid0.coords t 1).val + a.val) k.val := by
  have hb : (grid0.coords t 1).val < 11 := (grid0.coords t 1).isLt
  rw [← left m c]
  refine Eq.trans ?_ (ent_ix2 _ ⟨768 * (grid0.coords t 1).val + a.val, by omega⟩ k)
  blk_ext [iblk, index0 t]

theorem cols (b : Fin 1024) (k : Fin 1024) : iblk m c 1 t (ix2 b k)
    = ent (m ((c : Thread nD τ).loc main_arg1) : Array2 1024 1024) (1024 * (grid0.coords t 0).val + b.val) k.val := by
  have hb : (grid0.coords t 0).val < 1 := (grid0.coords t 0).isLt
  rw [← right m c]
  refine Eq.trans ?_ (ent_ix2 _ ⟨1024 * (grid0.coords t 0).val + b.val, by omega⟩ k)
  blk_ext [iblk, index1 t]

/-- What a grid point stores. -/
theorem point (a : Fin 768) (b : Fin 1024) : out0_2 (iblk m c 0 t) (iblk m c 1 t) (ix2 a b) = rowRow 1024
    (ent (m ((c : Thread nD τ).loc main_arg2) : Array2 8448 1024))
    (ent (m ((c : Thread nD τ).loc main_arg1) : Array2 1024 1024))
    (768 * (grid0.coords t 1).val + a.val) (1024 * (grid0.coords t 0).val + b.val) := by
  rw [stored, block]
  unfold rowRow
  rw [sum_range]
  exact sum_congr rfl fun k _ => congrArg₂ (· * ·) (rows m c t a k) (cols m c t b k)

/-- What the kernel leaves. -/
theorem final : (dats m 0 c).arrAt 2 cfg0.N = arr 8448 1024 (rowRow 1024
    (ent (m ((c : Thread nD τ).loc main_arg2) : Array2 8448 1024))
    (ent (m ((c : Thread nD τ).loc main_arg1) : Array2 1024 1024))) := by
  refine (dats m 0 c).arrAt_eq_of_covers 2 _ (by decide +kernel) fun t hf y => ?_
  blk_simp
  rw [after0_2]
  refine (at_block (point m c t) y).trans ?_
  unfold arr
  blk_simp [index2 t]
  simp only [Nat.mul_comm, Nat.zero_mul, Nat.zero_add]

end Kernel

/-- What the reference computes. -/
theorem result (x : FVec Ideal Cert.ReferenceDyIdeal.S8448x1024 .f32) (y : FVec Ideal Cert.ReferenceDyIdeal.S1024x1024 .f32) :
    (Host.dotGeneral Cert.ReferenceDyIdeal.dot_S8448x1024_S1024x1024_S8448x1024_1_1_0_0_n_n none x y : FVec Ideal Cert.ReferenceDyIdeal.S8448x1024 .f32)
      = arr 8448 1024 (rowRow 1024 (ent x) (ent y)) := eq_arr fun a b => by
  pointwise
  unfold rowRow
  rw [sum_range]
  simp only [ent_ix2]

attribute [local instance] Cert.KernelDy.Gen.facts Cert.KernelDyIdeal.Gen.facts Cert.ReferenceDyIdeal.Gen.facts

theorem frame : Cert.quiescent_KernelDy := fun m ρ _ => Cert.KernelDy.Gen.frame m ρ

theorem frame_ideal : Cert.quiescent_KernelDyIdeal := fun m ρ _ => Cert.KernelDyIdeal.Gen.frame m ρ

theorem frame_reference : Cert.quiescent_ReferenceDyIdeal := fun m ρ _ =>
  (θ_run Cert.ReferenceDyIdeal.defs _ _).mono (fun r h => ⟨fun c => (h c).2, sem_eq_zero_of_no_sems (by decide) r.2⟩)
    (Cert.ReferenceDyIdeal.Value.run (F := Ideal) m ρ)

/-- The kernel's array is the reference's. -/
theorem values : Cert.algebraic_KernelDyIdeal_ReferenceDyIdeal := fun m g m' g' _ ha => by
  refine ⟨_, Cert.KernelDyIdeal.Value.run_blocks m g, (θ_run Cert.ReferenceDyIdeal.defs _ _).mono (fun r h c => ?_) (Cert.ReferenceDyIdeal.Value.run (F := Ideal) m' g')⟩
  obtain ⟨h0, hr⟩ := h c
  refine ⟨h0.trans ?_, hr⟩
  obtain ⟨e0, e1, e2⟩ := ha c
  rw [e2, e1, final m c]
  exact result _ _

end Cert.Proof.Products.Dy

end
-- ==== Proof.DwInGdn.lean ====
/- The gradients of the input projection's weights that make the delta net's q, k, v, decay and beta. -/
module

public import proofs.«01_k».proof.Defs
public import proofs.«01_k».proof.Proof.Entries
public import Idealize.ShloMosaic.Lib.StableHlo.RunRead
public import proofs.«01_k».proof.Proof.Gen.KernelDwInGdn.Frame
public import proofs.«01_k».proof.Proof.Gen.KernelDwInGdnIdeal.Frame
public import proofs.«01_k».proof.Proof.Gen.KernelDwInGdnIdeal.Value
public import proofs.«01_k».proof.Proof.Gen.ReferenceDwInGdnIdeal.Run

@[expose] public section

set_option maxRecDepth 16384
set_option maxHeartbeats 1000000

noncomputable section

namespace Cert.Proof.Products.DwInGdn

open Finset Idealize.ShloMosaic Idealize.SL.Sem

section Kernel
open Cert.KernelDwInGdnIdeal Cert.KernelDwInGdnIdeal.Gen Idealize.ShloMosaic.TcCoe Idealize.ShloMosaic.Tactic

theorem index0 : ∀ t : Fin grid0.N, win0_0.index t = ![t.val % 11, 0] := by decide +kernel
theorem index1 : ∀ t : Fin grid0.N, win0_1.index t = ![t.val % 11, 0] := by decide +kernel
theorem index2 : ∀ t : Fin grid0.N, win0_2.index t = ![t.val % 11, 0] := by decide +kernel

variable (m : (ℓ : Loc nD τ sig) → Buf (Elt Ideal) ℓ) (c : Dev nD)

/-! The operands and their blocks. -/

theorem operand0 : V m c main_v0 = (m ((c : Thread nD τ).loc main_arg0) : Array2 8448 1024) := by
  simp only [V]
  after_reads_simp
  rfl

theorem rows0 (q j : ℕ) (h : 11 * q + j < cfg0.N) (hj : j < 11) (r : Fin 768) (a : Fin 1024) : iblk m c 0 ⟨11 * q + j, h⟩ (ix2 r a)
    = ent (m ((c : Thread nD τ).loc main_arg0) : Array2 8448 1024) (768 * j + r.val) a.val := by
  rw [← operand0 m c]
  refine Eq.trans ?_ (ent_ix2 _ ⟨768 * j + r.val, by omega⟩ a)
  blk_ext [iblk, index0 ⟨11 * q + j, h⟩]

theorem operand1 : V m c main_v1 = (m ((c : Thread nD τ).loc main_arg1) : Array2 8448 1536) := by
  simp only [V]
  after_reads_simp
  rfl

theorem rows1 (q j : ℕ) (h : 11 * q + j < cfg0.N) (hj : j < 11) (r : Fin 768) (a : Fin 1536) : iblk m c 1 ⟨11 * q + j, h⟩ (ix2 r a)
    = ent (m ((c : Thread nD τ).loc main_arg1) : Array2 8448 1536) (768 * j + r.val) a.val := by
  rw [← operand1 m c]
  refine Eq.trans ?_ (ent_ix2 _ ⟨768 * j + r.val, by omega⟩ a)
  blk_ext [iblk, index1 ⟨11 * q + j, h⟩]

theorem operand2 : V m c main_v2 = (m ((c : Thread nD τ).loc main_arg2) : Array2 8448 256) := by
  simp only [V]
  after_reads_simp
  rfl

theorem rows2 (q j : ℕ) (h : 11 * q + j < cfg0.N) (hj : j < 11) (r : Fin 768) (a : Fin 256) : iblk m c 2 ⟨11 * q + j, h⟩ (ix2 r a)
    = ent (m ((c : Thread nD τ).loc main_arg2) : Array2 8448 256) (768 * j + r.val) a.val := by
  rw [← operand2 m c]
  refine Eq.trans ?_ (ent_ix2 _ ⟨768 * j + r.val, by omega⟩ a)
  blk_ext [iblk, index2 ⟨11 * q + j, h⟩]

theorem step3 (n : ℕ) (h : n < cfg0.N) (x : Array2 1024 1536) (p : Fin 1024) (s : Fin 1536) : Value.step3 m c n h x (ix2 p s)
    = x (ix2 p s) + blockSum (iblk m c 0 ⟨n, h⟩ : Array2 768 1024) (iblk m c 1 ⟨n, h⟩ : Array2 768 1536) p s := by
  unfold Value.step3
  generalize iblk m c 0 ⟨n, h⟩ = u
  generalize iblk m c 1 ⟨n, h⟩ = w
  unfold blockSum
  pointwise [k0_pay1, k0_pay2, k0_pay3, k0_pay4, k0_pay5]

theorem reset3 (n : ℕ) (h : n < cfg0.N) (p : Fin 1024) (s : Fin 1536) : Value.reset3 m c n h (ix2 p s)
    = blockSum (iblk m c 0 ⟨n, h⟩ : Array2 768 1024) (iblk m c 1 ⟨n, h⟩ : Array2 768 1536) p s := by
  unfold Value.reset3
  generalize iblk m c 0 ⟨n, h⟩ = u
  generalize iblk m c 1 ⟨n, h⟩ = w
  unfold blockSum
  pointwise [k0_pay1, k0_pay2, k0_pay3, k0_pay4, k0_pay5]

/-- What a run of grid points accumulates. -/
theorem fold3 (q j : ℕ) (h : 11 * q + j < cfg0.N) (hj : j < 11) (p : Fin 1024) (s : Fin 1536) :
    Pipeline.accAt (Value.reset3 m c) (Value.step3 m c) (11 * q) j h (ix2 p s)
      = colCol (768 * (j + 1)) (ent (m ((c : Thread nD τ).loc main_arg0) : Array2 8448 1024))
        (ent (m ((c : Thread nD τ).loc main_arg1) : Array2 8448 1536)) p.val (0 + s.val) := by
  refine fold_blocks 768 (11 * q) 11 (0) _ _ _ _ (fun h p s => ?_) (fun j h hj x p s => ?_) j h hj p s
  · exact (reset3 m c (11 * q) h p s).trans (blockSum_eq (fun r => rows0 m c q 0 h (by omega) r p)
      fun r => (rows1 m c q 0 h (by omega) r s).trans (congrArg _ (Nat.zero_add s.val).symm))
  · exact (step3 m c (11 * q + j) h x p s).trans (congrArg _ (blockSum_eq (fun r => rows0 m c q j h hj r p)
      fun r => (rows1 m c q j h hj r s).trans (congrArg _ (Nat.zero_add s.val).symm)))

/-- What the kernel leaves. -/
theorem final3 : Value.G3 m c = arr 1024 1536 (colCol 8448 (ent (m ((c : Thread nD τ).loc main_arg0) : Array2 8448 1024))
    (ent (m ((c : Thread nD τ).loc main_arg1) : Array2 8448 1536))) := eq_arr fun a b => by
  have hN : cfg0.N = 11 := N_0
  have ha : a.val / 1024 = 0 := Nat.div_eq_of_lt a.isLt
  have e : Value.run3Of (ix2 a b) = b.val / 1536 := by
    show 1 * (a.val / 1024 - 0) + 1 * (b.val / 1536 - 0) = _
    omega
  have l : Value.loc3Of (ix2 a b) = ix2 ⟨a.val, a.isLt⟩ ⟨b.val % 1536, Nat.mod_lt _ (by decide)⟩ := by
    funext x
    fin_cases x
    · exact Fin.ext (Nat.mod_eq_of_lt a.isLt)
    · rfl
  unfold Value.G3
  rw [dif_pos (by rw [e]; omega), l]
  refine (fold3 m c _ 10 _ (by omega) _ _).trans ?_
  show colCol 8448 _ _ a.val (0 + b.val % 1536) = _
  rw [Nat.zero_add, Nat.mod_eq_of_lt b.isLt]

theorem step4 (n : ℕ) (h : n < cfg0.N) (x : Array2 1024 256) (p : Fin 1024) (s : Fin 256) : Value.step4 m c n h x (ix2 p s)
    = x (ix2 p s) + blockSum (iblk m c 0 ⟨n, h⟩ : Array2 768 1024) (iblk m c 2 ⟨n, h⟩ : Array2 768 256) p s := by
  unfold Value.step4
  generalize iblk m c 0 ⟨n, h⟩ = u
  generalize iblk m c 2 ⟨n, h⟩ = w
  unfold blockSum
  pointwise [k0_pay1, k0_pay2, k0_pay3, k0_pay4, k0_pay5]

theorem reset4 (n : ℕ) (h : n < cfg0.N) (p : Fin 1024) (s : Fin 256) : Value.reset4 m c n h (ix2 p s)
    = blockSum (iblk m c 0 ⟨n, h⟩ : Array2 768 1024) (iblk m c 2 ⟨n, h⟩ : Array2 768 256) p s := by
  unfold Value.reset4
  generalize iblk m c 0 ⟨n, h⟩ = u
  generalize iblk m c 2 ⟨n, h⟩ = w
  unfold blockSum
  pointwise [k0_pay1, k0_pay2, k0_pay3, k0_pay4, k0_pay5]

/-- What a run of grid points accumulates. -/
theorem fold4 (q j : ℕ) (h : 11 * q + j < cfg0.N) (hj : j < 11) (p : Fin 1024) (s : Fin 256) :
    Pipeline.accAt (Value.reset4 m c) (Value.step4 m c) (11 * q) j h (ix2 p s)
      = colCol (768 * (j + 1)) (ent (m ((c : Thread nD τ).loc main_arg0) : Array2 8448 1024))
        (ent (m ((c : Thread nD τ).loc main_arg2) : Array2 8448 256)) p.val (0 + s.val) := by
  refine fold_blocks 768 (11 * q) 11 (0) _ _ _ _ (fun h p s => ?_) (fun j h hj x p s => ?_) j h hj p s
  · exact (reset4 m c (11 * q) h p s).trans (blockSum_eq (fun r => rows0 m c q 0 h (by omega) r p)
      fun r => (rows2 m c q 0 h (by omega) r s).trans (congrArg _ (Nat.zero_add s.val).symm))
  · exact (step4 m c (11 * q + j) h x p s).trans (congrArg _ (blockSum_eq (fun r => rows0 m c q j h hj r p)
      fun r => (rows2 m c q j h hj r s).trans (congrArg _ (Nat.zero_add s.val).symm)))

/-- What the kernel leaves. -/
theorem final4 : Value.G4 m c = arr 1024 256 (colCol 8448 (ent (m ((c : Thread nD τ).loc main_arg0) : Array2 8448 1024))
    (ent (m ((c : Thread nD τ).loc main_arg2) : Array2 8448 256))) := eq_arr fun a b => by
  have hN : cfg0.N = 11 := N_0
  have ha : a.val / 1024 = 0 := Nat.div_eq_of_lt a.isLt
  have e : Value.run4Of (ix2 a b) = b.val / 256 := by
    show 1 * (a.val / 1024 - 0) + 1 * (b.val / 256 - 0) = _
    omega
  have l : Value.loc4Of (ix2 a b) = ix2 ⟨a.val, a.isLt⟩ ⟨b.val % 256, Nat.mod_lt _ (by decide)⟩ := by
    funext x
    fin_cases x
    · exact Fin.ext (Nat.mod_eq_of_lt a.isLt)
    · rfl
  unfold Value.G4
  rw [dif_pos (by rw [e]; omega), l]
  refine (fold4 m c _ 10 _ (by omega) _ _).trans ?_
  show colCol 8448 _ _ a.val (0 + b.val % 256) = _
  rw [Nat.zero_add, Nat.mod_eq_of_lt b.isLt]

end Kernel

/-- What the reference computes. -/
theorem result3 (y : FVec Ideal Cert.ReferenceDwInGdnIdeal.S8448x1536 .f32) (x : FVec Ideal Cert.ReferenceDwInGdnIdeal.S8448x1024 .f32)
    (h : Cert.ReferenceDwInGdnIdeal.S1536x1024.Transposes [1, 0] Cert.ReferenceDwInGdnIdeal.S1024x1536) :
    transpose Cert.ReferenceDwInGdnIdeal.S1024x1536 [1, 0] (Host.dotGeneral Cert.ReferenceDwInGdnIdeal.dot_S8448x1536_S8448x1024_S1536x1024_0_0_1_1_n_n none y x : FVec Ideal Cert.ReferenceDwInGdnIdeal.S1536x1024 .f32) h
      = arr 1024 1536 (colCol 8448 (ent x) (ent y)) := eq_arr fun a b => by
  pointwise
  unfold colCol
  rw [sum_range]
  simp only [ent_ix2, mul_comm]

/-- What the reference computes. -/
theorem result4 (y : FVec Ideal Cert.ReferenceDwInGdnIdeal.S8448x256 .f32) (x : FVec Ideal Cert.ReferenceDwInGdnIdeal.S8448x1024 .f32)
    (h : Cert.ReferenceDwInGdnIdeal.S256x1024.Transposes [1, 0] Cert.ReferenceDwInGdnIdeal.S1024x256) :
    transpose Cert.ReferenceDwInGdnIdeal.S1024x256 [1, 0] (Host.dotGeneral Cert.ReferenceDwInGdnIdeal.dot_S8448x256_S8448x1024_S256x1024_0_0_1_1_n_n none y x : FVec Ideal Cert.ReferenceDwInGdnIdeal.S256x1024 .f32) h
      = arr 1024 256 (colCol 8448 (ent x) (ent y)) := eq_arr fun a b => by
  pointwise
  unfold colCol
  rw [sum_range]
  simp only [ent_ix2, mul_comm]

attribute [local instance] Cert.KernelDwInGdn.Gen.facts Cert.KernelDwInGdnIdeal.Gen.facts Cert.ReferenceDwInGdnIdeal.Gen.facts

theorem frame : Cert.quiescent_KernelDwInGdn := fun m ρ _ => Cert.KernelDwInGdn.Gen.frame m ρ

theorem frame_ideal : Cert.quiescent_KernelDwInGdnIdeal := fun m ρ _ => Cert.KernelDwInGdnIdeal.Gen.frame m ρ

theorem frame_reference : Cert.quiescent_ReferenceDwInGdnIdeal := fun m ρ _ =>
  (θ_run Cert.ReferenceDwInGdnIdeal.defs _ _).mono (fun r h => ⟨fun c => (h c).2.2, sem_eq_zero_of_no_sems (by decide) r.2⟩)
    (Cert.ReferenceDwInGdnIdeal.Value.run (F := Ideal) m ρ)

/-- The kernel's arrays are the reference's. -/
theorem values : Cert.algebraic_KernelDwInGdnIdeal_ReferenceDwInGdnIdeal := fun m g m' g' _ ha => by
  refine ⟨_, _, Cert.KernelDwInGdnIdeal.Value.run m g, (θ_run Cert.ReferenceDwInGdnIdeal.defs _ _).mono (fun r h c => ?_) (Cert.ReferenceDwInGdnIdeal.Value.run (F := Ideal) m' g')⟩
  obtain ⟨h0, h1, hr⟩ := h c
  obtain ⟨e0, e1, e2⟩ := ha c
  refine ⟨h0.trans ?_, h1.trans ?_, hr⟩
  · rw [e0, e1, final3 m c]
    exact result3 _ _ _
  · rw [e0, e2, final4 m c]
    exact result4 _ _ _

end Cert.Proof.Products.DwInGdn

end
-- ==== Proof.DwInRest.lean ====
/- The gradients of the input projection's weights that make the gate and the attention's q, k and v. -/
module

public import proofs.«01_k».proof.Defs
public import proofs.«01_k».proof.Proof.Entries
public import Idealize.ShloMosaic.Lib.StableHlo.RunRead
public import proofs.«01_k».proof.Proof.Gen.KernelDwInRest.Frame
public import proofs.«01_k».proof.Proof.Gen.KernelDwInRestIdeal.Frame
public import proofs.«01_k».proof.Proof.Gen.KernelDwInRestIdeal.Value
public import proofs.«01_k».proof.Proof.Gen.ReferenceDwInRestIdeal.Run

@[expose] public section

set_option maxRecDepth 16384
set_option maxHeartbeats 1000000

noncomputable section

namespace Cert.Proof.Products.DwInRest

open Finset Idealize.ShloMosaic Idealize.SL.Sem

section Kernel
open Cert.KernelDwInRestIdeal Cert.KernelDwInRestIdeal.Gen Idealize.ShloMosaic.TcCoe Idealize.ShloMosaic.Tactic

theorem index0 : ∀ t : Fin grid0.N, win0_0.index t = ![t.val % 11, 0] := by decide +kernel
theorem index1 : ∀ t : Fin grid0.N, win0_1.index t = ![t.val % 11, 0] := by decide +kernel
theorem index2 : ∀ t : Fin grid0.N, win0_2.index t = ![t.val % 11, 0] := by decide +kernel
theorem index3 : ∀ t : Fin grid0.N, win0_3.index t = ![t.val % 11, 0] := by decide +kernel
theorem index4 : ∀ t : Fin grid0.N, win0_4.index t = ![t.val % 11, 0] := by decide +kernel

variable (m : (ℓ : Loc nD τ sig) → Buf (Elt Ideal) ℓ) (c : Dev nD)

/-! The operands and their blocks. -/

theorem operand0 : V m c main_v0 = (m ((c : Thread nD τ).loc main_arg0) : Array2 8448 1024) := by
  simp only [V]
  after_reads_simp
  rfl

theorem rows0 (q j : ℕ) (h : 11 * q + j < cfg0.N) (hj : j < 11) (r : Fin 768) (a : Fin 1024) : iblk m c 0 ⟨11 * q + j, h⟩ (ix2 r a)
    = ent (m ((c : Thread nD τ).loc main_arg0) : Array2 8448 1024) (768 * j + r.val) a.val := by
  rw [← operand0 m c]
  refine Eq.trans ?_ (ent_ix2 _ ⟨768 * j + r.val, by omega⟩ a)
  blk_ext [iblk, index0 ⟨11 * q + j, h⟩]

theorem operand1 : V m c main_v1 = (m ((c : Thread nD τ).loc main_arg1) : Array2 8448 512) := by
  simp only [V]
  after_reads_simp
  rfl

theorem rows1 (q j : ℕ) (h : 11 * q + j < cfg0.N) (hj : j < 11) (r : Fin 768) (a : Fin 512) : iblk m c 1 ⟨11 * q + j, h⟩ (ix2 r a)
    = ent (m ((c : Thread nD τ).loc main_arg1) : Array2 8448 512) (768 * j + r.val) a.val := by
  rw [← operand1 m c]
  refine Eq.trans ?_ (ent_ix2 _ ⟨768 * j + r.val, by omega⟩ a)
  blk_ext [iblk, index1 ⟨11 * q + j, h⟩]

theorem operand2 : V m c main_v2 = (m ((c : Thread nD τ).loc main_arg2) : Array2 8448 512) := by
  simp only [V]
  after_reads_simp
  rfl

theorem rows2 (q j : ℕ) (h : 11 * q + j < cfg0.N) (hj : j < 11) (r : Fin 768) (a : Fin 512) : iblk m c 2 ⟨11 * q + j, h⟩ (ix2 r a)
    = ent (m ((c : Thread nD τ).loc main_arg2) : Array2 8448 512) (768 * j + r.val) a.val := by
  rw [← operand2 m c]
  refine Eq.trans ?_ (ent_ix2 _ ⟨768 * j + r.val, by omega⟩ a)
  blk_ext [iblk, index2 ⟨11 * q + j, h⟩]

theorem operand3 : V m c main_arg3 = (m ((c : Thread nD τ).loc main_arg3) : Array2 8448 512) := V_main_arg3 m c

theorem rows3 (q j : ℕ) (h : 11 * q + j < cfg0.N) (hj : j < 11) (r : Fin 768) (a : Fin 512) : iblk m c 3 ⟨11 * q + j, h⟩ (ix2 r a)
    = ent (m ((c : Thread nD τ).loc main_arg3) : Array2 8448 512) (768 * j + r.val) a.val := by
  rw [← operand3 m c]
  refine Eq.trans ?_ (ent_ix2 _ ⟨768 * j + r.val, by omega⟩ a)
  blk_ext [iblk, index3 ⟨11 * q + j, h⟩]

theorem operand4 : V m c main_arg4 = (m ((c : Thread nD τ).loc main_arg4) : Array2 8448 512) := V_main_arg4 m c

theorem rows4 (q j : ℕ) (h : 11 * q + j < cfg0.N) (hj : j < 11) (r : Fin 768) (a : Fin 512) : iblk m c 4 ⟨11 * q + j, h⟩ (ix2 r a)
    = ent (m ((c : Thread nD τ).loc main_arg4) : Array2 8448 512) (768 * j + r.val) a.val := by
  rw [← operand4 m c]
  refine Eq.trans ?_ (ent_ix2 _ ⟨768 * j + r.val, by omega⟩ a)
  blk_ext [iblk, index4 ⟨11 * q + j, h⟩]

theorem step5 (n : ℕ) (h : n < cfg0.N) (x : Array2 1024 512) (p : Fin 1024) (s : Fin 512) : Value.step5 m c n h x (ix2 p s)
    = x (ix2 p s) + blockSum (iblk m c 0 ⟨n, h⟩ : Array2 768 1024) (iblk m c 1 ⟨n, h⟩ : Array2 768 512) p s := by
  unfold Value.step5
  generalize iblk m c 0 ⟨n, h⟩ = u
  generalize iblk m c 1 ⟨n, h⟩ = w
  unfold blockSum
  pointwise [k0_pay1, k0_pay2, k0_pay3, k0_pay4, k0_pay5, k0_pay6, k0_pay7, k0_pay8, k0_pay9, k0_pay10]

theorem reset5 (n : ℕ) (h : n < cfg0.N) (p : Fin 1024) (s : Fin 512) : Value.reset5 m c n h (ix2 p s)
    = blockSum (iblk m c 0 ⟨n, h⟩ : Array2 768 1024) (iblk m c 1 ⟨n, h⟩ : Array2 768 512) p s := by
  unfold Value.reset5
  generalize iblk m c 0 ⟨n, h⟩ = u
  generalize iblk m c 1 ⟨n, h⟩ = w
  unfold blockSum
  pointwise [k0_pay1, k0_pay2, k0_pay3, k0_pay4, k0_pay5, k0_pay6, k0_pay7, k0_pay8, k0_pay9, k0_pay10]

/-- What a run of grid points accumulates. -/
theorem fold5 (q j : ℕ) (h : 11 * q + j < cfg0.N) (hj : j < 11) (p : Fin 1024) (s : Fin 512) :
    Pipeline.accAt (Value.reset5 m c) (Value.step5 m c) (11 * q) j h (ix2 p s)
      = colCol (768 * (j + 1)) (ent (m ((c : Thread nD τ).loc main_arg0) : Array2 8448 1024))
        (ent (m ((c : Thread nD τ).loc main_arg1) : Array2 8448 512)) p.val (0 + s.val) := by
  refine fold_blocks 768 (11 * q) 11 (0) _ _ _ _ (fun h p s => ?_) (fun j h hj x p s => ?_) j h hj p s
  · exact (reset5 m c (11 * q) h p s).trans (blockSum_eq (fun r => rows0 m c q 0 h (by omega) r p)
      fun r => (rows1 m c q 0 h (by omega) r s).trans (congrArg _ (Nat.zero_add s.val).symm))
  · exact (step5 m c (11 * q + j) h x p s).trans (congrArg _ (blockSum_eq (fun r => rows0 m c q j h hj r p)
      fun r => (rows1 m c q j h hj r s).trans (congrArg _ (Nat.zero_add s.val).symm)))

/-- What the kernel leaves. -/
theorem final5 : Value.G5 m c = arr 1024 512 (colCol 8448 (ent (m ((c : Thread nD τ).loc main_arg0) : Array2 8448 1024))
    (ent (m ((c : Thread nD τ).loc main_arg1) : Array2 8448 512))) := eq_arr fun a b => by
  have hN : cfg0.N = 11 := N_0
  have ha : a.val / 1024 = 0 := Nat.div_eq_of_lt a.isLt
  have e : Value.run5Of (ix2 a b) = b.val / 512 := by
    show 1 * (a.val / 1024 - 0) + 1 * (b.val / 512 - 0) = _
    omega
  have l : Value.loc5Of (ix2 a b) = ix2 ⟨a.val, a.isLt⟩ ⟨b.val % 512, Nat.mod_lt _ (by decide)⟩ := by
    funext x
    fin_cases x
    · exact Fin.ext (Nat.mod_eq_of_lt a.isLt)
    · rfl
  unfold Value.G5
  rw [dif_pos (by rw [e]; omega), l]
  refine (fold5 m c _ 10 _ (by omega) _ _).trans ?_
  show colCol 8448 _ _ a.val (0 + b.val % 512) = _
  rw [Nat.zero_add, Nat.mod_eq_of_lt b.isLt]

theorem step6 (n : ℕ) (h : n < cfg0.N) (x : Array2 1024 512) (p : Fin 1024) (s : Fin 512) : Value.step6 m c n h x (ix2 p s)
    = x (ix2 p s) + blockSum (iblk m c 0 ⟨n, h⟩ : Array2 768 1024) (iblk m c 2 ⟨n, h⟩ : Array2 768 512) p s := by
  unfold Value.step6
  generalize iblk m c 0 ⟨n, h⟩ = u
  generalize iblk m c 2 ⟨n, h⟩ = w
  unfold blockSum
  pointwise [k0_pay1, k0_pay2, k0_pay3, k0_pay4, k0_pay5, k0_pay6, k0_pay7, k0_pay8, k0_pay9, k0_pay10]

theorem reset6 (n : ℕ) (h : n < cfg0.N) (p : Fin 1024) (s : Fin 512) : Value.reset6 m c n h (ix2 p s)
    = blockSum (iblk m c 0 ⟨n, h⟩ : Array2 768 1024) (iblk m c 2 ⟨n, h⟩ : Array2 768 512) p s := by
  unfold Value.reset6
  generalize iblk m c 0 ⟨n, h⟩ = u
  generalize iblk m c 2 ⟨n, h⟩ = w
  unfold blockSum
  pointwise [k0_pay1, k0_pay2, k0_pay3, k0_pay4, k0_pay5, k0_pay6, k0_pay7, k0_pay8, k0_pay9, k0_pay10]

/-- What a run of grid points accumulates. -/
theorem fold6 (q j : ℕ) (h : 11 * q + j < cfg0.N) (hj : j < 11) (p : Fin 1024) (s : Fin 512) :
    Pipeline.accAt (Value.reset6 m c) (Value.step6 m c) (11 * q) j h (ix2 p s)
      = colCol (768 * (j + 1)) (ent (m ((c : Thread nD τ).loc main_arg0) : Array2 8448 1024))
        (ent (m ((c : Thread nD τ).loc main_arg2) : Array2 8448 512)) p.val (0 + s.val) := by
  refine fold_blocks 768 (11 * q) 11 (0) _ _ _ _ (fun h p s => ?_) (fun j h hj x p s => ?_) j h hj p s
  · exact (reset6 m c (11 * q) h p s).trans (blockSum_eq (fun r => rows0 m c q 0 h (by omega) r p)
      fun r => (rows2 m c q 0 h (by omega) r s).trans (congrArg _ (Nat.zero_add s.val).symm))
  · exact (step6 m c (11 * q + j) h x p s).trans (congrArg _ (blockSum_eq (fun r => rows0 m c q j h hj r p)
      fun r => (rows2 m c q j h hj r s).trans (congrArg _ (Nat.zero_add s.val).symm)))

/-- What the kernel leaves. -/
theorem final6 : Value.G6 m c = arr 1024 512 (colCol 8448 (ent (m ((c : Thread nD τ).loc main_arg0) : Array2 8448 1024))
    (ent (m ((c : Thread nD τ).loc main_arg2) : Array2 8448 512))) := eq_arr fun a b => by
  have hN : cfg0.N = 11 := N_0
  have ha : a.val / 1024 = 0 := Nat.div_eq_of_lt a.isLt
  have e : Value.run6Of (ix2 a b) = b.val / 512 := by
    show 1 * (a.val / 1024 - 0) + 1 * (b.val / 512 - 0) = _
    omega
  have l : Value.loc6Of (ix2 a b) = ix2 ⟨a.val, a.isLt⟩ ⟨b.val % 512, Nat.mod_lt _ (by decide)⟩ := by
    funext x
    fin_cases x
    · exact Fin.ext (Nat.mod_eq_of_lt a.isLt)
    · rfl
  unfold Value.G6
  rw [dif_pos (by rw [e]; omega), l]
  refine (fold6 m c _ 10 _ (by omega) _ _).trans ?_
  show colCol 8448 _ _ a.val (0 + b.val % 512) = _
  rw [Nat.zero_add, Nat.mod_eq_of_lt b.isLt]

theorem step7 (n : ℕ) (h : n < cfg0.N) (x : Array2 1024 512) (p : Fin 1024) (s : Fin 512) : Value.step7 m c n h x (ix2 p s)
    = x (ix2 p s) + blockSum (iblk m c 0 ⟨n, h⟩ : Array2 768 1024) (iblk m c 3 ⟨n, h⟩ : Array2 768 512) p s := by
  unfold Value.step7
  generalize iblk m c 0 ⟨n, h⟩ = u
  generalize iblk m c 3 ⟨n, h⟩ = w
  unfold blockSum
  pointwise [k0_pay1, k0_pay2, k0_pay3, k0_pay4, k0_pay5, k0_pay6, k0_pay7, k0_pay8, k0_pay9, k0_pay10]

theorem reset7 (n : ℕ) (h : n < cfg0.N) (p : Fin 1024) (s : Fin 512) : Value.reset7 m c n h (ix2 p s)
    = blockSum (iblk m c 0 ⟨n, h⟩ : Array2 768 1024) (iblk m c 3 ⟨n, h⟩ : Array2 768 512) p s := by
  unfold Value.reset7
  generalize iblk m c 0 ⟨n, h⟩ = u
  generalize iblk m c 3 ⟨n, h⟩ = w
  unfold blockSum
  pointwise [k0_pay1, k0_pay2, k0_pay3, k0_pay4, k0_pay5, k0_pay6, k0_pay7, k0_pay8, k0_pay9, k0_pay10]

/-- What a run of grid points accumulates. -/
theorem fold7 (q j : ℕ) (h : 11 * q + j < cfg0.N) (hj : j < 11) (p : Fin 1024) (s : Fin 512) :
    Pipeline.accAt (Value.reset7 m c) (Value.step7 m c) (11 * q) j h (ix2 p s)
      = colCol (768 * (j + 1)) (ent (m ((c : Thread nD τ).loc main_arg0) : Array2 8448 1024))
        (ent (m ((c : Thread nD τ).loc main_arg3) : Array2 8448 512)) p.val (0 + s.val) := by
  refine fold_blocks 768 (11 * q) 11 (0) _ _ _ _ (fun h p s => ?_) (fun j h hj x p s => ?_) j h hj p s
  · exact (reset7 m c (11 * q) h p s).trans (blockSum_eq (fun r => rows0 m c q 0 h (by omega) r p)
      fun r => (rows3 m c q 0 h (by omega) r s).trans (congrArg _ (Nat.zero_add s.val).symm))
  · exact (step7 m c (11 * q + j) h x p s).trans (congrArg _ (blockSum_eq (fun r => rows0 m c q j h hj r p)
      fun r => (rows3 m c q j h hj r s).trans (congrArg _ (Nat.zero_add s.val).symm)))

/-- What the kernel leaves. -/
theorem final7 : Value.G7 m c = arr 1024 512 (colCol 8448 (ent (m ((c : Thread nD τ).loc main_arg0) : Array2 8448 1024))
    (ent (m ((c : Thread nD τ).loc main_arg3) : Array2 8448 512))) := eq_arr fun a b => by
  have hN : cfg0.N = 11 := N_0
  have ha : a.val / 1024 = 0 := Nat.div_eq_of_lt a.isLt
  have e : Value.run7Of (ix2 a b) = b.val / 512 := by
    show 1 * (a.val / 1024 - 0) + 1 * (b.val / 512 - 0) = _
    omega
  have l : Value.loc7Of (ix2 a b) = ix2 ⟨a.val, a.isLt⟩ ⟨b.val % 512, Nat.mod_lt _ (by decide)⟩ := by
    funext x
    fin_cases x
    · exact Fin.ext (Nat.mod_eq_of_lt a.isLt)
    · rfl
  unfold Value.G7
  rw [dif_pos (by rw [e]; omega), l]
  refine (fold7 m c _ 10 _ (by omega) _ _).trans ?_
  show colCol 8448 _ _ a.val (0 + b.val % 512) = _
  rw [Nat.zero_add, Nat.mod_eq_of_lt b.isLt]

theorem step8 (n : ℕ) (h : n < cfg0.N) (x : Array2 1024 512) (p : Fin 1024) (s : Fin 512) : Value.step8 m c n h x (ix2 p s)
    = x (ix2 p s) + blockSum (iblk m c 0 ⟨n, h⟩ : Array2 768 1024) (iblk m c 4 ⟨n, h⟩ : Array2 768 512) p s := by
  unfold Value.step8
  generalize iblk m c 0 ⟨n, h⟩ = u
  generalize iblk m c 4 ⟨n, h⟩ = w
  unfold blockSum
  pointwise [k0_pay1, k0_pay2, k0_pay3, k0_pay4, k0_pay5, k0_pay6, k0_pay7, k0_pay8, k0_pay9, k0_pay10]

theorem reset8 (n : ℕ) (h : n < cfg0.N) (p : Fin 1024) (s : Fin 512) : Value.reset8 m c n h (ix2 p s)
    = blockSum (iblk m c 0 ⟨n, h⟩ : Array2 768 1024) (iblk m c 4 ⟨n, h⟩ : Array2 768 512) p s := by
  unfold Value.reset8
  generalize iblk m c 0 ⟨n, h⟩ = u
  generalize iblk m c 4 ⟨n, h⟩ = w
  unfold blockSum
  pointwise [k0_pay1, k0_pay2, k0_pay3, k0_pay4, k0_pay5, k0_pay6, k0_pay7, k0_pay8, k0_pay9, k0_pay10]

/-- What a run of grid points accumulates. -/
theorem fold8 (q j : ℕ) (h : 11 * q + j < cfg0.N) (hj : j < 11) (p : Fin 1024) (s : Fin 512) :
    Pipeline.accAt (Value.reset8 m c) (Value.step8 m c) (11 * q) j h (ix2 p s)
      = colCol (768 * (j + 1)) (ent (m ((c : Thread nD τ).loc main_arg0) : Array2 8448 1024))
        (ent (m ((c : Thread nD τ).loc main_arg4) : Array2 8448 512)) p.val (0 + s.val) := by
  refine fold_blocks 768 (11 * q) 11 (0) _ _ _ _ (fun h p s => ?_) (fun j h hj x p s => ?_) j h hj p s
  · exact (reset8 m c (11 * q) h p s).trans (blockSum_eq (fun r => rows0 m c q 0 h (by omega) r p)
      fun r => (rows4 m c q 0 h (by omega) r s).trans (congrArg _ (Nat.zero_add s.val).symm))
  · exact (step8 m c (11 * q + j) h x p s).trans (congrArg _ (blockSum_eq (fun r => rows0 m c q j h hj r p)
      fun r => (rows4 m c q j h hj r s).trans (congrArg _ (Nat.zero_add s.val).symm)))

/-- What the kernel leaves. -/
theorem final8 : Value.G8 m c = arr 1024 512 (colCol 8448 (ent (m ((c : Thread nD τ).loc main_arg0) : Array2 8448 1024))
    (ent (m ((c : Thread nD τ).loc main_arg4) : Array2 8448 512))) := eq_arr fun a b => by
  have hN : cfg0.N = 11 := N_0
  have ha : a.val / 1024 = 0 := Nat.div_eq_of_lt a.isLt
  have e : Value.run8Of (ix2 a b) = b.val / 512 := by
    show 1 * (a.val / 1024 - 0) + 1 * (b.val / 512 - 0) = _
    omega
  have l : Value.loc8Of (ix2 a b) = ix2 ⟨a.val, a.isLt⟩ ⟨b.val % 512, Nat.mod_lt _ (by decide)⟩ := by
    funext x
    fin_cases x
    · exact Fin.ext (Nat.mod_eq_of_lt a.isLt)
    · rfl
  unfold Value.G8
  rw [dif_pos (by rw [e]; omega), l]
  refine (fold8 m c _ 10 _ (by omega) _ _).trans ?_
  show colCol 8448 _ _ a.val (0 + b.val % 512) = _
  rw [Nat.zero_add, Nat.mod_eq_of_lt b.isLt]

end Kernel

/-- What the reference computes. -/
theorem result (y : FVec Ideal Cert.ReferenceDwInRestIdeal.S8448x512 .f32) (x : FVec Ideal Cert.ReferenceDwInRestIdeal.S8448x1024 .f32)
    (h : Cert.ReferenceDwInRestIdeal.S512x1024.Transposes [1, 0] Cert.ReferenceDwInRestIdeal.S1024x512) :
    transpose Cert.ReferenceDwInRestIdeal.S1024x512 [1, 0] (Host.dotGeneral Cert.ReferenceDwInRestIdeal.dot_S8448x512_S8448x1024_S512x1024_0_0_1_1_n_n none y x : FVec Ideal Cert.ReferenceDwInRestIdeal.S512x1024 .f32) h
      = arr 1024 512 (colCol 8448 (ent x) (ent y)) := eq_arr fun a b => by
  pointwise
  unfold colCol
  rw [sum_range]
  simp only [ent_ix2, mul_comm]

attribute [local instance] Cert.KernelDwInRest.Gen.facts Cert.KernelDwInRestIdeal.Gen.facts Cert.ReferenceDwInRestIdeal.Gen.facts

theorem frame : Cert.quiescent_KernelDwInRest := fun m ρ _ => Cert.KernelDwInRest.Gen.frame m ρ

theorem frame_ideal : Cert.quiescent_KernelDwInRestIdeal := fun m ρ _ => Cert.KernelDwInRestIdeal.Gen.frame m ρ

theorem frame_reference : Cert.quiescent_ReferenceDwInRestIdeal := fun m ρ _ =>
  (θ_run Cert.ReferenceDwInRestIdeal.defs _ _).mono (fun r h => ⟨fun c => (h c).2.2.2.2, sem_eq_zero_of_no_sems (by decide) r.2⟩)
    (Cert.ReferenceDwInRestIdeal.Value.run (F := Ideal) m ρ)

/-- The kernel's arrays are the reference's. -/
theorem values : Cert.algebraic_KernelDwInRestIdeal_ReferenceDwInRestIdeal := fun m g m' g' _ ha => by
  refine ⟨_, _, _, _, Cert.KernelDwInRestIdeal.Value.run m g, (θ_run Cert.ReferenceDwInRestIdeal.defs _ _).mono (fun r h c => ?_) (Cert.ReferenceDwInRestIdeal.Value.run (F := Ideal) m' g')⟩
  obtain ⟨h0, h1, h2, h3, hr⟩ := h c
  obtain ⟨e0, e1, e2, e3, e4⟩ := ha c
  refine ⟨h0.trans ?_, h1.trans ?_, h2.trans ?_, h3.trans ?_, hr⟩
  · rw [e0, e1, final5 m c]
    exact result _ _ _
  · rw [e0, e2, final6 m c]
    exact result _ _ _
  · rw [e0, e3, final7 m c]
    exact result _ _ _
  · rw [e0, e4, final8 m c]
    exact result _ _ _

end Cert.Proof.Products.DwInRest

end
-- ==== Proof.Columns.lean ====
/- The columns of the mixers' input layer in the order in which the kernel keeps them. -/
module

public import proofs.«01_k».proof.Proof.Entries

@[expose] public section

namespace Cert.Proof.Products

open Finset

/-- The column of the layer that the kernel keeps as its column `j`: the first 1536 and the last 2048 come first, the 8
    between them after these; from column 3592 on there is none. -/
def source (j : ℕ) : ℕ := if j < 1536 then j else if j < 3584 then j + 8 else if j < 3592 then j - 2048 else 3592

theorem ent_outside {n0 n1 : ℕ} (x : Array2 n0 n1) (i : ℕ) {j : ℕ} (h : n1 ≤ j) : ent x i j = 0 := by
  unfold ent
  rw [dif_neg (by omega)]

/-- A product over the columns, added up piece by piece in the kernel's order: the columns that the kernel adds at the end are
    multiplied by zeros. -/
theorem sum_pieces {r w q z d e f g : ℕ → EReal} (hw : w 3592 = 0) (h0 : ∀ j < 1536, r j = q j) (h1 : ∀ j < 8, r (1536 + j) = g j)
    (h2 : ∀ j < 512, r (1544 + j) = z j) (h3 : ∀ j < 512, r (2056 + j) = d j) (h4 : ∀ j < 512, r (2568 + j) = e j)
    (h5 : ∀ j < 512, r (3080 + j) = f j) :
    ∑ j ∈ range 3592, r j * w j
      = ∑ j ∈ range 1536, q j * w (source j) + ∑ j ∈ range 512, z j * w (source (1536 + j))
        + ∑ j ∈ range 512, d j * w (source (2048 + j)) + ∑ j ∈ range 512, e j * w (source (2560 + j))
        + ∑ j ∈ range 512, f j * w (source (3072 + j)) + ∑ j ∈ range 256, g j * w (source (3584 + j)) := by
  have k0 : ∑ j ∈ range 1536, q j * w (source j) = ∑ j ∈ range 1536, r j * w j := sum_congr rfl fun j hj => by
    rw [mem_range] at hj
    rw [h0 j hj, show source j = j by unfold source; split_ifs <;> omega]
  have k2 : ∑ j ∈ range 512, z j * w (source (1536 + j)) = ∑ j ∈ range 512, r (1544 + j) * w (1544 + j) := sum_congr rfl fun j hj => by
    rw [mem_range] at hj
    rw [h2 j hj, show source (1536 + j) = 1544 + j by unfold source; split_ifs <;> omega]
  have k3 : ∑ j ∈ range 512, d j * w (source (2048 + j)) = ∑ j ∈ range 512, r (2056 + j) * w (2056 + j) := sum_congr rfl fun j hj => by
    rw [mem_range] at hj
    rw [h3 j hj, show source (2048 + j) = 2056 + j by unfold source; split_ifs <;> omega]
  have k4 : ∑ j ∈ range 512, e j * w (source (2560 + j)) = ∑ j ∈ range 512, r (2568 + j) * w (2568 + j) := sum_congr rfl fun j hj => by
    rw [mem_range] at hj
    rw [h4 j hj, show source (2560 + j) = 2568 + j by unfold source; split_ifs <;> omega]
  have k5 : ∑ j ∈ range 512, f j * w (source (3072 + j)) = ∑ j ∈ range 512, r (3080 + j) * w (3080 + j) := sum_congr rfl fun j hj => by
    rw [mem_range] at hj
    rw [h5 j hj, show source (3072 + j) = 3080 + j by unfold source; split_ifs <;> omega]
  have k1 : ∑ j ∈ range 256, g j * w (source (3584 + j)) = ∑ j ∈ range 8, r (1536 + j) * w (1536 + j) := by
    rw [show (256 : ℕ) = 8 + 248 from rfl, sum_range_add]
    have : ∑ j ∈ range 248, g (8 + j) * w (source (3584 + (8 + j))) = 0 := sum_eq_zero fun j hj => by
      rw [show source (3584 + (8 + j)) = 3592 by unfold source; split_ifs <;> omega, hw, mul_zero]
    rw [this, add_zero]
    refine sum_congr rfl fun j hj => ?_
    rw [mem_range] at hj
    rw [h1 j hj, show source (3584 + j) = 1536 + j by unfold source; split_ifs <;> omega]
  rw [k0, k1, k2, k3, k4, k5, show (3592 : ℕ) = 1536 + 8 + 512 + 512 + 512 + 512 from rfl]
  simp only [sum_range_add]
  abel

end Cert.Proof.Products

end
-- ==== Proof.Du.lean ====
/- The gradient of the mixers' input. -/
module

public import proofs.«01_k».proof.Defs
public import proofs.«01_k».proof.Proof.Columns
public import Idealize.ShloMosaic.Lib.StableHlo.RunRead
public import proofs.«01_k».proof.Proof.Gen.KernelDu.Frame
public import proofs.«01_k».proof.Proof.Gen.KernelDuIdeal.Frame
public import proofs.«01_k».proof.Proof.Gen.KernelDuIdeal.Value
public import proofs.«01_k».proof.Proof.Gen.ReferenceDuIdeal.Run

@[expose] public section

set_option maxRecDepth 16384
set_option maxHeartbeats 1000000

noncomputable section

namespace Cert.Proof.Products.Du

open Finset Idealize.ShloMosaic Idealize.SL.Sem

section Kernel
open Cert.KernelDuIdeal Cert.KernelDuIdeal.Gen Idealize.ShloMosaic.TcCoe Idealize.ShloMosaic.Tactic

theorem index0 : ∀ t : Fin grid0.N, win0_0.index t = ![(grid0.coords t 1).val, 0] := by decide +kernel
theorem index1 : ∀ t : Fin grid0.N, win0_1.index t = ![(grid0.coords t 1).val, 0] := by decide +kernel
theorem index2 : ∀ t : Fin grid0.N, win0_2.index t = ![(grid0.coords t 1).val, 0] := by decide +kernel
theorem index3 : ∀ t : Fin grid0.N, win0_3.index t = ![(grid0.coords t 1).val, 0] := by decide +kernel
theorem index4 : ∀ t : Fin grid0.N, win0_4.index t = ![(grid0.coords t 1).val, 0] := by decide +kernel
theorem index5 : ∀ t : Fin grid0.N, win0_5.index t = ![(grid0.coords t 1).val, 0] := by decide +kernel
theorem index6 : ∀ t : Fin grid0.N, win0_6.index t = ![0, 0] := by decide +kernel
theorem index7 : ∀ t : Fin grid0.N, win0_7.index t = ![0, 3] := by decide +kernel
theorem index8 : ∀ t : Fin grid0.N, win0_8.index t = ![0, 4] := by decide +kernel
theorem index9 : ∀ t : Fin grid0.N, win0_9.index t = ![0, 5] := by decide +kernel
theorem index10 : ∀ t : Fin grid0.N, win0_10.index t = ![0, 6] := by decide +kernel
theorem index11 : ∀ t : Fin grid0.N, win0_11.index t = ![0, 14] := by decide +kernel
theorem index12 : ∀ t : Fin grid0.N, win0_12.index t = ![(grid0.coords t 1).val, 0] := by decide +kernel

/-- The six products of a block, added up. -/
def six (x0 : Vec Ideal S768x1536 .bf16) (x1 : Vec Ideal S768x512 .bf16) (x2 : Vec Ideal S768x512 .bf16) (x3 : Vec Ideal S768x512 .f32) (x4 : Vec Ideal S768x512 .f32) (x5 : Vec Ideal S768x256 .bf16)
    (y0 : Vec Ideal S1024x1536 .bf16) (y1 : Vec Ideal S1024x512 .bf16) (y2 : Vec Ideal S1024x512 .bf16) (y3 : Vec Ideal S1024x512 .bf16) (y4 : Vec Ideal S1024x512 .bf16) (y5 : Vec Ideal S1024x256 .bf16) : FVec Ideal S768x1024 .f32 :=
  k0_pay1 (F := Ideal) (k0_pay2 x0 y0 x1 y1 x2 y2 x3 y3 x4 y4) (k0_pay3 x5) y5

theorem block (x0 : Vec Ideal S768x1536 .bf16) (x1 : Vec Ideal S768x512 .bf16) (x2 : Vec Ideal S768x512 .bf16) (x3 : Vec Ideal S768x512 .f32) (x4 : Vec Ideal S768x512 .f32) (x5 : Vec Ideal S768x256 .bf16)
    (y0 : Vec Ideal S1024x1536 .bf16) (y1 : Vec Ideal S1024x512 .bf16) (y2 : Vec Ideal S1024x512 .bf16) (y3 : Vec Ideal S1024x512 .bf16) (y4 : Vec Ideal S1024x512 .bf16) (y5 : Vec Ideal S1024x256 .bf16) (a : Fin 768) (b : Fin 1024) :
    six x0 x1 x2 x3 x4 x5 y0 y1 y2 y3 y4 y5 (ix2 a b)
      = (∑ k : Fin 1536, x0 (ix2 a k) * y0 (ix2 b k)) + (∑ k : Fin 512, x1 (ix2 a k) * y1 (ix2 b k)) + (∑ k : Fin 512, x2 (ix2 a k) * y2 (ix2 b k)) + (∑ k : Fin 512, x3 (ix2 a k) * y3 (ix2 b k)) + (∑ k : Fin 512, x4 (ix2 a k) * y4 (ix2 b k)) + (∑ k : Fin 256, x5 (ix2 a k) * y5 (ix2 b k)) := by
  pointwise [six, k0_pay1, k0_pay2, k0_pay3]

/-- The weights with their columns in the kernel's order. -/
def weights (w : FVec Ideal S1024x3592 .f32) : FVec Ideal S1024x3840 .bf16 :=
  concatenate S1024x3840 1
    [⟨S1024x1536, extractStridedSlice S1024x1536 ![0, 0] (truncf .bf16 w bitsLt_bf16_f32) slices_S1024x3592_S1024x1536_0_0⟩,
     ⟨S1024x512, extractStridedSlice S1024x512 ![0, 1544] (truncf .bf16 w bitsLt_bf16_f32) slices_S1024x3592_S1024x512_0_1544⟩,
     ⟨S1024x1536, extractStridedSlice S1024x1536 ![0, 2056] (truncf .bf16 w bitsLt_bf16_f32) slices_S1024x3592_S1024x1536_0_2056⟩,
     ⟨S1024x8, extractStridedSlice S1024x8 ![0, 1536] (truncf .bf16 w bitsLt_bf16_f32) slices_S1024x3592_S1024x8_0_1536⟩,
     ⟨S1024x248, broadcastInDim S1024x248 ![] bcast_S_S1024x248 (constant S_ .bf16 0x0000#16)⟩]
    concatenates_S1024x1536_S1024x512_S1024x1536_S1024x8_S1024x248_S1024x3840_d1

theorem weights_entry (w : FVec Ideal S1024x3592 .f32) (k : Fin 1024) (b : Fin 3840) :
    weights w (ix2 k b) = ent (w : Array2 1024 3592) k.val (source b.val) := by
  have hb := b.isLt
  pointwise [weights]
  have e (n : ℕ) (hn : n < 3592) (h : source b.val = n) : w (ix2 k ⟨n, hn⟩) = ent (w : Array2 1024 3592) k.val (source b.val) := by
    rw [h]
    exact ent_ix2 (w : Array2 1024 3592) k ⟨n, hn⟩
  split_ifs
  all_goals first
    | exact e _ _ (by unfold source; split_ifs <;> omega)
    | exact (ent_outside _ _ (by unfold source; split_ifs <;> omega)).symm

variable (m : (ℓ : Loc nD τ sig) → Buf (Elt Ideal) ℓ) (c : Dev nD) (t : Fin cfg0.N)

theorem left0 : V m c main_v0 = (m ((c : Thread nD τ).loc main_arg1) : Array2 8448 1536) := by
  simp only [V]
  after_reads_simp
  rfl

theorem left1 : V m c main_v1 = (m ((c : Thread nD τ).loc main_arg2) : Array2 8448 512) := by
  simp only [V]
  after_reads_simp
  rfl

theorem left2 : V m c main_v2 = (m ((c : Thread nD τ).loc main_arg3) : Array2 8448 512) := by
  simp only [V]
  after_reads_simp
  rfl

theorem left3 : V m c main_arg4 = (m ((c : Thread nD τ).loc main_arg4) : Array2 8448 512) := by
  simp only [V]
  after_reads_simp

theorem left4 : V m c main_arg5 = (m ((c : Thread nD τ).loc main_arg5) : Array2 8448 512) := by
  simp only [V]
  after_reads_simp

theorem left5 : V m c main_v3 = (m ((c : Thread nD τ).loc main_arg6) : Array2 8448 256) := by
  simp only [V]
  after_reads_simp
  rfl

theorem right : V m c main_v10 = (weights (m ((c : Thread nD τ).loc main_arg0)) : Array2 1024 3840) := by
  simp only [V]
  after_reads_simp
  rfl

theorem rows0 (a : Fin 768) (k : Fin 1536) : iblk m c 0 t (ix2 a k)
    = ent (m ((c : Thread nD τ).loc main_arg1) : Array2 8448 1536) (768 * (grid0.coords t 1).val + a.val) k.val := by
  have hb : (grid0.coords t 1).val < 11 := (grid0.coords t 1).isLt
  rw [← left0 m c]
  refine Eq.trans ?_ (ent_ix2 _ ⟨768 * (grid0.coords t 1).val + a.val, by omega⟩ k)
  blk_ext [iblk, index0 t]

theorem rows1 (a : Fin 768) (k : Fin 512) : iblk m c 1 t (ix2 a k)
    = ent (m ((c : Thread nD τ).loc main_arg2) : Array2 8448 512) (768 * (grid0.coords t 1).val + a.val) k.val := by
  have hb : (grid0.coords t 1).val < 11 := (grid0.coords t 1).isLt
  rw [← left1 m c]
  refine Eq.trans ?_ (ent_ix2 _ ⟨768 * (grid0.coords t 1).val + a.val, by omega⟩ k)
  blk_ext [iblk, index1 t]

theorem rows2 (a : Fin 768) (k : Fin 512) : iblk m c 2 t (ix2 a k)
    = ent (m ((c : Thread nD τ).loc main_arg3) : Array2 8448 512) (768 * (grid0.coords t 1).val + a.val) k.val := by
  have hb : (grid0.coords t 1).val < 11 := (grid0.coords t 1).isLt
  rw [← left2 m c]
  refine Eq.trans ?_ (ent_ix2 _ ⟨768 * (grid0.coords t 1).val + a.val, by omega⟩ k)
  blk_ext [iblk, index2 t]

theorem rows3 (a : Fin 768) (k : Fin 512) : iblk m c 3 t (ix2 a k)
    = ent (m ((c : Thread nD τ).loc main_arg4) : Array2 8448 512) (768 * (grid0.coords t 1).val + a.val) k.val := by
  have hb : (grid0.coords t 1).val < 11 := (grid0.coords t 1).isLt
  rw [← left3 m c]
  refine Eq.trans ?_ (ent_ix2 _ ⟨768 * (grid0.coords t 1).val + a.val, by omega⟩ k)
  blk_ext [iblk, index3 t]

theorem rows4 (a : Fin 768) (k : Fin 512) : iblk m c 4 t (ix2 a k)
    = ent (m ((c : Thread nD τ).loc main_arg5) : Array2 8448 512) (768 * (grid0.coords t 1).val + a.val) k.val := by
  have hb : (grid0.coords t 1).val < 11 := (grid0.coords t 1).isLt
  rw [← left4 m c]
  refine Eq.trans ?_ (ent_ix2 _ ⟨768 * (grid0.coords t 1).val + a.val, by omega⟩ k)
  blk_ext [iblk, index4 t]

theorem rows5 (a : Fin 768) (k : Fin 256) : iblk m c 5 t (ix2 a k)
    = ent (m ((c : Thread nD τ).loc main_arg6) : Array2 8448 256) (768 * (grid0.coords t 1).val + a.val) k.val := by
  have hb : (grid0.coords t 1).val < 11 := (grid0.coords t 1).isLt
  rw [← left5 m c]
  refine Eq.trans ?_ (ent_ix2 _ ⟨768 * (grid0.coords t 1).val + a.val, by omega⟩ k)
  blk_ext [iblk, index5 t]

theorem cols0 (b : Fin 1024) (k : Fin 1536) : X0_6 m c t (ix2 b k)
    = ent (m ((c : Thread nD τ).loc main_arg0) : Array2 1024 3592) b.val (source (k.val)) := by
  refine Eq.trans ?_ (weights_entry _ b ⟨k.val, by omega⟩)
  rw [← right m c]
  unfold X0_6 Pipeline.Window.fill
  rw [dif_pos (moved0_6 t _)]
  blk_ext [iblk, index6 t]

theorem cols1 (b : Fin 1024) (k : Fin 512) : X0_7 m c t (ix2 b k)
    = ent (m ((c : Thread nD τ).loc main_arg0) : Array2 1024 3592) b.val (source (1536 + k.val)) := by
  refine Eq.trans ?_ (weights_entry _ b ⟨1536 + k.val, by omega⟩)
  rw [← right m c]
  unfold X0_7 Pipeline.Window.fill
  rw [dif_pos (moved0_7 t _)]
  blk_ext [iblk, index7 t]

theorem cols2 (b : Fin 1024) (k : Fin 512) : X0_8 m c t (ix2 b k)
    = ent (m ((c : Thread nD τ).loc main_arg0) : Array2 1024 3592) b.val (source (2048 + k.val)) := by
  refine Eq.trans ?_ (weights_entry _ b ⟨2048 + k.val, by omega⟩)
  rw [← right m c]
  unfold X0_8 Pipeline.Window.fill
  rw [dif_pos (moved0_8 t _)]
  blk_ext [iblk, index8 t]

theorem cols3 (b : Fin 1024) (k : Fin 512) : X0_9 m c t (ix2 b k)
    = ent (m ((c : Thread nD τ).loc main_arg0) : Array2 1024 3592) b.val (source (2560 + k.val)) := by
  refine Eq.trans ?_ (weights_entry _ b ⟨2560 + k.val, by omega⟩)
  rw [← right m c]
  unfold X0_9 Pipeline.Window.fill
  rw [dif_pos (moved0_9 t _)]
  blk_ext [iblk, index9 t]

theorem cols4 (b : Fin 1024) (k : Fin 512) : X0_10 m c t (ix2 b k)
    = ent (m ((c : Thread nD τ).loc main_arg0) : Array2 1024 3592) b.val (source (3072 + k.val)) := by
  refine Eq.trans ?_ (weights_entry _ b ⟨3072 + k.val, by omega⟩)
  rw [← right m c]
  unfold X0_10 Pipeline.Window.fill
  rw [dif_pos (moved0_10 t _)]
  blk_ext [iblk, index10 t]

theorem cols5 (b : Fin 1024) (k : Fin 256) : iblk m c 11 t (ix2 b k)
    = ent (m ((c : Thread nD τ).loc main_arg0) : Array2 1024 3592) b.val (source (3584 + k.val)) := by
  refine Eq.trans ?_ (weights_entry _ b ⟨3584 + k.val, by omega⟩)
  rw [← right m c]
  blk_ext [iblk, index11 t]

theorem stored : outsAt0 m c t = six (iblk m c 0 t) (iblk m c 1 t) (iblk m c 2 t) (iblk m c 3 t) (iblk m c 4 t) (iblk m c 5 t) (X0_6 m c t) (X0_7 m c t) (X0_8 m c t) (X0_9 m c t) (X0_10 m c t) (iblk m c 11 t) := by
  unfold outsAt0 out0_A_12
  rw [View.read_writes_eq_canon _ _ _ (cover0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (X0_6 m c t) (X0_7 m c t) (X0_8 m c t) (X0_9 m c t) (X0_10 m c t) (iblk m c 11 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread]
  rw [View.canon_cons_unit_zero (S := S768x1024) no_offsets]
  rw [View.ld_unit_zero (S := S768x1536) no_offsets, View.ld_unit_zero (S := S1024x1536) no_offsets, View.ld_unit_zero (S := S768x512) no_offsets, View.ld_unit_zero (S := S1024x512) no_offsets, View.ld_unit_zero (S := S768x512) no_offsets, View.ld_unit_zero (S := S1024x512) no_offsets, View.ld_unit_zero (S := S768x512) no_offsets, View.ld_unit_zero (S := S1024x512) no_offsets, View.ld_unit_zero (S := S768x512) no_offsets, View.ld_unit_zero (S := S1024x512) no_offsets, View.ld_unit_zero (S := S768x256) no_offsets, View.ld_unit_zero (S := S1024x256) no_offsets]
  rfl

/-- What the kernel computes from the pieces and the weights: products over the pieces, the columns of the weights in the
    kernel's order. -/
def pieces (q z d e f g w : ℕ → ℕ → EReal) (i j : ℕ) : EReal :=
  ∑ k ∈ range 1536, q i k * w j (source k) + ∑ k ∈ range 512, z i k * w j (source (1536 + k))
    + ∑ k ∈ range 512, d i k * w j (source (2048 + k)) + ∑ k ∈ range 512, e i k * w j (source (2560 + k))
    + ∑ k ∈ range 512, f i k * w j (source (3072 + k)) + ∑ k ∈ range 256, g i k * w j (source (3584 + k))

/-- What a grid point stores. -/
theorem point (a : Fin 768) (b : Fin 1024) : outsAt0 m c t (ix2 a b) = pieces
    (ent (m ((c : Thread nD τ).loc main_arg1) : Array2 8448 1536))
    (ent (m ((c : Thread nD τ).loc main_arg2) : Array2 8448 512))
    (ent (m ((c : Thread nD τ).loc main_arg3) : Array2 8448 512))
    (ent (m ((c : Thread nD τ).loc main_arg4) : Array2 8448 512))
    (ent (m ((c : Thread nD τ).loc main_arg5) : Array2 8448 512))
    (ent (m ((c : Thread nD τ).loc main_arg6) : Array2 8448 256))
    (ent (m ((c : Thread nD τ).loc main_arg0) : Array2 1024 3592))
    (768 * (grid0.coords t 1).val + a.val) (0 + b.val) := by
  rw [stored, block, Nat.zero_add]
  unfold pieces
  simp only [sum_range]
  refine congrArg₂ (· + ·) (congrArg₂ (· + ·) (congrArg₂ (· + ·) (congrArg₂ (· + ·) (congrArg₂ (· + ·) ?_ ?_) ?_) ?_) ?_) ?_
  · exact sum_congr rfl fun k _ => congrArg₂ (· * ·) (rows0 m c t a k) (cols0 m c t b k)
  · exact sum_congr rfl fun k _ => congrArg₂ (· * ·) (rows1 m c t a k) (cols1 m c t b k)
  · exact sum_congr rfl fun k _ => congrArg₂ (· * ·) (rows2 m c t a k) (cols2 m c t b k)
  · exact sum_congr rfl fun k _ => congrArg₂ (· * ·) (rows3 m c t a k) (cols3 m c t b k)
  · exact sum_congr rfl fun k _ => congrArg₂ (· * ·) (rows4 m c t a k) (cols4 m c t b k)
  · exact sum_congr rfl fun k _ => congrArg₂ (· * ·) (rows5 m c t a k) (cols5 m c t b k)

/-- What the kernel leaves. -/
theorem final : (dats m 0 c).arrAt 12 cfg0.N = arr 8448 1024 (pieces
    (ent (m ((c : Thread nD τ).loc main_arg1) : Array2 8448 1536))
    (ent (m ((c : Thread nD τ).loc main_arg2) : Array2 8448 512))
    (ent (m ((c : Thread nD τ).loc main_arg3) : Array2 8448 512))
    (ent (m ((c : Thread nD τ).loc main_arg4) : Array2 8448 512))
    (ent (m ((c : Thread nD τ).loc main_arg5) : Array2 8448 512))
    (ent (m ((c : Thread nD τ).loc main_arg6) : Array2 8448 256))
    (ent (m ((c : Thread nD τ).loc main_arg0) : Array2 1024 3592))) := by
  refine (dats m 0 c).arrAt_eq_of_covers 12 _ (by decide +kernel) fun t hf y => ?_
  blk_simp
  rw [after0_12]
  refine (at_block (point m c t) y).trans ?_
  unfold arr
  blk_simp [index12 t]
  simp only [Nat.mul_comm, Nat.zero_mul, Nat.zero_add]

end Kernel

/-- The pieces side by side, in the order of the layer's columns. -/
def joined (q : FVec Ideal Cert.ReferenceDuIdeal.S8448x1536 .f32) (z d e f : FVec Ideal Cert.ReferenceDuIdeal.S8448x512 .f32) (g : FVec Ideal Cert.ReferenceDuIdeal.S8448x256 .f32) : FVec Ideal Cert.ReferenceDuIdeal.S8448x3592 .f32 :=
  concatenate Cert.ReferenceDuIdeal.S8448x3592 1 [⟨Cert.ReferenceDuIdeal.S8448x1536, q⟩,
    ⟨Cert.ReferenceDuIdeal.S8448x8, extractStridedSlice Cert.ReferenceDuIdeal.S8448x8 ![0, 0] g Cert.ReferenceDuIdeal.Gen.slices_S8448x256_S8448x8_0_0⟩,
    ⟨Cert.ReferenceDuIdeal.S8448x512, z⟩, ⟨Cert.ReferenceDuIdeal.S8448x512, d⟩, ⟨Cert.ReferenceDuIdeal.S8448x512, e⟩, ⟨Cert.ReferenceDuIdeal.S8448x512, f⟩]
    Cert.ReferenceDuIdeal.Gen.concatenates_S8448x1536_S8448x8_S8448x512_S8448x512_S8448x512_S8448x512_S8448x3592_d1

section Joined

variable (q : FVec Ideal Cert.ReferenceDuIdeal.S8448x1536 .f32) (z d e f : FVec Ideal Cert.ReferenceDuIdeal.S8448x512 .f32) (g : FVec Ideal Cert.ReferenceDuIdeal.S8448x256 .f32) (a : Fin 8448)

theorem joined0 (j : ℕ) (hj : j < 1536) : ent (joined q z d e f g : Array2 8448 3592) a.val (j) = ent (q : Array2 8448 1536) a.val j := by
  refine (ent_ix2 _ a ⟨j, by omega⟩).symm.trans (Eq.trans ?_ (ent_ix2 _ a ⟨j, by omega⟩))
  pointwise [joined]
  split_ifs <;> first
    | rfl
    | exact congrArg (fun k => q (ix2 a k)) (Fin.ext (by dsimp only; omega))
    | omega

theorem joined1 (j : ℕ) (hj : j < 8) : ent (joined q z d e f g : Array2 8448 3592) a.val (1536 + j) = ent (g : Array2 8448 256) a.val j := by
  refine (ent_ix2 _ a ⟨1536 + j, by omega⟩).symm.trans (Eq.trans ?_ (ent_ix2 _ a ⟨j, by omega⟩))
  pointwise [joined]
  split_ifs <;> first
    | rfl
    | exact congrArg (fun k => g (ix2 a k)) (Fin.ext (by dsimp only; omega))
    | omega

theorem joined2 (j : ℕ) (hj : j < 512) : ent (joined q z d e f g : Array2 8448 3592) a.val (1544 + j) = ent (z : Array2 8448 512) a.val j := by
  refine (ent_ix2 _ a ⟨1544 + j, by omega⟩).symm.trans (Eq.trans ?_ (ent_ix2 _ a ⟨j, by omega⟩))
  pointwise [joined]
  split_ifs <;> first
    | rfl
    | exact congrArg (fun k => z (ix2 a k)) (Fin.ext (by dsimp only; omega))
    | omega

theorem joined3 (j : ℕ) (hj : j < 512) : ent (joined q z d e f g : Array2 8448 3592) a.val (2056 + j) = ent (d : Array2 8448 512) a.val j := by
  refine (ent_ix2 _ a ⟨2056 + j, by omega⟩).symm.trans (Eq.trans ?_ (ent_ix2 _ a ⟨j, by omega⟩))
  pointwise [joined]
  split_ifs <;> first
    | rfl
    | exact congrArg (fun k => d (ix2 a k)) (Fin.ext (by dsimp only; omega))
    | omega

theorem joined4 (j : ℕ) (hj : j < 512) : ent (joined q z d e f g : Array2 8448 3592) a.val (2568 + j) = ent (e : Array2 8448 512) a.val j := by
  refine (ent_ix2 _ a ⟨2568 + j, by omega⟩).symm.trans (Eq.trans ?_ (ent_ix2 _ a ⟨j, by omega⟩))
  pointwise [joined]
  split_ifs <;> first
    | rfl
    | exact congrArg (fun k => e (ix2 a k)) (Fin.ext (by dsimp only; omega))
    | omega

theorem joined5 (j : ℕ) (hj : j < 512) : ent (joined q z d e f g : Array2 8448 3592) a.val (3080 + j) = ent (f : Array2 8448 512) a.val j := by
  refine (ent_ix2 _ a ⟨3080 + j, by omega⟩).symm.trans (Eq.trans ?_ (ent_ix2 _ a ⟨j, by omega⟩))
  pointwise [joined]
  split_ifs <;> first
    | rfl
    | exact congrArg (fun k => f (ix2 a k)) (Fin.ext (by dsimp only; omega))
    | omega

/-- What the reference computes. -/
theorem result (w : FVec Ideal Cert.ReferenceDuIdeal.S1024x3592 .f32) :
    (Host.dotGeneral Cert.ReferenceDuIdeal.dot_S8448x3592_S1024x3592_S8448x1024_1_1_0_0_n_n none (joined q z d e f g) w : FVec Ideal Cert.ReferenceDuIdeal.S8448x1024 .f32)
      = arr 8448 1024 (pieces (ent q) (ent z) (ent d) (ent e) (ent f) (ent g) (ent w)) := eq_arr fun a b => by
  refine Eq.trans ?_ (sum_pieces (r := ent (joined q z d e f g : Array2 8448 3592) a.val) (w := ent (w : Array2 1024 3592) b.val)
    (ent_outside (w : Array2 1024 3592) b.val (le_refl 3592)) (joined0 q z d e f g a) (joined1 q z d e f g a) (joined2 q z d e f g a)
    (joined3 q z d e f g a) (joined4 q z d e f g a) (joined5 q z d e f g a))
  generalize joined q z d e f g = r
  pointwise
  rw [sum_range]
  simp only [ent_ix2]

end Joined

attribute [local instance] Cert.KernelDu.Gen.facts Cert.KernelDuIdeal.Gen.facts Cert.ReferenceDuIdeal.Gen.facts

theorem frame : Cert.quiescent_KernelDu := fun m ρ _ => Cert.KernelDu.Gen.frame m ρ

theorem frame_ideal : Cert.quiescent_KernelDuIdeal := fun m ρ _ => Cert.KernelDuIdeal.Gen.frame m ρ

theorem frame_reference : Cert.quiescent_ReferenceDuIdeal := fun m ρ _ =>
  (θ_run Cert.ReferenceDuIdeal.defs _ _).mono (fun r h => ⟨fun c => (h c).2, sem_eq_zero_of_no_sems (by decide) r.2⟩)
    (Cert.ReferenceDuIdeal.Value.run (F := Ideal) m ρ)

/-- The kernel's array is the reference's. -/
theorem values : Cert.algebraic_KernelDuIdeal_ReferenceDuIdeal := fun m g m' g' _ ha => by
  refine ⟨_, Cert.KernelDuIdeal.Value.run_blocks m g, (θ_run Cert.ReferenceDuIdeal.defs _ _).mono (fun r h c => ?_) (Cert.ReferenceDuIdeal.Value.run (F := Ideal) m' g')⟩
  obtain ⟨h0, hr⟩ := h c
  refine ⟨h0.trans ?_, hr⟩
  obtain ⟨e0, e1, e2, e3, e4, e5, e6⟩ := ha c
  rw [e0, e1, e2, e3, e4, e5, e6, final m c]
  exact result _ _ _ _ _ _ _

end Cert.Proof.Products.Du

end
-- ==== Proof.Up.lean ====
/- The layer that widens. -/
module

public import proofs.«01_k».proof.Defs
public import proofs.«01_k».proof.Proof.Entries
public import Idealize.ShloMosaic.Lib.StableHlo.RunRead
public import proofs.«01_k».proof.Proof.Gen.KernelUp.Frame
public import proofs.«01_k».proof.Proof.Gen.KernelUpIdeal.Frame
public import proofs.«01_k».proof.Proof.Gen.KernelUpIdeal.Value
public import proofs.«01_k».proof.Proof.Gen.ReferenceUpIdeal.Run

@[expose] public section

set_option maxRecDepth 16384
set_option maxHeartbeats 1000000

noncomputable section

namespace Cert.Proof.Products.Up

open Finset Idealize.ShloMosaic Idealize.SL.Sem

section Kernel
open Cert.KernelUpIdeal Cert.KernelUpIdeal.Gen Idealize.ShloMosaic.TcCoe Idealize.ShloMosaic.Tactic

theorem index0 : ∀ t : Fin grid0.N, win0_0.index t = ![(grid0.coords t 1).val, 0] := by decide +kernel
theorem index1 : ∀ t : Fin grid0.N, win0_1.index t = ![0, (grid0.coords t 0).val] := by decide +kernel
theorem index2 : ∀ t : Fin grid0.N, win0_2.index t = ![(grid0.coords t 1).val, (grid0.coords t 0).val] := by decide +kernel

/-- The product of two blocks. -/
theorem block (x : Vec Ideal S768x1024 .bf16) (y : Vec Ideal S1024x2816 .bf16) (a : Fin 768) (b : Fin 2816) :
    k0_pay1 (F := Ideal) x y (ix2 a b) = ∑ k : Fin 1024, x (ix2 a k) * y (ix2 k b) := by
  pointwise [k0_pay1]

theorem stored (x : Vec Ideal S768x1024 .bf16) (y : Vec Ideal S1024x2816 .bf16) : out0_2 x y = k0_pay1 x y := by
  unfold out0_2
  rw [View.canon_cons_unit_zero (S := S768x2816) no_offsets, View.ld_unit_zero (S := S768x1024) no_offsets,
    View.ld_unit_zero (S := S1024x2816) no_offsets]

variable (m : (ℓ : Loc nD τ sig) → Buf (Elt Ideal) ℓ) (c : Dev nD) (t : Fin cfg0.N)

theorem left : V m c main_v0 = (m ((c : Thread nD τ).loc main_arg0) : Array2 8448 1024) := by
  simp only [V]
  after_reads_simp
  rfl

theorem right : V m c main_v1 = (m ((c : Thread nD τ).loc main_arg1) : Array2 1024 5632) := by
  simp only [V]
  after_reads_simp
  rfl

theorem rows (a : Fin 768) (k : Fin 1024) : iblk m c 0 t (ix2 a k)
    = ent (m ((c : Thread nD τ).loc main_arg0) : Array2 8448 1024) (768 * (grid0.coords t 1).val + a.val) k.val := by
  have hb : (grid0.coords t 1).val < 11 := (grid0.coords t 1).isLt
  rw [← left m c]
  refine Eq.trans ?_ (ent_ix2 _ ⟨768 * (grid0.coords t 1).val + a.val, by omega⟩ k)
  blk_ext [iblk, index0 t]

theorem cols (k : Fin 1024) (b : Fin 2816) : iblk m c 1 t (ix2 k b)
    = ent (m ((c : Thread nD τ).loc main_arg1) : Array2 1024 5632) k.val (2816 * (grid0.coords t 0).val + b.val) := by
  have hb : (grid0.coords t 0).val < 2 := (grid0.coords t 0).isLt
  rw [← right m c]
  refine Eq.trans ?_ (ent_ix2 _ k ⟨2816 * (grid0.coords t 0).val + b.val, by omega⟩)
  blk_ext [iblk, index1 t]

/-- What a grid point stores. -/
theorem point (a : Fin 768) (b : Fin 2816) : out0_2 (iblk m c 0 t) (iblk m c 1 t) (ix2 a b) = rowCol 1024
    (ent (m ((c : Thread nD τ).loc main_arg0) : Array2 8448 1024))
    (ent (m ((c : Thread nD τ).loc main_arg1) : Array2 1024 5632))
    (768 * (grid0.coords t 1).val + a.val) (2816 * (grid0.coords t 0).val + b.val) := by
  rw [stored, block]
  unfold rowCol
  rw [sum_range]
  exact sum_congr rfl fun k _ => congrArg₂ (· * ·) (rows m c t a k) (cols m c t k b)

/-- What the kernel leaves. -/
theorem final : (dats m 0 c).arrAt 2 cfg0.N = arr 8448 5632 (rowCol 1024
    (ent (m ((c : Thread nD τ).loc main_arg0) : Array2 8448 1024))
    (ent (m ((c : Thread nD τ).loc main_arg1) : Array2 1024 5632))) := by
  refine (dats m 0 c).arrAt_eq_of_covers 2 _ (by decide +kernel) fun t hf y => ?_
  blk_simp
  rw [after0_2]
  refine (at_block (point m c t) y).trans ?_
  unfold arr
  blk_simp [index2 t]
  simp only [Nat.mul_comm]

end Kernel

/-- What the reference computes. -/
theorem result (x : FVec Ideal Cert.ReferenceUpIdeal.S8448x1024 .f32) (y : FVec Ideal Cert.ReferenceUpIdeal.S1024x5632 .f32) :
    (Host.dotGeneral Cert.ReferenceUpIdeal.dot_S8448x1024_S1024x5632_S8448x5632_1_0_0_1_n_n none x y : FVec Ideal Cert.ReferenceUpIdeal.S8448x5632 .f32)
      = arr 8448 5632 (rowCol 1024 (ent x) (ent y)) := eq_arr fun a b => by
  pointwise
  unfold rowCol
  rw [sum_range]
  simp only [ent_ix2]

attribute [local instance] Cert.KernelUp.Gen.facts Cert.KernelUpIdeal.Gen.facts Cert.ReferenceUpIdeal.Gen.facts

theorem frame : Cert.quiescent_KernelUp := fun m ρ _ => Cert.KernelUp.Gen.frame m ρ

theorem frame_ideal : Cert.quiescent_KernelUpIdeal := fun m ρ _ => Cert.KernelUpIdeal.Gen.frame m ρ

theorem frame_reference : Cert.quiescent_ReferenceUpIdeal := fun m ρ _ =>
  (θ_run Cert.ReferenceUpIdeal.defs _ _).mono (fun r h => ⟨fun c => (h c).2, sem_eq_zero_of_no_sems (by decide) r.2⟩)
    (Cert.ReferenceUpIdeal.Value.run (F := Ideal) m ρ)

/-- The kernel's array is the reference's. -/
theorem values : Cert.algebraic_KernelUpIdeal_ReferenceUpIdeal := fun m g m' g' _ ha => by
  refine ⟨_, Cert.KernelUpIdeal.Value.run_blocks m g, (θ_run Cert.ReferenceUpIdeal.defs _ _).mono (fun r h c => ?_) (Cert.ReferenceUpIdeal.Value.run (F := Ideal) m' g')⟩
  obtain ⟨h0, hr⟩ := h c
  refine ⟨h0.trans ?_, hr⟩
  obtain ⟨e0, e1⟩ := ha c
  rw [e0, e1, final m c]
  exact result _ _

end Cert.Proof.Products.Up

end
-- ==== Proof.Down.lean ====
/- The layer that narrows. -/
module

public import proofs.«01_k».proof.Defs
public import proofs.«01_k».proof.Proof.Entries
public import Idealize.ShloMosaic.Lib.StableHlo.RunRead
public import proofs.«01_k».proof.Proof.Gen.KernelDown.Frame
public import proofs.«01_k».proof.Proof.Gen.KernelDownIdeal.Frame
public import proofs.«01_k».proof.Proof.Gen.KernelDownIdeal.Value
public import proofs.«01_k».proof.Proof.Gen.ReferenceDownIdeal.Run

@[expose] public section

set_option maxRecDepth 16384
set_option maxHeartbeats 1000000

noncomputable section

namespace Cert.Proof.Products.Down

open Finset Idealize.ShloMosaic Idealize.SL.Sem

section Kernel
open Cert.KernelDownIdeal Cert.KernelDownIdeal.Gen Idealize.ShloMosaic.TcCoe Idealize.ShloMosaic.Tactic

theorem index0 : ∀ t : Fin grid0.N, win0_0.index t = ![(grid0.coords t 1).val, 0] := by decide +kernel
theorem index1 : ∀ t : Fin grid0.N, win0_1.index t = ![0, (grid0.coords t 0).val] := by decide +kernel
theorem index2 : ∀ t : Fin grid0.N, win0_2.index t = ![(grid0.coords t 1).val, (grid0.coords t 0).val] := by decide +kernel

/-- The product of two blocks. -/
theorem block (x : Vec Ideal S768x2816 .bf16) (y : Vec Ideal S2816x1024 .bf16) (a : Fin 768) (b : Fin 1024) :
    k0_pay1 (F := Ideal) x y (ix2 a b) = ∑ k : Fin 2816, x (ix2 a k) * y (ix2 k b) := by
  pointwise [k0_pay1]

theorem stored (x : Vec Ideal S768x2816 .bf16) (y : Vec Ideal S2816x1024 .bf16) : out0_2 x y = k0_pay1 x y := by
  unfold out0_2
  rw [View.canon_cons_unit_zero (S := S768x1024) no_offsets, View.ld_unit_zero (S := S768x2816) no_offsets,
    View.ld_unit_zero (S := S2816x1024) no_offsets]

variable (m : (ℓ : Loc nD τ sig) → Buf (Elt Ideal) ℓ) (c : Dev nD) (t : Fin cfg0.N)

theorem left : V m c main_v0 = (m ((c : Thread nD τ).loc main_arg0) : Array2 8448 2816) := by
  simp only [V]
  after_reads_simp
  rfl

theorem right : V m c main_v1 = (m ((c : Thread nD τ).loc main_arg1) : Array2 2816 1024) := by
  simp only [V]
  after_reads_simp
  rfl

theorem rows (a : Fin 768) (k : Fin 2816) : iblk m c 0 t (ix2 a k)
    = ent (m ((c : Thread nD τ).loc main_arg0) : Array2 8448 2816) (768 * (grid0.coords t 1).val + a.val) k.val := by
  have hb : (grid0.coords t 1).val < 11 := (grid0.coords t 1).isLt
  rw [← left m c]
  refine Eq.trans ?_ (ent_ix2 _ ⟨768 * (grid0.coords t 1).val + a.val, by omega⟩ k)
  blk_ext [iblk, index0 t]

theorem cols (k : Fin 2816) (b : Fin 1024) : iblk m c 1 t (ix2 k b)
    = ent (m ((c : Thread nD τ).loc main_arg1) : Array2 2816 1024) k.val (1024 * (grid0.coords t 0).val + b.val) := by
  have hb : (grid0.coords t 0).val < 1 := (grid0.coords t 0).isLt
  rw [← right m c]
  refine Eq.trans ?_ (ent_ix2 _ k ⟨1024 * (grid0.coords t 0).val + b.val, by omega⟩)
  blk_ext [iblk, index1 t]

/-- What a grid point stores. -/
theorem point (a : Fin 768) (b : Fin 1024) : out0_2 (iblk m c 0 t) (iblk m c 1 t) (ix2 a b) = rowCol 2816
    (ent (m ((c : Thread nD τ).loc main_arg0) : Array2 8448 2816))
    (ent (m ((c : Thread nD τ).loc main_arg1) : Array2 2816 1024))
    (768 * (grid0.coords t 1).val + a.val) (1024 * (grid0.coords t 0).val + b.val) := by
  rw [stored, block]
  unfold rowCol
  rw [sum_range]
  exact sum_congr rfl fun k _ => congrArg₂ (· * ·) (rows m c t a k) (cols m c t k b)

/-- What the kernel leaves. -/
theorem final : (dats m 0 c).arrAt 2 cfg0.N = arr 8448 1024 (rowCol 2816
    (ent (m ((c : Thread nD τ).loc main_arg0) : Array2 8448 2816))
    (ent (m ((c : Thread nD τ).loc main_arg1) : Array2 2816 1024))) := by
  refine (dats m 0 c).arrAt_eq_of_covers 2 _ (by decide +kernel) fun t hf y => ?_
  blk_simp
  rw [after0_2]
  refine (at_block (point m c t) y).trans ?_
  unfold arr
  blk_simp [index2 t]
  simp only [Nat.mul_comm, Nat.zero_mul, Nat.zero_add]

end Kernel

/-- What the reference computes. -/
theorem result (x : FVec Ideal Cert.ReferenceDownIdeal.S8448x2816 .f32) (y : FVec Ideal Cert.ReferenceDownIdeal.S2816x1024 .f32) :
    (Host.dotGeneral Cert.ReferenceDownIdeal.dot_S8448x2816_S2816x1024_S8448x1024_1_0_0_1_n_n none x y : FVec Ideal Cert.ReferenceDownIdeal.S8448x1024 .f32)
      = arr 8448 1024 (rowCol 2816 (ent x) (ent y)) := eq_arr fun a b => by
  pointwise
  unfold rowCol
  rw [sum_range]
  simp only [ent_ix2]

attribute [local instance] Cert.KernelDown.Gen.facts Cert.KernelDownIdeal.Gen.facts Cert.ReferenceDownIdeal.Gen.facts

theorem frame : Cert.quiescent_KernelDown := fun m ρ _ => Cert.KernelDown.Gen.frame m ρ

theorem frame_ideal : Cert.quiescent_KernelDownIdeal := fun m ρ _ => Cert.KernelDownIdeal.Gen.frame m ρ

theorem frame_reference : Cert.quiescent_ReferenceDownIdeal := fun m ρ _ =>
  (θ_run Cert.ReferenceDownIdeal.defs _ _).mono (fun r h => ⟨fun c => (h c).2, sem_eq_zero_of_no_sems (by decide) r.2⟩)
    (Cert.ReferenceDownIdeal.Value.run (F := Ideal) m ρ)

/-- The kernel's array is the reference's. -/
theorem values : Cert.algebraic_KernelDownIdeal_ReferenceDownIdeal := fun m g m' g' _ ha => by
  refine ⟨_, Cert.KernelDownIdeal.Value.run_blocks m g, (θ_run Cert.ReferenceDownIdeal.defs _ _).mono (fun r h c => ?_) (Cert.ReferenceDownIdeal.Value.run (F := Ideal) m' g')⟩
  obtain ⟨h0, hr⟩ := h c
  refine ⟨h0.trans ?_, hr⟩
  obtain ⟨e0, e1⟩ := ha c
  rw [e0, e1, final m c]
  exact result _ _

end Cert.Proof.Products.Down

end
-- ==== Proof.Out.lean ====
/- The layer behind the mixers. -/
module

public import proofs.«01_k».proof.Defs
public import proofs.«01_k».proof.Proof.Entries
public import Idealize.ShloMosaic.Lib.StableHlo.RunRead
public import proofs.«01_k».proof.Proof.Gen.KernelOut.Frame
public import proofs.«01_k».proof.Proof.Gen.KernelOutIdeal.Frame
public import proofs.«01_k».proof.Proof.Gen.KernelOutIdeal.Value
public import proofs.«01_k».proof.Proof.Gen.ReferenceOutIdeal.Run

@[expose] public section

set_option maxRecDepth 16384
set_option maxHeartbeats 1000000

noncomputable section

namespace Cert.Proof.Products.Out

open Finset Idealize.ShloMosaic Idealize.SL.Sem

section Kernel
open Cert.KernelOutIdeal Cert.KernelOutIdeal.Gen Idealize.ShloMosaic.TcCoe Idealize.ShloMosaic.Tactic

theorem index0 : ∀ t : Fin grid0.N, win0_0.index t = ![(grid0.coords t 1).val, 0] := by decide +kernel
theorem index1 : ∀ t : Fin grid0.N, win0_1.index t = ![0, (grid0.coords t 0).val] := by decide +kernel
theorem index2 : ∀ t : Fin grid0.N, win0_2.index t = ![(grid0.coords t 1).val, (grid0.coords t 0).val] := by decide +kernel

/-- The product of two blocks. -/
theorem block (x : Vec Ideal S768x1024 .bf16) (y : Vec Ideal S1024x1024 .bf16) (a : Fin 768) (b : Fin 1024) :
    k0_pay1 (F := Ideal) x y (ix2 a b) = ∑ k : Fin 1024, x (ix2 a k) * y (ix2 k b) := by
  pointwise [k0_pay1]

theorem stored (x : Vec Ideal S768x1024 .bf16) (y : Vec Ideal S1024x1024 .bf16) : out0_2 x y = k0_pay1 x y := by
  unfold out0_2
  rw [View.canon_cons_unit_zero (S := S768x1024) no_offsets, View.ld_unit_zero (S := S768x1024) no_offsets,
    View.ld_unit_zero (S := S1024x1024) no_offsets]

variable (m : (ℓ : Loc nD τ sig) → Buf (Elt Ideal) ℓ) (c : Dev nD) (t : Fin cfg0.N)

theorem left : V m c main_v0 = (m ((c : Thread nD τ).loc main_arg0) : Array2 8448 1024) := by
  simp only [V]
  after_reads_simp
  rfl

theorem right : V m c main_v1 = (m ((c : Thread nD τ).loc main_arg1) : Array2 1024 1024) := by
  simp only [V]
  after_reads_simp
  rfl

theorem rows (a : Fin 768) (k : Fin 1024) : iblk m c 0 t (ix2 a k)
    = ent (m ((c : Thread nD τ).loc main_arg0) : Array2 8448 1024) (768 * (grid0.coords t 1).val + a.val) k.val := by
  have hb : (grid0.coords t 1).val < 11 := (grid0.coords t 1).isLt
  rw [← left m c]
  refine Eq.trans ?_ (ent_ix2 _ ⟨768 * (grid0.coords t 1).val + a.val, by omega⟩ k)
  blk_ext [iblk, index0 t]

theorem cols (k : Fin 1024) (b : Fin 1024) : iblk m c 1 t (ix2 k b)
    = ent (m ((c : Thread nD τ).loc main_arg1) : Array2 1024 1024) k.val (1024 * (grid0.coords t 0).val + b.val) := by
  have hb : (grid0.coords t 0).val < 1 := (grid0.coords t 0).isLt
  rw [← right m c]
  refine Eq.trans ?_ (ent_ix2 _ k ⟨1024 * (grid0.coords t 0).val + b.val, by omega⟩)
  blk_ext [iblk, index1 t]

/-- What a grid point stores. -/
theorem point (a : Fin 768) (b : Fin 1024) : out0_2 (iblk m c 0 t) (iblk m c 1 t) (ix2 a b) = rowCol 1024
    (ent (m ((c : Thread nD τ).loc main_arg0) : Array2 8448 1024))
    (ent (m ((c : Thread nD τ).loc main_arg1) : Array2 1024 1024))
    (768 * (grid0.coords t 1).val + a.val) (1024 * (grid0.coords t 0).val + b.val) := by
  rw [stored, block]
  unfold rowCol
  rw [sum_range]
  exact sum_congr rfl fun k _ => congrArg₂ (· * ·) (rows m c t a k) (cols m c t k b)

/-- What the kernel leaves. -/
theorem final : (dats m 0 c).arrAt 2 cfg0.N = arr 8448 1024 (rowCol 1024
    (ent (m ((c : Thread nD τ).loc main_arg0) : Array2 8448 1024))
    (ent (m ((c : Thread nD τ).loc main_arg1) : Array2 1024 1024))) := by
  refine (dats m 0 c).arrAt_eq_of_covers 2 _ (by decide +kernel) fun t hf y => ?_
  blk_simp
  rw [after0_2]
  refine (at_block (point m c t) y).trans ?_
  unfold arr
  blk_simp [index2 t]
  simp only [Nat.mul_comm, Nat.zero_mul, Nat.zero_add]

end Kernel

/-- What the reference computes. -/
theorem result (x : FVec Ideal Cert.ReferenceOutIdeal.S8448x1024 .f32) (y : FVec Ideal Cert.ReferenceOutIdeal.S1024x1024 .f32) :
    (Host.dotGeneral Cert.ReferenceOutIdeal.dot_S8448x1024_S1024x1024_S8448x1024_1_0_0_1_n_n none x y : FVec Ideal Cert.ReferenceOutIdeal.S8448x1024 .f32)
      = arr 8448 1024 (rowCol 1024 (ent x) (ent y)) := eq_arr fun a b => by
  pointwise
  unfold rowCol
  rw [sum_range]
  simp only [ent_ix2]

attribute [local instance] Cert.KernelOut.Gen.facts Cert.KernelOutIdeal.Gen.facts Cert.ReferenceOutIdeal.Gen.facts

theorem frame : Cert.quiescent_KernelOut := fun m ρ _ => Cert.KernelOut.Gen.frame m ρ

theorem frame_ideal : Cert.quiescent_KernelOutIdeal := fun m ρ _ => Cert.KernelOutIdeal.Gen.frame m ρ

theorem frame_reference : Cert.quiescent_ReferenceOutIdeal := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)

/-- The kernel's array is the reference's. -/
theorem values : Cert.algebraic_KernelOutIdeal_ReferenceOutIdeal := fun m g m' g' _ ha => by
  refine ⟨_, Cert.KernelOutIdeal.Value.run_blocks m g, (θ_run Cert.ReferenceOutIdeal.defs _ _).mono (fun r h c => ?_) (Cert.ReferenceOutIdeal.Value.run (F := Ideal) m' g')⟩
  obtain ⟨h0, hr⟩ := h c
  refine ⟨h0.trans ?_, hr⟩
  obtain ⟨e0, e1⟩ := ha c
  rw [e0, e1, final m c]
  exact result _ _

end Cert.Proof.Products.Out

end
-- ==== Proof.In.lean ====
/- The layer in front of the mixers. -/
module

public import proofs.«01_k».proof.Defs
public import proofs.«01_k».proof.Proof.Columns
public import Idealize.ShloMosaic.Lib.StableHlo.RunRead
public import proofs.«01_k».proof.Proof.Gen.KernelIn.Frame
public import proofs.«01_k».proof.Proof.Gen.KernelInIdeal.Frame
public import proofs.«01_k».proof.Proof.Gen.KernelInIdeal.Value
public import proofs.«01_k».proof.Proof.Gen.ReferenceInIdeal.Run

@[expose] public section

set_option maxRecDepth 16384
set_option maxHeartbeats 1000000

noncomputable section

namespace Cert.Proof.Products.In

open Finset Idealize.ShloMosaic Idealize.SL.Sem

section Kernel
open Cert.KernelInIdeal Cert.KernelInIdeal.Gen Idealize.ShloMosaic.TcCoe Idealize.ShloMosaic.Tactic

theorem index0 : ∀ t : Fin grid0.N, win0_0.index t = ![(grid0.coords t 1).val, 0] := by decide +kernel
theorem index1 : ∀ t : Fin grid0.N, win0_1.index t = ![0, (grid0.coords t 0).val] := by decide +kernel
theorem index2 : ∀ t : Fin grid0.N, win0_2.index t = ![(grid0.coords t 1).val, (grid0.coords t 0).val] := by decide +kernel

/-- The product of two blocks. -/
theorem block (x : Vec Ideal S768x1024 .bf16) (y : Vec Ideal S1024x1920 .bf16) (a : Fin 768) (b : Fin 1920) :
    k0_pay1 (F := Ideal) x y (ix2 a b) = ∑ k : Fin 1024, x (ix2 a k) * y (ix2 k b) := by
  pointwise [k0_pay1]

theorem stored (x : Vec Ideal S768x1024 .bf16) (y : Vec Ideal S1024x1920 .bf16) : out0_2 x y = k0_pay1 x y := by
  unfold out0_2
  rw [View.canon_cons_unit_zero (S := S768x1920) no_offsets, View.ld_unit_zero (S := S768x1024) no_offsets,
    View.ld_unit_zero (S := S1024x1920) no_offsets]

/-- The weights with their columns in the kernel's order. -/
def weights (w : FVec Ideal S1024x3592 .f32) : FVec Ideal S1024x3840 .bf16 :=
  concatenate S1024x3840 1
    [⟨S1024x1536, extractStridedSlice S1024x1536 ![0, 0] (truncf .bf16 w bitsLt_bf16_f32) slices_S1024x3592_S1024x1536_0_0⟩,
     ⟨S1024x512, extractStridedSlice S1024x512 ![0, 1544] (truncf .bf16 w bitsLt_bf16_f32) slices_S1024x3592_S1024x512_0_1544⟩,
     ⟨S1024x1536, extractStridedSlice S1024x1536 ![0, 2056] (truncf .bf16 w bitsLt_bf16_f32) slices_S1024x3592_S1024x1536_0_2056⟩,
     ⟨S1024x8, extractStridedSlice S1024x8 ![0, 1536] (truncf .bf16 w bitsLt_bf16_f32) slices_S1024x3592_S1024x8_0_1536⟩,
     ⟨S1024x248, broadcastInDim S1024x248 ![] bcast_S_S1024x248 (constant S_ .bf16 0x0000#16)⟩]
    concatenates_S1024x1536_S1024x512_S1024x1536_S1024x8_S1024x248_S1024x3840_d1

theorem weights_entry (w : FVec Ideal S1024x3592 .f32) (k : Fin 1024) (b : Fin 3840) :
    weights w (ix2 k b) = ent (w : Array2 1024 3592) k.val (source b.val) := by
  have hb := b.isLt
  pointwise [weights]
  have e (n : ℕ) (hn : n < 3592) (h : source b.val = n) : w (ix2 k ⟨n, hn⟩) = ent (w : Array2 1024 3592) k.val (source b.val) := by
    rw [h]
    exact ent_ix2 (w : Array2 1024 3592) k ⟨n, hn⟩
  split_ifs
  all_goals first
    | exact e _ _ (by unfold source; split_ifs <;> omega)
    | exact (ent_outside _ _ (by unfold source; split_ifs <;> omega)).symm

variable (m : (ℓ : Loc nD τ sig) → Buf (Elt Ideal) ℓ) (c : Dev nD) (t : Fin cfg0.N)

theorem left : V m c main_v0 = (m ((c : Thread nD τ).loc main_arg0) : Array2 8448 1024) := by
  simp only [V]
  after_reads_simp
  rfl

theorem right : V m c main_v7 = (weights (m ((c : Thread nD τ).loc main_arg1)) : Array2 1024 3840) := by
  simp only [V]
  after_reads_simp
  rfl

theorem rows (a : Fin 768) (k : Fin 1024) : iblk m c 0 t (ix2 a k)
    = ent (m ((c : Thread nD τ).loc main_arg0) : Array2 8448 1024) (768 * (grid0.coords t 1).val + a.val) k.val := by
  have hb : (grid0.coords t 1).val < 11 := (grid0.coords t 1).isLt
  rw [← left m c]
  refine Eq.trans ?_ (ent_ix2 _ ⟨768 * (grid0.coords t 1).val + a.val, by omega⟩ k)
  blk_ext [iblk, index0 t]

theorem cols (k : Fin 1024) (b : Fin 1920) : iblk m c 1 t (ix2 k b)
    = ent (m ((c : Thread nD τ).loc main_arg1) : Array2 1024 3592) k.val (source (1920 * (grid0.coords t 0).val + b.val)) := by
  have hb : (grid0.coords t 0).val < 2 := (grid0.coords t 0).isLt
  refine Eq.trans ?_ (weights_entry _ k ⟨1920 * (grid0.coords t 0).val + b.val, by omega⟩)
  rw [← right m c]
  blk_ext [iblk, index1 t]

/-- What a grid point stores. -/
theorem point (a : Fin 768) (b : Fin 1920) : out0_2 (iblk m c 0 t) (iblk m c 1 t) (ix2 a b) = rowCol 1024
    (ent (m ((c : Thread nD τ).loc main_arg0) : Array2 8448 1024))
    (fun k j => ent (m ((c : Thread nD τ).loc main_arg1) : Array2 1024 3592) k (source j))
    (768 * (grid0.coords t 1).val + a.val) (1920 * (grid0.coords t 0).val + b.val) := by
  rw [stored, block]
  unfold rowCol
  rw [sum_range]
  exact sum_congr rfl fun k _ => congrArg₂ (· * ·) (rows m c t a k) (cols m c t k b)

/-- What the kernel leaves. -/
theorem final : (dats m 0 c).arrAt 2 cfg0.N = arr 8448 3840 (rowCol 1024
    (ent (m ((c : Thread nD τ).loc main_arg0) : Array2 8448 1024))
    (fun k j => ent (m ((c : Thread nD τ).loc main_arg1) : Array2 1024 3592) k (source j))) := by
  refine (dats m 0 c).arrAt_eq_of_covers 2 _ (by decide +kernel) fun t hf y => ?_
  blk_simp
  rw [after0_2]
  refine (at_block (point m c t) y).trans ?_
  unfold arr
  blk_simp [index2 t]
  simp only [Nat.mul_comm]

end Kernel

/-- What the reference computes. -/
theorem result (x : FVec Ideal Cert.ReferenceInIdeal.S8448x1024 .f32) (y : FVec Ideal Cert.ReferenceInIdeal.S1024x3592 .f32) :
    (concatenate Cert.ReferenceInIdeal.S8448x3840 1
      [⟨Cert.ReferenceInIdeal.S8448x1536, extractStridedSlice Cert.ReferenceInIdeal.S8448x1536 ![0, 0] (Host.dotGeneral Cert.ReferenceInIdeal.dot_S8448x1024_S1024x3592_S8448x3592_1_0_0_1_n_n none x y) Cert.ReferenceInIdeal.Gen.slices_S8448x3592_S8448x1536_0_0⟩,
       ⟨Cert.ReferenceInIdeal.S8448x2048, extractStridedSlice Cert.ReferenceInIdeal.S8448x2048 ![0, 1544] (Host.dotGeneral Cert.ReferenceInIdeal.dot_S8448x1024_S1024x3592_S8448x3592_1_0_0_1_n_n none x y) Cert.ReferenceInIdeal.Gen.slices_S8448x3592_S8448x2048_0_1544⟩,
       ⟨Cert.ReferenceInIdeal.S8448x8, extractStridedSlice Cert.ReferenceInIdeal.S8448x8 ![0, 1536] (Host.dotGeneral Cert.ReferenceInIdeal.dot_S8448x1024_S1024x3592_S8448x3592_1_0_0_1_n_n none x y) Cert.ReferenceInIdeal.Gen.slices_S8448x3592_S8448x8_0_1536⟩,
       ⟨Cert.ReferenceInIdeal.S8448x248, broadcastInDim Cert.ReferenceInIdeal.S8448x248 ![] Cert.ReferenceInIdeal.Gen.bcast_S_S8448x248 (constant Cert.ReferenceInIdeal.S_ .f32 0x00000000#32)⟩]
      Cert.ReferenceInIdeal.Gen.concatenates_S8448x1536_S8448x2048_S8448x8_S8448x248_S8448x3840_d1 : FVec Ideal Cert.ReferenceInIdeal.S8448x3840 .f32)
      = arr 8448 3840 (rowCol 1024 (ent x) fun k j => ent (y : Array2 1024 3592) k (source j)) := eq_arr fun a b => by
  have hb := b.isLt
  pointwise
  have e (n : ℕ) (hn : n < 3592) (h : source b.val = n) : ∑ k : Fin 1024, x (ix2 a k) * y (ix2 k ⟨n, hn⟩)
      = rowCol 1024 (ent x) (fun k j => ent (y : Array2 1024 3592) k (source j)) a.val b.val := by
    unfold rowCol
    subst h
    rw [sum_range]
    exact sum_congr rfl fun k _ => congrArg₂ (· * ·) (ent_ix2 x a k) (ent_ix2 y k ⟨_, hn⟩)
  split_ifs
  all_goals first
    | exact e _ _ (by unfold source; split_ifs <;> omega)
    | refine (sum_eq_zero fun k _ => ?_).symm
      dsimp only
      rw [ent_outside (y : Array2 1024 3592) k (by unfold source; split_ifs <;> omega), mul_zero]

attribute [local instance] Cert.KernelIn.Gen.facts Cert.KernelInIdeal.Gen.facts Cert.ReferenceInIdeal.Gen.facts

theorem frame : Cert.quiescent_KernelIn := fun m ρ _ => Cert.KernelIn.Gen.frame m ρ

theorem frame_ideal : Cert.quiescent_KernelInIdeal := fun m ρ _ => Cert.KernelInIdeal.Gen.frame m ρ

theorem frame_reference : Cert.quiescent_ReferenceInIdeal := fun m ρ _ =>
  (θ_run Cert.ReferenceInIdeal.defs _ _).mono (fun r h => ⟨fun c => (h c).2, sem_eq_zero_of_no_sems (by decide) r.2⟩)
    (Cert.ReferenceInIdeal.Value.run (F := Ideal) m ρ)

/-- The kernel's array is the reference's. -/
theorem values : Cert.algebraic_KernelInIdeal_ReferenceInIdeal := fun m g m' g' _ ha => by
  refine ⟨_, Cert.KernelInIdeal.Value.run_blocks m g, (θ_run Cert.ReferenceInIdeal.defs _ _).mono (fun r h c => ?_) (Cert.ReferenceInIdeal.Value.run (F := Ideal) m' g')⟩
  obtain ⟨h0, hr⟩ := h c
  refine ⟨h0.trans ?_, hr⟩
  obtain ⟨e0, e1⟩ := ha c
  rw [e0, e1, final m c]
  exact result _ _

end Cert.Proof.Products.In

end
-- ==== Proof.Norm.lean ====
/- The norm of a row of extended reals, its gradient, and the gradient's two forms: the kernel's and the one the chain rule gives. -/
module

public import Idealize.ShloMosaic.Lib.Pointwise

@[expose] public section

noncomputable section

namespace Cert.Proof.Norms

open Finset Idealize.ShloMosaic

/-- The length of a row. -/
def count : EReal := ((1024 : ℝ) : EReal)

/-- The number added to the mean square. -/
def eps : ℝ := 8796093 / 2 ^ 43

/-- The factor of the inverse square root's derivative. -/
def half : EReal := ((-(1 / 2) : ℝ) : EReal)

/-- The mean square of a row, with a little added. -/
def size (x : ℕ → ℕ → EReal) (i : ℕ) : EReal := Ideal.div (∑ k : Fin 1024, x i k.val * x i k.val) count + (eps : EReal)

/-- What a row is multiplied by. -/
def scale (x : ℕ → ℕ → EReal) (i : ℕ) : EReal := Ideal.rsqrt (size x i)

/-- The rows scaled. -/
def scaled (x : ℕ → ℕ → EReal) (i j : ℕ) : EReal := x i j * scale x i

/-- The norm's result. -/
def norm (x w : ℕ → ℕ → EReal) (i j : ℕ) : EReal := scaled x i j * w 0 j

/-- The gradient of the norm's input, for the gradient `d` of its result. -/
def back (x w d : ℕ → ℕ → EReal) (i j : ℕ) : EReal :=
  scale x i * (d i j * w 0 j - scaled x i j * Ideal.div (∑ k : Fin 1024, d i k.val * w 0 k.val * scaled x i k.val) count)

/-- The gradient that reaches a row through its mean square, over the row. -/
def through (x w d : ℕ → ℕ → EReal) (i : ℕ) : EReal :=
  Ideal.div ((∑ k : Fin 1024, x i k.val * (d i k.val * w 0 k.val)) * (half * Ideal.div (scale x i) (size x i))) count

/-- The gradient of the norm's weights over the first `n` rows. -/
def gain (x d : ℕ → ℕ → EReal) (n j : ℕ) : EReal := ∑ i ∈ range n, d i j * scaled x i j

theorem gain_add (x d : ℕ → ℕ → EReal) (n m j : ℕ) : gain x d (n + m) j = gain x d n j + ∑ r : Fin m, d (n + r.val) j * scaled x (n + r.val) j := by
  unfold gain
  rw [sum_range_add, ← Fin.sum_univ_eq_sum_range (fun r => d (n + r) j * scaled x (n + r) j)]

theorem eps_pos : 0 < eps := by unfold eps; norm_num

theorem eps_bits : Ideal.ofBits .f32 0x358637BD#32 = (eps : EReal) := by
  unfold eps
  simp [Ideal.ofBits, Ideal.ieee]
  rw [← EReal.coe_mul]
  norm_num

theorem count_bits : Ideal.ofBits .f32 0x44800000#32 = count := by
  unfold count
  simp [Ideal.ofBits, Ideal.ieee]
  rw [← EReal.coe_mul]
  norm_num

theorem half_bits : Ideal.ofBits .f32 0xBF000000#32 = half := by
  unfold half
  simp [Ideal.ofBits, Ideal.ieee]
  rw [← EReal.coe_mul]
  norm_num

theorem div_count (a : EReal) : Ideal.div a count = a * ((1 / 1024 : ℝ) : EReal) := Ideal.div_coe (by norm_num) a

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [sum_insert h, sum_insert h, EReal.coe_add, ih]

theorem sum_mul_real {ι : Type} (s : Finset ι) (f : ι → EReal) {r : ℝ} (hr : 0 ≤ r) : ∑ i ∈ s, f i * (r : EReal) = (∑ i ∈ s, f i) * (r : EReal) := by
  classical
  induction s using Finset.induction_on with
  | empty => simp
  | insert a s h ih =>
    rw [sum_insert h, sum_insert h, ih, EReal.right_distrib_of_nonneg_of_ne_top (by exact_mod_cast hr) (EReal.coe_ne_top r)]

theorem square_nonneg (a : EReal) : 0 ≤ a * a := by
  induction a with
  | bot => simp
  | top => simp
  | coe a =>
    rw [← EReal.coe_mul]
    exact_mod_cast mul_self_nonneg a

theorem square_top {a : EReal} (h : ¬∃ r : ℝ, a = r) : a * a = ⊤ := by
  induction a with
  | bot => simp
  | top => simp
  | coe a => exact absurd ⟨a, rfl⟩ h

/-- A row is of real numbers, with a real scale, or its scale is zero. -/
theorem scale_cases (x : ℕ → ℕ → EReal) (i : ℕ) : (∃ s : ℝ, 0 < s ∧ size x i = s ∧ scale x i = (((√s)⁻¹ : ℝ) : EReal)) ∨ size x i = ⊤ ∧ scale x i = 0 := by
  by_cases h : ∀ k : Fin 1024, ∃ a : ℝ, x i k.val = a
  · choose a ha using h
    have hs : 0 < (∑ k, a k * a k) * (1 / 1024) + eps :=
      add_pos_of_nonneg_of_pos (mul_nonneg (sum_nonneg fun _ _ => mul_self_nonneg _) (by norm_num)) eps_pos
    have e : size x i = (((∑ k, a k * a k) * (1 / 1024) + eps : ℝ) : EReal) := by
      unfold size
      simp only [ha, div_count, ← EReal.coe_mul, ← coe_sum, ← EReal.coe_add]
    refine .inl ⟨_, hs, e, ?_⟩
    unfold scale
    rw [e, Ideal.rsqrt_coe, if_neg hs.le.not_gt, if_neg hs.ne']
  · obtain ⟨k, hk⟩ := not_forall.1 h
    have e : size x i = ⊤ := by
      unfold size
      rw [← add_sum_erase univ _ (mem_univ k), square_top hk, EReal.top_add_of_ne_bot, div_count, EReal.top_mul_coe_of_pos (by norm_num)]
      · exact EReal.top_add_coe _
      · exact (lt_of_lt_of_le (EReal.bot_lt_zero) (sum_nonneg fun _ _ => square_nonneg _)).ne'
    refine .inr ⟨e, ?_⟩
    unfold scale
    rw [e, Ideal.rsqrt_top]

theorem two_halves (a : EReal) : a * ((1 / 2 : ℝ) : EReal) + a * ((1 / 2 : ℝ) : EReal) = a := by
  rw [← EReal.left_distrib_of_nonneg (by exact_mod_cast (by norm_num : (0 : ℝ) ≤ 1 / 2)) (by exact_mod_cast (by norm_num : (0 : ℝ) ≤ 1 / 2)), ← EReal.coe_add]
  norm_num

/-- The gradient as the chain rule gives it: through the row itself, and twice through its mean square. -/
theorem back_eq (x w d : ℕ → ℕ → EReal) (i j : ℕ) :
    d i j * w 0 j * scale x i + x i j * through x w d i + through x w d i * x i j = back x w d i j := by
  unfold back through scaled
  rcases scale_cases x i with ⟨s, hs, e, f⟩ | ⟨e, f⟩
  · rw [f, e]
    have hr : 0 ≤ (√s)⁻¹ := inv_nonneg.2 (Real.sqrt_nonneg s)
    have hq : (√s)⁻¹ * (√s)⁻¹ = s⁻¹ := by rw [← mul_inv, Real.mul_self_sqrt hs.le]
    generalize (√s)⁻¹ = r at hr hq
    have t : ∑ k : Fin 1024, d i k.val * w 0 k.val * (x i k.val * (r : EReal)) = (∑ k : Fin 1024, x i k.val * (d i k.val * w 0 k.val)) * (r : EReal) := by
      rw [← sum_mul_real _ _ hr]
      exact sum_congr rfl fun k _ => by rw [← mul_assoc, mul_comm (d i k.val * w 0 k.val)]
    rw [t]
    generalize (∑ k : Fin 1024, x i k.val * (d i k.val * w 0 k.val)) = S
    generalize d i j * w 0 j = a
    generalize x i j = y
    have u : half * Ideal.div (r : EReal) (s : EReal) = ((-(r * r * r) * (1 / 2) : ℝ) : EReal) := by
      unfold half
      rw [Ideal.div_coe hs.ne', ← EReal.coe_mul, ← EReal.coe_mul]
      congr 1
      rw [one_div s, ← hq]
      ring
    have v (z : EReal) : z * ((-(r * r * r) * (1 / 2) : ℝ) : EReal) = -(z * (r * r * r : ℝ)) * ((1 / 2 : ℝ) : EReal) := by
      rw [EReal.coe_mul, EReal.coe_neg, ← mul_assoc, mul_neg]
    rw [u, div_count, div_count, sub_eq_add_neg, EReal.left_distrib_of_nonneg_of_ne_top (by exact_mod_cast hr) (EReal.coe_ne_top r),
      add_assoc, mul_comm (r : EReal) a]
    congr 1
    rw [mul_comm (S * _ * _) y]
    have p : y * (S * ((-(r * r * r) * (1 / 2) : ℝ) : EReal) * ((1 / 1024 : ℝ) : EReal))
        = -(y * S * ((1 / 1024 : ℝ) : EReal) * (r * r * r : ℝ)) * ((1 / 2 : ℝ) : EReal) := by
      rw [← v]
      ac_rfl
    rw [p, two_halves, mul_neg, EReal.coe_mul, EReal.coe_mul]
    congr 1
    ac_rfl
  · rw [f, e]
    have z : Ideal.div 0 ⊤ = 0 := by simp [Ideal.div]
    rw [z, mul_zero, mul_zero, mul_zero, div_count, zero_mul, mul_zero, zero_mul, zero_mul, add_zero, add_zero]

end Cert.Proof.Norms

end
-- ==== Proof.NormArrays.lean ====
/- The reference's arrays for a norm and its gradient, and their entries as real numbers. -/
module

public import proofs.«01_k».proof.Proof.Norm
public import proofs.«01_k».proof.Proof.Entries
public import proofs.«01_k».proof.Proof.Gen.ReferencePrenormIdeal.Run

@[expose] public section

set_option maxRecDepth 16384
set_option maxHeartbeats 1000000

noncomputable section

namespace Cert.Proof.Norms

open Finset Idealize.ShloMosaic
open Cert.ReferencePrenormIdeal Cert.ReferencePrenormIdeal.Gen
open Cert.Proof.Products (Array2 ent ent_ix2 arr at_index eq_arr)

/-- The entries of an array are the given ones. -/
def Holds {n0 n1 : ℕ} (x : Array2 n0 n1) (f : ℕ → ℕ → EReal) : Prop := ∀ (a : Fin n0) (b : Fin n1), x (ix2 a b) = f a.val b.val

theorem Holds.at {n0 n1 : ℕ} {x : Array2 n0 n1} {f : ℕ → ℕ → EReal} (h : Holds x f) (y : (⟨2, ![n0, n1]⟩ : Shape).Idx) :
    x y = f (y 0).val (y 1).val := at_index h y

theorem holds_ent {n0 n1 : ℕ} (x : Array2 n0 n1) : Holds x (ent x) := ent_ix2 x

section Arrays

variable {F : FTy → Type} [FloatOps F]

/-- One number for every row. -/
def each (n : BitVec 32) : FVec F S8448x1 .f32 := broadcastInDim S8448x1 ![] bcast_S_S8448x1 (constant S_ .f32 n)

/-- The rows' mean squares, a little added. -/
def sizes (x : FVec F S8448x1024 .f32) : FVec F S8448x1 .f32 :=
  addf (Host.divf (broadcastInDim S8448x1 ![0] bcast_S8448_S8448x1_0
    (Host.reduceAdd (mulf x x) (constant S_ .f32 0x00000000#32) reducesTo_S8448x1024_S8448_d1 h_S_)) (each 0x44800000#32)) (each 0x358637BD#32)

/-- One number along a row. -/
def along (s : FVec F S8448x1 .f32) : FVec F S8448x1024 .f32 := broadcastInDim S8448x1024 ![0, 1] bcast_S8448x1_S8448x1024_0_1 s

/-- One row for all rows. -/
def down (w : FVec F S1x1024 .f32) : FVec F S8448x1024 .f32 := broadcastInDim S8448x1024 ![0, 1] bcast_S1x1024_S8448x1024_0_1 w

/-- The rows scaled. -/
def scaledRows (x : FVec F S8448x1024 .f32) : FVec F S8448x1024 .f32 := mulf x (along (Host.rsqrt (sizes x)))

/-- A row's gradient through its mean square. -/
def meanSquare (x : FVec F S8448x1024 .f32) (w : FVec F S1x1024 .f32) (d : FVec F S8448x1024 .f32) : FVec F S8448x1024 .f32 :=
  broadcastInDim S8448x1024 ![0] bcast_S8448_S8448x1024_0
    (Host.reduceAdd (Host.divf (mulf (shapeCast S8448x1 (Host.reduceAdd (mulf x (mulf d (down w))) (constant S_ .f32 0x00000000#32)
      reducesTo_S8448x1024_S8448_d1 h_S_) shapeCasts_S8448_S8448x1) (mulf (each 0xBF000000#32) (Host.divf (Host.rsqrt (sizes x)) (sizes x))))
      (each 0x44800000#32)) (constant S_ .f32 0x00000000#32) reducesTo_S8448x1_S8448_d1 h_S_)

/-- A row's gradient through the row itself. -/
def direct (x : FVec F S8448x1024 .f32) (w : FVec F S1x1024 .f32) (d : FVec F S8448x1024 .f32) : FVec F S8448x1024 .f32 :=
  mulf (mulf d (down w)) (along (Host.rsqrt (sizes x)))

/-- The gradient of a norm's input. -/
def pulled (x : FVec F S8448x1024 .f32) (w : FVec F S1x1024 .f32) (d : FVec F S8448x1024 .f32) : FVec F S8448x1024 .f32 :=
  addf (addf (direct x w d) (mulf x (meanSquare x w d))) (mulf (meanSquare x w d) x)

/-- The gradient of a norm's input and one more gradient. -/
def pulledOn (o x : FVec F S8448x1024 .f32) (w : FVec F S1x1024 .f32) (d : FVec F S8448x1024 .f32) : FVec F S8448x1024 .f32 :=
  addf (addf (addf o (direct x w d)) (mulf x (meanSquare x w d))) (mulf (meanSquare x w d) x)

/-- The gradient of a norm's weights. -/
def columnSums (x d : FVec F S8448x1024 .f32) : FVec F S1x1024 .f32 :=
  shapeCast S1x1024 (Host.reduceAdd (mulf (scaledRows x) d) (constant S_ .f32 0x00000000#32) reducesTo_S8448x1024_S1024_d0 h_S_)
    shapeCasts_S1024_S1x1024

/-- Rows and the norm of others added up. -/
def stream (h y : FVec F S8448x1024 .f32) (w : FVec F S1x1024 .f32) : FVec F S8448x1024 .f32 := addf h (mulf (scaledRows y) (down w))

end Arrays

variable {x d o : FVec Ideal S8448x1024 .f32} {w : FVec Ideal S1x1024 .f32} {fx fd fo fw : ℕ → ℕ → EReal}

theorem sizes_is (hx : Holds x fx) : Holds (sizes x) fun i _ => size fx i := fun a b => by
  pointwise [sizes, each]
  simp only [hx a, count_bits, eps_bits]
  rfl

theorem scaledRows_is (hx : Holds x fx) : Holds (scaledRows x) (scaled fx) := fun a b => by
  pointwise [scaledRows, along]
  rw [hx a, sizes_is hx a]
  rfl

theorem meanSquare_is (hx : Holds x fx) (hw : Holds w fw) (hd : Holds d fd) : Holds (meanSquare x w d) fun i _ => through fx fw fd i :=
  fun a b => by
  pointwise [meanSquare, down, each]
  simp only [hx a, hd a, hw 0, sizes_is hx a, count_bits, half_bits]
  rw [Fin.sum_univ_one]
  rfl

theorem direct_is (hx : Holds x fx) (hw : Holds w fw) (hd : Holds d fd) :
    Holds (direct x w d) fun i j => fd i j * fw 0 j * scale fx i := fun a b => by
  pointwise [direct, along, down]
  rw [hd a, hw 0, sizes_is hx a]
  rfl

theorem pulled_is (hx : Holds x fx) (hw : Holds w fw) (hd : Holds d fd) : Holds (pulled x w d) (back fx fw fd) := fun a b => by
  pointwise [pulled]
  rw [direct_is hx hw hd, meanSquare_is hx hw hd, hx a]
  exact back_eq fx fw fd a.val b.val

theorem added_is {y : FVec Ideal S8448x1024 .f32} {fy : ℕ → ℕ → EReal} (ho : Holds o fo) (hy : Holds y fy) :
    Holds (addf o y) fun i j => fo i j + fy i j := fun a b => by
  pointwise []
  rw [ho a, hy a]

theorem pulledOn_is (ho : Holds o fo) (hx : Holds x fx) (hw : Holds w fw) (hd : Holds d fd) :
    Holds (pulledOn o x w d) fun i j => fo i j + back fx fw fd i j := fun a b => by
  pointwise [pulledOn]
  rw [direct_is hx hw hd, meanSquare_is hx hw hd, hx a, ho a, add_assoc (fo _ _), add_assoc (fo _ _)]
  exact congrArg _ (back_eq fx fw fd a.val b.val)

theorem columnSums_is (hx : Holds x fx) (hd : Holds d fd) : Holds (columnSums x d) fun _ j => gain fx fd 8448 j := fun a b => by
  pointwise [columnSums]
  simp only [scaledRows_is hx _ _, hd _ _]
  unfold gain
  rw [sum_range]
  exact sum_congr rfl fun i _ => mul_comm _ _

theorem stream_is (ho : Holds o fo) (hx : Holds x fx) (hw : Holds w fw) : Holds (stream o x w) fun i j => fo i j + norm fx fw i j :=
  fun a b => by
  pointwise [stream, down]
  rw [ho a, scaledRows_is hx a, hw 0]
  rfl

end Cert.Proof.Norms

end
-- ==== Proof.Prenorm.lean ====
/- The gradient of the norm before a mixer. -/
module

public import proofs.«01_k».proof.Defs
public import proofs.«01_k».proof.Proof.NormArrays
public import Idealize.ShloMosaic.Lib.StableHlo.RunRead
public import proofs.«01_k».proof.Proof.Gen.KernelPrenorm.Frame
public import proofs.«01_k».proof.Proof.Gen.KernelPrenormIdeal.Frame
public import proofs.«01_k».proof.Proof.Gen.KernelPrenormIdeal.Value
public import proofs.«01_k».proof.Proof.Gen.ReferencePrenormIdeal.Run

@[expose] public section

set_option maxRecDepth 16384
set_option maxHeartbeats 1000000

noncomputable section

namespace Cert.Proof.Norms.Prenorm

open Finset Idealize.ShloMosaic Idealize.SL.Sem
open Cert.Proof.Products (no_offsets ent arr at_index eq_arr)

section Kernel
open Cert.KernelPrenormIdeal Cert.KernelPrenormIdeal.Gen Idealize.ShloMosaic.TcCoe Idealize.ShloMosaic.Tactic

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![t.val, 0] := by decide +kernel
theorem index5 : ∀ t : Fin grid0.N, win0_5.index t = ![0, 0] := by decide +kernel

section Block

variable {x d o : Vec Ideal S384x1024 .f32} {w s : Vec Ideal S1x1024 .f32} {fx fd fo fw fs : ℕ → ℕ → EReal}

theorem scale_is (hx : Holds x fx) : Holds (k0_pay2 x) fun i _ => scale fx i := fun a b => by
  pointwise [k0_pay2]
  simp only [hx a, count_bits, eps_bits]
  rfl

theorem scaled_is (hx : Holds x fx) : Holds (k0_pay3 x) (scaled fx) := fun a b => by
  pointwise [k0_pay3]
  rw [hx a, scale_is hx a]
  rfl

theorem back_is (hx : Holds x fx) (hw : Holds w fw) (hd : Holds d fd) (ho : Holds o fo) :
    Holds (k0_pay4 x w d o) fun i j => fo i j + back fx fw fd i j := fun a b => by
  pointwise [k0_pay4]
  simp only [ho a, hd a, hw 0, scale_is hx a, scaled_is hx a, count_bits]
  rfl

theorem sums_is (hx : Holds x fx) (hd : Holds d fd) (hs : Holds s fs) :
    Holds (k0_pay5 x d s) fun _ j => fs 0 j + ∑ r : Fin 384, fd r.val j * scaled fx r.val j := fun a b => by
  obtain rfl : a = 0 := Subsingleton.elim a 0
  pointwise [k0_pay5]
  simp only [hs _, hd _ _, scaled_is hx _ _]
  rfl

theorem zero_is : Holds (k0_pay1 (F := Ideal)) fun _ _ => 0 := fun a b => by
  pointwise [k0_pay1]

end Block

variable (m : (ℓ : Loc nD τ sig) → Buf (Elt Ideal) ℓ) (c : Dev nD) (t : Fin cfg0.N)

theorem storedA4 (h0 : t.val % 22 = 0) : (outsAt0 m c t.val t.isLt).1 = k0_pay4 (iblk m c 0 t) (iblk m c 1 t) (iblk m c 2 t) (iblk m c 3 t) := by
  rw [outsAt0_A m c t h0]
  unfold out0_A_4
  dsimp only
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  rw [View.canon_cons_unit_zero (S := S384x1024) no_offsets]
  simp only [View.ld_unit_zero (S := S384x1024) no_offsets, View.ld_unit_zero (S := S1x1024) no_offsets]

theorem storedA5 (h0 : t.val % 22 = 0) : (outsAt0 m c t.val t.isLt).2 = k0_pay5 (iblk m c 0 t) (iblk m c 2 t) (k0_pay1 (F := Ideal)) := by
  rw [outsAt0_A m c t h0]
  unfold out0_A_5
  dsimp only
  rw [View.read_writes_eq_canon _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  rw [View.canon_cons_unit_zero (S := S1x1024) no_offsets]
  rw [View.readCov_unit_zero (S := S1x1024) _ no_offsets]
  simp only [View.ld_unit_zero (S := S384x1024) no_offsets, View.ld_unit_zero (S := S1x1024) no_offsets]

theorem storedB4 (h0 : ¬t.val % 22 = 0) : (outsAt0 m c t.val t.isLt).1 = k0_pay4 (iblk m c 0 t) (iblk m c 1 t) (iblk m c 2 t) (iblk m c 3 t) := by
  rw [outsAt0_B m c t h0]
  unfold out0_B_4
  dsimp only
  rw [View.read_writes_eq_canon _ _ _ (cover0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread]
  rw [View.canon_cons_unit_zero (S := S384x1024) no_offsets]
  simp only [View.ld_unit_zero (S := S384x1024) no_offsets, View.ld_unit_zero (S := S1x1024) no_offsets]

theorem storedB5 (h0 : ¬t.val % 22 = 0) : (outsAt0 m c t.val t.isLt).2 = k0_pay5 (iblk m c 0 t) (iblk m c 2 t) ((outsAt0 m c (t.val - 1) (Nat.lt_of_le_of_lt (Nat.sub_le _ _) t.isLt)).2) := by
  rw [outsAt0_B m c t h0]
  unfold out0_B_5
  dsimp only
  rw [View.read_writes_eq_canon _ _ _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t) (outsAt0 m c (t.val - 1) (Nat.lt_of_le_of_lt (Nat.sub_le _ _) t.isLt)).2)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread]
  rw [View.canon_cons_unit_zero (S := S1x1024) no_offsets]
  simp only [View.ld_unit_zero (S := S384x1024) no_offsets, View.ld_unit_zero (S := S1x1024) no_offsets]

variable {x w d o : ℕ → ℕ → EReal}
  (hx : Holds (m ((c : Thread nD τ).loc main_arg0)) x) (hw : Holds (m ((c : Thread nD τ).loc main_arg1)) w)
  (hd : Holds (m ((c : Thread nD τ).loc main_arg2)) d) (ho : Holds (m ((c : Thread nD τ).loc main_arg3)) o)

include hx in
theorem rows0 : Holds (iblk m c 0 t) fun i j => x (384 * t.val + i) j := fun a b => by
  have ht : t.val < 22 := t.isLt
  refine Eq.trans ?_ (hx ⟨384 * t.val + a.val, by omega⟩ b)
  rw [← V_main_arg0 m c]
  blk_ext [iblk, index0 t]

include hw in
theorem row1 : Holds (iblk m c 1 t) w := fun a b => by
  refine Eq.trans ?_ (hw a b)
  rw [← V_main_arg1 m c]
  blk_ext [iblk, index1 t]

include hd in
theorem rows2 : Holds (iblk m c 2 t) fun i j => d (384 * t.val + i) j := fun a b => by
  have ht : t.val < 22 := t.isLt
  refine Eq.trans ?_ (hd ⟨384 * t.val + a.val, by omega⟩ b)
  rw [← V_main_arg2 m c]
  blk_ext [iblk, index2 t]

include ho in
theorem rows3 : Holds (iblk m c 3 t) fun i j => o (384 * t.val + i) j := fun a b => by
  have ht : t.val < 22 := t.isLt
  refine Eq.trans ?_ (ho ⟨384 * t.val + a.val, by omega⟩ b)
  rw [← V_main_arg3 m c]
  blk_ext [iblk, index3 t]

include hx hw hd ho in
/-- The rows a grid point stores. -/
theorem point : Holds (outsAt0 m c t.val t.isLt).1 fun i j => o (384 * t.val + i) j + back x w d (384 * t.val + i) j := by
  by_cases h0 : t.val % 22 = 0
  · rw [storedA4 m c t h0]
    exact back_is (rows0 m c t hx) (row1 m c t hw) (rows2 m c t hd) (rows3 m c t ho)
  · rw [storedB4 m c t h0]
    exact back_is (rows0 m c t hx) (row1 m c t hw) (rows2 m c t hd) (rows3 m c t ho)

include hx hd in
/-- The sum after a grid point. -/
theorem total : ∀ (n : ℕ) (hn : n < cfg0.N), Holds (outsAt0 m c n hn).2 fun _ j => gain x d (384 * (n + 1)) j
  | 0, hn => fun a b => by
    rw [storedA5 m c ⟨0, hn⟩ (Nat.zero_mod _), sums_is (rows0 m c ⟨0, hn⟩ hx) (rows2 m c ⟨0, hn⟩ hd) zero_is a b]
    exact (gain_add x d 0 384 b.val).symm
  | n + 1, hn => fun a b => by
    have h : ¬(n + 1) % 22 = 0 := by
      have : n + 1 < 22 := hn
      omega
    rw [storedB5 m c ⟨n + 1, hn⟩ h]
    refine (sums_is (rows0 m c ⟨n + 1, hn⟩ hx) (rows2 m c ⟨n + 1, hn⟩ hd) (total n (Nat.lt_of_succ_lt hn)) a b).trans ?_
    exact (gain_add x d (384 * (n + 1)) 384 b.val).symm

include hx hw hd ho in
theorem final4 : (dats m 0 c).arrAt 4 cfg0.N = arr 8448 1024 fun i j => o i j + back x w d i j := by
  refine (dats m 0 c).arrAt_eq_of_covers 4 _ (by decide +kernel) fun t hf y => ?_
  blk_simp
  rw [after0_4]
  refine ((point m c t hx hw hd ho).at y).trans ?_
  unfold arr
  blk_simp [index4 t]
  simp only [Nat.mul_comm, Nat.zero_mul, Nat.zero_add]

include hx hd in
theorem final5 : (dats m 0 c).arrAt 5 cfg0.N = arr 1 1024 fun _ j => gain x d 8448 j := by
  refine (dats m 0 c).arrAt_eq_of_covers 5 _ (by decide +kernel) fun t hf y => ?_
  blk_simp
  rw [after0_5]
  have ht : t.val < 22 := t.isLt
  have h : t.val % 22 = 21 := (flush0_5 t).mp hf
  have e : t.val = 21 := by omega
  refine ((total m c hx hd t.val t.isLt).at y).trans ?_
  rw [e]
  unfold arr
  blk_simp [index5 t]

end Kernel

attribute [local instance] Cert.KernelPrenorm.Gen.facts Cert.KernelPrenormIdeal.Gen.facts Cert.ReferencePrenormIdeal.Gen.facts

section Claims
open Cert.KernelPrenormIdeal Idealize.ShloMosaic.TcCoe

theorem frame : Cert.quiescent_KernelPrenorm := fun m ρ _ => Cert.KernelPrenorm.Gen.frame m ρ

theorem frame_ideal : Cert.quiescent_KernelPrenormIdeal := fun m ρ _ => Cert.KernelPrenormIdeal.Gen.frame m ρ

theorem frame_reference : Cert.quiescent_ReferencePrenormIdeal := fun m ρ _ =>
  (θ_run Cert.ReferencePrenormIdeal.defs _ _).mono (fun r h => ⟨fun c => (h c).2.2, sem_eq_zero_of_no_sems (by decide) r.2⟩)
    (Cert.ReferencePrenormIdeal.Value.run (F := Ideal) m ρ)

/-- The kernel's gradients are the reference's. -/
theorem values : Cert.algebraic_KernelPrenormIdeal_ReferencePrenormIdeal := fun m g m' g' _ ha => by
  refine ⟨_, _, Cert.KernelPrenormIdeal.Value.run_blocks m g, (θ_run Cert.ReferencePrenormIdeal.defs _ _).mono (fun r h c => ?_) (Cert.ReferencePrenormIdeal.Value.run (F := Ideal) m' g')⟩
  obtain ⟨h0, h1, hr⟩ := h c
  obtain ⟨e0, e1, e2, e3⟩ := ha c
  have hx := holds_ent (m ((c : Thread nD τ).loc main_arg0))
  have hw := holds_ent (m ((c : Thread nD τ).loc main_arg1))
  have hd := holds_ent (m ((c : Thread nD τ).loc main_arg2))
  have ho := holds_ent (m ((c : Thread nD τ).loc main_arg3))
  refine ⟨h0.trans ?_, h1.trans ?_, hr⟩
  · rw [e0, e1, e2, e3, final4 m c hx hw hd ho]
    exact eq_arr (added_is ho (pulled_is hx hw hd))
  · rw [e0, e2, final5 m c hx hd]
    exact eq_arr (columnSums_is hx hd)

end Claims

end Cert.Proof.Norms.Prenorm

end
-- ==== Proof.Resid.lean ====
/- The gradients of the norms around a residual sum. -/
module

public import proofs.«01_k».proof.Defs
public import proofs.«01_k».proof.Proof.NormArrays
public import Idealize.ShloMosaic.Lib.StableHlo.RunRead
public import proofs.«01_k».proof.Proof.Gen.KernelResid.Frame
public import proofs.«01_k».proof.Proof.Gen.KernelResidIdeal.Frame
public import proofs.«01_k».proof.Proof.Gen.KernelResidIdeal.Value
public import proofs.«01_k».proof.Proof.Gen.ReferenceResidIdeal.Run

@[expose] public section

set_option maxRecDepth 16384
set_option maxHeartbeats 1000000

noncomputable section

namespace Cert.Proof.Norms.Resid

open Finset Idealize.ShloMosaic Idealize.SL.Sem
open Cert.Proof.Products (no_offsets ent arr at_index eq_arr)

section Kernel
open Cert.KernelResidIdeal Cert.KernelResidIdeal.Gen Idealize.ShloMosaic.TcCoe Idealize.ShloMosaic.Tactic

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![t.val, 0] := by decide +kernel
theorem index7 : ∀ t : Fin grid0.N, win0_7.index t = ![t.val, 0] := by decide +kernel
theorem index8 : ∀ t : Fin grid0.N, win0_8.index t = ![0, 0] := by decide +kernel
theorem index9 : ∀ t : Fin grid0.N, win0_9.index t = ![0, 0] := by decide +kernel

section Block

variable {x d o : Vec Ideal S384x1024 .f32} {w s : Vec Ideal S1x1024 .f32} {fx fd fo fw fs : ℕ → ℕ → EReal}

theorem postScale_is (hx : Holds x fx) : Holds (k0_pay2 x) fun i _ => scale fx i := fun a b => by
  pointwise [k0_pay2]
  simp only [hx a, count_bits, eps_bits]
  rfl

theorem postScaled_is (hx : Holds x fx) : Holds (k0_pay3 x) (scaled fx) := fun a b => by
  pointwise [k0_pay3]
  rw [hx a, postScale_is hx a]
  rfl

theorem postBack_is (hx : Holds x fx) (hw : Holds w fw) (hd : Holds d fd) : Holds (k0_pay4 d x w) (back fx fw fd) := fun a b => by
  pointwise [k0_pay4]
  simp only [hd a, hw 0, postScale_is hx a, postScaled_is hx a, count_bits]
  rfl

theorem postSums_is (hx : Holds x fx) (hd : Holds d fd) (hs : Holds s fs) :
    Holds (k0_pay5 d x s) fun _ j => fs 0 j + ∑ r : Fin 384, fd r.val j * scaled fx r.val j := fun a b => by
  obtain rfl : a = 0 := Subsingleton.elim a 0
  pointwise [k0_pay5]
  simp only [hs _, hd _ _, postScaled_is hx _ _]
  rfl

theorem preScale_is (hx : Holds x fx) : Holds (k0_pay9 x) fun i _ => scale fx i := fun a b => by
  pointwise [k0_pay9, k0_pay8]
  simp only [hx a, count_bits, eps_bits]
  rfl

theorem preScaled_is (hx : Holds x fx) : Holds (k0_pay10 x) (scaled fx) := fun a b => by
  pointwise [k0_pay10, k0_pay8]
  rw [hx a, preScale_is hx a]
  rfl

theorem preBack_is (hx : Holds x fx) (hw : Holds w fw) (hd : Holds d fd) (ho : Holds o fo) :
    Holds (k0_pay11 x w d o) fun i j => fo i j + back fx fw fd i j := fun a b => by
  pointwise [k0_pay11]
  simp only [ho a, hd a, hw 0, preScale_is hx a, preScaled_is hx a, count_bits]
  rfl

theorem preSums_is (hx : Holds x fx) (hd : Holds d fd) (hs : Holds s fs) :
    Holds (k0_pay1 (k0_pay12 s) (k0_pay13 x d)) fun _ j => fs 0 j + ∑ r : Fin 384, fd r.val j * scaled fx r.val j := fun a b => by
  obtain rfl : a = 0 := Subsingleton.elim a 0
  pointwise [k0_pay1, k0_pay12, k0_pay13]
  simp only [hs _, hd _ _, preScaled_is hx _ _]
  rfl

theorem preZero_is : Holds (k0_pay6 (F := Ideal)) fun _ _ => 0 := fun a b => by
  pointwise [k0_pay6]

theorem postZero_is : Holds (k0_pay7 (F := Ideal)) fun _ _ => 0 := fun a b => by
  pointwise [k0_pay7]

end Block

variable (m : (ℓ : Loc nD τ sig) → Buf (Elt Ideal) ℓ) (c : Dev nD) (t : Fin cfg0.N)

theorem storedA6 (h0 : t.val % 22 = 0) : (outsAt0 m c t.val t.isLt).1 = k0_pay11 (iblk m c 0 t) (iblk m c 3 t) (iblk m c 5 t) (iblk m c 4 t) := by
  rw [outsAt0_A m c t h0]
  unfold out0_A_6
  dsimp only
  rw [View.read_writes_eq_canon _ _ _ (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  rw [View.canon_cons_unit_zero (S := S384x1024) no_offsets]
  simp only [View.ld_unit_zero (S := S384x1024) no_offsets, View.ld_unit_zero (S := S1x1024) no_offsets]

theorem storedA7 (h0 : t.val % 22 = 0) : (outsAt0 m c t.val t.isLt).2.1 = k0_pay4 (k0_pay11 (iblk m c 0 t) (iblk m c 3 t) (iblk m c 5 t) (iblk m c 4 t)) (iblk m c 1 t) (iblk m c 2 t) := by
  rw [outsAt0_A m c t h0]
  unfold out0_A_7
  dsimp only
  rw [View.read_writes_eq_canon _ _ _ (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  rw [View.canon_cons_unit_zero (S := S384x1024) no_offsets]
  simp only [View.ld_unit_zero (S := S384x1024) no_offsets, View.ld_unit_zero (S := S1x1024) no_offsets]

theorem storedA8 (h0 : t.val % 22 = 0) : (outsAt0 m c t.val t.isLt).2.2.1 = k0_pay1 (k0_pay12 (k0_pay6 (F := Ideal))) (k0_pay13 (iblk m c 0 t) (iblk m c 5 t)) := by
  rw [outsAt0_A m c t h0]
  unfold out0_A_8
  dsimp only
  rw [View.read_writes_eq_canon _ _ _ (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  rw [View.canon_cons_unit_zero (S := S1x1024) no_offsets]
  rw [View.readCov_unit_zero (S := S1x1024) _ no_offsets]
  simp only [View.ld_unit_zero (S := S384x1024) no_offsets, View.ld_unit_zero (S := S1x1024) no_offsets]

theorem storedA9 (h0 : t.val % 22 = 0) : (outsAt0 m c t.val t.isLt).2.2.2 = k0_pay5 (k0_pay11 (iblk m c 0 t) (iblk m c 3 t) (iblk m c 5 t) (iblk m c 4 t)) (iblk m c 1 t) (k0_pay7 (F := Ideal)) := by
  rw [outsAt0_A m c t h0]
  unfold out0_A_9
  dsimp only
  rw [View.read_writes_eq_canon _ _ _ (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  rw [View.canon_cons_unit_zero (S := S1x1024) no_offsets]
  rw [View.readCov_unit_zero (S := S1x1024) _ no_offsets]
  simp only [View.ld_unit_zero (S := S384x1024) no_offsets, View.ld_unit_zero (S := S1x1024) no_offsets]

theorem storedB6 (h0 : ¬t.val % 22 = 0) : (outsAt0 m c t.val t.isLt).1 = k0_pay11 (iblk m c 0 t) (iblk m c 3 t) (iblk m c 5 t) (iblk m c 4 t) := by
  rw [outsAt0_B m c t h0]
  unfold out0_B_6
  dsimp only
  rw [View.read_writes_eq_canon _ _ _ (cover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  rw [View.canon_cons_unit_zero (S := S384x1024) no_offsets]
  simp only [View.ld_unit_zero (S := S384x1024) no_offsets, View.ld_unit_zero (S := S1x1024) no_offsets]

theorem storedB7 (h0 : ¬t.val % 22 = 0) : (outsAt0 m c t.val t.isLt).2.1 = k0_pay4 (k0_pay11 (iblk m c 0 t) (iblk m c 3 t) (iblk m c 5 t) (iblk m c 4 t)) (iblk m c 1 t) (iblk m c 2 t) := by
  rw [outsAt0_B m c t h0]
  unfold out0_B_7
  dsimp only
  rw [View.read_writes_eq_canon _ _ _ (cover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  rw [View.canon_cons_unit_zero (S := S384x1024) no_offsets]
  simp only [View.ld_unit_zero (S := S384x1024) no_offsets, View.ld_unit_zero (S := S1x1024) no_offsets]

theorem storedB8 (h0 : ¬t.val % 22 = 0) : (outsAt0 m c t.val t.isLt).2.2.1 = k0_pay1 (k0_pay12 ((outsAt0 m c (t.val - 1) (Nat.lt_of_le_of_lt (Nat.sub_le _ _) t.isLt)).2.2.1)) (k0_pay13 (iblk m c 0 t) (iblk m c 5 t)) := by
  rw [outsAt0_B m c t h0]
  unfold out0_B_8
  dsimp only
  rw [View.read_writes_eq_canon _ _ _ (cover0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  rw [View.canon_cons_unit_zero (S := S1x1024) no_offsets]
  simp only [View.ld_unit_zero (S := S384x1024) no_offsets, View.ld_unit_zero (S := S1x1024) no_offsets]

theorem storedB9 (h0 : ¬t.val % 22 = 0) : (outsAt0 m c t.val t.isLt).2.2.2 = k0_pay5 (k0_pay11 (iblk m c 0 t) (iblk m c 3 t) (iblk m c 5 t) (iblk m c 4 t)) (iblk m c 1 t) ((outsAt0 m c (t.val - 1) (Nat.lt_of_le_of_lt (Nat.sub_le _ _) t.isLt)).2.2.2) := by
  rw [outsAt0_B m c t h0]
  unfold out0_B_9
  dsimp only
  rw [View.read_writes_eq_canon _ _ _ (cover0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  rw [View.canon_cons_unit_zero (S := S1x1024) no_offsets]
  simp only [View.ld_unit_zero (S := S384x1024) no_offsets, View.ld_unit_zero (S := S1x1024) no_offsets]

/-- The rows the kernel is run on: the residual sum. -/
def sums : FVec Ideal S8448x1024 .f32 :=
  stream (m ((c : Thread nD τ).loc main_arg0)) (m ((c : Thread nD τ).loc main_arg1)) (m ((c : Thread nD τ).loc main_arg2))

theorem operand : V m c main_v12 = sums m c := by
  simp only [V]
  after_reads_simp
  rfl

variable {h y wPost wPre o d : ℕ → ℕ → EReal}
  (hh : Holds (m ((c : Thread nD τ).loc main_arg0)) h) (hy : Holds (m ((c : Thread nD τ).loc main_arg1)) y)
  (hPost : Holds (m ((c : Thread nD τ).loc main_arg2)) wPost) (hPre : Holds (m ((c : Thread nD τ).loc main_arg3)) wPre)
  (ho : Holds (m ((c : Thread nD τ).loc main_arg4)) o) (hd : Holds (m ((c : Thread nD τ).loc main_arg5)) d)

/-- The entries of the residual sum. -/
def sumOf (h y wPost : ℕ → ℕ → EReal) (i j : ℕ) : EReal := h i j + norm y wPost i j

/-- The gradient of the residual sum. -/
def backOf (h y wPost wPre o d : ℕ → ℕ → EReal) (i j : ℕ) : EReal := o i j + back (sumOf h y wPost) wPre d i j

include hh hy hPost in
theorem rows0 : Holds (iblk m c 0 t) fun i j => sumOf h y wPost (384 * t.val + i) j := fun a b => by
  have ht : t.val < 22 := t.isLt
  refine Eq.trans ?_ (stream_is hh hy hPost ⟨384 * t.val + a.val, by omega⟩ b)
  refine Eq.trans ?_ (congrFun (operand m c) _)
  blk_ext [iblk, index0 t]

include hy in
theorem rows1 : Holds (iblk m c 1 t) fun i j => y (384 * t.val + i) j := fun a b => by
  have ht : t.val < 22 := t.isLt
  refine Eq.trans ?_ (hy ⟨384 * t.val + a.val, by omega⟩ b)
  rw [← V_main_arg1 m c]
  blk_ext [iblk, index1 t]

include hPost in
theorem row2 : Holds (iblk m c 2 t) wPost := fun a b => by
  refine Eq.trans ?_ (hPost a b)
  rw [← V_main_arg2 m c]
  blk_ext [iblk, index2 t]

include hPre in
theorem row3 : Holds (iblk m c 3 t) wPre := fun a b => by
  refine Eq.trans ?_ (hPre a b)
  rw [← V_main_arg3 m c]
  blk_ext [iblk, index3 t]

include ho in
theorem rows4 : Holds (iblk m c 4 t) fun i j => o (384 * t.val + i) j := fun a b => by
  have ht : t.val < 22 := t.isLt
  refine Eq.trans ?_ (ho ⟨384 * t.val + a.val, by omega⟩ b)
  rw [← V_main_arg4 m c]
  blk_ext [iblk, index4 t]

include hd in
theorem rows5 : Holds (iblk m c 5 t) fun i j => d (384 * t.val + i) j := fun a b => by
  have ht : t.val < 22 := t.isLt
  refine Eq.trans ?_ (hd ⟨384 * t.val + a.val, by omega⟩ b)
  rw [← V_main_arg5 m c]
  blk_ext [iblk, index5 t]

include hh hy hPost hPre ho hd

theorem block_is : Holds (k0_pay11 (iblk m c 0 t) (iblk m c 3 t) (iblk m c 5 t) (iblk m c 4 t))
    fun i j => backOf h y wPost wPre o d (384 * t.val + i) j :=
  preBack_is (rows0 m c t hh hy hPost) (row3 m c t hPre) (rows5 m c t hd) (rows4 m c t ho)

/-- The rows a grid point stores of the sum's gradient. -/
theorem point6 : Holds (outsAt0 m c t.val t.isLt).1 fun i j => backOf h y wPost wPre o d (384 * t.val + i) j := by
  by_cases h0 : t.val % 22 = 0
  · rw [storedA6 m c t h0]
    exact block_is m c t hh hy hPost hPre ho hd
  · rw [storedB6 m c t h0]
    exact block_is m c t hh hy hPost hPre ho hd

/-- The rows a grid point stores of the other gradient. -/
theorem point7 : Holds (outsAt0 m c t.val t.isLt).2.1 fun i j => back y wPost (backOf h y wPost wPre o d) (384 * t.val + i) j := by
  by_cases h0 : t.val % 22 = 0
  · rw [storedA7 m c t h0]
    exact postBack_is (rows1 m c t hy) (row2 m c t hPost) (block_is m c t hh hy hPost hPre ho hd)
  · rw [storedB7 m c t h0]
    exact postBack_is (rows1 m c t hy) (row2 m c t hPost) (block_is m c t hh hy hPost hPre ho hd)

omit hPre ho in
/-- The sum for the weights of the norm after it, after a grid point. -/
theorem total8 : ∀ (n : ℕ) (hn : n < cfg0.N), Holds (outsAt0 m c n hn).2.2.1 fun _ j => gain (sumOf h y wPost) d (384 * (n + 1)) j
  | 0, hn => fun a b => by
    rw [storedA8 m c ⟨0, hn⟩ (Nat.zero_mod _)]
    refine (preSums_is (rows0 m c ⟨0, hn⟩ hh hy hPost) (rows5 m c ⟨0, hn⟩ hd) preZero_is a b).trans ?_
    exact (gain_add (sumOf h y wPost) d 0 384 b.val).symm
  | n + 1, hn => fun a b => by
    have h0 : ¬(n + 1) % 22 = 0 := by
      have : n + 1 < 22 := hn
      omega
    rw [storedB8 m c ⟨n + 1, hn⟩ h0]
    refine (preSums_is (rows0 m c ⟨n + 1, hn⟩ hh hy hPost) (rows5 m c ⟨n + 1, hn⟩ hd) (total8 n (Nat.lt_of_succ_lt hn)) a b).trans ?_
    exact (gain_add (sumOf h y wPost) d (384 * (n + 1)) 384 b.val).symm

/-- The sum for the weights of the norm before it, after a grid point. -/
theorem total9 : ∀ (n : ℕ) (hn : n < cfg0.N), Holds (outsAt0 m c n hn).2.2.2 fun _ j => gain y (backOf h y wPost wPre o d) (384 * (n + 1)) j
  | 0, hn => fun a b => by
    rw [storedA9 m c ⟨0, hn⟩ (Nat.zero_mod _)]
    refine (postSums_is (rows1 m c ⟨0, hn⟩ hy) (block_is m c ⟨0, hn⟩ hh hy hPost hPre ho hd) postZero_is a b).trans ?_
    exact (gain_add y (backOf h y wPost wPre o d) 0 384 b.val).symm
  | n + 1, hn => fun a b => by
    have h0 : ¬(n + 1) % 22 = 0 := by
      have : n + 1 < 22 := hn
      omega
    rw [storedB9 m c ⟨n + 1, hn⟩ h0]
    refine (postSums_is (rows1 m c ⟨n + 1, hn⟩ hy) (block_is m c ⟨n + 1, hn⟩ hh hy hPost hPre ho hd) (total9 n (Nat.lt_of_succ_lt hn)) a b).trans ?_
    exact (gain_add y (backOf h y wPost wPre o d) (384 * (n + 1)) 384 b.val).symm

theorem final6 : (dats m 0 c).arrAt 6 cfg0.N = arr 8448 1024 (backOf h y wPost wPre o d) := by
  refine (dats m 0 c).arrAt_eq_of_covers 6 _ (by decide +kernel) fun t hf y => ?_
  blk_simp
  rw [after0_6]
  refine ((point6 m c t hh hy hPost hPre ho hd).at y).trans ?_
  unfold arr
  blk_simp [index6 t]
  simp only [Nat.mul_comm, Nat.zero_mul, Nat.zero_add]

theorem final7 : (dats m 0 c).arrAt 7 cfg0.N = arr 8448 1024 (back y wPost (backOf h y wPost wPre o d)) := by
  refine (dats m 0 c).arrAt_eq_of_covers 7 _ (by decide +kernel) fun t hf y => ?_
  blk_simp
  rw [after0_7]
  refine ((point7 m c t hh hy hPost hPre ho hd).at y).trans ?_
  unfold arr
  blk_simp [index7 t]
  simp only [Nat.mul_comm, Nat.zero_mul, Nat.zero_add]

omit hPre ho in
theorem final8 : (dats m 0 c).arrAt 8 cfg0.N = arr 1 1024 fun _ j => gain (sumOf h y wPost) d 8448 j := by
  refine (dats m 0 c).arrAt_eq_of_covers 8 _ (by decide +kernel) fun t hf y => ?_
  blk_simp
  rw [after0_8]
  have ht : t.val < 22 := t.isLt
  have h : t.val % 22 = 21 := (flush0_8 t).mp hf
  have e : t.val = 21 := by omega
  refine ((total8 m c hh hy hPost hd t.val t.isLt).at y).trans ?_
  rw [e]
  unfold arr
  blk_simp [index8 t]

theorem final9 : (dats m 0 c).arrAt 9 cfg0.N = arr 1 1024 fun _ j => gain y (backOf h y wPost wPre o d) 8448 j := by
  refine (dats m 0 c).arrAt_eq_of_covers 9 _ (by decide +kernel) fun t hf y => ?_
  blk_simp
  rw [after0_9]
  have ht : t.val < 22 := t.isLt
  have h : t.val % 22 = 21 := (flush0_9 t).mp hf
  have e : t.val = 21 := by omega
  refine ((total9 m c hh hy hPost hPre ho hd t.val t.isLt).at y).trans ?_
  rw [e]
  unfold arr
  blk_simp [index9 t]

end Kernel

section Reference
open Cert.ReferenceResidIdeal Cert.ReferenceResidIdeal.Gen Cert.ReferenceResidIdeal.Value Idealize.ShloMosaic.TcCoe

variable (m : (ℓ : Loc nD τ sig) → Buf (Elt Ideal) ℓ) (c : Dev nD)

/-- The reference's residual sum. -/
def refSum : FVec Ideal S8448x1024 .f32 :=
  stream (m ((c : Thread nD τ).loc main_arg0)) (m ((c : Thread nD τ).loc main_arg1)) (m ((c : Thread nD τ).loc main_arg2))

/-- The reference's gradient of the residual sum. -/
def refBack : FVec Ideal S8448x1024 .f32 :=
  pulledOn (m ((c : Thread nD τ).loc main_arg4)) (refSum m c) (m ((c : Thread nD τ).loc main_arg3)) (m ((c : Thread nD τ).loc main_arg5))

theorem out0_eq : res_main_v50 m c = refBack m c := by
  unfold res_main_v50
  rfl

theorem out1_eq : res_main_v71 m c = truncf .bf16 (pulled (m ((c : Thread nD τ).loc main_arg1)) (m ((c : Thread nD τ).loc main_arg2))
    (shapeCast S8448x1024 (refBack m c) shapeCasts_S8448x1024_S8448x1024)) bitsLt_bf16_f32 := by
  unfold res_main_v71
  rfl

theorem out2_eq : res_main_v54 m c = columnSums (m ((c : Thread nD τ).loc main_arg1))
    (shapeCast S8448x1024 (refBack m c) shapeCasts_S8448x1024_S8448x1024) := by
  unfold res_main_v54
  rfl

theorem same_is {x : FVec Ideal S8448x1024 .f32} {f : ℕ → ℕ → EReal} (h : Holds x f) :
    Holds (shapeCast S8448x1024 x shapeCasts_S8448x1024_S8448x1024) f := fun a b => by
  pointwise []
  exact h a b

end Reference

attribute [local instance] Cert.KernelResid.Gen.facts Cert.KernelResidIdeal.Gen.facts Cert.ReferenceResidIdeal.Gen.facts

theorem frame : Cert.quiescent_KernelResid := fun m ρ _ => Cert.KernelResid.Gen.frame m ρ

theorem frame_ideal : Cert.quiescent_KernelResidIdeal := fun m ρ _ => Cert.KernelResidIdeal.Gen.frame m ρ

theorem frame_reference : Cert.quiescent_ReferenceResidIdeal := fun m ρ _ =>
  (θ_run Cert.ReferenceResidIdeal.defs _ _).mono (fun r h => ⟨fun c => (h c).2.2.2.2, sem_eq_zero_of_no_sems (by decide) r.2⟩)
    (Cert.ReferenceResidIdeal.Value.run (F := Ideal) m ρ)

/-- The kernel's gradients are the reference's. -/
theorem values : Cert.algebraic_KernelResidIdeal_ReferenceResidIdeal := fun m g m' g' _ ha => by
  refine ⟨_, _, _, _, (θ_run Cert.KernelResidIdeal.defs _ _).mono (fun r h c => ⟨(h c).1, (h c).2.1, (h c).2.2.2.1, (h c).2.2.1, (h c).2.2.2.2⟩)
    (Cert.KernelResidIdeal.Value.run_blocks m g), (θ_run Cert.ReferenceResidIdeal.defs _ _).mono (fun r h c => ?_) (Cert.ReferenceResidIdeal.Value.run (F := Ideal) m' g')⟩
  obtain ⟨h0, h1, h2, h3, hr⟩ := h c
  obtain ⟨e0, e1, e2, e3, e4, e5⟩ := ha c
  have hh := holds_ent (m ((c.tc : Thread Cert.KernelResidIdeal.nD Cert.KernelResidIdeal.τ).loc Cert.KernelResidIdeal.main_arg0))
  have hy := holds_ent (m ((c.tc : Thread Cert.KernelResidIdeal.nD Cert.KernelResidIdeal.τ).loc Cert.KernelResidIdeal.main_arg1))
  have hPost := holds_ent (m ((c.tc : Thread Cert.KernelResidIdeal.nD Cert.KernelResidIdeal.τ).loc Cert.KernelResidIdeal.main_arg2))
  have hPre := holds_ent (m ((c.tc : Thread Cert.KernelResidIdeal.nD Cert.KernelResidIdeal.τ).loc Cert.KernelResidIdeal.main_arg3))
  have ho := holds_ent (m ((c.tc : Thread Cert.KernelResidIdeal.nD Cert.KernelResidIdeal.τ).loc Cert.KernelResidIdeal.main_arg4))
  have hd := holds_ent (m ((c.tc : Thread Cert.KernelResidIdeal.nD Cert.KernelResidIdeal.τ).loc Cert.KernelResidIdeal.main_arg5))
  refine ⟨h0.trans ?_, h1.trans ?_, h2.trans ?_, h3.trans ?_, hr⟩
  · rw [out0_eq, final6 m c hh hy hPost hPre ho hd]
    unfold refBack refSum
    rw [e0, e1, e2, e3, e4, e5]
    exact eq_arr (pulledOn_is ho (stream_is hh hy hPost) hPre hd)
  · rw [out1_eq, final7 m c hh hy hPost hPre ho hd]
    unfold refBack refSum
    rw [e0, e1, e2, e3, e4, e5]
    exact eq_arr (pulled_is hy hPost (same_is (pulledOn_is ho (stream_is hh hy hPost) hPre hd)))
  · rw [out2_eq, final9 m c hh hy hPost hPre ho hd]
    unfold refBack refSum
    rw [e0, e1, e2, e3, e4, e5]
    exact eq_arr (columnSums_is hy (same_is (pulledOn_is ho (stream_is hh hy hPost) hPre hd)))
  · rw [e0, e1, e2, e5, final8 m c hh hy hPost hd]
    exact eq_arr (columnSums_is (stream_is hh hy hPost) hd)

end Cert.Proof.Norms.Resid

end
-- ==== Proof.FwdStep.lean ====
/- The loop over spans of the attention's forward call: what one trip makes of the loop's variables, the trips one
   after another, and the facts of the counter. -/
module

public import proofs.«01_k».proof.Proof.Gen.KernelFwdIdeal.Launch
public import proofs.«01_k».proof.Proof.Gen.KernelFwdIdeal.Points
public import proofs.«01_k».proof.Proof.Gen.KernelFwdIdeal.Skeleton
public import Idealize.ShloMosaic.Lib.Tactic
public import Idealize.ShloMosaic.Lib.VecWindow

@[expose] public section

set_option maxRecDepth 65536
set_option maxHeartbeats 4000000

noncomputable section

namespace Cert.Proof.Forward

open Cert.KernelFwdIdeal Cert.KernelFwdIdeal.Gen
open Idealize.ShloMosaic Idealize.ShloMosaic.TcCoe Idealize.SL.Sem

variable {F : FTy → Type} [FloatOps F] [Named F]

/-- The loop's variables: the counter, whether the stick has anything left, and for each of the two heads the sum of
    weighted values and the logarithm of what is left of the stick. -/
abbrev Carry (F : FTy → Type) :=
  BitVec 32 × BitVec 32 × FVec F S256x128 .f32 × FVec F S256x1 .f32 × FVec F S256x128 .f32 × FVec F S256x1 .f32

/-- The number of spans up to the end of a point's query tile. -/
def spans (i : grid0.Coords) : ℕ := ((i 1).val + 2) / 2

/-- The row where a point's query tile ends. -/
def tileEnd (i : grid0.Coords) : BitVec 32 := Scalar.muli (Scalar.addi (BitVec.ofNat 32 (i 1).val) 1#32) 256#32

/-- That row plus a span less one. -/
def tileTop (i : grid0.Coords) : BitVec 32 := Scalar.subi (Scalar.addi (tileEnd i) 512#32) 1#32

/-- The number of spans as the body computes it: the quotient rounded down. -/
def limit (i : grid0.Coords) : BitVec 32 :=
  Scalar.select
    (Scalar.andi
      (Scalar.cmpi .ne
        (Scalar.subi (Scalar.extui (Scalar.cmpi .sgt (tileTop i) 0#32)) (Scalar.extui (Scalar.cmpi .slt (tileTop i) 0#32)))
        (Scalar.subi (Scalar.extui (Scalar.cmpi .sgt 512#32 0#32)) (Scalar.extui (Scalar.cmpi .slt 512#32 0#32))))
      (Scalar.cmpi .ne (Scalar.remsi (tileTop i) 512#32) 0#32))
    (Scalar.subi (Scalar.divsi (tileTop i) 512#32) 1#32) (Scalar.divsi (tileTop i) 512#32)

/-- The loop's test. -/
def goes (i : grid0.Coords) (r more : BitVec 32) : Prop :=
  Scalar.andi (Scalar.cmpi .slt r (limit i)) (Scalar.cmpi .sgt more 0#32) = 1#1

instance (i : grid0.Coords) (r more : BitVec 32) : Decidable (goes i r more) := inferInstanceAs (Decidable (_ = _))

/-- What a point's trips read beside the keys and values: the two heads' queries and the triangle of ones. -/
structure Tile (F : FTy → Type) where
  qa : FVec F S256x128 .bf16
  qb : FVec F S256x128 .bf16
  tri : FVec F S256x256 .bf16

/-- The mask of a trip. -/
def mask (i : grid0.Coords) (r : BitVec 32) : IVec S256x512 1 := k0_pay18 (k0_pay15 i) r (tileEnd i)

/-- The logarithms of what each key of a span leaves, first head. -/
def leftA (i : grid0.Coords) (r : BitVec 32) (T : Tile F) (ks : Vec F S512x128 .f32) : FVec F S256x512 .f32 :=
  k0_pay21 (k0_pay15 i) T.qa r (tileEnd i) ks

/-- The logarithms of what each key of a span leaves, second head. -/
def leftB (i : grid0.Coords) (r : BitVec 32) (T : Tile F) (ks : Vec F S512x128 .f32) : FVec F S256x512 .f32 :=
  k0_pay26 (mask i r) (k0_pay23 T.qb ks) (k0_pay24 T.qb ks) (Scalar.ofBits .f32 0x00000000#32)

/-- The loop's variables after a trip over the span with keys `ks` and values `vs`. -/
def step (i : grid0.Coords) (T : Tile F) (ks vs : Vec F S512x128 .f32) (s : Carry F) : Carry F :=
  (Scalar.addi s.1 1#32,
   Scalar.extui (Scalar.cmpf .ogt (k0_pay9 s.2.2.2.2.2 (leftB i s.1 T ks) (k0_pay31 s.2.2.2.1 (leftA i s.1 T ks)))
     (Named.named κ "dead" (φ := .f32) 0xC2D00000#32)),
   k0_pay5 s.2.2.1 (k0_pay17 vs) (k0_pay32 T.tri s.2.2.2.1 (mask i s.1) (leftA i s.1 T ks) (k0_pay22 T.qa ks)),
   k0_pay31 s.2.2.2.1 (leftA i s.1 T ks),
   k0_pay8 s.2.2.2.2.1 s.2.2.2.2.2 (k0_pay17 vs) (mask i s.1) (leftB i s.1 T ks)
     (k0_pay27 (k0_pay23 T.qb ks) (k0_pay24 T.qb ks) (Scalar.ofBits .f32 0x00000000#32))
     (k0_pay28 T.tri (mask i s.1) (k0_pay23 T.qb ks) (k0_pay24 T.qb ks) (Scalar.ofBits .f32 0x00000000#32))
     (k0_pay29 T.tri (mask i s.1) (k0_pay23 T.qb ks) (k0_pay24 T.qb ks) (Scalar.ofBits .f32 0x00000000#32)),
   k0_pay7 s.2.2.2.2.2 (leftB i s.1 T ks))

/-- A span's rows of an array. -/
def spanRows (i : grid0.Coords) (r : BitVec 32) (h : k0_chk1 i r) (x : Vec F S8448x128 .f32) : Vec F S512x128 .f32 :=
  VecWindow.window x (k0_off1 i r) S512x128.size h.2

/-- At most `k` trips, from the variables `s`: the loop stops where its test fails. -/
def walk (i : grid0.Coords) (T : Tile F) (x y : Vec F S8448x128 .f32) : ℕ → Carry F → Carry F
  | 0, s => s
  | k + 1, s =>
    if goes i s.1 s.2.1 then
      if h : k0_chk1 i s.1 then walk i T x y k (step i T (spanRows i s.1 h x) (spanRows i s.1 h y) s) else s
    else s

/-- What the loop starts from. -/
def start : Carry F := (0#32, 1#32, k0_pay1, k0_pay2, k0_pay1, k0_pay2)

/-- The number of spans the body computes is the number of spans. -/
theorem limit_eq : ∀ t : Fin grid0.N, limit (grid0.coords t) = BitVec.ofNat 32 (spans (grid0.coords t)) := by
  decide +kernel

theorem spans_le : ∀ t : Fin grid0.N, spans (grid0.coords t) ≤ 17 := by
  decide +kernel

/-- The condition the body checks holds at every trip of every point. -/
theorem chk_all : ∀ t : Fin grid0.N, ∀ r : Fin 17, r.val < spans (grid0.coords t) →
    k0_chk1 (grid0.coords t) (BitVec.ofNat 32 r.val) := by
  decide +kernel

/-- Past the last span the test fails. -/
theorem stops (t : Fin grid0.N) (more : BitVec 32) :
    ¬ goes (grid0.coords t) (BitVec.ofNat 32 (spans (grid0.coords t))) more := by
  unfold goes
  rw [limit_eq]
  have h : ∀ n : Fin 18, Scalar.cmpi .slt (BitVec.ofNat 32 n.val) (BitVec.ofNat 32 n.val) = 0#1 := by decide +kernel
  rw [h ⟨spans (grid0.coords t), Nat.lt_succ_of_le (spans_le t)⟩]
  show ¬ (0#1 &&& _ = 1#1)
  rw [BitVec.zero_and]
  decide

/-- The counter's step. -/
theorem next (r : ℕ) : Scalar.addi (BitVec.ofNat 32 r) 1#32 = BitVec.ofNat 32 (r + 1) := by
  show BitVec.ofNat 32 r + BitVec.ofNat 32 1 = _
  rw [BitVec.ofNat_add]

set_option maxRecDepth 65536 in
/-- The loop's function: the test, then one trip and the rest of the loop. -/
theorem while_eq (i : grid0.Coords) (M3 : Memref sig .tc .vmem S8448x128 .f32) (h3 : M3.IsWhole)
    (M4 : Memref sig .tc .vmem S8448x128 .f32) (h4 : M4.IsWhole) (T : Tile F) (s : Carry F) :
    cc0_while1 (F := F) i M3 h3 M4 h4 (k0_pay15 i) T.qa T.qb T.tri s.1 s.2.1 s.2.2.1 s.2.2.2.1 s.2.2.2.2.1 s.2.2.2.2.2
      = if goes i s.1 s.2.1 then
          Prog.op (TpuEff.assume (k0_chk1 i s.1) (k0_chk1.dec i s.1)) fun hw =>
            Prog.op (.load M3 (Rect.unit (s := S8448x128) (k0_off1 i s.1) S512x128.size (k0_off1_inb i s.1 hw.down)).toLoadRect (View.loadsAt_vmem h_S512x128)) fun ks =>
              Prog.op (.load M4 (Rect.unit (s := S8448x128) (k0_off1 i s.1) S512x128.size (k0_off1_inb i s.1 hw.down)).toLoadRect (View.loadsAt_vmem h_S512x128)) fun vs =>
                Prog.op (.call (1 : (Λ₀ F).Label) ⟨i, M3, h3, M4, h4, k0_pay15 i, T.qa, T.qb, T.tri,
                  (step i T ks vs s).1, (step i T ks vs s).2.1, (step i T ks vs s).2.2.1, (step i T ks vs s).2.2.2.1,
                  (step i T ks vs s).2.2.2.2.1, (step i T ks vs s).2.2.2.2.2⟩) Prog.ret
        else Prog.ret s := rfl

end Cert.Proof.Forward

end
-- ==== Proof.FwdHead.lean ====
/- One head of one trip of the attention's forward call, in real numbers: each query's weights over the span are those of
   its row, and the logarithm of what is left of the stick runs down. The values may be infinite. -/
module

public import proofs.«01_k».proof.Proof.FwdStep
public import proofs.«01_k».proof.Proof.HeadValue

@[expose] public section

set_option maxRecDepth 16384
set_option maxHeartbeats 4000000

noncomputable section

namespace Cert.Proof.Forward

open Finset
open Cert.KernelFwdIdeal Cert.KernelFwdIdeal.Gen
open Idealize.ShloMosaic Idealize.ShloMosaic.TcCoe
open Cert.Proof.SB (Is IsCol IsMask TileSpan TileHalf TileCol rowLeft rowAtt sp dots half0_is half1_is half0_mask half1_mask
  rowSum_is triSum_tril joinHalves_is)

section Over
variable {F : FTy → Type} [FloatOps F]

/-- What one head of one trip is computed from. -/
structure HeadIn (F : FTy → Type) where
  mask : IVec S256x512 1
  q : FVec F S256x128 .bf16
  tri : FVec F S256x256 .bf16
  k : FVec F S512x128 .bf16
  v : FVec F S512x128 .bf16

/-- The attention weights over half a span. -/
def weigh (mask : IVec S256x256 1) (lsg suf : TileHalf F) (c : TileCol F) : TileHalf F :=
  select mask (exp (addf (addf lsg suf) (broadcastTo S256x256 c broadcasts_S256x1_S256x256)))
    (broadcast S256x256 (Scalar.ofBits .f32 0x00000000#32))

namespace HeadIn

variable (h : HeadIn F) (c : TileCol F)

/-- The logarithms of what each key leaves. -/
def left : TileSpan F := SB.logLeft h.mask (SB.scores h.q h.k)

/-- The logarithms of the sigmoids. -/
def lsg : TileSpan F := SB.logSig (SB.scores h.q h.k)

/-- What is left after the second half of the span. -/
def mid : TileCol F := addf c (SB.rowSum (SB.half1 h.left))

/-- What is left after the span. -/
def rest : TileCol F := addf (h.mid c) (SB.rowSum (SB.half0 h.left))

/-- The attention weights over the first half. -/
def att0 : TileHalf F := weigh (SB.half0 h.mask) (SB.half0 h.lsg) (SB.triSum (SB.half0 h.left) h.tri) (h.mid c)

/-- The attention weights over the second half. -/
def att1 : TileHalf F := weigh (SB.half1 h.mask) (SB.half1 h.lsg) (SB.triSum (SB.half1 h.left) h.tri) c

/-- The sum of weighted values after the span. -/
def out (o : FVec F S256x128 .f32) : FVec F S256x128 .f32 :=
  addf o (matmul dot_S256x512_S512x128_S256x128_1_0_0_1_n_n none (SB.joinHalves (h.att0 c) (h.att1 c)) h.v
    (constant S256x128 .f32 0x00000000#32))

end HeadIn

/-- The first head of a trip. -/
def headA (i : grid0.Coords) (r : BitVec 32) (T : Tile F) (ks vs : Vec F S512x128 .f32) : HeadIn F :=
  ⟨mask i r, T.qa, T.tri, k0_pay16 ks, k0_pay17 vs⟩

/-- The second head of a trip. -/
def headB (i : grid0.Coords) (r : BitVec 32) (T : Tile F) (ks vs : Vec F S512x128 .f32) : HeadIn F :=
  ⟨mask i r, T.qb, T.tri, k0_pay16 ks, k0_pay17 vs⟩

/-- A trip head by head. -/
theorem step_eq [Named F] (i : grid0.Coords) (T : Tile F) (ks vs : Vec F S512x128 .f32) (s : Carry F) :
    step i T ks vs s = (Scalar.addi s.1 1#32,
      Scalar.extui (Scalar.cmpf .ogt (k0_pay9 s.2.2.2.2.2 (headB i s.1 T ks vs).left ((headA i s.1 T ks vs).rest s.2.2.2.1))
        (Named.named κ "dead" (φ := .f32) 0xC2D00000#32)),
      (headA i s.1 T ks vs).out s.2.2.2.1 s.2.2.1, (headA i s.1 T ks vs).rest s.2.2.2.1,
      (headB i s.1 T ks vs).out s.2.2.2.2.2 s.2.2.2.2.1, (headB i s.1 T ks vs).rest s.2.2.2.2.2) := rfl

end Over

/-- The entries of a two-dimensional array are the given extended reals. -/
def Has {n0 n1 : ℕ} (x : (⟨2, ![n0, n1]⟩ : Shape).Idx → EReal) (f : ℕ → ℕ → EReal) : Prop :=
  ∀ (a : Fin n0) (b : Fin n1), x (ix2 a b) = f a.val b.val

/-- A product of reals and extended reals over the second coordinate of the one and the first of the other. -/
theorem sum_mul_has {n n0 n1 : ℕ} {x : (⟨2, ![n0, n]⟩ : Shape).Idx → EReal} {y : (⟨2, ![n, n1]⟩ : Shape).Idx → EReal}
    {f : ℕ → ℕ → ℝ} {g : ℕ → ℕ → EReal} (hx : Is x f) (hy : Has y g) (a : Fin n0) (b : Fin n1) :
    ∑ d : Fin n, x (ix2 a d) * y (ix2 d b) = ∑ d ∈ range n, ((f a.val d : ℝ) : EReal) * g d b.val := by
  rw [Finset.sum_range]
  exact sum_congr rfl fun d _ => by rw [hx a d, hy d b]

/-- The head's arrays are the given real numbers and truth values, and its values the given extended reals. -/
structure HeadIs (h : HeadIn Ideal) (M : ℕ → ℕ → Bool) (Q K : ℕ → ℕ → ℝ) (V : ℕ → ℕ → EReal) : Prop where
  mask : IsMask h.mask M
  q : Is h.q Q
  k : Is h.k K
  v : Has h.v V
  tri : Is h.tri fun a b => if b < a then 1 else 0

theorem weigh_is {f g : ℕ → ℕ → ℝ} {m : ℕ → ℕ → Bool} {mask : IVec S256x256 1} {lsg suf : TileHalf Ideal} {c : TileCol Ideal} {u : ℕ → ℝ}
    (hm : IsMask mask m) (hl : Is lsg f) (hs : Is suf g) (hc : IsCol c u) :
    Is (weigh mask lsg suf c) (fun a b => if m a b then Real.exp (f a b + g a b + u a) else 0) := fun a b => by
  pointwise [weigh]
  rw [hm, hl, hs, hc, SB.select_bool, ← EReal.coe_add, ← EReal.coe_add, SB.exp_coe, SB.zero_coe, SB.ite_coe]

namespace HeadIs

variable {h : HeadIn Ideal} {M : ℕ → ℕ → Bool} {Q K : ℕ → ℕ → ℝ} {V : ℕ → ℕ → EReal}
variable (H : HeadIs h M Q K V) {c : TileCol Ideal} {u : ℕ → ℝ}
include H

theorem scores_is : Is (SB.scores h.q h.k) (dots Q K) := fun a b => by
  pointwise [SB.scores]
  exact SB.sum_mul_fin H.q H.k a b

theorem left_is : Is h.left (fun a => rowLeft (M a) (dots Q K a)) := fun a b => by
  pointwise [HeadIn.left, SB.logLeft, SB.softplus]
  rw [H.mask, SB.select_bool, H.scores_is]
  erw [SB.sp_coe]
  rw [SB.zero_coe, ← EReal.coe_sub, SB.ite_coe, zero_sub]
  rfl

theorem lsg_is : Is h.lsg (fun a b => dots Q K a b - sp (dots Q K a b)) := fun a b => by
  pointwise [HeadIn.lsg, SB.logSig, SB.softplus]
  rw [H.scores_is]
  erw [SB.sp_coe]
  rw [← EReal.coe_sub]

variable (hc : IsCol c u)
include hc

theorem mid_is : IsCol (h.mid c) (fun a => u a + ∑ b ∈ range 256, rowLeft (M a) (dots Q K a) (256 + b)) := fun a => by
  pointwise [HeadIn.mid]
  rw [hc, rowSum_is (half1_is H.left_is) a, ← EReal.coe_add]

theorem rest_is : IsCol (h.rest c) (fun a => u a + ∑ b ∈ range 512, rowLeft (M a) (dots Q K a) b) := fun a => by
  pointwise [HeadIn.rest]
  rw [H.mid_is hc, rowSum_is (half0_is H.left_is) a, ← EReal.coe_add, sum_range_add _ 256 256]
  refine congrArg _ ?_
  beta_reduce
  ring

theorem att0_is : Is (h.att0 c) (fun a => rowAtt (M a) (dots Q K a) (u a + ∑ b ∈ range 512, rowLeft (M a) (dots Q K a) b)) := fun a b => by
  unfold HeadIn.att0
  rw [weigh_is (half0_mask H.mask) (half0_is H.lsg_is) (triSum_tril (half0_is H.left_is) H.tri) (H.mid_is hc)]
  simp only [rowAtt]
  rw [sum_range_add _ 256 256]
  congr 3
  ring

theorem att1_is : Is (h.att1 c)
    (fun a b => rowAtt (M a) (dots Q K a) (u a + ∑ b ∈ range 512, rowLeft (M a) (dots Q K a) b) (256 + b)) := fun a b => by
  unfold HeadIn.att1
  rw [weigh_is (half1_mask H.mask) (half1_is H.lsg_is) (triSum_tril (half1_is H.left_is) H.tri) hc]
  simp only [rowAtt]
  rw [sum_range_add _ 256 256, add_assoc 256, sum_range_add _ 256 (b.val + 1)]
  congr 3
  ring

theorem out_is {o : FVec Ideal S256x128 .f32} {w : ℕ → ℕ → EReal} (ho : Has o w) : Has (h.out c o) (fun a l => w a l
    + ∑ b ∈ range 512, ((rowAtt (M a) (dots Q K a) (u a + ∑ b ∈ range 512, rowLeft (M a) (dots Q K a) b) b : ℝ) : EReal) * V b l) := fun a l => by
  pointwise [HeadIn.out]
  rw [ho]
  congr 1
  exact sum_mul_has (joinHalves_is _ (H.att0_is hc) (H.att1_is hc)) H.v a l

end HeadIs

end Cert.Proof.Forward

end
-- ==== Proof.FwdLoop.lean ====
/- The loop over spans of the attention's forward call, and the call's body at one grid point. -/
module

public import proofs.«01_k».proof.Proof.FwdStep
public import Idealize.ShloMosaic.Lib.Pipeline.FrameBody
public import Idealize.ShloMosaic.Lib.Pipeline.Value
public import Idealize.ShloMosaic.Lib.Ring
public import Idealize.ShloMosaic.Lib.WordCmp

@[expose] public section

set_option maxRecDepth 65536
set_option maxHeartbeats 4000000

noncomputable section

namespace Cert.Proof.Forward

open Cert.KernelFwdIdeal Cert.KernelFwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The resource algebra of the proof. -/
local notation "𝕄" => MT nD τ sig Unit (Elt F) ℕ (UR sig nD τ) ℕ

/-- The loop's function is entered with the number of trips still to go. -/
abbrev 𝒱₀ : Variants := Variants.nat

section Loop

variable (c : Dev nD) (t : Fin grid0.N)
    (M3 : Memref sig .tc .vmem S8448x128 .f32) (h3 : M3.IsWhole) (M4 : Memref sig .tc .vmem S8448x128 .f32) (h4 : M4.IsWhole)
    (T : Tile F) (x y : Vec F S8448x128 .f32)

/-- The keys' and the values' staging buffers, at their contents. -/
def held : sProp 𝕄 :=
  iprop((M3.view.loc (c : Thread nD τ) ↦[M3.view.set]{fullShare} h3.unread x)
    ∗ (M4.view.loc (c : Thread nD τ) ↦[M4.view.set]{fullShare} h4.unread y))

/-- What the loop's function does with at most `k` trips to go: it gives back the two buffers and returns what the
    trips make of its variables. -/
def spec (k : ℕ) (s : Carry F) : sWPT 𝕄 (Carry F) := do
  sWPT.consume (held c M3 h3 M4 h4 x y)
  sWPT.produce (held c M3 h3 M4 h4 x y)
  pure (walk (grid0.coords t) T x y k s)

theorem spec_apply (k : ℕ) (s : Carry F) (K : Carry F → sProp 𝕄) :
    spec c t M3 h3 M4 h4 T x y k s K
      = iprop(held c M3 h3 M4 h4 x y ∗ (held c M3 h3 M4 h4 x y -∗ K (walk (grid0.coords t) T x y k s))) := rfl

theorem read_span (r : BitVec 32) (M : Memref sig .tc .vmem S8448x128 .f32) (h : M.IsWhole) (x : Vec F S8448x128 .f32)
    (hw : k0_chk1 (grid0.coords t) r) :
    M.view.readAt (Elt F) (Rect.unit (s := S8448x128) (k0_off1 (grid0.coords t) r) S512x128.size
      (k0_off1_inb (grid0.coords t) r hw)).toLoadRect (h.unread x) = spanRows (grid0.coords t) r hw x := by
  rw [View.readAt_unit _ _ _ rfl hw.2, h.read_unread]
  rfl

/-- The loop's function does so, entered at the number of trips to go. -/
theorem spec_le (E : Set ℕ) :
    ∀ k j, j + k = spans (grid0.coords t) → ∀ s : Carry F, s.1 = BitVec.ofNat 32 j → ∀ K,
      spec c t M3 h3 M4 h4 T x y k s K
      ⊢ wp frame (wpE (defs₀ (F := F)) 𝒱₀ (c : Thread nD τ) (some k)) E
          (defs₀ (F := F) .tc 1 ⟨grid0.coords t, M3, h3, M4, h4, k0_pay15 (grid0.coords t), T.qa, T.qb, T.tri,
            s.1, s.2.1, s.2.2.1, s.2.2.2.1, s.2.2.2.2.1, s.2.2.2.2.2⟩) K := by
  intro k
  induction k with
  | zero =>
    intro j hj s hs K
    rw [spec_apply]
    show _ ⊢ wp frame (wpE (defs₀ (F := F)) 𝒱₀ (c : Thread nD τ) (some 0)) E
      (cc0_while1 (F := F) (grid0.coords t) M3 h3 M4 h4 (k0_pay15 (grid0.coords t)) T.qa T.qb T.tri s.1 s.2.1 s.2.2.1 s.2.2.2.1
        s.2.2.2.2.1 s.2.2.2.2.2) K
    have hstop : ¬ goes (grid0.coords t) s.1 s.2.1 := by
      rw [hs, show j = spans (grid0.coords t) from hj]; exact stops t _
    rw [while_eq, if_neg hstop, walk]
    iintro ⟨H, Hk⟩
    rw [wp_ret]; imodintro
    iapply Hk
    iexact H
  | succ k ih =>
    intro j hj s hs K
    rw [spec_apply]
    show _ ⊢ wp frame (wpE (defs₀ (F := F)) 𝒱₀ (c : Thread nD τ) (some (k + 1))) E
      (cc0_while1 (F := F) (grid0.coords t) M3 h3 M4 h4 (k0_pay15 (grid0.coords t)) T.qa T.qb T.tri s.1 s.2.1 s.2.2.1 s.2.2.2.1
        s.2.2.2.2.1 s.2.2.2.2.2) K
    rw [while_eq]
    by_cases hgo : goes (grid0.coords t) s.1 s.2.1
    · have hle := spans_le t
      have hw : k0_chk1 (grid0.coords t) s.1 := by
        rw [hs]; exact chk_all t ⟨j, by omega⟩ (by show j < _; omega)
      rw [if_pos hgo, walk, if_pos hgo, dif_pos hw]
      unfold held
      iintro ⟨⟨Hx, Hy⟩, Hk⟩
      iapply (wp_assume 𝒱₀ (c : Thread nD τ) (some (k + 1)) E hw)
      iapply (wp_load 𝒱₀ (c : Thread nD τ) (some (k + 1)) E (m := M3) (View.setOn_subset_set _ _)) $$ Hx; iintro Hx
      iapply (wp_load 𝒱₀ (c : Thread nD τ) (some (k + 1)) E (m := M4) (View.setOn_subset_set _ _)) $$ Hy; iintro Hy
      rw [read_span t s.1 M3 h3 x hw, read_span t s.1 M4 h4 y hw]
      iapply (wp_call_spec 𝒱₀ (c : Thread nD τ) (some (k + 1)) E
        (spec c t M3 h3 M4 h4 T x y k (step (grid0.coords t) T (spanRows (grid0.coords t) s.1 hw x) (spanRows (grid0.coords t) s.1 hw y) s)) k
        (fun u hu => by cases hu; exact Nat.lt_succ_self k)
        (ih (j + 1) (by omega) _ (by show Scalar.addi s.1 1#32 = _; rw [hs, next])))
      rw [spec_apply]; unfold held
      isplitl [Hx Hy]
      · isplitl [Hx]; · iexact Hx
        iexact Hy
      iintro ⟨Hx, Hy⟩
      rw [wp_ret]; imodintro
      iapply Hk
      isplitl [Hx]; · iexact Hx
      iexact Hy
    · rw [if_neg hgo, walk, if_neg hgo]
      iintro ⟨H, Hk⟩
      rw [wp_ret]; imodintro
      iapply Hk
      iexact H

end Loop

/-- The point's tile: the queries scaled and split by head, and the triangle. -/
def tileOf (x2 : Vec F S256x128 .f32) (x5 : Vec F S256x256 .bf16) : Tile F := ⟨k0_pay12 x2, k0_pay13 x2, k0_pay14 x5⟩

/-- What the loop leaves at a grid point. -/
def loopOut (i : grid0.Coords) (x2 : Vec F S256x128 .f32) (x3 x4 : Vec F S8448x128 .f32) (x5 : Vec F S256x256 .bf16) : Carry F :=
  walk i (tileOf x2 x5) x3 x4 (spans i) start

/-- The first result's block. -/
def outOf (s : Carry F) : Vec F S256x128 .f32 := k0_pay3 k0_pay10 s.2.2.1 s.2.2.2.2.1

/-- The second result's block. -/
def restOf (s : Carry F) : Vec F S256x128 .f32 := k0_pay4 k0_pay10 s.2.2.2.1 s.2.2.2.2.2

/-- What the body does after the loop: it stores the three results. -/
def stores (i : grid0.Coords) (M6 : Memref sig .tc .vmem S256x128 .f32) (M7 : Memref sig .tc .vmem S256x128 .f32)
    (M8 : Memref sig .tc .smem S4x33 .i32) (s : Carry F) : Prog (TpuEff nD τ sig (Elt F) (Λ₀ F) .tc) PUnit := do
  let v44 : Vec F S256x128 .f32 ← Prog.lift (.load M6 (Rect.unit (s := S256x128) ![0, 0] S256x128.size inb_S256x128_S256x128_0_0).toLoadRect (View.loadsAt_vmem h_S256x128))
  Prog.lift (.store M6 (Rect.unit (s := S256x128) ![0, 0] S256x128.size inb_S256x128_S256x128_0_0) (outOf s) Finset.univ (View.stores_vmem_bits_univ h_S256x128 rfl) (.inl rfl))
  let v50 : Vec F S256x128 .f32 ← Prog.lift (.load M7 (Rect.unit (s := S256x128) ![0, 0] S256x128.size inb_S256x128_S256x128_0_0).toLoadRect (View.loadsAt_vmem h_S256x128))
  Prog.lift (.store M7 (Rect.unit (s := S256x128) ![0, 0] S256x128.size inb_S256x128_S256x128_0_0) (restOf s) Finset.univ (View.stores_vmem_bits_univ h_S256x128 rfl) (.inl rfl))
  let v53 : Elt F .i32 ← smemLoad M8 (Rect.unit (s := S4x33) (k0_off2 i) S1x1.size (k0_off2_inb i)) numel1_S1x1 rfl
  Prog.lift (.store M8 (Rect.unit (s := S4x33) (k0_off2 i) S1x1.size (k0_off2_inb i)) (fun _ => s.1) Finset.univ (View.stores_smem_one rfl numel1_S1x1) (.inl rfl))
  pure ⟨⟩

/-- The body: it reads the queries and the triangle, runs the loop and stores the results. -/
theorem body_eq (i : grid0.Coords)
    (M2 : Memref sig .tc .vmem S256x128 .f32) (h2 : M2.IsWhole) (M3 : Memref sig .tc .vmem S8448x128 .f32) (h3 : M3.IsWhole)
    (M4 : Memref sig .tc .vmem S8448x128 .f32) (h4 : M4.IsWhole) (M5 : Memref sig .tc .vmem S256x256 .bf16) (h5 : M5.IsWhole)
    (M6 : Memref sig .tc .vmem S256x128 .f32) (h6 : M6.IsWhole) (M7 : Memref sig .tc .vmem S256x128 .f32) (h7 : M7.IsWhole)
    (M8 : Memref sig .tc .smem S4x33 .i32) (h8 : M8.IsWhole) :
    cc0_sb_fwd (F := F) i M2 h2 M3 h3 M4 h4 M5 h5 M6 h6 M7 h7 M8 h8
      = Prog.op (.load M2 (Rect.unit (s := S256x128) ![0, 0] S256x128.size inb_S256x128_S256x128_0_0).toLoadRect (View.loadsAt_vmem h_S256x128)) fun v3 =>
          Prog.op (.load M5 (Rect.unit (s := S256x256) ![0, 0] S256x256.size inb_S256x256_S256x256_0_0).toLoadRect (View.loadsAt_vmem h_S256x256)) fun v13 =>
            Prog.op (.call (1 : (Λ₀ F).Label) ⟨i, M3, h3, M4, h4, k0_pay15 i, (tileOf v3 v13).qa, (tileOf v3 v13).qb, (tileOf v3 v13).tri,
              (start (F := F)).1, (start (F := F)).2.1, (start (F := F)).2.2.1, (start (F := F)).2.2.2.1,
              (start (F := F)).2.2.2.2.1, (start (F := F)).2.2.2.2.2⟩) fun s => stores i M6 M7 M8 s := rfl

/-- The corner of a block of rank two. -/
theorem off_zero : (![0, 0] : Fin 2 → ℕ) = fun _ => 0 := by
  funext a; fin_cases a <;> rfl

/-- A store of a whole query tile leaves what was stored. -/
theorem read_store {sp : Space} {e : EltTy} (v : View sig .tc sp S256x128 e) (f : v.ty.Contents (Elt F))
    (w : Vec F S256x128 e) :
    v.read (Elt F) (v.writes (Elt F) f [⟨Rect.unit ![0, 0] S256x128.size inb_S256x128_S256x128_0_0, w⟩]) = w :=
  (View.read_writes_eq_canon _ _ _ fun y => ⟨_, List.mem_singleton_self _, View.mem_set_unit_zero off_zero inb_S256x128_S256x128_0_0 y⟩).trans
    (View.canon_unit_zero off_zero inb_S256x128_S256x128_0_0 w)

/-- The stores leave the two blocks' values, and something in the third result. -/
theorem stores_run (c : Dev nD) (i : grid0.Coords)
    (M6 : Memref sig .tc .vmem S256x128 .f32) (h6 : M6.IsWhole) (M7 : Memref sig .tc .vmem S256x128 .f32) (h7 : M7.IsWhole)
    (M8 : Memref sig .tc .smem S4x33 .i32) (h8 : M8.IsWhole) (s : Carry F) (E : Set ℕ) (K : PUnit → sProp 𝕄) :
    iprop((∃ d, owns (c : Thread nD τ) M6 fullShare d) ∗ (∃ d, owns (c : Thread nD τ) M7 fullShare d)
        ∗ (∃ d, owns (c : Thread nD τ) M8 fullShare d)
        ∗ (iprop(owns (c : Thread nD τ) M6 fullShare (outOf s) ∗ owns (c : Thread nD τ) M7 fullShare (restOf s)
            ∗ (∃ d, owns (c : Thread nD τ) M8 fullShare d)) -∗ K ⟨⟩))
      ⊢ wp frame (wpE (defs₀ (F := F)) 𝒱₀ c none) E (stores i M6 M7 M8 s) K := by
  unfold owns
  iintro ⟨⟨%d6, %f6, -, H6⟩, ⟨%d7, %f7, -, H7⟩, ⟨%d8, %f8, -, H8⟩, Hk⟩
  sl_unfold [stores]
  sl_exec
  sl_step
  iapply Hk
  isplitl [H6]
  · iexists _; isplitr; swap; · iexact H6
    ipureintro
    exact read_store (F := F) _ _ _
  isplitl [H7]
  · iexists _; isplitr; swap; · iexact H7
    ipureintro
    exact read_store (F := F) _ _ _
  iexists _; iexists _; isplitr; swap; · iexact H8
  ipureintro; rfl

/-- The body at a grid point, on any whole staging buffers holding the operands' blocks. -/
theorem body_run (c : Dev nD) (t : Fin grid0.N)
    (M2 : Memref sig .tc .vmem S256x128 .f32) (h2 : M2.IsWhole) (M3 : Memref sig .tc .vmem S8448x128 .f32) (h3 : M3.IsWhole)
    (M4 : Memref sig .tc .vmem S8448x128 .f32) (h4 : M4.IsWhole) (M5 : Memref sig .tc .vmem S256x256 .bf16) (h5 : M5.IsWhole)
    (M6 : Memref sig .tc .vmem S256x128 .f32) (h6 : M6.IsWhole) (M7 : Memref sig .tc .vmem S256x128 .f32) (h7 : M7.IsWhole)
    (M8 : Memref sig .tc .smem S4x33 .i32) (h8 : M8.IsWhole)
    (x2 : Vec F S256x128 .f32) (x3 x4 : Vec F S8448x128 .f32) (x5 : Vec F S256x256 .bf16) (E : Set ℕ) (K : PUnit → sProp 𝕄) :
    iprop(owns (c : Thread nD τ) M2 fullShare x2 ∗ owns (c : Thread nD τ) M3 fullShare x3
        ∗ owns (c : Thread nD τ) M4 fullShare x4 ∗ owns (c : Thread nD τ) M5 fullShare x5
        ∗ (∃ d, owns (c : Thread nD τ) M6 fullShare d) ∗ (∃ d, owns (c : Thread nD τ) M7 fullShare d)
        ∗ (∃ d, owns (c : Thread nD τ) M8 fullShare d)
        ∗ (iprop(owns (c : Thread nD τ) M2 fullShare x2 ∗ owns (c : Thread nD τ) M3 fullShare x3
            ∗ owns (c : Thread nD τ) M4 fullShare x4 ∗ owns (c : Thread nD τ) M5 fullShare x5
            ∗ owns (c : Thread nD τ) M6 fullShare (outOf (loopOut (grid0.coords t) x2 x3 x4 x5))
            ∗ owns (c : Thread nD τ) M7 fullShare (restOf (loopOut (grid0.coords t) x2 x3 x4 x5))
            ∗ (∃ d, owns (c : Thread nD τ) M8 fullShare d)) -∗ K ⟨⟩))
      ⊢ wp frame (wpE (defs₀ (F := F)) 𝒱₀ c none) E
          (cc0_sb_fwd (grid0.coords t) M2 h2 M3 h3 M4 h4 M5 h5 M6 h6 M7 h7 M8 h8) K := by
  rw [body_eq]
  iintro ⟨H2, H3, H4, H5, H6, H7, H8, Hk⟩
  unfold owns at *
  icases H2 with ⟨%f2, %hf2, H2⟩
  icases H3 with ⟨%f3, %hf3, H3⟩
  icases H4 with ⟨%f4, %hf4, H4⟩
  icases H5 with ⟨%f5, %hf5, H5⟩
  obtain rfl := h2.eq_unread hf2; obtain rfl := h3.eq_unread hf3
  obtain rfl := h4.eq_unread hf4; obtain rfl := h5.eq_unread hf5
  iapply (wp_load 𝒱₀ (c : Thread nD τ) none E (m := M2) (View.setOn_subset_set _ _)) $$ H2; iintro H2
  iapply (wp_load 𝒱₀ (c : Thread nD τ) none E (m := M5) (View.setOn_subset_set _ _)) $$ H5; iintro H5
  rw [show M2.view.readAt (Elt F) (Rect.unit (s := S256x128) ![0, 0] S256x128.size inb_S256x128_S256x128_0_0).toLoadRect (h2.unread x2) = x2
      from (View.readAt_full _ _ _).trans (h2.read_unread _),
    show M5.view.readAt (Elt F) (Rect.unit (s := S256x256) ![0, 0] S256x256.size inb_S256x256_S256x256_0_0).toLoadRect (h5.unread x5) = x5
      from (View.readAt_full _ _ _).trans (h5.read_unread _)]
  iapply (wp_call_spec 𝒱₀ (c : Thread nD τ) none E
    (spec c t M3 h3 M4 h4 (tileOf x2 x5) x3 x4 (spans (grid0.coords t)) start) (spans (grid0.coords t))
    (fun u hu => nomatch hu)
    (spec_le c t M3 h3 M4 h4 (tileOf x2 x5) x3 x4 E (spans (grid0.coords t)) 0 (Nat.zero_add _) start rfl))
  rw [spec_apply]; unfold held
  isplitl [H3 H4]
  · isplitl [H3]; · iexact H3
    iexact H4
  iintro ⟨H3, H4⟩
  iapply (stores_run c (grid0.coords t) M6 h6 M7 h7 M8 h8 _ E K)
  unfold owns
  isplitl [H6]; · iexact H6
  isplitl [H7]; · iexact H7
  isplitl [H8]; · iexact H8
  iintro ⟨H6, H7, H8⟩
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]; · iexact H6
  isplitl [H7]; · iexact H7
  iexact H8

end Cert.Proof.Forward

end
-- ==== Proof.FwdWalk.lean ====
/- The loop over spans of the attention's forward call in real numbers: after some trips the loop's variables are the sums
   over the keys from the span's first on. While the inputs are real numbers the stick never runs out, so every span is
   visited. -/
module

public import proofs.«01_k».proof.Proof.FwdHead
public import proofs.«01_k».proof.Proof.FwdLoop
public import proofs.«01_k».proof.Proof.SpanValue

@[expose] public section

set_option maxRecDepth 16384
set_option maxHeartbeats 4000000

noncomputable section

namespace Cert.Proof.Forward

open Finset
open Cert.KernelFwdIdeal Cert.KernelFwdIdeal.Gen
open Idealize.ShloMosaic Idealize.ShloMosaic.TcCoe Idealize.ShloMosaic.WordCmp
open Cert.Proof.SB (Is IsCol IsMask TileSpan TileHalf TileCol Rows lane headNo on sc spanStart spanStart_zero spanStart_le
  spanStart_succ_le spanStart_last stretch_row sum_stretch rowLeft rowAtt dots slt_nat sge_nat and_bool)

/-! ### Where each trip's span lies -/

/-- The word of a trip's end of span. -/
def endWord (i : grid0.Coords) (r : BitVec 32) : BitVec 32 := Scalar.subi (tileEnd i) (Scalar.muli r 512#32)

/-- The word of a trip's first key. -/
def startWord (i : grid0.Coords) (r : BitVec 32) : BitVec 32 := Scalar.maxsi (Scalar.subi (endWord i r) 512#32) 0#32

theorem endWord_all : ∀ t : Fin grid0.N, ∀ r : Fin 17, r.val < spans (grid0.coords t) →
    endWord (grid0.coords t) (BitVec.ofNat 32 r.val)
      = BitVec.ofNat 32 (spanStart (grid0.coords t 1).val (spans (grid0.coords t) - 1 - r.val + 1)) := by
  decide +kernel

theorem startWord_all : ∀ t : Fin grid0.N, ∀ r : Fin 17, r.val < spans (grid0.coords t) →
    startWord (grid0.coords t) (BitVec.ofNat 32 r.val)
      = BitVec.ofNat 32 (spanStart (grid0.coords t 1).val (spans (grid0.coords t) - 1 - r.val)) := by
  decide +kernel

theorem off_all : ∀ t : Fin grid0.N, ∀ r : Fin 17, r.val < spans (grid0.coords t) →
    k0_off1 (grid0.coords t) (BitVec.ofNat 32 r.val)
      = ![spanStart (grid0.coords t 1).val (spans (grid0.coords t) - 1 - r.val), 0] := by
  decide +kernel

theorem bound_all : ∀ t : Fin grid0.N, ∀ r : Fin 17, r.val < spans (grid0.coords t) →
    spanStart (grid0.coords t 1).val (spans (grid0.coords t) - 1 - r.val + 1) ≤ 8448
      ∧ spanStart (grid0.coords t 1).val (spans (grid0.coords t) - 1 - r.val) + 512 ≤ 8448 := by
  decide +kernel

/-- While the stick has something left the loop goes on to its last span. -/
theorem goes_all : ∀ t : Fin grid0.N, ∀ r : Fin 17, r.val < spans (grid0.coords t) →
    goes (grid0.coords t) (BitVec.ofNat 32 r.val) 1#32 := by
  decide +kernel

section Trip

variable (t : Fin grid0.N) (r : Fin 17)

/-- The first key of a trip's span. -/
abbrev lo : ℕ := spanStart (grid0.coords t 1).val (spans (grid0.coords t) - 1 - r.val)

/-- The key after the last of a trip's span. -/
abbrev hi : ℕ := spanStart (grid0.coords t 1).val (spans (grid0.coords t) - 1 - r.val + 1)

/-- A trip's mask by position. -/
theorem mask_is (h : r.val < spans (grid0.coords t)) : IsMask (mask (grid0.coords t) (BitVec.ofNat 32 r.val)) fun a b =>
    on (256 * (grid0.coords t 1).val + a) (lo t r + b) && decide (lo t r + b < hi t r) := fun a b => by
  have e : _ = BitVec.ofNat 32 (hi t r) := endWord_all t r h
  have s : _ = BitVec.ofNat 32 (lo t r) := startWord_all t r h
  have hb : hi t r ≤ 8448 ∧ lo t r + 512 ≤ 8448 := bound_all t r h
  have hi' : (grid0.coords t 1).val < 33 := (grid0.coords t 1).isLt
  pointwise [mask, k0_pay18, k0_pay15]
  change IntOp.andi (IntOp.andi
      (IntOp.cmpi .slt (IntOp.addi (startWord (grid0.coords t) (BitVec.ofNat 32 r.val)) (BitVec.ofNat 32 b.val))
        (IntOp.addi (IntOp.muli (BitVec.ofNat 32 (grid0.coords t 1).val) (BitVec.ofNat 32 256)) (BitVec.ofNat 32 a.val)))
      (IntOp.cmpi .sge (IntOp.addi (startWord (grid0.coords t) (BitVec.ofNat 32 r.val)) (BitVec.ofNat 32 b.val))
        (BitVec.ofNat 32 112)))
    (IntOp.cmpi .slt (IntOp.addi (startWord (grid0.coords t) (BitVec.ofNat 32 r.val)) (BitVec.ofNat 32 b.val))
      (endWord (grid0.coords t) (BitVec.ofNat 32 r.val))) = _
  generalize lo t r = k0 at *
  generalize hi t r = k1 at *
  rw [e, s, addi_ofNat, muli_ofNat, addi_ofNat, slt_nat (by omega) (by omega), sge_nat (by omega) (by omega),
    slt_nat (by omega) (by omega), and_bool, and_bool]
  unfold on
  rw [Nat.mul_comm 256, Bool.and_comm (decide (k0 + b.val < _)) (decide (112 ≤ _))]

theorem last_all : ∀ t : Fin grid0.N, ∀ r : Fin 17, r.val < spans (grid0.coords t) → hi t r ≤ 256 * ((grid0.coords t 1).val + 1) := by
  decide +kernel

theorem spanRows_has (h : r.val < spans (grid0.coords t)) (hc : k0_chk1 (grid0.coords t) (BitVec.ofNat 32 r.val))
    {x : Vec Ideal S8448x128 .f32} {f : ℕ → ℕ → EReal} (hx : Has x f) :
    Has (spanRows (F := Ideal) (grid0.coords t) (BitVec.ofNat 32 r.val) hc x : Vec Ideal S512x128 .f32) fun b l => f (lo t r + b) l :=
  fun b l => by
  unfold spanRows
  rw [SB.window_at x (off_all t r h) (bound_all t r h).2]
  exact hx _ _

theorem spanRows_is (h : r.val < spans (grid0.coords t)) (hc : k0_chk1 (grid0.coords t) (BitVec.ofNat 32 r.val))
    {x : Vec Ideal S8448x128 .f32} {f : ℕ → ℕ → ℝ} (hx : Is x f) :
    Is (spanRows (F := Ideal) (grid0.coords t) (BitVec.ofNat 32 r.val) hc x : Vec Ideal S512x128 .f32) fun b l => f (lo t r + b) l :=
  fun b l => by
  unfold spanRows
  rw [SB.window_at x (off_all t r h) (bound_all t r h).2]
  exact hx _ _

end Trip

/-- A grid point's arrays hold a pair of heads' tile. -/
structure PointIs (T : Tile Ideal) (x y : Vec Ideal S8448x128 .f32) (X : Rows) (W : ℕ → ℕ → EReal) (p i : ℕ) : Prop where
  qa : Is T.qa fun a l => if lane false l then X.q (256 * i + a) (128 * p + l) * sc else 0
  qb : Is T.qb fun a l => if lane true l then X.q (256 * i + a) (128 * p + l) * sc else 0
  tri : Is T.tri fun a b => if b < a then 1 else 0
  k : Is x fun c l => X.k c (128 * p + l)
  v : Has y fun c l => W c (128 * p + l)

/-- One head of one trip over a tile. -/
abbrev HeadOf (h : HeadIn Ideal) (X : Rows) (W : ℕ → ℕ → EReal) (s : Bool) (p i k0 hi : ℕ) : Prop :=
  HeadIs h (fun a b => on (256 * i + a) (k0 + b) && decide (k0 + b < hi))
    (fun a l => if lane s l then X.q (256 * i + a) (128 * p + l) * sc else 0)
    (fun b l => X.k (k0 + b) (128 * p + l)) (fun b l => W (k0 + b) (128 * p + l))

/-- The weighted values of one head of a pair over the keys from `n` on that its tile sees. -/
def since (X : Rows) (W : ℕ → ℕ → EReal) (s : Bool) (p i a l n : ℕ) : EReal :=
  ∑ c ∈ Ico n (256 * (i + 1)), ((X.att (2 * p + headNo s) (256 * i + a) c : ℝ) : EReal) * W c (128 * p + l)

/-- A sum over a span, of terms that vanish past its end. -/
theorem sum_span (f : ℕ → EReal) {k0 hi n : ℕ} (h1 : k0 ≤ hi) (h2 : hi ≤ k0 + n) :
    ∑ b ∈ range n, (if k0 + b < hi then f (k0 + b) else 0) = ∑ c ∈ Ico k0 hi, f c := by
  obtain ⟨m, rfl⟩ := Nat.exists_eq_add_of_le h1
  obtain ⟨d, rfl⟩ : ∃ d, n = m + d := ⟨n - m, by omega⟩
  rw [sum_Ico_eq_sum_range, Nat.add_sub_cancel_left, sum_range_add, sum_eq_zero (s := range d), add_zero]
  · exact sum_congr rfl fun b hb => if_pos (by have := mem_range.1 hb; omega)
  · exact fun b _ => if_neg (by omega)

/-- The logarithm of what the first keys leave. -/
def leftTo (X : Rows) (s : Bool) (p i a n : ℕ) : ℝ := ∑ c ∈ range n, X.left (2 * p + headNo s) (256 * i + a) c

section Head

variable {h : HeadIn Ideal} {X : Rows} {W : ℕ → ℕ → EReal} {s : Bool} {p i k0 hi : ℕ} (H : HeadOf h X W s p i k0 hi) (h1 : k0 ≤ hi) (h2 : hi ≤ k0 + 512)
  {c : TileCol Ideal} (hc : IsCol c fun a => X.T (2 * p + headNo s) (256 * i + a) - leftTo X s p i a hi)

include h1 h2 in
theorem carry_eq (a : ℕ) : X.T (2 * p + headNo s) (256 * i + a) - leftTo X s p i a hi
      + ∑ b ∈ range 512, rowLeft (fun b => on (256 * i + a) (k0 + b) && decide (k0 + b < hi))
        (dots (fun a l => if lane s l then X.q (256 * i + a) (128 * p + l) * sc else 0) (fun b l => X.k (k0 + b) (128 * p + l)) a) b
    = X.T (2 * p + headNo s) (256 * i + a) - leftTo X s p i a k0 := by
  have e : leftTo X s p i a k0 + _ = leftTo X s p i a hi := (stretch_row X s p i k0 hi a).sum_left_all h1 h2
  rw [← e]
  ring

include H h1 h2 hc

theorem rest_of : IsCol (h.rest c) fun a => X.T (2 * p + headNo s) (256 * i + a) - leftTo X s p i a k0 := fun a => by
  rw [H.rest_is hc a]
  exact congrArg _ (carry_eq h1 h2 a.val)

theorem out_of (h3 : hi ≤ 256 * (i + 1)) {o : FVec Ideal S256x128 .f32} (ho : Has o fun a l => since X W s p i a l hi) :
    Has (h.out c o) fun a l => since X W s p i a l k0 := fun a l => by
  rw [H.out_is hc ho a l]
  beta_reduce
  have g : ∀ b ∈ range 512, ((rowAtt (fun b => on (256 * i + a.val) (k0 + b) && decide (k0 + b < hi))
        (dots (fun a l => if lane s l then X.q (256 * i + a) (128 * p + l) * sc else 0) (fun b l => X.k (k0 + b) (128 * p + l)) a.val)
        (X.T (2 * p + headNo s) (256 * i + a.val) - leftTo X s p i a.val k0) b : ℝ) : EReal) * W (k0 + b) (128 * p + l.val)
      = if k0 + b < hi then ((X.att (2 * p + headNo s) (256 * i + a.val) (k0 + b) : ℝ) : EReal) * W (k0 + b) (128 * p + l.val) else 0 := by
    intro b _
    have q : rowAtt _ _ (X.T (2 * p + headNo s) (256 * i + a.val) - leftTo X s p i a.val k0) b
        = if k0 + b < hi then X.att (2 * p + headNo s) (256 * i + a.val) (k0 + b) else 0 :=
      (stretch_row X s p i k0 hi a.val).att h1 b
    rw [q]
    split <;> simp
  rw [carry_eq h1 h2, sum_congr rfl g,
    sum_span (fun c => ((X.att (2 * p + headNo s) (256 * i + a.val) c : ℝ) : EReal) * W c (128 * p + l.val)) h1 h2]
  unfold since
  rw [add_comm]
  exact sum_Ico_consecutive _ h1 h3

end Head

/-! ### The stick never runs out -/

theorem more_is {cb d : TileCol Ideal} {l : TileSpan Ideal} {u : ℕ → ℝ} (hd : IsCol d u) :
    Scalar.extui (Scalar.cmpf .ogt (k0_pay9 cb l d) (Named.named (F := Ideal) κ "dead" (φ := .f32) 0xC2D00000#32)) = (1#32 : BitVec 32) := by
  have h : (Named.named (F := Ideal) κ "dead" (φ := .f32) 0xC2D00000#32 : EReal) < k0_pay9 cb l d := by
    rw [show (Named.named (F := Ideal) κ "dead" (φ := .f32) 0xC2D00000#32 : EReal) = ⊥ from rfl]
    pointwise [k0_pay9]
    refine lt_of_lt_of_le ?_ (le_max_left _ _)
    rw [Finset.lt_fold_max]
    refine Or.inr ⟨⟨0, 0⟩, mem_univ _, ?_⟩
    beta_reduce
    rw [hd]
    exact EReal.bot_lt_coe _
  rw [show Scalar.cmpf .ogt (k0_pay9 cb l d) (Named.named (F := Ideal) κ "dead" (φ := .f32) 0xC2D00000#32) = 1#1 from
    (congrArg BitVec.ofBool (decide_eq_true h)).trans rfl]
  rfl

/-- The loop's variables with the keys from `n` on behind them, after `r` trips. -/
structure StateIs (s : Carry Ideal) (X : Rows) (W : ℕ → ℕ → EReal) (p i r n : ℕ) : Prop where
  count : s.1 = BitVec.ofNat 32 r
  more : s.2.1 = 1#32
  oA : Has s.2.2.1 fun a l => since X W false p i a l n
  cA : IsCol s.2.2.2.1 fun a => X.T (2 * p + headNo false) (256 * i + a) - leftTo X false p i a n
  oB : Has s.2.2.2.2.1 fun a l => since X W true p i a l n
  cB : IsCol s.2.2.2.2.2 fun a => X.T (2 * p + headNo true) (256 * i + a) - leftTo X true p i a n

section Walk

variable {T : Tile Ideal} {x y : Vec Ideal S8448x128 .f32} {X : Rows} {W : ℕ → ℕ → EReal} {p : ℕ} (t : Fin grid0.N)
  (hP : PointIs T x y X W p (grid0.coords t 1).val)
include hP

/-- One trip takes the loop's variables to the next. -/
theorem step_is (r : Fin 17) (h : r.val < spans (grid0.coords t)) (hc : k0_chk1 (grid0.coords t) (BitVec.ofNat 32 r.val)) {s : Carry Ideal}
    (hs : StateIs s X W p (grid0.coords t 1).val r.val (hi t r)) :
    StateIs (step (grid0.coords t) T (spanRows (grid0.coords t) (BitVec.ofNat 32 r.val) hc x)
      (spanRows (grid0.coords t) (BitVec.ofNat 32 r.val) hc y) s) X W p (grid0.coords t 1).val (r.val + 1) (lo t r) := by
  have h1 : lo t r ≤ hi t r := spanStart_le _ _
  have h2 : hi t r ≤ lo t r + 512 := spanStart_succ_le _ _
  have h3 : hi t r ≤ 256 * ((grid0.coords t 1).val + 1) := last_all t r h
  have HA : HeadOf (headA (grid0.coords t) s.1 T (spanRows (grid0.coords t) (BitVec.ofNat 32 r.val) hc x)
      (spanRows (grid0.coords t) (BitVec.ofNat 32 r.val) hc y)) X W false p (grid0.coords t 1).val (lo t r) (hi t r) :=
    { mask := by rw [hs.count]; exact mask_is t r h
      q := hP.qa
      tri := hP.tri
      k := fun b l => by
        show k0_pay16 (F := Ideal) _ (ix2 b l) = _
        pointwise [k0_pay16]
        exact spanRows_is t r h hc hP.k b l
      v := fun b l => by
        show k0_pay17 (F := Ideal) _ (ix2 b l) = _
        pointwise [k0_pay17]
        exact spanRows_has t r h hc hP.v b l }
  have HB : HeadOf (headB (grid0.coords t) s.1 T (spanRows (grid0.coords t) (BitVec.ofNat 32 r.val) hc x)
      (spanRows (grid0.coords t) (BitVec.ofNat 32 r.val) hc y)) X W true p (grid0.coords t 1).val (lo t r) (hi t r) :=
    { mask := by rw [hs.count]; exact mask_is t r h
      q := hP.qb
      tri := hP.tri
      k := HA.k
      v := HA.v }
  rw [step_eq]
  exact ⟨by rw [hs.count]; exact next r.val, more_is (rest_of HA h1 h2 hs.cA), out_of HA h1 h2 hs.cA h3 hs.oA,
    rest_of HA h1 h2 hs.cA, out_of HB h1 h2 hs.cB h3 hs.oB, rest_of HB h1 h2 hs.cB⟩

/-- The trips still to go take the loop's variables to the end. -/
theorem walk_is : ∀ (k r : ℕ), r + k = spans (grid0.coords t) → ∀ s : Carry Ideal,
    StateIs s X W p (grid0.coords t 1).val r (spanStart (grid0.coords t 1).val k) →
    StateIs (walk (grid0.coords t) T x y k s) X W p (grid0.coords t 1).val (spans (grid0.coords t)) 0
  | 0, r, hr, s, hs => by
    rw [spanStart_zero] at hs
    rw [← hr]
    exact hs
  | k + 1, r, hr, s, hs => by
    have hr' : r < spans (grid0.coords t) := by omega
    have h17 : r < 17 := lt_of_lt_of_le hr' (spans_le t)
    have hk : spans (grid0.coords t) - 1 - r = k := by omega
    have hg := goes_all t ⟨r, h17⟩ hr'
    have hc := chk_all t ⟨r, h17⟩ hr'
    have key := step_is t hP ⟨r, h17⟩ hr' hc (s := s) (by unfold hi; simp only; rw [hk]; exact hs)
    unfold lo at key
    simp only at key hg hc
    rw [hk] at key
    obtain ⟨s1, s2, s3⟩ := s
    have e1 : s1 = BitVec.ofNat 32 r := hs.count
    have e2 : s2 = 1#32 := hs.more
    subst e1 e2
    unfold walk
    simp only
    rw [if_pos hg, dif_pos hc]
    exact walk_is k (r + 1) (by omega) _ key

theorem loop_is (hT : ∀ h r, r < 256 * ((grid0.coords t 1).val + 1) →
      ∑ c ∈ range (256 * ((grid0.coords t 1).val + 1)), X.left h r c = X.T h r) :
    StateIs (walk (grid0.coords t) T x y (spans (grid0.coords t)) start) X W p (grid0.coords t 1).val (spans (grid0.coords t)) 0 := by
  refine walk_is t hP (spans (grid0.coords t)) 0 (Nat.zero_add _) start ?_
  rw [show spanStart (grid0.coords t 1).val (spans (grid0.coords t)) = 256 * ((grid0.coords t 1).val + 1) from spanStart_last _]
  have z : Ideal.ofBits .f32 0x00000000#32 = ((0 : ℝ) : EReal) := by simp [Ideal.ofBits, Ideal.ieee]
  refine ⟨rfl, rfl, fun a l => ?_, fun a => ?_, fun a l => ?_, fun a => ?_⟩
  · beta_reduce
    unfold since
    rw [Ico_self, sum_empty]
    exact z
  · beta_reduce
    unfold leftTo
    rw [hT _ _ (by omega), sub_self]
    exact z
  · beta_reduce
    unfold since
    rw [Ico_self, sum_empty]
    exact z
  · beta_reduce
    unfold leftTo
    rw [hT _ _ (by omega), sub_self]
    exact z

end Walk

end Cert.Proof.Forward

end
-- ==== Proof.FwdRun.lean ====
/- The attention's forward call point by point, and the run of its whole program. Of the third result, the numbers of
   trips, nothing is said. -/
module

public import proofs.«01_k».proof.Proof.FwdLoop

@[expose] public section

set_option maxRecDepth 65536
set_option maxHeartbeats 4000000

noncomputable section

namespace Cert.Proof.Forward

open Cert.KernelFwdIdeal Cert.KernelFwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]
variable (m : (ℓ : Loc nD τ sig) → Buf (Elt F) ℓ) (ρ : Dev nD → PrngReg)

/-- The host operations before the call. -/
abbrev hostOps : List (HloOp τ sig (Elt F)) :=
  List.flatten [hostOps0, hostOps0_1, hostOps0_2, hostOps0_3, hostOps0_4, hostOps0_5, hostOps0_6, hostOps0_7]

/-- The core's buffers when the call is entered. -/
abbrev V (c : Dev nD) (b : Ref sig .tc) : Buf (Elt F) ((c : Thread nD τ).loc b) :=
  StableHlo.after hostOps (fun b => m (c, b)) b

/-- No host operation allocates a buffer. -/
theorem fresh : [hostOps0, hostOps0_1, hostOps0_2, hostOps0_3, hostOps0_4, hostOps0_5, hostOps0_6, hostOps0_7].Forall
    fun ops : List (HloOp τ sig (Elt F)) => ops.Forall fun op => op.fresh = ∅ := by
  simp only [List.Forall]; repeat' constructor

/-- The program up to the call: the host operations, then the call. -/
theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7]
    (by simp only [List.Forall]; exact ⟨hostOps0_sub, hostOps0_1_sub, hostOps0_2_sub, hostOps0_3_sub, hostOps0_4_sub, hostOps0_5_sub, hostOps0_6_sub, hostOps0_7_sub⟩)
    fresh main_chain

/-- No host operation writes an argument. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps, hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [hostOps, hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

theorem V_arg2 (c : Dev nD) : V m c main_arg2 = m ((c : Thread nD τ).loc main_arg2) :=
  StableHlo.after_of_forall_not_mem (b := Proc.devRef .tc main_arg2) _ _ (List.forall_iff_forall_mem.mp (by
    simp only [hostOps, hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- A window's block at a grid point, of its array as the call finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What the loop leaves at a grid point. -/
def outAt (c : Dev nD) (t : Fin (cfg0 (F := F)).N) : Carry F :=
  loopOut (grid0.coords t) (iblk m c 0 t) (iblk m c 1 t) (iblk m c 2 t) (iblk m c 3 t)

/-- What the pipeline's windows hold after each point; nothing is named of the last one. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outOf (outAt m c t)
    | ⟨5, _⟩ => restOf (outAt m c t)
    | ⟨6, h⟩ => Dat.unnamed (cfg := (cfg0 (F := F))) ⟨6, h⟩ t
  Φ _ := Pipeline.ΦA spec0 c
  q := Pipeline.shareOf spec0
  owed _ := 0

/-- The window of which nothing is said. -/
abbrev forgotten (w : Fin (cfg0 (F := F)).W) : Bool := w.val == 6

attribute [local irreducible] iblk outAt outOf restOf in
theorem after_0 (c : Dev nD) (t : Fin (cfg0 (F := F)).N) : (dats m 0 c).after 0 t = iblk m c 0 t := rfl
attribute [local irreducible] iblk outAt outOf restOf in
theorem after_1 (c : Dev nD) (t : Fin (cfg0 (F := F)).N) : (dats m 0 c).after 1 t = iblk m c 1 t := rfl
attribute [local irreducible] iblk outAt outOf restOf in
theorem after_2 (c : Dev nD) (t : Fin (cfg0 (F := F)).N) : (dats m 0 c).after 2 t = iblk m c 2 t := rfl
attribute [local irreducible] iblk outAt outOf restOf in
theorem after_3 (c : Dev nD) (t : Fin (cfg0 (F := F)).N) : (dats m 0 c).after 3 t = iblk m c 3 t := rfl
attribute [local irreducible] iblk outAt outOf restOf in
theorem after_4 (c : Dev nD) (t : Fin (cfg0 (F := F)).N) : (dats m 0 c).after 4 t = outOf (outAt m c t) := rfl
attribute [local irreducible] iblk outAt outOf restOf in
theorem after_5 (c : Dev nD) (t : Fin (cfg0 (F := F)).N) : (dats m 0 c).after 5 t = restOf (outAt m c t) := rfl

theorem A_eq (c : Dev nD) (w : Fin (cfg0 (F := F)).W) : (dats m 0 c).A w = V m c (Pipeline.arrRef spec0 w) := by dsimp only [dats]

/-- An operand's staging buffer holds its block at every point, for any data that name its array and keep its block. -/
theorem before_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_0 (c : Dev nD) (t : Fin (cfg0 (F := F)).N) (d) : (dats m 0 c).before 0 t d = iblk m c 0 t :=
  before_0_of m (dats m 0 c) (A_eq m c 0) (after_0 m c) t d
theorem before_1 (c : Dev nD) (t : Fin (cfg0 (F := F)).N) (d) : (dats m 0 c).before 1 t d = iblk m c 1 t :=
  before_1_of m (dats m 0 c) (A_eq m c 1) (after_1 m c) t d
theorem before_2 (c : Dev nD) (t : Fin (cfg0 (F := F)).N) (d) : (dats m 0 c).before 2 t d = iblk m c 2 t :=
  before_2_of m (dats m 0 c) (A_eq m c 2) (after_2 m c) t d
theorem before_3 (c : Dev nD) (t : Fin (cfg0 (F := F)).N) (d) : (dats m 0 c).before 3 t d = iblk m c 3 t :=
  before_3_of m (dats m 0 c) (A_eq m c 3) (after_3 m c) t d

/-- The body at a grid point takes the staging buffers from before the point to after it. -/
theorem body_obligation (c : Dev nD) : BodyObligation (dats (F := F) m 0 c) (defs₀ (F := F)) 𝒱₀ () Set.univ forgotten := fun t => by
  rw [bigSep_W0, bigSep_W0]
  simp only [show forgotten (F := F) 0 = false from rfl, show forgotten (F := F) 1 = false from rfl, show forgotten (F := F) 2 = false from rfl, show forgotten (F := F) 3 = false from rfl, show forgotten (F := F) 4 = false from rfl, show forgotten (F := F) 5 = false from rfl, show forgotten (F := F) 6 = true from rfl]
  sl_whnfR [defs₀, Defs.onTc]
  rw [show (dats m 0 c).Φ t.succ = (dats m 0 c).Φ t.castSucc from rfl,
    show (dats m 0 c).owesAt () t.succ = (dats m 0 c).owesAt () t.castSucc from rfl, after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩, H6⟩
  iapply (body_run c t _ (hstage0_0 (((cfg0 (F := F)).slots t 0).cast nbuf0_0)) _ (hstage0_1 (((cfg0 (F := F)).slots t 1).cast nbuf0_1)) _ (hstage0_2 (((cfg0 (F := F)).slots t 2).cast nbuf0_2)) _ (hstage0_3 (((cfg0 (F := F)).slots t 3).cast nbuf0_3)) _ (hstage0_4 (((cfg0 (F := F)).slots t 4).cast nbuf0_4)) _ (hstage0_5 (((cfg0 (F := F)).slots t 5).cast nbuf0_5)) _ (hstage0_6 (((cfg0 (F := F)).slots t 6).cast nbuf0_6))
    (iblk m c 0 t) (iblk m c 1 t) (iblk m c 2 t) (iblk m c 3 t) Set.univ _)
  isplitl [H0]; · iapply (BI.BIBase.Entails.of_eq (congrArg (fun x => owns (c : Thread nD τ) (stage0_0 (((cfg0 (F := F)).slots t 0).cast nbuf0_0)) fullShare x) (before_0 m c t d0))); iexact H0
  isplitl [H1]; · iapply (BI.BIBase.Entails.of_eq (congrArg (fun x => owns (c : Thread nD τ) (stage0_1 (((cfg0 (F := F)).slots t 1).cast nbuf0_1)) fullShare x) (before_1 m c t d1))); iexact H1
  isplitl [H2]; · iapply (BI.BIBase.Entails.of_eq (congrArg (fun x => owns (c : Thread nD τ) (stage0_2 (((cfg0 (F := F)).slots t 2).cast nbuf0_2)) fullShare x) (before_2 m c t d2))); iexact H2
  isplitl [H3]; · iapply (BI.BIBase.Entails.of_eq (congrArg (fun x => owns (c : Thread nD τ) (stage0_3 (((cfg0 (F := F)).slots t 3).cast nbuf0_3)) fullShare x) (before_3 m c t d3))); iexact H3
  isplitl [H4]; · iexists _; iexact H4
  isplitl [H5]; · iexists _; iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option backward.isDefEq.respectTransparency.types false in
/-- From any memory with zero counters every weakly fair execution of the program terminates, with the call's first
    two results at what the points leave in them, and every semaphore counter at zero. -/
theorem run_main : θ_run defs (onTc (τ := τ) (main (F := F))) (s₀ m ρ)
    (fun r => Pipeline.RDat.FramePost (cfg0 (F := F)) (fun c => (dats m 0 c).toRForget forgotten) (V m) r ∧ r.2.sem = fun _ => 0) :=
  Pipeline.θ_run_frame_forget_shared (Q' := _) cfgs (dats m) (0 : Fin 1) launch₀0 defs₀ 𝒱₀ forgotten m ρ main
    (hbody := fun c => (body_obligation m c).loose) (hq := fun _ _ _ => rfl)
    (howed := fun _ _ => rfl) (V := V m) (hmain := hmain m) (hA := fun _ _ => rfl) (hΦ := fun _ _ => rfl)

/-- The program runs, ends with every counter at zero, keeps its arguments, and leaves the call's first two
    results at what the points leave in them. -/
theorem run_out : θ_run defs (onTc (τ := τ) (main (F := F))) ⟨m, fun _ => 0, ρ⟩ (fun r => (∀ c : Dev nD,
      r.2.mem ((c.tc : Thread nD τ).loc main_v8_0) = (dats m 0 c).arrAt 4 (cfg0 (F := F)).N
      ∧ r.2.mem ((c.tc : Thread nD τ).loc main_v8_1) = (dats m 0 c).arrAt 5 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((dats m 0 c).toRForget_arrAt_iff (fgt := forgotten) (w := 4) rfl _ _).mp ((h.1 c).1 4),
      ((dats m 0 c).toRForget_arrAt_iff (fgt := forgotten) (w := 5) rfl _ _).mp ((h.1 c).1 5),
      ((h.1 c).2 main_arg0 (Pipeline.mem_restRefs_of main_arg0 (by decide) (show ∀ w : Fin 7, (spec0 w).arr.view.ref ≠ main_arg0 by decide))).trans (V_arg0 m c),
      ((h.1 c).2 main_arg1 (Pipeline.mem_restRefs_of main_arg1 (by decide) (show ∀ w : Fin 7, (spec0 w).arr.view.ref ≠ main_arg1 by decide))).trans (V_arg1 m c),
      ((h.1 c).2 main_arg2 (Pipeline.mem_restRefs_of main_arg2 (by decide) (show ∀ w : Fin 7, (spec0 w).arr.view.ref ≠ main_arg2 by decide))).trans (V_arg2 m c)⟩, h.2⟩) (run_main m ρ)

end Cert.Proof.Forward

end
-- ==== Proof.FwdPoint.lean ====
/- The attention's forward call from its operands to its first two results: real queries and keys, and values that may be
   infinite. -/
module

public import proofs.«01_k».proof.Proof.FwdWalk
public import proofs.«01_k».proof.Proof.FwdRun
public import proofs.«01_k».proof.Proof.Totals

@[expose] public section

set_option maxRecDepth 16384
set_option maxHeartbeats 4000000

noncomputable section

namespace Cert.Proof.Forward

open Finset
open Cert.KernelFwdIdeal Cert.KernelFwdIdeal.Gen
open Idealize.ShloMosaic Idealize.ShloMosaic.StableHlo
open Idealize.ShloMosaic.TcCoe Idealize.ShloMosaic.Tactic
open Idealize.SL.Sem
open Cert.Proof.SB (Is Rows lane headNo on sc sc_coe zero_coe ite_coe select_bool lane_word padRows zeroCols projVec trilVec
  trilVec_is proj_q proj_k padded rowLeft)

/-! ### The operands -/

section Operands

variable {F : FTy → Type} [FloatOps F] [Named F]
variable (m : (ℓ : Loc nD τ sig) → Buf (Elt F) ℓ) (c : Dev nD)

/-- What is computed before the arguments are set side by side. -/
abbrev before5 : Valuation τ sig (Elt F) := StableHlo.upto hostOps (fun b => m (c, b)) 13

theorem before_v0 : before5 m c (Proc.tc.devRef main_v0) = zeroCols S8448x2048 bcast_S_S8448x2048 := by
  simp only [before5]
  after_reads_simp
  rfl

theorem before_v1 : before5 m c (Proc.tc.devRef main_v1) = padRows (m ((c : Thread nD τ).loc main_arg0)) := by
  simp only [before5]
  after_reads_simp
  simp only [TRef.ofBuf_toBuf]
  rfl

theorem before_v2 : before5 m c (Proc.tc.devRef main_v2) = padRows (m ((c : Thread nD τ).loc main_arg1)) := by
  simp only [before5]
  after_reads_simp
  simp only [TRef.ofBuf_toBuf]
  rfl

theorem before_v3 : before5 m c (Proc.tc.devRef main_v3) = padRows (m ((c : Thread nD τ).loc main_arg2)) := by
  simp only [before5]
  after_reads_simp
  simp only [TRef.ofBuf_toBuf]
  rfl

theorem before_v4 : before5 m c (Proc.tc.devRef main_v4) = zeroCols S8448x256 bcast_S_S8448x256 := by
  simp only [before5]
  after_reads_simp
  rfl

theorem V_proj : V m c main_v5 = projVec (m ((c : Thread nD τ).loc main_arg0)) (m ((c : Thread nD τ).loc main_arg1))
    (m ((c : Thread nD τ).loc main_arg2)) := by
  simp only [V]
  after_reads_simp
  change concatenate S8448x3840 1 [⟨S8448x2048, before5 m c (Proc.tc.devRef main_v0)⟩, ⟨S8448x512, before5 m c (Proc.tc.devRef main_v1)⟩,
    ⟨S8448x512, before5 m c (Proc.tc.devRef main_v2)⟩, ⟨S8448x512, before5 m c (Proc.tc.devRef main_v3)⟩,
    ⟨S8448x256, before5 m c (Proc.tc.devRef main_v4)⟩] _ = _
  rw [before_v0, before_v1, before_v2, before_v3, before_v4]
  rfl

theorem V_tril : V m c main_v7 = trilVec := by
  simp only [V]
  after_reads_simp
  simp only [TRef.ofBuf_toBuf]
  unfold trilVec
  generalize cmpi CmpIPredicate.sge (addi (iotaInDim S256x256 32 0)
    (broadcastInDim S256x256 ![] bcast_S_S256x256 (constantI S_ 32 4294967295#32))) (iotaInDim S256x256 32 1) = w
  rfl

end Operands

theorem index0 : ∀ t : Fin grid0.N, win0_0.index t = ![(grid0.coords t 1).val, 16 + (grid0.coords t 0).val] := by decide +kernel
theorem index1 : ∀ t : Fin grid0.N, win0_1.index t = ![0, 20 + (grid0.coords t 0).val] := by decide +kernel
theorem index2 : ∀ t : Fin grid0.N, win0_2.index t = ![0, 24 + (grid0.coords t 0).val] := by decide +kernel
theorem index3 : ∀ t : Fin grid0.N, win0_3.index t = ![0, 0] := by decide +kernel
theorem index4 : ∀ t : Fin grid0.N, win0_4.index t = ![(grid0.coords t 1).val, (grid0.coords t 0).val] := by decide +kernel

theorem index5 : ∀ t : Fin grid0.N, win0_5.index t = ![(grid0.coords t 1).val, (grid0.coords t 0).val] := by decide +kernel

theorem bounds (t : Fin grid0.N) : (grid0.coords t 0).val < 4 ∧ (grid0.coords t 1).val < 33 :=
  ⟨(grid0.coords t 0).isLt, (grid0.coords t 1).isLt⟩

/-! ### The rows -/

/-- The padded rows of the queries and keys, without the sums over a row. -/
def bare (q k : ℕ → ℕ → ℝ) : Rows where
  q := padded q
  k := padded k
  v _ _ := 0
  g _ _ := 0
  T _ _ := 0

/-- The padded rows of the queries and keys, with the logarithm of what each row's stick has left at its end. -/
def rowsFwd (q k : ℕ → ℕ → ℝ) : Rows where
  q := padded q
  k := padded k
  v _ _ := 0
  g _ _ := 0
  T h r := ∑ c ∈ range 8448, (bare q k).left h r c

/-- Past a row's own place nothing is taken off the stick. -/
theorem left_off {X : Rows} {r b : ℕ} (h : ℕ) (hb : r ≤ b) : X.left h r b = 0 := by
  unfold Rows.left rowLeft on
  rw [if_neg (by simp; omega)]

/-- A sum that has passed its last term other than zero. -/
theorem sum_stop {R : Type} [AddCommMonoid R] {n n' : ℕ} (f : ℕ → R) (hn : n ≤ n') (h0 : ∀ b, n ≤ b → f b = 0) : ∑ b ∈ range n, f b = ∑ b ∈ range n', f b := by
  obtain ⟨d, rfl⟩ := Nat.exists_eq_add_of_le hn
  rw [sum_range_add, sum_eq_zero (s := range d) fun b _ => h0 _ (by omega), add_zero]

/-- The attention of one lane's head. -/
def mixed (X : Rows) (W : ℕ → ℕ → EReal) (r j : ℕ) : EReal := ∑ b ∈ range 8448, ((X.att (j / 64) r b : ℝ) : EReal) * W b j

/-- Rows of extended reals with zero rows in front and behind. -/
def framed (w : ℕ → ℕ → EReal) (r j : ℕ) : EReal := if 112 ≤ r ∧ r - 112 < 8208 then w (r - 112) j else 0

theorem padRows_has {x : FVec Ideal S8208x512 .f32} {w : ℕ → ℕ → EReal} (hx : Has x w) : Has (padRows x) (framed w) := fun a b => by
  pointwise [padRows]
  unfold framed
  by_cases h : 112 ≤ a.val ∧ a.val - 112 < 8208
  · rw [dif_pos h, if_pos h]
    exact hx _ _
  · rw [dif_neg h, if_neg h]
    exact SB.sitofp_zero

/-- The values' columns of the projection array. -/
theorem proj_v {x y z : FVec Ideal S8208x512 .f32} {w : ℕ → ℕ → EReal} (hz : Has z w) (a : Fin 8448) (b : Fin 3840) (j : ℕ)
    (h : b.val = 3072 + j) (hj : j < 512) : projVec x y z (ix2 a b) = framed w a.val j := by
  pointwise [projVec, zeroCols]
  rw [dif_neg (by omega), dif_neg (by omega), dif_neg (by omega), dif_pos (by omega), padRows_has hz]
  simp only [h]
  congr 1
  omega

/-- An array of the given extended reals. -/
def arrayOf (n0 n1 : ℕ) (f : ℕ → ℕ → EReal) : (⟨2, ![n0, n1]⟩ : Shape).Idx → EReal := fun i => f (i 0).val (i 1).val

/-- An array of the given extended reals at any of its places. -/
theorem Has.at {n0 n1 : ℕ} {x : (⟨2, ![n0, n1]⟩ : Shape).Idx → EReal} {f : ℕ → ℕ → EReal} (h : Has x f)
    (y : (⟨2, ![n0, n1]⟩ : Shape).Idx) : x y = f (y 0).val (y 1).val := by
  have e : y = ix2 (y 0) (y 1) := by
    funext a
    fin_cases a <;> rfl
  rw [e]
  exact h _ _

/-- Blocks of a pair of heads' tile. -/
theorem tileOf_is {x2 : Vec Ideal S256x128 .f32} {x3 x4 : Vec Ideal S8448x128 .f32} {x5 : Vec Ideal S256x256 .bf16} {X : Rows} {W : ℕ → ℕ → EReal} {p i : ℕ}
    (h2 : Is x2 fun a l => X.q (256 * i + a) (128 * p + l)) (h3 : Is x3 fun b l => X.k b (128 * p + l))
    (h4 : Has x4 fun b l => W b (128 * p + l)) (h5 : Is x5 fun a b => if b < a then 1 else 0) :
    PointIs (tileOf x2 x5) x3 x4 X W p i where
  qa a l := by
    show k0_pay12 x2 (ix2 a l) = _
    pointwise [k0_pay12, k0_pay10, k0_pay11]
    rw [lane_word, select_bool, h2, sc_coe, ← EReal.coe_mul, zero_coe, ite_coe]
    rfl
  qb a l := by
    show k0_pay13 x2 (ix2 a l) = _
    pointwise [k0_pay13, k0_pay10, k0_pay11]
    rw [lane_word, select_bool, h2, sc_coe, ← EReal.coe_mul, zero_coe, ite_coe]
    refine congrArg _ ?_
    by_cases h : l.val < 64
    · simp [lane, h]
    · simp [lane, h, Nat.le_of_not_lt h]
  tri a b := by
    show k0_pay14 x5 (ix2 a b) = _
    pointwise [k0_pay14]
    exact h5 a b
  k := h3
  v := h4

section Point

variable (m : (ℓ : Loc nD τ sig) → Buf (Elt Ideal) ℓ) (c : Dev nD) (t : Fin grid0.N)
variable {q k : ℕ → ℕ → ℝ} {w : ℕ → ℕ → EReal}
  (hq : Is (m ((c : Thread nD τ).loc main_arg0)) q) (hk : Is (m ((c : Thread nD τ).loc main_arg1)) k)
  (hv : Has (m ((c : Thread nD τ).loc main_arg2)) w)

include hq in
theorem blk_q (a : Fin 256) (l : Fin 128) : iblk m c 0 t (ix2 a l)
    = ((padded q (256 * (grid0.coords t 1).val + a.val) (128 * (grid0.coords t 0).val + l.val) : ℝ) : EReal) := by
  have hb := bounds t
  have e : iblk m c 0 t (ix2 a l) = V m c main_v5 (ix2 ⟨256 * (grid0.coords t 1).val + a.val, by omega⟩
      ⟨2048 + (128 * (grid0.coords t 0).val + l.val), by omega⟩) := by
    blk_ext [iblk, index0 t]
  rw [e, V_proj, proj_q hq _ _ _ rfl (by omega)]

include hk in
theorem blk_k (a : Fin 8448) (l : Fin 128) : iblk m c 1 t (ix2 a l)
    = ((padded k a.val (128 * (grid0.coords t 0).val + l.val) : ℝ) : EReal) := by
  have hb := bounds t
  have e : iblk m c 1 t (ix2 a l) = V m c main_v5 (ix2 a
      ⟨2560 + (128 * (grid0.coords t 0).val + l.val), by omega⟩) := by
    blk_ext [iblk, index1 t]
  rw [e, V_proj, proj_k hk _ _ _ rfl (by omega)]

include hv in
theorem blk_v (a : Fin 8448) (l : Fin 128) : iblk m c 2 t (ix2 a l)
    = framed w a.val (128 * (grid0.coords t 0).val + l.val) := by
  have hb := bounds t
  have e : iblk m c 2 t (ix2 a l) = V m c main_v5 (ix2 a
      ⟨3072 + (128 * (grid0.coords t 0).val + l.val), by omega⟩) := by
    blk_ext [iblk, index2 t]
  rw [e, V_proj, proj_v hv _ _ _ rfl (by omega)]

theorem blk_tril (a b : Fin 256) : iblk m c 3 t (ix2 a b) = (((if b.val < a.val then 1 else 0 : ℝ)) : EReal) := by
  have read : ∀ G : Vec Ideal S256x256 .bf16, (((cfg0 (F := Ideal)).win 3).blk t).view.read (Elt Ideal) G (ix2 a b) = G (ix2 a b) := by
    intro G
    blk_ext [index3 t]
  have e : iblk m c 3 t (ix2 a b) = V m c main_v7 (ix2 a b) := read (V m c main_v7)
  exact e.trans ((congrFun (V_tril m c) (ix2 a b)).trans (trilVec_is a b))

include hq hk hv in
/-- A grid point's blocks hold a pair of heads' tile. -/
theorem tile_is : PointIs (tileOf (iblk m c 0 t) (iblk m c 3 t)) (iblk m c 1 t) (iblk m c 2 t) (rowsFwd q k) (framed w)
    (grid0.coords t 0).val (grid0.coords t 1).val :=
  tileOf_is (X := rowsFwd q k) (W := framed w) (blk_q m c t hq) (blk_k m c t hk) (blk_v m c t hv) (blk_tril m c t)

include hq hk hv in
/-- What a grid point stores of the first result. -/
theorem stored_is : Has (outOf (outAt m c t)) fun a l =>
    mixed (rowsFwd q k) (framed w) (256 * (grid0.coords t 1).val + a) (128 * (grid0.coords t 0).val + l) := fun a l => by
  have hb := bounds t
  have s := loop_is t (tile_is m c t hq hk hv) fun h r hr => sum_stop (n' := 8448) _ (by omega) fun b hb => left_off h (by omega)
  have stop : ∀ u : Bool, headNo u = l.val / 64 → since (rowsFwd q k) (framed w) u (grid0.coords t 0).val (grid0.coords t 1).val
      a.val l.val 0
      = mixed (rowsFwd q k) (framed w) (256 * (grid0.coords t 1).val + a.val) (128 * (grid0.coords t 0).val + l.val) := fun u hu => by
    unfold since mixed
    rw [Nat.Ico_zero_eq_range, hu, show (128 * (grid0.coords t 0).val + l.val) / 64 = 2 * (grid0.coords t 0).val + l.val / 64 by omega]
    exact sum_stop _ (by omega) fun b hb => by rw [Rows.att_off _ (by omega), EReal.coe_zero, zero_mul]
  unfold outOf outAt loopOut
  pointwise [k0_pay3, k0_pay10]
  rw [lane_word, select_bool, s.oA, s.oB]
  beta_reduce
  by_cases h : l.val < 64
  · rw [if_pos (by simpa using h)]
    exact stop false (by simp [headNo]; omega)
  · rw [if_neg (by simpa using h)]
    exact stop true (by simp [headNo]; omega)

include hq hk hv in
/-- What a grid point stores of the second result. -/
theorem storedRest_is : Is (restOf (outAt m c t)) fun a l =>
    (rowsFwd q k).T ((128 * (grid0.coords t 0).val + l) / 64) (256 * (grid0.coords t 1).val + a) := fun a l => by
  have hb := bounds t
  have s := loop_is t (tile_is m c t hq hk hv) fun h r hr => sum_stop (n' := 8448) _ (by omega) fun b hb => left_off h (by omega)
  unfold restOf outAt loopOut
  pointwise [k0_pay4, k0_pay10]
  rw [lane_word, select_bool, s.cA, s.cB, ite_coe]
  refine congrArg _ ?_
  beta_reduce
  unfold leftTo
  rw [range_zero, sum_empty, sub_zero, sum_empty, sub_zero,
    show (128 * (grid0.coords t 0).val + l.val) / 64 = 2 * (grid0.coords t 0).val + l.val / 64 by omega]
  by_cases h : l.val < 64
  · rw [if_pos (by simpa using h), show l.val / 64 = 0 by omega]
    rfl
  · rw [if_neg (by simpa using h), show l.val / 64 = 1 by omega]
    rfl

end Point

section Final

variable (m : (ℓ : Loc nD τ sig) → Buf (Elt Ideal) ℓ) (c : Dev nD)
variable {q k : ℕ → ℕ → ℝ} {w : ℕ → ℕ → EReal}
  (hq : Is (m ((c : Thread nD τ).loc main_arg0)) q) (hk : Is (m ((c : Thread nD τ).loc main_arg1)) k)
  (hv : Has (m ((c : Thread nD τ).loc main_arg2)) w)

include hq hk hv in
theorem final : (dats m 0 c).arrAt 4 (cfg0 (F := Ideal)).N = arrayOf 8448 512 (mixed (rowsFwd q k) (framed w)) := by
  refine (dats m 0 c).arrAt_eq_of_covers 4 _ (by decide +kernel) fun t hf y => ?_
  blk_simp
  rw [after_4]
  refine ((stored_is m c t hq hk hv).at y).trans ?_
  unfold arrayOf
  blk_simp [index4 t]
  simp only [Nat.mul_comm]

include hq hk hv in
theorem final_rest : (dats m 0 c).arrAt 5 (cfg0 (F := Ideal)).N = SB.arrayOf 8448 512 fun r j => (rowsFwd q k).T (j / 64) r := by
  refine (dats m 0 c).arrAt_eq_of_covers 5 _ (by decide +kernel) fun t hf y => ?_
  blk_simp
  rw [after_5]
  refine ((storedRest_is m c t hq hk hv).at y).trans ?_
  unfold SB.arrayOf
  blk_simp [index5 t]
  simp only [Nat.mul_comm]

end Final

end Cert.Proof.Forward

end
-- ==== Proof.FwdReference.lean ====
/- The reference of the attention's forward call: its results as chains of named arrays, and in real numbers. -/
module

public import proofs.«01_k».proof.Proof.Gen.ReferenceFwdIdeal.Run
public import proofs.«01_k».proof.Proof.ReferenceValue

@[expose] public section

set_option maxRecDepth 16384
set_option maxHeartbeats 4000000

noncomputable section

namespace Cert.Proof.Forward.Ref

open Finset
open Cert.ReferenceFwdIdeal Cert.ReferenceFwdIdeal.Gen
open Idealize.ShloMosaic Idealize.ShloMosaic.StableHlo
open Idealize.ShloMosaic.TcCoe
open Idealize.SL.Sem
open Cert.Proof.SB (Is rowLeft rowAtt sp sum_fin sc sc_coe score slt_nat sp_coe select_bool zero_coe ite_coe window_sum sum_from)
open Cert.Proof.SB.Ref (rowDot before neg_inf_bits sp_neg)

section Over
variable {F : FTy → Type} [FloatOps F]

/-- A number for every head, query and key. -/
abbrev Scores (F : FTy → Type) [FloatOps F] : Type := FVec F S8x8336x8336 .f32

/-- One number everywhere. -/
def all (n : BitVec 32) : Scores F := broadcastInDim S8x8336x8336 ![] bcast_S_S8x8336x8336 (constant S_ .f32 n)

/-- An argument with the zero rows behind it. -/
def longer (x : FVec F S8208x512 .f32) : FVec F S8336x512 .f32 :=
  pad S8336x512 ![0, 0] ![128, 0] ![0, 0] x (sitofp .f32 (constantI S_ 32 0#32)) pads_S8208x512_S8336x512_01280_000 h_S_

/-- Rows head by head. -/
def heads (x : FVec F S8336x512 .f32) : FVec F S8x8336x64 .f32 :=
  transpose S8x8336x64 [1, 0, 2] (shapeCast S8336x8x64 x shapeCasts_S8336x512_S8336x8x64) transposes_S8336x8x64_S8x8336x64_1_0_2

def scores (q k : FVec F S8336x512 .f32) : Scores F :=
  mulf (Host.dotGeneral dot_S8x8336x64_S8x8336x64_S8x8336x8336_2_2_1_1_0_0 none (heads q) (heads k)) (all 0x3E000000#32)

/-- The keys before each query. -/
def earlier : IVec S8x8336x8336 1 :=
  broadcastInDim S8x8336x8336 ![0, 1, 2] bcast_S1x8336x8336_S8x8336x8336_0_1_2
    (broadcastInDim S1x8336x8336 ![1, 2] bcast_S8336x8336_S1x8336x8336_1_2
      (cmpi .slt (iotaInDim S8336x8336 32 1) (iotaInDim S8336x8336 32 0)))

def softplus (x : Scores F) : Scores F :=
  select (cmpf .une (subf x (all 0x00000000#32)) (subf x (all 0x00000000#32))) (addf x (all 0x00000000#32))
    (addf (maximumf x (all 0x00000000#32)) (Host.log1p (Host.exp (Host.negf (Host.absf (subf x (all 0x00000000#32)))))))

def logSigmoid (x : Scores F) : Scores F := Host.negf (softplus (Host.negf x))

/-- A running sum from the last key down. -/
def fromLast (x : Scores F) : Scores F :=
  Host.reduceWindowAdd ![1, 1, 8336] ![1, 1, 1] ![0, 0, 0] ![0, 0, 8335] x
    (broadcastInDim S_ ![] bcast_S_S_ (constant S_ .f32 0x00000000#32))
    reduceWindows_S8x8336x8336_S8x8336x8336_w1s1p0_0_w1s1p0_0_w8336s1p0_8335 h_S_

/-- What each key leaves of the stick. -/
def leaves (z : Scores F) : Scores F := select earlier (logSigmoid (Host.negf z)) (all 0x00000000#32)

def weights (z : Scores F) : Scores F :=
  Host.exp (select earlier (addf (logSigmoid z) (subf (fromLast (leaves z)) (leaves z))) (all 0xFF800000#32))

/-- The heads side by side again, with zero rows in front. -/
def framed (x : FVec F S8x8336x64 .f32) : FVec F S8448x512 .f32 :=
  pad S8448x512 ![112, 0] ![0, 0] ![0, 0]
    (shapeCast S8336x512 (transpose S8336x8x64 [1, 0, 2] x transposes_S8x8336x64_S8336x8x64_1_0_2) shapeCasts_S8336x8x64_S8336x512)
    (sitofp .f32 (constantI S_ 32 0#32)) pads_S8336x512_S8448x512_11200_000 h_S_

def out (q k v : FVec F S8208x512 .f32) : FVec F S8448x512 .f32 :=
  framed (Host.dotGeneral dot_S8x8336x8336_S8x8336x64_S8x8336x64_2_1_1_2_0_0 none (weights (scores (longer q) (longer k))) (heads (longer v)))

theorem out_eq (m : (ℓ : Loc nD τ sig) → Buf (Elt F) ℓ) (c : Dev nD) : Value.res_out0 m c
    = out (m ((c : Thread nD τ).loc main_arg0)) (m ((c : Thread nD τ).loc main_arg1)) (m ((c : Thread nD τ).loc main_arg2)) := by
  unfold Value.res_out0 Value.res_main_v46
  rfl

/-- The logarithms of what each query's stick has left, over every lane of each head. -/
def rest (q k : FVec F S8208x512 .f32) : FVec F S8448x512 .f32 :=
  pad S8448x512 ![112, 0] ![0, 0] ![0, 0]
    (shapeCast S8336x512 (broadcastInDim S8336x8x64 ![0, 1] bcast_S8336x8_S8336x8x64_0_1
      (transpose S8336x8 [1, 0] (Host.reduceAdd (leaves (scores (longer q) (longer k))) (constant S_ .f32 0x00000000#32)
        reducesTo_S8x8336x8336_S8x8336_d2 h_S_) transposes_S8x8336_S8336x8_1_0)) shapeCasts_S8336x8x64_S8336x512)
    (sitofp .f32 (constantI S_ 32 0#32)) pads_S8336x512_S8448x512_11200_000 h_S_

theorem rest_eq (m : (ℓ : Loc nD τ sig) → Buf (Elt F) ℓ) (c : Dev nD) : Value.res_out1 m c
    = rest (m ((c : Thread nD τ).loc main_arg0)) (m ((c : Thread nD τ).loc main_arg1)) := by
  unfold Value.res_out1 Value.res_main_v47
  rfl

end Over

/-- The entries of a three-dimensional array are the given reals. -/
def Is3 (z : Scores Ideal) (f : ℕ → ℕ → ℕ → ℝ) : Prop :=
  ∀ (h : Fin 8) (i j : Fin 8336), z (ix3 h i j) = ((f h.val i.val j.val : ℝ) : EReal)

theorem earlier_is (h : Fin 8) (i j : Fin 8336) : earlier (ix3 h i j) = BitVec.ofBool (before i.val j.val) := by
  pointwise [earlier]
  exact slt_nat (by omega) (by omega)

/-- Rows with zero rows behind. -/
def tailed (f : ℕ → ℕ → ℝ) (i j : ℕ) : ℝ := if i < 8208 then f i j else 0

theorem longer_is {x : FVec Ideal S8208x512 .f32} {f : ℕ → ℕ → ℝ} (hx : Is x f) : Is (longer x) (tailed f) := fun a b => by
  pointwise [longer]
  unfold tailed
  by_cases h : a.val < 8208
  · rw [dif_pos h, if_pos h]
    exact hx _ _
  · rw [dif_neg h, if_neg h]
    exact SB.sitofp_zero

variable {x y u : FVec Ideal S8336x512 .f32} {q k v : ℕ → ℕ → ℝ} (hq : Is x q) (hk : Is y k) (hv : Is u v)

include hq hk in
theorem scores_is : Is3 (scores x y) (score q k) := fun h i j => by
  have e : Host.dotGeneral dot_S8x8336x64_S8x8336x64_S8x8336x8336_2_2_1_1_0_0 none (heads x) (heads y) (ix3 h i j)
      = ((rowDot q k h.val i.val j.val : ℝ) : EReal) := by
    pointwise [heads]
    unfold rowDot
    rw [← sum_fin]
    refine sum_congr rfl fun d _ => ?_
    rw [hq, hk, ← EReal.coe_mul]
    simp only [Nat.mul_comm 64]
  show Host.dotGeneral (F := Ideal) dot_S8x8336x64_S8x8336x64_S8x8336x8336_2_2_1_1_0_0 none (heads x) (heads y) (ix3 h i j)
    * Ideal.ofBits .f32 0x3E000000#32 = _
  rw [e, sc_coe, ← EReal.coe_mul]
  rfl

variable {z : Scores Ideal} {Z : ℕ → ℕ → ℕ → ℝ} (hz : Is3 z Z)

include hz in
theorem neg_is : Is3 (Host.negf z) (fun h i j => -Z h i j) := fun h i j => by
  pointwise
  rw [hz, ← EReal.coe_neg]

include hz in
theorem softplus_is : Is3 (softplus z) (fun h i j => sp (Z h i j)) := fun h i j => by
  pointwise [softplus, all]
  rw [hz, if_neg (by simp)]
  have := sp_coe (Z h.val i.val j.val)
  rw [zero_sub] at this
  exact this

include hz in
theorem logSigmoid_is : Is3 (logSigmoid z) (fun h i j => -sp (-Z h i j)) := neg_is (softplus_is (neg_is hz))

theorem zero_first : (broadcastInDim S_ ![] bcast_S_S_ (constant (F := Ideal) S_ FTy.f32 0#32) (Shape.Idx.first h_S_)) = 0 := by
  show Ideal.ofBits .f32 0x00000000#32 = 0
  simp [Ideal.ofBits, Ideal.ieee]

include hz in
theorem fromLast_is : Is3 (fromLast z) (fun h i j => ∑ c ∈ range 8336, Z h i c - ∑ c ∈ range j, Z h i c) := fun h i j => by
  unfold fromLast Host.reduceWindowAdd
  rw [zero_first]
  refine (window_sum _ _ z _ (Z h.val i.val) h i (fun j => hz h i j) 0 rfl j).trans ?_
  rw [sum_from _ _ _ j.isLt]

include hz in
theorem leaves_is : Is3 (leaves z) (fun h i => rowLeft (before i) (Z h i)) := fun h i j => by
  pointwise [leaves, all]
  rw [earlier_is, select_bool, logSigmoid_is (neg_is hz), zero_coe, ite_coe]
  refine congrArg _ ?_
  beta_reduce
  rw [neg_neg]
  rfl

/-- The logarithm of what is left at the end of a row. -/
def rowTotal (Z : ℕ → ℕ → ℕ → ℝ) (h i : ℕ) : ℝ := ∑ c ∈ range 8336, rowLeft (before i) (Z h i) c

include hz in
theorem weights_is : Is3 (weights z) (fun h i => rowAtt (before i) (Z h i) (rowTotal Z h i)) := fun h i j => by
  have e : (select earlier (addf (logSigmoid z) (subf (fromLast (leaves z)) (leaves z))) (all 0xFF800000#32)) (ix3 h i j)
      = if before i.val j.val then ((Z h.val i.val j.val - sp (Z h.val i.val j.val)
        + (rowTotal Z h.val i.val - ∑ b ∈ range (j.val + 1), rowLeft (before i.val) (Z h.val i.val) b) : ℝ) : EReal) else ⊥ := by
    pointwise [all]
    rw [earlier_is, select_bool, logSigmoid_is hz, fromLast_is (leaves_is hz), leaves_is hz, neg_inf_bits, ← EReal.coe_sub,
      ← EReal.coe_add]
    beta_reduce
    rw [sp_neg, sum_range_succ _ j.val, sub_add_eq_sub_sub]
    rfl
  unfold weights
  show Ideal.exp _ = _
  rw [e]
  beta_reduce
  unfold rowAtt
  by_cases hb : before i.val j.val
  · rw [if_pos hb, if_pos hb]
    rfl
  · rw [if_neg hb, if_neg hb]
    rfl

/-- The attention weights by row of the sequence. -/
def attAt (q k : ℕ → ℕ → ℝ) (h i j : ℕ) : ℝ := rowAtt (before i) (score q k h i) (rowTotal (score q k) h i) j

/-- Rows of extended reals with zero rows behind. -/
def tailedVals (w : ℕ → ℕ → EReal) (i j : ℕ) : EReal := if i < 8208 then w i j else 0

theorem longer_vals {x : FVec Ideal S8208x512 .f32} {w : ℕ → ℕ → EReal} (hx : ∀ i j, x (ix2 i j) = w i.val j.val) (a : Fin 8336) (b : Fin 512) :
    longer x (ix2 a b) = tailedVals w a.val b.val := by
  pointwise [longer]
  unfold tailedVals
  by_cases h : a.val < 8208
  · rw [dif_pos h, if_pos h]
    exact hx _ _
  · rw [dif_neg h, if_neg h]
    exact SB.sitofp_zero

/-- The result for real queries and keys, and values that may be infinite. -/
theorem out_is {x y u : FVec Ideal S8208x512 .f32} {q k : ℕ → ℕ → ℝ} {w : ℕ → ℕ → EReal} (hq : Is x q) (hk : Is y k)
    (hv : ∀ i j, u (ix2 i j) = w i.val j.val) (r : Fin 8448) (l : Fin 512) : out x y u (ix2 r l) = if 112 ≤ r.val then
      ∑ j ∈ range 8336, ((attAt (tailed q) (tailed k) (l.val / 64) (r.val - 112) j : ℝ) : EReal) * tailedVals w j l.val else 0 := by
  pointwise [out, framed, heads]
  by_cases h : 112 ≤ r.val
  · rw [dif_pos ⟨h, by omega⟩, if_pos h, Finset.sum_range]
    refine sum_congr rfl fun j _ => ?_
    rw [weights_is (scores_is (longer_is hq) (longer_is hk)), longer_vals hv]
    rfl
  · rw [dif_neg (fun hh => h hh.1), if_neg h]
    exact SB.sitofp_zero

theorem rest_is {x y : FVec Ideal S8208x512 .f32} {q k : ℕ → ℕ → ℝ} (hq : Is x q) (hk : Is y k) :
    Is (rest x y) (fun r l => if 112 ≤ r then rowTotal (score (tailed q) (tailed k)) (l / 64) (r - 112) else 0) := fun r l => by
  pointwise [rest]
  by_cases h : 112 ≤ r.val
  · rw [dif_pos ⟨h, by omega⟩, if_pos h]
    unfold rowTotal
    rw [← sum_fin]
    refine sum_congr rfl fun j _ => ?_
    exact leaves_is (scores_is (longer_is hq) (longer_is hk)) _ _ j
  · rw [dif_neg (fun hh => h hh.1), if_neg h]
    exact SB.sitofp_zero

end Cert.Proof.Forward.Ref

end
-- ==== Proof.FwdFrames.lean ====
/- The frames of the attention's forward call: the printed program's, its idealization's and the reference's, and the
   idealization's one step. -/
module

public import proofs.«01_k».proof.Proof.FwdRun
public import proofs.«01_k».proof.Proof.FwdPrintedRun
public import proofs.«01_k».proof.Proof.Gen.ReferenceFwdIdeal.Run
public import proofs.«01_k».proof.Defs

@[expose] public section

set_option maxRecDepth 65536
set_option maxHeartbeats 4000000

noncomputable section

namespace Cert.Proof.Forward

open Idealize.ShloMosaic Idealize.SL.Sem

attribute [local instance] Cert.KernelFwd.Gen.facts Cert.KernelFwdIdeal.Gen.facts Cert.ReferenceFwdIdeal.Gen.facts

/-- The kernel on machine floats runs, keeps its arguments and ends with every counter at zero. -/
theorem frame_kernel : Cert.quiescent_KernelFwd := fun m ρ _ =>
  (θ_run Cert.KernelFwd.defs _ _).mono (fun r h => ⟨fun c => (h.1 c).2, h.2⟩) (ForwardPrinted.run_out (F := Bits) m ρ)

/-- The idealized kernel runs, keeps its arguments and ends with every counter at zero. -/
theorem frame_kernelIdeal : Cert.quiescent_KernelFwdIdeal := fun m ρ _ =>
  (θ_run Cert.KernelFwdIdeal.defs _ _).mono (fun r h => ⟨fun c => (h.1 c).2.2, h.2⟩) (run_out (F := Ideal) m ρ)

/-- The idealized reference runs, keeps its arguments and ends with every counter at zero. -/
theorem frame_referenceIdeal : Cert.quiescent_ReferenceFwdIdeal := fun m ρ _ =>
  (θ_run Cert.ReferenceFwdIdeal.defs _ _).mono (fun r h => ⟨fun c => (h c).2.2, sem_eq_zero_of_no_sems (by decide) r.2⟩)
    (Cert.ReferenceFwdIdeal.Value.run (F := Ideal) m ρ)

/-- The idealization's one step: the threshold is named. -/
theorem preserves : Cert.preserves_KernelFwd_KernelFwdIdeal := IdealRules.named_const.statement _ _ _ _ _ rfl

end Cert.Proof.Forward

end
-- ==== Proof.FwdValues.lean ====
/- The attention's forward call and its reference end with the same first two results. -/
module

public import proofs.«01_k».proof.Pre_finite_fwd
public import proofs.«01_k».proof.Proof.FwdPoint
public import proofs.«01_k».proof.Proof.FwdReference
public import proofs.«01_k».proof.Proof.FwdFrames
public import proofs.«01_k».proof.Proof.Values

@[expose] public section

set_option maxRecDepth 65536
set_option maxHeartbeats 4000000

noncomputable section

namespace Cert.Proof.Forward

open Finset
open Idealize.ShloMosaic Idealize.SL.Sem
open Cert.Proof.SB (Is Rows Stretch on score padded rowLeft rowAtt left_front on_front entries entries_is and_bits ofBool_eq_one
  top_bits)
open Cert.Proof.SB.Ref (before)
open Ref (tailed tailedVals rowTotal attAt)

/-! ### The padded rows against the reference's -/

section Match

variable {q k : ℕ → ℕ → ℝ} {w : ℕ → ℕ → EReal} {h i b r j : ℕ}

/-- The padded rows from the sequence's first on. -/
theorem padded_tail (f : ℕ → ℕ → ℝ) : padded f (112 + i) j = tailed f i j := by
  unfold padded tailed
  rw [Nat.add_sub_cancel_left]
  by_cases hi : i < 8208
  · rw [if_pos ⟨by omega, hi⟩, if_pos hi]
  · rw [if_neg fun h => hi h.2, if_neg hi]

theorem framed_tail : framed w (112 + i) j = tailedVals w i j := by
  unfold framed tailedVals
  rw [Nat.add_sub_cancel_left]
  by_cases hi : i < 8208
  · rw [if_pos ⟨by omega, hi⟩, if_pos hi]
  · rw [if_neg fun h => hi h.2, if_neg hi]

theorem zz_eq : (rowsFwd q k).zz h (112 + i) (112 + b) = score (tailed q) (tailed k) h i b := by
  unfold Rows.zz score rowsFwd
  rw [sum_mul]
  refine sum_congr rfl fun d _ => ?_
  dsimp only
  rw [padded_tail, padded_tail]
  ring

/-- The reference's row is a stretch of the padded one. -/
theorem stretch (hi : i < 8336) : Stretch (on (112 + i)) ((rowsFwd q k).zz h (112 + i)) (fun _ => 0)
    (before i) (score (tailed q) (tailed k) h i) (fun _ => 0) 112 8448 where
  mask b := by
    unfold before on
    by_cases hb : b < i
    · simp [hb]; omega
    · simp [hb]
  score _ _ := zz_eq.symm
  grad _ _ := rfl

theorem T_eq (hi : i < 8336) : (rowsFwd q k).T h (112 + i) = rowTotal (score (tailed q) (tailed k)) h i := by
  have s := (stretch (q := q) (k := k) (h := h) hi).sum_left_all (by omega) (n := 8336) (by omega)
  rw [left_front, zero_add] at s
  exact s.symm

theorem att_eq (hi : i < 8336) (hb : b < 8336) : (rowsFwd q k).att h (112 + i) (112 + b) = attAt (tailed q) (tailed k) h i b := by
  have s := (stretch (q := q) (k := k) (h := h) hi).att (C := (rowsFwd q k).T h (112 + i)) (by omega) b
  rw [left_front, sub_zero, if_pos (by omega)] at s
  unfold Rows.att attAt
  rw [← s, T_eq hi]

theorem att_front {X : Rows} (hb : b < 112) : X.att h r b = 0 := by
  unfold Rows.att rowAtt
  rw [on_front hb, if_neg (by simp)]

theorem mixed_eq (hr : r < 8448) : mixed (rowsFwd q k) (framed w) r j = if 112 ≤ r then
    ∑ b ∈ range 8336, ((attAt (tailed q) (tailed k) (j / 64) (r - 112) b : ℝ) : EReal) * tailedVals w b j else 0 := by
  unfold mixed
  by_cases h : 112 ≤ r
  · obtain ⟨i, rfl⟩ := Nat.exists_eq_add_of_le h
    rw [if_pos h, Nat.add_sub_cancel_left, sum_range_add _ 112 8336, sum_eq_zero (s := range 112) fun b hb => by
      rw [att_front (mem_range.1 hb), EReal.coe_zero, zero_mul], zero_add]
    refine sum_congr rfl fun b hb => ?_
    rw [att_eq (by omega) (mem_range.1 hb), framed_tail]
  · rw [if_neg h]
    refine sum_eq_zero fun b _ => ?_
    by_cases hb : b < 112
    · rw [att_front hb, EReal.coe_zero, zero_mul]
    · rw [Rows.att_off _ (by omega), EReal.coe_zero, zero_mul]

/-- The reference's result in the kernel's terms. -/
theorem out_has {x y u : FVec Ideal Cert.ReferenceFwdIdeal.S8208x512 .f32} (hq : Is x q) (hk : Is y k) (hv : Has u w) :
    Has (n0 := 8448) (n1 := 512) (Ref.out x y u) (mixed (rowsFwd q k) (framed w)) :=
  fun a b => (Ref.out_is hq hk hv a b).trans (mixed_eq a.isLt).symm

/-- What is left of a row's stick. -/
theorem T_all (hr : r < 8448) : (rowsFwd q k).T h r
    = if 112 ≤ r then rowTotal (score (tailed q) (tailed k)) h (r - 112) else 0 := by
  by_cases hh : 112 ≤ r
  · obtain ⟨i, rfl⟩ := Nat.exists_eq_add_of_le hh
    rw [if_pos hh, Nat.add_sub_cancel_left, T_eq (by omega)]
  · rw [if_neg hh]
    unfold Rows.T
    refine sum_eq_zero fun b _ => ?_
    by_cases hb : b < 112
    · unfold Rows.left rowLeft
      rw [on_front hb, if_neg (by simp)]
    · exact left_off h (by omega)

end Match

/-! ### The precondition -/

theorem pre_facts : Cert.Pre_finite_fwd.Facts := ⟨by decide⟩

attribute [local instance] Cert.KernelFwd.Gen.facts Cert.KernelFwdIdeal.Gen.facts Cert.ReferenceFwdIdeal.Gen.facts pre_facts

open Cert.Pre_finite_fwd in
theorem pre_real {x y u : FVec Ideal S8208x512 .f32} (h : fn (F := Ideal) x y u = fun _ => 1#1) :
    Is x (entries x) ∧ Is y (entries y) := by
  have e : ∀ i j, max (x (ix2 i j)) (-x (ix2 i j)) < ⊤ ∧ max (y (ix2 i j)) (-y (ix2 i j)) < ⊤ := fun i j => by
    have := congrFun h (ix2 i j)
    revert this
    pointwise [fn]
    rw [and_bits, top_bits, ofBool_eq_one]
    simp only [Bool.and_eq_true, decide_eq_true_eq]
    exact id
  exact ⟨entries_is fun i j => (e i j).1, entries_is fun i j => (e i j).2⟩

/-- The entries of an array by row and column. -/
def allEntries (x : FVec Ideal Cert.Pre_finite_fwd.S8208x512 .f32) (i j : ℕ) : EReal :=
  if h : i < 8208 ∧ j < 512 then x (ix2 ⟨i, h.1⟩ ⟨j, h.2⟩) else 0

theorem allEntries_has (x : FVec Ideal Cert.Pre_finite_fwd.S8208x512 .f32) : Has x (allEntries x) := fun i j => by
  unfold allEntries
  rw [dif_pos ⟨i.isLt, j.isLt⟩]

theorem frame_kernelIdeal_finite : Cert.quiescent_KernelFwdIdeal_pre_finite_fwd := fun m ρ _ => frame_kernelIdeal m ρ trivial

theorem frame_referenceIdeal_finite : Cert.quiescent_ReferenceFwdIdeal_pre_finite_fwd := fun m ρ _ =>
  frame_referenceIdeal m ρ trivial

/-- On finite queries and keys the kernel's first two results are the reference's. -/
theorem values : Cert.algebraic_KernelFwdIdeal_ReferenceFwdIdeal_pre_finite_fwd := fun m g m' g' hp ha => by
  refine ⟨_, _, (θ_run Cert.KernelFwdIdeal.defs _ _).mono (fun r h => h.1) (run_out (F := Ideal) m g),
    (θ_run Cert.ReferenceFwdIdeal.defs _ _).mono (fun r h c => ?_) (Cert.ReferenceFwdIdeal.Value.run (F := Ideal) m' g')⟩
  obtain ⟨h0, h1, hr⟩ := h c
  obtain ⟨e0, e1, e2⟩ := ha c
  obtain ⟨hq, hk⟩ := pre_real (hp c)
  have hv := allEntries_has (m ((c.tc : Thread Cert.KernelFwdIdeal.nD Cert.KernelFwdIdeal.τ).loc Cert.KernelFwdIdeal.main_arg2))
  refine ⟨h0.trans ?_, h1.trans ?_, hr⟩
  · refine (Ref.out_eq m' c).trans ?_
    rw [e0, e1, e2, final m c hq hk hv]
    funext y
    exact (out_has hq hk hv).at y
  · refine (Ref.rest_eq m' c).trans ?_
    rw [e0, e1, final_rest m c hq hk hv]
    exact ((Ref.rest_is hq hk).eq_arrayOf fun i j hi _ => T_all hi).symm

end Cert.Proof.Forward

end
-- ==== Proof.lean ====
/- The claims about the backward and the forward pass of the stick-breaking attention, about the products of the step and about the gradients of its norms, put together. -/
module

public import proofs.«01_k».proof.Proof.Values
public import proofs.«01_k».proof.Proof.DwUp
public import proofs.«01_k».proof.Proof.Dn2
public import proofs.«01_k».proof.Proof.DwDown
public import proofs.«01_k».proof.Proof.Dact
public import proofs.«01_k».proof.Proof.DwOut
public import proofs.«01_k».proof.Proof.Dy
public import proofs.«01_k».proof.Proof.DwInGdn
public import proofs.«01_k».proof.Proof.DwInRest
public import proofs.«01_k».proof.Proof.Du
public import proofs.«01_k».proof.Proof.Up
public import proofs.«01_k».proof.Proof.Down
public import proofs.«01_k».proof.Proof.Out
public import proofs.«01_k».proof.Proof.In
public import proofs.«01_k».proof.Proof.Prenorm
public import proofs.«01_k».proof.Proof.Resid
public import proofs.«01_k».proof.Proof.FwdValues
public import proofs.«01_k».proof.Proof.Gen.KernelFwd
public import proofs.«01_k».proof.Proof.Gen.KernelFwd.Launch
public import proofs.«01_k».proof.Proof.Gen.KernelFwd.Skeleton
public import proofs.«01_k».proof.Proof.Gen.KernelFwd.Points
public import proofs.«01_k».proof.Proof.Gen.KernelFwdIdeal
public import proofs.«01_k».proof.Proof.Gen.KernelFwdIdeal.Skeleton
public import proofs.«01_k».proof.Proof.Gen.KernelFwdIdeal.Launch
public import proofs.«01_k».proof.Proof.Gen.KernelFwdIdeal.Points
public import proofs.«01_k».proof.Proof.Gen.ReferenceFwdIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelDwUp.Gen.facts, Cert.KernelDwUpIdeal.Gen.facts, Cert.ReferenceDwUpIdeal.Gen.facts,
  Cert.KernelDn2.Gen.facts, Cert.KernelDn2Ideal.Gen.facts, Cert.ReferenceDn2Ideal.Gen.facts,
  Cert.KernelDwDown.Gen.facts, Cert.KernelDwDownIdeal.Gen.facts, Cert.ReferenceDwDownIdeal.Gen.facts,
  Cert.KernelDact.Gen.facts, Cert.KernelDactIdeal.Gen.facts, Cert.ReferenceDactIdeal.Gen.facts,
  Cert.KernelDwOut.Gen.facts, Cert.KernelDwOutIdeal.Gen.facts, Cert.ReferenceDwOutIdeal.Gen.facts,
  Cert.KernelDy.Gen.facts, Cert.KernelDyIdeal.Gen.facts, Cert.ReferenceDyIdeal.Gen.facts,
  Cert.KernelDwInGdn.Gen.facts, Cert.KernelDwInGdnIdeal.Gen.facts, Cert.ReferenceDwInGdnIdeal.Gen.facts,
  Cert.KernelDwInRest.Gen.facts, Cert.KernelDwInRestIdeal.Gen.facts, Cert.ReferenceDwInRestIdeal.Gen.facts,
  Cert.KernelDu.Gen.facts, Cert.KernelDuIdeal.Gen.facts, Cert.ReferenceDuIdeal.Gen.facts,
  Cert.KernelUp.Gen.facts, Cert.KernelUpIdeal.Gen.facts, Cert.ReferenceUpIdeal.Gen.facts,
  Cert.KernelDown.Gen.facts, Cert.KernelDownIdeal.Gen.facts, Cert.ReferenceDownIdeal.Gen.facts,
  Cert.KernelOut.Gen.facts, Cert.KernelOutIdeal.Gen.facts, Cert.ReferenceOutIdeal.Gen.facts,
  Cert.KernelIn.Gen.facts, Cert.KernelInIdeal.Gen.facts, Cert.ReferenceInIdeal.Gen.facts,
  Cert.KernelResid.Gen.facts, Cert.KernelResidIdeal.Gen.facts, Cert.ReferenceResidIdeal.Gen.facts,
  Cert.KernelPrenorm.Gen.facts, Cert.KernelPrenormIdeal.Gen.facts, Cert.ReferencePrenormIdeal.Gen.facts,
  Cert.KernelFwd.Gen.facts, Cert.KernelFwdIdeal.Gen.facts, Cert.ReferenceFwdIdeal.Gen.facts,
  SB.pre_facts, Forward.pre_facts,
  SB.frame_kernel, SB.frame_kernelIdeal, SB.frame_kernelIdeal_finite, SB.frame_referenceIdeal,
  SB.frame_referenceIdeal_finite,
  Products.DwUp.frame, Products.DwUp.frame_ideal, Products.DwUp.frame_reference,
  Products.Dn2.frame, Products.Dn2.frame_ideal, Products.Dn2.frame_reference,
  Products.DwDown.frame, Products.DwDown.frame_ideal, Products.DwDown.frame_reference,
  Products.Dact.frame, Products.Dact.frame_ideal, Products.Dact.frame_reference,
  Products.DwOut.frame, Products.DwOut.frame_ideal, Products.DwOut.frame_reference,
  Products.Dy.frame, Products.Dy.frame_ideal, Products.Dy.frame_reference,
  Products.DwInGdn.frame, Products.DwInGdn.frame_ideal, Products.DwInGdn.frame_reference,
  Products.DwInRest.frame, Products.DwInRest.frame_ideal, Products.DwInRest.frame_reference,
  Products.Du.frame, Products.Du.frame_ideal, Products.Du.frame_reference,
  Products.Up.frame, Products.Up.frame_ideal, Products.Up.frame_reference,
  Products.Down.frame, Products.Down.frame_ideal, Products.Down.frame_reference,
  Products.Out.frame, Products.Out.frame_ideal, Products.Out.frame_reference,
  Products.In.frame, Products.In.frame_ideal, Products.In.frame_reference,
  Norms.Resid.frame, Norms.Resid.frame_ideal, Norms.Resid.frame_reference,
  Norms.Prenorm.frame, Norms.Prenorm.frame_ideal, Norms.Prenorm.frame_reference,
  Forward.frame_kernel, Forward.frame_kernelIdeal, Forward.frame_kernelIdeal_finite, Forward.frame_referenceIdeal,
  Forward.frame_referenceIdeal_finite,
  trivial, SB.values,
  trivial, Products.DwUp.values,
  trivial, Products.Dn2.values,
  trivial, Products.DwDown.values,
  trivial, Products.Dact.values,
  trivial, Products.DwOut.values,
  trivial, Products.Dy.values,
  trivial, Products.DwInGdn.values,
  trivial, Products.DwInRest.values,
  trivial, Products.Du.values,
  trivial, Products.Up.values,
  trivial, Products.Down.values,
  trivial, Products.Out.values,
  trivial, Products.In.values,
  trivial, Norms.Resid.values,
  trivial, Norms.Prenorm.values,
  Forward.preserves, Forward.values⟩

end Cert.Proof

end
